-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_ffn [hPre_finite_ffn : Cert.Pre_finite_ffn.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_ffn [hPre_finite_ffn : Cert.Pre_finite_ffn.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_ffn [hKernel4Ideal : Cert.Kernel4Ideal.Facts] [hPre_finite_ffn : Cert.Pre_finite_ffn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_ffn m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_ffn [hReference4Ideal : Cert.Reference4Ideal.Facts] [hPre_finite_ffn : Cert.Pre_finite_ffn.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_ffn m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v46_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v46_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite_ffn [hKernel4Ideal : Cert.Kernel4Ideal.Facts] [hReference4Ideal : Cert.Reference4Ideal.Facts] [hPre_finite_ffn : Cert.Pre_finite_ffn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_ffn m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_v11) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v5) = v1 c
          ∧ r.2.mem ((c.tc : Thread Cert.Reference9Ideal.nD Cert.Reference9Ideal.τ).loc Cert.Reference9Ideal.main_v7) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v39) = v0 c
          ∧ r.2.mem ((c.tc : Thread Cert.Reference16Ideal.nD Cert.Reference16Ideal.τ).loc Cert.Reference16Ideal.main_v40) = v1 c
          ∧ r.2.mem ((c.tc : Thread Cert.Reference16Ideal.nD Cert.Reference16Ideal.τ).loc Cert.Reference16Ideal.main_v22) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v39) = v0 c
          ∧ r.2.mem ((c.tc : Thread Cert.Reference17Ideal.nD Cert.Reference17Ideal.τ).loc Cert.Reference17Ideal.main_v40) = v1 c
          ∧ r.2.mem ((c.tc : Thread Cert.Reference17Ideal.nD Cert.Reference17Ideal.τ).loc Cert.Reference17Ideal.main_v22) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v16) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_v16) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v18) = v0 c
          ∧ r.2.mem ((c.tc : Thread Cert.Reference20Ideal.nD Cert.Reference20Ideal.τ).loc Cert.Reference20Ideal.main_v21) = v1 c
          ∧ r.2.mem ((c.tc : Thread Cert.Reference20Ideal.nD Cert.Reference20Ideal.τ).loc Cert.Reference20Ideal.main_v29) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_ffn (hKernel4Ideal := hKernel4Ideal) (hPre_finite_ffn := hPre_finite_ffn)
    ∧ quiescent_Reference4Ideal (hReference4Ideal := hReference4Ideal)
    ∧ quiescent_Reference4Ideal_pre_finite_ffn (hReference4Ideal := hReference4Ideal) (hPre_finite_ffn := hPre_finite_ffn)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_ffn (hKernel4Ideal := hKernel4Ideal) (hReference4Ideal := hReference4Ideal) (hPre_finite_ffn := hPre_finite_ffn)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S2x2048x8x64 : Shape := ⟨4, ![2, 2048, 8, 64]⟩
abbrev S2x2048x8 : Shape := ⟨3, ![2, 2048, 8]⟩
abbrev S2x2048x512 : Shape := ⟨3, ![2, 2048, 512]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x8 : S_.BroadcastsInDim S2x2048x8 (![] : Fin 0 → Fin S2x2048x8.rank)
  reducesTo_S2x2048x8_S_d0_1_2 : S2x2048x8.ReducesTo [0, 1, 2] S_
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn_part1 {F : FTy → Type} [FloatOps F] (main_arg4 : FVec F S2x2048x512 .f32) (main_v13 : IVec S_ 1) (main_v16 : IVec S2x2048x8 1) : IVec S_ 1 :=
  let main_c_5 : IVec S_ 1 := constantI S_ 1 1#1
  let main_v17 : IVec S_ 1 := (fun x v => Host.reduce IntOp.andi x v reducesTo_S2x2048x8_S_d0_1_2 h_S_) main_v16 main_c_5
  let main_v18 : IVec S_ 1 := andi main_v13 main_v17
  let main_v19 : FVec F S2x2048x512 .f32 := Host.absf main_arg4
  let main_cst_6 : FVec F S_ .f32 := constant S_ .f32 0x7F800000#32
  let main_v20 : FVec F S2x2048x512 .f32 := broadcastInDim S2x2048x512 ![] bcast_S_S2x2048x512 main_cst_6
  let main_v21 : IVec S2x2048x512 1 := cmpf .olt main_v19 main_v20
  let main_c_7 : IVec S_ 1 := constantI S_ 1 1#1
  let main_v22 : IVec S_ 1 := (fun x v => Host.reduce IntOp.andi x v reducesTo_S2x2048x512_S_d0_1_2 h_S_) main_v21 main_c_7
  let main_v23 : IVec S_ 1 := andi main_v18 main_v22
  main_v23

def fn {F : FTy → Type} [FloatOps F] (main_arg0 : FVec F S2x2048x8x64 .f32) (main_arg1 : FVec F S2x2048x8x64 .f32) (main_arg2 : FVec F S2x2048x8x64 .f32) (main_arg3 : FVec F S2x2048x8 .f32) (main_arg4 : FVec F S2x2048x512 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x8x64 .f32 := Host.absf main_arg1
  let main_cst_0 : FVec F S_ .f32 := constant S_ .f32 0x7F800000#32
  let main_v5 : FVec F S2x2048x8x64 .f32 := broadcastInDim S2x2048x8x64 ![] bcast_S_S2x2048x8x64 main_cst_0
  let main_v6 : IVec S2x2048x8x64 1 := cmpf .olt main_v4 main_v5
  let main_c_1 : IVec S_ 1 := constantI S_ 1 1#1
  let main_v7 : IVec S_ 1 := (fun x v => Host.reduce IntOp.andi x v reducesTo_S2x2048x8x64_S_d0_1_2_3 h_S_) main_v6 main_c_1
  let main_v8 : IVec S_ 1 := andi main_v3 main_v7
  let main_v9 : FVec F S2x2048x8x64 .f32 := Host.absf main_arg2
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  let main_c_3 : IVec S_ 1 := constantI S_ 1 1#1
  let main_v12 : IVec S_ 1 := (fun x v => Host.reduce IntOp.andi x v reducesTo_S2x2048x8x64_S_d0_1_2_3 h_S_) main_v11 main_c_3
  let main_v13 : IVec S_ 1 := andi main_v8 main_v12
  let main_v14 : FVec F S2x2048x8 .f32 := Host.absf main_arg3
  let main_cst_4 : FVec F S_ .f32 := constant S_ .f32 0x7F800000#32
  let main_v15 : FVec F S2x2048x8 .f32 := broadcastInDim S2x2048x8 ![] bcast_S_S2x2048x8 main_cst_4
  let main_v16 : IVec S2x2048x8 1 := cmpf .olt main_v14 main_v15
  fn_part1 (F := F) main_arg4 main_v13 main_v16
-- ==== Pre_finite_ffn.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .bf16) (main_arg1 : FVec F S2816x1024 .bf16) (main_arg2 : FVec F S4096x2816 .bf16) (main_arg3 : FVec F S4096x2816 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x2816 .f32 := (extf .f32 · bitsLt_bf16_f32) main_arg3
  let main_v12 : FVec F S4096x2816 .f32 := Host.absf main_v11
  let main_cst_2 : FVec F S_ .f32 := constant S_ .f32 0x7F800000#32
  let main_v13 : FVec F S4096x2816 .f32 := broadcastInDim S4096x2816 ![] bcast_S_S4096x2816 main_cst_2
  let main_v14 : IVec S4096x2816 1 := cmpf .olt main_v12 main_v13
  let main_c_3 : IVec S_ 1 := constantI S_ 1 1#1
  let main_v15 : IVec S_ 1 := (fun x v => Host.reduce IntOp.andi x v reducesTo_S4096x2816_S_d0_1 h_S_) main_v14 main_c_3
  let main_v16 : IVec S_ 1 := andi main_v10 main_v15
  main_v16
-- ==== Kernel.lean ====
abbrev S2x2048x8x64 : Shape := ⟨4, ![2, 2048, 8, 64]⟩
abbrev S2x2048x8 : Shape := ⟨3, ![2, 2048, 8]⟩
abbrev S2x2048x512 : Shape := ⟨3, ![2, 2048, 512]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x1x2048 : Shape := ⟨4, ![2, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S2x8x64x2048 : Shape := ⟨4, ![2, 8, 64, 2048]⟩
abbrev S2x2048x4x128 : Shape := ⟨4, ![2, 2048, 4, 128]⟩
abbrev S2x2048x4x256 : Shape := ⟨4, ![2, 2048, 4, 256]⟩
abbrev S2x2048x1024 : Shape := ⟨3, ![2, 2048, 1024]⟩
abbrev S2x2048x1536 : Shape := ⟨3, ![2, 2048, 1536]⟩
abbrev S2x8x4x1x512 : Shape := ⟨5, ![2, 8, 4, 1, 512]⟩
abbrev S2x4x2048x2 : Shape := ⟨4, ![2, 4, 2048, 2]⟩
abbrev S1x512x128 : Shape := ⟨3, ![1, 512, 128]⟩
abbrev S1x2048x256 : Shape := ⟨3, ![1, 2048, 256]⟩
abbrev S1x2x4x1x512 : Shape := ⟨5, ![1, 2, 4, 1, 512]⟩
abbrev S1x1x512x2 : Shape := ⟨4, ![1, 1, 512, 2]⟩
abbrev S2048x128 : Shape := ⟨2, ![2048, 128]⟩
abbrev S512x128 : Shape := ⟨2, ![512, 128]⟩
abbrev S1024x128 : Shape := ⟨2, ![1024, 128]⟩
abbrev S1024 : Shape := ⟨1, ![1024]⟩
abbrev S1024x1 : Shape := ⟨2, ![1024, 1]⟩
abbrev S512x1 : Shape := ⟨2, ![512, 1]⟩
abbrev S1024x512 : Shape := ⟨2, ![1024, 512]⟩
abbrev S1x1x1x1x512 : Shape := ⟨5, ![1, 1, 1, 1, 512]⟩
abbrev S1x512 : Shape := ⟨2, ![1, 512]⟩
abbrev S512x512 : Shape := ⟨2, ![512, 512]⟩
abbrev S512 : Shape := ⟨1, ![512]⟩
abbrev S512x2 : Shape := ⟨2, ![512, 2]⟩
abbrev S1x2048x128 : Shape := ⟨3, ![1, 2048, 128]⟩

abbrev nBuf : Space → Nat
  | .hbm => 62
  | .vmem => 24
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x8x64, .f32⟩
  | .hbm, ⟨3, _⟩ => ⟨S2x2048x8, .f32⟩
  | .hbm, ⟨4, _⟩ => ⟨S2x2048x512, .f32⟩
  | .hbm, ⟨5, _⟩ => ⟨S2x8x2048x2048, .f32⟩
  | .hbm, ⟨6, _⟩ => ⟨S_, .f32⟩
  | .hbm, ⟨7, _⟩ => ⟨S2x8x2048x2048, .f32⟩
  | .hbm, ⟨8, _⟩ => ⟨S2x8x2048x2048, .f32⟩
  | .hbm, ⟨9, _⟩ => ⟨S2x8x2048, .f32⟩
  | .hbm, ⟨10, _⟩ => ⟨S2x8x2048x1, .f32⟩
  | .hbm, ⟨11, _⟩ => ⟨S2x8x2048x2048, .f32⟩
  | .hbm, ⟨12, _⟩ => ⟨S2x8x2048x2048, .f32⟩
  | .hbm, ⟨13, _⟩ => ⟨S2x8x1x2048, .f32⟩
  | .hbm, ⟨14, _⟩ => ⟨S2x8x2048x2048, .f32⟩
  | .hbm, ⟨15, _⟩ => ⟨S2x8x2048x2048, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x1x2048x2048, .i1⟩
  | .hbm, ⟨24, _⟩ => ⟨S_, .f32⟩
  | .hbm, ⟨25, _⟩ => ⟨S_, .f32⟩
  | .hbm, ⟨26, _⟩ => ⟨S2x8x2048x2048, .i1⟩
  | .hbm, ⟨27, _⟩ => ⟨S2x8x2048x2048, .f32⟩
  | .hbm, ⟨28, _⟩ => ⟨S2x8x2048x2048, .f32⟩
  | .hbm, ⟨29, _⟩ => ⟨S_, .f32⟩
  | .hbm, ⟨30, _⟩ => ⟨S2x8x2048, .f32⟩
  | .hbm, ⟨31, _⟩ => ⟨S2x8x2048x1, .f32⟩
  | .hbm, ⟨32, _⟩ => ⟨S2x8x2048x2048, .f32⟩
  | .hbm, ⟨33, _⟩ => ⟨S2x8x2048x2048, .f32⟩
  | .hbm, ⟨34, _⟩ => ⟨S2x8x2048x2048, .f32⟩
  | .hbm, ⟨35, _⟩ => ⟨S_, .f32⟩
  | .hbm, ⟨36, _⟩ => ⟨S2x8x2048, .f32⟩
  | .hbm, ⟨37, _⟩ => ⟨S2x8x2048x1, .f32⟩
  | .hbm, ⟨38, _⟩ => ⟨S2x8x2048x2048, .f32⟩
  | .hbm, ⟨39, _⟩ => ⟨S2x8x2048x2048, .f32⟩
  | .hbm, ⟨40, _⟩ => ⟨S2x8x64x2048, .f32⟩
  | .hbm, ⟨41, _⟩ => ⟨S2x2048x8x64, .f32⟩
  | .hbm, ⟨42, _⟩ => ⟨S2x2048x512, .f32⟩
  | .hbm, ⟨43, _⟩ => ⟨S2x8x2048, .f32⟩
  | .hbm, ⟨44, _⟩ => ⟨S2x8x2048, .f32⟩
  | .hbm, ⟨45, _⟩ => ⟨S2x2048x8, .f32⟩
  | .hbm, ⟨46, _⟩ => ⟨S2x2048x8x64, .f32⟩
  | .hbm, ⟨47, _⟩ => ⟨S2x2048x512, .f32⟩
  | .hbm, ⟨48, _⟩ => ⟨S2x2048x4x128, .f32⟩
  | .hbm, ⟨49, _⟩ => ⟨S2x2048x4x128, .f32⟩
  | .hbm, ⟨50, _⟩ => ⟨S2x2048x4x256, .f32⟩
  | .hbm, ⟨51, _⟩ => ⟨S2x2048x512, .f32⟩
  | .hbm, ⟨52, _⟩ => ⟨S2x2048x1024, .f32⟩
  | .hbm, ⟨53, _⟩ => ⟨S2x2048x1536, .f32⟩
  | .hbm, ⟨54, _⟩ => ⟨S2x2048x1536, .bf16⟩
  | .hbm, ⟨55, _⟩ => ⟨S2x2048x8x64, .f32⟩
  | .hbm, ⟨56, _⟩ => ⟨S2x2048x512, .f32⟩
  | .hbm, ⟨57, _⟩ => ⟨S2x8x4x1x512, .f32⟩
  | .hbm, ⟨58, _⟩ => ⟨S2x2048x512, .bf16⟩
  | .hbm, ⟨59, _⟩ => ⟨S2x2048x1024, .bf16⟩
  | .hbm, ⟨60, _⟩ => ⟨S2x4x2048x2, .f32⟩
  | .hbm, ⟨61, _⟩ => ⟨S2x8x4x1x512, .f32⟩
  | .local _ .vmem, ⟨0, _⟩ => ⟨S1x512x128, .bf16⟩
  | .local _ .vmem, ⟨1, _⟩ => ⟨S1x512x128, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x512x128, .f32⟩
  | .local _ .vmem, ⟨5, _⟩ => ⟨S1x512x128, .f32⟩
  | .local _ .vmem, ⟨6, _⟩ => ⟨S1x2x4x1x512, .f32⟩
  | .local _ .vmem, ⟨7, _⟩ => ⟨S1x2x4x1x512, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .bf16⟩
  | .local _ .vmem, ⟨15, _⟩ => ⟨S1x512x128, .bf16⟩
  | .local _ .vmem, ⟨16, _⟩ => ⟨S1x2048x256, .bf16⟩
  | .local _ .vmem, ⟨17, _⟩ => ⟨S1x2048x256, .bf16⟩
  | .local _ .vmem, ⟨18, _⟩ => ⟨S1x1x512x2, .f32⟩
  | .local _ .vmem, ⟨19, _⟩ => ⟨S1x1x512x2, .f32⟩
  | .local _ .vmem, ⟨20, _⟩ => ⟨S1x2x4x1x512, .f32⟩
  | .local _ .vmem, ⟨21, _⟩ => ⟨S1x2x4x1x512, .f32⟩
  | .local _ .vmem, ⟨22, _⟩ => ⟨S2048x128, .f32⟩
  | .local _ .vmem, ⟨23, _⟩ => ⟨S2048x128, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46_0 : Ref sig .tc := ⟨.hbm, 58, rfl⟩
abbrev main_v46_1 : Ref sig .tc := ⟨.hbm, 59, rfl⟩
abbrev main_v46_2 : Ref sig .tc := ⟨.hbm, 60, rfl⟩
abbrev main_v46_3 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 4], ![false, false, false]⟩

@[reducible] def k0_t1_loop (i : grid0.Coords) : Scf.Loop 32 :=
  let c0_i32_46 : BitVec 32 := 0#32
  let arg2 : BitVec 32 := BitVec.ofNat 32 (i 2).val
  let v127 : BitVec 32 := Scalar.subi arg2 c0_i32_46
  let c1_i32_47 : BitVec 32 := 1#32
  let v129 : BitVec 32 := Scalar.divsi v127 c1_i32_47
  let v130 : BitVec 32 := Scalar.muli v129 c1_i32_47
  let v131 : BitVec 32 := Scalar.addi c0_i32_46 v130
  let c1_i32_48 : BitVec 32 := 1#32
  ⟨c0_i32_46, v131, c1_i32_48⟩
def k0_mult1 (i : grid0.Coords) (k0_t1 : Fin (k0_t1_loop i).trips) : BitVec 32 :=
  let c0_i32_46 : BitVec 32 := 0#32
  let c1_i32_48 : BitVec 32 := 1#32
  let arg16 : BitVec 32 := Scf.iv c0_i32_46 c1_i32_48 k0_t1
  let c512_i32_110 : BitVec 32 := 512#32
  let v274 : BitVec 32 := Scalar.muli arg16 c512_i32_110
  v274
def k0_off1 (i : grid0.Coords) (k0_t1 : Fin (k0_t1_loop i).trips) : Fin 3 → Nat :=
  let c0_111 : Index := 0#32
  let c0_i32_46 : BitVec 32 := 0#32
  let c1_i32_48 : BitVec 32 := 1#32
  let arg16 : BitVec 32 := Scf.iv c0_i32_46 c1_i32_48 k0_t1
  let c512_i32_110 : BitVec 32 := 512#32
  let v274 : BitVec 32 := Scalar.muli arg16 c512_i32_110
  let v275 : BitVec 32 := v274
  let v276 : Index := Scalar.indexCast v275
  let c0_112 : Index := 0#32
  ![0, v276.toNat, 0]
def k0_off2 (i : grid0.Coords) (k0_t1 : Fin (k0_t1_loop i).trips) : Fin 5 → Nat :=
  let c0_115 : Index := 0#32
  let c0_116 : Index := 0#32
  let c0_i32_46 : BitVec 32 := 0#32
  let c1_i32_48 : BitVec 32 := 1#32
  let arg16 : BitVec 32 := Scf.iv c0_i32_46 c1_i32_48 k0_t1
  let v283 : Index := Scalar.indexCast arg16
  let c0_117 : Index := 0#32
  let c0_118 : Index := 0#32
  ![0, 0, v283.toNat, 0, 0]
def k0_off3 (i : grid0.Coords) (k0_t1 : Fin (k0_t1_loop i).trips) : Fin 5 → Nat :=
  let c0_119 : Index := 0#32
  let c1_120 : Index := 1#32
  let c0_i32_46 : BitVec 32 := 0#32
  let c1_i32_48 : BitVec 32 := 1#32
  let arg16 : BitVec 32 := Scf.iv c0_i32_46 c1_i32_48 k0_t1
  let v286 : Index := Scalar.indexCast arg16
  let c0_121 : Index := 0#32
  let c0_122 : Index := 0#32
  ![0, 1, v286.toNat, 0, 0]
def k0_off4 (i : grid0.Coords) (k0_t1 : Fin (k0_t1_loop i).trips) : Fin 3 → Nat :=
  let c0_123 : Index := 0#32
  let c0_i32_46 : BitVec 32 := 0#32
  let c1_i32_48 : BitVec 32 := 1#32
  let arg16 : BitVec 32 := Scf.iv c0_i32_46 c1_i32_48 k0_t1
  let c512_i32_110 : BitVec 32 := 512#32
  let v274 : BitVec 32 := Scalar.muli arg16 c512_i32_110
  let v275 : BitVec 32 := v274
  let v300 : Index := Scalar.indexCast v275
  let c128_124 : Index := 128#32
  ![0, v300.toNat, 128]
def k0_off5 (i : grid0.Coords) (k0_t1 : Fin (k0_t1_loop i).trips) : Fin 2 → Nat :=
  let c0_i32_46 : BitVec 32 := 0#32
  let c1_i32_48 : BitVec 32 := 1#32
  let arg16 : BitVec 32 := Scf.iv c0_i32_46 c1_i32_48 k0_t1
  let c512_i32_110 : BitVec 32 := 512#32
  let v274 : BitVec 32 := Scalar.muli arg16 c512_i32_110
  let v275 : BitVec 32 := v274
  let v308 : Index := Scalar.indexCast v275
  let c0_126 : Index := 0#32
  ![v308.toNat, 0]
@[reducible] def k0_t2_loop (i : grid0.Coords) : Scf.Loop 32 :=
  let c0_i32_46 : BitVec 32 := 0#32
  let arg2 : BitVec 32 := BitVec.ofNat 32 (i 2).val
  let v127 : BitVec 32 := Scalar.subi arg2 c0_i32_46
  let c1_i32_47 : BitVec 32 := 1#32
  let v129 : BitVec 32 := Scalar.divsi v127 c1_i32_47
  let v130 : BitVec 32 := Scalar.muli v129 c1_i32_47
  let v131 : BitVec 32 := Scalar.addi c0_i32_46 v130
  let v128 : BitVec 32 := Scalar.addi c0_i32_46 v127
  let c1_i32_49 : BitVec 32 := 1#32
  ⟨v131, v128, c1_i32_49⟩
def k0_mult2 (i : grid0.Coords) (k0_t2 : Fin (k0_t2_loop i).trips) : BitVec 32 :=
  let c0_i32_46 : BitVec 32 := 0#32
  let arg2 : BitVec 32 := BitVec.ofNat 32 (i 2).val
  let v127 : BitVec 32 := Scalar.subi arg2 c0_i32_46
  let c1_i32_47 : BitVec 32 := 1#32
  let v129 : BitVec 32 := Scalar.divsi v127 c1_i32_47
  let v130 : BitVec 32 := Scalar.muli v129 c1_i32_47
  let v131 : BitVec 32 := Scalar.addi c0_i32_46 v130
  let c1_i32_49 : BitVec 32 := 1#32
  let arg16 : BitVec 32 := Scf.iv v131 c1_i32_49 k0_t2
  let c512_i32_110 : BitVec 32 := 512#32
  let v274 : BitVec 32 := Scalar.muli arg16 c512_i32_110
  v274
def k0_off6 (i : grid0.Coords) (k0_t2 : Fin (k0_t2_loop i).trips) : Fin 3 → Nat :=
  let c0_111 : Index := 0#32
  let c0_i32_46 : BitVec 32 := 0#32
  let arg2 : BitVec 32 := BitVec.ofNat 32 (i 2).val
  let v127 : BitVec 32 := Scalar.subi arg2 c0_i32_46
  let c1_i32_47 : BitVec 32 := 1#32
  let v129 : BitVec 32 := Scalar.divsi v127 c1_i32_47
  let v130 : BitVec 32 := Scalar.muli v129 c1_i32_47
  let v131 : BitVec 32 := Scalar.addi c0_i32_46 v130
  let c1_i32_49 : BitVec 32 := 1#32
  let arg16 : BitVec 32 := Scf.iv v131 c1_i32_49 k0_t2
  let c512_i32_110 : BitVec 32 := 512#32
  let v274 : BitVec 32 := Scalar.muli arg16 c512_i32_110
  let v275 : BitVec 32 := v274
  let v276 : Index := Scalar.indexCast v275
  let c0_112 : Index := 0#32
  ![0, v276.toNat, 0]
def k0_off7 (i : grid0.Coords) (k0_t2 : Fin (k0_t2_loop i).trips) : Fin 5 → Nat :=
  let c0_115 : Index := 0#32
  let c0_116 : Index := 0#32
  let c0_i32_46 : BitVec 32 := 0#32
  let arg2 : BitVec 32 := BitVec.ofNat 32 (i 2).val
  let v127 : BitVec 32 := Scalar.subi arg2 c0_i32_46
  let c1_i32_47 : BitVec 32 := 1#32
  let v129 : BitVec 32 := Scalar.divsi v127 c1_i32_47
  let v130 : BitVec 32 := Scalar.muli v129 c1_i32_47
  let v131 : BitVec 32 := Scalar.addi c0_i32_46 v130
  let c1_i32_49 : BitVec 32 := 1#32
  let arg16 : BitVec 32 := Scf.iv v131 c1_i32_49 k0_t2
  let v283 : Index := Scalar.indexCast arg16
  let c0_117 : Index := 0#32
  let c0_118 : Index := 0#32
  ![0, 0, v283.toNat, 0, 0]
def k0_off8 (i : grid0.Coords) (k0_t2 : Fin (k0_t2_loop i).trips) : Fin 5 → Nat :=
  let c0_119 : Index := 0#32
  let c1_120 : Index := 1#32
  let c0_i32_46 : BitVec 32 := 0#32
  let arg2 : BitVec 32 := BitVec.ofNat 32 (i 2).val
  let v127 : BitVec 32 := Scalar.subi arg2 c0_i32_46
  let c1_i32_47 : BitVec 32 := 1#32
  let v129 : BitVec 32 := Scalar.divsi v127 c1_i32_47
  let v130 : BitVec 32 := Scalar.muli v129 c1_i32_47
  let v131 : BitVec 32 := Scalar.addi c0_i32_46 v130
  let c1_i32_49 : BitVec 32 := 1#32
  let arg16 : BitVec 32 := Scf.iv v131 c1_i32_49 k0_t2
  let v286 : Index := Scalar.indexCast arg16
  let c0_121 : Index := 0#32
  let c0_122 : Index := 0#32
  ![0, 1, v286.toNat, 0, 0]
def k0_off9 (i : grid0.Coords) (k0_t2 : Fin (k0_t2_loop i).trips) : Fin 3 → Nat :=
  let c0_123 : Index := 0#32
  let c0_i32_46 : BitVec 32 := 0#32
  let arg2 : BitVec 32 := BitVec.ofNat 32 (i 2).val
  let v127 : BitVec 32 := Scalar.subi arg2 c0_i32_46
  let c1_i32_47 : BitVec 32 := 1#32
  let v129 : BitVec 32 := Scalar.divsi v127 c1_i32_47
  let v130 : BitVec 32 := Scalar.muli v129 c1_i32_47
  let v131 : BitVec 32 := Scalar.addi c0_i32_46 v130
  let c1_i32_49 : BitVec 32 := 1#32
  let arg16 : BitVec 32 := Scf.iv v131 c1_i32_49 k0_t2
  let c512_i32_110 : BitVec 32 := 512#32
  let v274 : BitVec 32 := Scalar.muli arg16 c512_i32_110
  let v275 : BitVec 32 := v274
  let v300 : Index := Scalar.indexCast v275
  let c128_124 : Index := 128#32
  ![0, v300.toNat, 128]
def k0_off10 (i : grid0.Coords) (k0_t2 : Fin (k0_t2_loop i).trips) : Fin 2 → Nat :=
  let c0_i32_46 : BitVec 32 := 0#32
  let arg2 : BitVec 32 := BitVec.ofNat 32 (i 2).val
  let v127 : BitVec 32 := Scalar.subi arg2 c0_i32_46
  let c1_i32_47 : BitVec 32 := 1#32
  let v129 : BitVec 32 := Scalar.divsi v127 c1_i32_47
  let v130 : BitVec 32 := Scalar.muli v129 c1_i32_47
  let v131 : BitVec 32 := Scalar.addi c0_i32_46 v130
  let c1_i32_49 : BitVec 32 := 1#32
  let arg16 : BitVec 32 := Scf.iv v131 c1_i32_49 k0_t2
  let c512_i32_110 : BitVec 32 := 512#32
  let v274 : BitVec 32 := Scalar.muli arg16 c512_i32_110
  let v275 : BitVec 32 := v274
  let v308 : Index := Scalar.indexCast v275
  let c0_126 : Index := 0#32
  ![v308.toNat, 0]
def k0_mult3 (i : grid0.Coords) : BitVec 32 :=
  let arg2 : BitVec 32 := BitVec.ofNat 32 (i 2).val
  let c512_i32 : BitVec 32 := 512#32
  let v134 : BitVec 32 := Scalar.muli arg2 c512_i32
  v134
def k0_off11 (i : grid0.Coords) : Fin 3 → Nat :=
  let c0_50 : Index := 0#32
  let arg2 : BitVec 32 := BitVec.ofNat 32 (i 2).val
  let c512_i32 : BitVec 32 := 512#32
  let v134 : BitVec 32 := Scalar.muli arg2 c512_i32
  let v135 : BitVec 32 := v134
  let v136 : Index := Scalar.indexCast v135
  let c0_51 : Index := 0#32
  ![0, v136.toNat, 0]
def k0_off12 (i : grid0.Coords) : Fin 5 → Nat :=
  let c0_54 : Index := 0#32
  let c0_55 : Index := 0#32
  let arg2 : BitVec 32 := BitVec.ofNat 32 (i 2).val
  let v143 : Index := Scalar.indexCast arg2
  let c0_56 : Index := 0#32
  let c0_57 : Index := 0#32
  ![0, 0, v143.toNat, 0, 0]
def k0_off13 (i : grid0.Coords) : Fin 5 → Nat :=
  let c0_58 : Index := 0#32
  let c1 : Index := 1#32
  let arg2 : BitVec 32 := BitVec.ofNat 32 (i 2).val
  let v146 : Index := Scalar.indexCast arg2
  let c0_59 : Index := 0#32
  let c0_60 : Index := 0#32
  ![0, 1, v146.toNat, 0, 0]
def k0_off14 (i : grid0.Coords) : Fin 3 → Nat :=
  let c0_64 : Index := 0#32
  let arg2 : BitVec 32 := BitVec.ofNat 32 (i 2).val
  let c512_i32 : BitVec 32 := 512#32
  let v134 : BitVec 32 := Scalar.muli arg2 c512_i32
  let v135 : BitVec 32 := v134
  let v170 : Index := Scalar.indexCast v135
  let c128 : Index := 128#32
  ![0, v170.toNat, 128]
def k0_off15 (i : grid0.Coords) : Fin 2 → Nat :=
  let arg2 : BitVec 32 := BitVec.ofNat 32 (i 2).val
  let c512_i32 : BitVec 32 := 512#32
  let v134 : BitVec 32 := Scalar.muli arg2 c512_i32
  let v135 : BitVec 32 := v134
  let v178 : Index := Scalar.indexCast v135
  let c0_66 : Index := 0#32
  ![v178.toNat, 0]
def k0_cond2 (i : grid0.Coords) : BitVec 1 :=
  let arg2 : BitVec 32 := BitVec.ofNat 32 (i 2).val
  let c3_i32 : BitVec 32 := 3#32
  let v271 : BitVec 1 := Scalar.cmpi .eq arg2 c3_i32
  let v272 : BitVec 32 := Scalar.extui v271
  let c0_i32_109 : BitVec 32 := 0#32
  let v273 : BitVec 1 := Scalar.cmpi .ne v272 c0_i32_109
  v273

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2x4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x512x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x2x4x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S2x2048x8x64 : Shape := ⟨4, ![2, 2048, 8, 64]⟩
abbrev S2x2048x8 : Shape := ⟨3, ![2, 2048, 8]⟩
abbrev S2x2048x512 : Shape := ⟨3, ![2, 2048, 512]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x1x2048 : Shape := ⟨4, ![2, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S2x8x2048x64 : Shape := ⟨4, ![2, 8, 2048, 64]⟩
abbrev S2x8x64x2048 : Shape := ⟨4, ![2, 8, 64, 2048]⟩
abbrev S2x2048x4x128 : Shape := ⟨4, ![2, 2048, 4, 128]⟩
abbrev S2x2048x4x256 : Shape := ⟨4, ![2, 2048, 4, 256]⟩
abbrev S2x2048x1024 : Shape := ⟨3, ![2, 2048, 1024]⟩
abbrev S2x2048x4x2 : Shape := ⟨4, ![2, 2048, 4, 2]⟩
abbrev S2x4x2048x2 : Shape := ⟨4, ![2, 4, 2048, 2]⟩
abbrev S2x8x4x1x512 : Shape := ⟨5, ![2, 8, 4, 1, 512]⟩

abbrev nBuf : Space → Nat
  | .hbm => 126
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x8x64, .f32⟩
  | .hbm, ⟨3, _⟩ => ⟨S2x2048x8, .f32⟩
  | .hbm, ⟨4, _⟩ => ⟨S2x2048x512, .f32⟩
  | .hbm, ⟨5, _⟩ => ⟨S2x8x2048x2048, .f32⟩
  | .hbm, ⟨6, _⟩ => ⟨S_, .f32⟩
  | .hbm, ⟨7, _⟩ => ⟨S2x8x2048x2048, .f32⟩
  | .hbm, ⟨8, _⟩ => ⟨S2x8x2048x2048, .f32⟩
  | .hbm, ⟨9, _⟩ => ⟨S2x8x2048, .f32⟩
  | .hbm, ⟨10, _⟩ => ⟨S2x8x2048x1, .f32⟩
  | .hbm, ⟨11, _⟩ => ⟨S2x8x2048x2048, .f32⟩
  | .hbm, ⟨12, _⟩ => ⟨S2x8x2048x2048, .f32⟩
  | .hbm, ⟨13, _⟩ => ⟨S2x8x2048, .f32⟩
  | .hbm, ⟨14, _⟩ => ⟨S2x8x1x2048, .f32⟩
  | .hbm, ⟨15, _⟩ => ⟨S2x8x2048x2048, .f32⟩
  | .hbm, ⟨16, _⟩ => ⟨S2x8x2048x2048, .f32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S1x1x2048x2048, .i1⟩
  | .hbm, ⟨25, _⟩ => ⟨S_, .f32⟩
  | .hbm, ⟨26, _⟩ => ⟨S_, .f32⟩
  | .hbm, ⟨27, _⟩ => ⟨S2x8x2048x2048, .i1⟩
  | .hbm, ⟨28, _⟩ => ⟨S2x8x2048x2048, .f32⟩
  | .hbm, ⟨29, _⟩ => ⟨S2x8x2048x2048, .f32⟩
  | .hbm, ⟨30, _⟩ => ⟨S_, .f32⟩
  | .hbm, ⟨31, _⟩ => ⟨S2x8x2048x2048, .f32⟩
  | .hbm, ⟨32, _⟩ => ⟨S_, .f32⟩
  | .hbm, ⟨33, _⟩ => ⟨S2x8x2048, .f32⟩
  | .hbm, ⟨34, _⟩ => ⟨S2x8x2048x1, .f32⟩
  | .hbm, ⟨35, _⟩ => ⟨S2x8x2048x2048, .f32⟩
  | .hbm, ⟨36, _⟩ => ⟨S2x8x2048x2048, .i1⟩
  | .hbm, ⟨37, _⟩ => ⟨S2x8x2048x2048, .f32⟩
  | .hbm, ⟨38, _⟩ => ⟨S_, .f32⟩
  | .hbm, ⟨39, _⟩ => ⟨S2x8x2048, .f32⟩
  | .hbm, ⟨40, _⟩ => ⟨S_, .f32⟩
  | .hbm, ⟨41, _⟩ => ⟨S2x8x2048, .f32⟩
  | .hbm, ⟨42, _⟩ => ⟨S2x8x2048, .f32⟩
  | .hbm, ⟨43, _⟩ => ⟨S_, .f32⟩
  | .hbm, ⟨44, _⟩ => ⟨S2x8x2048, .f32⟩
  | .hbm, ⟨45, _⟩ => ⟨S2x8x2048, .i1⟩
  | .hbm, ⟨46, _⟩ => ⟨S_, .f32⟩
  | .hbm, ⟨47, _⟩ => ⟨S2x8x2048, .f32⟩
  | .hbm, ⟨48, _⟩ => ⟨S2x8x2048, .i1⟩
  | .hbm, ⟨49, _⟩ => ⟨S_, .f32⟩
  | .hbm, ⟨50, _⟩ => ⟨S2x8x2048, .f32⟩
  | .hbm, ⟨51, _⟩ => ⟨S_, .f32⟩
  | .hbm, ⟨52, _⟩ => ⟨S2x8x2048, .f32⟩
  | .hbm, ⟨53, _⟩ => ⟨S_, .f32⟩
  | .hbm, ⟨54, _⟩ => ⟨S2x8x2048, .f32⟩
  | .hbm, ⟨55, _⟩ => ⟨S2x8x2048, .f32⟩
  | .hbm, ⟨56, _⟩ => ⟨S2x8x2048, .f32⟩
  | .hbm, ⟨57, _⟩ => ⟨S2x8x2048x1, .f32⟩
  | .hbm, ⟨58, _⟩ => ⟨S2x8x2048x2048, .f32⟩
  | .hbm, ⟨59, _⟩ => ⟨S2x8x2048x2048, .f32⟩
  | .hbm, ⟨60, _⟩ => ⟨S2x8x2048x2048, .f32⟩
  | .hbm, ⟨61, _⟩ => ⟨S_, .f32⟩
  | .hbm, ⟨62, _⟩ => ⟨S2x8x2048, .f32⟩
  | .hbm, ⟨63, _⟩ => ⟨S2x8x2048x1, .f32⟩
  | .hbm, ⟨64, _⟩ => ⟨S2x8x2048x2048, .f32⟩
  | .hbm, ⟨65, _⟩ => ⟨S2x8x2048x2048, .f32⟩
  | .hbm, ⟨66, _⟩ => ⟨S2x8x2048x1, .f32⟩
  | .hbm, ⟨67, _⟩ => ⟨S_, .f32⟩
  | .hbm, ⟨68, _⟩ => ⟨S2x8x2048x1, .f32⟩
  | .hbm, ⟨69, _⟩ => ⟨S2x8x2048x1, .f32⟩
  | .hbm, ⟨70, _⟩ => ⟨S2x8x2048x64, .f32⟩
  | .hbm, ⟨71, _⟩ => ⟨S2x2048x8x64, .f32⟩
  | .hbm, ⟨72, _⟩ => ⟨S2x2048x512, .f32⟩
  | .hbm, ⟨73, _⟩ => ⟨S2x2048x8x64, .f32⟩
  | .hbm, ⟨74, _⟩ => ⟨S2x8x2048x64, .f32⟩
  | .hbm, ⟨75, _⟩ => ⟨S2x8x64x2048, .f32⟩
  | .hbm, ⟨76, _⟩ => ⟨S2x2048x8x64, .f32⟩
  | .hbm, ⟨77, _⟩ => ⟨S2x8x2048x2048, .f32⟩
  | .hbm, ⟨78, _⟩ => ⟨S2x8x2048x2048, .f32⟩
  | .hbm, ⟨79, _⟩ => ⟨S2x8x2048x2048, .f32⟩
  | .hbm, ⟨80, _⟩ => ⟨S2x8x2048x2048, .f32⟩
  | .hbm, ⟨81, _⟩ => ⟨S_, .f32⟩
  | .hbm, ⟨82, _⟩ => ⟨S2x8x2048, .f32⟩
  | .hbm, ⟨83, _⟩ => ⟨S2x8x2048x1, .f32⟩
  | .hbm, ⟨84, _⟩ => ⟨S2x8x2048x1, .f32⟩
  | .hbm, ⟨85, _⟩ => ⟨S2x8x2048x2048, .f32⟩
  | .hbm, ⟨86, _⟩ => ⟨S2x8x2048x2048, .f32⟩
  | .hbm, ⟨87, _⟩ => ⟨S_, .f32⟩
  | .hbm, ⟨88, _⟩ => ⟨S2x8x2048, .f32⟩
  | .hbm, ⟨89, _⟩ => ⟨S2x8x2048x2048, .f32⟩
  | .hbm, ⟨90, _⟩ => ⟨S2x8x2048x2048, .f32⟩
  | .hbm, ⟨91, _⟩ => ⟨S2x8x2048x2048, .f32⟩
  | .hbm, ⟨92, _⟩ => ⟨S_, .f32⟩
  | .hbm, ⟨93, _⟩ => ⟨S2x8x2048x2048, .f32⟩
  | .hbm, ⟨94, _⟩ => ⟨S2x8x2048x2048, .f32⟩
  | .hbm, ⟨95, _⟩ => ⟨S2x8x2048x2048, .f32⟩
  | .hbm, ⟨96, _⟩ => ⟨S_, .f32⟩
  | .hbm, ⟨97, _⟩ => ⟨S2x8x2048, .f32⟩
  | .hbm, ⟨98, _⟩ => ⟨S2x8x1x2048, .f32⟩
  | .hbm, ⟨99, _⟩ => ⟨S_, .f32⟩
  | .hbm, ⟨100, _⟩ => ⟨S2x8x2048, .f32⟩
  | .hbm, ⟨101, _⟩ => ⟨S2x2048x8, .f32⟩
  | .hbm, ⟨102, _⟩ => ⟨S_, .f32⟩
  | .hbm, ⟨103, _⟩ => ⟨S2x8x2048, .f32⟩
  | .hbm, ⟨104, _⟩ => ⟨S2x8x2048x1, .f32⟩
  | .hbm, ⟨105, _⟩ => ⟨S_, .f32⟩
  | .hbm, ⟨106, _⟩ => ⟨S2x8x2048, .f32⟩
  | .hbm, ⟨107, _⟩ => ⟨S2x2048x8, .f32⟩
  | .hbm, ⟨108, _⟩ => ⟨S_, .f32⟩
  | .hbm, ⟨109, _⟩ => ⟨S2x8x2048x2048, .f32⟩
  | .hbm, ⟨110, _⟩ => ⟨S2x8x2048x2048, .f32⟩
  | .hbm, ⟨111, _⟩ => ⟨S2x8x2048x64, .f32⟩
  | .hbm, ⟨112, _⟩ => ⟨S2x2048x8x64, .f32⟩
  | .hbm, ⟨113, _⟩ => ⟨S2x8x2048x64, .f32⟩
  | .hbm, ⟨114, _⟩ => ⟨S2x2048x8x64, .f32⟩
  | .hbm, ⟨115, _⟩ => ⟨S2x2048x4x128, .f32⟩
  | .hbm, ⟨116, _⟩ => ⟨S2x2048x4x128, .f32⟩
  | .hbm, ⟨117, _⟩ => ⟨S2x2048x4x256, .f32⟩
  | .hbm, ⟨118, _⟩ => ⟨S2x2048x512, .f32⟩
  | .hbm, ⟨119, _⟩ => ⟨S2x2048x512, .bf16⟩
  | .hbm, ⟨120, _⟩ => ⟨S2x2048x1024, .f32⟩
  | .hbm, ⟨121, _⟩ => ⟨S2x2048x1024, .bf16⟩
  | .hbm, ⟨122, _⟩ => ⟨S2x2048x4x2, .f32⟩
  | .hbm, ⟨123, _⟩ => ⟨S2x4x2048x2, .f32⟩
  | .hbm, ⟨124, _⟩ => ⟨S2x8x2048, .f32⟩
  | .hbm, ⟨125, _⟩ => ⟨S2x8x4x1x512, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_cst : Ref sig .tc := ⟨.hbm, 92, rfl⟩
abbrev main_call1_v0 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩

abbrev nD : Nat := 1
abbrev τ : Topo := Topo.v7x

variable {F : FTy → Type} [FloatOps F]

def κ : String → Option EReal := fun
  | "mask" => some ⊥
  | _ => none
-- ==== Kernel2.lean ====
abbrev S4096x1024 : Shape := ⟨2, ![4096, 1024]⟩
abbrev S4096x5632 : Shape := ⟨2, ![4096, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S1024x2816 : Shape := ⟨2, ![1024, 2816]⟩
abbrev S4096x5632 : Shape := ⟨2, ![4096, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S1024x2816, .bf16⟩
  | .hbm, ⟨5, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S1024x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x5632, .bf16⟩
  | .local _ .vmem, ⟨8, _⟩ => ⟨S256x5632, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩
abbrev S4096x5632 : Shape := ⟨2, ![4096, 5632]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S2816x1024, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x5632, .f32⟩
  | .hbm, ⟨31, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel5.lean ====
abbrev S4096x1024 : Shape := ⟨2, ![4096, 1024]⟩
abbrev S4x1024x1408 : Shape := ⟨3, ![4, 1024, 1408]⟩
abbrev S4096x2816 : Shape := ⟨2, ![4096, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .bf16⟩
  | .hbm, ⟨10, _⟩ => ⟨S4096x2816, .bf16⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel6.lean ====
abbrev S4096x2560 : Shape := ⟨2, ![4096, 2560]⟩
abbrev S4096x1024 : Shape := ⟨2, ![4096, 1024]⟩
abbrev S2560x1024 : Shape := ⟨2, ![2560, 1024]⟩
abbrev S4096x640 : Shape := ⟨2, ![4096, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2560, .bf16⟩
  | .hbm, ⟨1, _⟩ => ⟨S4096x1024, .bf16⟩
  | .hbm, ⟨2, _⟩ => ⟨S2560x1024, .f32⟩
  | .local _ .vmem, ⟨0, _⟩ => ⟨S4096x640, .bf16⟩
  | .local _ .vmem, ⟨1, _⟩ => ⟨S4096x640, .bf16⟩
  | .local _ .vmem, ⟨2, _⟩ => ⟨S4096x1024, .bf16⟩
  | .local _ .vmem, ⟨3, _⟩ => ⟨S640x1024, .f32⟩
  | .local _ .vmem, ⟨4, _⟩ => ⟨S640x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2560 : Shape := ⟨2, ![4096, 2560]⟩
abbrev S4096x1024 : Shape := ⟨2, ![4096, 1024]⟩
abbrev S_ : Shape := ⟨0, ![]⟩
abbrev S1024x2560 : Shape := ⟨2, ![1024, 2560]⟩
abbrev S2560x1024 : Shape := ⟨2, ![2560, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4096x1024, .bf16⟩
  | .hbm, ⟨2, _⟩ => ⟨S_, .f32⟩
  | .hbm, ⟨3, _⟩ => ⟨S1024x2560, .f32⟩
  | .hbm, ⟨4, _⟩ => ⟨S4096x1024, .f32⟩
  | .hbm, ⟨5, _⟩ => ⟨S4096x2560, .f32⟩
  | .hbm, ⟨6, _⟩ => ⟨S4096x2560, .f32⟩
  | .hbm, ⟨7, _⟩ => ⟨S2560x1024, .f32⟩
  | .hbm, ⟨8, _⟩ => ⟨S1024x2560, .f32⟩
  | .hbm, ⟨9, _⟩ => ⟨S2560x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x2560 : Shape := ⟨2, ![4096, 2560]⟩
abbrev S4096x512 : Shape := ⟨2, ![4096, 512]⟩
abbrev S4096x1024 : Shape := ⟨2, ![4096, 1024]⟩
abbrev S4096x128 : Shape := ⟨2, ![4096, 128]⟩
abbrev S2560x1024 : Shape := ⟨2, ![2560, 1024]⟩
abbrev S512x1024 : Shape := ⟨2, ![512, 1024]⟩
abbrev S1024x1024 : Shape := ⟨2, ![1024, 1024]⟩
abbrev S128x1024 : Shape := ⟨2, ![128, 1024]⟩
abbrev S512x2560 : Shape := ⟨2, ![512, 2560]⟩
abbrev S512x512 : Shape := ⟨2, ![512, 512]⟩
abbrev S512x128 : Shape := ⟨2, ![512, 128]⟩

abbrev nBuf : Space → Nat
  | .hbm => 9
  | .vmem => 14
  | .smem => 0
  | _ => 0

abbrev bufTy : (tb : Table) → Fin (tcTables nBuf tb) → BufTy
  | .hbm, ⟨0, _⟩ => ⟨S4096x2560, .bf16⟩
  | .hbm, ⟨1, _⟩ => ⟨S4096x512, .bf16⟩
  | .hbm, ⟨2, _⟩ => ⟨S4096x1024, .bf16⟩
  | .hbm, ⟨3, _⟩ => ⟨S4096x128, .bf16⟩
  | .hbm, ⟨4, _⟩ => ⟨S2560x1024, .bf16⟩
  | .hbm, ⟨5, _⟩ => ⟨S512x1024, .bf16⟩
  | .hbm, ⟨6, _⟩ => ⟨S1024x1024, .bf16⟩
  | .hbm, ⟨7, _⟩ => ⟨S128x1024, .bf16⟩
  | .hbm, ⟨8, _⟩ => ⟨S4096x1024, .f32⟩
  | .local _ .vmem, ⟨0, _⟩ => ⟨S512x2560, .bf16⟩
  | .local _ .vmem, ⟨1, _⟩ => ⟨S512x2560, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x128, .bf16⟩
  | .local _ .vmem, ⟨7, _⟩ => ⟨S512x128, .bf16⟩
  | .local _ .vmem, ⟨8, _⟩ => ⟨S2560x1024, .bf16⟩
  | .local _ .vmem, ⟨9, _⟩ => ⟨S512x1024, .bf16⟩
  | .local _ .vmem, ⟨10, _⟩ => ⟨S1024x1024, .bf16⟩
  | .local _ .vmem, ⟨11, _⟩ => ⟨S128x1024, .bf16⟩
  | .local _ .vmem, ⟨12, _⟩ => ⟨S512x1024, .f32⟩
  | .local _ .vmem, ⟨13, _⟩ => ⟨S512x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S4096x2560 : Shape := ⟨2, ![4096, 2560]⟩
abbrev S4096x512 : Shape := ⟨2, ![4096, 512]⟩
abbrev S4096x1024 : Shape := ⟨2, ![4096, 1024]⟩
abbrev S4096x128 : Shape := ⟨2, ![4096, 128]⟩
abbrev S2560x1024 : Shape := ⟨2, ![2560, 1024]⟩
abbrev S512x1024 : Shape := ⟨2, ![512, 1024]⟩
abbrev S1024x1024 : Shape := ⟨2, ![1024, 1024]⟩
abbrev S128x1024 : Shape := ⟨2, ![128, 1024]⟩
abbrev S1024x2560 : Shape := ⟨2, ![1024, 2560]⟩
abbrev S1024x512 : Shape := ⟨2, ![1024, 512]⟩
abbrev S1024x128 : Shape := ⟨2, ![1024, 128]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4096x512, .bf16⟩
  | .hbm, ⟨2, _⟩ => ⟨S4096x1024, .bf16⟩
  | .hbm, ⟨3, _⟩ => ⟨S4096x128, .bf16⟩
  | .hbm, ⟨4, _⟩ => ⟨S2560x1024, .bf16⟩
  | .hbm, ⟨5, _⟩ => ⟨S512x1024, .bf16⟩
  | .hbm, ⟨6, _⟩ => ⟨S1024x1024, .bf16⟩
  | .hbm, ⟨7, _⟩ => ⟨S128x1024, .bf16⟩
  | .hbm, ⟨8, _⟩ => ⟨S2560x1024, .f32⟩
  | .hbm, ⟨9, _⟩ => ⟨S1024x2560, .f32⟩
  | .hbm, ⟨10, _⟩ => ⟨S512x1024, .f32⟩
  | .hbm, ⟨11, _⟩ => ⟨S1024x512, .f32⟩
  | .hbm, ⟨12, _⟩ => ⟨S1024x1024, .f32⟩
  | .hbm, ⟨13, _⟩ => ⟨S1024x1024, .f32⟩
  | .hbm, ⟨14, _⟩ => ⟨S128x1024, .f32⟩
  | .hbm, ⟨15, _⟩ => ⟨S1024x128, .f32⟩
  | .hbm, ⟨16, _⟩ => ⟨S_, .f32⟩
  | .hbm, ⟨17, _⟩ => ⟨S4096x1024, .f32⟩
  | .hbm, ⟨18, _⟩ => ⟨S4096x2560, .f32⟩
  | .hbm, ⟨19, _⟩ => ⟨S4096x512, .f32⟩
  | .hbm, ⟨20, _⟩ => ⟨S4096x1024, .f32⟩
  | .hbm, ⟨21, _⟩ => ⟨S4096x128, .f32⟩
  | .hbm, ⟨22, _⟩ => ⟨S4096x2560, .f32⟩
  | .hbm, ⟨23, _⟩ => ⟨S4096x512, .f32⟩
  | .hbm, ⟨24, _⟩ => ⟨S4096x1024, .f32⟩
  | .hbm, ⟨25, _⟩ => ⟨S4096x128, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel8.lean ====
abbrev S4096x1024 : Shape := ⟨2, ![4096, 1024]⟩
abbrev S1024x2560 : Shape := ⟨2, ![1024, 2560]⟩
abbrev S4096x2560 : Shape := ⟨2, ![4096, 2560]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x2560 : Shape := ⟨2, ![1024, 2560]⟩
abbrev S4096x2560 : Shape := ⟨2, ![4096, 2560]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2560, .bf16⟩
  | .hbm, ⟨2, _⟩ => ⟨S4096x1024, .f32⟩
  | .hbm, ⟨3, _⟩ => ⟨S1024x2560, .f32⟩
  | .hbm, ⟨4, _⟩ => ⟨S4096x2560, .f32⟩
  | .hbm, ⟨5, _⟩ => ⟨S4096x2560, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4096x1024 : Shape := ⟨2, ![4096, 1024]⟩
abbrev S1024x1536 : Shape := ⟨2, ![1024, 1536]⟩
abbrev S1024x512 : Shape := ⟨2, ![1024, 512]⟩
abbrev S1024x128 : Shape := ⟨2, ![1024, 128]⟩
abbrev S4096x1536 : Shape := ⟨2, ![4096, 1536]⟩
abbrev S4096x512 : Shape := ⟨2, ![4096, 512]⟩
abbrev S4096x128 : Shape := ⟨2, ![4096, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S1024x512, .bf16⟩
  | .hbm, ⟨3, _⟩ => ⟨S1024x128, .bf16⟩
  | .hbm, ⟨4, _⟩ => ⟨S4096x1536, .bf16⟩
  | .hbm, ⟨5, _⟩ => ⟨S4096x512, .f32⟩
  | .hbm, ⟨6, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S1024x512, .bf16⟩
  | .local _ .vmem, ⟨4, _⟩ => ⟨S1024x128, .bf16⟩
  | .local _ .vmem, ⟨5, _⟩ => ⟨S512x1536, .bf16⟩
  | .local _ .vmem, ⟨6, _⟩ => ⟨S512x1536, .bf16⟩
  | .local _ .vmem, ⟨7, _⟩ => ⟨S512x512, .f32⟩
  | .local _ .vmem, ⟨8, _⟩ => ⟨S512x512, .f32⟩
  | .local _ .vmem, ⟨9, _⟩ => ⟨S512x128, .f32⟩
  | .local _ .vmem, ⟨10, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4096x1024 : Shape := ⟨2, ![4096, 1024]⟩
abbrev S1024x1536 : Shape := ⟨2, ![1024, 1536]⟩
abbrev S1024x512 : Shape := ⟨2, ![1024, 512]⟩
abbrev S1024x128 : Shape := ⟨2, ![1024, 128]⟩
abbrev S4096x1536 : Shape := ⟨2, ![4096, 1536]⟩
abbrev S4096x512 : Shape := ⟨2, ![4096, 512]⟩
abbrev S4096x128 : Shape := ⟨2, ![4096, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S1024x512, .bf16⟩
  | .hbm, ⟨3, _⟩ => ⟨S1024x128, .bf16⟩
  | .hbm, ⟨4, _⟩ => ⟨S4096x1024, .f32⟩
  | .hbm, ⟨5, _⟩ => ⟨S1024x1536, .f32⟩
  | .hbm, ⟨6, _⟩ => ⟨S4096x1536, .f32⟩
  | .hbm, ⟨7, _⟩ => ⟨S4096x1536, .bf16⟩
  | .hbm, ⟨8, _⟩ => ⟨S1024x512, .f32⟩
  | .hbm, ⟨9, _⟩ => ⟨S4096x512, .f32⟩
  | .hbm, ⟨10, _⟩ => ⟨S1024x128, .f32⟩
  | .hbm, ⟨11, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x512 : Shape := ⟨2, ![4096, 512]⟩
abbrev S4096x1024 : Shape := ⟨2, ![4096, 1024]⟩
abbrev S4x512x256 : Shape := ⟨3, ![4, 512, 256]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x512x256, .f32⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S1x512x256, .f32⟩
  | .local _ .vmem, ⟨4, _⟩ => ⟨S1x512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .f32⟩
  | .local _ .vmem, ⟨0, _⟩ => ⟨S4096x512, .bf16⟩
  | .local _ .vmem, ⟨1, _⟩ => ⟨S4096x1024, .bf16⟩
  | .local _ .vmem, ⟨2, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x512 : Shape := ⟨2, ![4096, 512]⟩
abbrev S4096x1024 : Shape := ⟨2, ![4096, 1024]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S1024x512, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .f32⟩
  | .local _ .vmem, ⟨0, _⟩ => ⟨S4096x1024, .bf16⟩
  | .local _ .vmem, ⟨1, _⟩ => ⟨S4096x512, .bf16⟩
  | .local _ .vmem, ⟨2, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S1024x512, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x512 : Shape := ⟨2, ![1024, 512]⟩
abbrev S_ : Shape := ⟨0, ![]⟩
abbrev S4096x512 : Shape := ⟨2, ![4096, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S_, .f32⟩
  | .hbm, ⟨3, _⟩ => ⟨S4096x512, .f32⟩
  | .hbm, ⟨4, _⟩ => ⟨S1024x512, .f32⟩
  | .hbm, ⟨5, _⟩ => ⟨S512x1024, .f32⟩
  | .hbm, ⟨6, _⟩ => ⟨S4096x1024, .f32⟩
  | .hbm, ⟨7, _⟩ => ⟨S4096x1024, .f32⟩
  | .hbm, ⟨8, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x1024, .f32⟩
  | .hbm, ⟨3, _⟩ => ⟨S1024x512, .f32⟩
  | .hbm, ⟨4, _⟩ => ⟨S4096x512, .f32⟩
  | .hbm, ⟨5, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference16Ideal.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S5632x1024, .f32⟩
  | .hbm, ⟨6, _⟩ => ⟨S1024x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x5632, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel17.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference17Ideal.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S1024x512 : Shape := ⟨2, ![1024, 512]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S512x1024, .f32⟩
  | .hbm, ⟨6, _⟩ => ⟨S1024x512, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x512, .f32⟩
  | .hbm, ⟨27, _⟩ => ⟨S4096x512, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference18Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel19.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference19Ideal.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S1x1024, .f32⟩
  | .hbm, ⟨4, _⟩ => ⟨S4096x512, .f32⟩
  | .hbm, ⟨5, _⟩ => ⟨S512x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel20.lean ====
abbrev S4096x512 : Shape := ⟨2, ![4096, 512]⟩
abbrev S4x512x256 : Shape := ⟨3, ![4, 512, 256]⟩
abbrev S4096x2560 : Shape := ⟨2, ![4096, 2560]⟩
abbrev S1x2048 : Shape := ⟨2, ![1, 2048]⟩
abbrev S4096x1024 : Shape := ⟨2, ![4096, 1024]⟩
abbrev S1024x512 : Shape := ⟨2, ![1024, 512]⟩
abbrev S1x512x256 : Shape := ⟨3, ![1, 512, 256]⟩
abbrev S1024x256 : Shape := ⟨2, ![1024, 256]⟩
abbrev S1x256 : Shape := ⟨2, ![1, 256]⟩
abbrev S512x256 : Shape := ⟨2, ![512, 256]⟩

abbrev nBuf : Space → Nat
  | .hbm => 9
  | .vmem => 22
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4x512x256, .bf16⟩
  | .hbm, ⟨3, _⟩ => ⟨S4x512x256, .bf16⟩
  | .hbm, ⟨4, _⟩ => ⟨S4096x2560, .bf16⟩
  | .hbm, ⟨5, _⟩ => ⟨S1x2048, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference20Ideal.lean ====
abbrev S4096x512 : Shape := ⟨2, ![4096, 512]⟩
abbrev S4x512x256 : Shape := ⟨3, ![4, 512, 256]⟩
abbrev S4096x2560 : Shape := ⟨2, ![4096, 2560]⟩
abbrev S1x2048 : Shape := ⟨2, ![1, 2048]⟩
abbrev S512x4x256 : Shape := ⟨3, ![512, 4, 256]⟩
abbrev S512x1024 : Shape := ⟨2, ![512, 1024]⟩
abbrev S4096x2048 : Shape := ⟨2, ![4096, 2048]⟩
abbrev S_ : Shape := ⟨0, ![]⟩
abbrev S4096x1024 : Shape := ⟨2, ![4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4x512x256, .bf16⟩
  | .hbm, ⟨3, _⟩ => ⟨S4x512x256, .bf16⟩
  | .hbm, ⟨4, _⟩ => ⟨S4096x2560, .bf16⟩
  | .hbm, ⟨5, _⟩ => ⟨S1x2048, .f32⟩
  | .hbm, ⟨6, _⟩ => ⟨S4x512x256, .f32⟩
  | .hbm, ⟨7, _⟩ => ⟨S512x4x256, .f32⟩
  | .hbm, ⟨8, _⟩ => ⟨S512x1024, .f32⟩
  | .hbm, ⟨9, _⟩ => ⟨S4x512x256, .f32⟩
  | .hbm, ⟨10, _⟩ => ⟨S512x4x256, .f32⟩
  | .hbm, ⟨11, _⟩ => ⟨S512x1024, .f32⟩
  | .hbm, ⟨12, _⟩ => ⟨S4096x2048, .bf16⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x512, .f32⟩
  | .hbm, ⟨25, _⟩ => ⟨S4096x1024, .f32⟩
  | .hbm, ⟨26, _⟩ => ⟨S4096x1024, .bf16⟩
  | .hbm, ⟨27, _⟩ => ⟨S4096x512, .f32⟩
  | .hbm, ⟨28, _⟩ => ⟨S4096x1024, .f32⟩
  | .hbm, ⟨29, _⟩ => ⟨S4096x1024, .bf16⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Proof.Words.lean ====
/-
The kernel in machine words and its idealization at the machine words are one program: part by part, the body, and the
configuration. The named constant is there the word it was printed from.
-/
module

public import proofs.«01_k».proof.Defs
public import proofs.«01_k».proof.Proof.Gen.Kernel
public import proofs.«01_k».proof.Proof.Gen.KernelIdeal.Frame

@[expose] public section

noncomputable section

namespace Fox

open Idealize.ShloMosaic Idealize.SL.Sem

/-- A named constant in machine words is the word it was printed from. -/
abbrev namedWords : Named Bits := ⟨fun _ _ {φ} bits => FloatOps.ofBits φ bits⟩

theorem sig_eq : Cert.Kernel.sig = Cert.KernelIdeal.sig := rfl
theorem L_eq : Cert.Kernel.Λ₀ = Cert.KernelIdeal.Λ₀ := rfl
theorem part1_eq : @Cert.Kernel.k0_part1 Bits _ _ = @Cert.KernelIdeal.k0_part1 Bits _ _ := rfl
theorem part2_eq : @Cert.Kernel.k0_part2 Bits _ _ = @Cert.KernelIdeal.k0_part2 Bits _ _ := rfl
theorem part3_eq : @Cert.Kernel.k0_part3 Bits _ _ = @Cert.KernelIdeal.k0_part3 Bits _ _ := rfl
theorem part4_eq : @Cert.Kernel.k0_part4 Bits _ _ = @Cert.KernelIdeal.k0_part4 Bits _ _ := rfl
theorem part5_eq : @Cert.Kernel.k0_part5 Bits _ _ = @Cert.KernelIdeal.k0_part5 Bits _ _ := rfl
theorem part6_eq : @Cert.Kernel.k0_part6 Bits _ _ = @Cert.KernelIdeal.k0_part6 Bits _ _ := rfl
theorem part7_eq : @Cert.Kernel.k0_part7 Bits _ _ = @Cert.KernelIdeal.k0_part7 Bits _ _ := rfl
theorem part8_eq : @Cert.Kernel.k0_part8 Bits _ _ = @Cert.KernelIdeal.k0_part8 Bits _ _ := rfl
theorem part9_eq : @Cert.Kernel.k0_part9 Bits _ _ = @Cert.KernelIdeal.k0_part9 Bits _ namedWords _ := rfl
theorem part10_eq : @Cert.Kernel.k0_part10 Bits _ _ = @Cert.KernelIdeal.k0_part10 Bits _ _ := rfl

theorem body_eq : @Cert.Kernel.cc0_fox_bwd Bits _ _ = @Cert.KernelIdeal.cc0_fox_bwd Bits _ namedWords _ := by
  unfold Cert.Kernel.cc0_fox_bwd Cert.KernelIdeal.cc0_fox_bwd
  rfl
theorem cfg_eq : Cert.Kernel.cfg0 = Cert.KernelIdeal.cfg0 := rfl

end Fox

end
-- ==== Proof.Tables.lean ====
/-
The tables of programs away from the tensor cores.
-/
module

public import Idealize.ShloMosaic.Lib.Pointwise
public import Idealize.ShloMosaic.Lib.Pipeline.Value

@[expose] public section

namespace Fox

open Idealize.ShloMosaic Idealize.SL.Sem

variable {nD : Nat} {τ : Topo} {sig : RefSig} {Val : EltTy → Type} {Λ : Labels}
  (D D' : (ℓ : Λ.Label) → Λ.Args ℓ → Prog (TpuEff nD τ sig Val Λ .tc) (Λ.Result ℓ))

/-- Away from the tensor cores the two tables agree: no program runs there. -/
theorem scalar_none (k) : Defs.onTc D (.scScalar k) = Defs.onTc D' (.scScalar k) := rfl
theorem vector_none (k j) : Defs.onTc D (.scVector k j) = Defs.onTc D' (.scVector k j) := rfl

end Fox

end
-- ==== Proof.Frames.lean ====
/-
The frames: each of the three programs runs to its end, leaves its arguments as it found them and every counter at zero.
-/
module

public import proofs.«01_k».proof.Proof.Words
public import proofs.«01_k».proof.Proof.Tables
public import proofs.«01_k».proof.Proof.Gen.ReferenceIdeal.Run

@[expose] public section

noncomputable section

namespace Fox

open Idealize.ShloMosaic Idealize.SL.Sem

set_option maxHeartbeats 4000000 in
/-- The two programs' bodies, label by label. -/
theorem defs₀_app (l : Fin 1) (x) : @Cert.Kernel.defs₀ Bits _ _ .tc l x = @Cert.KernelIdeal.defs₀ Bits _ namedWords _ .tc l x := by
  match l, x with
  | 0, (t, s) =>
    unfold Cert.Kernel.defs₀ Cert.KernelIdeal.defs₀
    dsimp only [Defs.onTc_tc]
    rw [body_eq]
    generalize @Cert.KernelIdeal.cc0_fox_bwd Bits _ namedWords _ = f
    exact rfl
  | ⟨_ + 1, h⟩, _ => exact absurd h (Nat.not_lt.2 (Nat.le_add_left _ _))

theorem defs₀_eq : @Cert.Kernel.defs₀ Bits _ _ = @Cert.KernelIdeal.defs₀ Bits _ namedWords _ := by
  refine funext fun p => ?_
  cases p with
  | tc => exact funext fun l => funext fun x => defs₀_app l x
  | scScalar _ =>
    unfold Cert.Kernel.defs₀ Cert.KernelIdeal.defs₀
    exact scalar_none _ _ _
  | scVector _ _ =>
    unfold Cert.Kernel.defs₀ Cert.KernelIdeal.defs₀
    exact vector_none _ _ _ _

set_option maxHeartbeats 4000000 in
theorem defs_eq : @Cert.Kernel.defs Bits _ _ = @Cert.KernelIdeal.defs Bits _ namedWords _ := by
  unfold Cert.Kernel.defs Cert.KernelIdeal.defs
  rw [defs₀_eq]
  generalize @Cert.KernelIdeal.defs₀ Bits _ namedWords _ = f
  exact rfl

set_option maxHeartbeats 4000000 in
theorem main_eq : @Cert.Kernel.main Bits _ _ = @Cert.KernelIdeal.main Bits _ _ := rfl

set_option maxHeartbeats 4000000 in
theorem frame_kernel : Cert.quiescent_Kernel := fun m ρ _ => by
  have h := @Cert.KernelIdeal.Gen.frame Bits _ namedWords m ρ
  rw [← defs_eq, ← main_eq] at h
  exact h

theorem frame_ideal : Cert.quiescent_KernelIdeal := fun m ρ _ => Cert.KernelIdeal.Gen.frame m ρ

theorem facts_finite : Cert.Pre_finite.Facts := by
  constructor <;> decide

theorem frame_reference : Cert.quiescent_ReferenceIdeal := fun m ρ _ =>
  (θ_run Cert.ReferenceIdeal.defs _ _).mono (fun r h =>
    ⟨fun c => (h c).2.2.2.2, sem_eq_zero_of_no_sems (by decide) _⟩) (Cert.ReferenceIdeal.Value.run m ρ)

theorem preserves : Cert.preserves_Kernel_KernelIdeal :=
  IdealRules.named_const.statement (κ := Cert.KernelIdeal.κ) (name := "mask") (φ := .f32) 0xF149F2CA#32 ⊥ rfl

end Fox

end
-- ==== Proof.Model.lean ====
/-
The forgetting attention of one head and its gradient, over the real numbers: `q k v g` are the queries, the keys, the
values and the cotangent of the output, by position and feature, and `c` the cumulative log decay by position.
-/
module

public import Idealize.ShloMosaic.Lib.Pointwise

@[expose] public section

noncomputable section

namespace Fox

open Finset

variable (q k v g : ℕ → ℕ → ℝ) (c : ℕ → ℝ)

/-- The score of query `i` with key `j`. -/
def S (i j : ℕ) : ℝ := (∑ d ∈ range 64, q i d * k j d) * 8⁻¹ + c i - c j

/-- The largest score of query `i` with a key that is not later. -/
def M (i : ℕ) : ℝ := (range (i + 1)).sup' ⟨0, by simp⟩ (S q k c i)

/-- The exponential of a score less the largest, and zero at a later key. -/
def E (i j : ℕ) : ℝ := if j ≤ i then Real.exp (S q k c i j - M q k c i) else 0

/-- The normaliser of query `i`. -/
def L (i : ℕ) : ℝ := ∑ j ∈ range 2048, E q k c i j

/-- The weight of key `j` for query `i`. -/
def W (i j : ℕ) : ℝ := E q k c i j / L q k c i

/-- The gradient of the weight. -/
def DP (i j : ℕ) : ℝ := ∑ d ∈ range 64, g i d * v j d

/-- The mean of a row's gradients under its weights. -/
def DL (i : ℕ) : ℝ := ∑ j ∈ range 2048, W q k c i j * DP v g i j

/-- The gradient of the score. -/
def DS (i j : ℕ) : ℝ := W q k c i j * (DP v g i j - DL q k v g c i)

/-- The attention's output. -/
def Out (i d : ℕ) : ℝ := ∑ j ∈ range 2048, W q k c i j * v j d

theorem le_M {i j : ℕ} (h : j ≤ i) : S q k c i j ≤ M q k c i :=
  Finset.le_sup' (S q k c i) (by simp; omega)

theorem exists_M (i : ℕ) : ∃ j, j ≤ i ∧ M q k c i = S q k c i j := by
  obtain ⟨j, hj, e⟩ := Finset.exists_mem_eq_sup' (s := range (i + 1)) ⟨0, by simp⟩ (S q k c i)
  exact ⟨j, by simp at hj; omega, e⟩

theorem E_nonneg (i j : ℕ) : 0 ≤ E q k c i j := by unfold E; split <;> positivity

theorem E_of_lt {i j : ℕ} (h : i < j) : E q k c i j = 0 := by unfold E; rw [if_neg (by omega)]

theorem L_pos {i : ℕ} (h : i < 2048) : 0 < L q k c i :=
  Finset.sum_pos' (fun j _ => E_nonneg q k c i j) ⟨i, by simpa using h, by unfold E; rw [if_pos le_rfl]; positivity⟩

theorem W_of_lt {i j : ℕ} (h : i < j) : W q k c i j = 0 := by unfold W; rw [E_of_lt q k c h, zero_div]

theorem DS_of_lt {i j : ℕ} (h : i < j) : DS q k v g c i j = 0 := by unfold DS; rw [W_of_lt q k c h, zero_mul]

/-- A weight is the exponential of the score less the log of the row's normaliser. -/
theorem W_eq_exp {i j : ℕ} (hi : i < 2048) (h : j ≤ i) :
    W q k c i j = Real.exp (S q k c i j - (M q k c i + Real.log (L q k c i))) := by
  unfold W E
  rw [if_pos h, ← sub_sub, Real.exp_sub _ (Real.log _), Real.exp_log (L_pos q k c hi)]

/-- The output's product with its cotangent is the mean of the row's gradients. -/
theorem sum_g_Out (i : ℕ) : ∑ d ∈ range 64, g i d * Out q k v c i d = DL q k v g c i := by
  unfold Out DL DP
  simp only [Finset.mul_sum]
  rw [Finset.sum_comm]
  exact Finset.sum_congr rfl fun j _ => Finset.sum_congr rfl fun d _ => by ring

/-- A sum of real numbers is their sum among the extended reals. -/
theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A sum over the first `n` numbers of terms that are real numbers. -/
theorem sum_fin {n : ℕ} (F : Fin n → EReal) (f : ℕ → ℝ) (h : ∀ x : Fin n, F x = (f x : EReal)) :
    ∑ x : Fin n, F x = ((∑ x ∈ range n, f x : ℝ) : EReal) := by
  rw [coe_sum, Finset.sum_range]
  exact Finset.sum_congr rfl fun x _ => h x

end Fox

end
-- ==== Proof.Pay.lean ====
/-
What each value of the call's body holds at an index, once what it is computed from holds real numbers.
-/
module

public import proofs.«01_k».proof.Proof.Model
public import proofs.«01_k».proof.Proof.Gen.KernelIdeal.Skeleton
public import Idealize.ShloMosaic.Lib.WordCmp

@[expose] public section

noncomputable section

set_option maxRecDepth 16384

namespace Fox

open Idealize.ShloMosaic Cert.KernelIdeal Cert.KernelIdeal.Gen
open scoped Pointwise

/-- The head a lane belongs to, as the body computes it: the lane's number divided by 64, rounded down. -/
def headWord (l : ℕ) : BitVec 32 :=
  Scalar.select
    (IntOp.andi
      (IntOp.cmpi CmpIPredicate.ne
        (IntOp.subi (BitVec.setWidth 32 (IntOp.cmpi CmpIPredicate.sgt (BitVec.ofNat 32 l) 0#32))
          (BitVec.setWidth 32 (IntOp.cmpi CmpIPredicate.slt (BitVec.ofNat 32 l) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 l) 64#32) 0#32))
    (IntOp.subi (IntOp.divsi ArithUnit.vector (BitVec.ofNat 32 l) 64#32) 1#32)
    (IntOp.divsi ArithUnit.vector (BitVec.ofNat 32 l) 64#32)

theorem headWord_zero : ∀ l : Fin 128, IntOp.cmpi CmpIPredicate.eq (headWord l.val) 0#32 = 1 ↔ l.val / 64 = 0 := by
  decide +kernel

theorem headWord_one : ∀ l : Fin 128, IntOp.cmpi CmpIPredicate.eq (headWord l.val) 1#32 = 1 ↔ l.val / 64 = 1 := by
  decide +kernel

theorem sel_head0 {α : Type} (l : Fin 128) (x y : α) :
    Scalar.select (IntOp.cmpi CmpIPredicate.eq (headWord l.val) 0#32) x y = if l.val / 64 = 0 then x else y := by
  unfold Scalar.select; simp only [headWord_zero]

theorem sel_head1 {α : Type} (l : Fin 128) (x y : α) :
    Scalar.select (IntOp.cmpi CmpIPredicate.eq (headWord l.val) 1#32) x y = if l.val / 64 = 1 then x else y := by
  unfold Scalar.select; simp only [headWord_one]

theorem top_word : ∀ r : Fin 1024, IntOp.cmpi CmpIPredicate.slt (BitVec.ofNat 32 r.val) 512#32 = 1 ↔ r.val < 512 := by
  decide +kernel

theorem sel_top {α : Type} (r : Fin 1024) (x y : α) :
    Scalar.select (IntOp.cmpi CmpIPredicate.slt (BitVec.ofNat 32 r.val) 512#32) x y = if r.val < 512 then x else y := by
  unfold Scalar.select; simp only [top_word]

/-- A product's sum whose factors are real numbers. -/
theorem dot_real {n : ℕ} (a b : Fin n → EReal) (A B : ℕ → ℝ) (ha : ∀ x : Fin n, a x = (A x : EReal))
    (hb : ∀ x : Fin n, b x = (B x : EReal)) :
    ∑ x : Fin n, a x * b x = ((∑ x ∈ Finset.range n, A x * B x : ℝ) : EReal) :=
  sum_fin _ (fun x => A x * B x) fun x => by rw [ha, hb, EReal.coe_mul]

theorem eighth_bf16 : Ideal.ofBits .bf16 0x3E00#16 = ((8⁻¹ : ℝ) : EReal) := by
  simp [Ideal.ofBits, Ideal.ieee, -EReal.coe_mul]; norm_num

theorem eighth_f32 : Ideal.ofBits .f32 0x3E000000#32 = ((8⁻¹ : ℝ) : EReal) := by
  simp [Ideal.ofBits, Ideal.ieee, -EReal.coe_mul]; norm_num

/-! ## The two heads of a tile, one above the other -/

/-- The scaled queries of the two heads, one above the other, each with the other head's lanes at zero. -/
theorem pay28_real (x : Vec Ideal S1x512x128 .bf16) (X : ℕ → ℕ → ℝ)
    (hx : ∀ (i : Fin 512) (l : Fin 128), x (ix3 0 i l) = (X i l : EReal)) (r : Fin 1024) (l : Fin 128) :
    k0_pay28 x (ix2 r l) = ((if l.val / 64 = r.val / 512 then X (r.val % 512) l * 8⁻¹ else 0 : ℝ) : EReal) := by
  pointwise [k0_pay28]
  have e : ∀ h, x (ix3 0 ⟨r.val - 512, h⟩ l) = (X (r.val - 512) l : EReal) := fun h => hx ⟨_, h⟩ l
  have e' : ∀ h, x (ix3 0 ⟨r.val, h⟩ l) = (X r.val l : EReal) := fun h => hx ⟨_, h⟩ l
  have w : headWord l.val = _ := headWord.eq_1 l.val
  rw [← w]
  simp only [sel_head0, sel_head1, e, e', eighth_bf16]
  by_cases h : r.val < 512
  · rw [dif_pos h, show r.val / 512 = 0 by omega, show r.val % 512 = r.val by omega]
    split <;> simp
  · rw [dif_neg h, show r.val / 512 = 1 by omega, show r.val % 512 = r.val - 512 by omega]
    split <;> simp

/-- The cotangents of the two heads, one above the other. -/
theorem pay30_real (x : Vec Ideal S1x512x128 .f32) (X : ℕ → ℕ → ℝ)
    (hx : ∀ (i : Fin 512) (l : Fin 128), x (ix3 0 i l) = (X i l : EReal)) (r : Fin 1024) (l : Fin 128) :
    k0_pay30 x (ix2 r l) = ((if l.val / 64 = r.val / 512 then X (r.val % 512) l else 0 : ℝ) : EReal) := by
  pointwise [k0_pay30, k0_pay29]
  have e : ∀ h, x (ix3 0 ⟨r.val - 512, h⟩ l) = (X (r.val - 512) l : EReal) := fun h => hx ⟨_, h⟩ l
  have e' : ∀ h, x (ix3 0 ⟨r.val, h⟩ l) = (X r.val l : EReal) := fun h => hx ⟨_, h⟩ l
  have w : headWord l.val = _ := headWord.eq_1 l.val
  rw [← w]
  simp only [sel_head0, sel_head1, e, e']
  by_cases h : r.val < 512
  · rw [dif_pos h, show r.val / 512 = 0 by omega, show r.val % 512 = r.val by omega]
    split <;> simp
  · rw [dif_neg h, show r.val / 512 = 1 by omega, show r.val % 512 = r.val - 512 by omega]
    split <;> simp

/-- The row sums of the cotangent times the output, head by head. -/
theorem pay33_real (x y : Vec Ideal S1x512x128 .f32) (X Y : ℕ → ℕ → ℝ)
    (hx : ∀ (i : Fin 512) (l : Fin 128), x (ix3 0 i l) = (X i l : EReal))
    (hy : ∀ (i : Fin 512) (l : Fin 128), y (ix3 0 i l) = (Y i l : EReal)) (r : Fin 1024) :
    k0_pay33 (k0_pay31 x y) (iota .tc S512x128 32 [1] iota_S512x128_d1_w32) 64#32 k0_pay32 0#32 (ix2 r 0)
      = ((∑ l ∈ Finset.range 128, if l / 64 = r.val / 512 then X (r.val % 512) l * Y (r.val % 512) l else 0 : ℝ) : EReal) := by
  pointwise [k0_pay33, k0_pay31, k0_pay32, k0_pay29]
  have e : ∀ h (l : Fin 128), x (ix3 0 ⟨r.val - 512, h⟩ l) = (X (r.val - 512) l : EReal) := fun h l => hx ⟨_, h⟩ l
  have e' : ∀ h (l : Fin 128), x (ix3 0 ⟨r.val, h⟩ l) = (X r.val l : EReal) := fun h l => hx ⟨_, h⟩ l
  have f : ∀ h (l : Fin 128), y (ix3 0 ⟨r.val - 512, h⟩ l) = (Y (r.val - 512) l : EReal) := fun h l => hy ⟨_, h⟩ l
  have f' : ∀ h (l : Fin 128), y (ix3 0 ⟨r.val, h⟩ l) = (Y r.val l : EReal) := fun h l => hy ⟨_, h⟩ l
  have w : ∀ l : Fin 128, headWord l.val = _ := fun l => headWord.eq_1 l.val
  refine sum_fin _ _ fun l => ?_
  rw [← w]
  simp only [sel_head0, sel_head1, e, e', f, f']
  by_cases h : r.val < 512
  · rw [dif_pos h, show r.val / 512 = 0 by omega, show r.val % 512 = r.val by omega]
    split <;> simp
  · rw [dif_neg h, show r.val / 512 = 1 by omega, show r.val % 512 = r.val - 512 by omega]
    split <;> simp

/-- The decay at the row less the log of the row's normaliser, head by head. -/
theorem pay34_real (x y : Vec Ideal S1x512x128 .f32) (X Y : ℕ → ℕ → ℝ)
    (hx : ∀ (i : Fin 512) (l : Fin 128), x (ix3 0 i l) = (X i l : EReal))
    (hy : ∀ (i : Fin 512) (l : Fin 128), y (ix3 0 i l) = (Y i l : EReal)) (r : Fin 1024) :
    k0_pay34 x y (ix2 r 0)
      = ((X (r.val % 512) (r.val / 512 * 64) - Y (r.val % 512) (r.val / 512 * 64) : ℝ) : EReal) := by
  pointwise [k0_pay34]
  by_cases h : r.val < 512
  · simp only [dif_pos h]
    rw [show r.val / 512 = 0 by omega, show r.val % 512 = r.val by omega, EReal.coe_sub]
    exact congrArg₂ (· - ·) (hx ⟨_, h⟩ 0) (hy ⟨_, h⟩ 0)
  · simp only [dif_neg h]
    rw [show r.val / 512 = 1 by omega, show r.val % 512 = r.val - 512 by omega, EReal.coe_sub]
    exact congrArg₂ (· - ·) (hx ⟨r.val - 512, by omega⟩ 64) (hy ⟨r.val - 512, by omega⟩ 64)

/-! ## A block of keys before the diagonal -/

section

variable {v39 v75 : FVec Ideal S1024x128 .bf16} {v113 v124 : FVec Ideal S1024x1 .f32}
  {kt vt : Vec Ideal S1x512x128 .bf16} {c0 c1 : Vec Ideal S1x1x1x1x512 .f32}
  {A B K V : ℕ → ℕ → ℝ} {del bias C0 C1 : ℕ → ℝ}

/-- The weights of a block of keys before the diagonal. -/
def pBefore (A K : ℕ → ℕ → ℝ) (bias C0 C1 : ℕ → ℝ) (r j : ℕ) : ℝ :=
  Real.exp ((∑ l ∈ Finset.range 128, A r l * K j l) + (bias r - if r < 512 then C0 j else C1 j))

/-- The gradients of the scores, from the weights. -/
def dsOf (p : ℕ → ℕ → ℝ) (B V : ℕ → ℕ → ℝ) (del : ℕ → ℝ) (r j : ℕ) : ℝ :=
  p r j * ((∑ l ∈ Finset.range 128, B r l * V j l) - del r)

theorem pay6_real (hA : ∀ (r : Fin 1024) (l : Fin 128), v39 (ix2 r l) = (A r l : EReal))
    (hK : ∀ (j : Fin 512) (l : Fin 128), kt (ix3 0 j l) = (K j l : EReal))
    (hb : ∀ r : Fin 1024, v124 (ix2 r 0) = (bias r : EReal))
    (h0 : ∀ j : Fin 512, c0 (ix5 0 0 0 0 j) = (C0 j : EReal)) (h1 : ∀ j : Fin 512, c1 (ix5 0 0 0 0 j) = (C1 j : EReal))
    (r : Fin 1024) (j : Fin 512) :
    k0_pay6 v39 v124 kt c0 c1 (ix2 r j) = (pBefore A K bias C0 C1 r j : EReal) := by
  pointwise [k0_pay6, k0_pay5]
  rw [dot_real _ _ (A r) (K j) (fun l => hA r l) (fun l => hK j l), sel_top, hb, h0, h1]
  unfold pBefore
  rw [← Ideal.exp_coe]
  refine congrArg Ideal.exp ?_
  split <;> simp only [EReal.coe_add, EReal.coe_sub]

theorem pay7_real {p : ℕ → ℕ → ℝ} (hp : ∀ (r : Fin 1024) (j : Fin 512), k0_pay6 v39 v124 kt c0 c1 (ix2 r j) = (p r j : EReal))
    (hB : ∀ (r : Fin 1024) (l : Fin 128), v75 (ix2 r l) = (B r l : EReal))
    (hV : ∀ (j : Fin 512) (l : Fin 128), vt (ix3 0 j l) = (V j l : EReal))
    (hd : ∀ r : Fin 1024, v113 (ix2 r 0) = (del r : EReal)) (r : Fin 1024) (j : Fin 512) :
    k0_pay7 v39 v75 v113 v124 kt c0 c1 vt (ix2 r j) = (dsOf p B V del r j : EReal) := by
  pointwise [k0_pay7]
  rw [dot_real _ _ (B r) (V j) (fun l => hB r l) (fun l => hV j l), hp, hd, ← EReal.coe_sub, ← EReal.coe_mul]
  rfl

theorem pay10_real {p : ℕ → ℕ → ℝ} (hp : ∀ (r : Fin 1024) (j : Fin 512), k0_pay6 v39 v124 kt c0 c1 (ix2 r j) = (p r j : EReal))
    (hB : ∀ (r : Fin 1024) (l : Fin 128), v75 (ix2 r l) = (B r l : EReal)) {x : Vec Ideal S512x128 .f32} {X : ℕ → ℕ → ℝ}
    (hx : ∀ (j : Fin 512) (l : Fin 128), x (ix2 j l) = (X j l : EReal)) (j : Fin 512) (l : Fin 128) :
    k0_pay10 (k0_pay9 v39 v75 v124 kt c0 c1 x) (ix2 j l)
      = ((X j l + ∑ r ∈ Finset.range 1024, p r j * B r l : ℝ) : EReal) := by
  pointwise [k0_pay10, k0_pay9]
  rw [dot_real _ _ (fun r => p r j) (fun r => B r l) (fun r => hp r j) (fun r => hB r l), hx, ← EReal.coe_add]

theorem pay11_real {d : FVec Ideal S1024x512 .bf16} {D : ℕ → ℕ → ℝ}
    (hD : ∀ (r : Fin 1024) (j : Fin 512), d (ix2 r j) = (D r j : EReal))
    (hA : ∀ (r : Fin 1024) (l : Fin 128), v39 (ix2 r l) = (A r l : EReal)) {x : Vec Ideal S512x128 .f32} {X : ℕ → ℕ → ℝ}
    (hx : ∀ (j : Fin 512) (l : Fin 128), x (ix2 j l) = (X j l : EReal)) (j : Fin 512) (l : Fin 128) :
    k0_pay11 v39 d x (ix2 j l) = ((X j l + ∑ r ∈ Finset.range 1024, D r j * A r l : ℝ) : EReal) := by
  pointwise [k0_pay11]
  rw [dot_real _ _ (fun r => D r j) (fun r => A r l) (fun r => hD r j) (fun r => hA r l), hx, ← EReal.coe_add]

theorem pay12_real {d : FVec Ideal S1024x512 .f32} {D : ℕ → ℕ → ℝ}
    (hD : ∀ (r : Fin 1024) (j : Fin 512), d (ix2 r j) = (D r j : EReal)) {x : Vec Ideal S1x1x1x1x512 .f32} {X : ℕ → ℝ}
    (hx : ∀ j : Fin 512, x (ix5 0 0 0 0 j) = (X j : EReal)) (j : Fin 512) :
    k0_pay12 d x (ix5 0 0 0 0 j) = ((X j - ∑ r ∈ Finset.range 512, D r j : ℝ) : EReal) := by
  pointwise [k0_pay12]
  rw [hx, EReal.coe_sub]
  refine congrArg (fun z => (X j : EReal) - z) ?_
  refine sum_fin _ (fun r => D r j) fun r => ?_
  exact hD ⟨r.val, by omega⟩ j

theorem pay13_real {d : FVec Ideal S1024x512 .f32} {D : ℕ → ℕ → ℝ}
    (hD : ∀ (r : Fin 1024) (j : Fin 512), d (ix2 r j) = (D r j : EReal)) {x : Vec Ideal S1x1x1x1x512 .f32} {X : ℕ → ℝ}
    (hx : ∀ j : Fin 512, x (ix5 0 0 0 0 j) = (X j : EReal)) (j : Fin 512) :
    k0_pay13 d x (ix5 0 0 0 0 j) = ((X j - ∑ r ∈ Finset.range 512, D (512 + r) j : ℝ) : EReal) := by
  pointwise [k0_pay13]
  rw [hx, EReal.coe_sub]
  refine congrArg (fun z => (X j : EReal) - z) ?_
  refine sum_fin _ (fun r => D (512 + r) j) fun r => ?_
  exact hD ⟨512 + r.val, by omega⟩ j

theorem pay37_real {d : FVec Ideal S1024x512 .bf16} {D : ℕ → ℕ → ℝ}
    (hD : ∀ (r : Fin 1024) (j : Fin 512), d (ix2 r j) = (D r j : EReal))
    (hK : ∀ (j : Fin 512) (l : Fin 128), kt (ix3 0 j l) = (K j l : EReal)) {x : FVec Ideal S1024x128 .f32} {X : ℕ → ℕ → ℝ}
    (hx : ∀ (r : Fin 1024) (l : Fin 128), x (ix2 r l) = (X r l : EReal)) (r : Fin 1024) (l : Fin 128) :
    k0_pay37 x (k0_pay14 (k0_pay5 kt) d) (ix2 r l) = ((X r l + ∑ j ∈ Finset.range 512, D r j * K j l : ℝ) : EReal) := by
  pointwise [k0_pay37, k0_pay14, k0_pay5]
  rw [dot_real _ _ (D r) (fun j => K j l) (fun j => hD r j) (fun j => hK j l), hx, ← EReal.coe_add]

theorem pay38_real {d : FVec Ideal S1024x512 .f32} {D : ℕ → ℕ → ℝ}
    (hD : ∀ (r : Fin 1024) (j : Fin 512), d (ix2 r j) = (D r j : EReal)) {x : FVec Ideal S1024x1 .f32} {X : ℕ → ℝ}
    (hx : ∀ r : Fin 1024, x (ix2 r 0) = (X r : EReal)) (r : Fin 1024) :
    k0_pay38 x d (ix2 r 0) = ((X r + ∑ j ∈ Finset.range 512, D r j : ℝ) : EReal) := by
  pointwise [k0_pay38]
  rw [hx, sum_fin _ (D r) (fun j => hD r j), ← EReal.coe_add]

/-! ## The block of keys at the diagonal -/

/-- The scores of the diagonal's block, before the mask. -/
def sDiag (A K : ℕ → ℕ → ℝ) (bias C0 C1 : ℕ → ℝ) (r j : ℕ) : ℝ :=
  (∑ l ∈ Finset.range 128, A r l * K j l) + (bias r - if r < 512 then C0 j else C1 j)

/-- The weights of the diagonal's block: zero at a key later than the row. -/
def pDiag (A K : ℕ → ℕ → ℝ) (bias C0 C1 : ℕ → ℝ) (r j : ℕ) : ℝ :=
  if j ≤ r % 512 then Real.exp (sDiag A K bias C0 C1 r j) else 0

theorem pay42_real (hA : ∀ (r : Fin 1024) (l : Fin 128), v39 (ix2 r l) = (A r l : EReal))
    (hK : ∀ (j : Fin 512) (l : Fin 128), kt (ix3 0 j l) = (K j l : EReal))
    (hb : ∀ r : Fin 1024, v124 (ix2 r 0) = (bias r : EReal))
    (h0 : ∀ j : Fin 512, c0 (ix5 0 0 0 0 j) = (C0 j : EReal)) (h1 : ∀ j : Fin 512, c1 (ix5 0 0 0 0 j) = (C1 j : EReal))
    (r : Fin 1024) (j : Fin 512) :
    k0_pay42 v39 v124 kt c0 c1 (ix2 r j) = (sDiag A K bias C0 C1 r j : EReal) := by
  pointwise [k0_pay42, k0_pay41]
  rw [dot_real _ _ (A r) (K j) (fun l => hA r l) (fun l => hK j l), sel_top, hb, h0, h1]
  unfold sDiag
  split <;> simp only [EReal.coe_add, EReal.coe_sub]

theorem row_word : ∀ r : Fin 1024, Scalar.select (IntOp.cmpi CmpIPredicate.sge (BitVec.ofNat 32 r.val) 512#32)
    (IntOp.subi (BitVec.ofNat 32 r.val) 512#32) (BitVec.ofNat 32 r.val) = BitVec.ofNat 32 (r.val % 512) := by
  decide +kernel

theorem keep_word (a b : ℕ) (ha : a < 512) (hb : b < 512) :
    IntOp.cmpi CmpIPredicate.sge (BitVec.ofNat 32 a) (BitVec.ofNat 32 b) = 1 ↔ b ≤ a := by
  exact WordCmp.cmpi_sge_ofNat_eq_one_iff (by omega) (by omega)

theorem pay44_real {s : FVec Ideal S1024x512 .f32} (hs : ∀ (r : Fin 1024) (j : Fin 512), s (ix2 r j) = (sDiag A K bias C0 C1 r j : EReal))
    (r : Fin 1024) (j : Fin 512) :
    k0_pay44 s k0_pay43 (iota .tc S1024x512 32 [1] iota_S1024x512_d1_w32) (ix2 r j) = (pDiag A K bias C0 C1 r j : EReal) := by
  pointwise [k0_pay44, k0_pay43]
  rw [row_word]
  unfold Scalar.select pDiag
  rw [hs]
  by_cases h : j.val ≤ r.val % 512
  · rw [if_pos ((keep_word _ _ (by omega) (by omega)).mpr h), if_pos h, Ideal.exp_coe]
  · rw [if_neg fun e => h ((keep_word _ _ (by omega) (by omega)).mp e), if_neg h,
      IdealRules.named_const.ideal_named_scalar (κ := κ) (name := "mask") (φ := .f32) 0xF149F2CA#32 ⊥ rfl]
    simp

section

variable {s : FVec Ideal S1024x512 .f32} {w u : IVec S1024x512 32} {p D : ℕ → ℕ → ℝ}

theorem pay45_real (hp : ∀ (r : Fin 1024) (j : Fin 512), k0_pay44 s w u (ix2 r j) = (p r j : EReal))
    (hB : ∀ (r : Fin 1024) (l : Fin 128), v75 (ix2 r l) = (B r l : EReal))
    (hV : ∀ (j : Fin 512) (l : Fin 128), vt (ix3 0 j l) = (V j l : EReal))
    (hd : ∀ r : Fin 1024, v113 (ix2 r 0) = (del r : EReal)) (r : Fin 1024) (j : Fin 512) :
    k0_pay45 v75 v113 s w u vt (ix2 r j) = (dsOf p B V del r j : EReal) := by
  pointwise [k0_pay45]
  rw [dot_real _ _ (B r) (V j) (fun l => hB r l) (fun l => hV j l), hp, hd, ← EReal.coe_sub, ← EReal.coe_mul]
  rfl

theorem pay47_real (hp : ∀ (r : Fin 1024) (j : Fin 512), k0_pay44 s w u (ix2 r j) = (p r j : EReal))
    (hB : ∀ (r : Fin 1024) (l : Fin 128), v75 (ix2 r l) = (B r l : EReal)) {x : Vec Ideal S512x128 .f32} {X : ℕ → ℕ → ℝ}
    (hx : ∀ (j : Fin 512) (l : Fin 128), x (ix2 j l) = (X j l : EReal)) (j : Fin 512) (l : Fin 128) :
    k0_pay47 v75 s w u x (ix2 j l) = ((X j l + ∑ r ∈ Finset.range 1024, p r j * B r l : ℝ) : EReal) := by
  pointwise [k0_pay47]
  rw [dot_real _ _ (fun r => p r j) (fun r => B r l) (fun r => hp r j) (fun r => hB r l), hx, ← EReal.coe_add]

theorem pay48_real (hD : ∀ (r : Fin 1024) (j : Fin 512), k0_pay45 v75 v113 s w u vt (ix2 r j) = (D r j : EReal))
    (hA : ∀ (r : Fin 1024) (l : Fin 128), v39 (ix2 r l) = (A r l : EReal)) {x : Vec Ideal S512x128 .f32} {X : ℕ → ℕ → ℝ}
    (hx : ∀ (j : Fin 512) (l : Fin 128), x (ix2 j l) = (X j l : EReal)) (j : Fin 512) (l : Fin 128) :
    k0_pay48 v39 v75 v113 s w u vt x (ix2 j l) = ((X j l + ∑ r ∈ Finset.range 1024, D r j * A r l : ℝ) : EReal) := by
  pointwise [k0_pay48, k0_pay46]
  rw [dot_real _ _ (fun r => D r j) (fun r => A r l) (fun r => hD r j) (fun r => hA r l), hx, ← EReal.coe_add]

theorem pay50_real (hD : ∀ (r : Fin 1024) (j : Fin 512), k0_pay45 v75 v113 s w u vt (ix2 r j) = (D r j : EReal))
    {x : Vec Ideal S1x1x1x1x512 .f32} {X : ℕ → ℝ}
    (hx : ∀ j : Fin 512, x (ix5 0 0 0 0 j) = (X j : EReal)) (j : Fin 512) :
    k0_pay50 (k0_pay49 v75 v113 s w u vt x) (ix5 0 0 0 0 j) = ((X j - ∑ r ∈ Finset.range 512, D r j : ℝ) : EReal) := by
  pointwise [k0_pay50, k0_pay49]
  rw [hx, EReal.coe_sub]
  refine congrArg (fun z => (X j : EReal) - z) ?_
  refine sum_fin _ (fun r => D r j) fun r => ?_
  exact hD ⟨r.val, by omega⟩ j

theorem pay51_real {d : FVec Ideal S1024x512 .f32} (hD : ∀ (r : Fin 1024) (j : Fin 512), d (ix2 r j) = (D r j : EReal))
    {x : Vec Ideal S1x1x1x1x512 .f32} {X : ℕ → ℝ}
    (hx : ∀ j : Fin 512, x (ix5 0 0 0 0 j) = (X j : EReal)) (j : Fin 512) :
    k0_pay51 d x (ix5 0 0 0 0 j) = ((X j - ∑ r ∈ Finset.range 512, D (512 + r) j : ℝ) : EReal) := by
  pointwise [k0_pay51]
  rw [hx, EReal.coe_sub]
  refine congrArg (fun z => (X j : EReal) - z) ?_
  refine sum_fin _ (fun r => D (512 + r) j) fun r => ?_
  exact hD ⟨512 + r.val, by omega⟩ j

end

/-! ## What a point leaves -/

/-- The queries' gradient: each lane takes its own head's row, scaled. -/
theorem pay1_real {x : FVec Ideal S1024x128 .f32} {X : ℕ → ℕ → ℝ} {d : FVec Ideal S1024x512 .bf16} {D : ℕ → ℕ → ℝ}
    (hD : ∀ (r : Fin 1024) (j : Fin 512), d (ix2 r j) = (D r j : EReal))
    (hK : ∀ (j : Fin 512) (l : Fin 128), kt (ix3 0 j l) = (K j l : EReal))
    (hx : ∀ (r : Fin 1024) (l : Fin 128), x (ix2 r l) = (X r l : EReal)) (i : Fin 512) (l : Fin 128) :
    k0_pay1 (k0_pay52 x (k0_pay41 kt) d) k0_pay54 k0_pay55 k0_pay56 (ix3 0 i l)
      = (((X (l.val / 64 * 512 + i) l + ∑ j ∈ Finset.range 512, D (l.val / 64 * 512 + i) j * K j l) * 8⁻¹ : ℝ) : EReal) := by
  have hy : ∀ (r : Fin 1024) (l : Fin 128), k0_pay52 x (k0_pay41 kt) d (ix2 r l)
      = ((X r l + ∑ j ∈ Finset.range 512, D r j * K j l : ℝ) : EReal) := fun r l => by
    pointwise [k0_pay52, k0_pay41]
    rw [dot_real _ _ (D r) (fun j => K j l) (fun j => hD r j) (fun j => hK j l), hx, ← EReal.coe_add]
  generalize k0_pay52 x (k0_pay41 kt) d = y at hy ⊢
  pointwise [k0_pay1, k0_pay54, k0_pay55, k0_pay56]
  have w : headWord l.val = _ := headWord.eq_1 l.val
  rw [← w, sel_head0, eighth_f32, EReal.coe_mul]
  refine congrArg₂ (· * ·) ?_ rfl
  by_cases h : l.val / 64 = 0
  · rw [if_pos h, h]
    refine (hy ⟨i.val, by omega⟩ l).trans ?_
    simp only [zero_mul, zero_add]
  · rw [if_neg h, show l.val / 64 = 1 by omega]
    refine (hy ⟨512 + i.val, by omega⟩ l).trans ?_
    simp only [one_mul]

/-- The gradient of the decay at the queries: one column for each head. -/
theorem pay2_real {x : FVec Ideal S1024x1 .f32} {X : ℕ → ℝ} {d : FVec Ideal S1024x512 .f32} {D : ℕ → ℕ → ℝ}
    (hD : ∀ (r : Fin 1024) (j : Fin 512), d (ix2 r j) = (D r j : EReal))
    (hx : ∀ r : Fin 1024, x (ix2 r 0) = (X r : EReal)) (i : Fin 512) (e : Fin 2) :
    k0_pay2 (k0_pay53 x d) (ix4 0 0 i e)
      = ((X (e.val * 512 + i) + ∑ j ∈ Finset.range 512, D (e.val * 512 + i) j : ℝ) : EReal) := by
  have hy : ∀ r : Fin 1024, k0_pay53 x d (ix2 r 0) = ((X r + ∑ j ∈ Finset.range 512, D r j : ℝ) : EReal) := fun r => by
    pointwise [k0_pay53]
    rw [hx, sum_fin _ (D r) (fun j => hD r j), ← EReal.coe_add]
  generalize k0_pay53 x d = y at hy ⊢
  pointwise [k0_pay2]
  fin_cases e
  · refine Eq.trans ?_ ((hy ⟨i.val, by omega⟩).trans ?_)
    · exact if_pos (by decide)
    · simp
  · refine Eq.trans ?_ ((hy ⟨512 + i.val, by omega⟩).trans ?_)
    · exact if_neg (by decide)
    · simp

theorem pay3_at (x : Vec Ideal S2048x128 .f32) (j : Fin 2048) (l : Fin 128) : k0_pay3 x (ix3 0 j l) = x (ix2 j l) := by
  pointwise [k0_pay3]

theorem pay4_at (x : Vec Ideal S2048x128 .f32) (j : Fin 2048) (l : Fin 128) : k0_pay4 x (ix3 0 j l) = x (ix2 j l) := by
  pointwise [k0_pay4]

theorem pay25_at (j : Fin 2048) (l : Fin 128) : k0_pay25 (F := Ideal) (ix2 j l) = ((0 : ℝ) : EReal) := by
  pointwise [k0_pay25]
  simp

theorem pay26_at (j : Fin 2048) (l : Fin 128) : k0_pay26 (F := Ideal) (ix2 j l) = ((0 : ℝ) : EReal) := by
  pointwise [k0_pay26]
  simp

theorem pay27_at (e : Fin 2) (b : Fin 4) (j : Fin 512) : k0_pay27 (F := Ideal) (ix5 0 e b 0 j) = ((0 : ℝ) : EReal) := by
  pointwise [k0_pay27]
  simp

theorem pay35_at (r : Fin 1024) (l : Fin 128) : k0_pay35 (F := Ideal) (ix2 r l) = ((0 : ℝ) : EReal) := by
  pointwise [k0_pay35]
  simp

theorem pay36_at (r : Fin 1024) : k0_pay36 (F := Ideal) (ix2 r 0) = ((0 : ℝ) : EReal) := by
  pointwise [k0_pay36]
  simp

end

end Fox

end
-- ==== Proof.Trip.lean ====
/-
One trip of the call's loop over the blocks of keys before the diagonal, and the loop as a whole.
-/
module

public import proofs.«01_k».proof.Proof.Pay
public import proofs.«01_k».proof.Proof.Gen.KernelIdeal.Loops
public import Idealize.ShloMosaic.Lib.WritesUnit

@[expose] public section

noncomputable section

set_option maxRecDepth 16384

namespace Fox

open Idealize.ShloMosaic Idealize.ShloMosaic.TcCoe Idealize.SL.Sem Cert.KernelIdeal Cert.KernelIdeal.Gen
open scoped Pointwise

/-- The buffers of one point: the inputs' blocks, the outputs' blocks and the two scratch arrays. -/
structure Mems where
  arg3 : Memref sig .tc .vmem S1x512x128 .bf16
  harg3 : arg3.IsWhole
  arg4 : Memref sig .tc .vmem S1x2048x256 .bf16
  harg4 : arg4.IsWhole
  arg5 : Memref sig .tc .vmem S1x512x128 .f32
  harg5 : arg5.IsWhole
  arg6 : Memref sig .tc .vmem S1x2x4x1x512 .f32
  harg6 : arg6.IsWhole
  arg7 : Memref sig .tc .vmem S1x512x128 .f32
  harg7 : arg7.IsWhole
  arg8 : Memref sig .tc .vmem S1x512x128 .f32
  harg8 : arg8.IsWhole
  arg9 : Memref sig .tc .vmem S1x512x128 .f32
  harg9 : arg9.IsWhole
  arg10 : Memref sig .tc .vmem S1x512x128 .bf16
  harg10 : arg10.IsWhole
  arg11 : Memref sig .tc .vmem S1x2048x256 .bf16
  harg11 : arg11.IsWhole
  arg12 : Memref sig .tc .vmem S1x1x512x2 .f32
  harg12 : arg12.IsWhole
  arg13 : Memref sig .tc .vmem S1x2x4x1x512 .f32
  harg13 : arg13.IsWhole
  arg14 : Memref sig .tc .vmem S2048x128 .f32
  harg14 : arg14.IsWhole
  arg15 : Memref sig .tc .vmem S2048x128 .f32
  harg15 : arg15.IsWhole

variable (M : Mems) (c : Dev nD) (i : grid0.Coords) (w2 : BitVec 32)
  (v39 v75 : FVec Ideal S1024x128 .bf16) (v113 v124 : FVec Ideal S1024x1 .f32) (v125 : FVec Ideal S1024x128 .f32)
  (X4 : BufTy.Contents (Elt Ideal) M.arg4.view.ty) (X6 : BufTy.Contents (Elt Ideal) M.arg6.view.ty)

/-- The state before trip `k`. -/
abbrev stAt (G13 : BufTy.Contents (Elt Ideal) M.arg13.view.ty) (G14 : BufTy.Contents (Elt Ideal) M.arg14.view.ty)
    (G15 : BufTy.Contents (Elt Ideal) M.arg15.view.ty) (init : FVec Ideal S1024x128 .f32 × FVec Ideal S1024x1 .f32) (k : ℕ) :=
  st_k0_t1 (F := Ideal) Variants.none c none i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 w2 v39 v75 v113 v124 v125 X4 X6 G13 G14 G15 init k

section

variable (k : Fin (k0_t1_loop i).trips)

abbrev keyTile : Vec Ideal S1x512x128 .bf16 :=
  M.arg4.view.readAt (Elt Ideal) (Rect.unit (s := S1x2048x256) (k0_off1 i k) S1x512x128.size (k0_off1_inb i k)).toLoadRect X4

abbrev valTile : Vec Ideal S1x512x128 .bf16 :=
  M.arg4.view.readAt (Elt Ideal) (Rect.unit (s := S1x2048x256) (k0_off4 i k) S1x512x128.size (k0_off4_inb i k)).toLoadRect X4

abbrev decTile0 (m : Memref sig .tc .vmem S1x2x4x1x512 .f32) (X : BufTy.Contents (Elt Ideal) m.view.ty) : Vec Ideal S1x1x1x1x512 .f32 :=
  m.view.readAt (Elt Ideal) (Rect.unit (s := S1x2x4x1x512) (k0_off2 i k) S1x1x1x1x512.size (k0_off2_inb i k)).toLoadRect X

abbrev decTile1 (m : Memref sig .tc .vmem S1x2x4x1x512 .f32) (X : BufTy.Contents (Elt Ideal) m.view.ty) : Vec Ideal S1x1x1x1x512 .f32 :=
  m.view.readAt (Elt Ideal) (Rect.unit (s := S1x2x4x1x512) (k0_off3 i k) S1x1x1x1x512.size (k0_off3_inb i k)).toLoadRect X

abbrev accTile (m : Memref sig .tc .vmem S2048x128 .f32) (X : BufTy.Contents (Elt Ideal) m.view.ty) : Vec Ideal S512x128 .f32 :=
  m.view.readAt (Elt Ideal) (Rect.unit (s := S2048x128) (k0_off5 i k) S512x128.size (k0_off5_inb i k)).toLoadRect X

/-- The gradients of a trip's scores. -/
abbrev tripDs : FVec Ideal S1024x512 .f32 :=
  k0_pay7 v39 v75 v113 v124 (keyTile M i X4 k) (decTile0 i k M.arg6 X6) (decTile1 i k M.arg6 X6) (valTile M i X4 k)

abbrev tripDsb : FVec Ideal S1024x512 .bf16 :=
  k0_pay8 v39 v75 v113 v124 (keyTile M i X4 k) (decTile0 i k M.arg6 X6) (decTile1 i k M.arg6 X6) (valTile M i X4 k)

variable (acc : FVec Ideal S1024x128 .f32 × FVec Ideal S1024x1 .f32) (f13 : BufTy.Contents (Elt Ideal) M.arg13.view.ty)
  (f14 : BufTy.Contents (Elt Ideal) M.arg14.view.ty) (f15 : BufTy.Contents (Elt Ideal) M.arg15.view.ty)

theorem trip_carry : (trip_k0_t1 (F := Ideal) Variants.none c none i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 w2 v39 v75 v113 v124 v125 X4 X6 k).1 acc f13 f14 f15
    = (k0_pay37 acc.1 (k0_pay14 (k0_pay5 (keyTile M i X4 k)) (tripDsb M i v39 v75 v113 v124 X4 X6 k)),
       k0_pay38 acc.2 (tripDs M i v39 v75 v113 v124 X4 X6 k)) := by
  unfold trip_k0_t1; rfl

theorem trip_dec : (trip_k0_t1 (F := Ideal) Variants.none c none i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 w2 v39 v75 v113 v124 v125 X4 X6 k).2.1 acc f13 f14 f15
    = [⟨Rect.unit (s := S1x2x4x1x512) (k0_off3 i k) S1x1x1x1x512.size (k0_off3_inb i k),
          k0_pay13 (tripDs M i v39 v75 v113 v124 X4 X6 k) (decTile1 i k M.arg13 f13)⟩,
       ⟨Rect.unit (s := S1x2x4x1x512) (k0_off2 i k) S1x1x1x1x512.size (k0_off2_inb i k),
          k0_pay12 (tripDs M i v39 v75 v113 v124 X4 X6 k) (decTile0 i k M.arg13 f13)⟩] := by
  unfold trip_k0_t1; rfl

theorem trip_dk : (trip_k0_t1 (F := Ideal) Variants.none c none i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 w2 v39 v75 v113 v124 v125 X4 X6 k).2.2.1 acc f13 f14 f15
    = [⟨Rect.unit (s := S2048x128) (k0_off5 i k) S512x128.size (k0_off5_inb i k),
          k0_pay11 v39 (tripDsb M i v39 v75 v113 v124 X4 X6 k) (accTile i k M.arg14 f14)⟩] := by
  unfold trip_k0_t1; rfl

theorem trip_dv : (trip_k0_t1 (F := Ideal) Variants.none c none i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 w2 v39 v75 v113 v124 v125 X4 X6 k).2.2.2.1 acc f13 f14 f15
    = [⟨Rect.unit (s := S2048x128) (k0_off5 i k) S512x128.size (k0_off5_inb i k),
          k0_pay10 (k0_pay9 v39 v75 v124 (keyTile M i X4 k) (decTile0 i k M.arg6 X6) (decTile1 i k M.arg6 X6) (accTile i k M.arg15 f15))⟩] := by
  unfold trip_k0_t1; rfl

end

/-! ## What the loads read -/

theorem trips_le (k : Fin (k0_t1_loop i).trips) : k.val < 3 := lt_of_lt_of_le k.isLt (k0_t1_abs i).2.1

/-- A load of 512 rows of the keys and the values from row `o`, the columns from `q`. -/
theorem kv_read {KV : ℕ → ℕ → ℝ} (m : Memref sig .tc .vmem S1x2048x256 .bf16) (X : BufTy.Contents (Elt Ideal) m.view.ty)
    (h : ∀ (j : Fin 2048) (l : Fin 256), m.view.read (Elt Ideal) X (ix3 0 j l) = (KV j l : EReal)) {off : Fin 3 → ℕ} (o q : ℕ)
    (e : off = ![0, o, q]) (ho : o + 512 ≤ 2048) (hq : q + 128 ≤ 256) (inb : ∀ a, off a + S1x512x128.size a ≤ S1x2048x256.size a)
    (j : Fin 512) (l : Fin 128) :
    m.view.readAt (Elt Ideal) (Rect.unit (s := S1x2048x256) off S1x512x128.size inb).toLoadRect X (ix3 0 j l)
      = (KV (o + j) (q + l) : EReal) := by
  subst e
  refine Eq.trans ?_ (h ⟨o + j, by omega⟩ ⟨q + l, by omega⟩)
  refine congrArg (m.view.read (Elt Ideal) X) (funext fun a => Fin.ext ?_)
  match a with
  | ⟨0, _⟩ => rfl
  | ⟨1, _⟩ => show o + 1 * j.val = o + j; omega
  | ⟨2, _⟩ => show q + 1 * l.val = q + l; omega

/-- A load of one block of a decays' array: head `e`, block `b`. -/
theorem dec_read {C : ℕ → ℕ → ℝ} (m : Memref sig .tc .vmem S1x2x4x1x512 .f32) (X : BufTy.Contents (Elt Ideal) m.view.ty)
    (h : ∀ (e : Fin 2) (b : Fin 4) (j : Fin 512), m.view.read (Elt Ideal) X (ix5 0 e b 0 j) = (C e (512 * b + j) : EReal))
    {off : Fin 5 → ℕ} (e b : ℕ) (ho : off = ![0, e, b, 0, 0]) (he : e < 2) (hb : b < 4)
    (inb : ∀ a, off a + S1x1x1x1x512.size a ≤ S1x2x4x1x512.size a) (j : Fin 512) :
    m.view.readAt (Elt Ideal) (Rect.unit (s := S1x2x4x1x512) off S1x1x1x1x512.size inb).toLoadRect X (ix5 0 0 0 0 j)
      = (C e (512 * b + j) : EReal) := by
  subst ho
  refine Eq.trans ?_ (h ⟨e, he⟩ ⟨b, hb⟩ j)
  refine congrArg (m.view.read (Elt Ideal) X) (funext fun a => Fin.ext ?_)
  match a with
  | ⟨0, _⟩ => rfl
  | ⟨1, _⟩ => rfl
  | ⟨2, _⟩ => rfl
  | ⟨3, _⟩ => rfl
  | ⟨4, _⟩ => show 0 + 1 * j.val = j.val; omega

/-- A load of 512 rows of an accumulator from row `o`. -/
theorem acc_read {Y : ℕ → ℕ → ℝ} (m : Memref sig .tc .vmem S2048x128 .f32) (X : BufTy.Contents (Elt Ideal) m.view.ty)
    (h : ∀ (j : Fin 2048) (l : Fin 128), m.view.read (Elt Ideal) X (ix2 j l) = (Y j l : EReal)) {off : Fin 2 → ℕ} (o : ℕ)
    (e : off = ![o, 0]) (ho : o + 512 ≤ 2048) (inb : ∀ a, off a + S512x128.size a ≤ S2048x128.size a) (j : Fin 512) (l : Fin 128) :
    m.view.readAt (Elt Ideal) (Rect.unit (s := S2048x128) off S512x128.size inb).toLoadRect X (ix2 j l) = (Y (o + j) l : EReal) := by
  subst e
  refine Eq.trans ?_ (h ⟨o + j, by omega⟩ l)
  refine congrArg (m.view.read (Elt Ideal) X) (funext fun a => Fin.ext ?_)
  match a with
  | ⟨0, _⟩ => show o + 1 * j.val = o + j; omega
  | ⟨1, _⟩ => show 0 + 1 * l.val = l.val; omega

theorem keyTile_real {KV : ℕ → ℕ → ℝ}
    (h : ∀ (j : Fin 2048) (l : Fin 256), M.arg4.view.read (Elt Ideal) X4 (ix3 0 j l) = (KV j l : EReal))
    (k : Fin (k0_t1_loop i).trips) (j : Fin 512) (l : Fin 128) : keyTile M i X4 k (ix3 0 j l) = (KV (512 * k + j) l : EReal) :=
  (kv_read M.arg4 X4 h (512 * k) 0 (k0_off1_eq i k) (by have := trips_le i k; omega) (by omega) _ j l).trans (by rw [Nat.zero_add])

theorem valTile_real {KV : ℕ → ℕ → ℝ}
    (h : ∀ (j : Fin 2048) (l : Fin 256), M.arg4.view.read (Elt Ideal) X4 (ix3 0 j l) = (KV j l : EReal))
    (k : Fin (k0_t1_loop i).trips) (j : Fin 512) (l : Fin 128) :
    valTile M i X4 k (ix3 0 j l) = (KV (512 * k + j) (128 + l) : EReal) :=
  kv_read M.arg4 X4 h (512 * k) 128 (k0_off4_eq i k) (by have := trips_le i k; omega) (by omega) _ j l

theorem decTile0_real {C : ℕ → ℕ → ℝ} (m : Memref sig .tc .vmem S1x2x4x1x512 .f32) (X : BufTy.Contents (Elt Ideal) m.view.ty)
    (h : ∀ (e : Fin 2) (b : Fin 4) (j : Fin 512), m.view.read (Elt Ideal) X (ix5 0 e b 0 j) = (C e (512 * b + j) : EReal))
    (k : Fin (k0_t1_loop i).trips) (j : Fin 512) : decTile0 i k m X (ix5 0 0 0 0 j) = (C 0 (512 * k + j) : EReal) :=
  dec_read m X h 0 k (k0_off2_eq i k) (by omega) (by have := trips_le i k; omega) _ j

theorem decTile1_real {C : ℕ → ℕ → ℝ} (m : Memref sig .tc .vmem S1x2x4x1x512 .f32) (X : BufTy.Contents (Elt Ideal) m.view.ty)
    (h : ∀ (e : Fin 2) (b : Fin 4) (j : Fin 512), m.view.read (Elt Ideal) X (ix5 0 e b 0 j) = (C e (512 * b + j) : EReal))
    (k : Fin (k0_t1_loop i).trips) (j : Fin 512) : decTile1 i k m X (ix5 0 0 0 0 j) = (C 1 (512 * k + j) : EReal) :=
  dec_read m X h 1 k (k0_off3_eq i k) (by omega) (by have := trips_le i k; omega) _ j

theorem accTile_real {Y : ℕ → ℕ → ℝ} (m : Memref sig .tc .vmem S2048x128 .f32) (X : BufTy.Contents (Elt Ideal) m.view.ty)
    (h : ∀ (j : Fin 2048) (l : Fin 128), m.view.read (Elt Ideal) X (ix2 j l) = (Y j l : EReal))
    (k : Fin (k0_t1_loop i).trips) (j : Fin 512) (l : Fin 128) : accTile i k m X (ix2 j l) = (Y (512 * k + j) l : EReal) :=
  acc_read m X h (512 * k) (k0_off5_eq i k) (by have := trips_le i k; omega) _ j l

/-! ## What the stores leave -/

/-- A store of 512 rows of an accumulator from row `o`. -/
theorem store_rows {Y Z : ℕ → ℕ → ℝ} (m : Memref sig .tc .vmem S2048x128 .f32) (f : BufTy.Contents (Elt Ideal) m.view.ty)
    (L : List (View.Piece (Elt Ideal) S2048x128 .f32)) {off : Fin 2 → ℕ} (o : ℕ) (ho : off = ![o, 0])
    (inb : ∀ a, off a + S512x128.size a ≤ S2048x128.size a) (w : Vec Ideal S512x128 .f32)
    (h : ∀ (j : Fin 2048) (l : Fin 128), m.view.read (Elt Ideal) (m.view.writes (Elt Ideal) f L) (ix2 j l) = (Y j l : EReal))
    (hw : ∀ (j : Fin 512) (l : Fin 128), w (ix2 j l) = (Z (o + j) l : EReal)) (j : Fin 2048) (l : Fin 128) :
    m.view.read (Elt Ideal) (m.view.writes (Elt Ideal) f (⟨Rect.unit (s := S2048x128) off S512x128.size inb, w⟩ :: L)) (ix2 j l)
      = ((if o ≤ j.val ∧ j.val < o + 512 then Z j l else Y j l : ℝ) : EReal) := by
  by_cases e : o ≤ j.val ∧ j.val < o + 512
  · rw [if_pos e]
    refine (View.read_writes_cons_rows_of_mem m.view f inb w L (ix2 j l) (ix2 (⟨j - o, by omega⟩ : Fin 512) l : S512x128.Idx) ho ?_ ?_).trans ?_
    · show j.val = o + (j - o); omega
    · rfl
    · refine (hw ⟨j - o, by omega⟩ l).trans ?_
      rw [show o + (j.val - o) = j.val by omega]
  · rw [if_neg e]
    refine (View.read_writes_cons_rows_of_not_mem (W := 512) m.view f inb w L (ix2 j l) ho rfl ?_).trans (h j l)
    show j.val < o ∨ o + 512 ≤ j.val
    omega

/-- A store of one block of the decays' gradient: head `e`, block `b`. -/
theorem store_dec {Y : ℕ → ℕ → ℝ} {Z : ℕ → ℝ} (m : Memref sig .tc .vmem S1x2x4x1x512 .f32) (f : BufTy.Contents (Elt Ideal) m.view.ty)
    (L : List (View.Piece (Elt Ideal) S1x2x4x1x512 .f32)) {off : Fin 5 → ℕ} (e₀ b₀ : ℕ) (ho : off = ![0, e₀, b₀, 0, 0])
    (inb : ∀ a, off a + S1x1x1x1x512.size a ≤ S1x2x4x1x512.size a) (w : Vec Ideal S1x1x1x1x512 .f32)
    (h : ∀ (e : Fin 2) (b : Fin 4) (j : Fin 512),
      m.view.read (Elt Ideal) (m.view.writes (Elt Ideal) f L) (ix5 0 e b 0 j) = (Y e (512 * b + j) : EReal))
    (hw : ∀ j : Fin 512, w (ix5 0 0 0 0 j) = (Z (512 * b₀ + j) : EReal)) (e : Fin 2) (b : Fin 4) (j : Fin 512) :
    m.view.read (Elt Ideal) (m.view.writes (Elt Ideal) f (⟨Rect.unit (s := S1x2x4x1x512) off S1x1x1x1x512.size inb, w⟩ :: L))
        (ix5 0 e b 0 j)
      = ((if e.val = e₀ ∧ b.val = b₀ then Z (512 * b + j) else Y e (512 * b + j) : ℝ) : EReal) := by
  by_cases he : e.val = e₀ ∧ b.val = b₀
  · obtain ⟨rfl, rfl⟩ := he
    rw [if_pos ⟨rfl, rfl⟩]
    refine (View.read_writes_cons_unit_of_mem m.view f inb w L (ix5 0 e b 0 j) (ix5 0 0 0 0 j : S1x1x1x1x512.Idx) ho fun a => ?_).trans (hw j)
    match a with
    | ⟨0, _⟩ => rfl
    | ⟨1, _⟩ => rfl
    | ⟨2, _⟩ => rfl
    | ⟨3, _⟩ => rfl
    | ⟨4, _⟩ => exact (Nat.zero_add _).symm
  · rw [if_neg he]
    by_cases h1 : e.val = e₀
    · refine (View.read_writes_cons_unit_of_not_mem m.view f inb w L (ix5 0 e b 0 j) ho 2 ?_).trans (h e b j)
      show b.val < b₀ ∨ b₀ + 1 ≤ b.val
      omega
    · refine (View.read_writes_cons_unit_of_not_mem m.view f inb w L (ix5 0 e b 0 j) ho 1 ?_).trans (h e b j)
      show e.val < e₀ ∨ e₀ + 1 ≤ e.val
      omega

end Fox

end
-- ==== Proof.Loop.lean ====
/-
The call's loop over the blocks of keys before the diagonal, over the real numbers: what it carries and what it leaves in
the gradients of the keys, of the values and of the decays.
-/
module

public import proofs.«01_k».proof.Proof.Trip

@[expose] public section

noncomputable section

set_option maxRecDepth 16384

namespace Fox

open Idealize.ShloMosaic Idealize.ShloMosaic.TcCoe Idealize.SL.Sem Cert.KernelIdeal Cert.KernelIdeal.Gen
open scoped Pointwise

/-- The data of one point over the real numbers: the block of queries `n`, the scaled queries and the cotangent stacked by
heads (`A`, `B`), the keys beside the values (`KV`), the rows' decays less the logs of their normalisers, the rows' mean
gradients, and the keys' decays by head. -/
structure Rows where
  n : ℕ
  A : ℕ → ℕ → ℝ
  B : ℕ → ℕ → ℝ
  KV : ℕ → ℕ → ℝ
  bias : ℕ → ℝ
  del : ℕ → ℝ
  C : ℕ → ℕ → ℝ

namespace Rows

variable (R : Rows)

/-- The weight of key `j` for row `r`: none for a key later than the row's query. -/
def p (r j : ℕ) : ℝ := if j ≤ 512 * R.n + r % 512 then pBefore R.A R.KV R.bias (R.C 0) (R.C 1) r j else 0

/-- The gradient of the score of row `r` with key `j`. -/
def d (r j : ℕ) : ℝ := dsOf R.p R.B (fun j l => R.KV j (128 + l)) R.del r j

/-- What the queries' gradient has gathered from the first `m` keys. -/
def dq (m r l : ℕ) : ℝ := ∑ j ∈ Finset.range m, R.d r j * R.KV j l

/-- What the gradient of the queries' decay has gathered from the first `m` keys. -/
def dcq (m r : ℕ) : ℝ := ∑ j ∈ Finset.range m, R.d r j

/-- The values' gradient once the first `m` keys are through. -/
def dv (Y : ℕ → ℕ → ℝ) (m j l : ℕ) : ℝ := if j < m then Y j l + ∑ r ∈ Finset.range 1024, R.p r j * R.B r l else Y j l

/-- The keys' gradient once the first `m` keys are through. -/
def dk (Y : ℕ → ℕ → ℝ) (m j l : ℕ) : ℝ := if j < m then Y j l + ∑ r ∈ Finset.range 1024, R.d r j * R.A r l else Y j l

/-- The gradient of the keys' decay once the first `m` keys are through. -/
def dc (Y : ℕ → ℕ → ℝ) (m e j : ℕ) : ℝ := if j < m then Y e j - ∑ r ∈ Finset.range 512, R.d (512 * e + r) j else Y e j

theorem dq_step (m r l : ℕ) : R.dq m r l + ∑ j ∈ Finset.range 512, R.d r (m + j) * R.KV (m + j) l = R.dq (m + 512) r l := by
  unfold dq; rw [Finset.sum_range_add]

theorem dcq_step (m r : ℕ) : R.dcq m r + ∑ j ∈ Finset.range 512, R.d r (m + j) = R.dcq (m + 512) r := by
  unfold dcq; rw [Finset.sum_range_add]

theorem dv_step (Y : ℕ → ℕ → ℝ) (m j l : ℕ) :
    (if m ≤ j ∧ j < m + 512 then R.dv Y m j l + ∑ r ∈ Finset.range 1024, R.p r j * R.B r l else R.dv Y m j l)
      = R.dv Y (m + 512) j l := by
  unfold dv; grind

theorem dk_step (Y : ℕ → ℕ → ℝ) (m j l : ℕ) :
    (if m ≤ j ∧ j < m + 512 then R.dk Y m j l + ∑ r ∈ Finset.range 1024, R.d r j * R.A r l else R.dk Y m j l)
      = R.dk Y (m + 512) j l := by
  unfold dk; grind

theorem dc_step (Y : ℕ → ℕ → ℝ) (k e b j : ℕ) (hj : j < 512) (he : e < 2) :
    (if e = 1 ∧ b = k then R.dc Y (512 * k) 1 (512 * b + j) - ∑ r ∈ Finset.range 512, R.d (512 + r) (512 * b + j)
      else if e = 0 ∧ b = k then R.dc Y (512 * k) 0 (512 * b + j) - ∑ r ∈ Finset.range 512, R.d r (512 * b + j)
      else R.dc Y (512 * k) e (512 * b + j))
      = R.dc Y (512 * k + 512) e (512 * b + j) := by
  have h01 : e = 0 ∨ e = 1 := by omega
  unfold dc
  by_cases hb : b = k
  · subst hb
    rw [if_neg (show ¬ 512 * b + j < 512 * b by omega), if_neg (show ¬ 512 * b + j < 512 * b by omega),
      if_neg (show ¬ 512 * b + j < 512 * b by omega), if_pos (show 512 * b + j < 512 * b + 512 by omega)]
    rcases h01 with rfl | rfl
    · rw [if_neg (by omega), if_pos ⟨rfl, rfl⟩]; simp
    · rw [if_pos ⟨rfl, rfl⟩]
  · rw [if_neg (by omega), if_neg (by omega)]
    by_cases h : b < k
    · rw [if_pos (by omega), if_pos (by omega)]
    · rw [if_neg (by omega), if_neg (by omega)]

end Rows

/-- What a point reads, over the real numbers. -/
structure Reads (M : Mems) (R : Rows) (v39 v75 : FVec Ideal S1024x128 .bf16) (v113 v124 : FVec Ideal S1024x1 .f32)
    (X4 : BufTy.Contents (Elt Ideal) M.arg4.view.ty) (X6 : BufTy.Contents (Elt Ideal) M.arg6.view.ty) : Prop where
  hA : ∀ (r : Fin 1024) (l : Fin 128), v39 (ix2 r l) = (R.A r l : EReal)
  hB : ∀ (r : Fin 1024) (l : Fin 128), v75 (ix2 r l) = (R.B r l : EReal)
  hdel : ∀ r : Fin 1024, v113 (ix2 r 0) = (R.del r : EReal)
  hbias : ∀ r : Fin 1024, v124 (ix2 r 0) = (R.bias r : EReal)
  hKV : ∀ (j : Fin 2048) (l : Fin 256), M.arg4.view.read (Elt Ideal) X4 (ix3 0 j l) = (R.KV j l : EReal)
  hC : ∀ (e : Fin 2) (b : Fin 4) (j : Fin 512), M.arg6.view.read (Elt Ideal) X6 (ix5 0 e b 0 j) = (R.C e (512 * b + j) : EReal)

/-- An accumulator's buffer holds the real numbers `Y`. -/
def HoldsAcc (m : Memref sig .tc .vmem S2048x128 .f32) (f : BufTy.Contents (Elt Ideal) m.view.ty) (Y : ℕ → ℕ → ℝ) : Prop :=
  ∀ (j : Fin 2048) (l : Fin 128), m.view.read (Elt Ideal) f (ix2 j l) = (Y j l : EReal)

/-- The buffer of the decays' gradient holds the real numbers `Y`, by head and key. -/
def HoldsDec (m : Memref sig .tc .vmem S1x2x4x1x512 .f32) (f : BufTy.Contents (Elt Ideal) m.view.ty) (Y : ℕ → ℕ → ℝ) : Prop :=
  ∀ (e : Fin 2) (b : Fin 4) (j : Fin 512), m.view.read (Elt Ideal) f (ix5 0 e b 0 j) = (Y e (512 * b + j) : EReal)

variable (M : Mems) (c : Dev nD) (i : grid0.Coords) (w2 : BitVec 32)
  (v39 v75 : FVec Ideal S1024x128 .bf16) (v113 v124 : FVec Ideal S1024x1 .f32) (v125 : FVec Ideal S1024x128 .f32)
  (X4 : BufTy.Contents (Elt Ideal) M.arg4.view.ty) (X6 : BufTy.Contents (Elt Ideal) M.arg6.view.ty)
  (G13 : BufTy.Contents (Elt Ideal) M.arg13.view.ty) (G14 : BufTy.Contents (Elt Ideal) M.arg14.view.ty)
  (G15 : BufTy.Contents (Elt Ideal) M.arg15.view.ty) (init : FVec Ideal S1024x128 .f32 × FVec Ideal S1024x1 .f32)

theorem stAt_succ (k : Fin (k0_t1_loop i).trips) :
    let s := stAt M c i w2 v39 v75 v113 v124 v125 X4 X6 G13 G14 G15 init k.val
    let T := trip_k0_t1 (F := Ideal) Variants.none c none i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 w2 v39 v75 v113 v124 v125 X4 X6 k
    let f13 := M.arg13.view.writes (Elt Ideal) G13 s.2.1
    let f14 := M.arg14.view.writes (Elt Ideal) G14 s.2.2.1
    let f15 := M.arg15.view.writes (Elt Ideal) G15 s.2.2.2
    stAt M c i w2 v39 v75 v113 v124 v125 X4 X6 G13 G14 G15 init (k.val + 1)
      = (T.1 s.1 f13 f14 f15, T.2.1 s.1 f13 f14 f15 ++ s.2.1, T.2.2.1 s.1 f13 f14 f15 ++ s.2.2.1,
          T.2.2.2.1 s.1 f13 f14 f15 ++ s.2.2.2) := by
  dsimp only
  unfold stAt
  rw [st_k0_t1_succ]

/-- The state of the loop before trip `k`, over the real numbers. -/
structure LoopAt (R : Rows) (Y13 Y14 Y15 : ℕ → ℕ → ℝ) (k : ℕ) : Prop where
  dq : ∀ (r : Fin 1024) (l : Fin 128),
    (stAt M c i w2 v39 v75 v113 v124 v125 X4 X6 G13 G14 G15 init k).1.1 (ix2 r l) = (R.dq (512 * k) r l : EReal)
  dcq : ∀ r : Fin 1024,
    (stAt M c i w2 v39 v75 v113 v124 v125 X4 X6 G13 G14 G15 init k).1.2 (ix2 r 0) = (R.dcq (512 * k) r : EReal)
  dc : HoldsDec M.arg13 (M.arg13.view.writes (Elt Ideal) G13
    (stAt M c i w2 v39 v75 v113 v124 v125 X4 X6 G13 G14 G15 init k).2.1) (R.dc Y13 (512 * k))
  dk : HoldsAcc M.arg14 (M.arg14.view.writes (Elt Ideal) G14
    (stAt M c i w2 v39 v75 v113 v124 v125 X4 X6 G13 G14 G15 init k).2.2.1) (R.dk Y14 (512 * k))
  dv : HoldsAcc M.arg15 (M.arg15.view.writes (Elt Ideal) G15
    (stAt M c i w2 v39 v75 v113 v124 v125 X4 X6 G13 G14 G15 init k).2.2.2) (R.dv Y15 (512 * k))

section

variable {M v39 v75 v113 v124 X4 X6 i}
variable {R : Rows} (hR : Reads M R v39 v75 v113 v124 X4 X6)
include hR

variable (k : Fin (k0_t1_loop i).trips) (hk : k.val < R.n)
include hk

theorem trip_p (r : Fin 1024) (j : Fin 512) :
    k0_pay6 v39 v124 (keyTile M i X4 k) (decTile0 i k M.arg6 X6) (decTile1 i k M.arg6 X6) (ix2 r j) = (R.p r (512 * k + j) : EReal) := by
  refine (pay6_real hR.hA (K := fun j => R.KV (512 * k + j)) (C0 := fun j => R.C 0 (512 * k + j))
    (C1 := fun j => R.C 1 (512 * k + j)) (fun j l => keyTile_real M i X4 hR.hKV k j l) hR.hbias
    (fun j => decTile0_real i M.arg6 X6 hR.hC k j) (fun j => decTile1_real i M.arg6 X6 hR.hC k j) r j).trans ?_
  unfold Rows.p
  rw [if_pos (by omega)]
  rfl

theorem trip_d (r : Fin 1024) (j : Fin 512) : tripDs M i v39 v75 v113 v124 X4 X6 k (ix2 r j) = (R.d r (512 * k + j) : EReal) :=
  pay7_real (p := fun r j => R.p r (512 * k + j)) (V := fun j l => R.KV (512 * k + j) (128 + l)) (trip_p hR k hk) hR.hB
    (fun j l => valTile_real M i X4 hR.hKV k j l) hR.hdel r j

theorem trip_db (r : Fin 1024) (j : Fin 512) : tripDsb M i v39 v75 v113 v124 X4 X6 k (ix2 r j) = (R.d r (512 * k + j) : EReal) :=
  trip_d hR k hk r j

end

variable {M v39 v75 v113 v124 X4 X6 G13 G14 G15 init i}

theorem loop_step {R : Rows} (hR : Reads M R v39 v75 v113 v124 X4 X6) {Y13 Y14 Y15 : ℕ → ℕ → ℝ}
    (k : Fin (k0_t1_loop i).trips) (hk : k.val < R.n)
    (h : LoopAt M c i w2 v39 v75 v113 v124 v125 X4 X6 G13 G14 G15 init R Y13 Y14 Y15 k.val) :
    LoopAt M c i w2 v39 v75 v113 v124 v125 X4 X6 G13 G14 G15 init R Y13 Y14 Y15 (k.val + 1) := by
  have e := stAt_succ M c i w2 v39 v75 v113 v124 v125 X4 X6 G13 G14 G15 init k
  dsimp only at e
  rw [trip_carry, trip_dec, trip_dk, trip_dv] at e
  obtain ⟨hdq, hdcq, hdc, hdk, hdv⟩ := h
  have h512 : 512 * (k.val + 1) = 512 * k + 512 := by ring
  generalize hs : stAt M c i w2 v39 v75 v113 v124 v125 X4 X6 G13 G14 G15 init k.val = s at *
  constructor
  · intro r l
    rw [e, h512, ← R.dq_step]
    exact pay37_real (D := fun r j => R.d r (512 * k + j)) (K := fun j => R.KV (512 * k + j)) (trip_db hR k hk)
      (fun j l => keyTile_real M i X4 hR.hKV k j l) hdq r l
  · intro r
    rw [e, h512, ← R.dcq_step]
    exact pay38_real (D := fun r j => R.d r (512 * k + j)) (trip_d hR k hk) hdcq r
  · intro e' b j
    rw [e, h512, ← R.dc_step _ _ _ _ _ j.isLt e'.isLt]
    exact store_dec M.arg13 _ _ (Z := fun J => R.dc Y13 (512 * k) 1 J - ∑ r ∈ Finset.range 512, R.d (512 + r) J)
      (Y := fun e J => if e = 0 ∧ J / 512 = k then R.dc Y13 (512 * k) 0 J - ∑ r ∈ Finset.range 512, R.d r J else R.dc Y13 (512 * k) e J) 1 k (k0_off3_eq i k) _ _
      (fun e b j => (store_dec M.arg13 _ _ (Z := fun J => R.dc Y13 (512 * k) 0 J - ∑ r ∈ Finset.range 512, R.d r J) 0 k (k0_off2_eq i k) _ _ hdc
        (fun j => pay12_real (D := fun r j => R.d r (512 * k + j)) (X := fun j => R.dc Y13 (512 * k) 0 (512 * k + j)) (trip_d hR k hk)
          (fun j => decTile0_real i M.arg13 _ hdc k j) j) e b j).trans
        (by rw [show (512 * b.val + j.val) / 512 = b.val by omega]))
      (fun j => pay13_real (D := fun r j => R.d r (512 * k + j)) (X := fun j => R.dc Y13 (512 * k) 1 (512 * k + j)) (trip_d hR k hk)
          (fun j => decTile1_real i M.arg13 _ hdc k j) j) e' b j |>.trans
        (by rw [show (512 * b.val + j.val) / 512 = b.val by omega])
  · intro j l
    rw [e, h512, ← R.dk_step]
    exact store_rows M.arg14 _ _ (Z := fun j l => R.dk Y14 (512 * k) j l + ∑ r ∈ Finset.range 1024, R.d r j * R.A r l) (512 * k)
      (k0_off5_eq i k) _ _ hdk (fun j l => pay11_real (D := fun r j => R.d r (512 * k + j))
        (X := fun j => R.dk Y14 (512 * k) (512 * k + j)) (trip_db hR k hk) hR.hA (fun j l => accTile_real i M.arg14 _ hdk k j l) j l) j l
  · intro j l
    rw [e, h512, ← R.dv_step]
    exact store_rows M.arg15 _ _ (Z := fun j l => R.dv Y15 (512 * k) j l + ∑ r ∈ Finset.range 1024, R.p r j * R.B r l) (512 * k)
      (k0_off5_eq i k) _ _ hdv (fun j l => pay10_real (p := fun r j => R.p r (512 * k + j))
        (X := fun j => R.dv Y15 (512 * k) (512 * k + j)) (trip_p hR k hk) hR.hB (fun j l => accTile_real i M.arg15 _ hdv k j l) j l) j l

/-- The loop, over the real numbers. -/
theorem loop_at {R : Rows} (hR : Reads M R v39 v75 v113 v124 X4 X6) {Y13 Y14 Y15 : ℕ → ℕ → ℝ}
    (h1 : ∀ (r : Fin 1024) (l : Fin 128), init.1 (ix2 r l) = ((0 : ℝ) : EReal)) (h2 : ∀ r : Fin 1024, init.2 (ix2 r 0) = ((0 : ℝ) : EReal))
    (h13 : HoldsDec M.arg13 G13 Y13) (h14 : HoldsAcc M.arg14 G14 Y14) (h15 : HoldsAcc M.arg15 G15 Y15) :
    ∀ k : ℕ, k ≤ R.n → k ≤ (k0_t1_loop i).trips → LoopAt M c i w2 v39 v75 v113 v124 v125 X4 X6 G13 G14 G15 init R Y13 Y14 Y15 k := by
  intro k
  induction k with
  | zero =>
    intro _ _
    constructor
    · exact fun r l => (h1 r l).trans (by simp [Rows.dq])
    · exact fun r => (h2 r).trans (by simp [Rows.dcq])
    · exact fun e b j => (h13 e b j).trans (by simp [Rows.dc])
    · exact fun j l => (h14 j l).trans (by simp [Rows.dk])
    · exact fun j l => (h15 j l).trans (by simp [Rows.dv])
  | succ k ih =>
    intro hn ht
    exact loop_step c w2 v125 hR ⟨k, ht⟩ hn (ih (by omega) (by omega))

end Fox

end
-- ==== Proof.Diag.lean ====
/-
The step at the diagonal's block of keys, over the real numbers, and what one point of the grid leaves: the queries' gradient
and the gradient of their decay, and what it adds to the gradients of the keys, of the values and of the keys' decay.
-/
module

public import proofs.«01_k».proof.Proof.Loop

@[expose] public section

noncomputable section

set_option maxRecDepth 16384

namespace Fox

open Idealize.ShloMosaic Idealize.ShloMosaic.TcCoe Idealize.SL.Sem Cert.KernelIdeal Cert.KernelIdeal.Gen
open scoped Pointwise

theorem trips1 : ∀ i : grid0.Coords, Scf.trips (k0_t1_loop i).lb (k0_t1_loop i).ub (k0_t1_loop i).st = (i 2).val := by
  decide +kernel

theorem trips2 : ∀ i : grid0.Coords, Scf.trips (k0_t2_loop i).lb (k0_t2_loop i).ub (k0_t2_loop i).st = 0 := by
  decide +kernel

theorem coord_lt (i : grid0.Coords) : (i 2).val < 4 := (i 2).isLt

variable (M : Mems) (i : grid0.Coords)

/-! ## The stacked tiles -/

section

variable (X3 : BufTy.Contents (Elt Ideal) M.arg3.view.ty) (X5 : BufTy.Contents (Elt Ideal) M.arg5.view.ty)
  (X7 : BufTy.Contents (Elt Ideal) M.arg7.view.ty) (X8 : BufTy.Contents (Elt Ideal) M.arg8.view.ty)
  (X9 : BufTy.Contents (Elt Ideal) M.arg9.view.ty)

/-- A whole tile, loaded. -/
abbrev tile {φ : EltTy} (m : Memref sig .tc .vmem S1x512x128 φ) (X : BufTy.Contents (Elt Ideal) m.view.ty) : Vec Ideal S1x512x128 φ :=
  m.view.readAt (Elt Ideal) (Rect.unit (s := S1x512x128) ![0, 0, 0] S1x512x128.size inb_S1x512x128_S1x512x128_0_0_0).toLoadRect X

abbrev qAll : FVec Ideal S1024x128 .bf16 := k0_pay28 (tile M.arg3 X3)
abbrev doAll : FVec Ideal S1024x128 .bf16 := k0_pay30 (tile M.arg9 X9)
abbrev delta : FVec Ideal S1024x1 .f32 :=
  k0_pay33 (k0_pay31 (tile M.arg9 X9) (tile M.arg8 X8)) (iota .tc S512x128 32 [1] iota_S512x128_d1_w32) 64#32 k0_pay32 0#32
abbrev bias : FVec Ideal S1024x1 .f32 := k0_pay34 (tile M.arg5 X5) (tile M.arg7 X7)

theorem tile_at {φ : EltTy} (m : Memref sig .tc .vmem S1x512x128 φ) (X : BufTy.Contents (Elt Ideal) m.view.ty) (r : Fin 512)
    (l : Fin 128) : tile m X (ix3 0 r l) = m.view.read (Elt Ideal) X (ix3 0 r l) := by
  refine congrArg (m.view.read (Elt Ideal) X) (funext fun a => Fin.ext ?_)
  match a with
  | ⟨0, _⟩ => rfl
  | ⟨1, _⟩ => show 0 + 1 * r.val = r.val; omega
  | ⟨2, _⟩ => show 0 + 1 * l.val = l.val; omega

end

/-! ## The diagonal -/

/-- The gradient of the keys' decay after the first head's block and before the second's. -/
def Rows.dcMid (R : Rows) (Y : ℕ → ℕ → ℝ) (k e J : ℕ) : ℝ :=
  if e = 0 ∧ J / 512 = k then R.dc Y (512 * k) 0 J - ∑ r ∈ Finset.range 512, R.d r J else R.dc Y (512 * k) e J

section

variable (v39 v75 : FVec Ideal S1024x128 .bf16) (v113 v124 : FVec Ideal S1024x1 .f32)
  (X4 : BufTy.Contents (Elt Ideal) M.arg4.view.ty) (X6 : BufTy.Contents (Elt Ideal) M.arg6.view.ty)

abbrev diagKey : Vec Ideal S1x512x128 .bf16 :=
  M.arg4.view.readAt (Elt Ideal) (Rect.unit (s := S1x2048x256) (k0_off11 i) S1x512x128.size (k0_off11_inb i)).toLoadRect X4

abbrev diagVal : Vec Ideal S1x512x128 .bf16 :=
  M.arg4.view.readAt (Elt Ideal) (Rect.unit (s := S1x2048x256) (k0_off14 i) S1x512x128.size (k0_off14_inb i)).toLoadRect X4

abbrev diagDec0 (m : Memref sig .tc .vmem S1x2x4x1x512 .f32) (X : BufTy.Contents (Elt Ideal) m.view.ty) : Vec Ideal S1x1x1x1x512 .f32 :=
  m.view.readAt (Elt Ideal) (Rect.unit (s := S1x2x4x1x512) (k0_off12 i) S1x1x1x1x512.size (k0_off12_inb i)).toLoadRect X

abbrev diagDec1 (m : Memref sig .tc .vmem S1x2x4x1x512 .f32) (X : BufTy.Contents (Elt Ideal) m.view.ty) : Vec Ideal S1x1x1x1x512 .f32 :=
  m.view.readAt (Elt Ideal) (Rect.unit (s := S1x2x4x1x512) (k0_off13 i) S1x1x1x1x512.size (k0_off13_inb i)).toLoadRect X

abbrev diagAcc (m : Memref sig .tc .vmem S2048x128 .f32) (X : BufTy.Contents (Elt Ideal) m.view.ty) : Vec Ideal S512x128 .f32 :=
  m.view.readAt (Elt Ideal) (Rect.unit (s := S2048x128) (k0_off15 i) S512x128.size (k0_off15_inb i)).toLoadRect X

/-- The diagonal's scores, before the mask. -/
abbrev diagS : FVec Ideal S1024x512 .f32 :=
  k0_pay42 v39 v124 (diagKey M i X4) (diagDec0 i M.arg6 X6) (diagDec1 i M.arg6 X6)

/-- The number of each column. -/
abbrev cols : IVec S1024x512 32 := iota .tc S1024x512 32 [1] iota_S1024x512_d1_w32

abbrev diagDs : FVec Ideal S1024x512 .f32 :=
  k0_pay45 v75 v113 (diagS M i v39 v124 X4 X6) k0_pay43 cols (diagVal M i X4)

abbrev diagDsb : FVec Ideal S1024x512 .bf16 :=
  k0_pay46 v75 v113 (diagS M i v39 v124 X4 X6) k0_pay43 cols (diagVal M i X4)

/-- The pieces the point leaves in an accumulator after those `L` of the loops. -/
abbrev dvPieces (f : BufTy.Contents (Elt Ideal) M.arg15.view.ty) (L : List (View.Piece (Elt Ideal) S2048x128 .f32)) :
    List (View.Piece (Elt Ideal) S2048x128 .f32) :=
  ⟨Rect.unit (s := S2048x128) (k0_off15 i) S512x128.size (k0_off15_inb i),
    k0_pay47 v75 (diagS M i v39 v124 X4 X6) k0_pay43 cols (diagAcc i M.arg15 (M.arg15.view.writes (Elt Ideal) f L))⟩ :: L

abbrev dkPieces (f : BufTy.Contents (Elt Ideal) M.arg14.view.ty) (L : List (View.Piece (Elt Ideal) S2048x128 .f32)) :
    List (View.Piece (Elt Ideal) S2048x128 .f32) :=
  ⟨Rect.unit (s := S2048x128) (k0_off15 i) S512x128.size (k0_off15_inb i),
    k0_pay48 v39 v75 v113 (diagS M i v39 v124 X4 X6) k0_pay43 cols (diagVal M i X4)
      (diagAcc i M.arg14 (M.arg14.view.writes (Elt Ideal) f L))⟩ :: L

abbrev dcPiece (f : BufTy.Contents (Elt Ideal) M.arg13.view.ty) (L : List (View.Piece (Elt Ideal) S1x2x4x1x512 .f32)) :
    List (View.Piece (Elt Ideal) S1x2x4x1x512 .f32) :=
  ⟨Rect.unit (s := S1x2x4x1x512) (k0_off12 i) S1x1x1x1x512.size (k0_off12_inb i),
    k0_pay50 (k0_pay49 v75 v113 (diagS M i v39 v124 X4 X6) k0_pay43 cols (diagVal M i X4)
      (diagDec0 i M.arg13 (M.arg13.view.writes (Elt Ideal) f L)))⟩ :: L

abbrev dcPieces (f : BufTy.Contents (Elt Ideal) M.arg13.view.ty) (L : List (View.Piece (Elt Ideal) S1x2x4x1x512 .f32)) :
    List (View.Piece (Elt Ideal) S1x2x4x1x512 .f32) :=
  ⟨Rect.unit (s := S1x2x4x1x512) (k0_off13 i) S1x1x1x1x512.size (k0_off13_inb i),
    k0_pay51 (diagDs M i v39 v75 v113 v124 X4 X6)
      (diagDec1 i M.arg13 (M.arg13.view.writes (Elt Ideal) f (dcPiece M i v39 v75 v113 v124 X4 X6 f L)))⟩
    :: dcPiece M i v39 v75 v113 v124 X4 X6 f L

variable {M i v39 v75 v113 v124 X4 X6} {R : Rows} (hR : Reads M R v39 v75 v113 v124 X4 X6) (hn : R.n = (i 2).val)
include hR

theorem diagKey_real (j : Fin 512) (l : Fin 128) : diagKey M i X4 (ix3 0 j l) = (R.KV (512 * (i 2).val + j) l : EReal) :=
  (kv_read M.arg4 X4 hR.hKV (512 * (i 2).val) 0 (k0_off11_eq i) (by have := coord_lt i; omega) (by omega) _ j l).trans
    (by rw [Nat.zero_add])

theorem diagVal_real (j : Fin 512) (l : Fin 128) : diagVal M i X4 (ix3 0 j l) = (R.KV (512 * (i 2).val + j) (128 + l) : EReal) :=
  kv_read M.arg4 X4 hR.hKV (512 * (i 2).val) 128 (k0_off14_eq i) (by have := coord_lt i; omega) (by omega) _ j l

include hn

theorem diag_p (r : Fin 1024) (j : Fin 512) :
    k0_pay44 (diagS M i v39 v124 X4 X6) k0_pay43 cols (ix2 r j) = (R.p r (512 * (i 2).val + j) : EReal) := by
  refine (pay44_real (pay42_real (K := fun j => R.KV (512 * (i 2).val + j)) (C0 := fun j => R.C 0 (512 * (i 2).val + j))
    (C1 := fun j => R.C 1 (512 * (i 2).val + j)) hR.hA (diagKey_real hR) hR.hbias
    (fun j => dec_read M.arg6 X6 hR.hC 0 (i 2).val (k0_off12_eq i) (by omega) (coord_lt i) _ j)
    (fun j => dec_read M.arg6 X6 hR.hC 1 (i 2).val (k0_off13_eq i) (by omega) (coord_lt i) _ j)) r j).trans ?_
  unfold Rows.p pDiag
  rw [hn]
  by_cases h : j.val ≤ r.val % 512
  · rw [if_pos h, if_pos (by omega)]; rfl
  · rw [if_neg h, if_neg (by omega)]

theorem diag_d (r : Fin 1024) (j : Fin 512) :
    diagDs M i v39 v75 v113 v124 X4 X6 (ix2 r j) = (R.d r (512 * (i 2).val + j) : EReal) :=
  pay45_real (p := fun r j => R.p r (512 * (i 2).val + j)) (V := fun j l => R.KV (512 * (i 2).val + j) (128 + l))
    (diag_p hR hn) hR.hB (diagVal_real hR) hR.hdel r j

theorem diag_db (r : Fin 1024) (j : Fin 512) :
    diagDsb M i v39 v75 v113 v124 X4 X6 (ix2 r j) = (R.d r (512 * (i 2).val + j) : EReal) := diag_d hR hn r j

variable {Y : ℕ → ℕ → ℝ}

theorem diag_dv {f : BufTy.Contents (Elt Ideal) M.arg15.view.ty} {L : List (View.Piece (Elt Ideal) S2048x128 .f32)}
    (h : HoldsAcc M.arg15 (M.arg15.view.writes (Elt Ideal) f L) (R.dv Y (512 * (i 2).val))) :
    HoldsAcc M.arg15 (M.arg15.view.writes (Elt Ideal) f (dvPieces M i v39 v75 v124 X4 X6 f L)) (R.dv Y (512 * (i 2).val + 512)) := by
  intro j l
  rw [← R.dv_step]
  exact store_rows M.arg15 _ _ (Z := fun j l => R.dv Y (512 * (i 2).val) j l + ∑ r ∈ Finset.range 1024, R.p r j * R.B r l) (512 * (i 2).val)
    (k0_off15_eq i) _ _ h (fun j l => pay47_real (p := fun r j => R.p r (512 * (i 2).val + j))
      (X := fun j => R.dv Y (512 * (i 2).val) (512 * (i 2).val + j)) (diag_p hR hn) hR.hB
      (fun j l => acc_read M.arg15 _ h (512 * (i 2).val) (k0_off15_eq i) (by have := coord_lt i; omega) _ j l) j l) j l

theorem diag_dk {f : BufTy.Contents (Elt Ideal) M.arg14.view.ty} {L : List (View.Piece (Elt Ideal) S2048x128 .f32)}
    (h : HoldsAcc M.arg14 (M.arg14.view.writes (Elt Ideal) f L) (R.dk Y (512 * (i 2).val))) :
    HoldsAcc M.arg14 (M.arg14.view.writes (Elt Ideal) f (dkPieces M i v39 v75 v113 v124 X4 X6 f L)) (R.dk Y (512 * (i 2).val + 512)) := by
  intro j l
  rw [← R.dk_step]
  exact store_rows M.arg14 _ _ (Z := fun j l => R.dk Y (512 * (i 2).val) j l + ∑ r ∈ Finset.range 1024, R.d r j * R.A r l) (512 * (i 2).val)
    (k0_off15_eq i) _ _ h (fun j l => pay48_real (D := fun r j => R.d r (512 * (i 2).val + j))
      (X := fun j => R.dk Y (512 * (i 2).val) (512 * (i 2).val + j)) (diag_d hR hn) hR.hA
      (fun j l => acc_read M.arg14 _ h (512 * (i 2).val) (k0_off15_eq i) (by have := coord_lt i; omega) _ j l) j l) j l

theorem diag_dc {f : BufTy.Contents (Elt Ideal) M.arg13.view.ty} {L : List (View.Piece (Elt Ideal) S1x2x4x1x512 .f32)}
    (h : HoldsDec M.arg13 (M.arg13.view.writes (Elt Ideal) f L) (R.dc Y (512 * (i 2).val))) :
    HoldsDec M.arg13 (M.arg13.view.writes (Elt Ideal) f (dcPieces M i v39 v75 v113 v124 X4 X6 f L)) (R.dc Y (512 * (i 2).val + 512)) := by
  have h0 : HoldsDec M.arg13 (M.arg13.view.writes (Elt Ideal) f (dcPiece M i v39 v75 v113 v124 X4 X6 f L))
      (R.dcMid Y (i 2).val) := fun e b j =>
    (store_dec M.arg13 _ _ (Z := fun J => R.dc Y (512 * (i 2).val) 0 J - ∑ r ∈ Finset.range 512, R.d r J) 0 (i 2).val
      (k0_off12_eq i) _ _ h (fun j => pay50_real (D := fun r j => R.d r (512 * (i 2).val + j))
        (X := fun j => R.dc Y (512 * (i 2).val) 0 (512 * (i 2).val + j)) (diag_d hR hn)
        (fun j => dec_read M.arg13 _ h 0 (i 2).val (k0_off12_eq i) (by omega) (coord_lt i) _ j) j) e b j).trans
      (by unfold Rows.dcMid; rw [show (512 * b.val + j.val) / 512 = b.val by omega])
  intro e b j
  rw [← R.dc_step _ _ _ _ _ j.isLt e.isLt]
  refine (store_dec M.arg13 _ _ (Y := R.dcMid Y (i 2).val) (Z := fun J => R.dc Y (512 * (i 2).val) 1 J - ∑ r ∈ Finset.range 512, R.d (512 + r) J) 1 (i 2).val
    (k0_off13_eq i) _ _ h0 (fun j => pay51_real (D := fun r j => R.d r (512 * (i 2).val + j))
      (X := fun j => R.dc Y (512 * (i 2).val) 1 (512 * (i 2).val + j)) (diag_d hR hn)
      (fun j => (dec_read (C := R.dcMid Y (i 2).val) M.arg13 _ h0 1 (i 2).val (k0_off13_eq i) (by omega) (coord_lt i) _ j).trans
        (by unfold Rows.dcMid; rw [if_neg (by omega)])) j)
    e b j).trans ?_
  unfold Rows.dcMid
  rw [show (512 * b.val + j.val) / 512 = b.val by omega]

/-- The queries' gradient, left by the point. -/
theorem diag_dq {x : FVec Ideal S1024x128 .f32} (hx : ∀ (r : Fin 1024) (l : Fin 128), x (ix2 r l) = (R.dq (512 * (i 2).val) r l : EReal))
    (r : Fin 512) (l : Fin 128) :
    k0_pay1 (k0_pay52 x (k0_pay41 (diagKey M i X4)) (diagDsb M i v39 v75 v113 v124 X4 X6)) k0_pay54 k0_pay55 k0_pay56 (ix3 0 r l)
      = ((R.dq (512 * (i 2).val + 512) (l.val / 64 * 512 + r) l * 8⁻¹ : ℝ) : EReal) := by
  rw [← R.dq_step]
  exact pay1_real (D := fun r j => R.d r (512 * (i 2).val + j)) (K := fun j => R.KV (512 * (i 2).val + j)) (diag_db hR hn)
    (diagKey_real hR) hx r l

/-- The gradient of the queries' decay, left by the point. -/
theorem diag_dcq {x : FVec Ideal S1024x1 .f32} (hx : ∀ r : Fin 1024, x (ix2 r 0) = (R.dcq (512 * (i 2).val) r : EReal))
    (r : Fin 512) (e : Fin 2) :
    k0_pay2 (k0_pay53 x (diagDs M i v39 v75 v113 v124 X4 X6)) (ix4 0 0 r e)
      = ((R.dcq (512 * (i 2).val + 512) (e.val * 512 + r) : ℝ) : EReal) := by
  rw [← R.dcq_step]
  exact pay2_real (D := fun r j => R.d r (512 * (i 2).val + j)) (diag_d hR hn) hx r e

end

end Fox

end
-- ==== Proof.Cases.lean ====
/-
What each of the three kinds of point stores, in the words of the other modules: the first block of queries of a pair of
heads, which clears the accumulators, a block in between, and the last, which writes the keys' and the values' gradients.
-/
module

public import proofs.«01_k».proof.Proof.Diag
public import proofs.«01_k».proof.Proof.Gen.KernelIdeal.Frame

@[expose] public section

noncomputable section

set_option maxRecDepth 65536

namespace Fox

open Idealize.ShloMosaic Idealize.ShloMosaic.TcCoe Idealize.SL.Sem Cert.KernelIdeal Cert.KernelIdeal.Gen
open scoped Pointwise

variable (M : Mems) (c : Dev nD) (i : grid0.Coords)

section

variable (x0 : Vec Ideal S1x512x128 .bf16) (x1 : Vec Ideal S1x2048x256 .bf16) (x2 : Vec Ideal S1x512x128 .f32) (x3 : Vec Ideal S1x2x4x1x512 .f32) (x4 : Vec Ideal S1x512x128 .f32) (x5 : Vec Ideal S1x512x128 .f32) (x6 : Vec Ideal S1x512x128 .f32)

abbrev vQ := qAll M (M.harg3.unread x0)
abbrev vDo := doAll M (M.harg9.unread x6)
abbrev vDel := delta M (M.harg8.unread x5) (M.harg9.unread x6)
abbrev vBias := bias M (M.harg5.unread x2) (M.harg7.unread x4)

/-- The state after the loop of the point that finds `G13 G14 G15` in the buffers it adds to. -/
abbrev ptSt (G13 : BufTy.Contents (Elt Ideal) M.arg13.view.ty) (G14 : BufTy.Contents (Elt Ideal) M.arg14.view.ty)
    (G15 : BufTy.Contents (Elt Ideal) M.arg15.view.ty) :=
  stAt M c i (BitVec.ofNat 32 (i 2).val) (vQ M x0) (vDo M x6) (vDel M x5 x6) (vBias M x2 x4) k0_pay35 (M.harg4.unread x1) (M.harg6.unread x3) G13 G14 G15 (k0_pay35, k0_pay36)
    (Scf.trips (k0_t1_loop i).lb (k0_t1_loop i).ub (k0_t1_loop i).st)

/-- The loop after the diagonal, which makes no trip. -/
abbrev ptRest (G13 : BufTy.Contents (Elt Ideal) M.arg13.view.ty) (G14 : BufTy.Contents (Elt Ideal) M.arg14.view.ty)
    (G15 : BufTy.Contents (Elt Ideal) M.arg15.view.ty) (init : FVec Ideal S1024x128 .f32 × FVec Ideal S1024x1 .f32) :=
  st_k0_t2 (F := Ideal) Variants.none c none i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 (BitVec.ofNat 32 (i 2).val) (vQ M x0) (vDo M x6) (vDel M x5 x6) (vBias M x2 x4) k0_pay35
    (Scalar.addi 0#32 (Scalar.muli (Scalar.divsi (Scalar.subi (BitVec.ofNat 32 (i 2).val) 0#32) 1#32) 1#32)) (M.harg4.unread x1) (M.harg6.unread x3) G13 G14 G15 init
    (Scf.trips (k0_t2_loop i).lb (k0_t2_loop i).ub (k0_t2_loop i).st)

theorem ptRest_none (G13 : BufTy.Contents (Elt Ideal) M.arg13.view.ty) (G14 : BufTy.Contents (Elt Ideal) M.arg14.view.ty)
    (G15 : BufTy.Contents (Elt Ideal) M.arg15.view.ty) (init : FVec Ideal S1024x128 .f32 × FVec Ideal S1024x1 .f32) :
    ptRest M c i x0 x1 x2 x3 x4 x5 x6 G13 G14 G15 init = (init, [], [], []) := by
  unfold ptRest; rw [trips2]; rfl

/-- The tile of the queries' gradient. -/
abbrev ptDq (x : FVec Ideal S1024x128 .f32) : FVec Ideal S1x512x128 .bf16 :=
  k0_pay1 (k0_pay52 x (k0_pay41 (diagKey M i (M.harg4.unread x1))) (diagDsb M i (vQ M x0) (vDo M x6) (vDel M x5 x6) (vBias M x2 x4) (M.harg4.unread x1) (M.harg6.unread x3))) k0_pay54 k0_pay55 k0_pay56

/-- The tile of the gradient of the queries' decay. -/
abbrev ptDcq (x : FVec Ideal S1024x1 .f32) : FVec Ideal S1x1x512x2 .f32 := k0_pay2 (k0_pay53 x (diagDs M i (vQ M x0) (vDo M x6) (vDel M x5 x6) (vBias M x2 x4) (M.harg4.unread x1) (M.harg6.unread x3)))

/-- The cleared accumulators. -/
abbrev zeroDec : List (View.Piece (Elt Ideal) S1x2x4x1x512 .f32) :=
  [⟨Rect.unit (s := S1x2x4x1x512) ![0, 0, 0, 0, 0] S1x2x4x1x512.size inb_S1x2x4x1x512_S1x2x4x1x512_0_0_0_0_0, k0_pay27 (F := Ideal)⟩]
abbrev zeroDk : List (View.Piece (Elt Ideal) S2048x128 .f32) :=
  [⟨Rect.unit (s := S2048x128) ![0, 0] S2048x128.size inb_S2048x128_S2048x128_0_0, k0_pay25 (F := Ideal)⟩]
abbrev zeroDv : List (View.Piece (Elt Ideal) S2048x128 .f32) :=
  [⟨Rect.unit (s := S2048x128) ![0, 0] S2048x128.size inb_S2048x128_S2048x128_0_0, k0_pay26 (F := Ideal)⟩]

section

variable (xo10 : Vec Ideal S1x2x4x1x512 .f32) (xs0 xs1 : Vec Ideal S2048x128 .f32)

theorem wA_q : kernelRun0_A.sl.r (F := Ideal) c M.arg3 M.harg3 x0
    = vQ M x0 := rfl

theorem wA_do : kernelRun0_A.sl.r_1 (F := Ideal) c M.arg9 M.harg9 x6
    = vDo M x6 := rfl

theorem wA_del : kernelRun0_A.sl.r_3 (F := Ideal) c M.arg8 M.harg8 M.arg9 M.harg9 x5 x6
    = vDel M x5 x6 := rfl

theorem wA_bias : kernelRun0_A.sl.r_4 (F := Ideal) c M.arg5 M.harg5 M.arg7 M.harg7 x2 x4
    = vBias M x2 x4 := rfl

theorem wA_key : kernelRun0_A.sl.r_7 (F := Ideal) i M.arg4 M.harg4 x1
    = k0_pay41 (diagKey M i (M.harg4.unread x1)) := rfl

theorem wA_s : kernelRun0_A.sl.r_8 (F := Ideal) c i M.arg3 M.harg3 M.arg4 M.harg4 M.arg5 M.harg5 M.arg6 M.harg6 M.arg7 M.harg7 x0 x1 x2 x3 x4
    = diagS M i (vQ M x0) (vBias M x2 x4) (M.harg4.unread x1) (M.harg6.unread x3) := by
  unfold kernelRun0_A.sl.r_8; rw [wA_q, wA_bias]

theorem wA_ds : kernelRun0_A.sl.r_9 (F := Ideal) c i M.arg3 M.harg3 M.arg4 M.harg4 M.arg5 M.harg5 M.arg6 M.harg6 M.arg7 M.harg7 M.arg8 M.harg8 M.arg9 M.harg9 x0 x1 x2 x3 x4 x5 x6
    = diagDs M i (vQ M x0) (vDo M x6) (vDel M x5 x6) (vBias M x2 x4) (M.harg4.unread x1) (M.harg6.unread x3) := by
  unfold kernelRun0_A.sl.r_9; rw [wA_do, wA_del, wA_s]; rfl

theorem wA_dsb : kernelRun0_A.sl.r_10 (F := Ideal) c i M.arg3 M.harg3 M.arg4 M.harg4 M.arg5 M.harg5 M.arg6 M.harg6 M.arg7 M.harg7 M.arg8 M.harg8 M.arg9 M.harg9 x0 x1 x2 x3 x4 x5 x6
    = diagDsb M i (vQ M x0) (vDo M x6) (vDel M x5 x6) (vBias M x2 x4) (M.harg4.unread x1) (M.harg6.unread x3) := by
  unfold kernelRun0_A.sl.r_10; rw [wA_do, wA_del, wA_s]; rfl

theorem wA_acc1 : kernelRun0_A.sl.r_5 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6
    = (ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).1.1 := by
  unfold kernelRun0_A.sl.r_5; rw [wA_q, wA_do, wA_del, wA_bias]
  exact congrArg (fun z => z.1.1) (ptRest_none M c i x0 x1 x2 x3 x4 x5 x6 _ _ _ _)

theorem wA_acc2 : kernelRun0_A.sl.r_6 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6
    = (ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).1.2 := by
  unfold kernelRun0_A.sl.r_6; rw [wA_q, wA_do, wA_del, wA_bias]
  exact congrArg (fun z => z.1.2) (ptRest_none M c i x0 x1 x2 x3 x4 x5 x6 _ _ _ _)

theorem wA_dv : kernelRun0_A.sl.v179 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6
    = diagAcc i M.arg15 (M.arg15.view.writes (Elt Ideal) M.arg15.view.junk ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.2.2 ++ zeroDv)) := by
  unfold kernelRun0_A.sl.v179; rw [wA_q, wA_do, wA_del, wA_bias]
  exact congrArg (fun z => diagAcc i M.arg15 (M.arg15.view.writes (Elt Ideal) M.arg15.view.junk (z.2.2.2 ++ ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.2.2 ++ zeroDv)))) (ptRest_none M c i x0 x1 x2 x3 x4 x5 x6 _ _ _ _)

theorem wA_dk : kernelRun0_A.sl.v188 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6
    = diagAcc i M.arg14 (M.arg14.view.writes (Elt Ideal) M.arg14.view.junk ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.2.1 ++ zeroDk)) := by
  unfold kernelRun0_A.sl.v188; rw [wA_q, wA_do, wA_del, wA_bias]
  exact congrArg (fun z => diagAcc i M.arg14 (M.arg14.view.writes (Elt Ideal) M.arg14.view.junk (z.2.2.1 ++ ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.2.1 ++ zeroDk)))) (ptRest_none M c i x0 x1 x2 x3 x4 x5 x6 _ _ _ _)

theorem wA_dc0 : kernelRun0_A.sl.v196 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6
    = diagDec0 i M.arg13 (M.arg13.view.writes (Elt Ideal) M.arg13.view.junk ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.1 ++ zeroDec)) := by
  unfold kernelRun0_A.sl.v196; rw [wA_q, wA_do, wA_del, wA_bias]
  exact congrArg (fun z => diagDec0 i M.arg13 (M.arg13.view.writes (Elt Ideal) M.arg13.view.junk (z.2.1 ++ ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.1 ++ zeroDec)))) (ptRest_none M c i x0 x1 x2 x3 x4 x5 x6 _ _ _ _)

theorem wA_dcv : kernelRun0_A.sl.r_11 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6
    = k0_pay49 (vDo M x6) (vDel M x5 x6) (diagS M i (vQ M x0) (vBias M x2 x4) (M.harg4.unread x1) (M.harg6.unread x3)) k0_pay43 cols (diagVal M i (M.harg4.unread x1)) (diagDec0 i M.arg13 (M.arg13.view.writes (Elt Ideal) M.arg13.view.junk ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.1 ++ zeroDec))) := by
  unfold kernelRun0_A.sl.r_11; rw [wA_do, wA_del, wA_s, wA_dc0]; rfl

theorem wA_dc : kernelRun0_A.sl.H10_1_1 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6
    = dcPiece M i (vQ M x0) (vDo M x6) (vDel M x5 x6) (vBias M x2 x4) (M.harg4.unread x1) (M.harg6.unread x3) M.arg13.view.junk ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.1 ++ zeroDec) := by
  unfold kernelRun0_A.sl.H10_1_1; rw [wA_q, wA_do, wA_del, wA_bias, wA_dcv]
  exact congrArg (fun z : _ × List (View.Piece (Elt Ideal) S1x2x4x1x512 .f32) × List (View.Piece (Elt Ideal) S2048x128 .f32) × List (View.Piece (Elt Ideal) S2048x128 .f32) => (⟨Rect.unit (s := S1x2x4x1x512) (k0_off12 i) S1x1x1x1x512.size (k0_off12_inb i), k0_pay50 (k0_pay49 (vDo M x6) (vDel M x5 x6) (diagS M i (vQ M x0) (vBias M x2 x4) (M.harg4.unread x1) (M.harg6.unread x3)) k0_pay43 cols (diagVal M i (M.harg4.unread x1)) (diagDec0 i M.arg13 (M.arg13.view.writes (Elt Ideal) M.arg13.view.junk ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.1 ++ zeroDec))))⟩ :: (z.2.1 ++ ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.1 ++ zeroDec)) : List (View.Piece (Elt Ideal) S1x2x4x1x512 .f32))) (ptRest_none M c i x0 x1 x2 x3 x4 x5 x6 _ _ _ _)

theorem wA_dq : kernelRun0_A.sl.r_12 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6
    = k0_pay52 (ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).1.1 (k0_pay41 (diagKey M i (M.harg4.unread x1))) (diagDsb M i (vQ M x0) (vDo M x6) (vDel M x5 x6) (vBias M x2 x4) (M.harg4.unread x1) (M.harg6.unread x3)) := by
  unfold kernelRun0_A.sl.r_12; rw [wA_acc1, wA_key, wA_dsb]

theorem wA_dcq : kernelRun0_A.sl.r_13 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6
    = k0_pay53 (ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).1.2 (diagDs M i (vQ M x0) (vDo M x6) (vDel M x5 x6) (vBias M x2 x4) (M.harg4.unread x1) (M.harg6.unread x3)) := by
  unfold kernelRun0_A.sl.r_13; rw [wA_acc2, wA_ds]

theorem runA_dq (hc0 : cond0_0 i) (hc1 : ¬cond0_1 i) : (kernelRun0_A (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6).1
    = [⟨Rect.unit (s := S1x512x128) ![0, 0, 0] S1x512x128.size inb_S1x512x128_S1x512x128_0_0_0, ptDq M i x0 x1 x2 x3 x4 x5 x6 (ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).1.1⟩] := by
  unfold kernelRun0_A; dsimp only
  rw [wA_dq]

theorem runA_dcq (hc0 : cond0_0 i) (hc1 : ¬cond0_1 i) : (kernelRun0_A (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6).2.2.1
    = [⟨Rect.unit (s := S1x1x512x2) ![0, 0, 0, 0] S1x1x512x2.size inb_S1x1x512x2_S1x1x512x2_0_0_0_0, ptDcq M i x0 x1 x2 x3 x4 x5 x6 (ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).1.2⟩] := by
  unfold kernelRun0_A; dsimp only
  rw [wA_dcq]

theorem runA_dc (hc0 : cond0_0 i) (hc1 : ¬cond0_1 i) : (kernelRun0_A (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6).2.2.2.1
    = dcPieces M i (vQ M x0) (vDo M x6) (vDel M x5 x6) (vBias M x2 x4) (M.harg4.unread x1) (M.harg6.unread x3) M.arg13.view.junk ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.1 ++ zeroDec) := by
  unfold kernelRun0_A; dsimp only
  rw [wA_ds, wA_dc]

theorem runA_dk (hc0 : cond0_0 i) (hc1 : ¬cond0_1 i) : (kernelRun0_A (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6).2.2.2.2.1
    = dkPieces M i (vQ M x0) (vDo M x6) (vDel M x5 x6) (vBias M x2 x4) (M.harg4.unread x1) (M.harg6.unread x3) M.arg14.view.junk ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.2.1 ++ zeroDk) := by
  unfold kernelRun0_A; dsimp only
  rw [wA_q, wA_do, wA_del, wA_bias, wA_s, wA_dk]
  exact congrArg (fun z : _ × List (View.Piece (Elt Ideal) S1x2x4x1x512 .f32) × List (View.Piece (Elt Ideal) S2048x128 .f32) × List (View.Piece (Elt Ideal) S2048x128 .f32) => (_ :: (z.2.2.1 ++ ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.2.1 ++ zeroDk)) : List (View.Piece (Elt Ideal) S2048x128 .f32))) (ptRest_none M c i x0 x1 x2 x3 x4 x5 x6 _ _ _ _)

theorem runA_dv (hc0 : cond0_0 i) (hc1 : ¬cond0_1 i) : (kernelRun0_A (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6).2.2.2.2.2.1
    = dvPieces M i (vQ M x0) (vDo M x6) (vBias M x2 x4) (M.harg4.unread x1) (M.harg6.unread x3) M.arg15.view.junk ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.2.2 ++ zeroDv) := by
  unfold kernelRun0_A; dsimp only
  rw [wA_q, wA_do, wA_del, wA_bias, wA_s, wA_dv]
  exact congrArg (fun z : _ × List (View.Piece (Elt Ideal) S1x2x4x1x512 .f32) × List (View.Piece (Elt Ideal) S2048x128 .f32) × List (View.Piece (Elt Ideal) S2048x128 .f32) => (_ :: (z.2.2.2 ++ ((ptSt M c i x0 x1 x2 x3 x4 x5 x6 (M.arg13.view.writes (Elt Ideal) M.arg13.view.junk zeroDec) (M.arg14.view.writes (Elt Ideal) M.arg14.view.junk zeroDk) (M.arg15.view.writes (Elt Ideal) M.arg15.view.junk zeroDv)).2.2.2 ++ zeroDv)) : List (View.Piece (Elt Ideal) S2048x128 .f32))) (ptRest_none M c i x0 x1 x2 x3 x4 x5 x6 _ _ _ _)

theorem wB_q : kernelRun0_B.sl.r (F := Ideal) c M.arg3 M.harg3 x0
    = vQ M x0 := rfl

theorem wB_do : kernelRun0_B.sl.r_1 (F := Ideal) c M.arg9 M.harg9 x6
    = vDo M x6 := rfl

theorem wB_del : kernelRun0_B.sl.r_3 (F := Ideal) c M.arg8 M.harg8 M.arg9 M.harg9 x5 x6
    = vDel M x5 x6 := rfl

theorem wB_bias : kernelRun0_B.sl.r_4 (F := Ideal) c M.arg5 M.harg5 M.arg7 M.harg7 x2 x4
    = vBias M x2 x4 := rfl

theorem wB_key : kernelRun0_B.sl.r_7 (F := Ideal) i M.arg4 M.harg4 x1
    = k0_pay41 (diagKey M i (M.harg4.unread x1)) := rfl

theorem wB_s : kernelRun0_B.sl.r_8 (F := Ideal) c i M.arg3 M.harg3 M.arg4 M.harg4 M.arg5 M.harg5 M.arg6 M.harg6 M.arg7 M.harg7 x0 x1 x2 x3 x4
    = diagS M i (vQ M x0) (vBias M x2 x4) (M.harg4.unread x1) (M.harg6.unread x3) := by
  unfold kernelRun0_B.sl.r_8; rw [wB_q, wB_bias]

theorem wB_ds : kernelRun0_B.sl.r_9 (F := Ideal) c i M.arg3 M.harg3 M.arg4 M.harg4 M.arg5 M.harg5 M.arg6 M.harg6 M.arg7 M.harg7 M.arg8 M.harg8 M.arg9 M.harg9 x0 x1 x2 x3 x4 x5 x6
    = diagDs M i (vQ M x0) (vDo M x6) (vDel M x5 x6) (vBias M x2 x4) (M.harg4.unread x1) (M.harg6.unread x3) := by
  unfold kernelRun0_B.sl.r_9; rw [wB_do, wB_del, wB_s]; rfl

theorem wB_dsb : kernelRun0_B.sl.r_10 (F := Ideal) c i M.arg3 M.harg3 M.arg4 M.harg4 M.arg5 M.harg5 M.arg6 M.harg6 M.arg7 M.harg7 M.arg8 M.harg8 M.arg9 M.harg9 x0 x1 x2 x3 x4 x5 x6
    = diagDsb M i (vQ M x0) (vDo M x6) (vDel M x5 x6) (vBias M x2 x4) (M.harg4.unread x1) (M.harg6.unread x3) := by
  unfold kernelRun0_B.sl.r_10; rw [wB_do, wB_del, wB_s]; rfl

theorem wB_acc1 : kernelRun0_B.sl.r_5 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = (ptSt M c i x0 x1 x2 x3 x4 x5 x6 (M.harg13.unread xo10) (M.harg14.unread xs0) (M.harg15.unread xs1)).1.1 := by
  unfold kernelRun0_B.sl.r_5; rw [wB_q, wB_do, wB_del, wB_bias]
  exact congrArg (fun z => z.1.1) (ptRest_none M c i x0 x1 x2 x3 x4 x5 x6 _ _ _ _)

theorem wB_acc2 : kernelRun0_B.sl.r_6 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = (ptSt M c i x0 x1 x2 x3 x4 x5 x6 (M.harg13.unread xo10) (M.harg14.unread xs0) (M.harg15.unread xs1)).1.2 := by
  unfold kernelRun0_B.sl.r_6; rw [wB_q, wB_do, wB_del, wB_bias]
  exact congrArg (fun z => z.1.2) (ptRest_none M c i x0 x1 x2 x3 x4 x5 x6 _ _ _ _)

theorem wB_dv : kernelRun0_B.sl.v179 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = diagAcc i M.arg15 (M.arg15.view.writes (Elt Ideal) (M.harg15.unread xs1) (ptSt M c i x0 x1 x2 x3 x4 x5 x6 (M.harg13.unread xo10) (M.harg14.unread xs0) (M.harg15.unread xs1)).2.2.2) := by
  unfold kernelRun0_B.sl.v179; rw [wB_q, wB_do, wB_del, wB_bias]
  exact congrArg (fun z => diagAcc i M.arg15 (M.arg15.view.writes (Elt Ideal) (M.harg15.unread xs1) (z.2.2.2 ++ (ptSt M c i x0 x1 x2 x3 x4 x5 x6 (M.harg13.unread xo10) (M.harg14.unread xs0) (M.harg15.unread xs1)).2.2.2))) (ptRest_none M c i x0 x1 x2 x3 x4 x5 x6 _ _ _ _)

theorem wB_dk : kernelRun0_B.sl.v188 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = diagAcc i M.arg14 (M.arg14.view.writes (Elt Ideal) (M.harg14.unread xs0) (ptSt M c i x0 x1 x2 x3 x4 x5 x6 (M.harg13.unread xo10) (M.harg14.unread xs0) (M.harg15.unread xs1)).2.2.1) := by
  unfold kernelRun0_B.sl.v188; rw [wB_q, wB_do, wB_del, wB_bias]
  exact congrArg (fun z => diagAcc i M.arg14 (M.arg14.view.writes (Elt Ideal) (M.harg14.unread xs0) (z.2.2.1 ++ (ptSt M c i x0 x1 x2 x3 x4 x5 x6 (M.harg13.unread xo10) (M.harg14.unread xs0) (M.harg15.unread xs1)).2.2.1))) (ptRest_none M c i x0 x1 x2 x3 x4 x5 x6 _ _ _ _)

theorem wB_dc0 : kernelRun0_B.sl.v196 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = diagDec0 i M.arg13 (M.arg13.view.writes (Elt Ideal) (M.harg13.unread xo10) (ptSt M c i x0 x1 x2 x3 x4 x5 x6 (M.harg13.unread xo10) (M.harg14.unread xs0) (M.harg15.unread xs1)).2.1) := by
  unfold kernelRun0_B.sl.v196; rw [wB_q, wB_do, wB_del, wB_bias]
  exact congrArg (fun z => diagDec0 i M.arg13 (M.arg13.view.writes (Elt Ideal) (M.harg13.unread xo10) (z.2.1 ++ (ptSt M c i x0 x1 x2 x3 x4 x5 x6 (M.harg13.unread xo10) (M.harg14.unread xs0) (M.harg15.unread xs1)).2.1))) (ptRest_none M c i x0 x1 x2 x3 x4 x5 x6 _ _ _ _)

theorem wB_dcv : kernelRun0_B.sl.r_11 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = k0_pay49 (vDo M x6) (vDel M x5 x6) (diagS M i (vQ M x0) (vBias M x2 x4) (M.harg4.unread x1) (M.harg6.unread x3)) k0_pay43 cols (diagVal M i (M.harg4.unread x1)) (diagDec0 i M.arg13 (M.arg13.view.writes (Elt Ideal) (M.harg13.unread xo10) (ptSt M c i x0 x1 x2 x3 x4 x5 x6 (M.harg13.unread xo10) (M.harg14.unread xs0) (M.harg15.unread xs1)).2.1)) := by
  unfold kernelRun0_B.sl.r_11; rw [wB_do, wB_del, wB_s, wB_dc0]; rfl

theorem wB_dc : kernelRun0_B.sl.H10_1 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = dcPiece M i (vQ M x0) (vDo M x6) (vDel M x5 x6) (vBias M x2 x4) (M.harg4.unread x1) (M.harg6.unread x3) (M.harg13.unread xo10) (ptSt M c i x0 x1 x2 x3 x4 x5 x6 (M.harg13.unread xo10) (M.harg14.unread xs0) (M.harg15.unread xs1)).2.1 := by
  unfold kernelRun0_B.sl.H10_1; rw [wB_q, wB_do, wB_del, wB_bias, wB_dcv]
  exact congrArg (fun z : _ × List (View.Piece (Elt Ideal) S1x2x4x1x512 .f32) × List (View.Piece (Elt Ideal) S2048x128 .f32) × List (View.Piece (Elt Ideal) S2048x128 .f32) => (⟨Rect.unit (s := S1x2x4x1x512) (k0_off12 i) S1x1x1x1x512.size (k0_off12_inb i), k0_pay50 (k0_pay49 (vDo M x6) (vDel M x5 x6) (diagS M i (vQ M x0) (vBias M x2 x4) (M.harg4.unread x1) (M.harg6.unread x3)) k0_pay43 cols (diagVal M i (M.harg4.unread x1)) (diagDec0 i M.arg13 (M.arg13.view.writes (Elt Ideal) (M.harg13.unread xo10) (ptSt M c i x0 x1 x2 x3 x4 x5 x6 (M.harg13.unread xo10) (M.harg14.unread xs0) (M.harg15.unread xs1)).2.1)))⟩ :: (z.2.1 ++ (ptSt M c i x0 x1 x2 x3 x4 x5 x6 (M.harg13.unread xo10) (M.harg14.unread xs0) (M.harg15.unread xs1)).2.1) : List (View.Piece (Elt Ideal) S1x2x4x1x512 .f32))) (ptRest_none M c i x0 x1 x2 x3 x4 x5 x6 _ _ _ _)

theorem wB_dq : kernelRun0_B.sl.r_12 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = k0_pay52 (ptSt M c i x0 x1 x2 x3 x4 x5 x6 (M.harg13.unread xo10) (M.harg14.unread xs0) (M.harg15.unread xs1)).1.1 (k0_pay41 (diagKey M i (M.harg4.unread x1))) (diagDsb M i (vQ M x0) (vDo M x6) (vDel M x5 x6) (vBias M x2 x4) (M.harg4.unread x1) (M.harg6.unread x3)) := by
  unfold kernelRun0_B.sl.r_12; rw [wB_acc1, wB_key, wB_dsb]

theorem wB_dcq : kernelRun0_B.sl.r_13 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = k0_pay53 (ptSt M c i x0 x1 x2 x3 x4 x5 x6 (M.harg13.unread xo10) (M.harg14.unread xs0) (M.harg15.unread xs1)).1.2 (diagDs M i (vQ M x0) (vDo M x6) (vDel M x5 x6) (vBias M x2 x4) (M.harg4.unread x1) (M.harg6.unread x3)) := by
  unfold kernelRun0_B.sl.r_13; rw [wB_acc2, wB_ds]

theorem runB_dq (hc0 : ¬cond0_0 i) (hc1 : ¬cond0_1 i) : (kernelRun0_B (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1).1
    = [⟨Rect.unit (s := S1x512x128) ![0, 0, 0] S1x512x128.size inb_S1x512x128_S1x512x128_0_0_0, ptDq M i x0 x1 x2 x3 x4 x5 x6 (ptSt M c i x0 x1 x2 x3 x4 x5 x6 (M.harg13.unread xo10) (M.harg14.unread xs0) (M.harg15.unread xs1)).1.1⟩] := by
  unfold kernelRun0_B; dsimp only
  rw [wB_dq]

theorem runB_dcq (hc0 : ¬cond0_0 i) (hc1 : ¬cond0_1 i) : (kernelRun0_B (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1).2.2.1
    = [⟨Rect.unit (s := S1x1x512x2) ![0, 0, 0, 0] S1x1x512x2.size inb_S1x1x512x2_S1x1x512x2_0_0_0_0, ptDcq M i x0 x1 x2 x3 x4 x5 x6 (ptSt M c i x0 x1 x2 x3 x4 x5 x6 (M.harg13.unread xo10) (M.harg14.unread xs0) (M.harg15.unread xs1)).1.2⟩] := by
  unfold kernelRun0_B; dsimp only
  rw [wB_dcq]

theorem runB_dc (hc0 : ¬cond0_0 i) (hc1 : ¬cond0_1 i) : (kernelRun0_B (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1).2.2.2.1
    = dcPieces M i (vQ M x0) (vDo M x6) (vDel M x5 x6) (vBias M x2 x4) (M.harg4.unread x1) (M.harg6.unread x3) (M.harg13.unread xo10) (ptSt M c i x0 x1 x2 x3 x4 x5 x6 (M.harg13.unread xo10) (M.harg14.unread xs0) (M.harg15.unread xs1)).2.1 := by
  unfold kernelRun0_B; dsimp only
  rw [wB_ds, wB_dc]

theorem runB_dk (hc0 : ¬cond0_0 i) (hc1 : ¬cond0_1 i) : (kernelRun0_B (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1).2.2.2.2.1
    = dkPieces M i (vQ M x0) (vDo M x6) (vDel M x5 x6) (vBias M x2 x4) (M.harg4.unread x1) (M.harg6.unread x3) (M.harg14.unread xs0) (ptSt M c i x0 x1 x2 x3 x4 x5 x6 (M.harg13.unread xo10) (M.harg14.unread xs0) (M.harg15.unread xs1)).2.2.1 := by
  unfold kernelRun0_B; dsimp only
  rw [wB_q, wB_do, wB_del, wB_bias, wB_s, wB_dk]
  exact congrArg (fun z : _ × List (View.Piece (Elt Ideal) S1x2x4x1x512 .f32) × List (View.Piece (Elt Ideal) S2048x128 .f32) × List (View.Piece (Elt Ideal) S2048x128 .f32) => (_ :: (z.2.2.1 ++ (ptSt M c i x0 x1 x2 x3 x4 x5 x6 (M.harg13.unread xo10) (M.harg14.unread xs0) (M.harg15.unread xs1)).2.2.1) : List (View.Piece (Elt Ideal) S2048x128 .f32))) (ptRest_none M c i x0 x1 x2 x3 x4 x5 x6 _ _ _ _)

theorem runB_dv (hc0 : ¬cond0_0 i) (hc1 : ¬cond0_1 i) : (kernelRun0_B (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1).2.2.2.2.2.1
    = dvPieces M i (vQ M x0) (vDo M x6) (vBias M x2 x4) (M.harg4.unread x1) (M.harg6.unread x3) (M.harg15.unread xs1) (ptSt M c i x0 x1 x2 x3 x4 x5 x6 (M.harg13.unread xo10) (M.harg14.unread xs0) (M.harg15.unread xs1)).2.2.2 := by
  unfold kernelRun0_B; dsimp only
  rw [wB_q, wB_do, wB_del, wB_bias, wB_s, wB_dv]
  exact congrArg (fun z : _ × List (View.Piece (Elt Ideal) S1x2x4x1x512 .f32) × List (View.Piece (Elt Ideal) S2048x128 .f32) × List (View.Piece (Elt Ideal) S2048x128 .f32) => (_ :: (z.2.2.2 ++ (ptSt M c i x0 x1 x2 x3 x4 x5 x6 (M.harg13.unread xo10) (M.harg14.unread xs0) (M.harg15.unread xs1)).2.2.2) : List (View.Piece (Elt Ideal) S2048x128 .f32))) (ptRest_none M c i x0 x1 x2 x3 x4 x5 x6 _ _ _ _)

theorem wC_q : kernelRun0_C.sl.r (F := Ideal) c M.arg3 M.harg3 x0
    = vQ M x0 := rfl

theorem wC_do : kernelRun0_C.sl.r_1 (F := Ideal) c M.arg9 M.harg9 x6
    = vDo M x6 := rfl

theorem wC_del : kernelRun0_C.sl.r_3 (F := Ideal) c M.arg8 M.harg8 M.arg9 M.harg9 x5 x6
    = vDel M x5 x6 := rfl

theorem wC_bias : kernelRun0_C.sl.r_4 (F := Ideal) c M.arg5 M.harg5 M.arg7 M.harg7 x2 x4
    = vBias M x2 x4 := rfl

theorem wC_key : kernelRun0_C.sl.r_7 (F := Ideal) i M.arg4 M.harg4 x1
    = k0_pay41 (diagKey M i (M.harg4.unread x1)) := rfl

theorem wC_s : kernelRun0_C.sl.r_8 (F := Ideal) c i M.arg3 M.harg3 M.arg4 M.harg4 M.arg5 M.harg5 M.arg6 M.harg6 M.arg7 M.harg7 x0 x1 x2 x3 x4
    = diagS M i (vQ M x0) (vBias M x2 x4) (M.harg4.unread x1) (M.harg6.unread x3) := by
  unfold kernelRun0_C.sl.r_8; rw [wC_q, wC_bias]

theorem wC_ds : kernelRun0_C.sl.r_9 (F := Ideal) c i M.arg3 M.harg3 M.arg4 M.harg4 M.arg5 M.harg5 M.arg6 M.harg6 M.arg7 M.harg7 M.arg8 M.harg8 M.arg9 M.harg9 x0 x1 x2 x3 x4 x5 x6
    = diagDs M i (vQ M x0) (vDo M x6) (vDel M x5 x6) (vBias M x2 x4) (M.harg4.unread x1) (M.harg6.unread x3) := by
  unfold kernelRun0_C.sl.r_9; rw [wC_do, wC_del, wC_s]; rfl

theorem wC_dsb : kernelRun0_C.sl.r_10 (F := Ideal) c i M.arg3 M.harg3 M.arg4 M.harg4 M.arg5 M.harg5 M.arg6 M.harg6 M.arg7 M.harg7 M.arg8 M.harg8 M.arg9 M.harg9 x0 x1 x2 x3 x4 x5 x6
    = diagDsb M i (vQ M x0) (vDo M x6) (vDel M x5 x6) (vBias M x2 x4) (M.harg4.unread x1) (M.harg6.unread x3) := by
  unfold kernelRun0_C.sl.r_10; rw [wC_do, wC_del, wC_s]; rfl

theorem wC_acc1 : kernelRun0_C.sl.r_5 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = (ptSt M c i x0 x1 x2 x3 x4 x5 x6 (M.harg13.unread xo10) (M.harg14.unread xs0) (M.harg15.unread xs1)).1.1 := by
  unfold kernelRun0_C.sl.r_5; rw [wC_q, wC_do, wC_del, wC_bias]
  exact congrArg (fun z => z.1.1) (ptRest_none M c i x0 x1 x2 x3 x4 x5 x6 _ _ _ _)

theorem wC_acc2 : kernelRun0_C.sl.r_6 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = (ptSt M c i x0 x1 x2 x3 x4 x5 x6 (M.harg13.unread xo10) (M.harg14.unread xs0) (M.harg15.unread xs1)).1.2 := by
  unfold kernelRun0_C.sl.r_6; rw [wC_q, wC_do, wC_del, wC_bias]
  exact congrArg (fun z => z.1.2) (ptRest_none M c i x0 x1 x2 x3 x4 x5 x6 _ _ _ _)

theorem wC_dv : kernelRun0_C.sl.v179 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = diagAcc i M.arg15 (M.arg15.view.writes (Elt Ideal) (M.harg15.unread xs1) (ptSt M c i x0 x1 x2 x3 x4 x5 x6 (M.harg13.unread xo10) (M.harg14.unread xs0) (M.harg15.unread xs1)).2.2.2) := by
  unfold kernelRun0_C.sl.v179; rw [wC_q, wC_do, wC_del, wC_bias]
  exact congrArg (fun z => diagAcc i M.arg15 (M.arg15.view.writes (Elt Ideal) (M.harg15.unread xs1) (z.2.2.2 ++ (ptSt M c i x0 x1 x2 x3 x4 x5 x6 (M.harg13.unread xo10) (M.harg14.unread xs0) (M.harg15.unread xs1)).2.2.2))) (ptRest_none M c i x0 x1 x2 x3 x4 x5 x6 _ _ _ _)

theorem wC_dk : kernelRun0_C.sl.v188 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = diagAcc i M.arg14 (M.arg14.view.writes (Elt Ideal) (M.harg14.unread xs0) (ptSt M c i x0 x1 x2 x3 x4 x5 x6 (M.harg13.unread xo10) (M.harg14.unread xs0) (M.harg15.unread xs1)).2.2.1) := by
  unfold kernelRun0_C.sl.v188; rw [wC_q, wC_do, wC_del, wC_bias]
  exact congrArg (fun z => diagAcc i M.arg14 (M.arg14.view.writes (Elt Ideal) (M.harg14.unread xs0) (z.2.2.1 ++ (ptSt M c i x0 x1 x2 x3 x4 x5 x6 (M.harg13.unread xo10) (M.harg14.unread xs0) (M.harg15.unread xs1)).2.2.1))) (ptRest_none M c i x0 x1 x2 x3 x4 x5 x6 _ _ _ _)

theorem wC_dc0 : kernelRun0_C.sl.v196 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = diagDec0 i M.arg13 (M.arg13.view.writes (Elt Ideal) (M.harg13.unread xo10) (ptSt M c i x0 x1 x2 x3 x4 x5 x6 (M.harg13.unread xo10) (M.harg14.unread xs0) (M.harg15.unread xs1)).2.1) := by
  unfold kernelRun0_C.sl.v196; rw [wC_q, wC_do, wC_del, wC_bias]
  exact congrArg (fun z => diagDec0 i M.arg13 (M.arg13.view.writes (Elt Ideal) (M.harg13.unread xo10) (z.2.1 ++ (ptSt M c i x0 x1 x2 x3 x4 x5 x6 (M.harg13.unread xo10) (M.harg14.unread xs0) (M.harg15.unread xs1)).2.1))) (ptRest_none M c i x0 x1 x2 x3 x4 x5 x6 _ _ _ _)

theorem wC_dcv : kernelRun0_C.sl.r_11 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = k0_pay49 (vDo M x6) (vDel M x5 x6) (diagS M i (vQ M x0) (vBias M x2 x4) (M.harg4.unread x1) (M.harg6.unread x3)) k0_pay43 cols (diagVal M i (M.harg4.unread x1)) (diagDec0 i M.arg13 (M.arg13.view.writes (Elt Ideal) (M.harg13.unread xo10) (ptSt M c i x0 x1 x2 x3 x4 x5 x6 (M.harg13.unread xo10) (M.harg14.unread xs0) (M.harg15.unread xs1)).2.1)) := by
  unfold kernelRun0_C.sl.r_11; rw [wC_do, wC_del, wC_s, wC_dc0]; rfl

theorem wC_dc : kernelRun0_C.sl.H10_1 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = dcPiece M i (vQ M x0) (vDo M x6) (vDel M x5 x6) (vBias M x2 x4) (M.harg4.unread x1) (M.harg6.unread x3) (M.harg13.unread xo10) (ptSt M c i x0 x1 x2 x3 x4 x5 x6 (M.harg13.unread xo10) (M.harg14.unread xs0) (M.harg15.unread xs1)).2.1 := by
  unfold kernelRun0_C.sl.H10_1; rw [wC_q, wC_do, wC_del, wC_bias, wC_dcv]
  exact congrArg (fun z : _ × List (View.Piece (Elt Ideal) S1x2x4x1x512 .f32) × List (View.Piece (Elt Ideal) S2048x128 .f32) × List (View.Piece (Elt Ideal) S2048x128 .f32) => (⟨Rect.unit (s := S1x2x4x1x512) (k0_off12 i) S1x1x1x1x512.size (k0_off12_inb i), k0_pay50 (k0_pay49 (vDo M x6) (vDel M x5 x6) (diagS M i (vQ M x0) (vBias M x2 x4) (M.harg4.unread x1) (M.harg6.unread x3)) k0_pay43 cols (diagVal M i (M.harg4.unread x1)) (diagDec0 i M.arg13 (M.arg13.view.writes (Elt Ideal) (M.harg13.unread xo10) (ptSt M c i x0 x1 x2 x3 x4 x5 x6 (M.harg13.unread xo10) (M.harg14.unread xs0) (M.harg15.unread xs1)).2.1)))⟩ :: (z.2.1 ++ (ptSt M c i x0 x1 x2 x3 x4 x5 x6 (M.harg13.unread xo10) (M.harg14.unread xs0) (M.harg15.unread xs1)).2.1) : List (View.Piece (Elt Ideal) S1x2x4x1x512 .f32))) (ptRest_none M c i x0 x1 x2 x3 x4 x5 x6 _ _ _ _)

theorem wC_dq : kernelRun0_C.sl.r_12 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = k0_pay52 (ptSt M c i x0 x1 x2 x3 x4 x5 x6 (M.harg13.unread xo10) (M.harg14.unread xs0) (M.harg15.unread xs1)).1.1 (k0_pay41 (diagKey M i (M.harg4.unread x1))) (diagDsb M i (vQ M x0) (vDo M x6) (vDel M x5 x6) (vBias M x2 x4) (M.harg4.unread x1) (M.harg6.unread x3)) := by
  unfold kernelRun0_C.sl.r_12; rw [wC_acc1, wC_key, wC_dsb]

theorem wC_dcq : kernelRun0_C.sl.r_13 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = k0_pay53 (ptSt M c i x0 x1 x2 x3 x4 x5 x6 (M.harg13.unread xo10) (M.harg14.unread xs0) (M.harg15.unread xs1)).1.2 (diagDs M i (vQ M x0) (vDo M x6) (vDel M x5 x6) (vBias M x2 x4) (M.harg4.unread x1) (M.harg6.unread x3)) := by
  unfold kernelRun0_C.sl.r_13; rw [wC_acc2, wC_ds]

theorem runC_dq (hc0 : ¬cond0_0 i) (hc1 : cond0_1 i) : (kernelRun0_C (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1).1
    = [⟨Rect.unit (s := S1x512x128) ![0, 0, 0] S1x512x128.size inb_S1x512x128_S1x512x128_0_0_0, ptDq M i x0 x1 x2 x3 x4 x5 x6 (ptSt M c i x0 x1 x2 x3 x4 x5 x6 (M.harg13.unread xo10) (M.harg14.unread xs0) (M.harg15.unread xs1)).1.1⟩] := by
  unfold kernelRun0_C; dsimp only
  rw [wC_dq]

theorem runC_dcq (hc0 : ¬cond0_0 i) (hc1 : cond0_1 i) : (kernelRun0_C (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1).2.2.1
    = [⟨Rect.unit (s := S1x1x512x2) ![0, 0, 0, 0] S1x1x512x2.size inb_S1x1x512x2_S1x1x512x2_0_0_0_0, ptDcq M i x0 x1 x2 x3 x4 x5 x6 (ptSt M c i x0 x1 x2 x3 x4 x5 x6 (M.harg13.unread xo10) (M.harg14.unread xs0) (M.harg15.unread xs1)).1.2⟩] := by
  unfold kernelRun0_C; dsimp only
  rw [wC_dcq]

theorem runC_dc (hc0 : ¬cond0_0 i) (hc1 : cond0_1 i) : (kernelRun0_C (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1).2.2.2.1
    = dcPieces M i (vQ M x0) (vDo M x6) (vDel M x5 x6) (vBias M x2 x4) (M.harg4.unread x1) (M.harg6.unread x3) (M.harg13.unread xo10) (ptSt M c i x0 x1 x2 x3 x4 x5 x6 (M.harg13.unread xo10) (M.harg14.unread xs0) (M.harg15.unread xs1)).2.1 := by
  unfold kernelRun0_C; dsimp only
  rw [wC_ds, wC_dc]

theorem wC_dks : kernelRun0_C.sl.HS0_1 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = dkPieces M i (vQ M x0) (vDo M x6) (vDel M x5 x6) (vBias M x2 x4) (M.harg4.unread x1) (M.harg6.unread x3) (M.harg14.unread xs0) (ptSt M c i x0 x1 x2 x3 x4 x5 x6 (M.harg13.unread xo10) (M.harg14.unread xs0) (M.harg15.unread xs1)).2.2.1 := by
  unfold kernelRun0_C.sl.HS0_1; rw [wC_q, wC_do, wC_del, wC_bias, wC_s, wC_dk]
  exact congrArg (fun z : _ × List (View.Piece (Elt Ideal) S1x2x4x1x512 .f32) × List (View.Piece (Elt Ideal) S2048x128 .f32) × List (View.Piece (Elt Ideal) S2048x128 .f32) => (_ :: (z.2.2.1 ++ (ptSt M c i x0 x1 x2 x3 x4 x5 x6 (M.harg13.unread xo10) (M.harg14.unread xs0) (M.harg15.unread xs1)).2.2.1) : List (View.Piece (Elt Ideal) S2048x128 .f32))) (ptRest_none M c i x0 x1 x2 x3 x4 x5 x6 _ _ _ _)

theorem runC_dk (hc0 : ¬cond0_0 i) (hc1 : cond0_1 i) : (kernelRun0_C (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1).2.2.2.2.1
    = dkPieces M i (vQ M x0) (vDo M x6) (vDel M x5 x6) (vBias M x2 x4) (M.harg4.unread x1) (M.harg6.unread x3) (M.harg14.unread xs0) (ptSt M c i x0 x1 x2 x3 x4 x5 x6 (M.harg13.unread xo10) (M.harg14.unread xs0) (M.harg15.unread xs1)).2.2.1 := by
  unfold kernelRun0_C; dsimp only
  rw [wC_dks]

theorem wC_dvs : kernelRun0_C.sl.HS1_1 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = dvPieces M i (vQ M x0) (vDo M x6) (vBias M x2 x4) (M.harg4.unread x1) (M.harg6.unread x3) (M.harg15.unread xs1) (ptSt M c i x0 x1 x2 x3 x4 x5 x6 (M.harg13.unread xo10) (M.harg14.unread xs0) (M.harg15.unread xs1)).2.2.2 := by
  unfold kernelRun0_C.sl.HS1_1; rw [wC_q, wC_do, wC_del, wC_bias, wC_s, wC_dv]
  exact congrArg (fun z : _ × List (View.Piece (Elt Ideal) S1x2x4x1x512 .f32) × List (View.Piece (Elt Ideal) S2048x128 .f32) × List (View.Piece (Elt Ideal) S2048x128 .f32) => (_ :: (z.2.2.2 ++ (ptSt M c i x0 x1 x2 x3 x4 x5 x6 (M.harg13.unread xo10) (M.harg14.unread xs0) (M.harg15.unread xs1)).2.2.2) : List (View.Piece (Elt Ideal) S2048x128 .f32))) (ptRest_none M c i x0 x1 x2 x3 x4 x5 x6 _ _ _ _)

theorem runC_dv (hc0 : ¬cond0_0 i) (hc1 : cond0_1 i) : (kernelRun0_C (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1).2.2.2.2.2.1
    = dvPieces M i (vQ M x0) (vDo M x6) (vBias M x2 x4) (M.harg4.unread x1) (M.harg6.unread x3) (M.harg15.unread xs1) (ptSt M c i x0 x1 x2 x3 x4 x5 x6 (M.harg13.unread xo10) (M.harg14.unread xs0) (M.harg15.unread xs1)).2.2.2 := by
  unfold kernelRun0_C; dsimp only
  rw [wC_dvs]

theorem wC_dkAll : kernelRun0_C.sl.v274 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = M.arg14.view.readAt (Elt Ideal) (Rect.unit (s := S2048x128) ![0, 0] S2048x128.size inb_S2048x128_S2048x128_0_0).toLoadRect (M.arg14.view.writes (Elt Ideal) (M.harg14.unread xs0) (dkPieces M i (vQ M x0) (vDo M x6) (vDel M x5 x6) (vBias M x2 x4) (M.harg4.unread x1) (M.harg6.unread x3) (M.harg14.unread xs0) (ptSt M c i x0 x1 x2 x3 x4 x5 x6 (M.harg13.unread xo10) (M.harg14.unread xs0) (M.harg15.unread xs1)).2.2.1)) := by
  unfold kernelRun0_C.sl.v274; rw [wC_dks]

theorem wC_dvAll : kernelRun0_C.sl.v279 (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 x0 x1 x2 x3 x4 x5 x6 xo10 xs0 xs1
    = M.arg15.view.readAt (Elt Ideal) (Rect.unit (s := S2048x128) ![0, 0] S2048x128.size inb_S2048x128_S2048x128_0_0).toLoadRect (M.arg15.view.writes (Elt Ideal) (M.harg15.unread xs1) (dvPieces M i (vQ M x0) (vDo M x6) (vBias M x2 x4) (M.harg4.unread x1) (M.harg6.unread x3) (M.harg15.unread xs1) (ptSt M c i x0 x1 x2 x3 x4 x5 x6 (M.harg13.unread xo10) (M.harg14.unread xs0) (M.harg15.unread xs1)).2.2.2)) := by
  unfold kernelRun0_C.sl.v279; rw [wC_dvs]

theorem runC_dkv (hc0 : ¬cond0_0 i) (hc1 : cond0_1 i) : (kernelRun0_C (F := Ideal) c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1).2.1
    = [⟨Rect.unit (s := S1x2048x256) ![0, 0, 128] S1x2048x128.size inb_S1x2048x256_S1x2048x128_0_0_128, k0_pay4 (M.arg15.view.readAt (Elt Ideal) (Rect.unit (s := S2048x128) ![0, 0] S2048x128.size inb_S2048x128_S2048x128_0_0).toLoadRect (M.arg15.view.writes (Elt Ideal) (M.harg15.unread xs1) (dvPieces M i (vQ M x0) (vDo M x6) (vBias M x2 x4) (M.harg4.unread x1) (M.harg6.unread x3) (M.harg15.unread xs1) (ptSt M c i x0 x1 x2 x3 x4 x5 x6 (M.harg13.unread xo10) (M.harg14.unread xs0) (M.harg15.unread xs1)).2.2.2)))⟩,
      ⟨Rect.unit (s := S1x2048x256) ![0, 0, 0] S1x2048x128.size inb_S1x2048x256_S1x2048x128_0_0_0, k0_pay3 (M.arg14.view.readAt (Elt Ideal) (Rect.unit (s := S2048x128) ![0, 0] S2048x128.size inb_S2048x128_S2048x128_0_0).toLoadRect (M.arg14.view.writes (Elt Ideal) (M.harg14.unread xs0) (dkPieces M i (vQ M x0) (vDo M x6) (vDel M x5 x6) (vBias M x2 x4) (M.harg4.unread x1) (M.harg6.unread x3) (M.harg14.unread xs0) (ptSt M c i x0 x1 x2 x3 x4 x5 x6 (M.harg13.unread xo10) (M.harg14.unread xs0) (M.harg15.unread xs1)).2.2.1)))⟩] := by
  unfold kernelRun0_C; dsimp only
  rw [wC_dkAll, wC_dvAll]

end

end

end Fox

end
-- ==== Proof.Point.lean ====
/-
What a point of the grid leaves, over the real numbers: its tiles, read as a block of rows, go through the loop and the
diagonal.
-/
module

public import proofs.«01_k».proof.Proof.Cases

@[expose] public section

noncomputable section

set_option maxRecDepth 65536

namespace Fox

open Idealize.ShloMosaic Idealize.ShloMosaic.TcCoe Idealize.SL.Sem Cert.KernelIdeal Cert.KernelIdeal.Gen
open scoped Pointwise

/-- The real numbers a point's tiles hold. -/
structure Tile where
  Q : ℕ → ℕ → ℝ
  KV : ℕ → ℕ → ℝ
  D : ℕ → ℕ → ℝ
  C : ℕ → ℕ → ℝ
  Z : ℕ → ℕ → ℝ
  O : ℕ → ℕ → ℝ
  G : ℕ → ℕ → ℝ

/-- The rows the point of query block `n` works on. -/
def Tile.rows (T : Tile) (n : ℕ) : Rows where
  n := n
  A r l := if l / 64 = r / 512 then T.Q (r % 512) l * 8⁻¹ else 0
  B r l := if l / 64 = r / 512 then T.G (r % 512) l else 0
  KV := T.KV
  bias r := T.D (r % 512) (r / 512 * 64) - T.Z (r % 512) (r / 512 * 64)
  del r := ∑ l ∈ Finset.range 128, if l / 64 = r / 512 then T.G (r % 512) l * T.O (r % 512) l else 0
  C := T.C

/-- The point's blocks hold the tile. -/
structure TileIn (T : Tile) (x0 : Vec Ideal S1x512x128 .bf16) (x1 : Vec Ideal S1x2048x256 .bf16) (x2 : Vec Ideal S1x512x128 .f32)
    (x3 : Vec Ideal S1x2x4x1x512 .f32) (x4 x5 x6 : Vec Ideal S1x512x128 .f32) : Prop where
  h0 : ∀ (r : Fin 512) (l : Fin 128), x0 (ix3 0 r l) = (T.Q r l : EReal)
  h1 : ∀ (j : Fin 2048) (l : Fin 256), x1 (ix3 0 j l) = (T.KV j l : EReal)
  h2 : ∀ (r : Fin 512) (l : Fin 128), x2 (ix3 0 r l) = (T.D r l : EReal)
  h3 : ∀ (e : Fin 2) (b : Fin 4) (j : Fin 512), x3 (ix5 0 e b 0 j) = (T.C e (512 * b + j) : EReal)
  h4 : ∀ (r : Fin 512) (l : Fin 128), x4 (ix3 0 r l) = (T.Z r l : EReal)
  h5 : ∀ (r : Fin 512) (l : Fin 128), x5 (ix3 0 r l) = (T.O r l : EReal)
  h6 : ∀ (r : Fin 512) (l : Fin 128), x6 (ix3 0 r l) = (T.G r l : EReal)

/-- An accumulator's value is the real numbers `Y`. -/
def IsAcc (x : Vec Ideal S2048x128 .f32) (Y : ℕ → ℕ → ℝ) : Prop := ∀ (j : Fin 2048) (l : Fin 128), x (ix2 j l) = (Y j l : EReal)

/-- The value of the decays' gradient is the real numbers `Y`. -/
def IsDec (x : Vec Ideal S1x2x4x1x512 .f32) (Y : ℕ → ℕ → ℝ) : Prop :=
  ∀ (e : Fin 2) (b : Fin 4) (j : Fin 512), x (ix5 0 e b 0 j) = (Y e (512 * b + j) : EReal)

/-- What the point of query block `n` leaves, having found `Y10 Y0 Y1`. -/
structure PtOut (T : Tile) (n : ℕ) (Y10 Y0 Y1 : ℕ → ℕ → ℝ) (o7 : Vec Ideal S1x512x128 .bf16) (o9 : Vec Ideal S1x1x512x2 .f32)
    (o10 : Vec Ideal S1x2x4x1x512 .f32) (s0 s1 : Vec Ideal S2048x128 .f32) : Prop where
  h7 : ∀ (r : Fin 512) (l : Fin 128), o7 (ix3 0 r l) = (((T.rows n).dq (512 * n + 512) (l.val / 64 * 512 + r) l * 8⁻¹ : ℝ) : EReal)
  h9 : ∀ (r : Fin 512) (e : Fin 2), o9 (ix4 0 0 r e) = (((T.rows n).dcq (512 * n + 512) (e.val * 512 + r) : ℝ) : EReal)
  h10 : IsDec o10 ((T.rows n).dc Y10 (512 * n + 512))
  hs0 : IsAcc s0 ((T.rows n).dk Y0 (512 * n + 512))
  hs1 : IsAcc s1 ((T.rows n).dv Y1 (512 * n + 512))

variable (M : Mems) (c : Dev nD) (i : grid0.Coords)

section

variable {T : Tile} {x0 : Vec Ideal S1x512x128 .bf16} {x1 : Vec Ideal S1x2048x256 .bf16} {x2 : Vec Ideal S1x512x128 .f32} {x3 : Vec Ideal S1x2x4x1x512 .f32} {x4 x5 x6 : Vec Ideal S1x512x128 .f32}

theorem tile_unread {φ : EltTy} (m : Memref sig .tc .vmem S1x512x128 φ) (h : m.IsWhole) (x : Vec Ideal S1x512x128 φ) (r : Fin 512) (l : Fin 128) :
    tile m (h.unread x) (ix3 0 r l) = x (ix3 0 r l) := by
  rw [tile_at, h.read_unread]

theorem pt_reads (hT : TileIn T x0 x1 x2 x3 x4 x5 x6) (n : ℕ) :
    Reads M (T.rows n) (vQ M x0) (vDo M x6) (vDel M x5 x6) (vBias M x2 x4) (M.harg4.unread x1) (M.harg6.unread x3) where
  hA := pay28_real _ T.Q fun r l => (tile_unread M.arg3 M.harg3 x0 r l).trans (hT.h0 r l)
  hB := pay30_real _ T.G fun r l => (tile_unread M.arg9 M.harg9 x6 r l).trans (hT.h6 r l)
  hdel := pay33_real _ _ T.G T.O (fun r l => (tile_unread M.arg9 M.harg9 x6 r l).trans (hT.h6 r l))
    fun r l => (tile_unread M.arg8 M.harg8 x5 r l).trans (hT.h5 r l)
  hbias := pay34_real _ _ T.D T.Z (fun r l => (tile_unread M.arg5 M.harg5 x2 r l).trans (hT.h2 r l))
    fun r l => (tile_unread M.arg7 M.harg7 x4 r l).trans (hT.h4 r l)
  hKV j l := (congrFun (M.harg4.read_unread x1) _).trans (hT.h1 j l)
  hC e b j := (congrFun (M.harg6.read_unread x3) _).trans (hT.h3 e b j)

variable {Y10 Y0 Y1 : ℕ → ℕ → ℝ}

theorem pt_loop (hT : TileIn T x0 x1 x2 x3 x4 x5 x6) {G13 : BufTy.Contents (Elt Ideal) M.arg13.view.ty} {G14 : BufTy.Contents (Elt Ideal) M.arg14.view.ty}
    {G15 : BufTy.Contents (Elt Ideal) M.arg15.view.ty} (h13 : HoldsDec M.arg13 G13 Y10) (h14 : HoldsAcc M.arg14 G14 Y0) (h15 : HoldsAcc M.arg15 G15 Y1) :
    LoopAt M c i (BitVec.ofNat 32 (i 2).val) (vQ M x0) (vDo M x6) (vDel M x5 x6) (vBias M x2 x4) k0_pay35 (M.harg4.unread x1) (M.harg6.unread x3) G13 G14 G15 (k0_pay35, k0_pay36)
      (T.rows (i 2).val) Y10 Y0 Y1 (i 2).val :=
  loop_at c _ _ (pt_reads M hT _) pay35_at pay36_at h13 h14 h15 (i 2).val le_rfl (trips1 i).ge

theorem ptSt_eq (G13 : BufTy.Contents (Elt Ideal) M.arg13.view.ty) (G14 : BufTy.Contents (Elt Ideal) M.arg14.view.ty)
    (G15 : BufTy.Contents (Elt Ideal) M.arg15.view.ty) : ptSt M c i x0 x1 x2 x3 x4 x5 x6 G13 G14 G15
      = stAt M c i (BitVec.ofNat 32 (i 2).val) (vQ M x0) (vDo M x6) (vDel M x5 x6) (vBias M x2 x4) k0_pay35 (M.harg4.unread x1) (M.harg6.unread x3) G13 G14 G15 (k0_pay35, k0_pay36) (i 2).val := by
  unfold ptSt; rw [trips1]

/-- The whole tile, read back. -/
theorem whole3 {e : EltTy} (v : View sig .tc .vmem S1x512x128 e) (f : v.ty.Contents (Elt Ideal)) (w : Vec Ideal S1x512x128 e) (y : S1x512x128.Idx) :
    v.read (Elt Ideal) (v.writes (Elt Ideal) f [⟨Rect.unit (s := S1x512x128) ![0, 0, 0] S1x512x128.size inb_S1x512x128_S1x512x128_0_0_0, w⟩]) y = w y := by
  refine View.read_writes_cons_unit_of_mem v f _ w [] y y rfl fun a => ?_
  match a with
  | ⟨0, _⟩ => exact (Nat.zero_add _).symm
  | ⟨1, _⟩ => exact (Nat.zero_add _).symm
  | ⟨2, _⟩ => exact (Nat.zero_add _).symm

/-- The whole accumulator, loaded. -/
theorem wholeAcc (m : Memref sig .tc .vmem S2048x128 .f32) (X : BufTy.Contents (Elt Ideal) m.view.ty) (j : Fin 2048) (l : Fin 128) :
    m.view.readAt (Elt Ideal) (Rect.unit (s := S2048x128) ![0, 0] S2048x128.size inb_S2048x128_S2048x128_0_0).toLoadRect X (ix2 j l) = m.view.read (Elt Ideal) X (ix2 j l) := by
  refine congrArg (m.view.read (Elt Ideal) X) (funext fun a => Fin.ext ?_)
  match a with
  | ⟨0, _⟩ => show 0 + 1 * j.val = j.val; omega
  | ⟨1, _⟩ => show 0 + 1 * l.val = l.val; omega

theorem zero_dec : HoldsDec M.arg13 (M.arg13.view.writes (Elt Ideal) M.arg13.view.junk zeroDec) fun _ _ => 0 := fun e b j => by
  refine (View.read_writes_cons_unit_of_mem M.arg13.view _ _ _ [] _ (ix5 0 e b 0 j) rfl fun a => ?_).trans (pay27_at e b j)
  match a with
  | ⟨0, _⟩ => rfl
  | ⟨1, _⟩ => exact (Nat.zero_add _).symm
  | ⟨2, _⟩ => exact (Nat.zero_add _).symm
  | ⟨3, _⟩ => rfl
  | ⟨4, _⟩ => exact (Nat.zero_add _).symm

theorem zero_dk : HoldsAcc M.arg14 (M.arg14.view.writes (Elt Ideal) M.arg14.view.junk zeroDk) fun _ _ => 0 := fun j l => by
  refine (View.read_writes_cons_unit_of_mem M.arg14.view _ _ _ [] _ (ix2 j l) rfl fun a => ?_).trans (pay25_at j l)
  match a with
  | ⟨0, _⟩ => exact (Nat.zero_add _).symm
  | ⟨1, _⟩ => exact (Nat.zero_add _).symm

theorem zero_dv : HoldsAcc M.arg15 (M.arg15.view.writes (Elt Ideal) M.arg15.view.junk zeroDv) fun _ _ => 0 := fun j l => by
  refine (View.read_writes_cons_unit_of_mem M.arg15.view _ _ _ [] _ (ix2 j l) rfl fun a => ?_).trans (pay26_at j l)
  match a with
  | ⟨0, _⟩ => exact (Nat.zero_add _).symm
  | ⟨1, _⟩ => exact (Nat.zero_add _).symm

theorem pt_dq (hT : TileIn T x0 x1 x2 x3 x4 x5 x6) {G13 : BufTy.Contents (Elt Ideal) M.arg13.view.ty} {G14 : BufTy.Contents (Elt Ideal) M.arg14.view.ty}
    {G15 : BufTy.Contents (Elt Ideal) M.arg15.view.ty} (h13 : HoldsDec M.arg13 G13 Y10) (h14 : HoldsAcc M.arg14 G14 Y0) (h15 : HoldsAcc M.arg15 G15 Y1) (r : Fin 512) (l : Fin 128) :
    ptDq M i x0 x1 x2 x3 x4 x5 x6 (ptSt M c i x0 x1 x2 x3 x4 x5 x6 G13 G14 G15).1.1 (ix3 0 r l)
      = (((T.rows (i 2).val).dq (512 * (i 2).val + 512) (l.val / 64 * 512 + r) l * 8⁻¹ : ℝ) : EReal) := by
  rw [ptSt_eq]
  exact diag_dq (pt_reads M hT _) rfl (pt_loop M c i hT h13 h14 h15).dq r l

theorem pt_dcq (hT : TileIn T x0 x1 x2 x3 x4 x5 x6) {G13 : BufTy.Contents (Elt Ideal) M.arg13.view.ty} {G14 : BufTy.Contents (Elt Ideal) M.arg14.view.ty}
    {G15 : BufTy.Contents (Elt Ideal) M.arg15.view.ty} (h13 : HoldsDec M.arg13 G13 Y10) (h14 : HoldsAcc M.arg14 G14 Y0) (h15 : HoldsAcc M.arg15 G15 Y1) (r : Fin 512) (e : Fin 2) :
    ptDcq M i x0 x1 x2 x3 x4 x5 x6 (ptSt M c i x0 x1 x2 x3 x4 x5 x6 G13 G14 G15).1.2 (ix4 0 0 r e)
      = (((T.rows (i 2).val).dcq (512 * (i 2).val + 512) (e.val * 512 + r) : ℝ) : EReal) := by
  rw [ptSt_eq]
  exact diag_dcq (pt_reads M hT _) rfl (pt_loop M c i hT h13 h14 h15).dcq r e

theorem ptA (hT : TileIn T x0 x1 x2 x3 x4 x5 x6) (hc0 : cond0_0 i) (hc1 : ¬cond0_1 i)  :
    PtOut T (i 2).val (fun _ _ => 0) (fun _ _ => 0) (fun _ _ => 0) (out0_A_7 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6) (out0_A_9 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6) (out0_A_10 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6) (sout0_A_0 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6) (sout0_A_1 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6) := by
  have hL := pt_loop M c i hT (zero_dec M) (zero_dk M) (zero_dv M)
  have hR := pt_reads M hT (i 2).val
  refine ⟨fun r l => ?_, fun r e => ?_, fun e b j => ?_, fun j l => ?_, fun j l => ?_⟩
  · unfold out0_A_7
    rw [runA_dq]
    exact (whole3 VO0_7 _ _ _).trans (pt_dq M c i hT (zero_dec M) (zero_dk M) (zero_dv M) r l)
  · unfold out0_A_9
    rw [runA_dcq]
    refine (View.read_writes_cons_unit_of_mem VO0_9 _ _ _ [] _ (ix4 0 0 r e) rfl fun a => ?_).trans (pt_dcq M c i hT (zero_dec M) (zero_dk M) (zero_dv M) r e)
    match a with
    | ⟨0, _⟩ => rfl
    | ⟨1, _⟩ => rfl
    | ⟨2, _⟩ => exact (Nat.zero_add _).symm
    | ⟨3, _⟩ => exact (Nat.zero_add _).symm
  · unfold out0_A_10
    rw [View.read_writes_eq_canon VO0_10 _ _ (cover0_A_10 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6), ← View.read_writes_eq_canon M.arg13.view M.arg13.view.junk _ (cover0_A_10 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6),
      runA_dc]
    refine diag_dc hR rfl ?_ e b j
    rw [ptSt_eq, View.writes_append]
    exact hL.dc
  · unfold sout0_A_0
    rw [View.read_writes_eq_canon VS0_0 _ _ (scover0_A_0 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6), ← View.read_writes_eq_canon M.arg14.view M.arg14.view.junk _ (scover0_A_0 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6),
      runA_dk]
    refine diag_dk hR rfl ?_ j l
    rw [ptSt_eq, View.writes_append]
    exact hL.dk
  · unfold sout0_A_1
    rw [View.read_writes_eq_canon VS0_1 _ _ (scover0_A_1 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6), ← View.read_writes_eq_canon M.arg15.view M.arg15.view.junk _ (scover0_A_1 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6),
      runA_dv]
    refine diag_dv hR rfl ?_ j l
    rw [ptSt_eq, View.writes_append]
    exact hL.dv

theorem ptB (hT : TileIn T x0 x1 x2 x3 x4 x5 x6) (hc0 : ¬cond0_0 i) (hc1 : ¬cond0_1 i) {xo10 : Vec Ideal S1x2x4x1x512 .f32} {xs0 xs1 : Vec Ideal S2048x128 .f32} (h10 : IsDec xo10 Y10) (hs0 : IsAcc xs0 Y0) (hs1 : IsAcc xs1 Y1) :
    PtOut T (i 2).val Y10 Y0 Y1 (out0_B_7 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1) (out0_B_9 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1) (out0_B_10 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1) (sout0_B_0 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1) (sout0_B_1 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1) := by
  have h13 : HoldsDec M.arg13 (M.harg13.unread xo10) Y10 := fun e b j => (congrFun (M.harg13.read_unread xo10) _).trans (h10 e b j)
  have h14 : HoldsAcc M.arg14 (M.harg14.unread xs0) Y0 := fun j l => (congrFun (M.harg14.read_unread xs0) _).trans (hs0 j l)
  have h15 : HoldsAcc M.arg15 (M.harg15.unread xs1) Y1 := fun j l => (congrFun (M.harg15.read_unread xs1) _).trans (hs1 j l)
  have hL := pt_loop M c i hT h13 h14 h15
  have hR := pt_reads M hT (i 2).val
  refine ⟨fun r l => ?_, fun r e => ?_, fun e b j => ?_, fun j l => ?_, fun j l => ?_⟩
  · unfold out0_B_7
    rw [runB_dq]
    exact (whole3 VO0_7 _ _ _).trans (pt_dq M c i hT h13 h14 h15 r l)
  · unfold out0_B_9
    rw [runB_dcq]
    refine (View.read_writes_cons_unit_of_mem VO0_9 _ _ _ [] _ (ix4 0 0 r e) rfl fun a => ?_).trans (pt_dcq M c i hT h13 h14 h15 r e)
    match a with
    | ⟨0, _⟩ => rfl
    | ⟨1, _⟩ => rfl
    | ⟨2, _⟩ => exact (Nat.zero_add _).symm
    | ⟨3, _⟩ => exact (Nat.zero_add _).symm
  · unfold out0_B_10
    rw [runB_dc]
    refine diag_dc hR rfl ?_ e b j
    rw [ptSt_eq]
    exact hL.dc
  · unfold sout0_B_0
    rw [runB_dk]
    refine diag_dk hR rfl ?_ j l
    rw [ptSt_eq]
    exact hL.dk
  · unfold sout0_B_1
    rw [runB_dv]
    refine diag_dv hR rfl ?_ j l
    rw [ptSt_eq]
    exact hL.dv

theorem ptC (hT : TileIn T x0 x1 x2 x3 x4 x5 x6) (hc0 : ¬cond0_0 i) (hc1 : cond0_1 i) {xo10 : Vec Ideal S1x2x4x1x512 .f32} {xs0 xs1 : Vec Ideal S2048x128 .f32} (h10 : IsDec xo10 Y10) (hs0 : IsAcc xs0 Y0) (hs1 : IsAcc xs1 Y1) :
    PtOut T (i 2).val Y10 Y0 Y1 (out0_C_7 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1) (out0_C_9 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1) (out0_C_10 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1) (sout0_C_0 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1) (sout0_C_1 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1) := by
  have h13 : HoldsDec M.arg13 (M.harg13.unread xo10) Y10 := fun e b j => (congrFun (M.harg13.read_unread xo10) _).trans (h10 e b j)
  have h14 : HoldsAcc M.arg14 (M.harg14.unread xs0) Y0 := fun j l => (congrFun (M.harg14.read_unread xs0) _).trans (hs0 j l)
  have h15 : HoldsAcc M.arg15 (M.harg15.unread xs1) Y1 := fun j l => (congrFun (M.harg15.read_unread xs1) _).trans (hs1 j l)
  have hL := pt_loop M c i hT h13 h14 h15
  have hR := pt_reads M hT (i 2).val
  refine ⟨fun r l => ?_, fun r e => ?_, fun e b j => ?_, fun j l => ?_, fun j l => ?_⟩
  · unfold out0_C_7
    rw [runC_dq]
    exact (whole3 VO0_7 _ _ _).trans (pt_dq M c i hT h13 h14 h15 r l)
  · unfold out0_C_9
    rw [runC_dcq]
    refine (View.read_writes_cons_unit_of_mem VO0_9 _ _ _ [] _ (ix4 0 0 r e) rfl fun a => ?_).trans (pt_dcq M c i hT h13 h14 h15 r e)
    match a with
    | ⟨0, _⟩ => rfl
    | ⟨1, _⟩ => rfl
    | ⟨2, _⟩ => exact (Nat.zero_add _).symm
    | ⟨3, _⟩ => exact (Nat.zero_add _).symm
  · unfold out0_C_10
    rw [runC_dc]
    refine diag_dc hR rfl ?_ e b j
    rw [ptSt_eq]
    exact hL.dc
  · unfold sout0_C_0
    rw [runC_dk]
    refine diag_dk hR rfl ?_ j l
    rw [ptSt_eq]
    exact hL.dk
  · unfold sout0_C_1
    rw [runC_dv]
    refine diag_dv hR rfl ?_ j l
    rw [ptSt_eq]
    exact hL.dv

/-- The last point of a pair of heads writes the keys' and the values' gradients. -/
theorem ptC_kv (hT : TileIn T x0 x1 x2 x3 x4 x5 x6) (hc0 : ¬cond0_0 i) (hc1 : cond0_1 i) {xo10 : Vec Ideal S1x2x4x1x512 .f32} {xs0 xs1 : Vec Ideal S2048x128 .f32} (h10 : IsDec xo10 Y10) (hs0 : IsAcc xs0 Y0) (hs1 : IsAcc xs1 Y1) (j : Fin 2048) (l : Fin 256) :
    out0_C_8 c i M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 hc0 hc1 x0 x1 x2 x3 x4 x5 x6 xo10 xs0 xs1 (ix3 0 j l)
      = ((if l.val < 128 then (T.rows (i 2).val).dk Y0 (512 * (i 2).val + 512) j l else (T.rows (i 2).val).dv Y1 (512 * (i 2).val + 512) j (l - 128) : ℝ) : EReal) := by
  have h13 : HoldsDec M.arg13 (M.harg13.unread xo10) Y10 := fun e b j => (congrFun (M.harg13.read_unread xo10) _).trans (h10 e b j)
  have h14 : HoldsAcc M.arg14 (M.harg14.unread xs0) Y0 := fun j l => (congrFun (M.harg14.read_unread xs0) _).trans (hs0 j l)
  have h15 : HoldsAcc M.arg15 (M.harg15.unread xs1) Y1 := fun j l => (congrFun (M.harg15.read_unread xs1) _).trans (hs1 j l)
  have hL := pt_loop M c i hT h13 h14 h15
  have hR := pt_reads M hT (i 2).val
  have hk := diag_dk (f := M.harg14.unread xs0) (L := (ptSt M c i x0 x1 x2 x3 x4 x5 x6 (M.harg13.unread xo10) (M.harg14.unread xs0) (M.harg15.unread xs1)).2.2.1) hR rfl (by rw [ptSt_eq]; exact hL.dk)
  have hv := diag_dv (f := M.harg15.unread xs1) (L := (ptSt M c i x0 x1 x2 x3 x4 x5 x6 (M.harg13.unread xo10) (M.harg14.unread xs0) (M.harg15.unread xs1)).2.2.2) hR rfl (by rw [ptSt_eq]; exact hL.dv)
  unfold out0_C_8
  rw [runC_dkv]
  by_cases h : l.val < 128
  · rw [if_pos h]
    refine (View.read_writes_cons_unit_of_not_mem VO0_8 _ _ _ _ _ rfl ⟨2, by decide⟩ (Or.inl h)).trans ?_
    refine (View.read_writes_cons_unit_of_mem VO0_8 _ _ _ [] _ (ix3 0 j (⟨l.val, h⟩ : Fin 128)) rfl fun a => ?_).trans ?_
    · match a with
      | ⟨0, _⟩ => rfl
      | ⟨1, _⟩ => exact (Nat.zero_add _).symm
      | ⟨2, _⟩ => exact (Nat.zero_add _).symm
    · exact (pay3_at _ j ⟨l.val, h⟩).trans ((wholeAcc M.arg14 _ j ⟨l.val, h⟩).trans (hk j ⟨l.val, h⟩))
  · rw [if_neg h]
    refine (View.read_writes_cons_unit_of_mem VO0_8 _ _ _ _ _ (ix3 0 j (⟨l.val - 128, by omega⟩ : Fin 128)) rfl fun a => ?_).trans ?_
    · match a with
      | ⟨0, _⟩ => rfl
      | ⟨1, _⟩ => exact (Nat.zero_add _).symm
      | ⟨2, _⟩ => show l.val = 128 + (l.val - 128); omega
    · exact (pay4_at _ j ⟨l.val - 128, by omega⟩).trans ((wholeAcc M.arg15 _ j ⟨l.val - 128, by omega⟩).trans (hv j ⟨l.val - 128, by omega⟩))

end

end Fox
-- ==== Proof.Real.lean ====
/-
The rows of a point, over the real numbers, are the weights and the gradients of the attention of its two heads.
-/
module

public import proofs.«01_k».proof.Proof.Model
public import proofs.«01_k».proof.Proof.Point

@[expose] public section

noncomputable section

namespace Fox

open Finset

/-- Two heads, side by side: the first index is the head. -/
structure Pair where
  q : ℕ → ℕ → ℕ → ℝ
  k : ℕ → ℕ → ℕ → ℝ
  v : ℕ → ℕ → ℕ → ℝ
  g : ℕ → ℕ → ℕ → ℝ
  c : ℕ → ℕ → ℝ

namespace Pair

variable (P : Pair)

abbrev w (e i j : ℕ) : ℝ := W (P.q e) (P.k e) (P.c e) i j
abbrev ds (e i j : ℕ) : ℝ := DS (P.q e) (P.k e) (P.v e) (P.g e) (P.c e) i j

/-- What the blocks of the point of query block `n` hold. -/
def tile (n : ℕ) : Tile where
  Q r l := P.q (l / 64) (512 * n + r) (l % 64)
  KV j l := if l < 128 then P.k (l / 64) j (l % 64) else P.v ((l - 128) / 64) j ((l - 128) % 64)
  D r l := P.c (l / 64) (512 * n + r)
  C e j := P.c e j
  Z r l := M (P.q (l / 64)) (P.k (l / 64)) (P.c (l / 64)) (512 * n + r)
    + Real.log (L (P.q (l / 64)) (P.k (l / 64)) (P.c (l / 64)) (512 * n + r))
  O r l := Out (P.q (l / 64)) (P.k (l / 64)) (P.v (l / 64)) (P.c (l / 64)) (512 * n + r) (l % 64)
  G r l := P.g (l / 64) (512 * n + r) (l % 64)

abbrev rows (n : ℕ) : Rows := (P.tile n).rows n

/-- The values' gradient from the first `n` blocks of queries. -/
def dv (n j l : ℕ) : ℝ := ∑ i ∈ range (512 * n), P.w (l / 64) i j * P.g (l / 64) i (l % 64)

/-- The keys' gradient from the first `n` blocks of queries. -/
def dk (n j l : ℕ) : ℝ := ∑ i ∈ range (512 * n), P.ds (l / 64) i j * (P.q (l / 64) i (l % 64) * 8⁻¹)

/-- The gradient of the keys' decay from the first `n` blocks of queries. -/
def dc (n e j : ℕ) : ℝ := -∑ i ∈ range (512 * n), P.ds e i j

end Pair

/-- A sum over the lanes of one head of a pair. -/
theorem sum_lanes (e : ℕ) (he : e < 2) (f : ℕ → ℝ) :
    (∑ l ∈ range 128, if l / 64 = e then f l else 0) = ∑ d ∈ range 64, f (64 * e + d) := by
  rw [show 128 = 64 + 64 from rfl, Finset.sum_range_add]
  obtain rfl | rfl : e = 0 ∨ e = 1 := by omega
  · rw [Finset.sum_congr rfl fun l hl => if_pos (by have := mem_range.1 hl; omega),
      Finset.sum_eq_zero fun l hl => if_neg (by have := mem_range.1 hl; omega), add_zero]
    exact Finset.sum_congr rfl fun l _ => by rw [mul_zero, zero_add]
  · rw [Finset.sum_eq_zero fun l hl => if_neg (by have := mem_range.1 hl; omega),
      Finset.sum_congr rfl fun l hl => if_pos (by have := mem_range.1 hl; omega), zero_add]

/-- A sum over the stacked rows of the terms of one head. -/
theorem sum_rows (e : ℕ) (he : e < 2) (f : ℕ → ℝ) :
    (∑ r ∈ range 1024, if e = r / 512 then f r else 0) = ∑ r ∈ range 512, f (512 * e + r) := by
  rw [show 1024 = 512 + 512 from rfl, Finset.sum_range_add]
  obtain rfl | rfl : e = 0 ∨ e = 1 := by omega
  · rw [Finset.sum_congr rfl fun l hl => if_pos (by have := mem_range.1 hl; omega),
      Finset.sum_eq_zero fun l hl => if_neg (by have := mem_range.1 hl; omega), add_zero]
    exact Finset.sum_congr rfl fun l _ => by rw [mul_zero, zero_add]
  · rw [Finset.sum_eq_zero fun l hl => if_neg (by have := mem_range.1 hl; omega),
      Finset.sum_congr rfl fun l hl => if_pos (by have := mem_range.1 hl; omega), zero_add]

section

variable (P : Pair) {n : ℕ} (hn : n < 4) {r : ℕ} (hr : r < 1024)
include hr

theorem rows_score (j : ℕ) :
    (∑ l ∈ range 128, (P.rows n).A r l * (P.rows n).KV j l)
      = (∑ d ∈ range 64, P.q (r / 512) (512 * n + r % 512) d * P.k (r / 512) j d) * 8⁻¹ := by
  have he : r / 512 < 2 := by omega
  rw [Finset.sum_mul]
  refine (Eq.trans ?_ (sum_lanes (r / 512) he fun l =>
    P.q (r / 512) (512 * n + r % 512) (l % 64) * 8⁻¹ * P.k (r / 512) j (l % 64))).trans (Finset.sum_congr rfl fun d hd => ?_)
  · refine Finset.sum_congr rfl fun l hl => ?_
    show (if l / 64 = r / 512 then P.q (l / 64) (512 * n + r % 512) (l % 64) * 8⁻¹ else 0)
      * (if l < 128 then P.k (l / 64) j (l % 64) else _) = _
    rw [if_pos (mem_range.1 hl)]
    split
    · rename_i h; rw [h]
    · rw [zero_mul]
  · have := mem_range.1 hd
    rw [show (64 * (r / 512) + d) % 64 = d by omega]
    ring

theorem rows_dp (j : ℕ) :
    (∑ l ∈ range 128, (P.rows n).B r l * (P.rows n).KV j (128 + l))
      = DP (P.v (r / 512)) (P.g (r / 512)) (512 * n + r % 512) j := by
  have he : r / 512 < 2 := by omega
  unfold DP
  refine (Eq.trans ?_ (sum_lanes (r / 512) he fun l =>
    P.g (r / 512) (512 * n + r % 512) (l % 64) * P.v (r / 512) j (l % 64))).trans (Finset.sum_congr rfl fun d hd => ?_)
  · refine Finset.sum_congr rfl fun l hl => ?_
    show (if l / 64 = r / 512 then P.g (l / 64) (512 * n + r % 512) (l % 64) else 0)
      * (if 128 + l < 128 then P.k ((128 + l) / 64) j ((128 + l) % 64) else P.v ((128 + l - 128) / 64) j ((128 + l - 128) % 64)) = _
    rw [if_neg (show ¬128 + l < 128 by omega), Nat.add_sub_cancel_left]
    split
    · rename_i h; rw [h]
    · rw [zero_mul]
  · have := mem_range.1 hd
    rw [show (64 * (r / 512) + d) % 64 = d by omega]

theorem rows_del :
    (P.rows n).del r = DL (P.q (r / 512)) (P.k (r / 512)) (P.v (r / 512)) (P.g (r / 512)) (P.c (r / 512)) (512 * n + r % 512) := by
  have he : r / 512 < 2 := by omega
  rw [← sum_g_Out]
  show (∑ l ∈ range 128, if l / 64 = r / 512 then P.g (l / 64) (512 * n + r % 512) (l % 64)
    * Out (P.q (l / 64)) (P.k (l / 64)) (P.v (l / 64)) (P.c (l / 64)) (512 * n + r % 512) (l % 64) else 0) = _
  rw [sum_lanes (r / 512) he]
  refine Finset.sum_congr rfl fun d hd => ?_
  have := mem_range.1 hd
  rw [show (64 * (r / 512) + d) % 64 = d by omega, show (64 * (r / 512) + d) / 64 = r / 512 by omega]

include hn

theorem rows_p (j : ℕ) : (P.rows n).p r j = P.w (r / 512) (512 * n + r % 512) j := by
  unfold Rows.p
  show (if j ≤ 512 * n + r % 512 then _ else _) = _
  by_cases h : j ≤ 512 * n + r % 512
  · rw [if_pos h, Pair.w, W_eq_exp _ _ _ (by omega) h]
    unfold pBefore
    rw [rows_score P hr]
    congr 1
    unfold S
    have hb : (P.rows n).bias r = P.c (r / 512) (512 * n + r % 512) - (M (P.q (r / 512)) (P.k (r / 512)) (P.c (r / 512)) (512 * n + r % 512)
        + Real.log (L (P.q (r / 512)) (P.k (r / 512)) (P.c (r / 512)) (512 * n + r % 512))) := by
      show P.c (r / 512 * 64 / 64) _ - (M (P.q (r / 512 * 64 / 64)) (P.k (r / 512 * 64 / 64)) (P.c (r / 512 * 64 / 64)) _
        + Real.log (L (P.q (r / 512 * 64 / 64)) (P.k (r / 512 * 64 / 64)) (P.c (r / 512 * 64 / 64)) _)) = _
      rw [Nat.mul_div_cancel _ (by decide)]
    have hc : (if r < 512 then (P.rows n).C 0 j else (P.rows n).C 1 j) = P.c (r / 512) j := by
      split
      · rw [show r / 512 = 0 by omega]; rfl
      · rw [show r / 512 = 1 by omega]; rfl
    rw [hb, hc]
    ring
  · rw [if_neg h, Pair.w, W_of_lt _ _ _ (by omega)]

theorem rows_d (j : ℕ) : (P.rows n).d r j = P.ds (r / 512) (512 * n + r % 512) j := by
  unfold Rows.d dsOf
  rw [rows_p P hn hr, rows_dp P hr, rows_del P hr]
  rfl

end

section

variable (P : Pair) {n : ℕ} (hn : n < 4)
include hn

theorem rows_dv (j l : ℕ) (hl : l < 128) : (P.rows n).dv (P.dv n) (512 * n + 512) j l = P.dv (n + 1) j l := by
  have hs : P.dv (n + 1) j l = P.dv n j l + ∑ r ∈ range 512, P.w (l / 64) (512 * n + r) j * P.g (l / 64) (512 * n + r) (l % 64) := by
    unfold Pair.dv; rw [Nat.mul_succ, Finset.sum_range_add]
  unfold Rows.dv
  rw [hs]
  split
  · congr 1
    refine (Eq.trans ?_ (sum_rows (l / 64) (by omega) fun r =>
      P.w (l / 64) (512 * n + r % 512) j * P.g (l / 64) (512 * n + r % 512) (l % 64))).trans (Finset.sum_congr rfl fun r hr => ?_)
    · refine Finset.sum_congr rfl fun r hr => ?_
      rw [rows_p P hn (mem_range.1 hr)]
      show _ * (if l / 64 = r / 512 then P.g (l / 64) (512 * n + r % 512) (l % 64) else 0) = _
      split
      · rename_i h; rw [h]
      · rw [mul_zero]
    · have := mem_range.1 hr
      rw [show (512 * (l / 64) + r) % 512 = r by omega]
  · rw [Finset.sum_eq_zero, add_zero]
    intro r hr
    have := mem_range.1 hr
    rw [Pair.w, W_of_lt _ _ _ (by omega), zero_mul]

theorem rows_dk (j l : ℕ) (hl : l < 128) : (P.rows n).dk (P.dk n) (512 * n + 512) j l = P.dk (n + 1) j l := by
  have hs : P.dk (n + 1) j l = P.dk n j l
      + ∑ r ∈ range 512, P.ds (l / 64) (512 * n + r) j * (P.q (l / 64) (512 * n + r) (l % 64) * 8⁻¹) := by
    unfold Pair.dk; rw [Nat.mul_succ, Finset.sum_range_add]
  unfold Rows.dk
  rw [hs]
  split
  · congr 1
    refine (Eq.trans ?_ (sum_rows (l / 64) (by omega) fun r =>
      P.ds (l / 64) (512 * n + r % 512) j * (P.q (l / 64) (512 * n + r % 512) (l % 64) * 8⁻¹))).trans (Finset.sum_congr rfl fun r hr => ?_)
    · refine Finset.sum_congr rfl fun r hr => ?_
      rw [rows_d P hn (mem_range.1 hr)]
      show _ * (if l / 64 = r / 512 then P.q (l / 64) (512 * n + r % 512) (l % 64) * 8⁻¹ else 0) = _
      split
      · rename_i h; rw [h]
      · rw [mul_zero]
    · have := mem_range.1 hr
      rw [show (512 * (l / 64) + r) % 512 = r by omega]
  · rw [Finset.sum_eq_zero, add_zero]
    intro r hr
    have := mem_range.1 hr
    rw [Pair.ds, DS_of_lt _ _ _ _ _ (by omega), zero_mul]

theorem rows_dc (e j : ℕ) (he : e < 2) : (P.rows n).dc (P.dc n) (512 * n + 512) e j = P.dc (n + 1) e j := by
  have hs : P.dc (n + 1) e j = P.dc n e j - ∑ r ∈ range 512, P.ds e (512 * n + r) j := by
    unfold Pair.dc; rw [Nat.mul_succ, Finset.sum_range_add]; ring
  unfold Rows.dc
  rw [hs]
  split
  · congr 1
    refine Finset.sum_congr rfl fun r hr => ?_
    have := mem_range.1 hr
    rw [rows_d P hn (by omega), show (512 * e + r) / 512 = e by omega, show (512 * e + r) % 512 = r by omega]
  · rw [Finset.sum_eq_zero, sub_zero]
    intro r hr
    have := mem_range.1 hr
    rw [Pair.ds, DS_of_lt _ _ _ _ _ (by omega)]

/-- A sum over the keys up to the query's block is the sum over all keys. -/
theorem sum_keys (f : ℕ → ℝ) (e i : ℕ) (hi : i < 512 * n + 512) :
    (∑ j ∈ range (512 * n + 512), P.ds e i j * f j) = ∑ j ∈ range 2048, P.ds e i j * f j := by
  refine Finset.sum_subset (fun j hj => by simp at hj ⊢; omega) fun j _ hj => ?_
  rw [Pair.ds, DS_of_lt _ _ _ _ _ (by simp at hj; omega), zero_mul]

theorem rows_dq (r l : ℕ) (hr : r < 512) (hl : l < 128) :
    (P.rows n).dq (512 * n + 512) (l / 64 * 512 + r) l
      = ∑ j ∈ range 2048, P.ds (l / 64) (512 * n + r) j * P.k (l / 64) j (l % 64) := by
  rw [← sum_keys P hn _ _ _ (by omega)]
  unfold Rows.dq
  refine Finset.sum_congr rfl fun j _ => ?_
  rw [rows_d P hn (by omega), show (l / 64 * 512 + r) / 512 = l / 64 by omega, show (l / 64 * 512 + r) % 512 = r by omega]
  show _ * (if l < 128 then P.k (l / 64) j (l % 64) else _) = _
  rw [if_pos hl]

theorem rows_dcq (r e : ℕ) (hr : r < 512) (he : e < 2) :
    (P.rows n).dcq (512 * n + 512) (e * 512 + r) = ∑ j ∈ range 2048, P.ds e (512 * n + r) j := by
  have h := sum_keys P hn (fun _ => 1) e (512 * n + r) (by omega)
  simp only [mul_one] at h
  rw [← h]
  unfold Rows.dcq
  refine Finset.sum_congr rfl fun j _ => ?_
  rw [rows_d P hn (by omega), show (e * 512 + r) / 512 = e by omega, show (e * 512 + r) % 512 = r by omega]

end

end Fox

end
-- ==== Proof.Acc.lean ====
/-
What every point of the grid leaves: by induction along the queries' blocks of a pair of heads, the accumulators hold the
sums over the blocks so far.
-/
module

public import proofs.«01_k».proof.Proof.Real
public import proofs.«01_k».proof.Proof.Gen.KernelIdeal.Value

@[expose] public section

noncomputable section

set_option maxRecDepth 65536

namespace Fox

open Idealize.ShloMosaic Idealize.ShloMosaic.TcCoe Idealize.SL.Sem Cert.KernelIdeal Cert.KernelIdeal.Gen
open scoped Pointwise

/-- The arguments, as real numbers: queries, keys and values by batch, position, head and feature, the decay by batch,
    position and head, the cotangent by batch, position and lane. -/
structure Data where
  q : ℕ → ℕ → ℕ → ℕ → ℝ
  k : ℕ → ℕ → ℕ → ℕ → ℝ
  v : ℕ → ℕ → ℕ → ℕ → ℝ
  c : ℕ → ℕ → ℕ → ℝ
  g : ℕ → ℕ → ℕ → ℝ

/-- Heads `2 h` and `2 h + 1` of batch `b`. -/
def Data.pair (D : Data) (b h : ℕ) : Pair where
  q e i d := D.q b i (2 * h + e) d
  k e i d := D.k b i (2 * h + e) d
  v e i d := D.v b i (2 * h + e) d
  g e i d := D.g b i (64 * (2 * h + e) + d)
  c e i := D.c b i (2 * h + e)

/-- What the outputs and the accumulators hold after the point of query block `n`. -/
structure Left (P : Pair) (n : ℕ) (o7 : Vec Ideal S1x512x128 .bf16) (o9 : Vec Ideal S1x1x512x2 .f32)
    (o10 : Vec Ideal S1x2x4x1x512 .f32) (s0 s1 : Vec Ideal S2048x128 .f32) : Prop where
  h7 : ∀ (r : Fin 512) (l : Fin 128), o7 (ix3 0 r l)
    = (((∑ j ∈ Finset.range 2048, P.ds (l / 64) (512 * n + r) j * P.k (l / 64) j (l % 64)) * 8⁻¹ : ℝ) : EReal)
  h9 : ∀ (r : Fin 512) (e : Fin 2), o9 (ix4 0 0 r e) = ((∑ j ∈ Finset.range 2048, P.ds e (512 * n + r) j : ℝ) : EReal)
  h10 : IsDec o10 (P.dc (n + 1))
  hs0 : IsAcc s0 (P.dk (n + 1))
  hs1 : IsAcc s1 (P.dv (n + 1))

theorem left_of {P : Pair} {n : ℕ} (hn : n < 4) {o7 : Vec Ideal S1x512x128 .bf16} {o9 : Vec Ideal S1x1x512x2 .f32}
    {o10 : Vec Ideal S1x2x4x1x512 .f32} {s0 s1 : Vec Ideal S2048x128 .f32}
    (h : PtOut (P.tile n) n (P.dc n) (P.dk n) (P.dv n) o7 o9 o10 s0 s1) : Left P n o7 o9 o10 s0 s1 where
  h7 r l := (h.h7 r l).trans (by rw [rows_dq P hn _ _ r.isLt l.isLt])
  h9 r e := (h.h9 r e).trans (by rw [rows_dcq P hn _ _ r.isLt e.isLt])
  h10 e b j := (h.h10 e b j).trans (by rw [rows_dc P hn _ _ e.isLt])
  hs0 j l := (h.hs0 j l).trans (by rw [rows_dk P hn _ _ l.isLt])
  hs1 j l := (h.hs1 j l).trans (by rw [rows_dv P hn _ _ l.isLt])

theorem dc_zero (P : Pair) : P.dc 0 = fun _ _ => 0 := by funext e j; simp [Pair.dc]
theorem dk_zero (P : Pair) : P.dk 0 = fun _ _ => 0 := by funext e j; simp [Pair.dk]
theorem dv_zero (P : Pair) : P.dv 0 = fun _ _ => 0 := by funext e j; simp [Pair.dv]

theorem coord2 : ∀ t : Fin cfg0.N, (grid0.coords t 2).val = t.val % 4 := by decide +kernel

variable (m : (ℓ : Loc nD τ sig) → Buf (Elt Ideal) ℓ) (c : Dev nD) (D : Data)

/-- The blocks of every point hold the tiles of its pair of heads and block of queries. -/
abbrev Blocks : Prop := ∀ t : Fin cfg0.N, TileIn ((D.pair (t.val / 16) (t.val / 4 % 4)).tile (t.val % 4)) (iblk m c 0 t) (iblk m c 1 t)
  (iblk m c 2 t) (iblk m c 3 t) (iblk m c 4 t) (iblk m c 5 t) (iblk m c 6 t)

variable {m c D} (hB : Blocks m c D)
include hB

theorem pt_first (t : Fin cfg0.N) (h0 : t.val % 4 = 0) (h1 : ¬t.val % 4 = 3) :
    PtOut ((D.pair (t.val / 16) (t.val / 4 % 4)).tile (t.val % 4)) (t.val % 4) (fun _ _ => 0) (fun _ _ => 0) (fun _ _ => 0)
      (outsAt0 m c t.val t.isLt).1 (outsAt0 m c t.val t.isLt).2.2.1 (outsAt0 m c t.val t.isLt).2.2.2.1 (outsAt0 m c t.val t.isLt).2.2.2.2.1
      (outsAt0 m c t.val t.isLt).2.2.2.2.2 := by
  have h := ptA ⟨ms0_0 t, hs0_0 t, ms0_1 t, hs0_1 t, ms0_2 t, hs0_2 t, ms0_3 t, hs0_3 t, ms0_4 t, hs0_4 t, ms0_5 t, hs0_5 t, ms0_6 t, hs0_6 t,
    ms0_7 t, hs0_7 t, ms0_8 t, hs0_8 t, ms0_9 t, hs0_9 t, ms0_10 t, hs0_10 t, scM0_0, Memref.isWhole_whole _, scM0_1, Memref.isWhole_whole _⟩ c (grid0.coords t) (hB t) ((hcond0_0 t).mpr h0) (fun h => h1 ((hcond0_1 t).mp h))
  rw [coord2] at h
  rw [outsAt0_A m c t h0 h1]
  dsimp only at h ⊢
  exact h

theorem pt_mid (t : Fin cfg0.N) (h0 : ¬t.val % 4 = 0) (h1 : ¬t.val % 4 = 3) {Y10 Y0 Y1 : ℕ → ℕ → ℝ}
    (h10 : IsDec (outsAt0 m c (t.val - 1) (Nat.lt_of_le_of_lt (Nat.sub_le _ _) t.isLt)).2.2.2.1 Y10)
    (hs0 : IsAcc (outsAt0 m c (t.val - 1) (Nat.lt_of_le_of_lt (Nat.sub_le _ _) t.isLt)).2.2.2.2.1 Y0)
    (hs1 : IsAcc (outsAt0 m c (t.val - 1) (Nat.lt_of_le_of_lt (Nat.sub_le _ _) t.isLt)).2.2.2.2.2 Y1) :
    PtOut ((D.pair (t.val / 16) (t.val / 4 % 4)).tile (t.val % 4)) (t.val % 4) Y10 Y0 Y1
      (outsAt0 m c t.val t.isLt).1 (outsAt0 m c t.val t.isLt).2.2.1 (outsAt0 m c t.val t.isLt).2.2.2.1 (outsAt0 m c t.val t.isLt).2.2.2.2.1
      (outsAt0 m c t.val t.isLt).2.2.2.2.2 := by
  have h := ptB ⟨ms0_0 t, hs0_0 t, ms0_1 t, hs0_1 t, ms0_2 t, hs0_2 t, ms0_3 t, hs0_3 t, ms0_4 t, hs0_4 t, ms0_5 t, hs0_5 t, ms0_6 t, hs0_6 t,
    ms0_7 t, hs0_7 t, ms0_8 t, hs0_8 t, ms0_9 t, hs0_9 t, ms0_10 t, hs0_10 t, scM0_0, Memref.isWhole_whole _, scM0_1, Memref.isWhole_whole _⟩ c (grid0.coords t) (hB t) (fun h => h0 ((hcond0_0 t).mp h)) (fun h => h1 ((hcond0_1 t).mp h)) h10 hs0 hs1
  rw [coord2] at h
  rw [outsAt0_B m c t h0 h1]
  dsimp only at h ⊢
  exact h

theorem pt_last (t : Fin cfg0.N) (h0 : ¬t.val % 4 = 0) (h1 : t.val % 4 = 3) {Y10 Y0 Y1 : ℕ → ℕ → ℝ}
    (h10 : IsDec (outsAt0 m c (t.val - 1) (Nat.lt_of_le_of_lt (Nat.sub_le _ _) t.isLt)).2.2.2.1 Y10)
    (hs0 : IsAcc (outsAt0 m c (t.val - 1) (Nat.lt_of_le_of_lt (Nat.sub_le _ _) t.isLt)).2.2.2.2.1 Y0)
    (hs1 : IsAcc (outsAt0 m c (t.val - 1) (Nat.lt_of_le_of_lt (Nat.sub_le _ _) t.isLt)).2.2.2.2.2 Y1) :
    PtOut ((D.pair (t.val / 16) (t.val / 4 % 4)).tile (t.val % 4)) (t.val % 4) Y10 Y0 Y1
      (outsAt0 m c t.val t.isLt).1 (outsAt0 m c t.val t.isLt).2.2.1 (outsAt0 m c t.val t.isLt).2.2.2.1 (outsAt0 m c t.val t.isLt).2.2.2.2.1
      (outsAt0 m c t.val t.isLt).2.2.2.2.2 := by
  have h := ptC ⟨ms0_0 t, hs0_0 t, ms0_1 t, hs0_1 t, ms0_2 t, hs0_2 t, ms0_3 t, hs0_3 t, ms0_4 t, hs0_4 t, ms0_5 t, hs0_5 t, ms0_6 t, hs0_6 t,
    ms0_7 t, hs0_7 t, ms0_8 t, hs0_8 t, ms0_9 t, hs0_9 t, ms0_10 t, hs0_10 t, scM0_0, Memref.isWhole_whole _, scM0_1, Memref.isWhole_whole _⟩ c (grid0.coords t) (hB t) (fun h => h0 ((hcond0_0 t).mp h)) ((hcond0_1 t).mpr h1) h10 hs0 hs1
  rw [coord2] at h
  rw [outsAt0_C m c t h0 h1]
  dsimp only at h ⊢
  exact h

theorem left_at : ∀ (n : ℕ) (hn : n < cfg0.N), Left (D.pair (n / 16) (n / 4 % 4)) (n % 4) (outsAt0 m c n hn).1 (outsAt0 m c n hn).2.2.1
    (outsAt0 m c n hn).2.2.2.1 (outsAt0 m c n hn).2.2.2.2.1 (outsAt0 m c n hn).2.2.2.2.2 := by
  have first : ∀ (n : ℕ) (hn : n < cfg0.N), n % 4 = 0 → Left (D.pair (n / 16) (n / 4 % 4)) (n % 4) (outsAt0 m c n hn).1 (outsAt0 m c n hn).2.2.1
      (outsAt0 m c n hn).2.2.2.1 (outsAt0 m c n hn).2.2.2.2.1 (outsAt0 m c n hn).2.2.2.2.2 := by
    intro n hn h0
    have h1 : ¬n % 4 = 3 := by omega
    refine left_of (by omega) ?_
    rw [show (D.pair (n / 16) (n / 4 % 4)).dc (n % 4) = fun _ _ => 0 by rw [h0, dc_zero],
      show (D.pair (n / 16) (n / 4 % 4)).dk (n % 4) = fun _ _ => 0 by rw [h0, dk_zero],
      show (D.pair (n / 16) (n / 4 % 4)).dv (n % 4) = fun _ _ => 0 by rw [h0, dv_zero]]
    exact pt_first hB ⟨n, hn⟩ h0 h1
  intro n
  induction n with
  | zero => exact fun hn => first 0 hn rfl
  | succ n ih =>
    intro hn
    have ih := ih (Nat.lt_of_succ_lt hn)
    by_cases h0 : (n + 1) % 4 = 0
    · exact first (n + 1) hn h0
    · rw [show n / 16 = (n + 1) / 16 by omega, show n / 4 % 4 = (n + 1) / 4 % 4 by omega, show n % 4 = (n + 1) % 4 - 1 by omega] at ih
      have hs : (n + 1) % 4 - 1 + 1 = (n + 1) % 4 := by omega
      have i10 := ih.h10
      have i0 := ih.hs0
      have i1 := ih.hs1
      rw [hs] at i10 i0 i1
      by_cases h1 : (n + 1) % 4 = 3
      · exact left_of (by omega) (pt_last hB ⟨n + 1, hn⟩ h0 h1 i10 i0 i1)
      · exact left_of (by omega) (pt_mid hB ⟨n + 1, hn⟩ h0 h1 i10 i0 i1)

/-- The keys' and the values' gradients, at the last point of a pair of heads. -/
theorem kv_at (t : Fin cfg0.N) (h1 : t.val % 4 = 3) (j : Fin 2048) (l : Fin 256) : (outsAt0 m c t.val t.isLt).2.1 (ix3 0 j l)
    = ((if l.val < 128 then (D.pair (t.val / 16) (t.val / 4 % 4)).dk 4 j l else (D.pair (t.val / 16) (t.val / 4 % 4)).dv 4 j (l - 128) : ℝ) : EReal) := by
  have h0 : ¬t.val % 4 = 0 := by omega
  have ih := left_at hB (t.val - 1) (Nat.lt_of_le_of_lt (Nat.sub_le _ _) t.isLt)
  rw [show (t.val - 1) / 16 = t.val / 16 by omega, show (t.val - 1) / 4 % 4 = t.val / 4 % 4 by omega, show (t.val - 1) % 4 = t.val % 4 - 1 by omega] at ih
  have hs : t.val % 4 - 1 + 1 = t.val % 4 := by omega
  have i10 := ih.h10
  have i0 := ih.hs0
  have i1 := ih.hs1
  rw [hs] at i10 i0 i1
  rw [outsAt0_C m c t h0 h1]
  have h := ptC_kv ⟨ms0_0 t, hs0_0 t, ms0_1 t, hs0_1 t, ms0_2 t, hs0_2 t, ms0_3 t, hs0_3 t, ms0_4 t, hs0_4 t, ms0_5 t, hs0_5 t, ms0_6 t, hs0_6 t,
    ms0_7 t, hs0_7 t, ms0_8 t, hs0_8 t, ms0_9 t, hs0_9 t, ms0_10 t, hs0_10 t, scM0_0, Memref.isWhole_whole _, scM0_1, Memref.isWhole_whole _⟩ c (grid0.coords t) (hB t) (fun h => h0 ((hcond0_0 t).mp h)) ((hcond0_1 t).mpr h1) i10 i0 i1 j l
  rw [coord2] at h
  dsimp only at h ⊢
  refine h.trans ?_
  by_cases hl : l.val < 128
  · rw [if_pos hl, if_pos hl]
    refine (congrArg _ (rows_dk (D.pair (t.val / 16) (t.val / 4 % 4)) (n := t.val % 4) (by omega) j l hl)).trans ?_
    rw [h1]
  · rw [if_neg hl, if_neg hl]
    refine (congrArg _ (rows_dv (D.pair (t.val / 16) (t.val / 4 % 4)) (n := t.val % 4) (by omega) j (l - 128) (by omega))).trans ?_
    rw [h1]

end Fox

end
-- ==== Proof.Ref.lean ====
/-
The reference's stages, index by index, at arguments that are real numbers.
-/
module

public import proofs.«01_k».proof.Proof.Acc
public import proofs.«01_k».proof.Proof.Gen.ReferenceIdeal.Read

@[expose] public section

noncomputable section

set_option maxRecDepth 65536

namespace Fox

open Idealize.ShloMosaic Idealize.ShloMosaic.TcCoe Idealize.SL.Sem Cert.ReferenceIdeal Cert.ReferenceIdeal.Gen Cert.ReferenceIdeal.Read

/-- One head's arguments. -/
def Data.hq (D : Data) (b h : ℕ) : ℕ → ℕ → ℝ := fun i d => D.q b i h d
def Data.hk (D : Data) (b h : ℕ) : ℕ → ℕ → ℝ := fun i d => D.k b i h d
def Data.hv (D : Data) (b h : ℕ) : ℕ → ℕ → ℝ := fun i d => D.v b i h d
def Data.hg (D : Data) (b h : ℕ) : ℕ → ℕ → ℝ := fun i d => D.g b i (64 * h + d)
def Data.hc (D : Data) (b h : ℕ) : ℕ → ℝ := fun i => D.c b i h

/-- The arguments hold the data. -/
structure Data.Holds (D : Data) (x0 x1 x2 : (⟨S2x2048x8x64, .f32⟩ : BufTy).Contents (Elt Ideal)) (x3 : (⟨S2x2048x8, .f32⟩ : BufTy).Contents (Elt Ideal))
    (x4 : (⟨S2x2048x512, .f32⟩ : BufTy).Contents (Elt Ideal)) : Prop where
  h0 : ∀ i : S2x2048x8x64.Idx, x0 i = (D.q (i 0).val (i 1).val (i 2).val (i 3).val : EReal)
  h1 : ∀ i : S2x2048x8x64.Idx, x1 i = (D.k (i 0).val (i 1).val (i 2).val (i 3).val : EReal)
  h2 : ∀ i : S2x2048x8x64.Idx, x2 i = (D.v (i 0).val (i 1).val (i 2).val (i 3).val : EReal)
  h3 : ∀ i : S2x2048x8.Idx, x3 i = (D.c (i 0).val (i 1).val (i 2).val : EReal)
  h4 : ∀ i : S2x2048x512.Idx, x4 i = (D.g (i 0).val (i 1).val (i 2).val : EReal)

theorem neg_inf_f32 : Ideal.ofBits .f32 0xFF800000#32 = (⊥ : EReal) := by
  simp [Ideal.ofBits, Ideal.ieee]

theorem one_f32 : Ideal.ofBits .f32 0x3F800000#32 = ((1 : ℝ) : EReal) := by simpa using Ideal.ofBits_one_f32

theorem later_word (a b : ℕ) (ha : a < 2048) (hb : b < 2048) :
    IntOp.cmpi CmpIPredicate.sge (BitVec.ofNat 32 a) (BitVec.ofNat 32 b) = 1 ↔ b ≤ a := by
  exact WordCmp.cmpi_sge_ofNat_eq_one_iff (by omega) (by omega)

theorem congr_coe3 (f : ℕ → ℕ → ℕ → ℝ) {a b c a' b' c' : ℕ} (ha : a = a') (hb : b = b') (hc : c = c') : (f a b c : EReal) = (f a' b' c' : EReal) := by
  rw [ha, hb, hc]

theorem congr_coe4 (f : ℕ → ℕ → ℕ → ℕ → ℝ) {a b c d a' b' c' d' : ℕ} (ha : a = a') (hb : b = b') (hc : c = c') (hd : d = d') :
    (f a b c d : EReal) = (f a' b' c' d' : EReal) := by
  rw [ha, hb, hc, hd]

theorem zero_sum {n : ℕ} (z : EReal) (F : Fin n → EReal) (f : ℕ → ℝ) (hz : z = 0) (h : ∀ x : Fin n, F x = (f x : EReal)) :
    z + ∑ x : Fin n, F x = ((∑ x ∈ Finset.range n, f x : ℝ) : EReal) := by
  rw [hz, zero_add, sum_fin F f h]

/-- The largest of a row that holds numbers up to position `i` and minus infinity after it. -/
theorem fold_max_row (f : Fin 2048 → EReal) (s : ℕ → ℝ) (i : ℕ) (hi : i < 2048)
    (hf : ∀ j : Fin 2048, f j = if j.val ≤ i then (s j : EReal) else ⊥) :
    (Finset.univ : Finset (Fin 2048)).fold max ⊥ f = (((Finset.range (i + 1)).sup' ⟨0, by simp⟩ s : ℝ) : EReal) := by
  have e : (Finset.univ : Finset (Fin 2048)).fold max ⊥ f = Finset.univ.sup f := rfl
  rw [e]
  apply le_antisymm
  · refine Finset.sup_le fun j _ => ?_
    rw [hf]
    split
    · rename_i h
      exact EReal.coe_le_coe_iff.mpr (Finset.le_sup' s (by simp; omega))
    · exact bot_le
  · obtain ⟨j, hj, e⟩ := Finset.exists_mem_eq_sup' (s := Finset.range (i + 1)) ⟨0, by simp⟩ s
    have hj' : j ≤ i := by simp at hj; omega
    rw [e]
    have := Finset.le_sup (f := f) (Finset.mem_univ (⟨j, by omega⟩ : Fin 2048))
    rw [hf] at this
    simpa [hj'] using this

theorem coord_v51 (i : S2x2048x8x64.Idx) : (idx_main_v51 i 0).val = (i 0).val ∧ (idx_main_v51 i 1).val = (i 1).val ∧ (idx_main_v51 i 2).val = 64 * (i 2).val + (i 3).val := by
  have h0 : (i 0).val < 2 := (i 0).isLt
  have h1 : (i 1).val < 2048 := (i 1).isLt
  have h2 : (i 2).val < 8 := (i 2).isLt
  have h3 : (i 3).val < 64 := (i 3).isLt
  exact (by refine ⟨?_, ?_, ?_⟩ <;> omega :
    ((((i 0).val * 2048 + (i 1).val) * 8 + (i 2).val) * 64 + (i 3).val) / 1048576 = (i 0).val ∧
    ((((i 0).val * 2048 + (i 1).val) * 8 + (i 2).val) * 64 + (i 3).val) / 512 % 2048 = (i 1).val ∧
    ((((i 0).val * 2048 + (i 1).val) * 8 + (i 2).val) * 64 + (i 3).val) % 512 = 64 * (i 2).val + (i 3).val)

theorem coord_v84 (i : S2x2048x4x128.Idx) : (idx_main_v84 i 0).val = (i 0).val ∧ (idx_main_v84 i 1).val = (i 1).val ∧ (idx_main_v84 i 2).val = 2 * (i 2).val + (i 3).val / 64 ∧ (idx_main_v84 i 3).val = (i 3).val % 64 := by
  have h0 : (i 0).val < 2 := (i 0).isLt
  have h1 : (i 1).val < 2048 := (i 1).isLt
  have h2 : (i 2).val < 4 := (i 2).isLt
  have h3 : (i 3).val < 128 := (i 3).isLt
  exact (by refine ⟨?_, ?_, ?_, ?_⟩ <;> omega :
    ((((i 0).val * 2048 + (i 1).val) * 4 + (i 2).val) * 128 + (i 3).val) / 1048576 = (i 0).val ∧
    ((((i 0).val * 2048 + (i 1).val) * 4 + (i 2).val) * 128 + (i 3).val) / 512 % 2048 = (i 1).val ∧
    ((((i 0).val * 2048 + (i 1).val) * 4 + (i 2).val) * 128 + (i 3).val) / 64 % 8 = 2 * (i 2).val + (i 3).val / 64 ∧
    ((((i 0).val * 2048 + (i 1).val) * 4 + (i 2).val) * 128 + (i 3).val) % 64 = (i 3).val % 64)

theorem coord_v85 (i : S2x2048x4x128.Idx) : (idx_main_v85 i 0).val = (i 0).val ∧ (idx_main_v85 i 1).val = (i 1).val ∧ (idx_main_v85 i 2).val = 2 * (i 2).val + (i 3).val / 64 ∧ (idx_main_v85 i 3).val = (i 3).val % 64 := by
  have h0 : (i 0).val < 2 := (i 0).isLt
  have h1 : (i 1).val < 2048 := (i 1).isLt
  have h2 : (i 2).val < 4 := (i 2).isLt
  have h3 : (i 3).val < 128 := (i 3).isLt
  exact (by refine ⟨?_, ?_, ?_, ?_⟩ <;> omega :
    ((((i 0).val * 2048 + (i 1).val) * 4 + (i 2).val) * 128 + (i 3).val) / 1048576 = (i 0).val ∧
    ((((i 0).val * 2048 + (i 1).val) * 4 + (i 2).val) * 128 + (i 3).val) / 512 % 2048 = (i 1).val ∧
    ((((i 0).val * 2048 + (i 1).val) * 4 + (i 2).val) * 128 + (i 3).val) / 64 % 8 = 2 * (i 2).val + (i 3).val / 64 ∧
    ((((i 0).val * 2048 + (i 1).val) * 4 + (i 2).val) * 128 + (i 3).val) % 64 = (i 3).val % 64)

theorem coord_v87 (i : S2x2048x512.Idx) : (idx_main_v87 i 0).val = (i 0).val ∧ (idx_main_v87 i 1).val = (i 1).val ∧ (idx_main_v87 i 2).val = (i 2).val / 64 ∧ (idx_main_v87 i 3).val = (i 2).val % 64 := by
  have h0 : (i 0).val < 2 := (i 0).isLt
  have h1 : (i 1).val < 2048 := (i 1).isLt
  have h2 : (i 2).val < 512 := (i 2).isLt
  exact (by refine ⟨?_, ?_, ?_, ?_⟩ <;> omega :
    (((i 0).val * 2048 + (i 1).val) * 512 + (i 2).val) / 1048576 = (i 0).val ∧
    (((i 0).val * 2048 + (i 1).val) * 512 + (i 2).val) / 512 % 2048 = (i 1).val ∧
    (((i 0).val * 2048 + (i 1).val) * 512 + (i 2).val) / 64 % 8 = (i 2).val / 64 ∧
    (((i 0).val * 2048 + (i 1).val) * 512 + (i 2).val) % 64 = (i 2).val % 64)

theorem coord_v89 (i : S2x2048x1024.Idx) : (idx_main_v89 i 0).val = (i 0).val ∧ (idx_main_v89 i 1).val = (i 1).val ∧ (idx_main_v89 i 2).val = (i 2).val / 256 ∧ (idx_main_v89 i 3).val = (i 2).val % 256 := by
  have h0 : (i 0).val < 2 := (i 0).isLt
  have h1 : (i 1).val < 2048 := (i 1).isLt
  have h2 : (i 2).val < 1024 := (i 2).isLt
  exact (by refine ⟨?_, ?_, ?_, ?_⟩ <;> omega :
    (((i 0).val * 2048 + (i 1).val) * 1024 + (i 2).val) / 2097152 = (i 0).val ∧
    (((i 0).val * 2048 + (i 1).val) * 1024 + (i 2).val) / 1024 % 2048 = (i 1).val ∧
    (((i 0).val * 2048 + (i 1).val) * 1024 + (i 2).val) / 256 % 4 = (i 2).val / 256 ∧
    (((i 0).val * 2048 + (i 1).val) * 1024 + (i 2).val) % 256 = (i 2).val % 256)

theorem coord_v91 (i : S2x2048x4x2.Idx) : (idx_main_v91 i 0).val = (i 0).val ∧ (idx_main_v91 i 1).val = (i 1).val ∧ (idx_main_v91 i 2).val = 2 * (i 2).val + (i 3).val := by
  have h0 : (i 0).val < 2 := (i 0).isLt
  have h1 : (i 1).val < 2048 := (i 1).isLt
  have h2 : (i 2).val < 4 := (i 2).isLt
  have h3 : (i 3).val < 2 := (i 3).isLt
  exact (by refine ⟨?_, ?_, ?_⟩ <;> omega :
    ((((i 0).val * 2048 + (i 1).val) * 4 + (i 2).val) * 2 + (i 3).val) / 16384 = (i 0).val ∧
    ((((i 0).val * 2048 + (i 1).val) * 4 + (i 2).val) * 2 + (i 3).val) / 8 % 2048 = (i 1).val ∧
    ((((i 0).val * 2048 + (i 1).val) * 4 + (i 2).val) * 2 + (i 3).val) % 8 = 2 * (i 2).val + (i 3).val)

theorem coord_v94 (i : S2x8x4x1x512.Idx) : (idx_main_v94 i 0).val = (i 0).val ∧ (idx_main_v94 i 1).val = (i 1).val ∧ (idx_main_v94 i 2).val = 512 * (i 2).val + (i 4).val := by
  have h0 : (i 0).val < 2 := (i 0).isLt
  have h1 : (i 1).val < 8 := (i 1).isLt
  have h2 : (i 2).val < 4 := (i 2).isLt
  have h3 : (i 3).val < 1 := (i 3).isLt
  have h4 : (i 4).val < 512 := (i 4).isLt
  exact (by refine ⟨?_, ?_, ?_⟩ <;> omega :
    (((((i 0).val * 8 + (i 1).val) * 4 + (i 2).val) * 1 + (i 3).val) * 512 + (i 4).val) / 16384 = (i 0).val ∧
    (((((i 0).val * 8 + (i 1).val) * 4 + (i 2).val) * 1 + (i 3).val) * 512 + (i 4).val) / 2048 % 8 = (i 1).val ∧
    (((((i 0).val * 8 + (i 1).val) * 4 + (i 2).val) * 1 + (i 3).val) * 512 + (i 4).val) % 2048 = 512 * (i 2).val + (i 4).val)

theorem coord_v60 (i : S2x8x2048x1.Idx) : (idx_main_v60 i 0).val = (i 0).val ∧ (idx_main_v60 i 1).val = (i 1).val ∧ (idx_main_v60 i 2).val = (i 2).val := by
  have h0 : (i 0).val < 2 := (i 0).isLt
  have h1 : (i 1).val < 8 := (i 1).isLt
  have h2 : (i 2).val < 2048 := (i 2).isLt
  have h3 : (i 3).val < 1 := (i 3).isLt
  exact (by refine ⟨?_, ?_, ?_⟩ <;> omega :
    ((((i 0).val * 8 + (i 1).val) * 2048 + (i 2).val) * 1 + (i 3).val) / 16384 = (i 0).val ∧
    ((((i 0).val * 8 + (i 1).val) * 2048 + (i 2).val) * 1 + (i 3).val) / 2048 % 8 = (i 1).val ∧
    ((((i 0).val * 8 + (i 1).val) * 2048 + (i 2).val) * 1 + (i 3).val) % 2048 = (i 2).val)

theorem coord_v71 (i : S2x8x1x2048.Idx) : (idx_main_v71 i 0).val = (i 0).val ∧ (idx_main_v71 i 1).val = (i 1).val ∧ (idx_main_v71 i 2).val = (i 3).val := by
  have h0 : (i 0).val < 2 := (i 0).isLt
  have h1 : (i 1).val < 8 := (i 1).isLt
  have h2 : (i 2).val < 1 := (i 2).isLt
  have h3 : (i 3).val < 2048 := (i 3).isLt
  exact (by refine ⟨?_, ?_, ?_⟩ <;> omega :
    ((((i 0).val * 8 + (i 1).val) * 1 + (i 2).val) * 2048 + (i 3).val) / 16384 = (i 0).val ∧
    ((((i 0).val * 8 + (i 1).val) * 1 + (i 2).val) * 2048 + (i 3).val) / 2048 % 8 = (i 1).val ∧
    ((((i 0).val * 8 + (i 1).val) * 1 + (i 2).val) * 2048 + (i 3).val) % 2048 = (i 3).val)

theorem coord_v75 (i : S2x8x2048x1.Idx) : (idx_main_v75 i 0).val = (i 0).val ∧ (idx_main_v75 i 1).val = (i 1).val ∧ (idx_main_v75 i 2).val = (i 2).val := by
  have h0 : (i 0).val < 2 := (i 0).isLt
  have h1 : (i 1).val < 8 := (i 1).isLt
  have h2 : (i 2).val < 2048 := (i 2).isLt
  have h3 : (i 3).val < 1 := (i 3).isLt
  exact (by refine ⟨?_, ?_, ?_⟩ <;> omega :
    ((((i 0).val * 8 + (i 1).val) * 2048 + (i 2).val) * 1 + (i 3).val) / 16384 = (i 0).val ∧
    ((((i 0).val * 8 + (i 1).val) * 2048 + (i 2).val) * 1 + (i 3).val) / 2048 % 8 = (i 1).val ∧
    ((((i 0).val * 8 + (i 1).val) * 2048 + (i 2).val) * 1 + (i 3).val) % 2048 = (i 2).val)

variable {D : Data} {x0 x1 x2 : (⟨S2x2048x8x64, .f32⟩ : BufTy).Contents (Elt Ideal)} {x3 : (⟨S2x2048x8, .f32⟩ : BufTy).Contents (Elt Ideal)}
  {x4 : (⟨S2x2048x512, .f32⟩ : BufTy).Contents (Elt Ideal)} (H : D.Holds x0 x1 x2 x3 x4)

/-! ## The scores and their weights -/

abbrev Data.S (D : Data) (b h i j : ℕ) : ℝ := Fox.S (D.hq b h) (D.hk b h) (D.hc b h) i j
abbrev Data.M (D : Data) (b h i : ℕ) : ℝ := Fox.M (D.hq b h) (D.hk b h) (D.hc b h) i
abbrev Data.E (D : Data) (b h i j : ℕ) : ℝ := Fox.E (D.hq b h) (D.hk b h) (D.hc b h) i j
abbrev Data.L (D : Data) (b h i : ℕ) : ℝ := Fox.L (D.hq b h) (D.hk b h) (D.hc b h) i
abbrev Data.W (D : Data) (b h i j : ℕ) : ℝ := Fox.W (D.hq b h) (D.hk b h) (D.hc b h) i j
abbrev Data.DP (D : Data) (b h i j : ℕ) : ℝ := Fox.DP (D.hv b h) (D.hg b h) i j
abbrev Data.DL (D : Data) (b h i : ℕ) : ℝ := Fox.DL (D.hq b h) (D.hk b h) (D.hv b h) (D.hg b h) (D.hc b h) i
abbrev Data.DS (D : Data) (b h i j : ℕ) : ℝ := Fox.DS (D.hq b h) (D.hk b h) (D.hv b h) (D.hg b h) (D.hc b h) i j

include H

theorem ref_dot (i : S2x8x2048x2048.Idx) : val_main_v0 (F := Ideal) x0 x1 i
    = ((∑ d ∈ Finset.range 64, D.hq (i 0).val (i 1).val (i 2).val d * D.hk (i 0).val (i 1).val (i 3).val d : ℝ) : EReal) := by
  rw [val_main_v0_apply]
  exact dot_real _ _ _ _ (fun d => H.h0 _) (fun d => H.h1 _)

theorem ref_cq (i : S2x8x2048x2048.Idx) : val_main_v5 (F := Ideal) x3 i = (D.hc (i 0).val (i 1).val (i 2).val : EReal) := by
  rw [val_main_v5_apply, val_main_v4_apply, val_main_v3_apply]
  exact H.h3 _

theorem ref_ck (i : S2x8x2048x2048.Idx) : val_main_v9 (F := Ideal) x3 i = (D.hc (i 0).val (i 1).val (i 3).val : EReal) := by
  rw [val_main_v9_apply, val_main_v8_apply, val_main_v7_apply]
  exact H.h3 _

theorem ref_S (i : S2x8x2048x2048.Idx) : val_main_v10 (F := Ideal) x0 x1 x3 i = (D.S (i 0).val (i 1).val (i 2).val (i 3).val : EReal) := by
  rw [val_main_v10_apply, val_main_v6_apply, val_main_v2_apply, ref_dot H, ref_cq H, ref_ck H, val_main_v1_apply, val_main_cst_apply]
  have e : (FloatOps.ofBits .f32 0x3E000000#32 : Ideal .f32) = ((8⁻¹ : ℝ) : EReal) := eighth_f32
  rw [e]
  exact (by rw [← EReal.coe_mul, ← EReal.coe_add, ← EReal.coe_sub] :
    (((∑ d ∈ Finset.range 64, D.hq (i 0).val (i 1).val (i 2).val d * D.hk (i 0).val (i 1).val (i 3).val d : ℝ) : EReal) * ((8⁻¹ : ℝ) : EReal)
      + (D.hc (i 0).val (i 1).val (i 2).val : EReal)) - (D.hc (i 0).val (i 1).val (i 3).val : EReal) = _)

omit H in
theorem ref_mask {α : Type} (i : S2x8x2048x2048.Idx) (x y : α) :
    Scalar.select (val_main_v19_1 (F := Ideal) i) x y = if (i 3).val ≤ (i 2).val then x else y := by
  rw [val_main_v19_1_apply, val_main_v18_apply, val_main_v17_apply, val_main_v15_apply, val_main_v12_apply, val_main_v11_apply,
    val_main_v16_apply, val_main_v14_apply, val_main_v13_apply]
  unfold Scalar.select
  have e := later_word (i 2).val (i 3).val (i 2).isLt (i 3).isLt
  simp only [e]

theorem ref_masked (i : S2x8x2048x2048.Idx) : val_main_v19_0 (F := Ideal) x0 x1 x3 i
    = if (i 3).val ≤ (i 2).val then (D.S (i 0).val (i 1).val (i 2).val (i 3).val : EReal) else ⊥ := by
  rw [val_main_v19_0_apply, ref_mask, ref_S H, val_main_call0_v2_apply, val_main_call0_v0_apply, val_main_cst_0_apply]
  have e : (FloatOps.ofBits .f32 0xFF800000#32 : Ideal .f32) = (⊥ : EReal) := neg_inf_f32
  rw [e]

theorem ref_M (i : S2x8x2048.Idx) : val_main_v20 (F := Ideal) x0 x1 x3 i = (D.M (i 0).val (i 1).val (i 2).val : EReal) := by
  unfold val_main_v20
  rw [Ideal.maximumf_eq_max, Host.reduce_eq_fold_single max _ _ _ (by decide)]
  have e : val_main_cst_1 (F := Ideal) (Shape.Idx.first h_S_) = (⊥ : EReal) := neg_inf_f32
  rw [e]
  refine fold_max_row _ (D.S (i 0).val (i 1).val (i 2).val) (i 2).val (i 2).isLt fun j => ?_
  exact ref_masked H _

theorem ref_max (i : S2x8x2048x2048.Idx) : val_main_v38 (F := Ideal) x0 x1 x3 i = (D.M (i 0).val (i 1).val (i 2).val : EReal) := by
  rw [val_main_v38_apply, val_main_v37_apply, val_main_v27_apply, ref_M H, val_main_v26_apply, val_main_cst_3_apply]
  have e : (FloatOps.ofBits .f32 0xFF800000#32 : Ideal .f32) = (⊥ : EReal) := neg_inf_f32
  rw [e, Ideal.maximumf_eq_max]
  rw [max_eq_right bot_le]

theorem ref_E (i : S2x8x2048x2048.Idx) : val_main_v40 (F := Ideal) x0 x1 x3 i = (D.E (i 0).val (i 1).val (i 2).val (i 3).val : EReal) := by
  rw [val_main_v40_apply, val_main_v39_apply, ref_masked H, ref_max H]
  unfold Data.E Fox.E
  split
  · exact (congrArg Ideal.exp (EReal.coe_sub _ _).symm).trans (Ideal.exp_coe _)
  · exact (congrArg Ideal.exp (EReal.bot_sub (D.M (i 0).val (i 1).val (i 2).val : EReal))).trans rfl

theorem ref_L (i : S2x8x2048.Idx) : val_main_v41 (F := Ideal) x0 x1 x3 i = (D.L (i 0).val (i 1).val (i 2).val : EReal) := by
  rw [val_main_v41_apply]
  exact zero_sum _ _ _ Ideal.ofBits_zero_f32 fun j => ref_E H _

/-- The normaliser spread over a column. -/
theorem ref_Lcol (i : S2x8x2048x1.Idx) : val_main_v42 (F := Ideal) x0 x1 x3 i = (D.L (i 0).val (i 1).val (i 2).val : EReal) := by
  rw [val_main_v42_apply, ref_L H]

theorem ref_W (i : S2x8x2048x2048.Idx) : val_main_v44 (F := Ideal) x0 x1 x3 i = (D.W (i 0).val (i 1).val (i 2).val (i 3).val : EReal) := by
  rw [val_main_v44_apply, ref_E H, val_main_v43_apply, ref_Lcol H]
  have hL := (L_pos (D.hq (i 0).val (i 1).val) (D.hk (i 0).val (i 1).val) (D.hc (i 0).val (i 1).val) (i := (i 2).val) (i 2).isLt).ne'
  refine (Ideal.div_coe hL _).trans ?_
  rw [← EReal.coe_mul, mul_one_div]
  rfl

/-! ## The gradients -/

theorem ref_g (i : S2x8x2048x64.Idx) : val_main_v52 (F := Ideal) x4 i = (D.hg (i 0).val (i 1).val (i 2).val (i 3).val : EReal) := by
  rw [val_main_v52_apply, val_main_v51_apply, H.h4]
  obtain ⟨h0, h1, h2⟩ := coord_v51 (idx_main_v52 i)
  exact congr_coe3 D.g h0 h1 h2

theorem ref_dv (i : S2x8x64x2048.Idx) : val_main_v53 (F := Ideal) x0 x1 x3 x4 i
    = ((∑ n ∈ Finset.range 2048, D.hg (i 0).val (i 1).val n (i 2).val * D.W (i 0).val (i 1).val n (i 3).val : ℝ) : EReal) := by
  rw [val_main_v53_apply]
  exact dot_real _ _ _ _ (fun n => ref_g H _) (fun n => ref_W H _)

theorem ref_DP (i : S2x8x2048x2048.Idx) : val_main_v55 (F := Ideal) x2 x4 i = (D.DP (i 0).val (i 1).val (i 2).val (i 3).val : EReal) := by
  rw [val_main_v55_apply]
  exact dot_real _ _ _ _ (fun d => ref_g H _) (fun d => H.h2 _)

theorem ref_inv (i : S2x8x2048x2048.Idx) : val_main_v56 (F := Ideal) x0 x1 x3 i
    = ((1 / (D.L (i 0).val (i 1).val (i 2).val * D.L (i 0).val (i 1).val (i 2).val) : ℝ) : EReal) := by
  rw [val_main_v56_apply, val_main_v47_apply, val_main_v46_apply, val_main_cst_10_apply, val_main_v45_apply, ref_Lcol H]
  have e : (FloatOps.ofBits .f32 0x3F800000#32 : Ideal .f32) = ((1 : ℝ) : EReal) := one_f32
  rw [e]
  have hL := (L_pos (D.hq (i 0).val (i 1).val) (D.hk (i 0).val (i 1).val) (D.hc (i 0).val (i 1).val) (i := (i 2).val) (i 2).isLt).ne'
  refine Eq.trans (b := Ideal.div ((1 : ℝ) : EReal) ((D.L (i 0).val (i 1).val (i 2).val * D.L (i 0).val (i 1).val (i 2).val : ℝ) : EReal)) rfl ?_
  rw [Ideal.div_coe (mul_ne_zero hL hL), ← EReal.coe_mul, one_mul]

theorem ref_DL (i : S2x8x2048x2048.Idx) : val_main_v65 (F := Ideal) x0 x1 x2 x3 x4 i
    = ((- ∑ j ∈ Finset.range 2048, D.DP (i 0).val (i 1).val (i 2).val j
        * (1 / (D.L (i 0).val (i 1).val (i 2).val * D.L (i 0).val (i 1).val (i 2).val)) * D.E (i 0).val (i 1).val (i 2).val j : ℝ) : EReal) := by
  have term : ∀ k : S2x8x2048x2048.Idx, val_main_v58 (F := Ideal) x0 x1 x2 x3 x4 k
      = ((D.DP (k 0).val (k 1).val (k 2).val (k 3).val
        * (1 / (D.L (k 0).val (k 1).val (k 2).val * D.L (k 0).val (k 1).val (k 2).val)) * D.E (k 0).val (k 1).val (k 2).val (k 3).val : ℝ) : EReal) := fun k => by
    rw [val_main_v58_apply, val_main_v57_apply, ref_DP H, ref_inv H, ref_E H, EReal.coe_mul, EReal.coe_mul]
    rfl
  have row : ∀ k : S2x8x2048.Idx, val_main_v59 (F := Ideal) x0 x1 x2 x3 x4 k
      = ((∑ j ∈ Finset.range 2048, D.DP (k 0).val (k 1).val (k 2).val j
        * (1 / (D.L (k 0).val (k 1).val (k 2).val * D.L (k 0).val (k 1).val (k 2).val)) * D.E (k 0).val (k 1).val (k 2).val j : ℝ) : EReal) := fun k => by
    rw [val_main_v59_apply]
    exact zero_sum _ _ _ Ideal.ofBits_zero_f32 fun j => term _
  rw [val_main_v65_apply, val_main_v64_apply, Fin.sum_univ_one, val_main_v61_apply, val_main_v60_apply, row]
  have z : val_main_cst_12 (F := Ideal) (Shape.Idx.first h_S_) = (0 : EReal) := Ideal.ofBits_zero_f32
  obtain ⟨h0, h1, h2⟩ := coord_v60 (idx_main_v64 (idx_main_v65 i) 0)
  rw [z, zero_add, h0, h1, h2, EReal.coe_neg]
  rfl

/-- The gradient of the score. -/
theorem ref_DS (i : S2x8x2048x2048.Idx) : val_main_v68 (F := Ideal) x0 x1 x2 x3 x4 i = (D.DS (i 0).val (i 1).val (i 2).val (i 3).val : EReal) := by
  rw [val_main_v68_apply, ref_mask, val_main_v67_apply, val_main_v66_apply, val_main_v63_apply, ref_DP H, ref_DL H, val_main_v62_apply, ref_Lcol H,
    ref_E H, val_main_call1_v0_apply]
  have z : val_main_call1_cst (F := Ideal) (idx_main_call1_v0 i) = (0 : EReal) := Ideal.ofBits_zero_f32
  have hL := (L_pos (D.hq (i 0).val (i 1).val) (D.hk (i 0).val (i 1).val) (D.hc (i 0).val (i 1).val) (i := (i 2).val) (i 2).isLt).ne'
  rw [z]
  split
  · refine Eq.trans (b := (Ideal.div (D.DP (i 0).val (i 1).val (i 2).val (i 3).val : EReal) (D.L (i 0).val (i 1).val (i 2).val : EReal) + _) * _) rfl ?_
    rw [Ideal.div_coe hL, ← EReal.coe_mul, ← EReal.coe_add, ← EReal.coe_mul]
    refine congrArg _ ?_
    unfold Data.DS Fox.DS Fox.W Fox.DL Fox.W
    have e : ∑ j ∈ Finset.range 2048, D.DP (i 0).val (i 1).val (i 2).val j
        * (1 / (D.L (i 0).val (i 1).val (i 2).val * D.L (i 0).val (i 1).val (i 2).val)) * D.E (i 0).val (i 1).val (i 2).val j
        = (1 / D.L (i 0).val (i 1).val (i 2).val) * ∑ j ∈ Finset.range 2048, D.E (i 0).val (i 1).val (i 2).val j / D.L (i 0).val (i 1).val (i 2).val
          * D.DP (i 0).val (i 1).val (i 2).val j := by
      rw [Finset.mul_sum]
      refine Finset.sum_congr rfl fun j _ => ?_
      field_simp
    rw [e]
    ring
  · rename_i h
    unfold Data.DS
    rw [DS_of_lt _ _ _ _ _ (Nat.lt_of_not_le h)]
    rfl

theorem ref_dck (i : S2x8x2048.Idx) : val_main_v72 (F := Ideal) x0 x1 x2 x3 x4 i
    = ((∑ n ∈ Finset.range 2048, - D.DS (i 0).val (i 1).val n (i 2).val : ℝ) : EReal) := by
  have row : ∀ k : S2x8x2048.Idx, val_main_v70 (F := Ideal) x0 x1 x2 x3 x4 k
      = ((∑ n ∈ Finset.range 2048, - D.DS (k 0).val (k 1).val n (k 2).val : ℝ) : EReal) := fun k => by
    rw [val_main_v70_apply]
    refine zero_sum _ _ _ Ideal.ofBits_zero_f32 fun n => ?_
    rw [val_main_v69_apply, ref_DS H, EReal.coe_neg]
    rfl
  rw [val_main_v72_apply, Fin.sum_univ_one, val_main_v71_apply, row]
  have z : val_main_cst_14 (F := Ideal) (Shape.Idx.first h_S_) = (0 : EReal) := Ideal.ofBits_zero_f32
  obtain ⟨h0, h1, h2⟩ := coord_v71 (idx_main_v72 i 0)
  rw [z, zero_add, h0, h1, h2]

theorem ref_dcq (i : S2x8x2048.Idx) : val_main_v76 (F := Ideal) x0 x1 x2 x3 x4 i
    = ((∑ j ∈ Finset.range 2048, D.DS (i 0).val (i 1).val (i 2).val j : ℝ) : EReal) := by
  have row : ∀ k : S2x8x2048.Idx, val_main_v74 (F := Ideal) x0 x1 x2 x3 x4 k
      = ((∑ j ∈ Finset.range 2048, D.DS (k 0).val (k 1).val (k 2).val j : ℝ) : EReal) := fun k => by
    rw [val_main_v74_apply]
    exact zero_sum _ _ _ Ideal.ofBits_zero_f32 fun j => ref_DS H _
  rw [val_main_v76_apply, Fin.sum_univ_one, val_main_v75_apply, row]
  have z : val_main_cst_16 (F := Ideal) (Shape.Idx.first h_S_) = (0 : EReal) := Ideal.ofBits_zero_f32
  obtain ⟨h0, h1, h2⟩ := coord_v75 (idx_main_v76 i 0)
  rw [z, zero_add, h0, h1, h2]

theorem ref_DS8 (i : S2x8x2048x2048.Idx) : val_main_v79 (F := Ideal) x0 x1 x2 x3 x4 i
    = ((D.DS (i 0).val (i 1).val (i 2).val (i 3).val * 8⁻¹ : ℝ) : EReal) := by
  rw [val_main_v79_apply, ref_DS H, val_main_v78_apply, val_main_cst_17_apply, EReal.coe_mul]
  have e : (FloatOps.ofBits .f32 0x3E000000#32 : Ideal .f32) = ((8⁻¹ : ℝ) : EReal) := eighth_f32
  rw [e]
  rfl

theorem ref_dk (i : S2x8x2048x64.Idx) : val_main_v80 (F := Ideal) x0 x1 x2 x3 x4 i
    = ((∑ n ∈ Finset.range 2048, D.DS (i 0).val (i 1).val n (i 2).val * 8⁻¹ * D.hq (i 0).val (i 1).val n (i 3).val : ℝ) : EReal) := by
  rw [val_main_v80_apply]
  exact dot_real _ _ _ _ (fun n => ref_DS8 H _) (fun n => H.h0 _)

theorem ref_dq (i : S2x8x2048x64.Idx) : val_main_v82 (F := Ideal) x0 x1 x2 x3 x4 i
    = ((∑ j ∈ Finset.range 2048, D.DS (i 0).val (i 1).val (i 2).val j * 8⁻¹ * D.hk (i 0).val (i 1).val j (i 3).val : ℝ) : EReal) := by
  rw [val_main_v82_apply]
  exact dot_real _ _ _ _ (fun j => ref_DS8 H _) (fun j => H.h1 _)

/-! ## The results -/

/-- The gradient of the queries. -/
theorem ref_0 (i : S2x2048x512.Idx) : val_main_v88 (F := Ideal) x0 x1 x2 x3 x4 i
    = ((∑ j ∈ Finset.range 2048, D.DS (i 0).val ((i 2).val / 64) (i 1).val j * 8⁻¹ * D.hk (i 0).val ((i 2).val / 64) j ((i 2).val % 64) : ℝ) : EReal) := by
  refine (val_main_v88_apply x0 x1 x2 x3 x4 i).trans ?_
  rw [val_main_v87_apply, val_main_v83_apply, ref_dq H]
  obtain ⟨h0, h1, h2, h3⟩ := coord_v87 i
  show ((∑ j ∈ Finset.range 2048, D.DS (idx_main_v87 i 0).val (idx_main_v87 i 2).val (idx_main_v87 i 1).val j * 8⁻¹
    * D.hk (idx_main_v87 i 0).val (idx_main_v87 i 2).val j (idx_main_v87 i 3).val : ℝ) : EReal) = _
  rw [h0, h1, h2, h3]

/-- An index of the joined array in its first and its second half. -/
abbrev lowIdx (i : S2x2048x4x256.Idx) (h : (i 3).val < 128) : S2x2048x4x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, h⟩

abbrev highIdx (i : S2x2048x4x256.Idx) : S2x2048x4x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val - 128, by have h : (i 3).val < 256 := (i 3).isLt; show (i 3).val - 128 < 128; omega⟩

omit H in
theorem join_low {α : Type} (x y : S2x2048x4x128.Idx → α) (i : S2x2048x4x256.Idx) (h : (i 3).val < 128) :
    concatenate S2x2048x4x256 3 [⟨S2x2048x4x128, x⟩, ⟨S2x2048x4x128, y⟩] concatenates_S2x2048x4x128_S2x2048x4x128_S2x2048x4x256_d3 i = x (lowIdx i h) :=
  concatenate_pair_apply_left 3 x y _ i rfl (lowIdx i h) (fun b => match b with
    | ⟨0, _⟩ => rfl
    | ⟨1, _⟩ => rfl
    | ⟨2, _⟩ => rfl
    | ⟨3, _⟩ => rfl)

omit H in
theorem join_high {α : Type} (x y : S2x2048x4x128.Idx → α) (i : S2x2048x4x256.Idx) (h : ¬(i 3).val < 128) :
    concatenate S2x2048x4x256 3 [⟨S2x2048x4x128, x⟩, ⟨S2x2048x4x128, y⟩] concatenates_S2x2048x4x128_S2x2048x4x128_S2x2048x4x256_d3 i = y (highIdx i) :=
  concatenate_pair_apply_right 3 x y _ i rfl rfl (highIdx i) (fun b hb => match b, hb with
    | ⟨0, _⟩, _ => rfl
    | ⟨1, _⟩, _ => rfl
    | ⟨2, _⟩, _ => rfl
    | ⟨3, _⟩, hb => absurd rfl hb)
    (show (i 3).val - 128 + 128 = (i 3).val by omega)

/-- The gradients of the keys and the values, two heads at a time. -/
theorem ref_86 (i : S2x2048x4x256.Idx) : val_main_v86 (F := Ideal) x0 x1 x2 x3 x4 i
    = ((if (i 3).val < 128 then ∑ n ∈ Finset.range 2048, D.DS (i 0).val (2 * (i 2).val + (i 3).val / 64) n (i 1).val * 8⁻¹
          * D.hq (i 0).val (2 * (i 2).val + (i 3).val / 64) n ((i 3).val % 64)
        else ∑ n ∈ Finset.range 2048, D.hg (i 0).val (2 * (i 2).val + ((i 3).val - 128) / 64) n (((i 3).val - 128) % 64)
          * D.W (i 0).val (2 * (i 2).val + ((i 3).val - 128) / 64) n (i 1).val : ℝ) : EReal) := by
  unfold val_main_v86
  by_cases h : (i 3).val < 128
  · rw [join_low _ _ i h, val_main_v84_apply, val_main_v81_apply, ref_dk H, if_pos h]
    obtain ⟨h0, h1, h2, h3⟩ := coord_v84 (lowIdx i h)
    show ((∑ n ∈ Finset.range 2048, D.DS (idx_main_v84 (lowIdx i h) 0).val (idx_main_v84 (lowIdx i h) 2).val n (idx_main_v84 (lowIdx i h) 1).val * 8⁻¹
      * D.hq (idx_main_v84 (lowIdx i h) 0).val (idx_main_v84 (lowIdx i h) 2).val n (idx_main_v84 (lowIdx i h) 3).val : ℝ) : EReal) = _
    rw [h0, h1, h2, h3]
  · rw [join_high _ _ i h, val_main_v85_apply, val_main_v54_apply, ref_dv H, if_neg h]
    obtain ⟨h0, h1, h2, h3⟩ := coord_v85 (highIdx i)
    show ((∑ n ∈ Finset.range 2048, D.hg (idx_main_v85 (highIdx i) 0).val (idx_main_v85 (highIdx i) 2).val n (idx_main_v85 (highIdx i) 3).val
      * D.W (idx_main_v85 (highIdx i) 0).val (idx_main_v85 (highIdx i) 2).val n (idx_main_v85 (highIdx i) 1).val : ℝ) : EReal) = _
    rw [h0, h1, h2, h3]

theorem ref_1 (i : S2x2048x1024.Idx) : val_main_v90 (F := Ideal) x0 x1 x2 x3 x4 i
    = ((if (i 2).val % 256 < 128 then ∑ n ∈ Finset.range 2048, D.DS (i 0).val (2 * ((i 2).val / 256) + (i 2).val % 256 / 64) n (i 1).val * 8⁻¹
          * D.hq (i 0).val (2 * ((i 2).val / 256) + (i 2).val % 256 / 64) n ((i 2).val % 256 % 64)
        else ∑ n ∈ Finset.range 2048, D.hg (i 0).val (2 * ((i 2).val / 256) + ((i 2).val % 256 - 128) / 64) n (((i 2).val % 256 - 128) % 64)
          * D.W (i 0).val (2 * ((i 2).val / 256) + ((i 2).val % 256 - 128) / 64) n (i 1).val : ℝ) : EReal) := by
  refine (val_main_v90_apply x0 x1 x2 x3 x4 i).trans ?_
  rw [val_main_v89_apply, ref_86 H]
  obtain ⟨h0, h1, h2, h3⟩ := coord_v89 i
  rw [h0, h1, h2, h3]
  rfl

/-- The gradient of the queries' decays. -/
theorem ref_2 (i : S2x4x2048x2.Idx) : val_main_v92 (F := Ideal) x0 x1 x2 x3 x4 i
    = ((∑ j ∈ Finset.range 2048, D.DS (i 0).val (2 * (i 1).val + (i 3).val) (i 2).val j : ℝ) : EReal) := by
  rw [val_main_v92_apply, val_main_v91_apply, val_main_v77_apply, ref_dcq H]
  obtain ⟨h0, h1, h2⟩ := coord_v91 (idx_main_v92 i)
  show ((∑ j ∈ Finset.range 2048, D.DS (idx_main_v91 (idx_main_v92 i) 0).val (idx_main_v91 (idx_main_v92 i) 2).val (idx_main_v91 (idx_main_v92 i) 1).val j : ℝ) : EReal) = _
  rw [h0, h1, h2]

/-- The gradient of the keys' decays. -/
theorem ref_3 (i : S2x8x4x1x512.Idx) : val_main_v94 (F := Ideal) x0 x1 x2 x3 x4 i
    = ((∑ n ∈ Finset.range 2048, - D.DS (i 0).val (i 1).val n (512 * (i 2).val + (i 4).val) : ℝ) : EReal) := by
  rw [val_main_v94_apply, val_main_v93_apply, val_main_v73_apply, ref_dck H]
  obtain ⟨h0, h1, h2⟩ := coord_v94 i
  show ((∑ n ∈ Finset.range 2048, - D.DS (idx_main_v94 i 0).val (idx_main_v94 i 1).val n (idx_main_v94 i 2).val : ℝ) : EReal) = _
  rw [h0, h1, h2]

end Fox

end
-- ==== Proof.Host.lean ====
/-
What the host prepares for the call: every array's contents at the region's entry, index by index.
-/
module

public import proofs.«01_k».proof.Proof.Ref
public import Idealize.ShloMosaic.Lib.StableHlo.RunRead

@[expose] public section

noncomputable section

set_option maxRecDepth 65536

namespace Fox

open Idealize.ShloMosaic Idealize.ShloMosaic.TcCoe Idealize.SL.Sem Idealize.ShloMosaic.StableHlo Cert.KernelIdeal Cert.KernelIdeal.Gen

/-! ## The host's arrays from the arguments -/

section
variable (x0 x1 x2 : FVec Ideal S2x2048x8x64 .f32) (s : FVec Ideal S2x8x2048x2048 .f32)

/-- Each row's largest score. -/
def hostM : FVec Ideal S2x8x2048 .f32 :=
  Host.reduce FloatOps.maximumf s (constant S_ .f32 0xFF800000#32) reducesTo_S2x8x2048x2048_S2x8x2048_d3 h_S_

/-- The exponentials of the masked scores less each row's largest. -/
def hostE : FVec Ideal S2x8x2048x2048 .f32 :=
  Host.exp (subf s
    (broadcastInDim S2x8x2048x2048 ![0, 1, 2, 3] bcast_S2x8x2048x1_S2x8x2048x2048_0_1_2_3
      (broadcastInDim S2x8x2048x1 ![0, 1, 2] bcast_S2x8x2048_S2x8x2048x1_0_1_2 (hostM s))))

/-- The rows' normalisers. -/
def hostL : FVec Ideal S2x8x2048 .f32 :=
  Host.reduceAdd (hostE s) (constant S_ .f32 0x00000000#32) reducesTo_S2x8x2048x2048_S2x8x2048_d3 h_S_

/-- The weights. -/
def hostW : FVec Ideal S2x8x2048x2048 .f32 :=
  Host.divf (hostE s)
    (broadcastInDim S2x8x2048x2048 ![0, 1, 2, 3] bcast_S2x8x2048x1_S2x8x2048x2048_0_1_2_3
      (broadcastInDim S2x8x2048x1 ![0, 1, 2] bcast_S2x8x2048_S2x8x2048x1_0_1_2 (hostL s)))

/-- The output, by batch, head, feature and position. -/
def hostOut : FVec Ideal S2x8x64x2048 .f32 :=
  Host.dotGeneral (F := Ideal) dot_S2x2048x8x64_S2x8x2048x2048_S2x8x64x2048_1_3_3_2_02_01 none x2 (hostW s)

/-- The log of each row's sum of exponentials. -/
def hostZ : FVec Ideal S2x8x2048 .f32 :=
  addf (hostM s) (Host.log (hostL s))

/-- A pair of heads' keys and values, side by side. -/
def hostKV : FVec Ideal S2x2048x4x256 .f32 :=
  concatenate S2x2048x4x256 3 [⟨S2x2048x4x128, shapeCast _ x1 shapeCasts_S2x2048x8x64_S2x2048x4x128⟩,
    ⟨S2x2048x4x128, shapeCast _ x2 shapeCasts_S2x2048x8x64_S2x2048x4x128⟩] concatenates_S2x2048x4x128_S2x2048x4x128_S2x2048x4x256_d3

/-- The queries, then the pairs' keys and values. -/
def hostQKV : FVec Ideal S2x2048x1536 .f32 :=
  concatenate S2x2048x1536 2 [⟨S2x2048x512, shapeCast _ x0 shapeCasts_S2x2048x8x64_S2x2048x512⟩,
    ⟨S2x2048x1024, shapeCast _ (hostKV x1 x2) shapeCasts_S2x2048x4x256_S2x2048x1024⟩] concatenates_S2x2048x512_S2x2048x1024_S2x2048x1536_d2

end

/-! ## The host's lines, read -/

section
variable (W : Valuation τ sig (Elt Ideal))

theorem tail_qkv : (after hostOps0_2 W (Proc.devRef .tc main_v42) : FVec Ideal S2x2048x1536 .bf16)
    = truncf .bf16 (hostQKV (W (Proc.devRef .tc main_arg0)) (W (Proc.devRef .tc main_arg1)) (W (Proc.devRef .tc main_arg2))) bitsLt_bf16_f32 := by
  have h1 : upto hostOps0_2 W 24 (Proc.devRef .tc main_v39) = shapeCast S2x2048x512 (W (Proc.devRef .tc main_arg0)) shapeCasts_S2x2048x8x64_S2x2048x512 := by
    after_reads_simp
    rfl
  have h2 : upto hostOps0_2 W 24 (Proc.devRef .tc main_v40) = shapeCast S2x2048x1024 (hostKV (W (Proc.devRef .tc main_arg1)) (W (Proc.devRef .tc main_arg2))) shapeCasts_S2x2048x4x256_S2x2048x1024 := by
    after_reads_simp
    unfold hostKV
    rfl
  after_reads_simp
  rw [h1, h2]
  rfl

theorem tail_cexp : (after hostOps0_2 W (Proc.devRef .tc main_v44) : FVec Ideal S2x2048x512 .f32)
    = shapeCast S2x2048x512 (broadcastInDim S2x2048x8x64 ![0, 1, 2] bcast_S2x2048x8_S2x2048x8x64_0_1_2 (W (Proc.devRef .tc main_arg3))) shapeCasts_S2x2048x8x64_S2x2048x512 := by
  after_reads_simp
  rfl

theorem tail_crow : (after hostOps0_2 W (Proc.devRef .tc main_v45) : FVec Ideal S2x8x4x1x512 .f32)
    = shapeCast _ (W (Proc.devRef .tc main_v3) : FVec Ideal S2x8x2048 .f32) shapeCasts_S2x8x2048_S2x8x4x1x512 := by
  after_reads_simp
  rfl

theorem tail_lse : (after hostOps0_2 W (Proc.devRef .tc main_v35) : FVec Ideal S2x2048x512 .f32)
    = shapeCast _ (broadcastInDim S2x2048x8x64 ![0, 1, 2] bcast_S2x2048x8_S2x2048x8x64_0_1_2
      (transpose S2x2048x8 [0, 2, 1] (hostZ (W (Proc.devRef .tc main_v18))) transposes_S2x8x2048_S2x2048x8_0_2_1))
      shapeCasts_S2x2048x8x64_S2x2048x512 := by
  after_reads_simp
  simp only [hostOut, hostW, hostZ, hostL, hostE, hostM]
  rfl

theorem tail_o : (after hostOps0_2 W (Proc.devRef .tc main_v30) : FVec Ideal S2x2048x512 .f32)
    = shapeCast _ (transpose S2x2048x8x64 [0, 3, 1, 2] (hostOut (W (Proc.devRef .tc main_arg2)) (W (Proc.devRef .tc main_v18)))
      transposes_S2x8x64x2048_S2x2048x8x64_0_3_1_2) shapeCasts_S2x2048x8x64_S2x2048x512 := by
  after_reads_simp
  simp only [hostOut, hostW, hostZ, hostL, hostE, hostM]
  rfl

theorem head_masked : (after hostOps0_1 (after hostOps0 W) (Proc.devRef .tc main_v18) : FVec Ideal S2x8x2048x2048 .f32)
    = Cert.ReferenceIdeal.Read.val_main_v19_0 (F := Ideal) (W (Proc.devRef .tc main_arg0)) (W (Proc.devRef .tc main_arg1)) (W (Proc.devRef .tc main_arg3)) := by
  after_reads_simp
  simp only [TRef.ofBuf_toBuf]
  simp only [Cert.ReferenceIdeal.Read.val_main_v19_0, Cert.ReferenceIdeal.Read.val_main_v19_1, Cert.ReferenceIdeal.Read.val_main_v10, Cert.ReferenceIdeal.Read.val_main_call0_v2, Cert.ReferenceIdeal.Read.val_main_v18, Cert.ReferenceIdeal.Read.val_main_v6, Cert.ReferenceIdeal.Read.val_main_v9, Cert.ReferenceIdeal.Read.val_main_call0_v0, Cert.ReferenceIdeal.Read.val_main_v17, Cert.ReferenceIdeal.Read.val_main_v2, Cert.ReferenceIdeal.Read.val_main_v5, Cert.ReferenceIdeal.Read.val_main_v8, Cert.ReferenceIdeal.Read.val_main_cst_0, Cert.ReferenceIdeal.Read.val_main_v15, Cert.ReferenceIdeal.Read.val_main_v16, Cert.ReferenceIdeal.Read.val_main_v0, Cert.ReferenceIdeal.Read.val_main_v1, Cert.ReferenceIdeal.Read.val_main_v4, Cert.ReferenceIdeal.Read.val_main_v7, Cert.ReferenceIdeal.Read.val_main_v12, Cert.ReferenceIdeal.Read.val_main_v14, Cert.ReferenceIdeal.Read.val_main_cst, Cert.ReferenceIdeal.Read.val_main_v3, Cert.ReferenceIdeal.Read.val_main_v11, Cert.ReferenceIdeal.Read.val_main_v13]
  rfl

theorem head_c : (after hostOps0_1 (after hostOps0 W) (Proc.devRef .tc main_v3) : FVec Ideal S2x8x2048 .f32)
    = transpose S2x8x2048 [0, 2, 1] (W (Proc.devRef .tc main_arg3) : FVec Ideal S2x2048x8 .f32) transposes_S2x2048x8_S2x8x2048_0_2_1 := by
  after_reads_simp

theorem head_arg (r : Ref sig .tc) (h : r = main_arg0 ∨ r = main_arg1 ∨ r = main_arg2 ∨ r = main_arg3 ∨ r = main_arg4) :
    after hostOps0_1 (after hostOps0 W) (Proc.devRef .tc r) = W (Proc.devRef .tc r) := by
  rcases h with h | h | h | h | h <;> subst h <;> after_reads_simp

end

end Fox

end
-- ==== Proof.Vals.lean ====
/-
What the host's arrays hold, index by index, at arguments that are real numbers.
-/
module

public import proofs.«01_k».proof.Proof.Host

@[expose] public section

noncomputable section

set_option maxRecDepth 65536

namespace Fox

open Idealize.ShloMosaic Idealize.ShloMosaic.TcCoe Idealize.SL.Sem Idealize.ShloMosaic.StableHlo Cert.KernelIdeal Cert.KernelIdeal.Gen

/-- A row's value on every column. -/
theorem spread_apply (x : FVec Ideal S2x8x2048 .f32) (i : S2x8x2048x2048.Idx) :
    broadcastInDim S2x8x2048x2048 ![0, 1, 2, 3] bcast_S2x8x2048x1_S2x8x2048x2048_0_1_2_3
      (broadcastInDim S2x8x2048x1 ![0, 1, 2] bcast_S2x8x2048_S2x8x2048x1_0_1_2 x) i = x (ix3 (i 0) (i 1) (i 2)) := by
  refine (broadcastInDim_apply _ bcast_S2x8x2048x1_S2x8x2048x2048_0_1_2_3 _ i (ix4 (i 0) (i 1) (i 2) (0 : Fin 1)) (fun a => match a with
    | ⟨0, _⟩ => by show (i 0).val = if (2 : Nat) = 1 then 0 else (i 0).val; rw [if_neg (by decide)]
    | ⟨1, _⟩ => by show (i 1).val = if (8 : Nat) = 1 then 0 else (i 1).val; rw [if_neg (by decide)]
    | ⟨2, _⟩ => by show (i 2).val = if (2048 : Nat) = 1 then 0 else (i 2).val; rw [if_neg (by decide)]
    | ⟨3, _⟩ => by show 0 = if (1 : Nat) = 1 then 0 else (i 3).val; rw [if_pos rfl])).trans ?_
  exact broadcastInDim_apply _ bcast_S2x8x2048_S2x8x2048x1_0_1_2 x _ (ix3 (i 0) (i 1) (i 2)) (fun a => match a with
    | ⟨0, _⟩ => by show (i 0).val = if (2 : Nat) = 1 then 0 else (i 0).val; rw [if_neg (by decide)]
    | ⟨1, _⟩ => by show (i 1).val = if (8 : Nat) = 1 then 0 else (i 1).val; rw [if_neg (by decide)]
    | ⟨2, _⟩ => by show (i 2).val = if (2048 : Nat) = 1 then 0 else (i 2).val; rw [if_neg (by decide)])

/-- A head's value on every feature, the heads side by side. -/
theorem lanes_apply (x : FVec Ideal S2x2048x8 .f32) (b : Fin 2) (r : Fin 2048) (l : Fin 512) :
    shapeCast S2x2048x512 (broadcastInDim S2x2048x8x64 ![0, 1, 2] bcast_S2x2048x8_S2x2048x8x64_0_1_2 x) shapeCasts_S2x2048x8x64_S2x2048x512 (ix3 b r l)
      = x (ix3 b r (⟨l.val / 64, by omega⟩ : Fin 8)) := by
  refine (shapeCast_apply _ shapeCasts_S2x2048x8x64_S2x2048x512 (ix3 b r l)
    (ix4 b r (⟨l.val / 64, by omega⟩ : Fin 8) (⟨l.val % 64, by omega⟩ : Fin 64)) ?_).trans ?_
  · rewrite [Shape.rowMajor_val_three, Shape.rowMajor_val_four]
    show ((b.val * 2048 + r.val) * 8 + l.val / 64) * 64 + l.val % 64 = (b.val * 2048 + r.val) * 512 + l.val
    omega
  · exact broadcastInDim_apply _ bcast_S2x2048x8_S2x2048x8x64_0_1_2 x _ (ix3 b r (⟨l.val / 64, by omega⟩ : Fin 8)) (fun a => match a with
      | ⟨0, _⟩ => by show b.val = if (2 : Nat) = 1 then 0 else b.val; rw [if_neg (by decide)]
      | ⟨1, _⟩ => by show r.val = if (2048 : Nat) = 1 then 0 else r.val; rw [if_neg (by decide)]
      | ⟨2, _⟩ => by show l.val / 64 = if (8 : Nat) = 1 then 0 else l.val / 64; rw [if_neg (by decide)])

/-- Heads side by side. -/
theorem heads_apply (x : FVec Ideal S2x2048x8x64 .f32) (b : Fin 2) (r : Fin 2048) (l : Fin 512) :
    shapeCast S2x2048x512 x shapeCasts_S2x2048x8x64_S2x2048x512 (ix3 b r l)
      = x (ix4 b r (⟨l.val / 64, by omega⟩ : Fin 8) (⟨l.val % 64, by omega⟩ : Fin 64)) := by
  refine shapeCast_apply _ shapeCasts_S2x2048x8x64_S2x2048x512 (ix3 b r l) _ ?_
  rewrite [Shape.rowMajor_val_three, Shape.rowMajor_val_four]
  show ((b.val * 2048 + r.val) * 8 + l.val / 64) * 64 + l.val % 64 = (b.val * 2048 + r.val) * 512 + l.val
  omega

/-- Two heads side by side. -/
theorem pairs_apply (x : FVec Ideal S2x2048x8x64 .f32) (b : Fin 2) (r : Fin 2048) (p : Fin 4) (l : Fin 128) :
    shapeCast S2x2048x4x128 x shapeCasts_S2x2048x8x64_S2x2048x4x128 (ix4 b r p l)
      = x (ix4 b r (⟨2 * p.val + l.val / 64, by omega⟩ : Fin 8) (⟨l.val % 64, by omega⟩ : Fin 64)) := by
  refine shapeCast_apply _ shapeCasts_S2x2048x8x64_S2x2048x4x128 (ix4 b r p l) _ ?_
  rewrite [Shape.rowMajor_val_four, Shape.rowMajor_val_four]
  show ((b.val * 2048 + r.val) * 8 + (2 * p.val + l.val / 64)) * 64 + l.val % 64 = ((b.val * 2048 + r.val) * 4 + p.val) * 128 + l.val
  omega

theorem swap_apply (x : FVec Ideal S2x2048x8 .f32) (b : Fin 2) (h : Fin 8) (r : Fin 2048) :
    transpose S2x8x2048 [0, 2, 1] x transposes_S2x2048x8_S2x8x2048_0_2_1 (ix3 b h r) = x (ix3 b r h) :=
  transpose_apply [0, 2, 1] x transposes_S2x2048x8_S2x8x2048_0_2_1 (ix3 b h r) (ix3 b r h) (fun a => match a with
    | ⟨0, _⟩ => rfl
    | ⟨1, _⟩ => rfl
    | ⟨2, _⟩ => rfl)

theorem swapBack_apply (x : FVec Ideal S2x8x2048 .f32) (b : Fin 2) (r : Fin 2048) (h : Fin 8) :
    transpose S2x2048x8 [0, 2, 1] x transposes_S2x8x2048_S2x2048x8_0_2_1 (ix3 b r h) = x (ix3 b h r) :=
  transpose_apply [0, 2, 1] x transposes_S2x8x2048_S2x2048x8_0_2_1 (ix3 b r h) (ix3 b h r) (fun a => match a with
    | ⟨0, _⟩ => rfl
    | ⟨1, _⟩ => rfl
    | ⟨2, _⟩ => rfl)

theorem last_apply (x : FVec Ideal S2x8x64x2048 .f32) (b : Fin 2) (r : Fin 2048) (h : Fin 8) (d : Fin 64) :
    transpose S2x2048x8x64 [0, 3, 1, 2] x transposes_S2x8x64x2048_S2x2048x8x64_0_3_1_2 (ix4 b r h d) = x (ix4 b h d r) :=
  transpose_apply [0, 3, 1, 2] x transposes_S2x8x64x2048_S2x2048x8x64_0_3_1_2 (ix4 b r h d) (ix4 b h d r) (fun a => match a with
    | ⟨0, _⟩ => rfl
    | ⟨1, _⟩ => rfl
    | ⟨2, _⟩ => rfl
    | ⟨3, _⟩ => rfl)

theorem rows_apply (x : FVec Ideal S2x8x2048 .f32) (b : Fin 2) (h : Fin 8) (k : Fin 4) (j : Fin 512) :
    shapeCast S2x8x4x1x512 x shapeCasts_S2x8x2048_S2x8x4x1x512 (ix5 b h k (0 : Fin 1) j) = x (ix3 b h (⟨512 * k.val + j.val, by omega⟩ : Fin 2048)) := by
  refine shapeCast_apply _ shapeCasts_S2x8x2048_S2x8x4x1x512 (ix5 b h k (0 : Fin 1) j) _ ?_
  rewrite [Shape.rowMajor_val_three, Shape.rowMajor_val_five]
  show (b.val * 8 + h.val) * 2048 + (512 * k.val + j.val) = (((b.val * 8 + h.val) * 4 + k.val) * 1 + 0) * 512 + j.val
  omega

/-! ## The joined arrays -/

theorem join_kv_low (x y : FVec Ideal S2x2048x4x128 .f32) (b : Fin 2) (r : Fin 2048) (p : Fin 4) (l : Fin 256) (h : l.val < 128) :
    concatenate S2x2048x4x256 3 [⟨S2x2048x4x128, x⟩, ⟨S2x2048x4x128, y⟩] concatenates_S2x2048x4x128_S2x2048x4x128_S2x2048x4x256_d3 (ix4 b r p l)
      = x (ix4 b r p ⟨l.val, h⟩) :=
  concatenate_pair_apply_left 3 x y _ (ix4 b r p l) rfl (ix4 b r p ⟨l.val, h⟩) (fun a => match a with
    | ⟨0, _⟩ => rfl
    | ⟨1, _⟩ => rfl
    | ⟨2, _⟩ => rfl
    | ⟨3, _⟩ => rfl)

theorem join_kv_high (x y : FVec Ideal S2x2048x4x128 .f32) (b : Fin 2) (r : Fin 2048) (p : Fin 4) (l : Fin 256) (h : ¬l.val < 128) :
    concatenate S2x2048x4x256 3 [⟨S2x2048x4x128, x⟩, ⟨S2x2048x4x128, y⟩] concatenates_S2x2048x4x128_S2x2048x4x128_S2x2048x4x256_d3 (ix4 b r p l)
      = y (ix4 b r p ⟨l.val - 128, by omega⟩) :=
  concatenate_pair_apply_right 3 x y _ (ix4 b r p l) rfl rfl (ix4 b r p ⟨l.val - 128, by omega⟩) (fun a ha => match a, ha with
    | ⟨0, _⟩, _ => rfl
    | ⟨1, _⟩, _ => rfl
    | ⟨2, _⟩, _ => rfl
    | ⟨3, _⟩, ha => absurd rfl ha)
    (show l.val - 128 + 128 = l.val by omega)

theorem join_qkv_low (x : FVec Ideal S2x2048x512 .f32) (y : FVec Ideal S2x2048x1024 .f32) (b : Fin 2) (r : Fin 2048) (l : Fin 1536) (h : l.val < 512) :
    concatenate S2x2048x1536 2 [⟨S2x2048x512, x⟩, ⟨S2x2048x1024, y⟩] concatenates_S2x2048x512_S2x2048x1024_S2x2048x1536_d2 (ix3 b r l)
      = x (ix3 b r ⟨l.val, h⟩) :=
  concatenate_pair_apply_left 2 x y _ (ix3 b r l) rfl (ix3 b r ⟨l.val, h⟩) (fun a => match a with
    | ⟨0, _⟩ => rfl
    | ⟨1, _⟩ => rfl
    | ⟨2, _⟩ => rfl)

theorem join_qkv_high (x : FVec Ideal S2x2048x512 .f32) (y : FVec Ideal S2x2048x1024 .f32) (b : Fin 2) (r : Fin 2048) (l : Fin 1536) (h : ¬l.val < 512) :
    concatenate S2x2048x1536 2 [⟨S2x2048x512, x⟩, ⟨S2x2048x1024, y⟩] concatenates_S2x2048x512_S2x2048x1024_S2x2048x1536_d2 (ix3 b r l)
      = y (ix3 b r ⟨l.val - 512, by omega⟩) :=
  concatenate_pair_apply_right 2 x y _ (ix3 b r l) rfl rfl (ix3 b r ⟨l.val - 512, by omega⟩) (fun a ha => match a, ha with
    | ⟨0, _⟩, _ => rfl
    | ⟨1, _⟩, _ => rfl
    | ⟨2, _⟩, ha => absurd rfl ha)
    (show l.val - 512 + 512 = l.val by omega)

theorem unpair_apply (x : FVec Ideal S2x2048x4x256 .f32) (b : Fin 2) (r : Fin 2048) (p : Fin 4) (l : Fin 256) (j : Fin 1024) (hj : j.val = 256 * p.val + l.val) :
    shapeCast S2x2048x1024 x shapeCasts_S2x2048x4x256_S2x2048x1024 (ix3 b r j) = x (ix4 b r p l) := by
  refine shapeCast_apply _ shapeCasts_S2x2048x4x256_S2x2048x1024 (ix3 b r j) _ ?_
  rewrite [Shape.rowMajor_val_three, Shape.rowMajor_val_four]
  show ((b.val * 2048 + r.val) * 4 + p.val) * 256 + l.val = (b.val * 2048 + r.val) * 1024 + j.val
  omega

theorem qkv_q (x0 x1 x2 : FVec Ideal S2x2048x8x64 .f32) (b : Fin 2) (r : Fin 2048) (l : Fin 1536) (h : l.val < 512) :
    hostQKV x0 x1 x2 (ix3 b r l) = x0 (ix4 b r (⟨l.val / 64, by omega⟩ : Fin 8) (⟨l.val % 64, by omega⟩ : Fin 64)) := by
  unfold hostQKV
  rw [join_qkv_low _ _ b r l h]
  exact heads_apply x0 b r ⟨l.val, h⟩

theorem qkv_k (x0 x1 x2 : FVec Ideal S2x2048x8x64 .f32) (b : Fin 2) (r : Fin 2048) (p : Fin 4) (l : Fin 256) (h : l.val < 128) (j : Fin 1536)
    (hj : j.val = 512 + (256 * p.val + l.val)) :
    hostQKV x0 x1 x2 (ix3 b r j) = x1 (ix4 b r (⟨2 * p.val + l.val / 64, by omega⟩ : Fin 8) (⟨l.val % 64, by omega⟩ : Fin 64)) := by
  unfold hostQKV
  rw [join_qkv_high _ _ b r j (by omega), unpair_apply _ b r p l _ (by show j.val - 512 = _; omega)]
  unfold hostKV
  rw [join_kv_low _ _ b r p l h]
  exact pairs_apply x1 b r p ⟨l.val, h⟩

theorem qkv_v (x0 x1 x2 : FVec Ideal S2x2048x8x64 .f32) (b : Fin 2) (r : Fin 2048) (p : Fin 4) (l : Fin 256) (h : ¬l.val < 128) (j : Fin 1536)
    (hj : j.val = 512 + (256 * p.val + l.val)) :
    hostQKV x0 x1 x2 (ix3 b r j) = x2 (ix4 b r (⟨2 * p.val + (l.val - 128) / 64, by omega⟩ : Fin 8) (⟨(l.val - 128) % 64, by omega⟩ : Fin 64)) := by
  unfold hostQKV
  rw [join_qkv_high _ _ b r j (by omega), unpair_apply _ b r p l _ (by show j.val - 512 = _; omega)]
  unfold hostKV
  rw [join_kv_high _ _ b r p l h]
  exact pairs_apply x2 b r p ⟨l.val - 128, by omega⟩

/-! ## The product of the weights and the values -/

theorem out_lhs_0 (i : S2x8x64x2048.Idx) (q : dot_S2x2048x8x64_S2x8x2048x2048_S2x8x64x2048_1_3_3_2_02_01.contr.Idx) : (dot_S2x2048x8x64_S2x8x2048x2048_S2x8x64x2048_1_3_3_2_02_01.lhsIdx i q 0).val = (i 0).val := by
  unfold DotDims.lhsIdx
  rw [dif_pos (show (0 : Fin S2x2048x8x64.rank) ∈ dot_S2x2048x8x64_S2x8x2048x2048_S2x8x64x2048_1_3_3_2_02_01.lhsBatch by decide)]
  rfl

theorem out_lhs_1 (i : S2x8x64x2048.Idx) (q : dot_S2x2048x8x64_S2x8x2048x2048_S2x8x64x2048_1_3_3_2_02_01.contr.Idx) : (dot_S2x2048x8x64_S2x8x2048x2048_S2x8x64x2048_1_3_3_2_02_01.lhsIdx i q 1).val = (q ⟨0, by decide⟩).val :=
  dot_S2x2048x8x64_S2x8x2048x2048_S2x8x64x2048_1_3_3_2_02_01.lhsIdx_val_of_single rfl i q

theorem out_lhs_2 (i : S2x8x64x2048.Idx) (q : dot_S2x2048x8x64_S2x8x2048x2048_S2x8x64x2048_1_3_3_2_02_01.contr.Idx) : (dot_S2x2048x8x64_S2x8x2048x2048_S2x8x64x2048_1_3_3_2_02_01.lhsIdx i q 2).val = (i 1).val := by
  unfold DotDims.lhsIdx
  rw [dif_pos (show (2 : Fin S2x2048x8x64.rank) ∈ dot_S2x2048x8x64_S2x8x2048x2048_S2x8x64x2048_1_3_3_2_02_01.lhsBatch by decide)]
  rfl

theorem out_lhs_3 (i : S2x8x64x2048.Idx) (q : dot_S2x2048x8x64_S2x8x2048x2048_S2x8x64x2048_1_3_3_2_02_01.contr.Idx) : (dot_S2x2048x8x64_S2x8x2048x2048_S2x8x64x2048_1_3_3_2_02_01.lhsIdx i q 3).val = (i 2).val := by
  unfold DotDims.lhsIdx
  rw [dif_neg (show ¬(3 : Fin S2x2048x8x64.rank) ∈ dot_S2x2048x8x64_S2x8x2048x2048_S2x8x64x2048_1_3_3_2_02_01.lhsBatch by decide),
    dif_pos (show (3 : Fin S2x2048x8x64.rank) ∈ dot_S2x2048x8x64_S2x8x2048x2048_S2x8x64x2048_1_3_3_2_02_01.lhsNonContracting by decide)]
  rfl

theorem out_rhs_0 (i : S2x8x64x2048.Idx) (q : dot_S2x2048x8x64_S2x8x2048x2048_S2x8x64x2048_1_3_3_2_02_01.contr.Idx) : (dot_S2x2048x8x64_S2x8x2048x2048_S2x8x64x2048_1_3_3_2_02_01.rhsIdx i q 0).val = (i 0).val := by
  unfold DotDims.rhsIdx
  rw [dif_pos (show (0 : Fin S2x8x2048x2048.rank) ∈ dot_S2x2048x8x64_S2x8x2048x2048_S2x8x64x2048_1_3_3_2_02_01.rhsBatch by decide)]
  rfl

theorem out_rhs_1 (i : S2x8x64x2048.Idx) (q : dot_S2x2048x8x64_S2x8x2048x2048_S2x8x64x2048_1_3_3_2_02_01.contr.Idx) : (dot_S2x2048x8x64_S2x8x2048x2048_S2x8x64x2048_1_3_3_2_02_01.rhsIdx i q 1).val = (i 1).val := by
  unfold DotDims.rhsIdx
  rw [dif_pos (show (1 : Fin S2x8x2048x2048.rank) ∈ dot_S2x2048x8x64_S2x8x2048x2048_S2x8x64x2048_1_3_3_2_02_01.rhsBatch by decide)]
  rfl

theorem out_rhs_2 (i : S2x8x64x2048.Idx) (q : dot_S2x2048x8x64_S2x8x2048x2048_S2x8x64x2048_1_3_3_2_02_01.contr.Idx) : (dot_S2x2048x8x64_S2x8x2048x2048_S2x8x64x2048_1_3_3_2_02_01.rhsIdx i q 2).val = (i 3).val := by
  unfold DotDims.rhsIdx
  rw [dif_neg (show ¬(2 : Fin S2x8x2048x2048.rank) ∈ dot_S2x2048x8x64_S2x8x2048x2048_S2x8x64x2048_1_3_3_2_02_01.rhsBatch by decide),
    dif_pos (show (2 : Fin S2x8x2048x2048.rank) ∈ dot_S2x2048x8x64_S2x8x2048x2048_S2x8x64x2048_1_3_3_2_02_01.rhsNonContracting by decide)]
  rfl

theorem out_rhs_3 (i : S2x8x64x2048.Idx) (q : dot_S2x2048x8x64_S2x8x2048x2048_S2x8x64x2048_1_3_3_2_02_01.contr.Idx) : (dot_S2x2048x8x64_S2x8x2048x2048_S2x8x64x2048_1_3_3_2_02_01.rhsIdx i q 3).val = (q ⟨0, by decide⟩).val :=
  dot_S2x2048x8x64_S2x8x2048x2048_S2x8x64x2048_1_3_3_2_02_01.rhsIdx_val_of_single rfl i q

theorem out_apply (x : FVec Ideal S2x2048x8x64 .f32) (y : FVec Ideal S2x8x2048x2048 .f32) (b : Fin 2) (h : Fin 8) (d : Fin 64) (r : Fin 2048) :
    Host.dotGeneral (F := Ideal) dot_S2x2048x8x64_S2x8x2048x2048_S2x8x64x2048_1_3_3_2_02_01 none x y (ix4 b h d r) = ∑ k : Fin 2048, x (ix4 b k h d) * y (ix4 b h r k) := by
  simp only [Host.dotGeneral]
  rw [Ideal.dotGeneral_apply, ← Equiv.sum_comp (ValueIdx.contrEquiv1 dot_S2x2048x8x64_S2x8x2048x2048_S2x8x64x2048_1_3_3_2_02_01 2048 rfl rfl).symm]
  refine Finset.sum_congr rfl fun k _ => ?_
  have hk := ValueIdx.contrEquiv1_symm_val dot_S2x2048x8x64_S2x8x2048x2048_S2x8x64x2048_1_3_3_2_02_01 2048 rfl rfl k
  have el : dot_S2x2048x8x64_S2x8x2048x2048_S2x8x64x2048_1_3_3_2_02_01.lhsIdx (ix4 b h d r) ((ValueIdx.contrEquiv1 dot_S2x2048x8x64_S2x8x2048x2048_S2x8x64x2048_1_3_3_2_02_01 2048 rfl rfl).symm k) = ix4 b k h d := funext fun a => Fin.ext (by
    match a with
    | ⟨0, _⟩ => exact out_lhs_0 _ _
    | ⟨1, _⟩ => exact (out_lhs_1 _ _).trans hk
    | ⟨2, _⟩ => exact out_lhs_2 _ _
    | ⟨3, _⟩ => exact out_lhs_3 _ _)
  have er : dot_S2x2048x8x64_S2x8x2048x2048_S2x8x64x2048_1_3_3_2_02_01.rhsIdx (ix4 b h d r) ((ValueIdx.contrEquiv1 dot_S2x2048x8x64_S2x8x2048x2048_S2x8x64x2048_1_3_3_2_02_01 2048 rfl rfl).symm k) = ix4 b h r k := funext fun a => Fin.ext (by
    match a with
    | ⟨0, _⟩ => exact out_rhs_0 _ _
    | ⟨1, _⟩ => exact out_rhs_1 _ _
    | ⟨2, _⟩ => exact out_rhs_2 _ _
    | ⟨3, _⟩ => exact (out_rhs_3 _ _).trans hk)
  rw [el, er]

/-! ## The stages at real arguments -/

/-- The scores, minus infinity at the later keys. -/
def Data.Masked (D : Data) (s : FVec Ideal S2x8x2048x2048 .f32) : Prop :=
  ∀ i : S2x8x2048x2048.Idx, s i = if (i 3).val ≤ (i 2).val then (D.S (i 0).val (i 1).val (i 2).val (i 3).val : EReal) else ⊥

variable {D : Data} {s : FVec Ideal S2x8x2048x2048 .f32} (Hs : D.Masked s)
include Hs

theorem host_M (i : S2x8x2048.Idx) : hostM s i = (D.M (i 0).val (i 1).val (i 2).val : EReal) := by
  unfold hostM
  rw [Ideal.maximumf_eq_max, Host.reduce_eq_fold_single max _ _ _ (by decide)]
  have e : constant (F := Ideal) S_ .f32 0xFF800000#32 (Shape.Idx.first h_S_) = (⊥ : EReal) := neg_inf_f32
  rw [e]
  refine fold_max_row _ (D.S (i 0).val (i 1).val (i 2).val) (i 2).val (i 2).isLt fun j => ?_
  exact Hs _

theorem host_E (i : S2x8x2048x2048.Idx) : hostE s i = (D.E (i 0).val (i 1).val (i 2).val (i 3).val : EReal) := by
  refine Eq.trans (b := Ideal.exp (s i - broadcastInDim S2x8x2048x2048 ![0, 1, 2, 3] bcast_S2x8x2048x1_S2x8x2048x2048_0_1_2_3
      (broadcastInDim S2x8x2048x1 ![0, 1, 2] bcast_S2x8x2048_S2x8x2048x1_0_1_2 (hostM s)) i)) rfl ?_
  rw [spread_apply, host_M Hs, Hs i]
  unfold Data.E Fox.E
  split
  · exact (congrArg Ideal.exp (EReal.coe_sub _ _).symm).trans (Ideal.exp_coe _)
  · exact (congrArg Ideal.exp (EReal.bot_sub (D.M (i 0).val (i 1).val (i 2).val : EReal))).trans rfl

theorem host_L (b : Fin 2) (h : Fin 8) (r : Fin 2048) : hostL s (ix3 b h r) = (D.L b h r : EReal) := by
  unfold hostL
  have hE := host_E Hs
  generalize hostE s = y0 at hE ⊢
  simp only [Host.reduceAdd, Ideal.hostReduceAdd_def]
  rw [Ideal.hostReduceAdd_single reducesTo_S2x8x2048x2048_S2x8x2048_d3 (by decide)]
  refine zero_sum _ _ (D.E b h r) Ideal.ofBits_zero_f32 fun k => ?_
  exact hE _

omit Hs in
theorem quot_apply (x y : FVec Ideal S2x8x2048x2048 .f32) (i : S2x8x2048x2048.Idx) : Host.divf x y i = Ideal.div (x i) (y i) := rfl

omit Hs in
theorem plus_log_apply (x y : FVec Ideal S2x8x2048 .f32) (i : S2x8x2048.Idx) : addf x (Host.log y) i = x i + Ideal.log (y i) := rfl

theorem host_W (b : Fin 2) (h : Fin 8) (r : Fin 2048) (j : Fin 2048) : hostW s (ix4 b h r j) = (D.W b h r j : EReal) := by
  unfold hostW
  have hE : hostE s (ix4 b h r j) = (D.E b h r j : EReal) := host_E Hs _
  have hl : hostL s (ix3 b h r) = (D.L b h r : EReal) := host_L Hs b h r
  have hL : D.L b h r ≠ 0 := (L_pos (D.hq b h) (D.hk b h) (D.hc b h) (i := r.val) r.isLt).ne'
  rw [quot_apply, spread_apply, hE]
  generalize hostL s = y at hl ⊢
  refine (congrArg (Ideal.div _) hl).trans ((Ideal.div_coe hL _).trans ?_)
  rw [← EReal.coe_mul, mul_one_div]
  rfl

theorem host_Z (b : Fin 2) (h : Fin 8) (r : Fin 2048) : hostZ s (ix3 b h r) = ((D.M b h r + Real.log (D.L b h r) : ℝ) : EReal) := by
  unfold hostZ
  have hm : hostM s (ix3 b h r) = (D.M b h r : EReal) := host_M Hs _
  have hl : hostL s (ix3 b h r) = (D.L b h r : EReal) := host_L Hs b h r
  have hL : 0 < D.L b h r := L_pos (D.hq b h) (D.hk b h) (D.hc b h) (i := r.val) r.isLt
  rw [plus_log_apply, hm, hl, Ideal.log_coe, if_neg (not_le.mpr hL), EReal.coe_add]

theorem host_Out (x2 : FVec Ideal S2x2048x8x64 .f32) (hx : ∀ i : S2x2048x8x64.Idx, x2 i = (D.v (i 0).val (i 1).val (i 2).val (i 3).val : EReal))
    (b : Fin 2) (h : Fin 8) (d : Fin 64) (r : Fin 2048) :
    hostOut x2 s (ix4 b h d r) = (Fox.Out (D.hq b h) (D.hk b h) (D.hv b h) (D.hc b h) r d : EReal) := by
  unfold hostOut
  rw [out_apply, dot_real _ _ (fun j => D.v b j h d) (fun j => D.W b h r j) (fun k => hx _) (fun k => host_W Hs b h r k)]
  unfold Fox.Out
  refine congrArg _ (Finset.sum_congr rfl fun j _ => ?_)
  exact mul_comm _ _

end Fox

end
-- ==== Proof.Blk.lean ====
/-
What every point's blocks hold: the tiles of its pair of heads and its block of queries.
-/
module

public import proofs.«01_k».proof.Proof.Vals

@[expose] public section

noncomputable section

set_option maxRecDepth 65536

namespace Fox

open Idealize.ShloMosaic Idealize.ShloMosaic.TcCoe Idealize.SL.Sem Idealize.ShloMosaic.StableHlo Cert.KernelIdeal Cert.KernelIdeal.Gen

/-! ## A block, read from its array -/

/-- A point's batch, pair of heads, and the positions and lanes of its blocks. -/
abbrev batchAt (t : Fin cfg0.N) : Fin 2 := ⟨t.val / 16, by have := t.isLt; have : cfg0.N = 32 := N_0; omega⟩
abbrev pairAt (t : Fin cfg0.N) : Fin 4 := ⟨t.val / 4 % 4, by omega⟩
abbrev rowAt (t : Fin cfg0.N) (r : Fin 512) : Fin 2048 := ⟨512 * (t.val % 4) + r.val, by omega⟩
abbrev laneAt (t : Fin cfg0.N) (l : Fin 128) : Fin 512 := ⟨128 * (t.val / 4 % 4) + l.val, by omega⟩
abbrev headAt (t : Fin cfg0.N) (e : Fin 2) : Fin 8 := ⟨2 * (t.val / 4 % 4) + e.val, by omega⟩

theorem at_0 : ∀ t : Fin cfg0.N, win0_0.index t = ![t.val / 16, t.val % 4, t.val / 4 % 4] := (by decide +kernel : ∀ t : Fin grid0.N, _)
theorem at_1 : ∀ t : Fin cfg0.N, win0_1.index t = ![t.val / 16, 0, 2 + t.val / 4 % 4] := (by decide +kernel : ∀ t : Fin grid0.N, _)
theorem at_2 : ∀ t : Fin cfg0.N, win0_2.index t = ![t.val / 16, t.val % 4, t.val / 4 % 4] := (by decide +kernel : ∀ t : Fin grid0.N, _)
theorem at_3 : ∀ t : Fin cfg0.N, win0_3.index t = ![t.val / 16, t.val / 4 % 4, 0, 0, 0] := (by decide +kernel : ∀ t : Fin grid0.N, _)
theorem at_4 : ∀ t : Fin cfg0.N, win0_4.index t = ![t.val / 16, t.val % 4, t.val / 4 % 4] := (by decide +kernel : ∀ t : Fin grid0.N, _)
theorem at_5 : ∀ t : Fin cfg0.N, win0_5.index t = ![t.val / 16, t.val % 4, t.val / 4 % 4] := (by decide +kernel : ∀ t : Fin grid0.N, _)
theorem at_6 : ∀ t : Fin cfg0.N, win0_6.index t = ![t.val / 16, t.val % 4, t.val / 4 % 4] := (by decide +kernel : ∀ t : Fin grid0.N, _)

theorem read_0 (X : FVec Ideal S2x2048x1536 .bf16) (t : Fin cfg0.N) (r : Fin 512) (l : Fin 128) :
    ((cfg0.win 0).blk t).view.read (Elt Ideal) X (ix3 0 r l)
      = X (ix3 (batchAt t) (rowAt t r) (⟨128 * (t.val / 4 % 4) + l.val, by omega⟩ : Fin 1536)) := by
  rw [View.read_apply]
  show X _ = X _
  congr 1
  funext a
  apply Fin.ext
  have e := at_0 t
  match a with
  | ⟨0, _⟩ => show win0_0.index t 0 * 1 + 1 * 0 = t.val / 16; rw [e]; show t.val / 16 * 1 + 1 * 0 = _; omega
  | ⟨1, _⟩ => show win0_0.index t 1 * 512 + 1 * r.val = 512 * (t.val % 4) + r.val; rw [e]; show t.val % 4 * 512 + 1 * r.val = _; omega
  | ⟨2, _⟩ => show win0_0.index t 2 * 128 + 1 * l.val = 128 * (t.val / 4 % 4) + l.val; rw [e]; show t.val / 4 % 4 * 128 + 1 * l.val = _; omega

theorem read_1 (X : FVec Ideal S2x2048x1536 .bf16) (t : Fin cfg0.N) (j : Fin 2048) (l : Fin 256) :
    ((cfg0.win 1).blk t).view.read (Elt Ideal) X (ix3 0 j l)
      = X (ix3 (batchAt t) j (⟨512 + (256 * (t.val / 4 % 4) + l.val), by omega⟩ : Fin 1536)) := by
  rw [View.read_apply]
  show X _ = X _
  congr 1
  funext a
  apply Fin.ext
  have e := at_1 t
  match a with
  | ⟨0, _⟩ => show win0_1.index t 0 * 1 + 1 * 0 = t.val / 16; rw [e]; show t.val / 16 * 1 + 1 * 0 = _; omega
  | ⟨1, _⟩ => show win0_1.index t 1 * 2048 + 1 * j.val = j.val; rw [e]; show 0 * 2048 + 1 * j.val = _; omega
  | ⟨2, _⟩ => show win0_1.index t 2 * 256 + 1 * l.val = 512 + (256 * (t.val / 4 % 4) + l.val); rw [e]; show (2 + t.val / 4 % 4) * 256 + 1 * l.val = _; omega

theorem read_3 (X : FVec Ideal S2x8x4x1x512 .f32) (t : Fin cfg0.N) (e : Fin 2) (b : Fin 4) (j : Fin 512) :
    ((cfg0.win 3).blk t).view.read (Elt Ideal) X (ix5 0 e b 0 j) = X (ix5 (batchAt t) (headAt t e) b 0 j) := by
  rw [View.read_apply]
  show X _ = X _
  congr 1
  funext a
  apply Fin.ext
  have h := at_3 t
  match a with
  | ⟨0, _⟩ => show win0_3.index t 0 * 1 + 1 * 0 = t.val / 16; rw [h]; show t.val / 16 * 1 + 1 * 0 = _; omega
  | ⟨1, _⟩ => show win0_3.index t 1 * 2 + 1 * e.val = 2 * (t.val / 4 % 4) + e.val; rw [h]; show t.val / 4 % 4 * 2 + 1 * e.val = _; omega
  | ⟨2, _⟩ => show win0_3.index t 2 * 4 + 1 * b.val = b.val; rw [h]; show 0 * 4 + 1 * b.val = _; omega
  | ⟨3, _⟩ => show win0_3.index t 3 * 1 + 1 * 0 = 0; rw [h]; rfl
  | ⟨4, _⟩ => show win0_3.index t 4 * 512 + 1 * j.val = j.val; rw [h]; show 0 * 512 + 1 * j.val = _; omega

theorem read_2 (X : FVec Ideal S2x2048x512 .f32) (t : Fin cfg0.N) (r : Fin 512) (l : Fin 128) :
    ((cfg0.win 2).blk t).view.read (Elt Ideal) X (ix3 0 r l) = X (ix3 (batchAt t) (rowAt t r) (laneAt t l)) := by
  rw [View.read_apply]
  show X _ = X _
  congr 1
  funext a
  apply Fin.ext
  have e := at_2 t
  match a with
  | ⟨0, _⟩ => show win0_2.index t 0 * 1 + 1 * 0 = t.val / 16; rw [e]; show t.val / 16 * 1 + 1 * 0 = _; omega
  | ⟨1, _⟩ => show win0_2.index t 1 * 512 + 1 * r.val = 512 * (t.val % 4) + r.val; rw [e]; show t.val % 4 * 512 + 1 * r.val = _; omega
  | ⟨2, _⟩ => show win0_2.index t 2 * 128 + 1 * l.val = 128 * (t.val / 4 % 4) + l.val; rw [e]; show t.val / 4 % 4 * 128 + 1 * l.val = _; omega

theorem read_4 (X : FVec Ideal S2x2048x512 .f32) (t : Fin cfg0.N) (r : Fin 512) (l : Fin 128) :
    ((cfg0.win 4).blk t).view.read (Elt Ideal) X (ix3 0 r l) = X (ix3 (batchAt t) (rowAt t r) (laneAt t l)) := by
  rw [View.read_apply]
  show X _ = X _
  congr 1
  funext a
  apply Fin.ext
  have e := at_4 t
  match a with
  | ⟨0, _⟩ => show win0_4.index t 0 * 1 + 1 * 0 = t.val / 16; rw [e]; show t.val / 16 * 1 + 1 * 0 = _; omega
  | ⟨1, _⟩ => show win0_4.index t 1 * 512 + 1 * r.val = 512 * (t.val % 4) + r.val; rw [e]; show t.val % 4 * 512 + 1 * r.val = _; omega
  | ⟨2, _⟩ => show win0_4.index t 2 * 128 + 1 * l.val = 128 * (t.val / 4 % 4) + l.val; rw [e]; show t.val / 4 % 4 * 128 + 1 * l.val = _; omega

theorem read_5 (X : FVec Ideal S2x2048x512 .f32) (t : Fin cfg0.N) (r : Fin 512) (l : Fin 128) :
    ((cfg0.win 5).blk t).view.read (Elt Ideal) X (ix3 0 r l) = X (ix3 (batchAt t) (rowAt t r) (laneAt t l)) := by
  rw [View.read_apply]
  show X _ = X _
  congr 1
  funext a
  apply Fin.ext
  have e := at_5 t
  match a with
  | ⟨0, _⟩ => show win0_5.index t 0 * 1 + 1 * 0 = t.val / 16; rw [e]; show t.val / 16 * 1 + 1 * 0 = _; omega
  | ⟨1, _⟩ => show win0_5.index t 1 * 512 + 1 * r.val = 512 * (t.val % 4) + r.val; rw [e]; show t.val % 4 * 512 + 1 * r.val = _; omega
  | ⟨2, _⟩ => show win0_5.index t 2 * 128 + 1 * l.val = 128 * (t.val / 4 % 4) + l.val; rw [e]; show t.val / 4 % 4 * 128 + 1 * l.val = _; omega

theorem read_6 (X : FVec Ideal S2x2048x512 .f32) (t : Fin cfg0.N) (r : Fin 512) (l : Fin 128) :
    ((cfg0.win 6).blk t).view.read (Elt Ideal) X (ix3 0 r l) = X (ix3 (batchAt t) (rowAt t r) (laneAt t l)) := by
  rw [View.read_apply]
  show X _ = X _
  congr 1
  funext a
  apply Fin.ext
  have e := at_6 t
  match a with
  | ⟨0, _⟩ => show win0_6.index t 0 * 1 + 1 * 0 = t.val / 16; rw [e]; show t.val / 16 * 1 + 1 * 0 = _; omega
  | ⟨1, _⟩ => show win0_6.index t 1 * 512 + 1 * r.val = 512 * (t.val % 4) + r.val; rw [e]; show t.val % 4 * 512 + 1 * r.val = _; omega
  | ⟨2, _⟩ => show win0_6.index t 2 * 128 + 1 * l.val = 128 * (t.val / 4 % 4) + l.val; rw [e]; show t.val / 4 % 4 * 128 + 1 * l.val = _; omega

/-! ## The arrays at the call -/

variable (m : (ℓ : Loc nD τ sig) → Buf (Elt Ideal) ℓ) (c : Dev nD)

/-- The arguments. -/
abbrev arg0 : FVec Ideal S2x2048x8x64 .f32 := m ((c : Thread nD τ).loc main_arg0)
abbrev arg1 : FVec Ideal S2x2048x8x64 .f32 := m ((c : Thread nD τ).loc main_arg1)
abbrev arg2 : FVec Ideal S2x2048x8x64 .f32 := m ((c : Thread nD τ).loc main_arg2)
abbrev arg3 : FVec Ideal S2x2048x8 .f32 := m ((c : Thread nD τ).loc main_arg3)
abbrev arg4 : FVec Ideal S2x2048x512 .f32 := m ((c : Thread nD τ).loc main_arg4)

/-- What the lines before the last stretch leave. -/
def mid : Valuation τ sig (Elt Ideal) := after hostOps0_1 (after hostOps0 (fun b => m (c, b)))

theorem V_eq (r : Ref sig .tc) : V m c r = after hostOps0_2 (mid m c) (Proc.devRef .tc r) := by
  unfold mid
  show after (List.flatten [hostOps0, hostOps0_1, hostOps0_2]) (fun b => m (c, b)) (Proc.devRef .tc r) = _
  rw [List.flatten_cons, List.flatten_cons, List.flatten_cons, List.flatten_nil, List.append_nil, after_append, after_append]

theorem mid_0 : mid m c (Proc.devRef .tc main_arg0) = arg0 m c := head_arg _ main_arg0 (Or.inl rfl)
theorem mid_1 : mid m c (Proc.devRef .tc main_arg1) = arg1 m c := head_arg _ main_arg1 (Or.inr (Or.inl rfl))
theorem mid_2 : mid m c (Proc.devRef .tc main_arg2) = arg2 m c := head_arg _ main_arg2 (Or.inr (Or.inr (Or.inl rfl)))
theorem mid_3 : mid m c (Proc.devRef .tc main_arg3) = arg3 m c := head_arg _ main_arg3 (Or.inr (Or.inr (Or.inr (Or.inl rfl))))

/-- The masked scores. -/
def scores : FVec Ideal S2x8x2048x2048 .f32 := Cert.ReferenceIdeal.Read.val_main_v19_0 (F := Ideal) (arg0 m c) (arg1 m c) (arg3 m c)

theorem mid_s : mid m c (Proc.devRef .tc main_v18) = scores m c := head_masked _
theorem mid_c : mid m c (Proc.devRef .tc main_v3) = transpose S2x8x2048 [0, 2, 1] (arg3 m c) transposes_S2x2048x8_S2x8x2048_0_2_1 := head_c _

theorem V_qkv : V m c main_v42 = truncf .bf16 (hostQKV (arg0 m c) (arg1 m c) (arg2 m c)) bitsLt_bf16_f32 := by
  rw [V_eq, ← mid_0, ← mid_1, ← mid_2]
  exact tail_qkv _

theorem V_cexp : V m c main_v44 = shapeCast S2x2048x512 (broadcastInDim S2x2048x8x64 ![0, 1, 2] bcast_S2x2048x8_S2x2048x8x64_0_1_2 (arg3 m c))
    shapeCasts_S2x2048x8x64_S2x2048x512 := by
  rw [V_eq, ← mid_3]
  exact tail_cexp _

theorem V_crow : V m c main_v45 = shapeCast S2x8x4x1x512 (transpose S2x8x2048 [0, 2, 1] (arg3 m c) transposes_S2x2048x8_S2x8x2048_0_2_1)
    shapeCasts_S2x8x2048_S2x8x4x1x512 := by
  rw [V_eq, ← mid_c]
  exact tail_crow _

theorem V_lse : V m c main_v35 = shapeCast S2x2048x512 (broadcastInDim S2x2048x8x64 ![0, 1, 2] bcast_S2x2048x8_S2x2048x8x64_0_1_2
    (transpose S2x2048x8 [0, 2, 1] (hostZ (scores m c)) transposes_S2x8x2048_S2x2048x8_0_2_1)) shapeCasts_S2x2048x8x64_S2x2048x512 := by
  rw [V_eq, ← mid_s]
  exact tail_lse _

theorem V_o : V m c main_v30 = shapeCast S2x2048x512 (transpose S2x2048x8x64 [0, 3, 1, 2] (hostOut (arg2 m c) (scores m c))
    transposes_S2x8x64x2048_S2x2048x8x64_0_3_1_2) shapeCasts_S2x2048x8x64_S2x2048x512 := by
  rw [V_eq, ← mid_s, ← mid_2]
  exact tail_o _

/-! ## The blocks -/

variable {m c} {D : Data} (H : D.Holds (arg0 m c) (arg1 m c) (arg2 m c) (arg3 m c) (arg4 m c))
include H

theorem scores_masked : D.Masked (scores m c) := fun i => ref_masked H i

theorem blk_0 (t : Fin cfg0.N) (r : Fin 512) (l : Fin 128) :
    iblk m c 0 t (ix3 0 r l) = (((D.pair (t.val / 16) (t.val / 4 % 4)).tile (t.val % 4)).Q r l : EReal) := by
  have e : V m c (Pipeline.arrRef spec0 0) = truncf .bf16 (hostQKV (arg0 m c) (arg1 m c) (arg2 m c)) bitsLt_bf16_f32 := V_qkv m c
  unfold iblk
  rw [e]
  refine (read_0 _ t r l).trans ((qkv_q (arg0 m c) (arg1 m c) (arg2 m c) (batchAt t) (rowAt t r) _ (by show 128 * (t.val / 4 % 4) + l.val < 512; omega)).trans ((H.h0 _).trans ?_))
  exact congr_coe4 D.q rfl rfl (show (128 * (t.val / 4 % 4) + l.val) / 64 = 2 * (t.val / 4 % 4) + l.val / 64 by omega)
    (show (128 * (t.val / 4 % 4) + l.val) % 64 = l.val % 64 by omega)

theorem blk_1 (t : Fin cfg0.N) (j : Fin 2048) (l : Fin 256) :
    iblk m c 1 t (ix3 0 j l) = (((D.pair (t.val / 16) (t.val / 4 % 4)).tile (t.val % 4)).KV j l : EReal) := by
  have e : V m c (Pipeline.arrRef spec0 1) = truncf .bf16 (hostQKV (arg0 m c) (arg1 m c) (arg2 m c)) bitsLt_bf16_f32 := V_qkv m c
  unfold iblk
  rw [e]
  refine (read_1 _ t j l).trans ?_
  by_cases h : l.val < 128
  · refine (qkv_k (arg0 m c) (arg1 m c) (arg2 m c) (batchAt t) j (pairAt t) l h _ rfl).trans ((H.h1 _).trans ?_)
    refine congrArg _ (Eq.trans ?_ (if_pos h).symm)
    rfl
  · refine (qkv_v (arg0 m c) (arg1 m c) (arg2 m c) (batchAt t) j (pairAt t) l h _ rfl).trans ((H.h2 _).trans ?_)
    refine congrArg _ (Eq.trans ?_ (if_neg h).symm)
    rfl

theorem blk_2 (t : Fin cfg0.N) (r : Fin 512) (l : Fin 128) :
    iblk m c 2 t (ix3 0 r l) = (((D.pair (t.val / 16) (t.val / 4 % 4)).tile (t.val % 4)).D r l : EReal) := by
  have e : V m c (Pipeline.arrRef spec0 2) = _ := V_cexp m c
  unfold iblk
  rw [e]
  refine (read_2 _ t r l).trans ((lanes_apply (arg3 m c) (batchAt t) (rowAt t r) (laneAt t l)).trans ((H.h3 _).trans ?_))
  exact congr_coe3 D.c rfl rfl (show (128 * (t.val / 4 % 4) + l.val) / 64 = 2 * (t.val / 4 % 4) + l.val / 64 by omega)

theorem blk_3 (t : Fin cfg0.N) (e : Fin 2) (b : Fin 4) (j : Fin 512) :
    iblk m c 3 t (ix5 0 e b 0 j) = (((D.pair (t.val / 16) (t.val / 4 % 4)).tile (t.val % 4)).C e (512 * b + j) : EReal) := by
  have h : V m c (Pipeline.arrRef spec0 3) = _ := V_crow m c
  unfold iblk
  rw [h]
  refine (read_3 _ t e b j).trans ((rows_apply _ (batchAt t) (headAt t e) b j).trans ((swap_apply (arg3 m c) (batchAt t) (headAt t e) _).trans ((H.h3 _).trans ?_)))
  rfl

theorem blk_4 (t : Fin cfg0.N) (r : Fin 512) (l : Fin 128) :
    iblk m c 4 t (ix3 0 r l) = (((D.pair (t.val / 16) (t.val / 4 % 4)).tile (t.val % 4)).Z r l : EReal) := by
  have e : V m c (Pipeline.arrRef spec0 4) = _ := V_lse m c
  unfold iblk
  rw [e]
  refine (read_4 _ t r l).trans ((lanes_apply _ (batchAt t) (rowAt t r) (laneAt t l)).trans ((swapBack_apply _ (batchAt t) (rowAt t r) _).trans
    ((host_Z (scores_masked H) (batchAt t) _ (rowAt t r)).trans ?_)))
  exact congrArg (fun a : ℕ => ((D.M (t.val / 16) a (512 * (t.val % 4) + r.val) + Real.log (D.L (t.val / 16) a (512 * (t.val % 4) + r.val)) : ℝ) : EReal))
    (show (128 * (t.val / 4 % 4) + l.val) / 64 = 2 * (t.val / 4 % 4) + l.val / 64 by omega)

theorem blk_5 (t : Fin cfg0.N) (r : Fin 512) (l : Fin 128) :
    iblk m c 5 t (ix3 0 r l) = (((D.pair (t.val / 16) (t.val / 4 % 4)).tile (t.val % 4)).O r l : EReal) := by
  have e : V m c (Pipeline.arrRef spec0 5) = _ := V_o m c
  unfold iblk
  rw [e]
  refine (read_5 _ t r l).trans ((heads_apply _ (batchAt t) (rowAt t r) (laneAt t l)).trans ((last_apply _ (batchAt t) (rowAt t r) _ _).trans
    ((host_Out (scores_masked H) (arg2 m c) H.h2 (batchAt t) _ _ (rowAt t r)).trans ?_)))
  exact congrArg₂ (fun a d : ℕ => ((Fox.Out (D.hq (t.val / 16) a) (D.hk (t.val / 16) a) (D.hv (t.val / 16) a) (D.hc (t.val / 16) a) (512 * (t.val % 4) + r.val) d : ℝ) : EReal))
    (show (128 * (t.val / 4 % 4) + l.val) / 64 = 2 * (t.val / 4 % 4) + l.val / 64 by omega)
    (show (128 * (t.val / 4 % 4) + l.val) % 64 = l.val % 64 by omega)

theorem blk_6 (t : Fin cfg0.N) (r : Fin 512) (l : Fin 128) :
    iblk m c 6 t (ix3 0 r l) = (((D.pair (t.val / 16) (t.val / 4 % 4)).tile (t.val % 4)).G r l : EReal) := by
  have e : V m c (Pipeline.arrRef spec0 6) = arg4 m c := V_main_arg4 m c
  unfold iblk
  rw [e]
  refine (read_6 _ t r l).trans ((H.h4 _).trans ?_)
  exact congr_coe3 D.g rfl rfl (show 128 * (t.val / 4 % 4) + l.val = 64 * (2 * (t.val / 4 % 4) + l.val / 64) + l.val % 64 by omega)

/-- Every point's blocks hold its tiles. -/
theorem blocks_of : Blocks m c D := fun t =>
  { h0 := blk_0 H t, h1 := blk_1 H t, h2 := blk_2 H t, h3 := blk_3 H t, h4 := blk_4 H t, h5 := blk_5 H t, h6 := blk_6 H t }

end Fox

end
-- ==== Proof.Fin.lean ====
/-
The precondition: arguments the predicate accepts are real numbers.
-/
module

public import proofs.«01_k».proof.Proof.Ref
public import proofs.«01_k».proof.Pre_finite
public import Idealize.ShloMosaic.Lib.ReduceAll

@[expose] public section

noncomputable section

set_option maxRecDepth 65536

namespace Fox

open Idealize.ShloMosaic Idealize.ShloMosaic.TcCoe Idealize.SL.Sem

theorem inf_f32 : Ideal.ofBits .f32 0x7F800000#32 = (⊤ : EReal) := by
  simp [Ideal.ofBits, Ideal.ieee]

/-- An extended real whose magnitude lies below `+∞` is a real number. -/
theorem real_of_below {x : Ideal .f32} (h : FloatOps.cmpf .olt (FloatOps.hostAbsf x) (FloatOps.ofBits (F := Ideal) .f32 0x7F800000#32) = 1#1) :
    x = ((EReal.toReal x : ℝ) : EReal) := by
  have h1 : Ideal.cmp .olt (max x (-x)) (Ideal.ofBits .f32 0x7F800000#32) = 1#1 := h
  rw [inf_f32] at h1
  have h2 : max x (-x) < (⊤ : EReal) := by
    by_contra hn
    have h3 : Ideal.cmp .olt (max x (-x)) (⊤ : EReal) = BitVec.ofBool (decide (max x (-x) < (⊤ : EReal))) := rfl
    rw [h3, decide_eq_false hn] at h1
    exact absurd h1 (by decide)
  have a : x < (⊤ : EReal) := lt_of_le_of_lt (le_max_left _ _) h2
  have b : -x < (⊤ : EReal) := lt_of_le_of_lt (le_max_right _ _) h2
  refine (EReal.coe_toReal a.ne fun e => ?_).symm
  rw [e] at b
  exact absurd b (by simp)

section

variable [Cert.Pre_finite.Facts]

open Cert.Pre_finite Cert.Pre_finite.Facts

/-- The predicate on one array: every element's magnitude is below `+∞`. -/
theorem real_of_all {s : Shape} {axes : List (Fin s.rank)} (x : FVec Ideal s .f32) (hb : S_.BroadcastsInDim s (![] : Fin 0 → Fin s.rank)) (hr : s.ReducesTo axes S_)
    (h : Host.reduce IntOp.andi (cmpf .olt (Host.absf x) (broadcastInDim s ![] hb (constant (F := Ideal) S_ .f32 0x7F800000#32)))
      (constantI S_ 1 1#1) hr h_S_ = fun _ => 1#1) (i : s.Idx) : x i = ((EReal.toReal (x i) : ℝ) : EReal) := by
  haveI : Subsingleton S_.Idx := ⟨fun a b => funext fun k => k.elim0⟩
  exact real_of_below (Host.reduce_andi_all _ _ hr h_S_ (Shape.Idx.first h_S_) (congrFun h _) i)

theorem both {a b : IVec S_ 1} (h : andi a b = fun _ => 1#1) : a = (fun _ => 1#1) ∧ b = fun _ => 1#1 :=
  ⟨funext fun i => (IntOp.andi_eq_one.mp (congrFun h i)).1, funext fun i => (IntOp.andi_eq_one.mp (congrFun h i)).2⟩

variable {x0 x1 x2 : FVec Ideal S2x2048x8x64 .f32} {x3 : FVec Ideal S2x2048x8 .f32} {x4 : FVec Ideal S2x2048x512 .f32}

theorem reals_of (h : Cert.Pre_finite.fn (F := Ideal) x0 x1 x2 x3 x4 = fun _ => 1#1) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) ∧ (∀ i, x3 i = ((EReal.toReal (x3 i) : ℝ) : EReal))
      ∧ ∀ i, x4 i = ((EReal.toReal (x4 i) : ℝ) : EReal) := by
  have a := both (show andi (andi (andi (andi _ _) _) _) _ = _ from h)
  have b := both a.1
  have d := both b.1
  have e := both d.1
  exact ⟨real_of_all x0 bcast_S_S2x2048x8x64 reducesTo_S2x2048x8x64_S_d0_1_2_3 e.1,
    real_of_all x1 bcast_S_S2x2048x8x64 reducesTo_S2x2048x8x64_S_d0_1_2_3 e.2,
    real_of_all x2 bcast_S_S2x2048x8x64 reducesTo_S2x2048x8x64_S_d0_1_2_3 d.2,
    real_of_all x3 bcast_S_S2x2048x8 reducesTo_S2x2048x8_S_d0_1_2 b.2,
    real_of_all x4 bcast_S_S2x2048x512 reducesTo_S2x2048x512_S_d0_1_2 a.2⟩

end

/-- Real arrays, as functions of their coordinates. -/
def fn3 {n0 n1 n2 : ℕ} (x : (⟨3, ![n0, n1, n2]⟩ : Shape).Idx → EReal) (a b c : ℕ) : ℝ :=
  if h : a < n0 ∧ b < n1 ∧ c < n2 then EReal.toReal (x (ix3 ⟨a, h.1⟩ ⟨b, h.2.1⟩ ⟨c, h.2.2⟩)) else 0

def fn4 {n0 n1 n2 n3 : ℕ} (x : (⟨4, ![n0, n1, n2, n3]⟩ : Shape).Idx → EReal) (a b c d : ℕ) : ℝ :=
  if h : a < n0 ∧ b < n1 ∧ c < n2 ∧ d < n3 then EReal.toReal (x (ix4 ⟨a, h.1⟩ ⟨b, h.2.1⟩ ⟨c, h.2.2.1⟩ ⟨d, h.2.2.2⟩)) else 0

theorem eta3 {n0 n1 n2 : ℕ} (i : (⟨3, ![n0, n1, n2]⟩ : Shape).Idx) : i = ix3 (i 0) (i 1) (i 2) :=
  funext fun a => match a with
    | ⟨0, _⟩ => rfl
    | ⟨1, _⟩ => rfl
    | ⟨2, _⟩ => rfl

theorem eta4 {n0 n1 n2 n3 : ℕ} (i : (⟨4, ![n0, n1, n2, n3]⟩ : Shape).Idx) : i = ix4 (i 0) (i 1) (i 2) (i 3) :=
  funext fun a => match a with
    | ⟨0, _⟩ => rfl
    | ⟨1, _⟩ => rfl
    | ⟨2, _⟩ => rfl
    | ⟨3, _⟩ => rfl

theorem fn3_eq {n0 n1 n2 : ℕ} (x : (⟨3, ![n0, n1, n2]⟩ : Shape).Idx → EReal) (i : (⟨3, ![n0, n1, n2]⟩ : Shape).Idx) :
    fn3 x (i 0).val (i 1).val (i 2).val = EReal.toReal (x i) := by
  unfold fn3
  rw [dif_pos ⟨(i 0).isLt, (i 1).isLt, (i 2).isLt⟩]
  exact congrArg (fun y => EReal.toReal (x y)) (eta3 i).symm

theorem fn4_eq {n0 n1 n2 n3 : ℕ} (x : (⟨4, ![n0, n1, n2, n3]⟩ : Shape).Idx → EReal) (i : (⟨4, ![n0, n1, n2, n3]⟩ : Shape).Idx) :
    fn4 x (i 0).val (i 1).val (i 2).val (i 3).val = EReal.toReal (x i) := by
  unfold fn4
  rw [dif_pos ⟨(i 0).isLt, (i 1).isLt, (i 2).isLt, (i 3).isLt⟩]
  exact congrArg (fun y => EReal.toReal (x y)) (eta4 i).symm

open Cert.Pre_finite in
/-- Arguments the precondition accepts hold real data. -/
theorem holds_of [Cert.Pre_finite.Facts] {x0 x1 x2 : FVec Ideal S2x2048x8x64 .f32} {x3 : FVec Ideal S2x2048x8 .f32} {x4 : FVec Ideal S2x2048x512 .f32}
    (h : Cert.Pre_finite.fn (F := Ideal) x0 x1 x2 x3 x4 = fun _ => 1#1) :
    Data.Holds ⟨fn4 x0, fn4 x1, fn4 x2, fn3 x3, fn3 x4⟩ x0 x1 x2 x3 x4 := by
  obtain ⟨h0, h1, h2, h3, h4⟩ := reals_of h
  exact
    { h0 := fun i => (h0 i).trans (congrArg _ (fn4_eq x0 i).symm)
      h1 := fun i => (h1 i).trans (congrArg _ (fn4_eq x1 i).symm)
      h2 := fun i => (h2 i).trans (congrArg _ (fn4_eq x2 i).symm)
      h3 := fun i => (h3 i).trans (congrArg _ (fn3_eq x3 i).symm)
      h4 := fun i => (h4 i).trans (congrArg _ (fn3_eq x4 i).symm) }

end Fox

end
-- ==== Proof.Out.lean ====
/-
The kernel's arrays after the run are the reference's results.
-/
module

public import proofs.«01_k».proof.Proof.Blk
public import proofs.«01_k».proof.Proof.Fin
public import proofs.«01_k».proof.Proof.Gen.KernelIdeal.Value
public import Idealize.ShloMosaic.Lib.Pipeline.ValueKit

@[expose] public section

noncomputable section

set_option maxRecDepth 65536

namespace Fox

open Idealize.ShloMosaic Idealize.ShloMosaic.TcCoe Idealize.SL.Sem Idealize.ShloMosaic.StableHlo Cert.KernelIdeal Cert.KernelIdeal.Gen

/-! ## Block indices, without their coordinates of extent one -/

theorem unit3 {n1 n2 : ℕ} (y : (⟨3, ![1, n1, n2]⟩ : Shape).Idx) : y = ix3 0 (y 1) (y 2) :=
  funext fun a => match a with
    | ⟨0, _⟩ => Subsingleton.elim (α := Fin 1) _ _
    | ⟨1, _⟩ => rfl
    | ⟨2, _⟩ => rfl

theorem unit4 {n2 n3 : ℕ} (y : (⟨4, ![1, 1, n2, n3]⟩ : Shape).Idx) : y = ix4 0 0 (y 2) (y 3) :=
  funext fun a => match a with
    | ⟨0, _⟩ => Subsingleton.elim (α := Fin 1) _ _
    | ⟨1, _⟩ => Subsingleton.elim (α := Fin 1) _ _
    | ⟨2, _⟩ => rfl
    | ⟨3, _⟩ => rfl

theorem unit5 {n1 n2 n4 : ℕ} (y : (⟨5, ![1, n1, n2, 1, n4]⟩ : Shape).Idx) : y = ix5 0 (y 1) (y 2) 0 (y 4) :=
  funext fun a => match a with
    | ⟨0, _⟩ => Subsingleton.elim (α := Fin 1) _ _
    | ⟨1, _⟩ => rfl
    | ⟨2, _⟩ => rfl
    | ⟨3, _⟩ => Subsingleton.elim (α := Fin 1) _ _
    | ⟨4, _⟩ => rfl

/-- Two blocks that agree where their coordinates of extent one are zero. -/
theorem ext4 {n2 n3 : ℕ} (f g : (⟨4, ![1, 1, n2, n3]⟩ : Shape).Idx → EReal) (h : ∀ (r : Fin n2) (e : Fin n3), f (ix4 0 0 r e) = g (ix4 0 0 r e)) : f = g :=
  funext fun y => by
    rw [unit4 y]
    exact h _ _

/-! ## A block of a result, read from its array -/

theorem at_7 : ∀ t : Fin cfg0.N, win0_7.index t = ![t.val / 16, t.val % 4, t.val / 4 % 4] := (by decide +kernel : ∀ t : Fin grid0.N, _)
theorem at_8 : ∀ t : Fin cfg0.N, win0_8.index t = ![t.val / 16, 0, t.val / 4 % 4] := (by decide +kernel : ∀ t : Fin grid0.N, _)
theorem at_9 : ∀ t : Fin cfg0.N, win0_9.index t = ![t.val / 16, t.val / 4 % 4, t.val % 4, 0] := (by decide +kernel : ∀ t : Fin grid0.N, _)
theorem at_10 : ∀ t : Fin cfg0.N, win0_10.index t = ![t.val / 16, t.val / 4 % 4, 0, 0, 0] := (by decide +kernel : ∀ t : Fin grid0.N, _)
theorem last_8 : ∀ t : Fin cfg0.N, win0_8.flush t = true → t.val % 4 = 3 := (by decide +kernel : ∀ t : Fin grid0.N, _)
theorem last_10 : ∀ t : Fin cfg0.N, win0_10.flush t = true → t.val % 4 = 3 := (by decide +kernel : ∀ t : Fin grid0.N, _)

theorem read_7 (X : FVec Ideal S2x2048x512 .bf16) (t : Fin cfg0.N) (r : Fin 512) (l : Fin 128) :
    ((cfg0.win 7).blk t).view.read (Elt Ideal) X (ix3 0 r l) = X (ix3 (batchAt t) (rowAt t r) (laneAt t l)) := by
  rw [View.read_apply]
  show X _ = X _
  congr 1
  funext a
  apply Fin.ext
  have e := at_7 t
  match a with
  | ⟨0, _⟩ => show win0_7.index t 0 * 1 + 1 * 0 = t.val / 16; rw [e]; show t.val / 16 * 1 + 1 * 0 = _; omega
  | ⟨1, _⟩ => show win0_7.index t 1 * 512 + 1 * r.val = 512 * (t.val % 4) + r.val; rw [e]; show t.val % 4 * 512 + 1 * r.val = _; omega
  | ⟨2, _⟩ => show win0_7.index t 2 * 128 + 1 * l.val = 128 * (t.val / 4 % 4) + l.val; rw [e]; show t.val / 4 % 4 * 128 + 1 * l.val = _; omega

theorem read_8 (X : FVec Ideal S2x2048x1024 .bf16) (t : Fin cfg0.N) (j : Fin 2048) (l : Fin 256) :
    ((cfg0.win 8).blk t).view.read (Elt Ideal) X (ix3 0 j l)
      = X (ix3 (batchAt t) j (⟨256 * (t.val / 4 % 4) + l.val, by omega⟩ : Fin 1024)) := by
  rw [View.read_apply]
  show X _ = X _
  congr 1
  funext a
  apply Fin.ext
  have e := at_8 t
  match a with
  | ⟨0, _⟩ => show win0_8.index t 0 * 1 + 1 * 0 = t.val / 16; rw [e]; show t.val / 16 * 1 + 1 * 0 = _; omega
  | ⟨1, _⟩ => show win0_8.index t 1 * 2048 + 1 * j.val = j.val; rw [e]; show 0 * 2048 + 1 * j.val = _; omega
  | ⟨2, _⟩ => show win0_8.index t 2 * 256 + 1 * l.val = 256 * (t.val / 4 % 4) + l.val; rw [e]; show t.val / 4 % 4 * 256 + 1 * l.val = _; omega

theorem read_9 (X : FVec Ideal S2x4x2048x2 .f32) (t : Fin cfg0.N) (r : Fin 512) (e : Fin 2) :
    ((cfg0.win 9).blk t).view.read (Elt Ideal) X (ix4 0 0 r e) = X (ix4 (batchAt t) (pairAt t) (rowAt t r) e) := by
  rw [View.read_apply]
  show X _ = X _
  congr 1
  funext a
  apply Fin.ext
  have h := at_9 t
  match a with
  | ⟨0, _⟩ => show win0_9.index t 0 * 1 + 1 * 0 = t.val / 16; rw [h]; show t.val / 16 * 1 + 1 * 0 = _; omega
  | ⟨1, _⟩ => show win0_9.index t 1 * 1 + 1 * 0 = t.val / 4 % 4; rw [h]; show t.val / 4 % 4 * 1 + 1 * 0 = _; omega
  | ⟨2, _⟩ => show win0_9.index t 2 * 512 + 1 * r.val = 512 * (t.val % 4) + r.val; rw [h]; show t.val % 4 * 512 + 1 * r.val = _; omega
  | ⟨3, _⟩ => show win0_9.index t 3 * 2 + 1 * e.val = e.val; rw [h]; show 0 * 2 + 1 * e.val = _; omega

theorem read_10 (X : FVec Ideal S2x8x4x1x512 .f32) (t : Fin cfg0.N) (e : Fin 2) (b : Fin 4) (j : Fin 512) :
    ((cfg0.win 10).blk t).view.read (Elt Ideal) X (ix5 0 e b 0 j) = X (ix5 (batchAt t) (headAt t e) b 0 j) := by
  rw [View.read_apply]
  show X _ = X _
  congr 1
  funext a
  apply Fin.ext
  have h := at_10 t
  match a with
  | ⟨0, _⟩ => show win0_10.index t 0 * 1 + 1 * 0 = t.val / 16; rw [h]; show t.val / 16 * 1 + 1 * 0 = _; omega
  | ⟨1, _⟩ => show win0_10.index t 1 * 2 + 1 * e.val = 2 * (t.val / 4 % 4) + e.val; rw [h]; show t.val / 4 % 4 * 2 + 1 * e.val = _; omega
  | ⟨2, _⟩ => show win0_10.index t 2 * 4 + 1 * b.val = b.val; rw [h]; show 0 * 4 + 1 * b.val = _; omega
  | ⟨3, _⟩ => show win0_10.index t 3 * 1 + 1 * 0 = 0; rw [h]; rfl
  | ⟨4, _⟩ => show win0_10.index t 4 * 512 + 1 * j.val = j.val; rw [h]; show 0 * 512 + 1 * j.val = _; omega

section

variable {m : (ℓ : Loc nD τ sig) → Buf (Elt Ideal) ℓ} {c : Dev nD} {D : Data}

/-! ## The sums of a point are the reference's -/

theorem dq_sum (b h : ℕ) (i l : ℕ) (hl : l < 128) :
    (∑ j ∈ Finset.range 2048, (D.pair b h).ds (l / 64) i j * (D.pair b h).k (l / 64) j (l % 64)) * 8⁻¹
      = ∑ j ∈ Finset.range 2048, D.DS b ((128 * h + l) / 64) i j * 8⁻¹ * D.hk b ((128 * h + l) / 64) j ((128 * h + l) % 64) := by
  rw [show (128 * h + l) / 64 = 2 * h + l / 64 by omega, show (128 * h + l) % 64 = l % 64 by omega, Finset.sum_mul]
  refine Finset.sum_congr rfl fun j _ => ?_
  show D.DS b (2 * h + l / 64) i j * D.hk b (2 * h + l / 64) j (l % 64) * 8⁻¹ = _
  ring

theorem dkv_sum (b h : ℕ) (j l : ℕ) (hl : l < 256) :
    (if l < 128 then (D.pair b h).dk 4 j l else (D.pair b h).dv 4 j (l - 128))
      = if (256 * h + l) % 256 < 128 then ∑ n ∈ Finset.range 2048, D.DS b (2 * ((256 * h + l) / 256) + (256 * h + l) % 256 / 64) n j * 8⁻¹
          * D.hq b (2 * ((256 * h + l) / 256) + (256 * h + l) % 256 / 64) n ((256 * h + l) % 256 % 64)
        else ∑ n ∈ Finset.range 2048, D.hg b (2 * ((256 * h + l) / 256) + ((256 * h + l) % 256 - 128) / 64) n (((256 * h + l) % 256 - 128) % 64)
          * D.W b (2 * ((256 * h + l) / 256) + ((256 * h + l) % 256 - 128) / 64) n j := by
  rw [show (256 * h + l) / 256 = h by omega, show (256 * h + l) % 256 = l by omega]
  by_cases hh : l < 128
  · rw [if_pos hh, if_pos hh]
    unfold Pair.dk
    refine Finset.sum_congr rfl fun n _ => ?_
    show D.DS b (2 * h + l / 64) n j * (D.hq b (2 * h + l / 64) n (l % 64) * 8⁻¹) = _
    ring
  · rw [if_neg hh, if_neg hh]
    unfold Pair.dv
    refine Finset.sum_congr rfl fun n _ => ?_
    show D.W b (2 * h + (l - 128) / 64) n j * D.hg b (2 * h + (l - 128) / 64) n ((l - 128) % 64) = _
    ring

theorem dc_sum (b h e j : ℕ) :
    (D.pair b h).dc 4 e j = ∑ n ∈ Finset.range 2048, - D.DS b (2 * h + e) n j := by
  unfold Pair.dc
  rw [Finset.sum_neg_distrib]
  rfl

/-! ## The four arrays -/

variable (H : D.Holds (arg0 m c) (arg1 m c) (arg2 m c) (arg3 m c) (arg4 m c))

include H

/-- The queries' gradient. -/
theorem out_7 : (dats m 0 c).arrAt 7 cfg0.N
    = Cert.ReferenceIdeal.Read.val_main_v88 (F := Ideal) (arg0 m c) (arg1 m c) (arg2 m c) (arg3 m c) (arg4 m c) := by
  have key : ∀ (t : Fin cfg0.N) (y : S1x512x128.Idx), (outsAt0 m c t.val t.isLt).1 y
      = ((cfg0.win 7).blk t).view.read (Elt Ideal)
        (Cert.ReferenceIdeal.Read.val_main_v88 (F := Ideal) (arg0 m c) (arg1 m c) (arg2 m c) (arg3 m c) (arg4 m c)) y := fun t y => by
    obtain ⟨r, l, rfl⟩ : ∃ (r : Fin 512) (l : Fin 128), y = ix3 0 r l :=
      ⟨y 1, y 2, unit3 y⟩
    refine ((left_at (blocks_of H) t.val t.isLt).h7 r l).trans (Eq.trans ?_ (read_7 _ t r l).symm)
    refine Eq.trans ?_ (ref_0 H _).symm
    exact congrArg _ (dq_sum (t.val / 16) (t.val / 4 % 4) (512 * (t.val % 4) + r.val) l.val l.isLt)
  refine (dats m 0 c).arrAt_eq_of_cover 7 _ (fun t _ => ?_) ((by decide +kernel : (cfg0.win 7).Covers).cover _ (Memref.isWhole_whole _))
  rw [Value.flushed7]
  exact funext fun y => key t y

/-- The keys' and values' gradients. -/
theorem out_8 : (dats m 0 c).arrAt 8 cfg0.N
    = Cert.ReferenceIdeal.Read.val_main_v90 (F := Ideal) (arg0 m c) (arg1 m c) (arg2 m c) (arg3 m c) (arg4 m c) := by
  have key : ∀ (t : Fin cfg0.N), t.val % 4 = 3 → ∀ (y : S1x2048x256.Idx), (outsAt0 m c t.val t.isLt).2.1 y
      = ((cfg0.win 8).blk t).view.read (Elt Ideal)
        (Cert.ReferenceIdeal.Read.val_main_v90 (F := Ideal) (arg0 m c) (arg1 m c) (arg2 m c) (arg3 m c) (arg4 m c)) y := fun t h3 y => by
    obtain ⟨j, l, rfl⟩ : ∃ (j : Fin 2048) (l : Fin 256), y = ix3 0 j l :=
      ⟨y 1, y 2, unit3 y⟩
    refine (kv_at (blocks_of H) t h3 j l).trans (Eq.trans ?_ (read_8 _ t j l).symm)
    refine Eq.trans ?_ (ref_1 H _).symm
    exact congrArg _ (dkv_sum (t.val / 16) (t.val / 4 % 4) j.val l.val l.isLt)
  refine (dats m 0 c).arrAt_eq_of_cover 8 _ (fun t hf => ?_) ((by decide +kernel : (cfg0.win 8).Covers).cover _ (Memref.isWhole_whole _))
  rw [Value.flushed8]
  exact funext fun y => key t (last_8 t hf) y

/-- The gradient of the queries' decays. -/
theorem out_9 : (dats m 0 c).arrAt 9 cfg0.N
    = Cert.ReferenceIdeal.Read.val_main_v92 (F := Ideal) (arg0 m c) (arg1 m c) (arg2 m c) (arg3 m c) (arg4 m c) := by
  have key : ∀ (t : Fin cfg0.N) (r : Fin 512) (e : Fin 2), (outsAt0 m c t.val t.isLt).2.2.1 (ix4 0 0 r e)
      = ((cfg0.win 9).blk t).view.read (Elt Ideal)
        (Cert.ReferenceIdeal.Read.val_main_v92 (F := Ideal) (arg0 m c) (arg1 m c) (arg2 m c) (arg3 m c) (arg4 m c)) (ix4 0 0 r e) := fun t r e => by
    refine ((left_at (blocks_of H) t.val t.isLt).h9 r e).trans (Eq.trans ?_ (read_9 _ t r e).symm)
    exact (ref_2 H (ix4 (batchAt t) (pairAt t) (rowAt t r) e)).symm
  refine (dats m 0 c).arrAt_eq_of_cover 9 _ (fun t _ => ?_) ((by decide +kernel : (cfg0.win 9).Covers).cover _ (Memref.isWhole_whole _))
  rw [Value.flushed9]
  exact ext4 _ _ (key t)

/-- The gradient of the keys' decays. -/
theorem out_10 : (dats m 0 c).arrAt 10 cfg0.N
    = Cert.ReferenceIdeal.Read.val_main_v94 (F := Ideal) (arg0 m c) (arg1 m c) (arg2 m c) (arg3 m c) (arg4 m c) := by
  have key : ∀ (t : Fin cfg0.N), t.val % 4 = 3 → ∀ (y : S1x2x4x1x512.Idx), (outsAt0 m c t.val t.isLt).2.2.2.1 y
      = ((cfg0.win 10).blk t).view.read (Elt Ideal)
        (Cert.ReferenceIdeal.Read.val_main_v94 (F := Ideal) (arg0 m c) (arg1 m c) (arg2 m c) (arg3 m c) (arg4 m c)) y := fun t h3 y => by
    obtain ⟨e, b, j, rfl⟩ : ∃ (e : Fin 2) (b : Fin 4) (j : Fin 512), y = ix5 0 e b 0 j :=
      ⟨y 1, y 2, y 4, unit5 y⟩
    refine ((left_at (blocks_of H) t.val t.isLt).h10 e b j).trans (Eq.trans ?_ (read_10 _ t e b j).symm)
    refine Eq.trans ?_ (ref_3 H _).symm
    rw [h3]
    exact congrArg _ (dc_sum (t.val / 16) (t.val / 4 % 4) e.val (512 * b.val + j.val))
  refine (dats m 0 c).arrAt_eq_of_cover 10 _ (fun t hf => ?_) ((by decide +kernel : (cfg0.win 10).Covers).cover _ (Memref.isWhole_whole _))
  rw [Value.flushed10]
  exact funext fun y => key t (last_10 t hf) y

end

end Fox

end
-- ==== Proof.Equal.lean ====
/-
The value claim: on the arguments that the precondition accepts, the kernel and the reference end with equal results.
-/
module

public import proofs.«01_k».proof.Defs
public import proofs.«01_k».proof.Proof.Out
public import proofs.«01_k».proof.Proof.Gen.ReferenceIdeal.Run

@[expose] public section

noncomputable section

set_option maxRecDepth 65536

namespace Fox

open Idealize.ShloMosaic Idealize.ShloMosaic.TcCoe Idealize.SL.Sem

variable [Cert.Pre_finite.Facts]

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The reference's arguments are the kernel's, on one device. -/
def SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

theorem eq_0 (c : Dev Cert.KernelIdeal.nD) (h : SameArgs m m' c) : Cert.ReferenceIdeal.Value.res_main_v88 m' c
    = Cert.ReferenceIdeal.Read.val_main_v88 (F := Ideal) (arg0 m c) (arg1 m c) (arg2 m c) (arg3 m c) (arg4 m c) := by
  obtain ⟨h0, h1, h2, h3, h4⟩ := h
  rw [Cert.ReferenceIdeal.Read.val_main_v88_eq, h0, h1, h2, h3, h4]

theorem eq_1 (c : Dev Cert.KernelIdeal.nD) (h : SameArgs m m' c) : Cert.ReferenceIdeal.Value.res_main_v90 m' c
    = Cert.ReferenceIdeal.Read.val_main_v90 (F := Ideal) (arg0 m c) (arg1 m c) (arg2 m c) (arg3 m c) (arg4 m c) := by
  obtain ⟨h0, h1, h2, h3, h4⟩ := h
  rw [Cert.ReferenceIdeal.Read.val_main_v90_eq, h0, h1, h2, h3, h4]

theorem eq_2 (c : Dev Cert.KernelIdeal.nD) (h : SameArgs m m' c) : Cert.ReferenceIdeal.Value.res_main_v92 m' c
    = Cert.ReferenceIdeal.Read.val_main_v92 (F := Ideal) (arg0 m c) (arg1 m c) (arg2 m c) (arg3 m c) (arg4 m c) := by
  obtain ⟨h0, h1, h2, h3, h4⟩ := h
  rw [Cert.ReferenceIdeal.Read.val_main_v92_eq, h0, h1, h2, h3, h4]

theorem eq_3 (c : Dev Cert.KernelIdeal.nD) (h : SameArgs m m' c) : Cert.ReferenceIdeal.Value.res_main_v94 m' c
    = Cert.ReferenceIdeal.Read.val_main_v94 (F := Ideal) (arg0 m c) (arg1 m c) (arg2 m c) (arg3 m c) (arg4 m c) := by
  obtain ⟨h0, h1, h2, h3, h4⟩ := h
  rw [Cert.ReferenceIdeal.Read.val_main_v94_eq, h0, h1, h2, h3, h4]

/-- The kernel and the reference compute the same four gradients. -/
theorem algebraic : Cert.algebraic_KernelIdeal_ReferenceIdeal_pre_finite := fun m g m' g' hp he => by
  refine ⟨fun c => Cert.ReferenceIdeal.Read.val_main_v88 (F := Ideal) (arg0 m c) (arg1 m c) (arg2 m c) (arg3 m c) (arg4 m c),
    fun c => Cert.ReferenceIdeal.Read.val_main_v90 (F := Ideal) (arg0 m c) (arg1 m c) (arg2 m c) (arg3 m c) (arg4 m c),
    fun c => Cert.ReferenceIdeal.Read.val_main_v92 (F := Ideal) (arg0 m c) (arg1 m c) (arg2 m c) (arg3 m c) (arg4 m c),
    fun c => Cert.ReferenceIdeal.Read.val_main_v94 (F := Ideal) (arg0 m c) (arg1 m c) (arg2 m c) (arg3 m c) (arg4 m c), ?_, ?_⟩
  · refine (θ_run _ _ _).mono (fun r h c => ?_) (Cert.KernelIdeal.Value.run_blocks m g)
    have H := holds_of (hp c)
    obtain ⟨h0, h1, h2, h3, k⟩ := h c
    exact ⟨h0.trans (out_7 H), h1.trans (out_8 H), h2.trans (out_9 H), h3.trans (out_10 H), k⟩
  · refine (θ_run _ _ _).mono (fun r h c => ?_) (Cert.ReferenceIdeal.Value.run m' g')
    obtain ⟨h0, h1, h2, h3, k⟩ := h c
    exact ⟨h0.trans (eq_0 c (he c)), h1.trans (eq_1 c (he c)), h2.trans (eq_2 c (he c)), h3.trans (eq_3 c (he c)), k⟩

end Fox

end
-- ==== Proof.FfnFrames.lean ====
/-
The frames of the feed-forward network's calls on words: each program on words is the same text as the one over the
reals, so one proof, stated for any floats, serves both.
-/
module

public import proofs.«01_k».proof.Defs
public import proofs.«01_k».proof.Proof.Tables
public import proofs.«01_k».proof.Proof.Gen.Kernel2
public import proofs.«01_k».proof.Proof.Gen.Kernel2Ideal.Frame
public import proofs.«01_k».proof.Proof.Gen.Kernel3
public import proofs.«01_k».proof.Proof.Gen.Kernel3Ideal.Frame
public import proofs.«01_k».proof.Proof.Gen.Kernel4
public import proofs.«01_k».proof.Proof.Gen.Kernel4Ideal.Frame
public import proofs.«01_k».proof.Proof.Gen.Kernel5
public import proofs.«01_k».proof.Proof.Gen.Kernel5Ideal.Frame

@[expose] public section

noncomputable section

namespace Ffn

open Idealize.ShloMosaic Idealize.SL.Sem

/-! ## Program 2 -/

set_option maxHeartbeats 4000000 in
theorem body_2 : @Cert.Kernel2.cc0_d_w_ffn_in Bits _ _ = @Cert.Kernel2Ideal.cc0_d_w_ffn_in Bits _ _ := rfl

set_option maxHeartbeats 4000000 in
theorem table_2 (l : Fin 1) (x) : @Cert.Kernel2.defs₀ Bits _ _ .tc l x = @Cert.Kernel2Ideal.defs₀ Bits _ _ .tc l x := by
  match l, x with
  | 0, (t, s) =>
    unfold Cert.Kernel2.defs₀ Cert.Kernel2Ideal.defs₀
    dsimp only [Defs.onTc_tc]
    rw [body_2]
    generalize @Cert.Kernel2Ideal.cc0_d_w_ffn_in Bits _ _ = f
    exact rfl
  | ⟨_ + 1, h⟩, _ => exact absurd h (Nat.not_lt.2 (Nat.le_add_left _ _))

theorem tables_2 : @Cert.Kernel2.defs₀ Bits _ _ = @Cert.Kernel2Ideal.defs₀ Bits _ _ := by
  refine funext fun p => ?_
  cases p with
  | tc => exact funext fun l => funext fun x => table_2 l x
  | scScalar _ =>
    unfold Cert.Kernel2.defs₀ Cert.Kernel2Ideal.defs₀
    exact Fox.scalar_none _ _ _
  | scVector _ _ =>
    unfold Cert.Kernel2.defs₀ Cert.Kernel2Ideal.defs₀
    exact Fox.vector_none _ _ _ _

set_option maxHeartbeats 4000000 in
theorem defs_2 : @Cert.Kernel2.defs Bits _ _ = @Cert.Kernel2Ideal.defs Bits _ _ := by
  unfold Cert.Kernel2.defs Cert.Kernel2Ideal.defs
  rw [tables_2]
  generalize @Cert.Kernel2Ideal.defs₀ Bits _ _ = f
  exact rfl

set_option maxHeartbeats 4000000 in
theorem main_2 : @Cert.Kernel2.main Bits _ = @Cert.Kernel2Ideal.main Bits _ := rfl

set_option maxHeartbeats 4000000 in
theorem frame_2 : Cert.quiescent_Kernel2 := fun m ρ _ => by
  have h := @Cert.Kernel2Ideal.Gen.frame Bits _ m ρ
  rw [← defs_2, ← main_2] at h
  exact h

/-! ## Program 3 -/

set_option maxHeartbeats 4000000 in
theorem body_3 : @Cert.Kernel3.cc0_d_w_ffn_out Bits _ _ = @Cert.Kernel3Ideal.cc0_d_w_ffn_out Bits _ _ := rfl

set_option maxHeartbeats 4000000 in
theorem table_3 (l : Fin 1) (x) : @Cert.Kernel3.defs₀ Bits _ _ .tc l x = @Cert.Kernel3Ideal.defs₀ Bits _ _ .tc l x := by
  match l, x with
  | 0, (t, s) =>
    unfold Cert.Kernel3.defs₀ Cert.Kernel3Ideal.defs₀
    dsimp only [Defs.onTc_tc]
    rw [body_3]
    generalize @Cert.Kernel3Ideal.cc0_d_w_ffn_out Bits _ _ = f
    exact rfl
  | ⟨_ + 1, h⟩, _ => exact absurd h (Nat.not_lt.2 (Nat.le_add_left _ _))

theorem tables_3 : @Cert.Kernel3.defs₀ Bits _ _ = @Cert.Kernel3Ideal.defs₀ Bits _ _ := by
  refine funext fun p => ?_
  cases p with
  | tc => exact funext fun l => funext fun x => table_3 l x
  | scScalar _ =>
    unfold Cert.Kernel3.defs₀ Cert.Kernel3Ideal.defs₀
    exact Fox.scalar_none _ _ _
  | scVector _ _ =>
    unfold Cert.Kernel3.defs₀ Cert.Kernel3Ideal.defs₀
    exact Fox.vector_none _ _ _ _

set_option maxHeartbeats 4000000 in
theorem defs_3 : @Cert.Kernel3.defs Bits _ _ = @Cert.Kernel3Ideal.defs Bits _ _ := by
  unfold Cert.Kernel3.defs Cert.Kernel3Ideal.defs
  rw [tables_3]
  generalize @Cert.Kernel3Ideal.defs₀ Bits _ _ = f
  exact rfl

set_option maxHeartbeats 4000000 in
theorem main_3 : @Cert.Kernel3.main Bits _ = @Cert.Kernel3Ideal.main Bits _ := rfl

set_option maxHeartbeats 4000000 in
theorem frame_3 : Cert.quiescent_Kernel3 := fun m ρ _ => by
  have h := @Cert.Kernel3Ideal.Gen.frame Bits _ m ρ
  rw [← defs_3, ← main_3] at h
  exact h

/-! ## Program 4 -/

set_option maxHeartbeats 4000000 in
theorem body_4 : @Cert.Kernel4.cc0_ffn_act_bwd Bits _ _ = @Cert.Kernel4Ideal.cc0_ffn_act_bwd Bits _ _ := rfl

set_option maxHeartbeats 4000000 in
theorem table_4 (l : Fin 1) (x) : @Cert.Kernel4.defs₀ Bits _ _ .tc l x = @Cert.Kernel4Ideal.defs₀ Bits _ _ .tc l x := by
  match l, x with
  | 0, (t, s) =>
    unfold Cert.Kernel4.defs₀ Cert.Kernel4Ideal.defs₀
    dsimp only [Defs.onTc_tc]
    rw [body_4]
    generalize @Cert.Kernel4Ideal.cc0_ffn_act_bwd Bits _ _ = f
    exact rfl
  | ⟨_ + 1, h⟩, _ => exact absurd h (Nat.not_lt.2 (Nat.le_add_left _ _))

theorem tables_4 : @Cert.Kernel4.defs₀ Bits _ _ = @Cert.Kernel4Ideal.defs₀ Bits _ _ := by
  refine funext fun p => ?_
  cases p with
  | tc => exact funext fun l => funext fun x => table_4 l x
  | scScalar _ =>
    unfold Cert.Kernel4.defs₀ Cert.Kernel4Ideal.defs₀
    exact Fox.scalar_none _ _ _
  | scVector _ _ =>
    unfold Cert.Kernel4.defs₀ Cert.Kernel4Ideal.defs₀
    exact Fox.vector_none _ _ _ _

set_option maxHeartbeats 4000000 in
theorem defs_4 : @Cert.Kernel4.defs Bits _ _ = @Cert.Kernel4Ideal.defs Bits _ _ := by
  unfold Cert.Kernel4.defs Cert.Kernel4Ideal.defs
  rw [tables_4]
  generalize @Cert.Kernel4Ideal.defs₀ Bits _ _ = f
  exact rfl

set_option maxHeartbeats 4000000 in
theorem main_4 : @Cert.Kernel4.main Bits _ = @Cert.Kernel4Ideal.main Bits _ := rfl

set_option maxHeartbeats 4000000 in
theorem frame_4 : Cert.quiescent_Kernel4 := fun m ρ _ => by
  have h := @Cert.Kernel4Ideal.Gen.frame Bits _ m ρ
  rw [← defs_4, ← main_4] at h
  exact h

/-! ## Program 5 -/

set_option maxHeartbeats 4000000 in
theorem body_5 : @Cert.Kernel5.cc0_ffn_in Bits _ _ = @Cert.Kernel5Ideal.cc0_ffn_in Bits _ _ := rfl

set_option maxHeartbeats 4000000 in
theorem table_5 (l : Fin 1) (x) : @Cert.Kernel5.defs₀ Bits _ _ .tc l x = @Cert.Kernel5Ideal.defs₀ Bits _ _ .tc l x := by
  match l, x with
  | 0, (t, s) =>
    unfold Cert.Kernel5.defs₀ Cert.Kernel5Ideal.defs₀
    dsimp only [Defs.onTc_tc]
    rw [body_5]
    generalize @Cert.Kernel5Ideal.cc0_ffn_in Bits _ _ = f
    exact rfl
  | ⟨_ + 1, h⟩, _ => exact absurd h (Nat.not_lt.2 (Nat.le_add_left _ _))

theorem tables_5 : @Cert.Kernel5.defs₀ Bits _ _ = @Cert.Kernel5Ideal.defs₀ Bits _ _ := by
  refine funext fun p => ?_
  cases p with
  | tc => exact funext fun l => funext fun x => table_5 l x
  | scScalar _ =>
    unfold Cert.Kernel5.defs₀ Cert.Kernel5Ideal.defs₀
    exact Fox.scalar_none _ _ _
  | scVector _ _ =>
    unfold Cert.Kernel5.defs₀ Cert.Kernel5Ideal.defs₀
    exact Fox.vector_none _ _ _ _

set_option maxHeartbeats 4000000 in
theorem defs_5 : @Cert.Kernel5.defs Bits _ _ = @Cert.Kernel5Ideal.defs Bits _ _ := by
  unfold Cert.Kernel5.defs Cert.Kernel5Ideal.defs
  rw [tables_5]
  generalize @Cert.Kernel5Ideal.defs₀ Bits _ _ = f
  exact rfl

set_option maxHeartbeats 4000000 in
theorem main_5 : @Cert.Kernel5.main Bits _ = @Cert.Kernel5Ideal.main Bits _ := rfl

set_option maxHeartbeats 4000000 in
theorem frame_5 : Cert.quiescent_Kernel5 := fun m ρ _ => by
  have h := @Cert.Kernel5Ideal.Gen.frame Bits _ m ρ
  rw [← defs_5, ← main_5] at h
  exact h

end Ffn

end
-- ==== Proof.Halves.lean ====
/-
Sums in two halves, and indices by their coordinates.
-/
module

public import Idealize.ShloMosaic.Lib.Pointwise

@[expose] public section

noncomputable section

namespace Ffn

open Idealize.ShloMosaic
open scoped Pointwise

/-- A sum over 4096 rows is the sum over the first 2048 and the sum over the rest. -/
theorem halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

theorem ix2_congr {n0 n1 : ℕ} {a a' : Fin n0} {b b' : Fin n1} (h0 : a.val = a'.val) (h1 : b.val = b'.val) : ix2 a b = ix2 a' b' := by
  rw [Fin.ext h0, Fin.ext h1]

theorem eta_two {n0 n1 : ℕ} (y : (⟨2, ![n0, n1]⟩ : Shape).Idx) : y = ix2 (y 0) (y 1) :=
  funext fun a => match a with
    | ⟨0, _⟩ => rfl
    | ⟨1, _⟩ => rfl

theorem eta_unit3 {n1 n2 : ℕ} (y : (⟨3, ![1, n1, n2]⟩ : Shape).Idx) : y = ix3 0 (y 1) (y 2) :=
  funext fun a => match a with
    | ⟨0, _⟩ => Subsingleton.elim (α := Fin 1) _ _
    | ⟨1, _⟩ => rfl
    | ⟨2, _⟩ => rfl

/-! ## The sigmoid -/

theorem one_f32 : Ideal.ofBits .f32 0x3F800000#32 = 1 := by
  simp [Ideal.ofBits, Ideal.ieee, -EReal.coe_mul]
  norm_num

/-- silu: the argument times its sigmoid. -/
def silu (z : EReal) : EReal := z * Ideal.logistic z

/-- The reference's sigmoid. -/
theorem host_sigmoid (z : EReal) :
    Ideal.div (Ideal.ofBits .f32 0x3F800000#32) (Ideal.ofBits .f32 0x3F800000#32 + Ideal.exp (-z)) = Ideal.logistic z := by
  rw [one_f32]
  rfl

/-- The kernel's sigmoid, which negates by subtracting from zero. -/
theorem body_sigmoid (z : EReal) :
    Ideal.div (Ideal.ofBits .f32 0x3F800000#32) (Ideal.ofBits .f32 0x3F800000#32 + Ideal.exp (Ideal.ofBits .f32 0x00000000#32 - z)) = Ideal.logistic z := by
  rw [Ideal.ofBits_zero_f32, zero_sub, one_f32]
  rfl

theorem logistic_real (z : EReal) : ∃ s : ℝ, Ideal.logistic z = (s : EReal) := by
  induction z using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The gradient of silu as the kernel multiplies it out and as the reference does, against a real number. -/
theorem silu_grad (p : ℝ) (g : EReal) :
    (p : EReal) * (Ideal.logistic g + g * Ideal.logistic g * (1 - Ideal.logistic g))
      = (p : EReal) * Ideal.logistic g + g * (p : EReal) * (Ideal.logistic g * (1 - Ideal.logistic g)) := by
  induction g using EReal.rec with
  | bot => simp
  | coe r =>
    obtain ⟨s, hs⟩ := logistic_real (r : EReal)
    rw [hs, ← EReal.coe_one]
    norm_cast
    ring
  | top =>
    have e : (1 : EReal) - 1 = 0 := by rw [← EReal.coe_one, ← EReal.coe_sub, sub_self, EReal.coe_zero]
    rw [Ideal.logistic_top, e]
    simp

/-- A sum of products of real numbers is a real number. -/
theorem sum_real {n : ℕ} (a b : Fin n → EReal) (ha : ∀ k, a k = ((EReal.toReal (a k) : ℝ) : EReal)) (hb : ∀ k, b k = ((EReal.toReal (b k) : ℝ) : EReal)) :
    ∃ s : ℝ, ∑ k, a k * b k = (s : EReal) := by
  have h : ∀ S : Finset (Fin n), ∃ s : ℝ, ∑ k ∈ S, a k * b k = (s : EReal) := fun S => by
    induction S using Finset.cons_induction with
    | empty => exact ⟨0, by rw [Finset.sum_empty, EReal.coe_zero]⟩
    | cons k S hk ih =>
      obtain ⟨s, hs⟩ := ih
      exact ⟨EReal.toReal (a k) * EReal.toReal (b k) + s, by rw [Finset.sum_cons, hs, EReal.coe_add, EReal.coe_mul, ← ha, ← hb]⟩
  exact h Finset.univ

end Ffn

end
-- ==== Proof.DwIn.lean ====
/-
The gradient of the feed-forward network's first weights: in each block of 1408 columns two steps of 2048 rows each, added up
in an accumulator; the sum over all 4096 rows in the reference.
-/
module

public import proofs.«01_k».proof.Proof.Halves
public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit

@[expose] public section

noncomputable section

set_option maxRecDepth 65536

namespace Ffn.DwIn

open Idealize.ShloMosaic Idealize.ShloMosaic.TcCoe Idealize.SL.Sem Cert.Kernel2Ideal Cert.Kernel2Ideal.Gen
open scoped Pointwise

/-! ## What the two steps of a block leave -/

/-- One step's product at an index: the sum over its 2048 rows. -/
theorem part_at (x0 : Vec Ideal S2048x1024 .bf16) (x1 : Vec Ideal S2048x1408 .bf16) (r : Fin 1024) (l : Fin 1408) :
    k0_pay1 x0 x1 (ix2 r l) = ∑ k : Fin 2048, x0 (ix2 k r) * x1 (ix2 k l) := by
  pointwise [k0_pay1]

theorem zero2 : (![0, 0] : Fin 2 → Nat) = fun _ => 0 := funext fun a => by fin_cases a <;> rfl
theorem zero3 : (![0, 0, 0] : Fin 3 → Nat) = fun _ => 0 := funext fun a => by fin_cases a <;> rfl

section
variable (c : Dev nD) (i : grid0.Coords) (a3 : Memref sig .tc .vmem S2048x1024 .bf16) (h3 : a3.IsWhole)
  (a4 : Memref sig .tc .vmem S2048x1408 .bf16) (h4 : a4.IsWhole) (a5 : Memref sig .tc .vmem S1x1024x1408 .f32) (h5 : a5.IsWhole)
  (a6 : Memref sig .tc .vmem S1024x1408 .f32) (h6 : a6.IsWhole)
  (x0 : Vec Ideal S2048x1024 .bf16) (x1 : Vec Ideal S2048x1408 .bf16) (xs : Vec Ideal S1024x1408 .f32)

/-- The first step leaves its product in the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  unfold k0_pay2
  simp only [View.readAt_eq_ld, h3.read_unread, h4.read_unread, View.ld_unit_zero (S := S2048x1024) zero2, View.ld_unit_zero (S := S2048x1408) zero2, shapeCast_self]

/-- The last step writes out the accumulator with its own product added. -/
theorem out_last (hc0 : ¬cond0_0 i) (hc1 : cond0_1 i) (hc2 : cond0_2 i) :
    out0_B_2 c i a3 h3 a4 h4 a5 h5 a6 h6 hc0 hc1 hc2 x0 x1 xs = k0_pay4 (addf xs (k0_pay1 x0 x1)) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero zero3]
  simp only [View.readCov_unit_zero (S := S1024x1408) _ zero2]
  unfold k0_pay3
  simp only [View.readAt_eq_ld, h3.read_unread, h4.read_unread, h6.read_unread, View.ld_unit_zero (S := S2048x1024) zero2, View.ld_unit_zero (S := S2048x1408) zero2,
    View.ld_unit_zero (S := S1024x1408) zero2, shapeCast_self]
end

/-! ## The blocks of the arguments -/

variable (m : (ℓ : Loc nD τ sig) → Buf (Elt Ideal) ℓ)

abbrev arg0 (c : Dev nD) : FVec Ideal S4096x1024 .bf16 := m ((c : Thread nD τ).loc main_arg0)
abbrev arg1 (c : Dev nD) : FVec Ideal S4096x5632 .bf16 := m ((c : Thread nD τ).loc main_arg1)

theorem at_0 : ∀ t : Fin cfg0.N, win0_0.index t = ![t.val % 2, 0] := (by decide +kernel : ∀ t : Fin grid0.N, _)
theorem at_1 : ∀ t : Fin cfg0.N, win0_1.index t = ![t.val % 2, t.val / 2] := (by decide +kernel : ∀ t : Fin grid0.N, _)
theorem at_2 : ∀ t : Fin cfg0.N, win0_2.index t = ![t.val / 2, 0, 0] := (by decide +kernel : ∀ t : Fin grid0.N, _)
theorem odd_of_flush : ∀ t : Fin cfg0.N, win0_2.flush t = true → t.val % 2 = 1 := (by decide +kernel : ∀ t : Fin grid0.N, _)

theorem blk_0 (c : Dev nD) (t : Fin cfg0.N) (k : Fin 2048) (r : Fin 1024) :
    iblk m c 0 t (ix2 k r) = arg0 m c (ix2 (⟨2048 * (t.val % 2) + k.val, by omega⟩ : Fin 4096) r) := by
  unfold iblk
  rw [View.read_apply]
  show arg0 m c _ = arg0 m c _
  congr 1
  funext a
  apply Fin.ext
  have e := at_0 t
  match a with
  | ⟨0, _⟩ => show win0_0.index t 0 * 2048 + 1 * k.val = 2048 * (t.val % 2) + k.val; rw [e]; show t.val % 2 * 2048 + 1 * k.val = _; omega
  | ⟨1, _⟩ => show win0_0.index t 1 * 1024 + 1 * r.val = r.val; rw [e]; show 0 * 1024 + 1 * r.val = _; omega

theorem blk_1 (c : Dev nD) (t : Fin cfg0.N) (k : Fin 2048) (l : Fin 1408) :
    iblk m c 1 t (ix2 k l) = arg1 m c (ix2 (⟨2048 * (t.val % 2) + k.val, by omega⟩ : Fin 4096) (⟨1408 * (t.val / 2) + l.val, by have h := lt_of_lt_of_eq (t).isLt N_0; omega⟩ : Fin 5632)) := by
  unfold iblk
  rw [View.read_apply]
  show arg1 m c _ = arg1 m c _
  congr 1
  funext a
  apply Fin.ext
  have e := at_1 t
  match a with
  | ⟨0, _⟩ => show win0_1.index t 0 * 2048 + 1 * k.val = 2048 * (t.val % 2) + k.val; rw [e]; show t.val % 2 * 2048 + 1 * k.val = _; omega
  | ⟨1, _⟩ => show win0_1.index t 1 * 1408 + 1 * l.val = 1408 * (t.val / 2) + l.val; rw [e]; show t.val / 2 * 1408 + 1 * l.val = _; omega

theorem read_2 (X : FVec Ideal S4x1024x1408 .f32) (t : Fin cfg0.N) (r : Fin 1024) (l : Fin 1408) :
    ((cfg0.win 2).blk t).view.read (Elt Ideal) X (ix3 0 r l) = X (ix3 (⟨t.val / 2, by have h := lt_of_lt_of_eq t.isLt N_0; omega⟩ : Fin 4) r l) := by
  rw [View.read_apply]
  show X _ = X _
  congr 1
  funext a
  apply Fin.ext
  have e := at_2 t
  match a with
  | ⟨0, _⟩ => show win0_2.index t 0 * 1 + 1 * 0 = t.val / 2; rw [e]; show t.val / 2 * 1 + 1 * 0 = _; omega
  | ⟨1, _⟩ => show win0_2.index t 1 * 1024 + 1 * r.val = r.val; rw [e]; show 0 * 1024 + 1 * r.val = _; omega
  | ⟨2, _⟩ => show win0_2.index t 2 * 1408 + 1 * l.val = l.val; rw [e]; show 0 * 1408 + 1 * l.val = _; omega

/-! ## The kernel's array is the reference's value -/

/-- The reference's value at the index that a block's place stands for: the sum over the 4096 rows. -/
theorem ref_at (x0 : FVec Ideal S4096x1024 .bf16) (x1 : FVec Ideal S4096x5632 .bf16) (t : Fin cfg0.N) (r : Fin 1024) (l : Fin 1408) :
    Cert.Reference2Ideal.Read.val_main_v7 (F := Ideal) x0 x1 (ix3 (⟨t.val / 2, by have h := lt_of_lt_of_eq t.isLt N_0; omega⟩ : Fin 4) r l)
      = ∑ k : Fin 4096, x0 (ix2 k r) * x1 (ix2 k (⟨1408 * (t.val / 2) + l.val, by have h := lt_of_lt_of_eq (t).isLt N_0; omega⟩ : Fin 5632)) := by
  refine (Cert.Reference2Ideal.Read.val_main_v7_apply (F := Ideal) x0 x1 _).trans ((Cert.Reference2Ideal.Read.val_main_v6_apply (F := Ideal) x0 x1 _).trans
    ((Cert.Reference2Ideal.Read.val_main_v5_apply (F := Ideal) x0 x1 _).trans ((Cert.Reference2Ideal.Read.val_main_v4_apply x0 x1 _).trans ?_)))
  refine Finset.sum_congr rfl fun k _ => ?_
  refine (mul_comm _ _).trans ?_
  have ht := lt_of_lt_of_eq t.isLt N_0
  refine congrArg₂ (· * ·) (congrArg x0 (funext fun a => Fin.ext ?_)) (congrArg x1 (funext fun a => Fin.ext ?_))
  · match a with
    | ⟨0, _⟩ => rfl
    | ⟨1, _⟩ => show ((r.val * 4 + t.val / 2) * 1408 + l.val) / 5632 = r.val; omega
  · match a with
    | ⟨0, _⟩ => rfl
    | ⟨1, _⟩ => show ((r.val * 4 + t.val / 2) * 1408 + l.val) % 5632 = 1408 * (t.val / 2) + l.val; omega

/-- What a block's first step leaves in the accumulator. -/
theorem acc_at (c : Dev nD) (t : Fin cfg0.N) (h : t.val % 2 = 0) :
    (outsAt0 m c t.val t.isLt).2 = k0_pay1 (iblk m c 0 t) (iblk m c 1 t) := by
  rw [outsAt0_A m c t h (by omega) (by omega)]
  dsimp only
  exact acc_first c (grid0.coords t) (ms0_0 t) (hs0_0 t) (ms0_1 t) (hs0_1 t) (ms0_2 t) (hs0_2 t) scM0_0 (Memref.isWhole_whole _) (iblk m c 0 t) (iblk m c 1 t)
    ((hcond0_0 t).mpr h) (fun e => by have := (hcond0_1 t).mp e; omega) (fun e => by have := (hcond0_2 t).mp e; omega)

/-- What a block's last step writes back. -/
theorem block_at (c : Dev nD) (t : Fin cfg0.N) (h : t.val % 2 = 1) (r : Fin 1024) (l : Fin 1408) :
    (outsAt0 m c t.val t.isLt).1 (ix3 0 r l)
      = ∑ k : Fin 4096, arg0 m c (ix2 k r) * arg1 m c (ix2 k (⟨1408 * (t.val / 2) + l.val, by have h := lt_of_lt_of_eq (t).isLt N_0; omega⟩ : Fin 5632)) := by
  have hp : t.val - 1 < cfg0.N := Nat.lt_of_le_of_lt (Nat.sub_le _ _) t.isLt
  have hs := acc_at m c ⟨t.val - 1, hp⟩ (by show (t.val - 1) % 2 = 0; omega)
  rw [outsAt0_B m c t (by omega) h h]
  dsimp only
  rw [out_last, hs]
  have e4 : ∀ z : FVec Ideal S1024x1408 .f32, k0_pay4 z (ix3 0 r l) = z (ix2 r l) := fun z => by pointwise [k0_pay4]
  refine (e4 _).trans ?_
  rw [halves (fun k => arg0 m c (ix2 k r) * arg1 m c (ix2 k (⟨1408 * (t.val / 2) + l.val, by have h := lt_of_lt_of_eq (t).isLt N_0; omega⟩ : Fin 5632)))]
  refine congrArg₂ (· + ·) ((part_at _ _ r l).trans (Finset.sum_congr rfl fun k _ => ?_)) ((part_at _ _ r l).trans (Finset.sum_congr rfl fun k _ => ?_))
  · rw [blk_0, blk_1]
    exact congrArg₂ (· * ·) (congrArg (arg0 m c) (ix2_congr (by show 2048 * ((t.val - 1) % 2) + k.val = k.val; omega) (rfl)))
      (congrArg (arg1 m c) (ix2_congr (by show 2048 * ((t.val - 1) % 2) + k.val = k.val; omega) (by show 1408 * ((t.val - 1) / 2) + l.val = 1408 * (t.val / 2) + l.val; omega)))
  · rw [blk_0, blk_1]
    exact congrArg₂ (· * ·) (congrArg (arg0 m c) (ix2_congr (by show 2048 * (t.val % 2) + k.val = 2048 + k.val; omega) rfl))
      (congrArg (arg1 m c) (ix2_congr (by show 2048 * (t.val % 2) + k.val = 2048 + k.val; omega) rfl))

theorem out_2 (c : Dev nD) : (dats m 0 c).arrAt 2 cfg0.N = Cert.Reference2Ideal.Read.val_main_v7 (F := Ideal) (arg0 m c) (arg1 m c) := by
  have key : ∀ (t : Fin cfg0.N), t.val % 2 = 1 → ∀ (y : S1x1024x1408.Idx), (outsAt0 m c t.val t.isLt).1 y
      = ((cfg0.win 2).blk t).view.read (Elt Ideal) (Cert.Reference2Ideal.Read.val_main_v7 (F := Ideal) (arg0 m c) (arg1 m c)) y := fun t h y => by
    obtain ⟨r, l, rfl⟩ : ∃ (r : Fin 1024) (l : Fin 1408), y = ix3 0 r l := ⟨y 1, y 2, eta_unit3 y⟩
    refine (block_at m c t h r l).trans (Eq.trans ?_ (read_2 _ t r l).symm)
    exact (ref_at _ _ t r l).symm
  refine (dats m 0 c).arrAt_eq_of_cover 2 _ (fun t hf => ?_) ((by decide +kernel : (cfg0.win 2).Covers).cover _ (Memref.isWhole_whole _))
  rw [Value.flushed2]
  exact funext fun y => key t (odd_of_flush t hf) y

/-! ## The claims -/

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h =>
    ⟨fun c => (h c).2, sem_eq_zero_of_no_sems (by decide) _⟩) (Cert.Reference2Ideal.Value.run m ρ)

/-- The kernel's result and the reference's are equal, on any arguments. -/
theorem algebraic : Cert.algebraic_Kernel2Ideal_Reference2Ideal := fun m g m' g' _ he => by
  refine ⟨fun c => Cert.Reference2Ideal.Read.val_main_v7 (F := Ideal) (arg0 m c) (arg1 m c), ?_, ?_⟩
  · refine (θ_run _ _ _).mono (fun r h c => ?_) (Cert.Kernel2Ideal.Value.run_blocks m g)
    exact ⟨(h c).1.trans (out_2 m c), (h c).2⟩
  · refine (θ_run _ _ _).mono (fun r h c => ?_) (Cert.Reference2Ideal.Value.run m' g')
    refine ⟨(h c).1.trans ?_, (h c).2⟩
    obtain ⟨h0, h1⟩ := he c
    rw [Cert.Reference2Ideal.Read.val_main_v7_eq, h0, h1]

end Ffn.DwIn

end
-- ==== Proof.DwOut.lean ====
/-
The gradient of the feed-forward network's second weights: in each block of 1408 rows two steps of 2048 rows of the arguments,
added up in an accumulator; the sum over all 4096 rows in the reference.
-/
module

public import proofs.«01_k».proof.Proof.Halves
public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit

@[expose] public section

noncomputable section

set_option maxRecDepth 65536

namespace Ffn.DwOut

open Idealize.ShloMosaic Idealize.ShloMosaic.TcCoe Idealize.SL.Sem Cert.Kernel3Ideal Cert.Kernel3Ideal.Gen
open scoped Pointwise

/-! ## What the two steps of a block leave -/

/-- One step's product at an index: the sum over its 2048 rows. -/
theorem part_at (x0 : Vec Ideal S2048x1408 .bf16) (x1 : Vec Ideal S2048x1024 .bf16) (r : Fin 1408) (l : Fin 1024) :
    k0_pay1 x0 x1 (ix2 r l) = ∑ k : Fin 2048, x0 (ix2 k r) * x1 (ix2 k l) := by
  pointwise [k0_pay1]

theorem zero2 : (![0, 0] : Fin 2 → Nat) = fun _ => 0 := funext fun a => by fin_cases a <;> rfl
theorem zero3 : (![0, 0, 0] : Fin 3 → Nat) = fun _ => 0 := funext fun a => by fin_cases a <;> rfl

section
variable (c : Dev nD) (i : grid0.Coords) (a3 : Memref sig .tc .vmem S2048x1408 .bf16) (h3 : a3.IsWhole)
  (a4 : Memref sig .tc .vmem S2048x1024 .bf16) (h4 : a4.IsWhole) (a5 : Memref sig .tc .vmem S1408x1024 .f32) (h5 : a5.IsWhole)
  (a6 : Memref sig .tc .vmem S1408x1024 .f32) (h6 : a6.IsWhole)
  (x0 : Vec Ideal S2048x1408 .bf16) (x1 : Vec Ideal S2048x1024 .bf16) (xs : Vec Ideal S1408x1024 .f32)

/-- The first step leaves its product in the accumulator. -/
theorem acc_first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  unfold k0_pay2
  simp only [View.readAt_eq_ld, h3.read_unread, h4.read_unread, View.ld_unit_zero (S := S2048x1408) zero2, View.ld_unit_zero (S := S2048x1024) zero2, shapeCast_self]

/-- The last step writes out the accumulator with its own product added. -/
theorem out_last (hc0 : ¬cond0_0 i) (hc1 : cond0_1 i) (hc2 : cond0_2 i) :
    out0_B_2 c i a3 h3 a4 h4 a5 h5 a6 h6 hc0 hc1 hc2 x0 x1 xs =  (addf xs (k0_pay1 x0 x1)) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero zero2]
  simp only [View.readCov_unit_zero (S := S1408x1024) _ zero2]
  unfold k0_pay3
  simp only [View.readAt_eq_ld, h3.read_unread, h4.read_unread, h6.read_unread, View.ld_unit_zero (S := S2048x1408) zero2, View.ld_unit_zero (S := S2048x1024) zero2,
    View.ld_unit_zero (S := S1408x1024) zero2, shapeCast_self]
end

/-! ## The blocks of the arguments -/

variable (m : (ℓ : Loc nD τ sig) → Buf (Elt Ideal) ℓ)

abbrev arg0 (c : Dev nD) : FVec Ideal S4096x2816 .bf16 := m ((c : Thread nD τ).loc main_arg0)
abbrev arg1 (c : Dev nD) : FVec Ideal S4096x1024 .bf16 := m ((c : Thread nD τ).loc main_arg1)

theorem at_0 : ∀ t : Fin cfg0.N, win0_0.index t = ![t.val % 2, t.val / 2] := (by decide +kernel : ∀ t : Fin grid0.N, _)
theorem at_1 : ∀ t : Fin cfg0.N, win0_1.index t = ![t.val % 2, 0] := (by decide +kernel : ∀ t : Fin grid0.N, _)
theorem at_2 : ∀ t : Fin cfg0.N, win0_2.index t = ![t.val / 2, 0] := (by decide +kernel : ∀ t : Fin grid0.N, _)
theorem odd_of_flush : ∀ t : Fin cfg0.N, win0_2.flush t = true → t.val % 2 = 1 := (by decide +kernel : ∀ t : Fin grid0.N, _)

theorem blk_0 (c : Dev nD) (t : Fin cfg0.N) (k : Fin 2048) (r : Fin 1408) :
    iblk m c 0 t (ix2 k r) = arg0 m c (ix2 (⟨2048 * (t.val % 2) + k.val, by omega⟩ : Fin 4096) (⟨1408 * (t.val / 2) + r.val, by have h := lt_of_lt_of_eq (t).isLt N_0; omega⟩ : Fin 2816)) := by
  unfold iblk
  rw [View.read_apply]
  show arg0 m c _ = arg0 m c _
  congr 1
  funext a
  apply Fin.ext
  have e := at_0 t
  match a with
  | ⟨0, _⟩ => show win0_0.index t 0 * 2048 + 1 * k.val = 2048 * (t.val % 2) + k.val; rw [e]; show t.val % 2 * 2048 + 1 * k.val = _; omega
  | ⟨1, _⟩ => show win0_0.index t 1 * 1408 + 1 * r.val = 1408 * (t.val / 2) + r.val; rw [e]; show t.val / 2 * 1408 + 1 * r.val = _; omega

theorem blk_1 (c : Dev nD) (t : Fin cfg0.N) (k : Fin 2048) (l : Fin 1024) :
    iblk m c 1 t (ix2 k l) = arg1 m c (ix2 (⟨2048 * (t.val % 2) + k.val, by omega⟩ : Fin 4096) l) := by
  unfold iblk
  rw [View.read_apply]
  show arg1 m c _ = arg1 m c _
  congr 1
  funext a
  apply Fin.ext
  have e := at_1 t
  match a with
  | ⟨0, _⟩ => show win0_1.index t 0 * 2048 + 1 * k.val = 2048 * (t.val % 2) + k.val; rw [e]; show t.val % 2 * 2048 + 1 * k.val = _; omega
  | ⟨1, _⟩ => show win0_1.index t 1 * 1024 + 1 * l.val = l.val; rw [e]; show 0 * 1024 + 1 * l.val = _; omega

theorem read_2 (X : FVec Ideal S2816x1024 .f32) (t : Fin cfg0.N) (r : Fin 1408) (l : Fin 1024) :
    ((cfg0.win 2).blk t).view.read (Elt Ideal) X (ix2 r l) = X (ix2 (⟨1408 * (t.val / 2) + r.val, by have h := lt_of_lt_of_eq t.isLt N_0; omega⟩ : Fin 2816) l) := by
  rw [View.read_apply]
  show X _ = X _
  congr 1
  funext a
  apply Fin.ext
  have e := at_2 t
  match a with
  | ⟨0, _⟩ => show win0_2.index t 0 * 1408 + 1 * r.val = 1408 * (t.val / 2) + r.val; rw [e]; show t.val / 2 * 1408 + 1 * r.val = _; omega
  | ⟨1, _⟩ => show win0_2.index t 1 * 1024 + 1 * l.val = l.val; rw [e]; show 0 * 1024 + 1 * l.val = _; omega

/-! ## The kernel's array is the reference's value -/

/-- The reference's value at the index that a block's place stands for: the sum over the 4096 rows. -/
theorem ref_at (x0 : FVec Ideal S4096x2816 .bf16) (x1 : FVec Ideal S4096x1024 .bf16) (t : Fin cfg0.N) (r : Fin 1408) (l : Fin 1024) :
    Cert.Reference3Ideal.Read.val_main_v5 (F := Ideal) x0 x1 (ix2 (⟨1408 * (t.val / 2) + r.val, by have h := lt_of_lt_of_eq t.isLt N_0; omega⟩ : Fin 2816) l)
      = ∑ k : Fin 4096, x0 (ix2 k (⟨1408 * (t.val / 2) + r.val, by have h := lt_of_lt_of_eq (t).isLt N_0; omega⟩ : Fin 2816)) * x1 (ix2 k l) := by
  refine (Cert.Reference3Ideal.Read.val_main_v5_apply (F := Ideal) x0 x1 _).trans ((Cert.Reference3Ideal.Read.val_main_v4_apply x0 x1 _).trans ?_)
  refine Finset.sum_congr rfl fun k _ => ?_
  refine (mul_comm _ _).trans ?_
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

/-- What a block's first step leaves in the accumulator. -/
theorem acc_at (c : Dev nD) (t : Fin cfg0.N) (h : t.val % 2 = 0) :
    (outsAt0 m c t.val t.isLt).2 = k0_pay1 (iblk m c 0 t) (iblk m c 1 t) := by
  rw [outsAt0_A m c t h (by omega) (by omega)]
  dsimp only
  exact acc_first c (grid0.coords t) (ms0_0 t) (hs0_0 t) (ms0_1 t) (hs0_1 t) (ms0_2 t) (hs0_2 t) scM0_0 (Memref.isWhole_whole _) (iblk m c 0 t) (iblk m c 1 t)
    ((hcond0_0 t).mpr h) (fun e => by have := (hcond0_1 t).mp e; omega) (fun e => by have := (hcond0_2 t).mp e; omega)

/-- What a block's last step writes back. -/
theorem block_at (c : Dev nD) (t : Fin cfg0.N) (h : t.val % 2 = 1) (r : Fin 1408) (l : Fin 1024) :
    (outsAt0 m c t.val t.isLt).1 (ix2 r l)
      = ∑ k : Fin 4096, arg0 m c (ix2 k (⟨1408 * (t.val / 2) + r.val, by have h := lt_of_lt_of_eq (t).isLt N_0; omega⟩ : Fin 2816)) * arg1 m c (ix2 k l) := by
  have hp : t.val - 1 < cfg0.N := Nat.lt_of_le_of_lt (Nat.sub_le _ _) t.isLt
  have hs := acc_at m c ⟨t.val - 1, hp⟩ (by show (t.val - 1) % 2 = 0; omega)
  rw [outsAt0_B m c t (by omega) h h]
  dsimp only
  rw [out_last, hs]
  rw [halves (fun k => arg0 m c (ix2 k (⟨1408 * (t.val / 2) + r.val, by have h := lt_of_lt_of_eq (t).isLt N_0; omega⟩ : Fin 2816)) * arg1 m c (ix2 k l))]
  refine congrArg₂ (· + ·) ((part_at _ _ r l).trans (Finset.sum_congr rfl fun k _ => ?_)) ((part_at _ _ r l).trans (Finset.sum_congr rfl fun k _ => ?_))
  · rw [blk_0, blk_1]
    exact congrArg₂ (· * ·) (congrArg (arg0 m c) (ix2_congr (by show 2048 * ((t.val - 1) % 2) + k.val = k.val; omega) (by show 1408 * ((t.val - 1) / 2) + r.val = 1408 * (t.val / 2) + r.val; omega)))
      (congrArg (arg1 m c) (ix2_congr (by show 2048 * ((t.val - 1) % 2) + k.val = k.val; omega) (rfl)))
  · rw [blk_0, blk_1]
    exact congrArg₂ (· * ·) (congrArg (arg0 m c) (ix2_congr (by show 2048 * (t.val % 2) + k.val = 2048 + k.val; omega) rfl))
      (congrArg (arg1 m c) (ix2_congr (by show 2048 * (t.val % 2) + k.val = 2048 + k.val; omega) rfl))

theorem out_2 (c : Dev nD) : (dats m 0 c).arrAt 2 cfg0.N = Cert.Reference3Ideal.Read.val_main_v5 (F := Ideal) (arg0 m c) (arg1 m c) := by
  have key : ∀ (t : Fin cfg0.N), t.val % 2 = 1 → ∀ (y : S1408x1024.Idx), (outsAt0 m c t.val t.isLt).1 y
      = ((cfg0.win 2).blk t).view.read (Elt Ideal) (Cert.Reference3Ideal.Read.val_main_v5 (F := Ideal) (arg0 m c) (arg1 m c)) y := fun t h y => by
    obtain ⟨r, l, rfl⟩ : ∃ (r : Fin 1408) (l : Fin 1024), y = ix2 r l := ⟨y 0, y 1, eta_two y⟩
    refine (block_at m c t h r l).trans (Eq.trans ?_ (read_2 _ t r l).symm)
    exact (ref_at _ _ t r l).symm
  refine (dats m 0 c).arrAt_eq_of_cover 2 _ (fun t hf => ?_) ((by decide +kernel : (cfg0.win 2).Covers).cover _ (Memref.isWhole_whole _))
  rw [Value.flushed2]
  exact funext fun y => key t (odd_of_flush t hf) y

/-! ## The claims -/

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h =>
    ⟨fun c => (h c).2, sem_eq_zero_of_no_sems (by decide) _⟩) (Cert.Reference3Ideal.Value.run m ρ)

/-- The kernel's result and the reference's are equal, on any arguments. -/
theorem algebraic : Cert.algebraic_Kernel3Ideal_Reference3Ideal := fun m g m' g' _ he => by
  refine ⟨fun c => Cert.Reference3Ideal.Read.val_main_v5 (F := Ideal) (arg0 m c) (arg1 m c), ?_, ?_⟩
  · refine (θ_run _ _ _).mono (fun r h c => ?_) (Cert.Kernel3Ideal.Value.run_blocks m g)
    exact ⟨(h c).1.trans (out_2 m c), (h c).2⟩
  · refine (θ_run _ _ _).mono (fun r h c => ?_) (Cert.Reference3Ideal.Value.run m' g')
    refine ⟨(h c).1.trans ?_, (h c).2⟩
    obtain ⟨h0, h1⟩ := he c
    rw [Cert.Reference3Ideal.Read.val_main_v5_eq, h0, h1]

end Ffn.DwOut

end
-- ==== Proof.Dffn.lean ====
/-
The gradient through the second matrix and the activation of the feed-forward network: each block of rows leaves the gate's half
and the up branch's half side by side.
-/
module

public import proofs.«01_k».proof.Proof.Halves
public import proofs.«01_k».proof.Proof.Fin
public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.StableHlo.RunRead

@[expose] public section

noncomputable section

set_option maxRecDepth 65536

namespace Ffn.Act

open Idealize.ShloMosaic Idealize.ShloMosaic.TcCoe Idealize.SL.Sem Idealize.ShloMosaic.StableHlo Cert.Kernel4Ideal Cert.Kernel4Ideal.Gen
open scoped Pointwise

/-! ## What one point of the grid leaves -/

/-- The gradient of the activation at an index: the sum over the 1024 features. -/
theorem da_at (x0 : Vec Ideal S256x1024 .bf16) (x1 : Vec Ideal S1024x2816 .bf16) (r : Fin 256) (l : Fin 2816) :
    k0_pay1 x0 x1 (ix2 r l) = ∑ k : Fin 1024, x0 (ix2 r k) * x1 (ix2 k l) := by
  pointwise [k0_pay1]

theorem sig_at (x2 : Vec Ideal S256x2816 .bf16) (y : S256x2816.Idx) : k0_pay3 x2 y = Ideal.logistic (x2 y) :=
  body_sigmoid (x2 y)

/-- The gate's half, over the gate's sigmoid. -/
theorem left_at (x0 : Vec Ideal S256x1024 .bf16) (x1 : Vec Ideal S1024x2816 .bf16) (x2 x3 : Vec Ideal S256x2816 .bf16) (y : S256x2816.Idx) :
    k0_pay5 x0 x1 x2 x3 y = k0_pay1 x0 x1 y * x3 y
      * (Ideal.logistic (x2 y) + x2 y * Ideal.logistic (x2 y) * (1 - Ideal.logistic (x2 y))) := by
  have h : k0_pay5 x0 x1 x2 x3 y = k0_pay1 x0 x1 y * x3 y
      * (k0_pay3 x2 y + x2 y * k0_pay3 x2 y * (Ideal.ofBits .f32 0x3F800000#32 - k0_pay3 x2 y)) := rfl
  rw [h, sig_at, one_f32]

/-- The up branch's half. -/
theorem right_at (x0 : Vec Ideal S256x1024 .bf16) (x1 : Vec Ideal S1024x2816 .bf16) (x2 : Vec Ideal S256x2816 .bf16) (y : S256x2816.Idx) :
    k0_pay6 x0 x1 x2 y = k0_pay1 x0 x1 y * (x2 y * Ideal.logistic (x2 y)) := by
  have h : k0_pay6 x0 x1 x2 y = k0_pay1 x0 x1 y * (x2 y * k0_pay3 x2 y) := rfl
  rw [h, sig_at]

theorem zero2 : (![0, 0] : Fin 2 → Nat) = fun _ => 0 := funext fun a => by fin_cases a <;> rfl

/-- A column of the left half lies outside the right half's rectangle. -/
theorem not_right (r : Fin 256) (l : Fin 2816) : (ix2 r (⟨l.val, by omega⟩ : Fin 5632) : S256x5632.Idx) ∉ r0_4.set := by
  intro h
  have h1 := (Rect.mem_set_unit (s := S256x5632) (off := ![0, 2816]) (size := S256x2816.size) (inb := inb_S256x5632_S256x2816_0_2816)).mp h
  have h2 : 2816 ≤ l.val := (h1 (1 : Fin 2)).1
  exact absurd l.isLt (Nat.not_lt.2 h2)

theorem emb_left (r : Fin 256) (l : Fin 2816) : (ix2 r (⟨l.val, by omega⟩ : Fin 5632) : S256x5632.Idx) = r0_3.emb (ix2 r l) := funext fun a => Fin.ext (by
    match a with
    | ⟨0, _⟩ => show r.val = 0 + 1 * r.val; omega
    | ⟨1, _⟩ => show l.val = 0 + 1 * l.val; omega)

theorem canon_left (p q : FVec Ideal S256x2816 .bf16) (r : Fin 256) (l : Fin 2816) :
    View.canon (Val := Elt Ideal) (s := S256x5632) (e := .bf16) [⟨r0_4, q⟩, ⟨r0_3, p⟩] (ix2 r (⟨l.val, by omega⟩ : Fin 5632)) = p (ix2 r l) := by
  have h1 : View.canon (Val := Elt Ideal) (s := S256x5632) (e := .bf16) [⟨r0_4, q⟩, ⟨r0_3, p⟩] (ix2 r (⟨l.val, by omega⟩ : Fin 5632))
      = View.canon (Val := Elt Ideal) (s := S256x5632) (e := .bf16) [⟨r0_3, p⟩] (ix2 r (⟨l.val, by omega⟩ : Fin 5632)) :=
    View.canon_cons_of_not_mem _ _ (not_right r l)
  have h2 : View.canon (Val := Elt Ideal) (s := S256x5632) (e := .bf16) [⟨r0_3, p⟩] (ix2 r (⟨l.val, by omega⟩ : Fin 5632))
      = View.canon (Val := Elt Ideal) (s := S256x5632) (e := .bf16) [⟨r0_3, p⟩] (r0_3.emb (ix2 r l)) := congrArg _ (emb_left r l)
  have h3 : View.canon (Val := Elt Ideal) (s := S256x5632) (e := .bf16) [⟨r0_3, p⟩] (r0_3.emb (ix2 r l)) = p (ix2 r l) :=
    View.canon_cons_emb (Val := Elt Ideal) (s := S256x5632) (e := .bf16) r0_3 _ _ (ix2 r l)
  exact h1.trans (h2.trans h3)

theorem out_left (x0 : Vec Ideal S256x1024 .bf16) (x1 : Vec Ideal S1024x2816 .bf16) (x2 x3 : Vec Ideal S256x2816 .bf16) (r : Fin 256) (l : Fin 2816) :
    out0_4 x0 x1 x2 x3 (ix2 r (⟨l.val, by omega⟩ : Fin 5632)) = k0_pay5 x0 x1 x2 x3 (ix2 r l) := by
  unfold out0_4
  simp only [View.ld_unit_zero (S := S256x1024) zero2, View.ld_unit_zero (S := S1024x2816) zero2, View.ld_unit_zero (S := S256x2816) zero2]
  exact canon_left _ _ r l

theorem out_right (x0 : Vec Ideal S256x1024 .bf16) (x1 : Vec Ideal S1024x2816 .bf16) (x2 x3 : Vec Ideal S256x2816 .bf16) (r : Fin 256) (l : Fin 2816) :
    out0_4 x0 x1 x2 x3 (ix2 r (⟨2816 + l.val, by omega⟩ : Fin 5632)) = k0_pay6 x0 x1 x2 (ix2 r l) := by
  unfold out0_4
  have he : (ix2 r (⟨2816 + l.val, by omega⟩ : Fin 5632) : S256x5632.Idx) = r0_4.emb (ix2 r l) := funext fun a => Fin.ext (by
    match a with
    | ⟨0, _⟩ => show r.val = 0 + 1 * r.val; omega
    | ⟨1, _⟩ => show 2816 + l.val = 2816 + 1 * l.val; omega)
  rw [he]
  refine (View.canon_cons_emb r0_4 _ _ (ix2 r l)).trans ?_
  simp only [View.ld_unit_zero (S := S256x1024) zero2, View.ld_unit_zero (S := S1024x2816) zero2, View.ld_unit_zero (S := S256x2816) zero2]

/-! ## The blocks -/

variable (m : (ℓ : Loc nD τ sig) → Buf (Elt Ideal) ℓ)

abbrev arg0 (c : Dev nD) : FVec Ideal S4096x1024 .bf16 := m ((c : Thread nD τ).loc main_arg0)
abbrev arg1 (c : Dev nD) : FVec Ideal S2816x1024 .bf16 := m ((c : Thread nD τ).loc main_arg1)
abbrev arg2 (c : Dev nD) : FVec Ideal S4096x2816 .bf16 := m ((c : Thread nD τ).loc main_arg2)
abbrev arg3 (c : Dev nD) : FVec Ideal S4096x2816 .bf16 := m ((c : Thread nD τ).loc main_arg3)

/-- Row `r` of block `t`. -/
abbrev row (t : Fin cfg0.N) (r : Fin 256) : Fin 4096 :=
  ⟨256 * t.val + r.val, by have h := lt_of_lt_of_eq t.isLt N_0; omega⟩

theorem V_w (c : Dev nD) : (V m c main_v0 : FVec Ideal S1024x2816 .bf16)
    = transpose S1024x2816 [1, 0] (arg1 m c) transposes_S2816x1024_S1024x2816_1_0 := by
  show after hostOps0 _ (Proc.devRef .tc main_v0) = _
  after_reads_simp

theorem at_0 : ∀ t : Fin cfg0.N, win0_0.index t = ![t.val, 0] := (by decide +kernel : ∀ t : Fin grid0.N, _)
theorem at_1 : ∀ t : Fin cfg0.N, win0_1.index t = ![0, 0] := (by decide +kernel : ∀ t : Fin grid0.N, _)
theorem at_2 : ∀ t : Fin cfg0.N, win0_2.index t = ![t.val, 0] := (by decide +kernel : ∀ t : Fin grid0.N, _)
theorem at_3 : ∀ t : Fin cfg0.N, win0_3.index t = ![t.val, 0] := (by decide +kernel : ∀ t : Fin grid0.N, _)
theorem at_4 : ∀ t : Fin cfg0.N, win0_4.index t = ![t.val, 0] := (by decide +kernel : ∀ t : Fin grid0.N, _)

theorem blk_0 (c : Dev nD) (t : Fin cfg0.N) (r : Fin 256) (k : Fin 1024) :
    iblk m c 0 t (ix2 r k) = arg0 m c (ix2 (row t r) k) := by
  unfold iblk
  rw [View.read_apply]
  show V m c main_arg0 _ = arg0 m c _
  rw [V_main_arg0]
  congr 1
  funext a
  apply Fin.ext
  have e := at_0 t
  match a with
  | ⟨0, _⟩ => show win0_0.index t 0 * 256 + 1 * r.val = 256 * t.val + r.val; rw [e]; show t.val * 256 + 1 * r.val = _; omega
  | ⟨1, _⟩ => show win0_0.index t 1 * 1024 + 1 * k.val = k.val; rw [e]; show 0 * 1024 + 1 * k.val = _; omega

theorem blk_1 (c : Dev nD) (t : Fin cfg0.N) (k : Fin 1024) (l : Fin 2816) :
    iblk m c 1 t (ix2 k l) = arg1 m c (ix2 l k) := by
  unfold iblk
  rw [View.read_apply]
  show (V m c main_v0 : FVec Ideal S1024x2816 .bf16) _ = arg1 m c _
  rw [V_w]
  refine transpose_apply _ _ _ _ _ fun b => ?_
  have e := at_1 t
  match b with
  | ⟨0, _⟩ => show k.val = win0_1.index t 0 * 1024 + 1 * k.val; rw [e]; show _ = 0 * 1024 + 1 * k.val; omega
  | ⟨1, _⟩ => show l.val = win0_1.index t 1 * 2816 + 1 * l.val; rw [e]; show _ = 0 * 2816 + 1 * l.val; omega

theorem blk_2 (c : Dev nD) (t : Fin cfg0.N) (r : Fin 256) (l : Fin 2816) :
    iblk m c 2 t (ix2 r l) = arg2 m c (ix2 (row t r) l) := by
  unfold iblk
  rw [View.read_apply]
  show V m c main_arg2 _ = arg2 m c _
  rw [V_main_arg2]
  congr 1
  funext a
  apply Fin.ext
  have e := at_2 t
  match a with
  | ⟨0, _⟩ => show win0_2.index t 0 * 256 + 1 * r.val = 256 * t.val + r.val; rw [e]; show t.val * 256 + 1 * r.val = _; omega
  | ⟨1, _⟩ => show win0_2.index t 1 * 2816 + 1 * l.val = l.val; rw [e]; show 0 * 2816 + 1 * l.val = _; omega

theorem blk_3 (c : Dev nD) (t : Fin cfg0.N) (r : Fin 256) (l : Fin 2816) :
    iblk m c 3 t (ix2 r l) = arg3 m c (ix2 (row t r) l) := by
  unfold iblk
  rw [View.read_apply]
  show V m c main_arg3 _ = arg3 m c _
  rw [V_main_arg3]
  congr 1
  funext a
  apply Fin.ext
  have e := at_3 t
  match a with
  | ⟨0, _⟩ => show win0_3.index t 0 * 256 + 1 * r.val = 256 * t.val + r.val; rw [e]; show t.val * 256 + 1 * r.val = _; omega
  | ⟨1, _⟩ => show win0_3.index t 1 * 2816 + 1 * l.val = l.val; rw [e]; show 0 * 2816 + 1 * l.val = _; omega

theorem read_4 (X : FVec Ideal S4096x5632 .bf16) (t : Fin cfg0.N) (r : Fin 256) (l : Fin 5632) :
    ((cfg0.win 4).blk t).view.read (Elt Ideal) X (ix2 r l) = X (ix2 (row t r) l) := by
  rw [View.read_apply]
  show X _ = X _
  congr 1
  funext a
  apply Fin.ext
  have e := at_4 t
  match a with
  | ⟨0, _⟩ => show win0_4.index t 0 * 256 + 1 * r.val = 256 * t.val + r.val; rw [e]; show t.val * 256 + 1 * r.val = _; omega
  | ⟨1, _⟩ => show win0_4.index t 1 * 5632 + 1 * l.val = l.val; rw [e]; show 0 * 5632 + 1 * l.val = _; omega

/-! ## The reference's values -/

section
variable (x0 : FVec Ideal S4096x1024 .bf16) (x1 : FVec Ideal S2816x1024 .bf16) (x2 x3 : FVec Ideal S4096x2816 .bf16)

/-- The gradient of the activation. -/
def grad (i : Fin 4096) (j : Fin 2816) : EReal := ∑ k : Fin 1024, x0 (ix2 i k) * x1 (ix2 j k)

theorem ref_da (i : Fin 4096) (j : Fin 2816) : Cert.Reference4Ideal.Read.val_main_v7 (F := Ideal) x0 x1 (ix2 i j) = grad x0 x1 i j := by
  refine (Cert.Reference4Ideal.Read.val_main_v7_apply x0 x1 _).trans (Finset.sum_congr rfl fun k _ => ?_)
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

theorem ref_sig (y : S4096x2816.Idx) : Cert.Reference4Ideal.Read.val_main_v3_2 (F := Ideal) x2 y = Ideal.logistic (x2 y) := by
  refine (Cert.Reference4Ideal.Read.val_main_v3_2_apply (F := Ideal) x2 y).trans ?_
  rw [Cert.Reference4Ideal.Read.val_main_call0_v4_apply (F := Ideal) y, Cert.Reference4Ideal.Read.val_main_call0_v3_apply (F := Ideal) x2 y,
    Cert.Reference4Ideal.Read.val_main_call0_v2_apply (F := Ideal) y]
  exact host_sigmoid (x2 y)

theorem ref_rest (y : S4096x2816.Idx) : Cert.Reference4Ideal.Read.val_main_call0_v7 (F := Ideal) x2 y = 1 - Ideal.logistic (x2 y) := by
  refine (Cert.Reference4Ideal.Read.val_main_call0_v7_apply (F := Ideal) x2 y).trans ?_
  rw [Cert.Reference4Ideal.Read.val_main_call0_v6_apply (F := Ideal) y, ref_sig]
  exact congrArg (· - Ideal.logistic (x2 y)) one_f32

/-- The reference's gate half. -/
theorem ref_left (i : Fin 4096) (j : Fin 2816) : Cert.Reference4Ideal.Read.val_main_v10 (F := Ideal) x0 x1 x2 x3 (ix2 i j)
    = grad x0 x1 i j * x3 (ix2 i j) * Ideal.logistic (x2 (ix2 i j))
      + x2 (ix2 i j) * (grad x0 x1 i j * x3 (ix2 i j)) * (Ideal.logistic (x2 (ix2 i j)) * (1 - Ideal.logistic (x2 (ix2 i j)))) := by
  have h : Cert.Reference4Ideal.Read.val_main_v10 (F := Ideal) x0 x1 x2 x3 (ix2 i j)
      = Cert.Reference4Ideal.Read.val_main_v7 (F := Ideal) x0 x1 (ix2 i j) * x3 (ix2 i j) * Cert.Reference4Ideal.Read.val_main_v3_2 (F := Ideal) x2 (ix2 i j)
        + x2 (ix2 i j) * (Cert.Reference4Ideal.Read.val_main_v7 (F := Ideal) x0 x1 (ix2 i j) * x3 (ix2 i j))
          * (Cert.Reference4Ideal.Read.val_main_v3_2 (F := Ideal) x2 (ix2 i j) * Cert.Reference4Ideal.Read.val_main_call0_v7 (F := Ideal) x2 (ix2 i j)) := rfl
  rw [h, ref_da, ref_sig, ref_rest]

/-- The reference's half for the up branch. -/
theorem ref_right (i : Fin 4096) (j : Fin 2816) : Cert.Reference4Ideal.Read.val_main_v8 (F := Ideal) x0 x1 x2 (ix2 i j)
    = x2 (ix2 i j) * Ideal.logistic (x2 (ix2 i j)) * grad x0 x1 i j := by
  have h : Cert.Reference4Ideal.Read.val_main_v8 (F := Ideal) x0 x1 x2 (ix2 i j)
      = x2 (ix2 i j) * Cert.Reference4Ideal.Read.val_main_v3_2 (F := Ideal) x2 (ix2 i j) * Cert.Reference4Ideal.Read.val_main_v7 (F := Ideal) x0 x1 (ix2 i j) := rfl
  rw [h, ref_da, ref_sig]

theorem ref_lo (i : Fin 4096) (j : Fin 2816) : Cert.Reference4Ideal.Read.val_main_v12 (F := Ideal) x0 x1 x2 x3 (ix2 i (⟨j.val, by omega⟩ : Fin 5632))
    = Cert.Reference4Ideal.Read.val_main_v10 (F := Ideal) x0 x1 x2 x3 (ix2 i j) := by
  refine (Cert.Reference4Ideal.Read.val_main_v12_apply (F := Ideal) x0 x1 x2 x3 _).trans ?_
  show Cert.Reference4Ideal.Read.val_main_v11 (F := Ideal) x0 x1 x2 x3 _ = _
  unfold Cert.Reference4Ideal.Read.val_main_v11
  generalize (Cert.Reference4Ideal.Read.val_main_v10 (F := Ideal) x0 x1 x2 x3 : Cert.Reference4Ideal.S4096x2816.Idx → EReal) = p
  generalize (Cert.Reference4Ideal.Read.val_main_v8 (F := Ideal) x0 x1 x2 : Cert.Reference4Ideal.S4096x2816.Idx → EReal) = q
  refine concatenate_pair_apply_left (1 : Fin Cert.Reference4Ideal.S4096x5632.rank) p q _ _ rfl (ix2 i j) fun b => ?_
  match b with
  | ⟨0, _⟩ => rfl
  | ⟨1, _⟩ => rfl

theorem ref_hi (i : Fin 4096) (j : Fin 2816) : Cert.Reference4Ideal.Read.val_main_v12 (F := Ideal) x0 x1 x2 x3 (ix2 i (⟨2816 + j.val, by omega⟩ : Fin 5632))
    = Cert.Reference4Ideal.Read.val_main_v8 (F := Ideal) x0 x1 x2 (ix2 i j) := by
  refine (Cert.Reference4Ideal.Read.val_main_v12_apply (F := Ideal) x0 x1 x2 x3 _).trans ?_
  show Cert.Reference4Ideal.Read.val_main_v11 (F := Ideal) x0 x1 x2 x3 _ = _
  unfold Cert.Reference4Ideal.Read.val_main_v11
  generalize (Cert.Reference4Ideal.Read.val_main_v10 (F := Ideal) x0 x1 x2 x3 : Cert.Reference4Ideal.S4096x2816.Idx → EReal) = p
  generalize (Cert.Reference4Ideal.Read.val_main_v8 (F := Ideal) x0 x1 x2 : Cert.Reference4Ideal.S4096x2816.Idx → EReal) = q
  refine concatenate_pair_apply_right (1 : Fin Cert.Reference4Ideal.S4096x5632.rank) p q _ _ rfl rfl (ix2 i j) (fun b hb => ?_) ?_
  · match b, hb with
    | ⟨0, _⟩, _ => rfl
    | ⟨1, _⟩, hb => exact absurd rfl hb
  · show j.val + 2816 = 2816 + j.val
    omega

end

/-! ## The precondition -/

theorem facts_finite : Cert.Pre_finite_ffn.Facts := by
  constructor <;> decide

section
variable [Cert.Pre_finite_ffn.Facts]
open Cert.Pre_finite_ffn.Facts

/-- Arguments the predicate accepts: the incoming gradient, the matrix and the up branch are real numbers. -/
theorem reals_of {x0 : FVec Ideal S4096x1024 .bf16} {x1 : FVec Ideal S2816x1024 .bf16} {x2 x3 : FVec Ideal S4096x2816 .bf16}
    (h : Cert.Pre_finite_ffn.fn (F := Ideal) x0 x1 x2 x3 = fun _ => 1#1) :
    (∀ i, x0 i = ((EReal.toReal (x0 i) : ℝ) : EReal)) ∧ (∀ i, x1 i = ((EReal.toReal (x1 i) : ℝ) : EReal))
      ∧ ∀ i, x3 i = ((EReal.toReal (x3 i) : ℝ) : EReal) := by
  haveI : Cert.Pre_finite.Facts := by constructor <;> decide
  have a := Fox.both (show andi (andi _ _) _ = _ from h)
  have b := Fox.both a.1
  exact ⟨Fox.real_of_all (extf .f32 x0 Gen.bitsLt_bf16_f32) bcast_S_S4096x1024 reducesTo_S4096x1024_S_d0_1 b.1,
    Fox.real_of_all (extf .f32 x1 Gen.bitsLt_bf16_f32) bcast_S_S2816x1024 reducesTo_S2816x1024_S_d0_1 b.2,
    Fox.real_of_all (extf .f32 x3 Gen.bitsLt_bf16_f32) bcast_S_S4096x2816 reducesTo_S4096x2816_S_d0_1 a.2⟩

end

/-! ## The array -/

theorem da_block (c : Dev nD) (t : Fin cfg0.N) (r : Fin 256) (l : Fin 2816) :
    k0_pay1 (iblk m c 0 t) (iblk m c 1 t) (ix2 r l) = grad (arg0 m c) (arg1 m c) (row t r) l := by
  refine (da_at _ _ r l).trans (Finset.sum_congr rfl fun k _ => ?_)
  rw [blk_0, blk_1]

theorem block_left (c : Dev nD)
    (h0 : ∀ i, arg0 m c i = ((EReal.toReal (arg0 m c i) : ℝ) : EReal)) (h1 : ∀ i, arg1 m c i = ((EReal.toReal (arg1 m c i) : ℝ) : EReal))
    (h3 : ∀ i, arg3 m c i = ((EReal.toReal (arg3 m c i) : ℝ) : EReal)) (t : Fin cfg0.N) (r : Fin 256) (l : Fin 2816) :
    k0_pay5 (iblk m c 0 t) (iblk m c 1 t) (iblk m c 2 t) (iblk m c 3 t) (ix2 r l)
      = Cert.Reference4Ideal.Read.val_main_v10 (F := Ideal) (arg0 m c) (arg1 m c) (arg2 m c) (arg3 m c) (ix2 (row t r) l) := by
  refine (left_at _ _ _ _ _).trans ?_
  rw [da_block, blk_2, blk_3, ref_left]
  obtain ⟨s, hs⟩ : ∃ s : ℝ, grad (arg0 m c) (arg1 m c) (row t r) l = (s : EReal) :=
    sum_real _ _ (fun k => h0 _) (fun k => h1 _)
  have hp : grad (arg0 m c) (arg1 m c) (row t r) l * arg3 m c (ix2 (row t r) l)
      = ((s * EReal.toReal (arg3 m c (ix2 (row t r) l)) : ℝ) : EReal) := by
    rw [hs, EReal.coe_mul, ← h3]
  rw [hp]
  exact silu_grad _ _

theorem block_right (c : Dev nD) (t : Fin cfg0.N) (r : Fin 256) (l : Fin 2816) :
    k0_pay6 (iblk m c 0 t) (iblk m c 1 t) (iblk m c 2 t) (ix2 r l)
      = Cert.Reference4Ideal.Read.val_main_v8 (F := Ideal) (arg0 m c) (arg1 m c) (arg2 m c) (ix2 (row t r) l) := by
  refine (right_at _ _ _ _).trans ?_
  rw [da_block, blk_2, ref_right]
  exact mul_comm _ _

theorem arr_4 (c : Dev nD)
    (h0 : ∀ i, arg0 m c i = ((EReal.toReal (arg0 m c i) : ℝ) : EReal)) (h1 : ∀ i, arg1 m c i = ((EReal.toReal (arg1 m c i) : ℝ) : EReal))
    (h3 : ∀ i, arg3 m c i = ((EReal.toReal (arg3 m c i) : ℝ) : EReal)) :
    (dats m 0 c).arrAt 4 cfg0.N
      = Cert.Reference4Ideal.Read.val_main_v12 (F := Ideal) (arg0 m c) (arg1 m c) (arg2 m c) (arg3 m c) := by
  have key : ∀ (t : Fin cfg0.N) (y : S256x5632.Idx), out0_4 (iblk m c 0 t) (iblk m c 1 t) (iblk m c 2 t) (iblk m c 3 t) y
      = ((cfg0.win 4).blk t).view.read (Elt Ideal)
        (Cert.Reference4Ideal.Read.val_main_v12 (F := Ideal) (arg0 m c) (arg1 m c) (arg2 m c) (arg3 m c)) y := fun t y => by
    obtain ⟨r, n, rfl⟩ : ∃ (r : Fin 256) (n : Fin 5632), y = ix2 r n := ⟨y 0, y 1, eta_two y⟩
    refine Eq.trans ?_ (read_4 _ t r n).symm
    by_cases hn : n.val < 2816
    · exact (out_left _ _ _ _ r ⟨n.val, hn⟩).trans
        ((block_left m c h0 h1 h3 t r ⟨n.val, hn⟩).trans (ref_lo _ _ _ _ (row t r) ⟨n.val, hn⟩).symm)
    · have e : n = ⟨2816 + (n.val - 2816), by omega⟩ := Fin.ext (by show n.val = 2816 + (n.val - 2816); omega)
      rw [e]
      exact (out_right _ _ _ _ r ⟨n.val - 2816, by omega⟩).trans
        ((block_right m c t r ⟨n.val - 2816, by omega⟩).trans (ref_hi _ _ _ _ (row t r) ⟨n.val - 2816, by omega⟩).symm)
  refine (dats m 0 c).arrAt_eq_of_cover 4 _ (fun t hf => ?_) ((by decide +kernel : (cfg0.win 4).Covers).cover _ (Memref.isWhole_whole _))
  rw [Value.flushed4]
  exact funext fun y => key t y

/-! ## The claims -/

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h =>
    ⟨fun c => (h c).2, sem_eq_zero_of_no_sems (by decide) _⟩) (Cert.Reference4Ideal.Value.run m ρ)

/-- The kernel's result and the reference's are equal, wherever the gradient, the matrix and the up branch are real numbers. -/
theorem algebraic [Cert.Pre_finite_ffn.Facts] : Cert.algebraic_Kernel4Ideal_Reference4Ideal_pre_finite_ffn := fun m g m' g' hp he => by
  refine ⟨fun c => Cert.Reference4Ideal.Read.val_main_v12 (F := Ideal) (arg0 m c) (arg1 m c) (arg2 m c) (arg3 m c), ?_, ?_⟩
  · refine (θ_run _ _ _).mono (fun r h c => ?_) (Cert.Kernel4Ideal.Value.run_blocks m g)
    obtain ⟨h0, h1, h3⟩ := reals_of (hp c)
    exact ⟨(h c).1.trans (arr_4 m c h0 h1 h3), (h c).2⟩
  · refine (θ_run _ _ _).mono (fun r h c => ?_) (Cert.Reference4Ideal.Value.run m' g')
    obtain ⟨h0, h1, h2, h3⟩ := he c
    refine ⟨(h c).1.trans ?_, (h c).2⟩
    rw [Cert.Reference4Ideal.Read.val_main_v12_eq, h0, h1, h2, h3]

end Ffn.Act

end
-- ==== Proof.FfnIn.lean ====
/-
The first half of the feed-forward network: gate and up, a product with one column block of the weights each, and silu of
the gate times up.
-/
module

public import proofs.«01_k».proof.Proof.Halves
public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit

@[expose] public section

noncomputable section

set_option maxRecDepth 65536

namespace Ffn.In

open Idealize.ShloMosaic Idealize.ShloMosaic.TcCoe Idealize.SL.Sem Cert.Kernel5Ideal Cert.Kernel5Ideal.Gen
open scoped Pointwise

/-! ## What one point of the grid leaves -/

/-- The gate's value at an index: the sum over the 1024 features. -/
theorem gate_at (x0 : Vec Ideal S1024x1024 .bf16) (x1 : Vec Ideal S1x1024x1408 .bf16) (r : Fin 1024) (l : Fin 1408) :
    k0_pay1 x0 x1 (ix2 r l) = ∑ k : Fin 1024, x0 (ix2 r k) * x1 (ix3 0 k l) := by
  pointwise [k0_pay1]

/-- The up branch's, with its own block of the weights. -/
theorem up_at (x0 : Vec Ideal S1024x1024 .bf16) (x1 : Vec Ideal S1x1024x1408 .bf16) (r : Fin 1024) (l : Fin 1408) :
    k0_pay2 x0 x1 (ix2 r l) = ∑ k : Fin 1024, x0 (ix2 r k) * x1 (ix3 0 k l) := by
  pointwise [k0_pay2]

/-- The kernel's sigmoid times its argument, times up. -/
theorem act_at (x0 : Vec Ideal S1024x1024 .bf16) (x1 x2 : Vec Ideal S1x1024x1408 .bf16) (y : S1024x1408.Idx) :
    k0_pay3 x0 x1 x2 y = silu (k0_pay1 x0 x1 y) * k0_pay2 x0 x2 y := by
  refine congrArg (· * k0_pay2 x0 x2 y) (congrArg (k0_pay1 x0 x1 y * ·) ?_)
  exact body_sigmoid (k0_pay1 x0 x1 y)

theorem zero2 : (![0, 0] : Fin 2 → Nat) = fun _ => 0 := funext fun a => by fin_cases a <;> rfl
theorem zero3 : (![0, 0, 0] : Fin 3 → Nat) = fun _ => 0 := funext fun a => by fin_cases a <;> rfl

theorem out3_eq (x0 : Vec Ideal S1024x1024 .bf16) (x1 x2 : Vec Ideal S1x1024x1408 .bf16) : out0_3 x0 x1 x2 = k0_pay1 x0 x1 := by
  unfold out0_3
  rw [View.canon_unit_zero zero2]
  simp only [View.ld_unit_zero (S := S1024x1024) zero2, View.ld_unit_zero (S := S1x1024x1408) zero3]

theorem out4_eq (x0 : Vec Ideal S1024x1024 .bf16) (x1 x2 : Vec Ideal S1x1024x1408 .bf16) : out0_4 x0 x1 x2 = k0_pay2 x0 x2 := by
  unfold out0_4
  rw [View.canon_unit_zero zero2]
  simp only [View.ld_unit_zero (S := S1024x1024) zero2, View.ld_unit_zero (S := S1x1024x1408) zero3]

theorem out5_eq (x0 : Vec Ideal S1024x1024 .bf16) (x1 x2 : Vec Ideal S1x1024x1408 .bf16) : out0_5 x0 x1 x2 = k0_pay3 x0 x1 x2 := by
  unfold out0_5
  rw [View.canon_unit_zero zero2]
  simp only [View.ld_unit_zero (S := S1024x1024) zero2, View.ld_unit_zero (S := S1x1024x1408) zero3]

/-! ## The blocks -/

variable (m : (ℓ : Loc nD τ sig) → Buf (Elt Ideal) ℓ)

abbrev arg0 (c : Dev nD) : FVec Ideal S4096x1024 .bf16 := m ((c : Thread nD τ).loc main_arg0)
abbrev arg1 (c : Dev nD) : FVec Ideal S4x1024x1408 .bf16 := m ((c : Thread nD τ).loc main_arg1)

theorem at_0 : ∀ t : Fin cfg0.N, win0_0.index t = ![t.val / 2, 0] := (by decide +kernel : ∀ t : Fin grid0.N, _)
theorem at_1 : ∀ t : Fin cfg0.N, win0_1.index t = ![t.val % 2, 0, 0] := (by decide +kernel : ∀ t : Fin grid0.N, _)
theorem at_2 : ∀ t : Fin cfg0.N, win0_2.index t = ![t.val % 2 + 2, 0, 0] := (by decide +kernel : ∀ t : Fin grid0.N, _)

theorem blk_0 (c : Dev nD) (t : Fin cfg0.N) (r : Fin 1024) (k : Fin 1024) :
    iblk m c 0 t (ix2 r k) = arg0 m c (ix2 (⟨1024 * (t.val / 2) + r.val, by have h := lt_of_lt_of_eq t.isLt N_0; omega⟩ : Fin 4096) k) := by
  unfold iblk
  rw [View.read_apply]
  show arg0 m c _ = arg0 m c _
  congr 1
  funext a
  apply Fin.ext
  have e := at_0 t
  match a with
  | ⟨0, _⟩ => show win0_0.index t 0 * 1024 + 1 * r.val = 1024 * (t.val / 2) + r.val; rw [e]; show t.val / 2 * 1024 + 1 * r.val = _; omega
  | ⟨1, _⟩ => show win0_0.index t 1 * 1024 + 1 * k.val = k.val; rw [e]; show 0 * 1024 + 1 * k.val = _; omega

theorem blk_1 (c : Dev nD) (t : Fin cfg0.N) (k : Fin 1024) (l : Fin 1408) :
    iblk m c 1 t (ix3 0 k l) = arg1 m c (ix3 (⟨t.val % 2, by omega⟩ : Fin 4) k l) := by
  unfold iblk
  rw [View.read_apply]
  show arg1 m c _ = arg1 m c _
  congr 1
  funext a
  apply Fin.ext
  have e := at_1 t
  match a with
  | ⟨0, _⟩ => show win0_1.index t 0 * 1 + 1 * 0 = t.val % 2; rw [e]; show (t.val % 2) * 1 + 1 * 0 = _; omega
  | ⟨1, _⟩ => show win0_1.index t 1 * 1024 + 1 * k.val = k.val; rw [e]; show 0 * 1024 + 1 * k.val = _; omega
  | ⟨2, _⟩ => show win0_1.index t 2 * 1408 + 1 * l.val = l.val; rw [e]; show 0 * 1408 + 1 * l.val = _; omega

theorem blk_2 (c : Dev nD) (t : Fin cfg0.N) (k : Fin 1024) (l : Fin 1408) :
    iblk m c 2 t (ix3 0 k l) = arg1 m c (ix3 (⟨t.val % 2 + 2, by omega⟩ : Fin 4) k l) := by
  unfold iblk
  rw [View.read_apply]
  show arg1 m c _ = arg1 m c _
  congr 1
  funext a
  apply Fin.ext
  have e := at_2 t
  match a with
  | ⟨0, _⟩ => show win0_2.index t 0 * 1 + 1 * 0 = t.val % 2 + 2; rw [e]; show (t.val % 2 + 2) * 1 + 1 * 0 = _; omega
  | ⟨1, _⟩ => show win0_2.index t 1 * 1024 + 1 * k.val = k.val; rw [e]; show 0 * 1024 + 1 * k.val = _; omega
  | ⟨2, _⟩ => show win0_2.index t 2 * 1408 + 1 * l.val = l.val; rw [e]; show 0 * 1408 + 1 * l.val = _; omega

theorem at_3 : ∀ t : Fin cfg0.N, win0_3.index t = ![t.val / 2, t.val % 2] := (by decide +kernel : ∀ t : Fin grid0.N, _)

theorem read_3 (X : FVec Ideal S4096x2816 .bf16) (t : Fin cfg0.N) (r : Fin 1024) (l : Fin 1408) :
    ((cfg0.win 3).blk t).view.read (Elt Ideal) X (ix2 r l) = X (ix2 (⟨1024 * (t.val / 2) + r.val, by have h := lt_of_lt_of_eq t.isLt N_0; omega⟩ : Fin 4096) (⟨1408 * (t.val % 2) + l.val, by have h := lt_of_lt_of_eq t.isLt N_0; omega⟩ : Fin 2816)) := by
  rw [View.read_apply]
  show X _ = X _
  congr 1
  funext a
  apply Fin.ext
  have e := at_3 t
  match a with
  | ⟨0, _⟩ => show win0_3.index t 0 * 1024 + 1 * r.val = 1024 * (t.val / 2) + r.val; rw [e]; show t.val / 2 * 1024 + 1 * r.val = _; omega
  | ⟨1, _⟩ => show win0_3.index t 1 * 1408 + 1 * l.val = 1408 * (t.val % 2) + l.val; rw [e]; show t.val % 2 * 1408 + 1 * l.val = _; omega

theorem at_4 : ∀ t : Fin cfg0.N, win0_4.index t = ![t.val / 2, t.val % 2] := (by decide +kernel : ∀ t : Fin grid0.N, _)

theorem read_4 (X : FVec Ideal S4096x2816 .bf16) (t : Fin cfg0.N) (r : Fin 1024) (l : Fin 1408) :
    ((cfg0.win 4).blk t).view.read (Elt Ideal) X (ix2 r l) = X (ix2 (⟨1024 * (t.val / 2) + r.val, by have h := lt_of_lt_of_eq t.isLt N_0; omega⟩ : Fin 4096) (⟨1408 * (t.val % 2) + l.val, by have h := lt_of_lt_of_eq t.isLt N_0; omega⟩ : Fin 2816)) := by
  rw [View.read_apply]
  show X _ = X _
  congr 1
  funext a
  apply Fin.ext
  have e := at_4 t
  match a with
  | ⟨0, _⟩ => show win0_4.index t 0 * 1024 + 1 * r.val = 1024 * (t.val / 2) + r.val; rw [e]; show t.val / 2 * 1024 + 1 * r.val = _; omega
  | ⟨1, _⟩ => show win0_4.index t 1 * 1408 + 1 * l.val = 1408 * (t.val % 2) + l.val; rw [e]; show t.val % 2 * 1408 + 1 * l.val = _; omega

theorem at_5 : ∀ t : Fin cfg0.N, win0_5.index t = ![t.val / 2, t.val % 2] := (by decide +kernel : ∀ t : Fin grid0.N, _)

theorem read_5 (X : FVec Ideal S4096x2816 .bf16) (t : Fin cfg0.N) (r : Fin 1024) (l : Fin 1408) :
    ((cfg0.win 5).blk t).view.read (Elt Ideal) X (ix2 r l) = X (ix2 (⟨1024 * (t.val / 2) + r.val, by have h := lt_of_lt_of_eq t.isLt N_0; omega⟩ : Fin 4096) (⟨1408 * (t.val % 2) + l.val, by have h := lt_of_lt_of_eq t.isLt N_0; omega⟩ : Fin 2816)) := by
  rw [View.read_apply]
  show X _ = X _
  congr 1
  funext a
  apply Fin.ext
  have e := at_5 t
  match a with
  | ⟨0, _⟩ => show win0_5.index t 0 * 1024 + 1 * r.val = 1024 * (t.val / 2) + r.val; rw [e]; show t.val / 2 * 1024 + 1 * r.val = _; omega
  | ⟨1, _⟩ => show win0_5.index t 1 * 1408 + 1 * l.val = 1408 * (t.val % 2) + l.val; rw [e]; show t.val % 2 * 1408 + 1 * l.val = _; omega

/-! ## The reference's values -/

theorem ref_gate (x0 : FVec Ideal S4096x1024 .bf16) (x1 : FVec Ideal S4x1024x1408 .bf16) (t : Fin cfg0.N) (r : Fin 1024) (l : Fin 1408) :
    Cert.Reference5Ideal.Read.val_main_v5 (F := Ideal) x0 x1 (ix2 (⟨1024 * (t.val / 2) + r.val, by have h := lt_of_lt_of_eq t.isLt N_0; omega⟩ : Fin 4096) (⟨1408 * (t.val % 2) + l.val, by have h := lt_of_lt_of_eq t.isLt N_0; omega⟩ : Fin 2816))
      = ∑ k : Fin 1024, x0 (ix2 (⟨1024 * (t.val / 2) + r.val, by have h := lt_of_lt_of_eq t.isLt N_0; omega⟩ : Fin 4096) k) * x1 (ix3 (⟨t.val % 2, by omega⟩ : Fin 4) k l) := by
  refine (Cert.Reference5Ideal.Read.val_main_v5_apply (F := Ideal) x0 x1 _).trans ((Cert.Reference5Ideal.Read.val_main_v4_apply x0 x1 _).trans ?_)
  refine Finset.sum_congr rfl fun k _ => ?_
  refine congrArg₂ (· * ·) (congrArg x0 (funext fun a => Fin.ext ?_)) ?_
  · match a with
    | ⟨0, _⟩ => rfl
    | ⟨1, _⟩ => rfl
  · refine (Cert.Reference5Ideal.Read.val_main_v3_apply (F := Ideal) x1 _).trans ((Cert.Reference5Ideal.Read.val_main_v2_apply (F := Ideal) x1 _).trans ?_)
    refine congrArg x1 (funext fun a => Fin.ext ?_)
    have ht := lt_of_lt_of_eq t.isLt N_0
    match a with
    | ⟨0, _⟩ => show (k.val * 5632 + ((1408 * (t.val % 2) + l.val))) / 1408 % 4 = t.val % 2; omega
    | ⟨1, _⟩ => show (k.val * 5632 + ((1408 * (t.val % 2) + l.val))) / 5632 = k.val; omega
    | ⟨2, _⟩ => show (k.val * 5632 + ((1408 * (t.val % 2) + l.val))) % 1408 = l.val; omega

theorem ref_up (x0 : FVec Ideal S4096x1024 .bf16) (x1 : FVec Ideal S4x1024x1408 .bf16) (t : Fin cfg0.N) (r : Fin 1024) (l : Fin 1408) :
    Cert.Reference5Ideal.Read.val_main_v6 (F := Ideal) x0 x1 (ix2 (⟨1024 * (t.val / 2) + r.val, by have h := lt_of_lt_of_eq t.isLt N_0; omega⟩ : Fin 4096) (⟨1408 * (t.val % 2) + l.val, by have h := lt_of_lt_of_eq t.isLt N_0; omega⟩ : Fin 2816))
      = ∑ k : Fin 1024, x0 (ix2 (⟨1024 * (t.val / 2) + r.val, by have h := lt_of_lt_of_eq t.isLt N_0; omega⟩ : Fin 4096) k) * x1 (ix3 (⟨t.val % 2 + 2, by omega⟩ : Fin 4) k l) := by
  refine (Cert.Reference5Ideal.Read.val_main_v6_apply (F := Ideal) x0 x1 _).trans ((Cert.Reference5Ideal.Read.val_main_v4_apply x0 x1 _).trans ?_)
  refine Finset.sum_congr rfl fun k _ => ?_
  refine congrArg₂ (· * ·) (congrArg x0 (funext fun a => Fin.ext ?_)) ?_
  · match a with
    | ⟨0, _⟩ => rfl
    | ⟨1, _⟩ => rfl
  · refine (Cert.Reference5Ideal.Read.val_main_v3_apply (F := Ideal) x1 _).trans ((Cert.Reference5Ideal.Read.val_main_v2_apply (F := Ideal) x1 _).trans ?_)
    refine congrArg x1 (funext fun a => Fin.ext ?_)
    have ht := lt_of_lt_of_eq t.isLt N_0
    match a with
    | ⟨0, _⟩ => show (k.val * 5632 + (2816 + (1408 * (t.val % 2) + l.val))) / 1408 % 4 = t.val % 2 + 2; omega
    | ⟨1, _⟩ => show (k.val * 5632 + (2816 + (1408 * (t.val % 2) + l.val))) / 5632 = k.val; omega
    | ⟨2, _⟩ => show (k.val * 5632 + (2816 + (1408 * (t.val % 2) + l.val))) % 1408 = l.val; omega

/-- The reference's activation is silu of its gate times its up. -/
theorem ref_act (x0 : FVec Ideal S4096x1024 .bf16) (x1 : FVec Ideal S4x1024x1408 .bf16) (y : S4096x2816.Idx) :
    Cert.Reference5Ideal.Read.val_main_v11 (F := Ideal) x0 x1 y
      = silu (Cert.Reference5Ideal.Read.val_main_v5 (F := Ideal) x0 x1 y) * Cert.Reference5Ideal.Read.val_main_v6 (F := Ideal) x0 x1 y := by
  refine congrArg (· * Cert.Reference5Ideal.Read.val_main_v6 (F := Ideal) x0 x1 y) ?_
  refine congrArg (Cert.Reference5Ideal.Read.val_main_v5 (F := Ideal) x0 x1 y * ·) ?_
  refine (Cert.Reference5Ideal.Read.val_main_call0_v5_apply (F := Ideal) x0 x1 y).trans ?_
  rw [Cert.Reference5Ideal.Read.val_main_call0_v4_apply (F := Ideal) y, Cert.Reference5Ideal.Read.val_main_call0_v3_apply (F := Ideal) x0 x1 y,
    Cert.Reference5Ideal.Read.val_main_call0_v2_apply (F := Ideal) y]
  exact host_sigmoid (Cert.Reference5Ideal.Read.val_main_v5 (F := Ideal) x0 x1 y)

/-! ## The three arrays -/

theorem gate_block (c : Dev nD) (t : Fin cfg0.N) (r : Fin 1024) (l : Fin 1408) :
    k0_pay1 (iblk m c 0 t) (iblk m c 1 t) (ix2 r l)
      = Cert.Reference5Ideal.Read.val_main_v5 (F := Ideal) (arg0 m c) (arg1 m c) (ix2 (⟨1024 * (t.val / 2) + r.val, by have h := lt_of_lt_of_eq t.isLt N_0; omega⟩ : Fin 4096) (⟨1408 * (t.val % 2) + l.val, by have h := lt_of_lt_of_eq t.isLt N_0; omega⟩ : Fin 2816)) := by
  refine (gate_at _ _ r l).trans (Eq.trans (Finset.sum_congr rfl fun k _ => ?_) (ref_gate _ _ t r l).symm)
  rw [blk_0, blk_1]

theorem up_block (c : Dev nD) (t : Fin cfg0.N) (r : Fin 1024) (l : Fin 1408) :
    k0_pay2 (iblk m c 0 t) (iblk m c 2 t) (ix2 r l)
      = Cert.Reference5Ideal.Read.val_main_v6 (F := Ideal) (arg0 m c) (arg1 m c) (ix2 (⟨1024 * (t.val / 2) + r.val, by have h := lt_of_lt_of_eq t.isLt N_0; omega⟩ : Fin 4096) (⟨1408 * (t.val % 2) + l.val, by have h := lt_of_lt_of_eq t.isLt N_0; omega⟩ : Fin 2816)) := by
  refine (up_at _ _ r l).trans (Eq.trans (Finset.sum_congr rfl fun k _ => ?_) (ref_up _ _ t r l).symm)
  rw [blk_0, blk_2]

theorem arr_3 (c : Dev nD) : (dats m 0 c).arrAt 3 cfg0.N = Cert.Reference5Ideal.Read.val_main_v7 (F := Ideal) (arg0 m c) (arg1 m c) := by
  have key : ∀ (t : Fin cfg0.N) (y : S1024x1408.Idx), out0_3 (iblk m c 0 t) (iblk m c 1 t) (iblk m c 2 t) y
      = ((cfg0.win 3).blk t).view.read (Elt Ideal) (Cert.Reference5Ideal.Read.val_main_v7 (F := Ideal) (arg0 m c) (arg1 m c)) y := fun t y => by
    obtain ⟨r, l, rfl⟩ : ∃ (r : Fin 1024) (l : Fin 1408), y = ix2 r l := ⟨y 0, y 1, eta_two y⟩
    refine Eq.trans ?_ (read_3 _ t r l).symm
    exact (congrFun (out3_eq _ _ _) (ix2 r l)).trans (gate_block m c t r l)
  refine (dats m 0 c).arrAt_eq_of_cover 3 _ (fun t hf => ?_) ((by decide +kernel : (cfg0.win 3).Covers).cover _ (Memref.isWhole_whole _))
  rw [Value.flushed3]
  exact funext fun y => key t y

theorem arr_4 (c : Dev nD) : (dats m 0 c).arrAt 4 cfg0.N = Cert.Reference5Ideal.Read.val_main_v8 (F := Ideal) (arg0 m c) (arg1 m c) := by
  have key : ∀ (t : Fin cfg0.N) (y : S1024x1408.Idx), out0_4 (iblk m c 0 t) (iblk m c 1 t) (iblk m c 2 t) y
      = ((cfg0.win 4).blk t).view.read (Elt Ideal) (Cert.Reference5Ideal.Read.val_main_v8 (F := Ideal) (arg0 m c) (arg1 m c)) y := fun t y => by
    obtain ⟨r, l, rfl⟩ : ∃ (r : Fin 1024) (l : Fin 1408), y = ix2 r l := ⟨y 0, y 1, eta_two y⟩
    refine Eq.trans ?_ (read_4 _ t r l).symm
    exact (congrFun (out4_eq _ _ _) (ix2 r l)).trans (up_block m c t r l)
  refine (dats m 0 c).arrAt_eq_of_cover 4 _ (fun t hf => ?_) ((by decide +kernel : (cfg0.win 4).Covers).cover _ (Memref.isWhole_whole _))
  rw [Value.flushed4]
  exact funext fun y => key t y

theorem arr_5 (c : Dev nD) : (dats m 0 c).arrAt 5 cfg0.N = Cert.Reference5Ideal.Read.val_main_v11 (F := Ideal) (arg0 m c) (arg1 m c) := by
  have key : ∀ (t : Fin cfg0.N) (y : S1024x1408.Idx), out0_5 (iblk m c 0 t) (iblk m c 1 t) (iblk m c 2 t) y
      = ((cfg0.win 5).blk t).view.read (Elt Ideal) (Cert.Reference5Ideal.Read.val_main_v11 (F := Ideal) (arg0 m c) (arg1 m c)) y := fun t y => by
    obtain ⟨r, l, rfl⟩ : ∃ (r : Fin 1024) (l : Fin 1408), y = ix2 r l := ⟨y 0, y 1, eta_two y⟩
    refine Eq.trans ?_ (read_5 _ t r l).symm
    exact (congrFun (out5_eq _ _ _) (ix2 r l)).trans ((act_at _ _ _ _).trans
      ((congrArg₂ (fun a b => silu a * b) (gate_block m c t r l) (up_block m c t r l)).trans (ref_act _ _ _).symm))
  refine (dats m 0 c).arrAt_eq_of_cover 5 _ (fun t hf => ?_) ((by decide +kernel : (cfg0.win 5).Covers).cover _ (Memref.isWhole_whole _))
  rw [Value.flushed5]
  exact funext fun y => key t y

/-! ## The claims -/

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h =>
    ⟨fun c => (h c).2.2.2, sem_eq_zero_of_no_sems (by decide) _⟩) (Cert.Reference5Ideal.Value.run m ρ)

/-- The kernel's three results and the reference's are equal, on any arguments. -/
theorem algebraic : Cert.algebraic_Kernel5Ideal_Reference5Ideal := fun m g m' g' _ he => by
  refine ⟨fun c => Cert.Reference5Ideal.Read.val_main_v7 (F := Ideal) (arg0 m c) (arg1 m c),
    fun c => Cert.Reference5Ideal.Read.val_main_v8 (F := Ideal) (arg0 m c) (arg1 m c),
    fun c => Cert.Reference5Ideal.Read.val_main_v11 (F := Ideal) (arg0 m c) (arg1 m c), ?_, ?_⟩
  · refine (θ_run _ _ _).mono (fun r h c => ?_) (Cert.Kernel5Ideal.Value.run_blocks m g)
    exact ⟨(h c).1.trans (arr_3 m c), (h c).2.1.trans (arr_4 m c), (h c).2.2.1.trans (arr_5 m c), (h c).2.2.2⟩
  · refine (θ_run _ _ _).mono (fun r h c => ?_) (Cert.Reference5Ideal.Value.run m' g')
    obtain ⟨h0, h1⟩ := he c
    refine ⟨(h c).1.trans ?_, (h c).2.1.trans ?_, (h c).2.2.1.trans ?_, (h c).2.2.2⟩
    · rw [Cert.Reference5Ideal.Read.val_main_v7_eq, h0, h1]
    · rw [Cert.Reference5Ideal.Read.val_main_v8_eq, h0, h1]
    · rw [Cert.Reference5Ideal.Read.val_main_v11_eq, h0, h1]

end Ffn.In

end
-- ==== Proof.MmFrames.lean ====
/-
The frames of the calls of one step on words: each program on words is the same text as the one over the
reals, so one proof, stated for any floats, serves both.
-/
module

public import proofs.«01_k».proof.Defs
public import proofs.«01_k».proof.Proof.Tables
public import proofs.«01_k».proof.Proof.Gen.Kernel6
public import proofs.«01_k».proof.Proof.Gen.Kernel6Ideal.Frame
public import proofs.«01_k».proof.Proof.Gen.Kernel7
public import proofs.«01_k».proof.Proof.Gen.Kernel7Ideal.Frame
public import proofs.«01_k».proof.Proof.Gen.Kernel8
public import proofs.«01_k».proof.Proof.Gen.Kernel8Ideal.Frame
public import proofs.«01_k».proof.Proof.Gen.Kernel9
public import proofs.«01_k».proof.Proof.Gen.Kernel9Ideal.Frame
public import proofs.«01_k».proof.Proof.Gen.Kernel10
public import proofs.«01_k».proof.Proof.Gen.Kernel10Ideal.Frame
public import proofs.«01_k».proof.Proof.Gen.Kernel11
public import proofs.«01_k».proof.Proof.Gen.Kernel11Ideal.Frame
public import proofs.«01_k».proof.Proof.Gen.Kernel12
public import proofs.«01_k».proof.Proof.Gen.Kernel12Ideal.Frame
public import proofs.«01_k».proof.Proof.Gen.Kernel13
public import proofs.«01_k».proof.Proof.Gen.Kernel13Ideal.Frame
public import proofs.«01_k».proof.Proof.Gen.Kernel14
public import proofs.«01_k».proof.Proof.Gen.Kernel14Ideal.Frame
public import proofs.«01_k».proof.Proof.Gen.Kernel15
public import proofs.«01_k».proof.Proof.Gen.Kernel15Ideal.Frame

@[expose] public section

noncomputable section

namespace Mm

open Idealize.ShloMosaic Idealize.SL.Sem

/-! ## Program 6 -/

set_option maxHeartbeats 4000000 in
theorem body_6 : @Cert.Kernel6.cc0_d_w_gates_pool Bits _ _ = @Cert.Kernel6Ideal.cc0_d_w_gates_pool Bits _ _ := rfl

set_option maxHeartbeats 4000000 in
theorem table_6 (l : Fin 1) (x) : @Cert.Kernel6.defs₀ Bits _ _ .tc l x = @Cert.Kernel6Ideal.defs₀ Bits _ _ .tc l x := by
  match l, x with
  | 0, (t, s) =>
    unfold Cert.Kernel6.defs₀ Cert.Kernel6Ideal.defs₀
    dsimp only [Defs.onTc_tc]
    rw [body_6]
    generalize @Cert.Kernel6Ideal.cc0_d_w_gates_pool Bits _ _ = f
    exact rfl
  | ⟨_ + 1, h⟩, _ => exact absurd h (Nat.not_lt.2 (Nat.le_add_left _ _))

theorem tables_6 : @Cert.Kernel6.defs₀ Bits _ _ = @Cert.Kernel6Ideal.defs₀ Bits _ _ := by
  refine funext fun p => ?_
  cases p with
  | tc => exact funext fun l => funext fun x => table_6 l x
  | scScalar _ =>
    unfold Cert.Kernel6.defs₀ Cert.Kernel6Ideal.defs₀
    exact Fox.scalar_none _ _ _
  | scVector _ _ =>
    unfold Cert.Kernel6.defs₀ Cert.Kernel6Ideal.defs₀
    exact Fox.vector_none _ _ _ _

set_option maxHeartbeats 4000000 in
theorem defs_6 : @Cert.Kernel6.defs Bits _ _ = @Cert.Kernel6Ideal.defs Bits _ _ := by
  unfold Cert.Kernel6.defs Cert.Kernel6Ideal.defs
  rw [tables_6]
  generalize @Cert.Kernel6Ideal.defs₀ Bits _ _ = f
  exact rfl

set_option maxHeartbeats 4000000 in
theorem main_6 : @Cert.Kernel6.main Bits _ = @Cert.Kernel6Ideal.main Bits _ := rfl

set_option maxHeartbeats 4000000 in
theorem frame_6 : Cert.quiescent_Kernel6 := fun m ρ _ => by
  have h := @Cert.Kernel6Ideal.Gen.frame Bits _ m ρ
  rw [← defs_6, ← main_6] at h
  exact h

/-! ## Program 7 -/

set_option maxHeartbeats 4000000 in
theorem body_7 : @Cert.Kernel7.cc0_d_h Bits _ _ = @Cert.Kernel7Ideal.cc0_d_h Bits _ _ := rfl

set_option maxHeartbeats 4000000 in
theorem table_7 (l : Fin 1) (x) : @Cert.Kernel7.defs₀ Bits _ _ .tc l x = @Cert.Kernel7Ideal.defs₀ Bits _ _ .tc l x := by
  match l, x with
  | 0, (t, s) =>
    unfold Cert.Kernel7.defs₀ Cert.Kernel7Ideal.defs₀
    dsimp only [Defs.onTc_tc]
    rw [body_7]
    generalize @Cert.Kernel7Ideal.cc0_d_h Bits _ _ = f
    exact rfl
  | ⟨_ + 1, h⟩, _ => exact absurd h (Nat.not_lt.2 (Nat.le_add_left _ _))

theorem tables_7 : @Cert.Kernel7.defs₀ Bits _ _ = @Cert.Kernel7Ideal.defs₀ Bits _ _ := by
  refine funext fun p => ?_
  cases p with
  | tc => exact funext fun l => funext fun x => table_7 l x
  | scScalar _ =>
    unfold Cert.Kernel7.defs₀ Cert.Kernel7Ideal.defs₀
    exact Fox.scalar_none _ _ _
  | scVector _ _ =>
    unfold Cert.Kernel7.defs₀ Cert.Kernel7Ideal.defs₀
    exact Fox.vector_none _ _ _ _

set_option maxHeartbeats 4000000 in
theorem defs_7 : @Cert.Kernel7.defs Bits _ _ = @Cert.Kernel7Ideal.defs Bits _ _ := by
  unfold Cert.Kernel7.defs Cert.Kernel7Ideal.defs
  rw [tables_7]
  generalize @Cert.Kernel7Ideal.defs₀ Bits _ _ = f
  exact rfl

set_option maxHeartbeats 4000000 in
theorem main_7 : @Cert.Kernel7.main Bits _ = @Cert.Kernel7Ideal.main Bits _ := rfl

set_option maxHeartbeats 4000000 in
theorem frame_7 : Cert.quiescent_Kernel7 := fun m ρ _ => by
  have h := @Cert.Kernel7Ideal.Gen.frame Bits _ m ρ
  rw [← defs_7, ← main_7] at h
  exact h

/-! ## Program 8 -/

set_option maxHeartbeats 4000000 in
theorem body_8 : @Cert.Kernel8.cc0_in_proj_gates_pool Bits _ _ = @Cert.Kernel8Ideal.cc0_in_proj_gates_pool Bits _ _ := rfl

set_option maxHeartbeats 4000000 in
theorem table_8 (l : Fin 1) (x) : @Cert.Kernel8.defs₀ Bits _ _ .tc l x = @Cert.Kernel8Ideal.defs₀ Bits _ _ .tc l x := by
  match l, x with
  | 0, (t, s) =>
    unfold Cert.Kernel8.defs₀ Cert.Kernel8Ideal.defs₀
    dsimp only [Defs.onTc_tc]
    rw [body_8]
    generalize @Cert.Kernel8Ideal.cc0_in_proj_gates_pool Bits _ _ = f
    exact rfl
  | ⟨_ + 1, h⟩, _ => exact absurd h (Nat.not_lt.2 (Nat.le_add_left _ _))

theorem tables_8 : @Cert.Kernel8.defs₀ Bits _ _ = @Cert.Kernel8Ideal.defs₀ Bits _ _ := by
  refine funext fun p => ?_
  cases p with
  | tc => exact funext fun l => funext fun x => table_8 l x
  | scScalar _ =>
    unfold Cert.Kernel8.defs₀ Cert.Kernel8Ideal.defs₀
    exact Fox.scalar_none _ _ _
  | scVector _ _ =>
    unfold Cert.Kernel8.defs₀ Cert.Kernel8Ideal.defs₀
    exact Fox.vector_none _ _ _ _

set_option maxHeartbeats 4000000 in
theorem defs_8 : @Cert.Kernel8.defs Bits _ _ = @Cert.Kernel8Ideal.defs Bits _ _ := by
  unfold Cert.Kernel8.defs Cert.Kernel8Ideal.defs
  rw [tables_8]
  generalize @Cert.Kernel8Ideal.defs₀ Bits _ _ = f
  exact rfl

set_option maxHeartbeats 4000000 in
theorem main_8 : @Cert.Kernel8.main Bits _ = @Cert.Kernel8Ideal.main Bits _ := rfl

set_option maxHeartbeats 4000000 in
theorem frame_8 : Cert.quiescent_Kernel8 := fun m ρ _ => by
  have h := @Cert.Kernel8Ideal.Gen.frame Bits _ m ρ
  rw [← defs_8, ← main_8] at h
  exact h

/-! ## Program 9 -/

set_option maxHeartbeats 4000000 in
theorem body_9 : @Cert.Kernel9.cc0_in_proj_attn Bits _ _ = @Cert.Kernel9Ideal.cc0_in_proj_attn Bits _ _ := rfl

set_option maxHeartbeats 4000000 in
theorem table_9 (l : Fin 1) (x) : @Cert.Kernel9.defs₀ Bits _ _ .tc l x = @Cert.Kernel9Ideal.defs₀ Bits _ _ .tc l x := by
  match l, x with
  | 0, (t, s) =>
    unfold Cert.Kernel9.defs₀ Cert.Kernel9Ideal.defs₀
    dsimp only [Defs.onTc_tc]
    rw [body_9]
    generalize @Cert.Kernel9Ideal.cc0_in_proj_attn Bits _ _ = f
    exact rfl
  | ⟨_ + 1, h⟩, _ => exact absurd h (Nat.not_lt.2 (Nat.le_add_left _ _))

theorem tables_9 : @Cert.Kernel9.defs₀ Bits _ _ = @Cert.Kernel9Ideal.defs₀ Bits _ _ := by
  refine funext fun p => ?_
  cases p with
  | tc => exact funext fun l => funext fun x => table_9 l x
  | scScalar _ =>
    unfold Cert.Kernel9.defs₀ Cert.Kernel9Ideal.defs₀
    exact Fox.scalar_none _ _ _
  | scVector _ _ =>
    unfold Cert.Kernel9.defs₀ Cert.Kernel9Ideal.defs₀
    exact Fox.vector_none _ _ _ _

set_option maxHeartbeats 4000000 in
theorem defs_9 : @Cert.Kernel9.defs Bits _ _ = @Cert.Kernel9Ideal.defs Bits _ _ := by
  unfold Cert.Kernel9.defs Cert.Kernel9Ideal.defs
  rw [tables_9]
  generalize @Cert.Kernel9Ideal.defs₀ Bits _ _ = f
  exact rfl

set_option maxHeartbeats 4000000 in
theorem main_9 : @Cert.Kernel9.main Bits _ = @Cert.Kernel9Ideal.main Bits _ := rfl

set_option maxHeartbeats 4000000 in
theorem frame_9 : Cert.quiescent_Kernel9 := fun m ρ _ => by
  have h := @Cert.Kernel9Ideal.Gen.frame Bits _ m ρ
  rw [← defs_9, ← main_9] at h
  exact h

/-! ## Program 10 -/

set_option maxHeartbeats 4000000 in
theorem body_10 : @Cert.Kernel10.cc0_d_w_out Bits _ _ = @Cert.Kernel10Ideal.cc0_d_w_out Bits _ _ := rfl

set_option maxHeartbeats 4000000 in
theorem table_10 (l : Fin 1) (x) : @Cert.Kernel10.defs₀ Bits _ _ .tc l x = @Cert.Kernel10Ideal.defs₀ Bits _ _ .tc l x := by
  match l, x with
  | 0, (t, s) =>
    unfold Cert.Kernel10.defs₀ Cert.Kernel10Ideal.defs₀
    dsimp only [Defs.onTc_tc]
    rw [body_10]
    generalize @Cert.Kernel10Ideal.cc0_d_w_out Bits _ _ = f
    exact rfl
  | ⟨_ + 1, h⟩, _ => exact absurd h (Nat.not_lt.2 (Nat.le_add_left _ _))

theorem tables_10 : @Cert.Kernel10.defs₀ Bits _ _ = @Cert.Kernel10Ideal.defs₀ Bits _ _ := by
  refine funext fun p => ?_
  cases p with
  | tc => exact funext fun l => funext fun x => table_10 l x
  | scScalar _ =>
    unfold Cert.Kernel10.defs₀ Cert.Kernel10Ideal.defs₀
    exact Fox.scalar_none _ _ _
  | scVector _ _ =>
    unfold Cert.Kernel10.defs₀ Cert.Kernel10Ideal.defs₀
    exact Fox.vector_none _ _ _ _

set_option maxHeartbeats 4000000 in
theorem defs_10 : @Cert.Kernel10.defs Bits _ _ = @Cert.Kernel10Ideal.defs Bits _ _ := by
  unfold Cert.Kernel10.defs Cert.Kernel10Ideal.defs
  rw [tables_10]
  generalize @Cert.Kernel10Ideal.defs₀ Bits _ _ = f
  exact rfl

set_option maxHeartbeats 4000000 in
theorem main_10 : @Cert.Kernel10.main Bits _ = @Cert.Kernel10Ideal.main Bits _ := rfl

set_option maxHeartbeats 4000000 in
theorem frame_10 : Cert.quiescent_Kernel10 := fun m ρ _ => by
  have h := @Cert.Kernel10Ideal.Gen.frame Bits _ m ρ
  rw [← defs_10, ← main_10] at h
  exact h

/-! ## Program 11 -/

set_option maxHeartbeats 4000000 in
theorem body_11 : @Cert.Kernel11.cc0_d_w_xo Bits _ _ = @Cert.Kernel11Ideal.cc0_d_w_xo Bits _ _ := rfl

set_option maxHeartbeats 4000000 in
theorem table_11 (l : Fin 1) (x) : @Cert.Kernel11.defs₀ Bits _ _ .tc l x = @Cert.Kernel11Ideal.defs₀ Bits _ _ .tc l x := by
  match l, x with
  | 0, (t, s) =>
    unfold Cert.Kernel11.defs₀ Cert.Kernel11Ideal.defs₀
    dsimp only [Defs.onTc_tc]
    rw [body_11]
    generalize @Cert.Kernel11Ideal.cc0_d_w_xo Bits _ _ = f
    exact rfl
  | ⟨_ + 1, h⟩, _ => exact absurd h (Nat.not_lt.2 (Nat.le_add_left _ _))

theorem tables_11 : @Cert.Kernel11.defs₀ Bits _ _ = @Cert.Kernel11Ideal.defs₀ Bits _ _ := by
  refine funext fun p => ?_
  cases p with
  | tc => exact funext fun l => funext fun x => table_11 l x
  | scScalar _ =>
    unfold Cert.Kernel11.defs₀ Cert.Kernel11Ideal.defs₀
    exact Fox.scalar_none _ _ _
  | scVector _ _ =>
    unfold Cert.Kernel11.defs₀ Cert.Kernel11Ideal.defs₀
    exact Fox.vector_none _ _ _ _

set_option maxHeartbeats 4000000 in
theorem defs_11 : @Cert.Kernel11.defs Bits _ _ = @Cert.Kernel11Ideal.defs Bits _ _ := by
  unfold Cert.Kernel11.defs Cert.Kernel11Ideal.defs
  rw [tables_11]
  generalize @Cert.Kernel11Ideal.defs₀ Bits _ _ = f
  exact rfl

set_option maxHeartbeats 4000000 in
theorem main_11 : @Cert.Kernel11.main Bits _ = @Cert.Kernel11Ideal.main Bits _ := rfl

set_option maxHeartbeats 4000000 in
theorem frame_11 : Cert.quiescent_Kernel11 := fun m ρ _ => by
  have h := @Cert.Kernel11Ideal.Gen.frame Bits _ m ρ
  rw [← defs_11, ← main_11] at h
  exact h

/-! ## Program 12 -/

set_option maxHeartbeats 4000000 in
theorem body_12 : @Cert.Kernel12.cc0_d_w_q Bits _ _ = @Cert.Kernel12Ideal.cc0_d_w_q Bits _ _ := rfl

set_option maxHeartbeats 4000000 in
theorem table_12 (l : Fin 1) (x) : @Cert.Kernel12.defs₀ Bits _ _ .tc l x = @Cert.Kernel12Ideal.defs₀ Bits _ _ .tc l x := by
  match l, x with
  | 0, (t, s) =>
    unfold Cert.Kernel12.defs₀ Cert.Kernel12Ideal.defs₀
    dsimp only [Defs.onTc_tc]
    rw [body_12]
    generalize @Cert.Kernel12Ideal.cc0_d_w_q Bits _ _ = f
    exact rfl
  | ⟨_ + 1, h⟩, _ => exact absurd h (Nat.not_lt.2 (Nat.le_add_left _ _))

theorem tables_12 : @Cert.Kernel12.defs₀ Bits _ _ = @Cert.Kernel12Ideal.defs₀ Bits _ _ := by
  refine funext fun p => ?_
  cases p with
  | tc => exact funext fun l => funext fun x => table_12 l x
  | scScalar _ =>
    unfold Cert.Kernel12.defs₀ Cert.Kernel12Ideal.defs₀
    exact Fox.scalar_none _ _ _
  | scVector _ _ =>
    unfold Cert.Kernel12.defs₀ Cert.Kernel12Ideal.defs₀
    exact Fox.vector_none _ _ _ _

set_option maxHeartbeats 4000000 in
theorem defs_12 : @Cert.Kernel12.defs Bits _ _ = @Cert.Kernel12Ideal.defs Bits _ _ := by
  unfold Cert.Kernel12.defs Cert.Kernel12Ideal.defs
  rw [tables_12]
  generalize @Cert.Kernel12Ideal.defs₀ Bits _ _ = f
  exact rfl

set_option maxHeartbeats 4000000 in
theorem main_12 : @Cert.Kernel12.main Bits _ = @Cert.Kernel12Ideal.main Bits _ := rfl

set_option maxHeartbeats 4000000 in
theorem frame_12 : Cert.quiescent_Kernel12 := fun m ρ _ => by
  have h := @Cert.Kernel12Ideal.Gen.frame Bits _ m ρ
  rw [← defs_12, ← main_12] at h
  exact h

/-! ## Program 13 -/

set_option maxHeartbeats 4000000 in
theorem body_13 : @Cert.Kernel13.cc0_d_w_xq Bits _ _ = @Cert.Kernel13Ideal.cc0_d_w_xq Bits _ _ := rfl

set_option maxHeartbeats 4000000 in
theorem table_13 (l : Fin 1) (x) : @Cert.Kernel13.defs₀ Bits _ _ .tc l x = @Cert.Kernel13Ideal.defs₀ Bits _ _ .tc l x := by
  match l, x with
  | 0, (t, s) =>
    unfold Cert.Kernel13.defs₀ Cert.Kernel13Ideal.defs₀
    dsimp only [Defs.onTc_tc]
    rw [body_13]
    generalize @Cert.Kernel13Ideal.cc0_d_w_xq Bits _ _ = f
    exact rfl
  | ⟨_ + 1, h⟩, _ => exact absurd h (Nat.not_lt.2 (Nat.le_add_left _ _))

theorem tables_13 : @Cert.Kernel13.defs₀ Bits _ _ = @Cert.Kernel13Ideal.defs₀ Bits _ _ := by
  refine funext fun p => ?_
  cases p with
  | tc => exact funext fun l => funext fun x => table_13 l x
  | scScalar _ =>
    unfold Cert.Kernel13.defs₀ Cert.Kernel13Ideal.defs₀
    exact Fox.scalar_none _ _ _
  | scVector _ _ =>
    unfold Cert.Kernel13.defs₀ Cert.Kernel13Ideal.defs₀
    exact Fox.vector_none _ _ _ _

set_option maxHeartbeats 4000000 in
theorem defs_13 : @Cert.Kernel13.defs Bits _ _ = @Cert.Kernel13Ideal.defs Bits _ _ := by
  unfold Cert.Kernel13.defs Cert.Kernel13Ideal.defs
  rw [tables_13]
  generalize @Cert.Kernel13Ideal.defs₀ Bits _ _ = f
  exact rfl

set_option maxHeartbeats 4000000 in
theorem main_13 : @Cert.Kernel13.main Bits _ = @Cert.Kernel13Ideal.main Bits _ := rfl

set_option maxHeartbeats 4000000 in
theorem frame_13 : Cert.quiescent_Kernel13 := fun m ρ _ => by
  have h := @Cert.Kernel13Ideal.Gen.frame Bits _ m ρ
  rw [← defs_13, ← main_13] at h
  exact h

/-! ## Program 14 -/

set_option maxHeartbeats 4000000 in
theorem body_14 : @Cert.Kernel14.cc0_d_o Bits _ _ = @Cert.Kernel14Ideal.cc0_d_o Bits _ _ := rfl

set_option maxHeartbeats 4000000 in
theorem table_14 (l : Fin 1) (x) : @Cert.Kernel14.defs₀ Bits _ _ .tc l x = @Cert.Kernel14Ideal.defs₀ Bits _ _ .tc l x := by
  match l, x with
  | 0, (t, s) =>
    unfold Cert.Kernel14.defs₀ Cert.Kernel14Ideal.defs₀
    dsimp only [Defs.onTc_tc]
    rw [body_14]
    generalize @Cert.Kernel14Ideal.cc0_d_o Bits _ _ = f
    exact rfl
  | ⟨_ + 1, h⟩, _ => exact absurd h (Nat.not_lt.2 (Nat.le_add_left _ _))

theorem tables_14 : @Cert.Kernel14.defs₀ Bits _ _ = @Cert.Kernel14Ideal.defs₀ Bits _ _ := by
  refine funext fun p => ?_
  cases p with
  | tc => exact funext fun l => funext fun x => table_14 l x
  | scScalar _ =>
    unfold Cert.Kernel14.defs₀ Cert.Kernel14Ideal.defs₀
    exact Fox.scalar_none _ _ _
  | scVector _ _ =>
    unfold Cert.Kernel14.defs₀ Cert.Kernel14Ideal.defs₀
    exact Fox.vector_none _ _ _ _

set_option maxHeartbeats 4000000 in
theorem defs_14 : @Cert.Kernel14.defs Bits _ _ = @Cert.Kernel14Ideal.defs Bits _ _ := by
  unfold Cert.Kernel14.defs Cert.Kernel14Ideal.defs
  rw [tables_14]
  generalize @Cert.Kernel14Ideal.defs₀ Bits _ _ = f
  exact rfl

set_option maxHeartbeats 4000000 in
theorem main_14 : @Cert.Kernel14.main Bits _ = @Cert.Kernel14Ideal.main Bits _ := rfl

set_option maxHeartbeats 4000000 in
theorem frame_14 : Cert.quiescent_Kernel14 := fun m ρ _ => by
  have h := @Cert.Kernel14Ideal.Gen.frame Bits _ m ρ
  rw [← defs_14, ← main_14] at h
  exact h

/-! ## Program 15 -/

set_option maxHeartbeats 4000000 in
theorem body_15 : @Cert.Kernel15.cc0_x_q Bits _ _ = @Cert.Kernel15Ideal.cc0_x_q Bits _ _ := rfl

set_option maxHeartbeats 4000000 in
theorem table_15 (l : Fin 1) (x) : @Cert.Kernel15.defs₀ Bits _ _ .tc l x = @Cert.Kernel15Ideal.defs₀ Bits _ _ .tc l x := by
  match l, x with
  | 0, (t, s) =>
    unfold Cert.Kernel15.defs₀ Cert.Kernel15Ideal.defs₀
    dsimp only [Defs.onTc_tc]
    rw [body_15]
    generalize @Cert.Kernel15Ideal.cc0_x_q Bits _ _ = f
    exact rfl
  | ⟨_ + 1, h⟩, _ => exact absurd h (Nat.not_lt.2 (Nat.le_add_left _ _))

theorem tables_15 : @Cert.Kernel15.defs₀ Bits _ _ = @Cert.Kernel15Ideal.defs₀ Bits _ _ := by
  refine funext fun p => ?_
  cases p with
  | tc => exact funext fun l => funext fun x => table_15 l x
  | scScalar _ =>
    unfold Cert.Kernel15.defs₀ Cert.Kernel15Ideal.defs₀
    exact Fox.scalar_none _ _ _
  | scVector _ _ =>
    unfold Cert.Kernel15.defs₀ Cert.Kernel15Ideal.defs₀
    exact Fox.vector_none _ _ _ _

set_option maxHeartbeats 4000000 in
theorem defs_15 : @Cert.Kernel15.defs Bits _ _ = @Cert.Kernel15Ideal.defs Bits _ _ := by
  unfold Cert.Kernel15.defs Cert.Kernel15Ideal.defs
  rw [tables_15]
  generalize @Cert.Kernel15Ideal.defs₀ Bits _ _ = f
  exact rfl

set_option maxHeartbeats 4000000 in
theorem main_15 : @Cert.Kernel15.main Bits _ = @Cert.Kernel15Ideal.main Bits _ := rfl

set_option maxHeartbeats 4000000 in
theorem frame_15 : Cert.quiescent_Kernel15 := fun m ρ _ => by
  have h := @Cert.Kernel15Ideal.Gen.frame Bits _ m ρ
  rw [← defs_15, ← main_15] at h
  exact h

end Mm

end
-- ==== Proof.DwGates.lean ====
/-
The gradient of the gates' and the pooling branch's input weights: each point of the grid is the product of 640 columns of the
incoming gradient with the input, over all 4096 rows.
-/
module

public import proofs.«01_k».proof.Proof.Halves
public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit

@[expose] public section

noncomputable section

set_option maxRecDepth 65536

namespace Mm.DwGates

open Idealize.ShloMosaic Idealize.ShloMosaic.TcCoe Idealize.SL.Sem Cert.Kernel6Ideal Cert.Kernel6Ideal.Gen Ffn
open scoped Pointwise

/-! ## What one point of the grid leaves -/

theorem zero2 : (![0, 0] : Fin 2 → Nat) = fun _ => 0 := funext fun a => by fin_cases a <;> rfl
theorem zero3 : (![0, 0, 0] : Fin 3 → Nat) = fun _ => 0 := funext fun a => by fin_cases a <;> rfl

/-- The value that a point writes to window 2, at an index. -/
theorem pay2_at (x0 : Vec Ideal S4096x640 .bf16) (x1 : Vec Ideal S4096x1024 .bf16) (r : Fin 640) (l : Fin 1024) :
    k0_pay1 x0 x1 (ix2 r l) = (∑ k : Fin 4096, x0 (ix2 k r) * x1 (ix2 k l)) := by
  pointwise [k0_pay1]

theorem out2_eq (x0 : Vec Ideal S4096x640 .bf16) (x1 : Vec Ideal S4096x1024 .bf16) :
    out0_2 x0 x1 = k0_pay1 x0 x1 := by
  unfold out0_2
  rw [View.canon_unit_zero zero2]
  simp only [View.ld_unit_zero (S := S4096x640) zero2, View.ld_unit_zero (S := S4096x1024) zero2]

/-! ## The blocks -/

variable (m : (ℓ : Loc nD τ sig) → Buf (Elt Ideal) ℓ)

abbrev arg0 (c : Dev nD) : FVec Ideal S4096x2560 .bf16 := m ((c : Thread nD τ).loc main_arg0)
abbrev arg1 (c : Dev nD) : FVec Ideal S4096x1024 .bf16 := m ((c : Thread nD τ).loc main_arg1)

theorem at_0 : ∀ t : Fin cfg0.N, win0_0.index t = ![0, t.val] := (by decide +kernel : ∀ t : Fin grid0.N, _)

theorem blk_0 (c : Dev nD) (t : Fin cfg0.N) (p : Fin 4096) (q : Fin 640) :
    iblk m c 0 t (ix2 p q) = arg0 m c (ix2 p (⟨640 * (t.val) + q.val, by have h := lt_of_lt_of_eq t.isLt N_0; omega⟩ : Fin 2560)) := by
  unfold iblk
  rw [View.read_apply]
  show arg0 m c _ = arg0 m c _
  congr 1
  funext a
  apply Fin.ext
  have e := at_0 t
  match a with
  | ⟨0, _⟩ => show win0_0.index t 0 * 4096 + 1 * p.val = p.val; rw [e]; show (0) * 4096 + 1 * p.val = _; omega
  | ⟨1, _⟩ => show win0_0.index t 1 * 640 + 1 * q.val = 640 * (t.val) + q.val; rw [e]; show (t.val) * 640 + 1 * q.val = _; omega

theorem at_1 : ∀ t : Fin cfg0.N, win0_1.index t = ![0, 0] := (by decide +kernel : ∀ t : Fin grid0.N, _)

theorem blk_1 (c : Dev nD) (t : Fin cfg0.N) (p : Fin 4096) (q : Fin 1024) :
    iblk m c 1 t (ix2 p q) = arg1 m c (ix2 p q) := by
  unfold iblk
  rw [View.read_apply]
  show arg1 m c _ = arg1 m c _
  congr 1
  funext a
  apply Fin.ext
  have e := at_1 t
  match a with
  | ⟨0, _⟩ => show win0_1.index t 0 * 4096 + 1 * p.val = p.val; rw [e]; show (0) * 4096 + 1 * p.val = _; omega
  | ⟨1, _⟩ => show win0_1.index t 1 * 1024 + 1 * q.val = q.val; rw [e]; show (0) * 1024 + 1 * q.val = _; omega

theorem at_2 : ∀ t : Fin cfg0.N, win0_2.index t = ![t.val, 0] := (by decide +kernel : ∀ t : Fin grid0.N, _)

theorem read_2 (X : FVec Ideal S2560x1024 .f32) (t : Fin cfg0.N) (r : Fin 640) (l : Fin 1024) :
    ((cfg0.win 2).blk t).view.read (Elt Ideal) X (ix2 r l) = X (ix2 (⟨640 * (t.val) + r.val, by have h := lt_of_lt_of_eq t.isLt N_0; omega⟩ : Fin 2560) l) := by
  rw [View.read_apply]
  show X _ = X _
  congr 1
  funext a
  apply Fin.ext
  have e := at_2 t
  match a with
  | ⟨0, _⟩ => show win0_2.index t 0 * 640 + 1 * r.val = 640 * (t.val) + r.val; rw [e]; show (t.val) * 640 + 1 * r.val = _; omega
  | ⟨1, _⟩ => show win0_2.index t 1 * 1024 + 1 * l.val = l.val; rw [e]; show (0) * 1024 + 1 * l.val = _; omega

/-! ## The reference's values -/

theorem ref2_at (x0 : FVec Ideal S4096x2560 .bf16) (x1 : FVec Ideal S4096x1024 .bf16) (t : Fin cfg0.N) (r : Fin 640) (l : Fin 1024) :
    Cert.Reference6Ideal.Read.val_main_v6 (F := Ideal) x0 x1 (ix2 (⟨640 * (t.val) + r.val, by have h := lt_of_lt_of_eq t.isLt N_0; omega⟩ : Fin 2560) l)
      = (∑ k : Fin 4096, x0 (ix2 k (⟨640 * (t.val) + r.val, by have h := lt_of_lt_of_eq t.isLt N_0; omega⟩ : Fin 2560)) * x1 (ix2 k l)) := by
  refine (Cert.Reference6Ideal.Read.val_main_v6_apply (F := Ideal) x0 x1 _).trans ((Cert.Reference6Ideal.Read.val_main_v5_apply (F := Ideal) x0 x1 _).trans ((Cert.Reference6Ideal.Read.val_main_v4_apply x0 x1 _).trans ?_))
  refine Finset.sum_congr rfl fun k _ => ?_
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

/-! ## The arrays -/

theorem arr_2 (c : Dev nD) : (dats m 0 c).arrAt 2 cfg0.N = Cert.Reference6Ideal.Read.val_main_v6 (F := Ideal) (arg0 m c) (arg1 m c) := by
  have key : ∀ (t : Fin cfg0.N) (y : S640x1024.Idx), out0_2 (iblk m c 0 t) (iblk m c 1 t) y
      = ((cfg0.win 2).blk t).view.read (Elt Ideal) (Cert.Reference6Ideal.Read.val_main_v6 (F := Ideal) (arg0 m c) (arg1 m c)) y := fun t y => by
    obtain ⟨r, l, rfl⟩ : ∃ (r : Fin 640) (l : Fin 1024), y = ix2 r l := ⟨y 0, y 1, eta_two y⟩
    refine Eq.trans ?_ (read_2 _ t r l).symm
    refine (congrFun (out2_eq (iblk m c 0 t) (iblk m c 1 t)) (ix2 r l)).trans ((pay2_at (iblk m c 0 t) (iblk m c 1 t) r l).trans (Eq.trans ?_ (ref2_at (arg0 m c) (arg1 m c) t r l).symm))
    exact (Finset.sum_congr rfl fun k _ => congrArg₂ (· * ·) (blk_0 m c t k r) (blk_1 m c t k l))
  refine (dats m 0 c).arrAt_eq_of_cover 2 _ (fun t hf => ?_) ((by decide +kernel : (cfg0.win 2).Covers).cover _ (Memref.isWhole_whole _))
  rw [Value.flushed2]
  exact funext fun y => key t y

/-! ## The claims -/

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h =>
    ⟨fun c => (h c).2, sem_eq_zero_of_no_sems (by decide) _⟩) (Cert.Reference6Ideal.Value.run m ρ)

/-- The kernel's results and the reference's are equal, on any arguments. -/
theorem algebraic : Cert.algebraic_Kernel6Ideal_Reference6Ideal := fun m g m' g' _ he => by
  refine ⟨fun c => Cert.Reference6Ideal.Read.val_main_v6 (F := Ideal) (arg0 m c) (arg1 m c), ?_, ?_⟩
  · refine (θ_run _ _ _).mono (fun r h c => ?_) (Cert.Kernel6Ideal.Value.run_blocks m g)
    exact ⟨(h c).1.trans (arr_2 m c), (h c).2⟩
  · refine (θ_run _ _ _).mono (fun r h c => ?_) (Cert.Reference6Ideal.Value.run m' g')
    obtain ⟨h0, h1⟩ := he c
    refine ⟨(h c).1.trans ?_, (h c).2⟩
    · rw [Cert.Reference6Ideal.Read.val_main_v6_eq, h0, h1]

end Mm.DwGates

end
-- ==== Proof.InputGrad.lean ====
/-
The gradient at the input of the four input projections: each point of the grid is one block of 512 rows of the sum of four
products, which the reference adds in the other order.
-/
module

public import proofs.«01_k».proof.Proof.Halves
public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit

@[expose] public section

noncomputable section

set_option maxRecDepth 65536

namespace Mm.InputGrad

open Idealize.ShloMosaic Idealize.ShloMosaic.TcCoe Idealize.SL.Sem Cert.Kernel7Ideal Cert.Kernel7Ideal.Gen Ffn
open scoped Pointwise

/-! ## What one point of the grid leaves -/

theorem zero2 : (![0, 0] : Fin 2 → Nat) = fun _ => 0 := funext fun a => by fin_cases a <;> rfl
theorem zero3 : (![0, 0, 0] : Fin 3 → Nat) = fun _ => 0 := funext fun a => by fin_cases a <;> rfl

/-- The value that a point writes to window 8, at an index. -/
theorem pay8_at (x0 : Vec Ideal S512x2560 .bf16) (x1 : Vec Ideal S512x512 .bf16) (x2 : Vec Ideal S512x1024 .bf16) (x3 : Vec Ideal S512x128 .bf16) (x4 : Vec Ideal S2560x1024 .bf16) (x5 : Vec Ideal S512x1024 .bf16) (x6 : Vec Ideal S1024x1024 .bf16) (x7 : Vec Ideal S128x1024 .bf16) (r : Fin 512) (l : Fin 1024) :
    k0_pay1 x0 x4 x1 x5 x2 x6 x3 x7 (ix2 r l) = (∑ k : Fin 2560, x0 (ix2 r k) * x4 (ix2 k l)) + (∑ k : Fin 512, x1 (ix2 r k) * x5 (ix2 k l)) + (∑ k : Fin 1024, x2 (ix2 r k) * x6 (ix2 k l)) + (∑ k : Fin 128, x3 (ix2 r k) * x7 (ix2 k l)) := by
  pointwise [k0_pay1]

theorem out8_eq (x0 : Vec Ideal S512x2560 .bf16) (x1 : Vec Ideal S512x512 .bf16) (x2 : Vec Ideal S512x1024 .bf16) (x3 : Vec Ideal S512x128 .bf16) (x4 : Vec Ideal S2560x1024 .bf16) (x5 : Vec Ideal S512x1024 .bf16) (x6 : Vec Ideal S1024x1024 .bf16) (x7 : Vec Ideal S128x1024 .bf16) :
    out0_8 x0 x1 x2 x3 x4 x5 x6 x7 = k0_pay1 x0 x4 x1 x5 x2 x6 x3 x7 := by
  unfold out0_8
  rw [View.canon_unit_zero zero2]
  simp only [View.ld_unit_zero (S := S512x2560) zero2, View.ld_unit_zero (S := S512x512) zero2, View.ld_unit_zero (S := S512x1024) zero2, View.ld_unit_zero (S := S512x128) zero2, View.ld_unit_zero (S := S2560x1024) zero2, View.ld_unit_zero (S := S1024x1024) zero2, View.ld_unit_zero (S := S128x1024) zero2]

/-! ## The blocks -/

variable (m : (ℓ : Loc nD τ sig) → Buf (Elt Ideal) ℓ)

abbrev arg0 (c : Dev nD) : FVec Ideal S4096x2560 .bf16 := m ((c : Thread nD τ).loc main_arg0)
abbrev arg1 (c : Dev nD) : FVec Ideal S4096x512 .bf16 := m ((c : Thread nD τ).loc main_arg1)
abbrev arg2 (c : Dev nD) : FVec Ideal S4096x1024 .bf16 := m ((c : Thread nD τ).loc main_arg2)
abbrev arg3 (c : Dev nD) : FVec Ideal S4096x128 .bf16 := m ((c : Thread nD τ).loc main_arg3)
abbrev arg4 (c : Dev nD) : FVec Ideal S2560x1024 .bf16 := m ((c : Thread nD τ).loc main_arg4)
abbrev arg5 (c : Dev nD) : FVec Ideal S512x1024 .bf16 := m ((c : Thread nD τ).loc main_arg5)
abbrev arg6 (c : Dev nD) : FVec Ideal S1024x1024 .bf16 := m ((c : Thread nD τ).loc main_arg6)
abbrev arg7 (c : Dev nD) : FVec Ideal S128x1024 .bf16 := m ((c : Thread nD τ).loc main_arg7)

theorem at_0 : ∀ t : Fin cfg0.N, win0_0.index t = ![t.val, 0] := (by decide +kernel : ∀ t : Fin grid0.N, _)

theorem blk_0 (c : Dev nD) (t : Fin cfg0.N) (p : Fin 512) (q : Fin 2560) :
    iblk m c 0 t (ix2 p q) = arg0 m c (ix2 (⟨512 * (t.val) + p.val, by have h := lt_of_lt_of_eq t.isLt N_0; omega⟩ : Fin 4096) q) := by
  unfold iblk
  rw [View.read_apply]
  show arg0 m c _ = arg0 m c _
  congr 1
  funext a
  apply Fin.ext
  have e := at_0 t
  match a with
  | ⟨0, _⟩ => show win0_0.index t 0 * 512 + 1 * p.val = 512 * (t.val) + p.val; rw [e]; show (t.val) * 512 + 1 * p.val = _; omega
  | ⟨1, _⟩ => show win0_0.index t 1 * 2560 + 1 * q.val = q.val; rw [e]; show (0) * 2560 + 1 * q.val = _; omega

theorem at_1 : ∀ t : Fin cfg0.N, win0_1.index t = ![t.val, 0] := (by decide +kernel : ∀ t : Fin grid0.N, _)

theorem blk_1 (c : Dev nD) (t : Fin cfg0.N) (p : Fin 512) (q : Fin 512) :
    iblk m c 1 t (ix2 p q) = arg1 m c (ix2 (⟨512 * (t.val) + p.val, by have h := lt_of_lt_of_eq t.isLt N_0; omega⟩ : Fin 4096) q) := by
  unfold iblk
  rw [View.read_apply]
  show arg1 m c _ = arg1 m c _
  congr 1
  funext a
  apply Fin.ext
  have e := at_1 t
  match a with
  | ⟨0, _⟩ => show win0_1.index t 0 * 512 + 1 * p.val = 512 * (t.val) + p.val; rw [e]; show (t.val) * 512 + 1 * p.val = _; omega
  | ⟨1, _⟩ => show win0_1.index t 1 * 512 + 1 * q.val = q.val; rw [e]; show (0) * 512 + 1 * q.val = _; omega

theorem at_2 : ∀ t : Fin cfg0.N, win0_2.index t = ![t.val, 0] := (by decide +kernel : ∀ t : Fin grid0.N, _)

theorem blk_2 (c : Dev nD) (t : Fin cfg0.N) (p : Fin 512) (q : Fin 1024) :
    iblk m c 2 t (ix2 p q) = arg2 m c (ix2 (⟨512 * (t.val) + p.val, by have h := lt_of_lt_of_eq t.isLt N_0; omega⟩ : Fin 4096) q) := by
  unfold iblk
  rw [View.read_apply]
  show arg2 m c _ = arg2 m c _
  congr 1
  funext a
  apply Fin.ext
  have e := at_2 t
  match a with
  | ⟨0, _⟩ => show win0_2.index t 0 * 512 + 1 * p.val = 512 * (t.val) + p.val; rw [e]; show (t.val) * 512 + 1 * p.val = _; omega
  | ⟨1, _⟩ => show win0_2.index t 1 * 1024 + 1 * q.val = q.val; rw [e]; show (0) * 1024 + 1 * q.val = _; omega

theorem at_3 : ∀ t : Fin cfg0.N, win0_3.index t = ![t.val, 0] := (by decide +kernel : ∀ t : Fin grid0.N, _)

theorem blk_3 (c : Dev nD) (t : Fin cfg0.N) (p : Fin 512) (q : Fin 128) :
    iblk m c 3 t (ix2 p q) = arg3 m c (ix2 (⟨512 * (t.val) + p.val, by have h := lt_of_lt_of_eq t.isLt N_0; omega⟩ : Fin 4096) q) := by
  unfold iblk
  rw [View.read_apply]
  show arg3 m c _ = arg3 m c _
  congr 1
  funext a
  apply Fin.ext
  have e := at_3 t
  match a with
  | ⟨0, _⟩ => show win0_3.index t 0 * 512 + 1 * p.val = 512 * (t.val) + p.val; rw [e]; show (t.val) * 512 + 1 * p.val = _; omega
  | ⟨1, _⟩ => show win0_3.index t 1 * 128 + 1 * q.val = q.val; rw [e]; show (0) * 128 + 1 * q.val = _; omega

theorem at_4 : ∀ t : Fin cfg0.N, win0_4.index t = ![0, 0] := (by decide +kernel : ∀ t : Fin grid0.N, _)

theorem blk_4 (c : Dev nD) (t : Fin cfg0.N) (p : Fin 2560) (q : Fin 1024) :
    iblk m c 4 t (ix2 p q) = arg4 m c (ix2 p q) := by
  unfold iblk
  rw [View.read_apply]
  show arg4 m c _ = arg4 m c _
  congr 1
  funext a
  apply Fin.ext
  have e := at_4 t
  match a with
  | ⟨0, _⟩ => show win0_4.index t 0 * 2560 + 1 * p.val = p.val; rw [e]; show (0) * 2560 + 1 * p.val = _; omega
  | ⟨1, _⟩ => show win0_4.index t 1 * 1024 + 1 * q.val = q.val; rw [e]; show (0) * 1024 + 1 * q.val = _; omega

theorem at_5 : ∀ t : Fin cfg0.N, win0_5.index t = ![0, 0] := (by decide +kernel : ∀ t : Fin grid0.N, _)

theorem blk_5 (c : Dev nD) (t : Fin cfg0.N) (p : Fin 512) (q : Fin 1024) :
    iblk m c 5 t (ix2 p q) = arg5 m c (ix2 p q) := by
  unfold iblk
  rw [View.read_apply]
  show arg5 m c _ = arg5 m c _
  congr 1
  funext a
  apply Fin.ext
  have e := at_5 t
  match a with
  | ⟨0, _⟩ => show win0_5.index t 0 * 512 + 1 * p.val = p.val; rw [e]; show (0) * 512 + 1 * p.val = _; omega
  | ⟨1, _⟩ => show win0_5.index t 1 * 1024 + 1 * q.val = q.val; rw [e]; show (0) * 1024 + 1 * q.val = _; omega

theorem at_6 : ∀ t : Fin cfg0.N, win0_6.index t = ![0, 0] := (by decide +kernel : ∀ t : Fin grid0.N, _)

theorem blk_6 (c : Dev nD) (t : Fin cfg0.N) (p : Fin 1024) (q : Fin 1024) :
    iblk m c 6 t (ix2 p q) = arg6 m c (ix2 p q) := by
  unfold iblk
  rw [View.read_apply]
  show arg6 m c _ = arg6 m c _
  congr 1
  funext a
  apply Fin.ext
  have e := at_6 t
  match a with
  | ⟨0, _⟩ => show win0_6.index t 0 * 1024 + 1 * p.val = p.val; rw [e]; show (0) * 1024 + 1 * p.val = _; omega
  | ⟨1, _⟩ => show win0_6.index t 1 * 1024 + 1 * q.val = q.val; rw [e]; show (0) * 1024 + 1 * q.val = _; omega

theorem at_7 : ∀ t : Fin cfg0.N, win0_7.index t = ![0, 0] := (by decide +kernel : ∀ t : Fin grid0.N, _)

theorem blk_7 (c : Dev nD) (t : Fin cfg0.N) (p : Fin 128) (q : Fin 1024) :
    iblk m c 7 t (ix2 p q) = arg7 m c (ix2 p q) := by
  unfold iblk
  rw [View.read_apply]
  show arg7 m c _ = arg7 m c _
  congr 1
  funext a
  apply Fin.ext
  have e := at_7 t
  match a with
  | ⟨0, _⟩ => show win0_7.index t 0 * 128 + 1 * p.val = p.val; rw [e]; show (0) * 128 + 1 * p.val = _; omega
  | ⟨1, _⟩ => show win0_7.index t 1 * 1024 + 1 * q.val = q.val; rw [e]; show (0) * 1024 + 1 * q.val = _; omega

theorem at_8 : ∀ t : Fin cfg0.N, win0_8.index t = ![t.val, 0] := (by decide +kernel : ∀ t : Fin grid0.N, _)

theorem read_8 (X : FVec Ideal S4096x1024 .f32) (t : Fin cfg0.N) (r : Fin 512) (l : Fin 1024) :
    ((cfg0.win 8).blk t).view.read (Elt Ideal) X (ix2 r l) = X (ix2 (⟨512 * (t.val) + r.val, by have h := lt_of_lt_of_eq t.isLt N_0; omega⟩ : Fin 4096) l) := by
  rw [View.read_apply]
  show X _ = X _
  congr 1
  funext a
  apply Fin.ext
  have e := at_8 t
  match a with
  | ⟨0, _⟩ => show win0_8.index t 0 * 512 + 1 * r.val = 512 * (t.val) + r.val; rw [e]; show (t.val) * 512 + 1 * r.val = _; omega
  | ⟨1, _⟩ => show win0_8.index t 1 * 1024 + 1 * l.val = l.val; rw [e]; show (0) * 1024 + 1 * l.val = _; omega

/-! ## The reference's values -/

/-- Four terms added from the last to the first. -/
theorem sum_back (a b c d : EReal) : d + c + b + a = a + b + c + d := by
  abel

theorem ref8_at (x0 : FVec Ideal S4096x2560 .bf16) (x1 : FVec Ideal S4096x512 .bf16) (x2 : FVec Ideal S4096x1024 .bf16) (x3 : FVec Ideal S4096x128 .bf16) (x4 : FVec Ideal S2560x1024 .bf16) (x5 : FVec Ideal S512x1024 .bf16) (x6 : FVec Ideal S1024x1024 .bf16) (x7 : FVec Ideal S128x1024 .bf16) (t : Fin cfg0.N) (r : Fin 512) (l : Fin 1024) :
    Cert.Reference7Ideal.Read.val_main_v23 (F := Ideal) x0 x1 x2 x3 x4 x5 x6 x7 (ix2 (⟨512 * (t.val) + r.val, by have h := lt_of_lt_of_eq t.isLt N_0; omega⟩ : Fin 4096) l)
      = (∑ k : Fin 2560, x0 (ix2 (⟨512 * (t.val) + r.val, by have h := lt_of_lt_of_eq t.isLt N_0; omega⟩ : Fin 4096) k) * x4 (ix2 k l)) + (∑ k : Fin 512, x1 (ix2 (⟨512 * (t.val) + r.val, by have h := lt_of_lt_of_eq t.isLt N_0; omega⟩ : Fin 4096) k) * x5 (ix2 k l)) + (∑ k : Fin 1024, x2 (ix2 (⟨512 * (t.val) + r.val, by have h := lt_of_lt_of_eq t.isLt N_0; omega⟩ : Fin 4096) k) * x6 (ix2 k l)) + (∑ k : Fin 128, x3 (ix2 (⟨512 * (t.val) + r.val, by have h := lt_of_lt_of_eq t.isLt N_0; omega⟩ : Fin 4096) k) * x7 (ix2 k l)) := by
  have e0 : Cert.Reference7Ideal.Read.val_main_v22 (F := Ideal) x0 x4 (ix2 (⟨512 * (t.val) + r.val, by have h := lt_of_lt_of_eq t.isLt N_0; omega⟩ : Fin 4096) l)
      = ∑ k : Fin 2560, x0 (ix2 (⟨512 * (t.val) + r.val, by have h := lt_of_lt_of_eq t.isLt N_0; omega⟩ : Fin 4096) k) * x4 (ix2 k l) := by
    refine (Cert.Reference7Ideal.Read.val_main_v22_apply x0 x4 _).trans (Finset.sum_congr rfl fun k _ => ?_)
    refine congrArg₂ (· * ·) (congrArg x0 (funext fun a => Fin.ext ?_)) ((Cert.Reference7Ideal.Read.val_main_v1_apply (F := Ideal) x4 _).trans ((Cert.Reference7Ideal.Read.val_main_v0_apply (F := Ideal) x4 _).trans (congrArg x4 (funext fun a => Fin.ext ?_))))
    · match a with
      | ⟨0, _⟩ => rfl
      | ⟨1, _⟩ => rfl
    · match a with
      | ⟨0, _⟩ => rfl
      | ⟨1, _⟩ => rfl
  have e1 : Cert.Reference7Ideal.Read.val_main_v20 (F := Ideal) x1 x5 (ix2 (⟨512 * (t.val) + r.val, by have h := lt_of_lt_of_eq t.isLt N_0; omega⟩ : Fin 4096) l)
      = ∑ k : Fin 512, x1 (ix2 (⟨512 * (t.val) + r.val, by have h := lt_of_lt_of_eq t.isLt N_0; omega⟩ : Fin 4096) k) * x5 (ix2 k l) := by
    refine (Cert.Reference7Ideal.Read.val_main_v20_apply x1 x5 _).trans (Finset.sum_congr rfl fun k _ => ?_)
    refine congrArg₂ (· * ·) (congrArg x1 (funext fun a => Fin.ext ?_)) ((Cert.Reference7Ideal.Read.val_main_v3_apply (F := Ideal) x5 _).trans ((Cert.Reference7Ideal.Read.val_main_v2_apply (F := Ideal) x5 _).trans (congrArg x5 (funext fun a => Fin.ext ?_))))
    · match a with
      | ⟨0, _⟩ => rfl
      | ⟨1, _⟩ => rfl
    · match a with
      | ⟨0, _⟩ => rfl
      | ⟨1, _⟩ => rfl
  have e2 : Cert.Reference7Ideal.Read.val_main_v18 (F := Ideal) x2 x6 (ix2 (⟨512 * (t.val) + r.val, by have h := lt_of_lt_of_eq t.isLt N_0; omega⟩ : Fin 4096) l)
      = ∑ k : Fin 1024, x2 (ix2 (⟨512 * (t.val) + r.val, by have h := lt_of_lt_of_eq t.isLt N_0; omega⟩ : Fin 4096) k) * x6 (ix2 k l) := by
    refine (Cert.Reference7Ideal.Read.val_main_v18_apply x2 x6 _).trans (Finset.sum_congr rfl fun k _ => ?_)
    refine congrArg₂ (· * ·) (congrArg x2 (funext fun a => Fin.ext ?_)) ((Cert.Reference7Ideal.Read.val_main_v5_apply (F := Ideal) x6 _).trans ((Cert.Reference7Ideal.Read.val_main_v4_apply (F := Ideal) x6 _).trans (congrArg x6 (funext fun a => Fin.ext ?_))))
    · match a with
      | ⟨0, _⟩ => rfl
      | ⟨1, _⟩ => rfl
    · match a with
      | ⟨0, _⟩ => rfl
      | ⟨1, _⟩ => rfl
  have e3 : Cert.Reference7Ideal.Read.val_main_v17 (F := Ideal) x3 x7 (ix2 (⟨512 * (t.val) + r.val, by have h := lt_of_lt_of_eq t.isLt N_0; omega⟩ : Fin 4096) l)
      = ∑ k : Fin 128, x3 (ix2 (⟨512 * (t.val) + r.val, by have h := lt_of_lt_of_eq t.isLt N_0; omega⟩ : Fin 4096) k) * x7 (ix2 k l) := by
    refine (Cert.Reference7Ideal.Read.val_main_v17_apply x3 x7 _).trans (Finset.sum_congr rfl fun k _ => ?_)
    refine congrArg₂ (· * ·) (congrArg x3 (funext fun a => Fin.ext ?_)) ((Cert.Reference7Ideal.Read.val_main_v7_apply (F := Ideal) x7 _).trans ((Cert.Reference7Ideal.Read.val_main_v6_apply (F := Ideal) x7 _).trans (congrArg x7 (funext fun a => Fin.ext ?_))))
    · match a with
      | ⟨0, _⟩ => rfl
      | ⟨1, _⟩ => rfl
    · match a with
      | ⟨0, _⟩ => rfl
      | ⟨1, _⟩ => rfl
  refine (Cert.Reference7Ideal.Read.val_main_v23_apply (F := Ideal) x0 x1 x2 x3 x4 x5 x6 x7 _).trans ?_
  show ((Cert.Reference7Ideal.Read.val_main_v17 (F := Ideal) x3 x7 _ + Cert.Reference7Ideal.Read.val_main_v18 (F := Ideal) x2 x6 _) + Cert.Reference7Ideal.Read.val_main_v20 (F := Ideal) x1 x5 _
    + Cert.Reference7Ideal.Read.val_main_v22 (F := Ideal) x0 x4 _ : EReal) = _
  rw [e0, e1, e2, e3]
  exact sum_back _ _ _ _

/-! ## The arrays -/

theorem arr_8 (c : Dev nD) : (dats m 0 c).arrAt 8 cfg0.N = Cert.Reference7Ideal.Read.val_main_v23 (F := Ideal) (arg0 m c) (arg1 m c) (arg2 m c) (arg3 m c) (arg4 m c) (arg5 m c) (arg6 m c) (arg7 m c) := by
  have key : ∀ (t : Fin cfg0.N) (y : S512x1024.Idx), out0_8 (iblk m c 0 t) (iblk m c 1 t) (iblk m c 2 t) (iblk m c 3 t) (iblk m c 4 t) (iblk m c 5 t) (iblk m c 6 t) (iblk m c 7 t) y
      = ((cfg0.win 8).blk t).view.read (Elt Ideal) (Cert.Reference7Ideal.Read.val_main_v23 (F := Ideal) (arg0 m c) (arg1 m c) (arg2 m c) (arg3 m c) (arg4 m c) (arg5 m c) (arg6 m c) (arg7 m c)) y := fun t y => by
    obtain ⟨r, l, rfl⟩ : ∃ (r : Fin 512) (l : Fin 1024), y = ix2 r l := ⟨y 0, y 1, eta_two y⟩
    refine Eq.trans ?_ (read_8 _ t r l).symm
    refine (congrFun (out8_eq (iblk m c 0 t) (iblk m c 1 t) (iblk m c 2 t) (iblk m c 3 t) (iblk m c 4 t) (iblk m c 5 t) (iblk m c 6 t) (iblk m c 7 t)) (ix2 r l)).trans ((pay8_at (iblk m c 0 t) (iblk m c 1 t) (iblk m c 2 t) (iblk m c 3 t) (iblk m c 4 t) (iblk m c 5 t) (iblk m c 6 t) (iblk m c 7 t) r l).trans (Eq.trans ?_ (ref8_at (arg0 m c) (arg1 m c) (arg2 m c) (arg3 m c) (arg4 m c) (arg5 m c) (arg6 m c) (arg7 m c) t r l).symm))
    exact (congrArg₂ (· + ·) (congrArg₂ (· + ·) (congrArg₂ (· + ·) (Finset.sum_congr rfl fun k _ => congrArg₂ (· * ·) (blk_0 m c t r k) (blk_4 m c t k l)) (Finset.sum_congr rfl fun k _ => congrArg₂ (· * ·) (blk_1 m c t r k) (blk_5 m c t k l))) (Finset.sum_congr rfl fun k _ => congrArg₂ (· * ·) (blk_2 m c t r k) (blk_6 m c t k l))) (Finset.sum_congr rfl fun k _ => congrArg₂ (· * ·) (blk_3 m c t r k) (blk_7 m c t k l)))
  refine (dats m 0 c).arrAt_eq_of_cover 8 _ (fun t hf => ?_) ((by decide +kernel : (cfg0.win 8).Covers).cover _ (Memref.isWhole_whole _))
  rw [Value.flushed8]
  exact funext fun y => key t y

/-! ## The claims -/

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h =>
    ⟨fun c => (h c).2, sem_eq_zero_of_no_sems (by decide) _⟩) (Cert.Reference7Ideal.Value.run m ρ)

/-- The kernel's results and the reference's are equal, on any arguments. -/
theorem algebraic : Cert.algebraic_Kernel7Ideal_Reference7Ideal := fun m g m' g' _ he => by
  refine ⟨fun c => Cert.Reference7Ideal.Read.val_main_v23 (F := Ideal) (arg0 m c) (arg1 m c) (arg2 m c) (arg3 m c) (arg4 m c) (arg5 m c) (arg6 m c) (arg7 m c), ?_, ?_⟩
  · refine (θ_run _ _ _).mono (fun r h c => ?_) (Cert.Kernel7Ideal.Value.run_blocks m g)
    exact ⟨(h c).1.trans (arr_8 m c), (h c).2⟩
  · refine (θ_run _ _ _).mono (fun r h c => ?_) (Cert.Reference7Ideal.Value.run m' g')
    obtain ⟨h0, h1, h2, h3, h4, h5, h6, h7⟩ := he c
    refine ⟨(h c).1.trans ?_, (h c).2⟩
    · rw [Cert.Reference7Ideal.Read.val_main_v23_eq, h0, h1, h2, h3, h4, h5, h6, h7]

end Mm.InputGrad

end
-- ==== Proof.Gates.lean ====
/-
The input projection of the gates and the pooling branch: each point of the grid is one block of 1024 rows and 512 columns.
-/
module

public import proofs.«01_k».proof.Proof.Halves
public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit

@[expose] public section

noncomputable section

set_option maxRecDepth 65536

namespace Mm.Gates

open Idealize.ShloMosaic Idealize.ShloMosaic.TcCoe Idealize.SL.Sem Cert.Kernel8Ideal Cert.Kernel8Ideal.Gen Ffn
open scoped Pointwise

/-! ## What one point of the grid leaves -/

theorem zero2 : (![0, 0] : Fin 2 → Nat) = fun _ => 0 := funext fun a => by fin_cases a <;> rfl
theorem zero3 : (![0, 0, 0] : Fin 3 → Nat) = fun _ => 0 := funext fun a => by fin_cases a <;> rfl

/-- The value that a point writes to window 2, at an index. -/
theorem pay2_at (x0 : Vec Ideal S1024x1024 .bf16) (x1 : Vec Ideal S1024x512 .bf16) (r : Fin 1024) (l : Fin 512) :
    k0_pay1 x0 x1 (ix2 r l) = (∑ k : Fin 1024, x0 (ix2 r k) * x1 (ix2 k l)) := by
  pointwise [k0_pay1]

theorem out2_eq (x0 : Vec Ideal S1024x1024 .bf16) (x1 : Vec Ideal S1024x512 .bf16) :
    out0_2 x0 x1 = k0_pay1 x0 x1 := by
  unfold out0_2
  rw [View.canon_unit_zero zero2]
  simp only [View.ld_unit_zero (S := S1024x1024) zero2, View.ld_unit_zero (S := S1024x512) zero2]

/-! ## The blocks -/

variable (m : (ℓ : Loc nD τ sig) → Buf (Elt Ideal) ℓ)

abbrev arg0 (c : Dev nD) : FVec Ideal S4096x1024 .bf16 := m ((c : Thread nD τ).loc main_arg0)
abbrev arg1 (c : Dev nD) : FVec Ideal S1024x2560 .bf16 := m ((c : Thread nD τ).loc main_arg1)

theorem at_0 : ∀ t : Fin cfg0.N, win0_0.index t = ![t.val / 5, 0] := (by decide +kernel : ∀ t : Fin grid0.N, _)

theorem blk_0 (c : Dev nD) (t : Fin cfg0.N) (p : Fin 1024) (q : Fin 1024) :
    iblk m c 0 t (ix2 p q) = arg0 m c (ix2 (⟨1024 * (t.val / 5) + p.val, by have h := lt_of_lt_of_eq t.isLt N_0; omega⟩ : Fin 4096) q) := by
  unfold iblk
  rw [View.read_apply]
  show arg0 m c _ = arg0 m c _
  congr 1
  funext a
  apply Fin.ext
  have e := at_0 t
  match a with
  | ⟨0, _⟩ => show win0_0.index t 0 * 1024 + 1 * p.val = 1024 * (t.val / 5) + p.val; rw [e]; show (t.val / 5) * 1024 + 1 * p.val = _; omega
  | ⟨1, _⟩ => show win0_0.index t 1 * 1024 + 1 * q.val = q.val; rw [e]; show (0) * 1024 + 1 * q.val = _; omega

theorem at_1 : ∀ t : Fin cfg0.N, win0_1.index t = ![0, t.val % 5] := (by decide +kernel : ∀ t : Fin grid0.N, _)

theorem blk_1 (c : Dev nD) (t : Fin cfg0.N) (p : Fin 1024) (q : Fin 512) :
    iblk m c 1 t (ix2 p q) = arg1 m c (ix2 p (⟨512 * (t.val % 5) + q.val, by have h := lt_of_lt_of_eq t.isLt N_0; omega⟩ : Fin 2560)) := by
  unfold iblk
  rw [View.read_apply]
  show arg1 m c _ = arg1 m c _
  congr 1
  funext a
  apply Fin.ext
  have e := at_1 t
  match a with
  | ⟨0, _⟩ => show win0_1.index t 0 * 1024 + 1 * p.val = p.val; rw [e]; show (0) * 1024 + 1 * p.val = _; omega
  | ⟨1, _⟩ => show win0_1.index t 1 * 512 + 1 * q.val = 512 * (t.val % 5) + q.val; rw [e]; show (t.val % 5) * 512 + 1 * q.val = _; omega

theorem at_2 : ∀ t : Fin cfg0.N, win0_2.index t = ![t.val / 5, t.val % 5] := (by decide +kernel : ∀ t : Fin grid0.N, _)

theorem read_2 (X : FVec Ideal S4096x2560 .bf16) (t : Fin cfg0.N) (r : Fin 1024) (l : Fin 512) :
    ((cfg0.win 2).blk t).view.read (Elt Ideal) X (ix2 r l) = X (ix2 (⟨1024 * (t.val / 5) + r.val, by have h := lt_of_lt_of_eq t.isLt N_0; omega⟩ : Fin 4096) (⟨512 * (t.val % 5) + l.val, by have h := lt_of_lt_of_eq t.isLt N_0; omega⟩ : Fin 2560)) := by
  rw [View.read_apply]
  show X _ = X _
  congr 1
  funext a
  apply Fin.ext
  have e := at_2 t
  match a with
  | ⟨0, _⟩ => show win0_2.index t 0 * 1024 + 1 * r.val = 1024 * (t.val / 5) + r.val; rw [e]; show (t.val / 5) * 1024 + 1 * r.val = _; omega
  | ⟨1, _⟩ => show win0_2.index t 1 * 512 + 1 * l.val = 512 * (t.val % 5) + l.val; rw [e]; show (t.val % 5) * 512 + 1 * l.val = _; omega

/-! ## The reference's values -/

theorem ref2_at (x0 : FVec Ideal S4096x1024 .bf16) (x1 : FVec Ideal S1024x2560 .bf16) (t : Fin cfg0.N) (r : Fin 1024) (l : Fin 512) :
    Cert.Reference8Ideal.Read.val_main_v3 (F := Ideal) x0 x1 (ix2 (⟨1024 * (t.val / 5) + r.val, by have h := lt_of_lt_of_eq t.isLt N_0; omega⟩ : Fin 4096) (⟨512 * (t.val % 5) + l.val, by have h := lt_of_lt_of_eq t.isLt N_0; omega⟩ : Fin 2560))
      = (∑ k : Fin 1024, x0 (ix2 (⟨1024 * (t.val / 5) + r.val, by have h := lt_of_lt_of_eq t.isLt N_0; omega⟩ : Fin 4096) k) * x1 (ix2 k (⟨512 * (t.val % 5) + l.val, by have h := lt_of_lt_of_eq t.isLt N_0; omega⟩ : Fin 2560))) := by
  refine (Cert.Reference8Ideal.Read.val_main_v3_apply (F := Ideal) x0 x1 _).trans ((Cert.Reference8Ideal.Read.val_main_v2_apply x0 x1 _).trans ?_)
  refine Finset.sum_congr rfl fun k _ => ?_
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

/-! ## The arrays -/

theorem arr_2 (c : Dev nD) : (dats m 0 c).arrAt 2 cfg0.N = Cert.Reference8Ideal.Read.val_main_v3 (F := Ideal) (arg0 m c) (arg1 m c) := by
  have key : ∀ (t : Fin cfg0.N) (y : S1024x512.Idx), out0_2 (iblk m c 0 t) (iblk m c 1 t) y
      = ((cfg0.win 2).blk t).view.read (Elt Ideal) (Cert.Reference8Ideal.Read.val_main_v3 (F := Ideal) (arg0 m c) (arg1 m c)) y := fun t y => by
    obtain ⟨r, l, rfl⟩ : ∃ (r : Fin 1024) (l : Fin 512), y = ix2 r l := ⟨y 0, y 1, eta_two y⟩
    refine Eq.trans ?_ (read_2 _ t r l).symm
    refine (congrFun (out2_eq (iblk m c 0 t) (iblk m c 1 t)) (ix2 r l)).trans ((pay2_at (iblk m c 0 t) (iblk m c 1 t) r l).trans (Eq.trans ?_ (ref2_at (arg0 m c) (arg1 m c) t r l).symm))
    exact (Finset.sum_congr rfl fun k _ => congrArg₂ (· * ·) (blk_0 m c t r k) (blk_1 m c t k l))
  refine (dats m 0 c).arrAt_eq_of_cover 2 _ (fun t hf => ?_) ((by decide +kernel : (cfg0.win 2).Covers).cover _ (Memref.isWhole_whole _))
  rw [Value.flushed2]
  exact funext fun y => key t y

/-! ## The claims -/

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h =>
    ⟨fun c => (h c).2, sem_eq_zero_of_no_sems (by decide) _⟩) (Cert.Reference8Ideal.Value.run m ρ)

/-- The kernel's results and the reference's are equal, on any arguments. -/
theorem algebraic : Cert.algebraic_Kernel8Ideal_Reference8Ideal := fun m g m' g' _ he => by
  refine ⟨fun c => Cert.Reference8Ideal.Read.val_main_v3 (F := Ideal) (arg0 m c) (arg1 m c), ?_, ?_⟩
  · refine (θ_run _ _ _).mono (fun r h c => ?_) (Cert.Kernel8Ideal.Value.run_blocks m g)
    exact ⟨(h c).1.trans (arr_2 m c), (h c).2⟩
  · refine (θ_run _ _ _).mono (fun r h c => ?_) (Cert.Reference8Ideal.Value.run m' g')
    obtain ⟨h0, h1⟩ := he c
    refine ⟨(h c).1.trans ?_, (h c).2⟩
    · rw [Cert.Reference8Ideal.Read.val_main_v3_eq, h0, h1]

end Mm.Gates

end
-- ==== Proof.AttnIn.lean ====
/-
The attention's input projections: each point of the grid is one block of 512 rows of the three products with one input.
-/
module

public import proofs.«01_k».proof.Proof.Halves
public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit

@[expose] public section

noncomputable section

set_option maxRecDepth 65536

namespace Mm.AttnIn

open Idealize.ShloMosaic Idealize.ShloMosaic.TcCoe Idealize.SL.Sem Cert.Kernel9Ideal Cert.Kernel9Ideal.Gen Ffn
open scoped Pointwise

/-! ## What one point of the grid leaves -/

theorem zero2 : (![0, 0] : Fin 2 → Nat) = fun _ => 0 := funext fun a => by fin_cases a <;> rfl
theorem zero3 : (![0, 0, 0] : Fin 3 → Nat) = fun _ => 0 := funext fun a => by fin_cases a <;> rfl

/-- The value that a point writes to window 4, at an index. -/
theorem pay4_at (x0 : Vec Ideal S512x1024 .bf16) (x1 : Vec Ideal S1024x1536 .bf16) (r : Fin 512) (l : Fin 1536) :
    k0_pay1 x0 x1 (ix2 r l) = (∑ k : Fin 1024, x0 (ix2 r k) * x1 (ix2 k l)) := by
  pointwise [k0_pay1]

theorem out4_eq (x0 : Vec Ideal S512x1024 .bf16) (x1 : Vec Ideal S1024x1536 .bf16) (x2 : Vec Ideal S1024x512 .bf16) (x3 : Vec Ideal S1024x128 .bf16) :
    out0_4 x0 x1 x2 x3 = k0_pay1 x0 x1 := by
  unfold out0_4
  rw [View.canon_unit_zero zero2]
  simp only [View.ld_unit_zero (S := S512x1024) zero2, View.ld_unit_zero (S := S1024x1536) zero2]

/-- The value that a point writes to window 5, at an index. -/
theorem pay5_at (x0 : Vec Ideal S512x1024 .bf16) (x2 : Vec Ideal S1024x512 .bf16) (r : Fin 512) (l : Fin 512) :
    k0_pay2 x0 x2 (ix2 r l) = (∑ k : Fin 1024, x0 (ix2 r k) * x2 (ix2 k l)) := by
  pointwise [k0_pay2]

theorem out5_eq (x0 : Vec Ideal S512x1024 .bf16) (x1 : Vec Ideal S1024x1536 .bf16) (x2 : Vec Ideal S1024x512 .bf16) (x3 : Vec Ideal S1024x128 .bf16) :
    out0_5 x0 x1 x2 x3 = k0_pay2 x0 x2 := by
  unfold out0_5
  rw [View.canon_unit_zero zero2]
  simp only [View.ld_unit_zero (S := S512x1024) zero2, View.ld_unit_zero (S := S1024x512) zero2]

/-- The value that a point writes to window 6, at an index. -/
theorem pay6_at (x0 : Vec Ideal S512x1024 .bf16) (x3 : Vec Ideal S1024x128 .bf16) (r : Fin 512) (l : Fin 128) :
    k0_pay3 x0 x3 (ix2 r l) = (∑ k : Fin 1024, x0 (ix2 r k) * x3 (ix2 k l)) := by
  pointwise [k0_pay3]

theorem out6_eq (x0 : Vec Ideal S512x1024 .bf16) (x1 : Vec Ideal S1024x1536 .bf16) (x2 : Vec Ideal S1024x512 .bf16) (x3 : Vec Ideal S1024x128 .bf16) :
    out0_6 x0 x1 x2 x3 = k0_pay3 x0 x3 := by
  unfold out0_6
  rw [View.canon_unit_zero zero2]
  simp only [View.ld_unit_zero (S := S512x1024) zero2, View.ld_unit_zero (S := S1024x128) zero2]

/-! ## The blocks -/

variable (m : (ℓ : Loc nD τ sig) → Buf (Elt Ideal) ℓ)

abbrev arg0 (c : Dev nD) : FVec Ideal S4096x1024 .bf16 := m ((c : Thread nD τ).loc main_arg0)
abbrev arg1 (c : Dev nD) : FVec Ideal S1024x1536 .bf16 := m ((c : Thread nD τ).loc main_arg1)
abbrev arg2 (c : Dev nD) : FVec Ideal S1024x512 .bf16 := m ((c : Thread nD τ).loc main_arg2)
abbrev arg3 (c : Dev nD) : FVec Ideal S1024x128 .bf16 := m ((c : Thread nD τ).loc main_arg3)

theorem at_0 : ∀ t : Fin cfg0.N, win0_0.index t = ![t.val, 0] := (by decide +kernel : ∀ t : Fin grid0.N, _)

theorem blk_0 (c : Dev nD) (t : Fin cfg0.N) (p : Fin 512) (q : Fin 1024) :
    iblk m c 0 t (ix2 p q) = arg0 m c (ix2 (⟨512 * (t.val) + p.val, by have h := lt_of_lt_of_eq t.isLt N_0; omega⟩ : Fin 4096) q) := by
  unfold iblk
  rw [View.read_apply]
  show arg0 m c _ = arg0 m c _
  congr 1
  funext a
  apply Fin.ext
  have e := at_0 t
  match a with
  | ⟨0, _⟩ => show win0_0.index t 0 * 512 + 1 * p.val = 512 * (t.val) + p.val; rw [e]; show (t.val) * 512 + 1 * p.val = _; omega
  | ⟨1, _⟩ => show win0_0.index t 1 * 1024 + 1 * q.val = q.val; rw [e]; show (0) * 1024 + 1 * q.val = _; omega

theorem at_1 : ∀ t : Fin cfg0.N, win0_1.index t = ![0, 0] := (by decide +kernel : ∀ t : Fin grid0.N, _)

theorem blk_1 (c : Dev nD) (t : Fin cfg0.N) (p : Fin 1024) (q : Fin 1536) :
    iblk m c 1 t (ix2 p q) = arg1 m c (ix2 p q) := by
  unfold iblk
  rw [View.read_apply]
  show arg1 m c _ = arg1 m c _
  congr 1
  funext a
  apply Fin.ext
  have e := at_1 t
  match a with
  | ⟨0, _⟩ => show win0_1.index t 0 * 1024 + 1 * p.val = p.val; rw [e]; show (0) * 1024 + 1 * p.val = _; omega
  | ⟨1, _⟩ => show win0_1.index t 1 * 1536 + 1 * q.val = q.val; rw [e]; show (0) * 1536 + 1 * q.val = _; omega

theorem at_2 : ∀ t : Fin cfg0.N, win0_2.index t = ![0, 0] := (by decide +kernel : ∀ t : Fin grid0.N, _)

theorem blk_2 (c : Dev nD) (t : Fin cfg0.N) (p : Fin 1024) (q : Fin 512) :
    iblk m c 2 t (ix2 p q) = arg2 m c (ix2 p q) := by
  unfold iblk
  rw [View.read_apply]
  show arg2 m c _ = arg2 m c _
  congr 1
  funext a
  apply Fin.ext
  have e := at_2 t
  match a with
  | ⟨0, _⟩ => show win0_2.index t 0 * 1024 + 1 * p.val = p.val; rw [e]; show (0) * 1024 + 1 * p.val = _; omega
  | ⟨1, _⟩ => show win0_2.index t 1 * 512 + 1 * q.val = q.val; rw [e]; show (0) * 512 + 1 * q.val = _; omega

theorem at_3 : ∀ t : Fin cfg0.N, win0_3.index t = ![0, 0] := (by decide +kernel : ∀ t : Fin grid0.N, _)

theorem blk_3 (c : Dev nD) (t : Fin cfg0.N) (p : Fin 1024) (q : Fin 128) :
    iblk m c 3 t (ix2 p q) = arg3 m c (ix2 p q) := by
  unfold iblk
  rw [View.read_apply]
  show arg3 m c _ = arg3 m c _
  congr 1
  funext a
  apply Fin.ext
  have e := at_3 t
  match a with
  | ⟨0, _⟩ => show win0_3.index t 0 * 1024 + 1 * p.val = p.val; rw [e]; show (0) * 1024 + 1 * p.val = _; omega
  | ⟨1, _⟩ => show win0_3.index t 1 * 128 + 1 * q.val = q.val; rw [e]; show (0) * 128 + 1 * q.val = _; omega

theorem at_4 : ∀ t : Fin cfg0.N, win0_4.index t = ![t.val, 0] := (by decide +kernel : ∀ t : Fin grid0.N, _)

theorem read_4 (X : FVec Ideal S4096x1536 .bf16) (t : Fin cfg0.N) (r : Fin 512) (l : Fin 1536) :
    ((cfg0.win 4).blk t).view.read (Elt Ideal) X (ix2 r l) = X (ix2 (⟨512 * (t.val) + r.val, by have h := lt_of_lt_of_eq t.isLt N_0; omega⟩ : Fin 4096) l) := by
  rw [View.read_apply]
  show X _ = X _
  congr 1
  funext a
  apply Fin.ext
  have e := at_4 t
  match a with
  | ⟨0, _⟩ => show win0_4.index t 0 * 512 + 1 * r.val = 512 * (t.val) + r.val; rw [e]; show (t.val) * 512 + 1 * r.val = _; omega
  | ⟨1, _⟩ => show win0_4.index t 1 * 1536 + 1 * l.val = l.val; rw [e]; show (0) * 1536 + 1 * l.val = _; omega

theorem at_5 : ∀ t : Fin cfg0.N, win0_5.index t = ![t.val, 0] := (by decide +kernel : ∀ t : Fin grid0.N, _)

theorem read_5 (X : FVec Ideal S4096x512 .f32) (t : Fin cfg0.N) (r : Fin 512) (l : Fin 512) :
    ((cfg0.win 5).blk t).view.read (Elt Ideal) X (ix2 r l) = X (ix2 (⟨512 * (t.val) + r.val, by have h := lt_of_lt_of_eq t.isLt N_0; omega⟩ : Fin 4096) l) := by
  rw [View.read_apply]
  show X _ = X _
  congr 1
  funext a
  apply Fin.ext
  have e := at_5 t
  match a with
  | ⟨0, _⟩ => show win0_5.index t 0 * 512 + 1 * r.val = 512 * (t.val) + r.val; rw [e]; show (t.val) * 512 + 1 * r.val = _; omega
  | ⟨1, _⟩ => show win0_5.index t 1 * 512 + 1 * l.val = l.val; rw [e]; show (0) * 512 + 1 * l.val = _; omega

theorem at_6 : ∀ t : Fin cfg0.N, win0_6.index t = ![t.val, 0] := (by decide +kernel : ∀ t : Fin grid0.N, _)

theorem read_6 (X : FVec Ideal S4096x128 .f32) (t : Fin cfg0.N) (r : Fin 512) (l : Fin 128) :
    ((cfg0.win 6).blk t).view.read (Elt Ideal) X (ix2 r l) = X (ix2 (⟨512 * (t.val) + r.val, by have h := lt_of_lt_of_eq t.isLt N_0; omega⟩ : Fin 4096) l) := by
  rw [View.read_apply]
  show X _ = X _
  congr 1
  funext a
  apply Fin.ext
  have e := at_6 t
  match a with
  | ⟨0, _⟩ => show win0_6.index t 0 * 512 + 1 * r.val = 512 * (t.val) + r.val; rw [e]; show (t.val) * 512 + 1 * r.val = _; omega
  | ⟨1, _⟩ => show win0_6.index t 1 * 128 + 1 * l.val = l.val; rw [e]; show (0) * 128 + 1 * l.val = _; omega

/-! ## The reference's values -/

theorem ref4_at (x0 : FVec Ideal S4096x1024 .bf16) (x1 : FVec Ideal S1024x1536 .bf16) (t : Fin cfg0.N) (r : Fin 512) (l : Fin 1536) :
    Cert.Reference9Ideal.Read.val_main_v3 (F := Ideal) x0 x1 (ix2 (⟨512 * (t.val) + r.val, by have h := lt_of_lt_of_eq t.isLt N_0; omega⟩ : Fin 4096) l)
      = (∑ k : Fin 1024, x0 (ix2 (⟨512 * (t.val) + r.val, by have h := lt_of_lt_of_eq t.isLt N_0; omega⟩ : Fin 4096) k) * x1 (ix2 k l)) := by
  refine (Cert.Reference9Ideal.Read.val_main_v3_apply (F := Ideal) x0 x1 _).trans ((Cert.Reference9Ideal.Read.val_main_v2_apply x0 x1 _).trans ?_)
  refine Finset.sum_congr rfl fun k _ => ?_
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

theorem ref5_at (x0 : FVec Ideal S4096x1024 .bf16) (x2 : FVec Ideal S1024x512 .bf16) (t : Fin cfg0.N) (r : Fin 512) (l : Fin 512) :
    Cert.Reference9Ideal.Read.val_main_v5 (F := Ideal) x0 x2 (ix2 (⟨512 * (t.val) + r.val, by have h := lt_of_lt_of_eq t.isLt N_0; omega⟩ : Fin 4096) l)
      = (∑ k : Fin 1024, x0 (ix2 (⟨512 * (t.val) + r.val, by have h := lt_of_lt_of_eq t.isLt N_0; omega⟩ : Fin 4096) k) * x2 (ix2 k l)) := by
  refine (Cert.Reference9Ideal.Read.val_main_v5_apply x0 x2 _).trans ?_
  refine Finset.sum_congr rfl fun k _ => ?_
  refine congrArg₂ (· * ·) (congrArg x0 (funext fun a => Fin.ext ?_)) (congrArg x2 (funext fun a => Fin.ext ?_))
  · match a with
    | ⟨0, _⟩ => rfl
    | ⟨1, _⟩ => rfl
  · match a with
    | ⟨0, _⟩ => rfl
    | ⟨1, _⟩ => rfl

theorem ref6_at (x0 : FVec Ideal S4096x1024 .bf16) (x3 : FVec Ideal S1024x128 .bf16) (t : Fin cfg0.N) (r : Fin 512) (l : Fin 128) :
    Cert.Reference9Ideal.Read.val_main_v7 (F := Ideal) x0 x3 (ix2 (⟨512 * (t.val) + r.val, by have h := lt_of_lt_of_eq t.isLt N_0; omega⟩ : Fin 4096) l)
      = (∑ k : Fin 1024, x0 (ix2 (⟨512 * (t.val) + r.val, by have h := lt_of_lt_of_eq t.isLt N_0; omega⟩ : Fin 4096) k) * x3 (ix2 k l)) := by
  refine (Cert.Reference9Ideal.Read.val_main_v7_apply x0 x3 _).trans ?_
  refine Finset.sum_congr rfl fun k _ => ?_
  refine congrArg₂ (· * ·) (congrArg x0 (funext fun a => Fin.ext ?_)) (congrArg x3 (funext fun a => Fin.ext ?_))
  · match a with
    | ⟨0, _⟩ => rfl
    | ⟨1, _⟩ => rfl
  · match a with
    | ⟨0, _⟩ => rfl
    | ⟨1, _⟩ => rfl

/-! ## The arrays -/

theorem arr_4 (c : Dev nD) : (dats m 0 c).arrAt 4 cfg0.N = Cert.Reference9Ideal.Read.val_main_v3 (F := Ideal) (arg0 m c) (arg1 m c) := by
  have key : ∀ (t : Fin cfg0.N) (y : S512x1536.Idx), out0_4 (iblk m c 0 t) (iblk m c 1 t) (iblk m c 2 t) (iblk m c 3 t) y
      = ((cfg0.win 4).blk t).view.read (Elt Ideal) (Cert.Reference9Ideal.Read.val_main_v3 (F := Ideal) (arg0 m c) (arg1 m c)) y := fun t y => by
    obtain ⟨r, l, rfl⟩ : ∃ (r : Fin 512) (l : Fin 1536), y = ix2 r l := ⟨y 0, y 1, eta_two y⟩
    refine Eq.trans ?_ (read_4 _ t r l).symm
    refine (congrFun (out4_eq (iblk m c 0 t) (iblk m c 1 t) (iblk m c 2 t) (iblk m c 3 t)) (ix2 r l)).trans ((pay4_at (iblk m c 0 t) (iblk m c 1 t) r l).trans (Eq.trans ?_ (ref4_at (arg0 m c) (arg1 m c) t r l).symm))
    exact (Finset.sum_congr rfl fun k _ => congrArg₂ (· * ·) (blk_0 m c t r k) (blk_1 m c t k l))
  refine (dats m 0 c).arrAt_eq_of_cover 4 _ (fun t hf => ?_) ((by decide +kernel : (cfg0.win 4).Covers).cover _ (Memref.isWhole_whole _))
  rw [Value.flushed4]
  exact funext fun y => key t y

theorem arr_5 (c : Dev nD) : (dats m 0 c).arrAt 5 cfg0.N = Cert.Reference9Ideal.Read.val_main_v5 (F := Ideal) (arg0 m c) (arg2 m c) := by
  have key : ∀ (t : Fin cfg0.N) (y : S512x512.Idx), out0_5 (iblk m c 0 t) (iblk m c 1 t) (iblk m c 2 t) (iblk m c 3 t) y
      = ((cfg0.win 5).blk t).view.read (Elt Ideal) (Cert.Reference9Ideal.Read.val_main_v5 (F := Ideal) (arg0 m c) (arg2 m c)) y := fun t y => by
    obtain ⟨r, l, rfl⟩ : ∃ (r : Fin 512) (l : Fin 512), y = ix2 r l := ⟨y 0, y 1, eta_two y⟩
    refine Eq.trans ?_ (read_5 _ t r l).symm
    refine (congrFun (out5_eq (iblk m c 0 t) (iblk m c 1 t) (iblk m c 2 t) (iblk m c 3 t)) (ix2 r l)).trans ((pay5_at (iblk m c 0 t) (iblk m c 2 t) r l).trans (Eq.trans ?_ (ref5_at (arg0 m c) (arg2 m c) t r l).symm))
    exact (Finset.sum_congr rfl fun k _ => congrArg₂ (· * ·) (blk_0 m c t r k) (blk_2 m c t k l))
  refine (dats m 0 c).arrAt_eq_of_cover 5 _ (fun t hf => ?_) ((by decide +kernel : (cfg0.win 5).Covers).cover _ (Memref.isWhole_whole _))
  rw [Value.flushed5]
  exact funext fun y => key t y

theorem arr_6 (c : Dev nD) : (dats m 0 c).arrAt 6 cfg0.N = Cert.Reference9Ideal.Read.val_main_v7 (F := Ideal) (arg0 m c) (arg3 m c) := by
  have key : ∀ (t : Fin cfg0.N) (y : S512x128.Idx), out0_6 (iblk m c 0 t) (iblk m c 1 t) (iblk m c 2 t) (iblk m c 3 t) y
      = ((cfg0.win 6).blk t).view.read (Elt Ideal) (Cert.Reference9Ideal.Read.val_main_v7 (F := Ideal) (arg0 m c) (arg3 m c)) y := fun t y => by
    obtain ⟨r, l, rfl⟩ : ∃ (r : Fin 512) (l : Fin 128), y = ix2 r l := ⟨y 0, y 1, eta_two y⟩
    refine Eq.trans ?_ (read_6 _ t r l).symm
    refine (congrFun (out6_eq (iblk m c 0 t) (iblk m c 1 t) (iblk m c 2 t) (iblk m c 3 t)) (ix2 r l)).trans ((pay6_at (iblk m c 0 t) (iblk m c 3 t) r l).trans (Eq.trans ?_ (ref6_at (arg0 m c) (arg3 m c) t r l).symm))
    exact (Finset.sum_congr rfl fun k _ => congrArg₂ (· * ·) (blk_0 m c t r k) (blk_3 m c t k l))
  refine (dats m 0 c).arrAt_eq_of_cover 6 _ (fun t hf => ?_) ((by decide +kernel : (cfg0.win 6).Covers).cover _ (Memref.isWhole_whole _))
  rw [Value.flushed6]
  exact funext fun y => key t y

/-! ## The claims -/

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono (fun r h =>
    ⟨fun c => (h c).2.2.2, sem_eq_zero_of_no_sems (by decide) _⟩) (Cert.Reference9Ideal.Value.run m ρ)

/-- The kernel's results and the reference's are equal, on any arguments. -/
theorem algebraic : Cert.algebraic_Kernel9Ideal_Reference9Ideal := fun m g m' g' _ he => by
  refine ⟨fun c => Cert.Reference9Ideal.Read.val_main_v3 (F := Ideal) (arg0 m c) (arg1 m c), fun c => Cert.Reference9Ideal.Read.val_main_v5 (F := Ideal) (arg0 m c) (arg2 m c), fun c => Cert.Reference9Ideal.Read.val_main_v7 (F := Ideal) (arg0 m c) (arg3 m c), ?_, ?_⟩
  · refine (θ_run _ _ _).mono (fun r h c => ?_) (Cert.Kernel9Ideal.Value.run_blocks m g)
    exact ⟨(h c).1.trans (arr_4 m c), (h c).2.1.trans (arr_5 m c), (h c).2.2.1.trans (arr_6 m c), (h c).2.2.2⟩
  · refine (θ_run _ _ _).mono (fun r h c => ?_) (Cert.Reference9Ideal.Value.run m' g')
    obtain ⟨h0, h1, h2, h3⟩ := he c
    refine ⟨(h c).1.trans ?_, (h c).2.1.trans ?_, (h c).2.2.1.trans ?_, (h c).2.2.2⟩
    · rw [Cert.Reference9Ideal.Read.val_main_v3_eq, h0, h1]
    · rw [Cert.Reference9Ideal.Read.val_main_v5_eq, h0, h2]
    · rw [Cert.Reference9Ideal.Read.val_main_v7_eq, h0, h3]

end Mm.AttnIn

end
-- ==== Proof.DwRows.lean ====
/-
A product of two transposed activations: the gradient of the output projection's weights, in one step over all 4096 rows.
-/
module

public import proofs.«01_k».proof.Proof.Halves
public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit

@[expose] public section

noncomputable section

set_option maxRecDepth 65536

namespace Mm.DwRows

open Idealize.ShloMosaic Idealize.ShloMosaic.TcCoe Idealize.SL.Sem Cert.Kernel10Ideal Cert.Kernel10Ideal.Gen Ffn
open scoped Pointwise

/-! ## What one point of the grid leaves -/

theorem zero2 : (![0, 0] : Fin 2 → Nat) = fun _ => 0 := funext fun a => by fin_cases a <;> rfl
theorem zero3 : (![0, 0, 0] : Fin 3 → Nat) = fun _ => 0 := funext fun a => by fin_cases a <;> rfl

/-- The value that a point writes to window 2, at an index. -/
theorem pay2_at (x0 : Vec Ideal S4096x1024 .bf16) (x1 : Vec Ideal S4096x1024 .bf16) (r : Fin 1024) (l : Fin 1024) :
    k0_pay1 x0 x1 (ix2 r l) = (∑ k : Fin 4096, x0 (ix2 k r) * x1 (ix2 k l)) := by
  pointwise [k0_pay1]

theorem out2_eq (x0 : Vec Ideal S4096x1024 .bf16) (x1 : Vec Ideal S4096x1024 .bf16) :
    out0_2 x0 x1 = k0_pay1 x0 x1 := by
  unfold out0_2
  rw [View.canon_unit_zero zero2]
  simp only [View.ld_unit_zero (S := S4096x1024) zero2]

/-! ## The blocks -/

variable (m : (ℓ : Loc nD τ sig) → Buf (Elt Ideal) ℓ)

abbrev arg0 (c : Dev nD) : FVec Ideal S4096x1024 .bf16 := m ((c : Thread nD τ).loc main_arg0)
abbrev arg1 (c : Dev nD) : FVec Ideal S4096x1024 .bf16 := m ((c : Thread nD τ).loc main_arg1)

theorem at_0 : ∀ t : Fin cfg0.N, win0_0.index t = ![0, 0] := (by decide +kernel : ∀ t : Fin grid0.N, _)

theorem blk_0 (c : Dev nD) (t : Fin cfg0.N) (p : Fin 4096) (q : Fin 1024) :
    iblk m c 0 t (ix2 p q) = arg0 m c (ix2 p q) := by
  unfold iblk
  rw [View.read_apply]
  show arg0 m c _ = arg0 m c _
  congr 1
  funext a
  apply Fin.ext
  have e := at_0 t
  match a with
  | ⟨0, _⟩ => show win0_0.index t 0 * 4096 + 1 * p.val = p.val; rw [e]; show (0) * 4096 + 1 * p.val = _; omega
  | ⟨1, _⟩ => show win0_0.index t 1 * 1024 + 1 * q.val = q.val; rw [e]; show (0) * 1024 + 1 * q.val = _; omega

theorem at_1 : ∀ t : Fin cfg0.N, win0_1.index t = ![0, 0] := (by decide +kernel : ∀ t : Fin grid0.N, _)

theorem blk_1 (c : Dev nD) (t : Fin cfg0.N) (p : Fin 4096) (q : Fin 1024) :
    iblk m c 1 t (ix2 p q) = arg1 m c (ix2 p q) := by
  unfold iblk
  rw [View.read_apply]
  show arg1 m c _ = arg1 m c _
  congr 1
  funext a
  apply Fin.ext
  have e := at_1 t
  match a with
  | ⟨0, _⟩ => show win0_1.index t 0 * 4096 + 1 * p.val = p.val; rw [e]; show (0) * 4096 + 1 * p.val = _; omega
  | ⟨1, _⟩ => show win0_1.index t 1 * 1024 + 1 * q.val = q.val; rw [e]; show (0) * 1024 + 1 * q.val = _; omega

theorem at_2 : ∀ t : Fin cfg0.N, win0_2.index t = ![0, 0] := (by decide +kernel : ∀ t : Fin grid0.N, _)

theorem read_2 (X : FVec Ideal S1024x1024 .f32) (t : Fin cfg0.N) (r : Fin 1024) (l : Fin 1024) :
    ((cfg0.win 2).blk t).view.read (Elt Ideal) X (ix2 r l) = X (ix2 r l) := by
  rw [View.read_apply]
  show X _ = X _
  congr 1
  funext a
  apply Fin.ext
  have e := at_2 t
  match a with
  | ⟨0, _⟩ => show win0_2.index t 0 * 1024 + 1 * r.val = r.val; rw [e]; show (0) * 1024 + 1 * r.val = _; omega
  | ⟨1, _⟩ => show win0_2.index t 1 * 1024 + 1 * l.val = l.val; rw [e]; show (0) * 1024 + 1 * l.val = _; omega

/-! ## The reference's values -/

theorem ref2_at (x0 : FVec Ideal S4096x1024 .bf16) (x1 : FVec Ideal S4096x1024 .bf16) (t : Fin cfg0.N) (r : Fin 1024) (l : Fin 1024) :
    Cert.Reference10Ideal.Read.val_main_v5 (F := Ideal) x0 x1 (ix2 r l)
      = (∑ k : Fin 4096, x0 (ix2 k r) * x1 (ix2 k l)) := by
  refine (Cert.Reference10Ideal.Read.val_main_v5_apply (F := Ideal) x0 x1 _).trans ((Cert.Reference10Ideal.Read.val_main_v4_apply x0 x1 _).trans ?_)
  refine Finset.sum_congr rfl fun k _ => ?_
  refine (mul_comm _ _).trans ?_
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

/-! ## The arrays -/

theorem arr_2 (c : Dev nD) : (dats m 0 c).arrAt 2 cfg0.N = Cert.Reference10Ideal.Read.val_main_v5 (F := Ideal) (arg0 m c) (arg1 m c) := by
  have key : ∀ (t : Fin cfg0.N) (y : S1024x1024.Idx), out0_2 (iblk m c 0 t) (iblk m c 1 t) y
      = ((cfg0.win 2).blk t).view.read (Elt Ideal) (Cert.Reference10Ideal.Read.val_main_v5 (F := Ideal) (arg0 m c) (arg1 m c)) y := fun t y => by
    obtain ⟨r, l, rfl⟩ : ∃ (r : Fin 1024) (l : Fin 1024), y = ix2 r l := ⟨y 0, y 1, eta_two y⟩
    refine Eq.trans ?_ (read_2 _ t r l).symm
    refine (congrFun (out2_eq (iblk m c 0 t) (iblk m c 1 t)) (ix2 r l)).trans ((pay2_at (iblk m c 0 t) (iblk m c 1 t) r l).trans (Eq.trans ?_ (ref2_at (arg0 m c) (arg1 m c) t r l).symm))
    exact (Finset.sum_congr rfl fun k _ => congrArg₂ (· * ·) (blk_0 m c t k r) (blk_1 m c t k l))
  refine (dats m 0 c).arrAt_eq_of_cover 2 _ (fun t hf => ?_) ((by decide +kernel : (cfg0.win 2).Covers).cover _ (Memref.isWhole_whole _))
  rw [Value.flushed2]
  exact funext fun y => key t y

/-! ## The claims -/

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono (fun r h =>
    ⟨fun c => (h c).2, sem_eq_zero_of_no_sems (by decide) _⟩) (Cert.Reference10Ideal.Value.run m ρ)

/-- The kernel's results and the reference's are equal, on any arguments. -/
theorem algebraic : Cert.algebraic_Kernel10Ideal_Reference10Ideal := fun m g m' g' _ he => by
  refine ⟨fun c => Cert.Reference10Ideal.Read.val_main_v5 (F := Ideal) (arg0 m c) (arg1 m c), ?_, ?_⟩
  · refine (θ_run _ _ _).mono (fun r h c => ?_) (Cert.Kernel10Ideal.Value.run_blocks m g)
    exact ⟨(h c).1.trans (arr_2 m c), (h c).2⟩
  · refine (θ_run _ _ _).mono (fun r h c => ?_) (Cert.Reference10Ideal.Value.run m' g')
    obtain ⟨h0, h1⟩ := he c
    refine ⟨(h c).1.trans ?_, (h c).2⟩
    · rw [Cert.Reference10Ideal.Read.val_main_v5_eq, h0, h1]

end Mm.DwRows

end
-- ==== Proof.DwStack.lean ====
/-
The gradient of a branch's output weights, stacked by device: each point of the grid is one device's 256 columns, over all
4096 rows.
-/
module

public import proofs.«01_k».proof.Proof.Halves
public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit

@[expose] public section

noncomputable section

set_option maxRecDepth 65536

namespace Mm.DwStack

open Idealize.ShloMosaic Idealize.ShloMosaic.TcCoe Idealize.SL.Sem Cert.Kernel11Ideal Cert.Kernel11Ideal.Gen Ffn
open scoped Pointwise

/-! ## What one point of the grid leaves -/

theorem zero2 : (![0, 0] : Fin 2 → Nat) = fun _ => 0 := funext fun a => by fin_cases a <;> rfl
theorem zero3 : (![0, 0, 0] : Fin 3 → Nat) = fun _ => 0 := funext fun a => by fin_cases a <;> rfl

/-- The value that a point writes to window 2, at an index. -/
theorem pay2_at (x0 : Vec Ideal S4096x512 .bf16) (x1 : Vec Ideal S4096x256 .bf16) (r : Fin 512) (l : Fin 256) :
    k0_pay1 x0 x1 (ix3 0 r l) = (∑ k : Fin 4096, x0 (ix2 k r) * x1 (ix2 k l)) := by
  pointwise [k0_pay1]

theorem out2_eq (x0 : Vec Ideal S4096x512 .bf16) (x1 : Vec Ideal S4096x256 .bf16) :
    out0_2 x0 x1 = k0_pay1 x0 x1 := by
  unfold out0_2
  rw [View.canon_unit_zero zero3]
  simp only [View.ld_unit_zero (S := S4096x512) zero2, View.ld_unit_zero (S := S4096x256) zero2]

/-! ## The blocks -/

variable (m : (ℓ : Loc nD τ sig) → Buf (Elt Ideal) ℓ)

abbrev arg0 (c : Dev nD) : FVec Ideal S4096x512 .bf16 := m ((c : Thread nD τ).loc main_arg0)
abbrev arg1 (c : Dev nD) : FVec Ideal S4096x1024 .bf16 := m ((c : Thread nD τ).loc main_arg1)

theorem at_0 : ∀ t : Fin cfg0.N, win0_0.index t = ![0, 0] := (by decide +kernel : ∀ t : Fin grid0.N, _)

theorem blk_0 (c : Dev nD) (t : Fin cfg0.N) (p : Fin 4096) (q : Fin 512) :
    iblk m c 0 t (ix2 p q) = arg0 m c (ix2 p q) := by
  unfold iblk
  rw [View.read_apply]
  show arg0 m c _ = arg0 m c _
  congr 1
  funext a
  apply Fin.ext
  have e := at_0 t
  match a with
  | ⟨0, _⟩ => show win0_0.index t 0 * 4096 + 1 * p.val = p.val; rw [e]; show (0) * 4096 + 1 * p.val = _; omega
  | ⟨1, _⟩ => show win0_0.index t 1 * 512 + 1 * q.val = q.val; rw [e]; show (0) * 512 + 1 * q.val = _; omega

theorem at_1 : ∀ t : Fin cfg0.N, win0_1.index t = ![0, t.val] := (by decide +kernel : ∀ t : Fin grid0.N, _)

theorem blk_1 (c : Dev nD) (t : Fin cfg0.N) (p : Fin 4096) (q : Fin 256) :
    iblk m c 1 t (ix2 p q) = arg1 m c (ix2 p (⟨256 * (t.val) + q.val, by have h := lt_of_lt_of_eq t.isLt N_0; omega⟩ : Fin 1024)) := by
  unfold iblk
  rw [View.read_apply]
  show arg1 m c _ = arg1 m c _
  congr 1
  funext a
  apply Fin.ext
  have e := at_1 t
  match a with
  | ⟨0, _⟩ => show win0_1.index t 0 * 4096 + 1 * p.val = p.val; rw [e]; show (0) * 4096 + 1 * p.val = _; omega
  | ⟨1, _⟩ => show win0_1.index t 1 * 256 + 1 * q.val = 256 * (t.val) + q.val; rw [e]; show (t.val) * 256 + 1 * q.val = _; omega

theorem at_2 : ∀ t : Fin cfg0.N, win0_2.index t = ![t.val, 0, 0] := (by decide +kernel : ∀ t : Fin grid0.N, _)

theorem read_2 (X : FVec Ideal S4x512x256 .f32) (t : Fin cfg0.N) (r : Fin 512) (l : Fin 256) :
    ((cfg0.win 2).blk t).view.read (Elt Ideal) X (ix3 0 r l) = X (ix3 (⟨t.val, by have h := lt_of_lt_of_eq t.isLt N_0; omega⟩ : Fin 4) r l) := by
  rw [View.read_apply]
  show X _ = X _
  congr 1
  funext a
  apply Fin.ext
  have e := at_2 t
  match a with
  | ⟨0, _⟩ => show win0_2.index t 0 * 1 + 1 * 0 = t.val; rw [e]; show t.val * 1 + 1 * 0 = _; omega
  | ⟨1, _⟩ => show win0_2.index t 1 * 512 + 1 * r.val = r.val; rw [e]; show 0 * 512 + 1 * r.val = _; omega
  | ⟨2, _⟩ => show win0_2.index t 2 * 256 + 1 * l.val = l.val; rw [e]; show 0 * 256 + 1 * l.val = _; omega

/-! ## The reference's values -/

theorem ref2_at (x0 : FVec Ideal S4096x512 .bf16) (x1 : FVec Ideal S4096x1024 .bf16) (t : Fin cfg0.N) (r : Fin 512) (l : Fin 256) :
    Cert.Reference11Ideal.Read.val_main_v7 (F := Ideal) x0 x1 (ix3 (⟨t.val, by have h := lt_of_lt_of_eq t.isLt N_0; omega⟩ : Fin 4) r l)
      = (∑ k : Fin 4096, x0 (ix2 k r) * x1 (ix2 k (⟨256 * (t.val) + l.val, by have h := lt_of_lt_of_eq t.isLt N_0; omega⟩ : Fin 1024))) := by
  have ht := lt_of_lt_of_eq t.isLt N_0
  refine (Cert.Reference11Ideal.Read.val_main_v7_apply (F := Ideal) x0 x1 _).trans ((Cert.Reference11Ideal.Read.val_main_v6_apply (F := Ideal) x0 x1 _).trans ((Cert.Reference11Ideal.Read.val_main_v5_apply (F := Ideal) x0 x1 _).trans ((Cert.Reference11Ideal.Read.val_main_v4_apply x0 x1 _).trans ?_)))
  refine Finset.sum_congr rfl fun k _ => ?_
  refine (mul_comm _ _).trans ?_
  refine congrArg₂ (· * ·) (congrArg x0 (funext fun a => Fin.ext ?_)) (congrArg x1 (funext fun a => Fin.ext ?_))
  · match a with
    | ⟨0, _⟩ => rfl
    | ⟨1, _⟩ => show ((r.val * 4 + t.val) * 256 + l.val) / 1024 = r.val; omega
  · match a with
    | ⟨0, _⟩ => rfl
    | ⟨1, _⟩ => show ((r.val * 4 + t.val) * 256 + l.val) % 1024 = 256 * t.val + l.val; omega

/-! ## The arrays -/

theorem arr_2 (c : Dev nD) : (dats m 0 c).arrAt 2 cfg0.N = Cert.Reference11Ideal.Read.val_main_v7 (F := Ideal) (arg0 m c) (arg1 m c) := by
  have key : ∀ (t : Fin cfg0.N) (y : S1x512x256.Idx), out0_2 (iblk m c 0 t) (iblk m c 1 t) y
      = ((cfg0.win 2).blk t).view.read (Elt Ideal) (Cert.Reference11Ideal.Read.val_main_v7 (F := Ideal) (arg0 m c) (arg1 m c)) y := fun t y => by
    obtain ⟨r, l, rfl⟩ : ∃ (r : Fin 512) (l : Fin 256), y = ix3 0 r l := ⟨y 1, y 2, eta_unit3 y⟩
    refine Eq.trans ?_ (read_2 _ t r l).symm
    refine (congrFun (out2_eq (iblk m c 0 t) (iblk m c 1 t)) (ix3 0 r l)).trans ((pay2_at (iblk m c 0 t) (iblk m c 1 t) r l).trans (Eq.trans ?_ (ref2_at (arg0 m c) (arg1 m c) t r l).symm))
    exact (Finset.sum_congr rfl fun k _ => congrArg₂ (· * ·) (blk_0 m c t k r) (blk_1 m c t k l))
  refine (dats m 0 c).arrAt_eq_of_cover 2 _ (fun t hf => ?_) ((by decide +kernel : (cfg0.win 2).Covers).cover _ (Memref.isWhole_whole _))
  rw [Value.flushed2]
  exact funext fun y => key t y

/-! ## The claims -/

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono (fun r h =>
    ⟨fun c => (h c).2, sem_eq_zero_of_no_sems (by decide) _⟩) (Cert.Reference11Ideal.Value.run m ρ)

/-- The kernel's results and the reference's are equal, on any arguments. -/
theorem algebraic : Cert.algebraic_Kernel11Ideal_Reference11Ideal := fun m g m' g' _ he => by
  refine ⟨fun c => Cert.Reference11Ideal.Read.val_main_v7 (F := Ideal) (arg0 m c) (arg1 m c), ?_, ?_⟩
  · refine (θ_run _ _ _).mono (fun r h c => ?_) (Cert.Kernel11Ideal.Value.run_blocks m g)
    exact ⟨(h c).1.trans (arr_2 m c), (h c).2⟩
  · refine (θ_run _ _ _).mono (fun r h c => ?_) (Cert.Reference11Ideal.Value.run m' g')
    obtain ⟨h0, h1⟩ := he c
    refine ⟨(h c).1.trans ?_, (h c).2⟩
    · rw [Cert.Reference11Ideal.Read.val_main_v7_eq, h0, h1]

end Mm.DwStack

end
-- ==== Proof.DwQ.lean ====
/-
The gradient of the queries' weights, transposed, in one step over all 4096 rows.
-/
module

public import proofs.«01_k».proof.Proof.Halves
public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit

@[expose] public section

noncomputable section

set_option maxRecDepth 65536

namespace Mm.DwQ

open Idealize.ShloMosaic Idealize.ShloMosaic.TcCoe Idealize.SL.Sem Cert.Kernel12Ideal Cert.Kernel12Ideal.Gen Ffn
open scoped Pointwise

/-! ## What one point of the grid leaves -/

theorem zero2 : (![0, 0] : Fin 2 → Nat) = fun _ => 0 := funext fun a => by fin_cases a <;> rfl
theorem zero3 : (![0, 0, 0] : Fin 3 → Nat) = fun _ => 0 := funext fun a => by fin_cases a <;> rfl

/-- The value that a point writes to window 2, at an index. -/
theorem pay2_at (x0 : Vec Ideal S4096x512 .bf16) (x1 : Vec Ideal S4096x1024 .bf16) (r : Fin 512) (l : Fin 1024) :
    k0_pay1 x0 x1 (ix2 r l) = (∑ k : Fin 4096, x0 (ix2 k r) * x1 (ix2 k l)) := by
  pointwise [k0_pay1]

theorem out2_eq (x0 : Vec Ideal S4096x512 .bf16) (x1 : Vec Ideal S4096x1024 .bf16) :
    out0_2 x0 x1 = k0_pay1 x0 x1 := by
  unfold out0_2
  rw [View.canon_unit_zero zero2]
  simp only [View.ld_unit_zero (S := S4096x512) zero2, View.ld_unit_zero (S := S4096x1024) zero2]

/-! ## The blocks -/

variable (m : (ℓ : Loc nD τ sig) → Buf (Elt Ideal) ℓ)

abbrev arg0 (c : Dev nD) : FVec Ideal S4096x512 .bf16 := m ((c : Thread nD τ).loc main_arg0)
abbrev arg1 (c : Dev nD) : FVec Ideal S4096x1024 .bf16 := m ((c : Thread nD τ).loc main_arg1)

theorem at_0 : ∀ t : Fin cfg0.N, win0_0.index t = ![0, 0] := (by decide +kernel : ∀ t : Fin grid0.N, _)

theorem blk_0 (c : Dev nD) (t : Fin cfg0.N) (p : Fin 4096) (q : Fin 512) :
    iblk m c 0 t (ix2 p q) = arg0 m c (ix2 p q) := by
  unfold iblk
  rw [View.read_apply]
  show arg0 m c _ = arg0 m c _
  congr 1
  funext a
  apply Fin.ext
  have e := at_0 t
  match a with
  | ⟨0, _⟩ => show win0_0.index t 0 * 4096 + 1 * p.val = p.val; rw [e]; show (0) * 4096 + 1 * p.val = _; omega
  | ⟨1, _⟩ => show win0_0.index t 1 * 512 + 1 * q.val = q.val; rw [e]; show (0) * 512 + 1 * q.val = _; omega

theorem at_1 : ∀ t : Fin cfg0.N, win0_1.index t = ![0, 0] := (by decide +kernel : ∀ t : Fin grid0.N, _)

theorem blk_1 (c : Dev nD) (t : Fin cfg0.N) (p : Fin 4096) (q : Fin 1024) :
    iblk m c 1 t (ix2 p q) = arg1 m c (ix2 p q) := by
  unfold iblk
  rw [View.read_apply]
  show arg1 m c _ = arg1 m c _
  congr 1
  funext a
  apply Fin.ext
  have e := at_1 t
  match a with
  | ⟨0, _⟩ => show win0_1.index t 0 * 4096 + 1 * p.val = p.val; rw [e]; show (0) * 4096 + 1 * p.val = _; omega
  | ⟨1, _⟩ => show win0_1.index t 1 * 1024 + 1 * q.val = q.val; rw [e]; show (0) * 1024 + 1 * q.val = _; omega

theorem at_2 : ∀ t : Fin cfg0.N, win0_2.index t = ![0, 0] := (by decide +kernel : ∀ t : Fin grid0.N, _)

theorem read_2 (X : FVec Ideal S512x1024 .f32) (t : Fin cfg0.N) (r : Fin 512) (l : Fin 1024) :
    ((cfg0.win 2).blk t).view.read (Elt Ideal) X (ix2 r l) = X (ix2 r l) := by
  rw [View.read_apply]
  show X _ = X _
  congr 1
  funext a
  apply Fin.ext
  have e := at_2 t
  match a with
  | ⟨0, _⟩ => show win0_2.index t 0 * 512 + 1 * r.val = r.val; rw [e]; show (0) * 512 + 1 * r.val = _; omega
  | ⟨1, _⟩ => show win0_2.index t 1 * 1024 + 1 * l.val = l.val; rw [e]; show (0) * 1024 + 1 * l.val = _; omega

/-! ## The reference's values -/

theorem ref2_at (x0 : FVec Ideal S4096x512 .bf16) (x1 : FVec Ideal S4096x1024 .bf16) (t : Fin cfg0.N) (r : Fin 512) (l : Fin 1024) :
    Cert.Reference12Ideal.Read.val_main_v6 (F := Ideal) x0 x1 (ix2 r l)
      = (∑ k : Fin 4096, x0 (ix2 k r) * x1 (ix2 k l)) := by
  refine (Cert.Reference12Ideal.Read.val_main_v6_apply (F := Ideal) x0 x1 _).trans ((Cert.Reference12Ideal.Read.val_main_v5_apply (F := Ideal) x0 x1 _).trans ((Cert.Reference12Ideal.Read.val_main_v4_apply x0 x1 _).trans ?_))
  refine Finset.sum_congr rfl fun k _ => ?_
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

/-! ## The arrays -/

theorem arr_2 (c : Dev nD) : (dats m 0 c).arrAt 2 cfg0.N = Cert.Reference12Ideal.Read.val_main_v6 (F := Ideal) (arg0 m c) (arg1 m c) := by
  have key : ∀ (t : Fin cfg0.N) (y : S512x1024.Idx), out0_2 (iblk m c 0 t) (iblk m c 1 t) y
      = ((cfg0.win 2).blk t).view.read (Elt Ideal) (Cert.Reference12Ideal.Read.val_main_v6 (F := Ideal) (arg0 m c) (arg1 m c)) y := fun t y => by
    obtain ⟨r, l, rfl⟩ : ∃ (r : Fin 512) (l : Fin 1024), y = ix2 r l := ⟨y 0, y 1, eta_two y⟩
    refine Eq.trans ?_ (read_2 _ t r l).symm
    refine (congrFun (out2_eq (iblk m c 0 t) (iblk m c 1 t)) (ix2 r l)).trans ((pay2_at (iblk m c 0 t) (iblk m c 1 t) r l).trans (Eq.trans ?_ (ref2_at (arg0 m c) (arg1 m c) t r l).symm))
    exact (Finset.sum_congr rfl fun k _ => congrArg₂ (· * ·) (blk_0 m c t k r) (blk_1 m c t k l))
  refine (dats m 0 c).arrAt_eq_of_cover 2 _ (fun t hf => ?_) ((by decide +kernel : (cfg0.win 2).Covers).cover _ (Memref.isWhole_whole _))
  rw [Value.flushed2]
  exact funext fun y => key t y

/-! ## The claims -/

theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono (fun r h =>
    ⟨fun c => (h c).2, sem_eq_zero_of_no_sems (by decide) _⟩) (Cert.Reference12Ideal.Value.run m ρ)

/-- The kernel's results and the reference's are equal, on any arguments. -/
theorem algebraic : Cert.algebraic_Kernel12Ideal_Reference12Ideal := fun m g m' g' _ he => by
  refine ⟨fun c => Cert.Reference12Ideal.Read.val_main_v6 (F := Ideal) (arg0 m c) (arg1 m c), ?_, ?_⟩
  · refine (θ_run _ _ _).mono (fun r h c => ?_) (Cert.Kernel12Ideal.Value.run_blocks m g)
    exact ⟨(h c).1.trans (arr_2 m c), (h c).2⟩
  · refine (θ_run _ _ _).mono (fun r h c => ?_) (Cert.Reference12Ideal.Value.run m' g')
    obtain ⟨h0, h1⟩ := he c
    refine ⟨(h c).1.trans ?_, (h c).2⟩
    · rw [Cert.Reference12Ideal.Read.val_main_v6_eq, h0, h1]

end Mm.DwQ

end
-- ==== Proof.DwXq.lean ====
/-
The gradient of the memory attention's query weights, in one step over all 4096 rows.
-/
module

public import proofs.«01_k».proof.Proof.Halves
public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit

@[expose] public section

noncomputable section

set_option maxRecDepth 65536

namespace Mm.DwXq

open Idealize.ShloMosaic Idealize.ShloMosaic.TcCoe Idealize.SL.Sem Cert.Kernel13Ideal Cert.Kernel13Ideal.Gen Ffn
open scoped Pointwise

/-! ## What one point of the grid leaves -/

theorem zero2 : (![0, 0] : Fin 2 → Nat) = fun _ => 0 := funext fun a => by fin_cases a <;> rfl
theorem zero3 : (![0, 0, 0] : Fin 3 → Nat) = fun _ => 0 := funext fun a => by fin_cases a <;> rfl

/-- The value that a point writes to window 2, at an index. -/
theorem pay2_at (x0 : Vec Ideal S4096x1024 .bf16) (x1 : Vec Ideal S4096x512 .bf16) (r : Fin 1024) (l : Fin 512) :
    k0_pay1 x0 x1 (ix2 r l) = (∑ k : Fin 4096, x0 (ix2 k r) * x1 (ix2 k l)) := by
  pointwise [k0_pay1]

theorem out2_eq (x0 : Vec Ideal S4096x1024 .bf16) (x1 : Vec Ideal S4096x512 .bf16) :
    out0_2 x0 x1 = k0_pay1 x0 x1 := by
  unfold out0_2
  rw [View.canon_unit_zero zero2]
  simp only [View.ld_unit_zero (S := S4096x1024) zero2, View.ld_unit_zero (S := S4096x512) zero2]

/-! ## The blocks -/

variable (m : (ℓ : Loc nD τ sig) → Buf (Elt Ideal) ℓ)

abbrev arg0 (c : Dev nD) : FVec Ideal S4096x1024 .bf16 := m ((c : Thread nD τ).loc main_arg0)
abbrev arg1 (c : Dev nD) : FVec Ideal S4096x512 .bf16 := m ((c : Thread nD τ).loc main_arg1)

theorem at_0 : ∀ t : Fin cfg0.N, win0_0.index t = ![0, 0] := (by decide +kernel : ∀ t : Fin grid0.N, _)

theorem blk_0 (c : Dev nD) (t : Fin cfg0.N) (p : Fin 4096) (q : Fin 1024) :
    iblk m c 0 t (ix2 p q) = arg0 m c (ix2 p q) := by
  unfold iblk
  rw [View.read_apply]
  show arg0 m c _ = arg0 m c _
  congr 1
  funext a
  apply Fin.ext
  have e := at_0 t
  match a with
  | ⟨0, _⟩ => show win0_0.index t 0 * 4096 + 1 * p.val = p.val; rw [e]; show (0) * 4096 + 1 * p.val = _; omega
  | ⟨1, _⟩ => show win0_0.index t 1 * 1024 + 1 * q.val = q.val; rw [e]; show (0) * 1024 + 1 * q.val = _; omega

theorem at_1 : ∀ t : Fin cfg0.N, win0_1.index t = ![0, 0] := (by decide +kernel : ∀ t : Fin grid0.N, _)

theorem blk_1 (c : Dev nD) (t : Fin cfg0.N) (p : Fin 4096) (q : Fin 512) :
    iblk m c 1 t (ix2 p q) = arg1 m c (ix2 p q) := by
  unfold iblk
  rw [View.read_apply]
  show arg1 m c _ = arg1 m c _
  congr 1
  funext a
  apply Fin.ext
  have e := at_1 t
  match a with
  | ⟨0, _⟩ => show win0_1.index t 0 * 4096 + 1 * p.val = p.val; rw [e]; show (0) * 4096 + 1 * p.val = _; omega
  | ⟨1, _⟩ => show win0_1.index t 1 * 512 + 1 * q.val = q.val; rw [e]; show (0) * 512 + 1 * q.val = _; omega

theorem at_2 : ∀ t : Fin cfg0.N, win0_2.index t = ![0, 0] := (by decide +kernel : ∀ t : Fin grid0.N, _)

theorem read_2 (X : FVec Ideal S1024x512 .f32) (t : Fin cfg0.N) (r : Fin 1024) (l : Fin 512) :
    ((cfg0.win 2).blk t).view.read (Elt Ideal) X (ix2 r l) = X (ix2 r l) := by
  rw [View.read_apply]
  show X _ = X _
  congr 1
  funext a
  apply Fin.ext
  have e := at_2 t
  match a with
  | ⟨0, _⟩ => show win0_2.index t 0 * 1024 + 1 * r.val = r.val; rw [e]; show (0) * 1024 + 1 * r.val = _; omega
  | ⟨1, _⟩ => show win0_2.index t 1 * 512 + 1 * l.val = l.val; rw [e]; show (0) * 512 + 1 * l.val = _; omega

/-! ## The reference's values -/

theorem ref2_at (x0 : FVec Ideal S4096x1024 .bf16) (x1 : FVec Ideal S4096x512 .bf16) (t : Fin cfg0.N) (r : Fin 1024) (l : Fin 512) :
    Cert.Reference13Ideal.Read.val_main_v5 (F := Ideal) x0 x1 (ix2 r l)
      = (∑ k : Fin 4096, x0 (ix2 k r) * x1 (ix2 k l)) := by
  refine (Cert.Reference13Ideal.Read.val_main_v5_apply (F := Ideal) x0 x1 _).trans ((Cert.Reference13Ideal.Read.val_main_v4_apply x0 x1 _).trans ?_)
  refine Finset.sum_congr rfl fun k _ => ?_
  refine (mul_comm _ _).trans ?_
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

/-! ## The arrays -/

theorem arr_2 (c : Dev nD) : (dats m 0 c).arrAt 2 cfg0.N = Cert.Reference13Ideal.Read.val_main_v5 (F := Ideal) (arg0 m c) (arg1 m c) := by
  have key : ∀ (t : Fin cfg0.N) (y : S1024x512.Idx), out0_2 (iblk m c 0 t) (iblk m c 1 t) y
      = ((cfg0.win 2).blk t).view.read (Elt Ideal) (Cert.Reference13Ideal.Read.val_main_v5 (F := Ideal) (arg0 m c) (arg1 m c)) y := fun t y => by
    obtain ⟨r, l, rfl⟩ : ∃ (r : Fin 1024) (l : Fin 512), y = ix2 r l := ⟨y 0, y 1, eta_two y⟩
    refine Eq.trans ?_ (read_2 _ t r l).symm
    refine (congrFun (out2_eq (iblk m c 0 t) (iblk m c 1 t)) (ix2 r l)).trans ((pay2_at (iblk m c 0 t) (iblk m c 1 t) r l).trans (Eq.trans ?_ (ref2_at (arg0 m c) (arg1 m c) t r l).symm))
    exact (Finset.sum_congr rfl fun k _ => congrArg₂ (· * ·) (blk_0 m c t k r) (blk_1 m c t k l))
  refine (dats m 0 c).arrAt_eq_of_cover 2 _ (fun t hf => ?_) ((by decide +kernel : (cfg0.win 2).Covers).cover _ (Memref.isWhole_whole _))
  rw [Value.flushed2]
  exact funext fun y => key t y

/-! ## The claims -/

theorem frame_ideal : Cert.quiescent_Kernel13Ideal := fun m ρ _ => Cert.Kernel13Ideal.Gen.frame m ρ

theorem frame_reference : Cert.quiescent_Reference13Ideal := fun m ρ _ =>
  (θ_run Cert.Reference13Ideal.defs _ _).mono (fun r h =>
    ⟨fun c => (h c).2, sem_eq_zero_of_no_sems (by decide) _⟩) (Cert.Reference13Ideal.Value.run m ρ)

/-- The kernel's results and the reference's are equal, on any arguments. -/
theorem algebraic : Cert.algebraic_Kernel13Ideal_Reference13Ideal := fun m g m' g' _ he => by
  refine ⟨fun c => Cert.Reference13Ideal.Read.val_main_v5 (F := Ideal) (arg0 m c) (arg1 m c), ?_, ?_⟩
  · refine (θ_run _ _ _).mono (fun r h c => ?_) (Cert.Kernel13Ideal.Value.run_blocks m g)
    exact ⟨(h c).1.trans (arr_2 m c), (h c).2⟩
  · refine (θ_run _ _ _).mono (fun r h c => ?_) (Cert.Reference13Ideal.Value.run m' g')
    obtain ⟨h0, h1⟩ := he c
    refine ⟨(h c).1.trans ?_, (h c).2⟩
    · rw [Cert.Reference13Ideal.Read.val_main_v5_eq, h0, h1]

end Mm.DwXq

end
-- ==== Proof.DO.lean ====
/-
The gradient at the attention's output: each point of the grid is one block of 1024 rows.
-/
module

public import proofs.«01_k».proof.Proof.Halves
public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit

@[expose] public section

noncomputable section

set_option maxRecDepth 65536

namespace Mm.DO

open Idealize.ShloMosaic Idealize.ShloMosaic.TcCoe Idealize.SL.Sem Cert.Kernel14Ideal Cert.Kernel14Ideal.Gen Ffn
open scoped Pointwise

/-! ## What one point of the grid leaves -/

theorem zero2 : (![0, 0] : Fin 2 → Nat) = fun _ => 0 := funext fun a => by fin_cases a <;> rfl
theorem zero3 : (![0, 0, 0] : Fin 3 → Nat) = fun _ => 0 := funext fun a => by fin_cases a <;> rfl

/-- The value that a point writes to window 2, at an index. -/
theorem pay2_at (x0 : Vec Ideal S1024x1024 .bf16) (x1 : Vec Ideal S1024x512 .bf16) (r : Fin 1024) (l : Fin 512) :
    k0_pay1 x0 x1 (ix2 r l) = (∑ k : Fin 1024, x0 (ix2 r k) * x1 (ix2 k l)) := by
  pointwise [k0_pay1]

theorem out2_eq (x0 : Vec Ideal S1024x1024 .bf16) (x1 : Vec Ideal S1024x512 .bf16) :
    out0_2 x0 x1 = k0_pay1 x0 x1 := by
  unfold out0_2
  rw [View.canon_unit_zero zero2]
  simp only [View.ld_unit_zero (S := S1024x1024) zero2, View.ld_unit_zero (S := S1024x512) zero2]

/-! ## The blocks -/

variable (m : (ℓ : Loc nD τ sig) → Buf (Elt Ideal) ℓ)

abbrev arg0 (c : Dev nD) : FVec Ideal S4096x1024 .bf16 := m ((c : Thread nD τ).loc main_arg0)
abbrev arg1 (c : Dev nD) : FVec Ideal S1024x512 .bf16 := m ((c : Thread nD τ).loc main_arg1)

theorem at_0 : ∀ t : Fin cfg0.N, win0_0.index t = ![t.val, 0] := (by decide +kernel : ∀ t : Fin grid0.N, _)

theorem blk_0 (c : Dev nD) (t : Fin cfg0.N) (p : Fin 1024) (q : Fin 1024) :
    iblk m c 0 t (ix2 p q) = arg0 m c (ix2 (⟨1024 * (t.val) + p.val, by have h := lt_of_lt_of_eq t.isLt N_0; omega⟩ : Fin 4096) q) := by
  unfold iblk
  rw [View.read_apply]
  show arg0 m c _ = arg0 m c _
  congr 1
  funext a
  apply Fin.ext
  have e := at_0 t
  match a with
  | ⟨0, _⟩ => show win0_0.index t 0 * 1024 + 1 * p.val = 1024 * (t.val) + p.val; rw [e]; show (t.val) * 1024 + 1 * p.val = _; omega
  | ⟨1, _⟩ => show win0_0.index t 1 * 1024 + 1 * q.val = q.val; rw [e]; show (0) * 1024 + 1 * q.val = _; omega

theorem at_1 : ∀ t : Fin cfg0.N, win0_1.index t = ![0, 0] := (by decide +kernel : ∀ t : Fin grid0.N, _)

theorem blk_1 (c : Dev nD) (t : Fin cfg0.N) (p : Fin 1024) (q : Fin 512) :
    iblk m c 1 t (ix2 p q) = arg1 m c (ix2 p q) := by
  unfold iblk
  rw [View.read_apply]
  show arg1 m c _ = arg1 m c _
  congr 1
  funext a
  apply Fin.ext
  have e := at_1 t
  match a with
  | ⟨0, _⟩ => show win0_1.index t 0 * 1024 + 1 * p.val = p.val; rw [e]; show (0) * 1024 + 1 * p.val = _; omega
  | ⟨1, _⟩ => show win0_1.index t 1 * 512 + 1 * q.val = q.val; rw [e]; show (0) * 512 + 1 * q.val = _; omega

theorem at_2 : ∀ t : Fin cfg0.N, win0_2.index t = ![t.val, 0] := (by decide +kernel : ∀ t : Fin grid0.N, _)

theorem read_2 (X : FVec Ideal S4096x512 .f32) (t : Fin cfg0.N) (r : Fin 1024) (l : Fin 512) :
    ((cfg0.win 2).blk t).view.read (Elt Ideal) X (ix2 r l) = X (ix2 (⟨1024 * (t.val) + r.val, by have h := lt_of_lt_of_eq t.isLt N_0; omega⟩ : Fin 4096) l) := by
  rw [View.read_apply]
  show X _ = X _
  congr 1
  funext a
  apply Fin.ext
  have e := at_2 t
  match a with
  | ⟨0, _⟩ => show win0_2.index t 0 * 1024 + 1 * r.val = 1024 * (t.val) + r.val; rw [e]; show (t.val) * 1024 + 1 * r.val = _; omega
  | ⟨1, _⟩ => show win0_2.index t 1 * 512 + 1 * l.val = l.val; rw [e]; show (0) * 512 + 1 * l.val = _; omega

/-! ## The reference's values -/

theorem ref2_at (x0 : FVec Ideal S4096x1024 .bf16) (x1 : FVec Ideal S1024x512 .bf16) (t : Fin cfg0.N) (r : Fin 1024) (l : Fin 512) :
    Cert.Reference14Ideal.Read.val_main_v5 (F := Ideal) x0 x1 (ix2 (⟨1024 * (t.val) + r.val, by have h := lt_of_lt_of_eq t.isLt N_0; omega⟩ : Fin 4096) l)
      = (∑ k : Fin 1024, x0 (ix2 (⟨1024 * (t.val) + r.val, by have h := lt_of_lt_of_eq t.isLt N_0; omega⟩ : Fin 4096) k) * x1 (ix2 k l)) := by
  refine (Cert.Reference14Ideal.Read.val_main_v5_apply x0 x1 _).trans ?_
  refine Finset.sum_congr rfl fun k _ => ?_
  refine congrArg₂ (· * ·) (congrArg x0 (funext fun a => Fin.ext ?_)) ((Cert.Reference14Ideal.Read.val_main_v2_apply (F := Ideal) x1 _).trans ((Cert.Reference14Ideal.Read.val_main_v1_apply (F := Ideal) x1 _).trans (congrArg x1 (funext fun a => Fin.ext ?_))))
  · match a with
    | ⟨0, _⟩ => rfl
    | ⟨1, _⟩ => rfl
  · match a with
    | ⟨0, _⟩ => rfl
    | ⟨1, _⟩ => rfl

/-! ## The arrays -/

theorem arr_2 (c : Dev nD) : (dats m 0 c).arrAt 2 cfg0.N = Cert.Reference14Ideal.Read.val_main_v5 (F := Ideal) (arg0 m c) (arg1 m c) := by
  have key : ∀ (t : Fin cfg0.N) (y : S1024x512.Idx), out0_2 (iblk m c 0 t) (iblk m c 1 t) y
      = ((cfg0.win 2).blk t).view.read (Elt Ideal) (Cert.Reference14Ideal.Read.val_main_v5 (F := Ideal) (arg0 m c) (arg1 m c)) y := fun t y => by
    obtain ⟨r, l, rfl⟩ : ∃ (r : Fin 1024) (l : Fin 512), y = ix2 r l := ⟨y 0, y 1, eta_two y⟩
    refine Eq.trans ?_ (read_2 _ t r l).symm
    refine (congrFun (out2_eq (iblk m c 0 t) (iblk m c 1 t)) (ix2 r l)).trans ((pay2_at (iblk m c 0 t) (iblk m c 1 t) r l).trans (Eq.trans ?_ (ref2_at (arg0 m c) (arg1 m c) t r l).symm))
    exact (Finset.sum_congr rfl fun k _ => congrArg₂ (· * ·) (blk_0 m c t r k) (blk_1 m c t k l))
  refine (dats m 0 c).arrAt_eq_of_cover 2 _ (fun t hf => ?_) ((by decide +kernel : (cfg0.win 2).Covers).cover _ (Memref.isWhole_whole _))
  rw [Value.flushed2]
  exact funext fun y => key t y

/-! ## The claims -/

theorem frame_ideal : Cert.quiescent_Kernel14Ideal := fun m ρ _ => Cert.Kernel14Ideal.Gen.frame m ρ

theorem frame_reference : Cert.quiescent_Reference14Ideal := fun m ρ _ =>
  (θ_run Cert.Reference14Ideal.defs _ _).mono (fun r h =>
    ⟨fun c => (h c).2, sem_eq_zero_of_no_sems (by decide) _⟩) (Cert.Reference14Ideal.Value.run m ρ)

/-- The kernel's results and the reference's are equal, on any arguments. -/
theorem algebraic : Cert.algebraic_Kernel14Ideal_Reference14Ideal := fun m g m' g' _ he => by
  refine ⟨fun c => Cert.Reference14Ideal.Read.val_main_v5 (F := Ideal) (arg0 m c) (arg1 m c), ?_, ?_⟩
  · refine (θ_run _ _ _).mono (fun r h c => ?_) (Cert.Kernel14Ideal.Value.run_blocks m g)
    exact ⟨(h c).1.trans (arr_2 m c), (h c).2⟩
  · refine (θ_run _ _ _).mono (fun r h c => ?_) (Cert.Reference14Ideal.Value.run m' g')
    obtain ⟨h0, h1⟩ := he c
    refine ⟨(h c).1.trans ?_, (h c).2⟩
    · rw [Cert.Reference14Ideal.Read.val_main_v5_eq, h0, h1]

end Mm.DO

end
-- ==== Proof.Xq.lean ====
/-
The memory attention's queries: each point of the grid is one block of 1024 rows.
-/
module

public import proofs.«01_k».proof.Proof.Halves
public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit

@[expose] public section

noncomputable section

set_option maxRecDepth 65536

namespace Mm.Xq

open Idealize.ShloMosaic Idealize.ShloMosaic.TcCoe Idealize.SL.Sem Cert.Kernel15Ideal Cert.Kernel15Ideal.Gen Ffn
open scoped Pointwise

/-! ## What one point of the grid leaves -/

theorem zero2 : (![0, 0] : Fin 2 → Nat) = fun _ => 0 := funext fun a => by fin_cases a <;> rfl
theorem zero3 : (![0, 0, 0] : Fin 3 → Nat) = fun _ => 0 := funext fun a => by fin_cases a <;> rfl

/-- The value that a point writes to window 2, at an index. -/
theorem pay2_at (x0 : Vec Ideal S1024x1024 .bf16) (x1 : Vec Ideal S1024x512 .bf16) (r : Fin 1024) (l : Fin 512) :
    k0_pay1 x0 x1 (ix2 r l) = (∑ k : Fin 1024, x0 (ix2 r k) * x1 (ix2 k l)) := by
  pointwise [k0_pay1]

theorem out2_eq (x0 : Vec Ideal S1024x1024 .bf16) (x1 : Vec Ideal S1024x512 .bf16) :
    out0_2 x0 x1 = k0_pay1 x0 x1 := by
  unfold out0_2
  rw [View.canon_unit_zero zero2]
  simp only [View.ld_unit_zero (S := S1024x1024) zero2, View.ld_unit_zero (S := S1024x512) zero2]

/-! ## The blocks -/

variable (m : (ℓ : Loc nD τ sig) → Buf (Elt Ideal) ℓ)

abbrev arg0 (c : Dev nD) : FVec Ideal S4096x1024 .bf16 := m ((c : Thread nD τ).loc main_arg0)
abbrev arg1 (c : Dev nD) : FVec Ideal S1024x512 .bf16 := m ((c : Thread nD τ).loc main_arg1)

theorem at_0 : ∀ t : Fin cfg0.N, win0_0.index t = ![t.val, 0] := (by decide +kernel : ∀ t : Fin grid0.N, _)

theorem blk_0 (c : Dev nD) (t : Fin cfg0.N) (p : Fin 1024) (q : Fin 1024) :
    iblk m c 0 t (ix2 p q) = arg0 m c (ix2 (⟨1024 * (t.val) + p.val, by have h := lt_of_lt_of_eq t.isLt N_0; omega⟩ : Fin 4096) q) := by
  unfold iblk
  rw [View.read_apply]
  show arg0 m c _ = arg0 m c _
  congr 1
  funext a
  apply Fin.ext
  have e := at_0 t
  match a with
  | ⟨0, _⟩ => show win0_0.index t 0 * 1024 + 1 * p.val = 1024 * (t.val) + p.val; rw [e]; show (t.val) * 1024 + 1 * p.val = _; omega
  | ⟨1, _⟩ => show win0_0.index t 1 * 1024 + 1 * q.val = q.val; rw [e]; show (0) * 1024 + 1 * q.val = _; omega

theorem at_1 : ∀ t : Fin cfg0.N, win0_1.index t = ![0, 0] := (by decide +kernel : ∀ t : Fin grid0.N, _)

theorem blk_1 (c : Dev nD) (t : Fin cfg0.N) (p : Fin 1024) (q : Fin 512) :
    iblk m c 1 t (ix2 p q) = arg1 m c (ix2 p q) := by
  unfold iblk
  rw [View.read_apply]
  show arg1 m c _ = arg1 m c _
  congr 1
  funext a
  apply Fin.ext
  have e := at_1 t
  match a with
  | ⟨0, _⟩ => show win0_1.index t 0 * 1024 + 1 * p.val = p.val; rw [e]; show (0) * 1024 + 1 * p.val = _; omega
  | ⟨1, _⟩ => show win0_1.index t 1 * 512 + 1 * q.val = q.val; rw [e]; show (0) * 512 + 1 * q.val = _; omega

theorem at_2 : ∀ t : Fin cfg0.N, win0_2.index t = ![t.val, 0] := (by decide +kernel : ∀ t : Fin grid0.N, _)

theorem read_2 (X : FVec Ideal S4096x512 .bf16) (t : Fin cfg0.N) (r : Fin 1024) (l : Fin 512) :
    ((cfg0.win 2).blk t).view.read (Elt Ideal) X (ix2 r l) = X (ix2 (⟨1024 * (t.val) + r.val, by have h := lt_of_lt_of_eq t.isLt N_0; omega⟩ : Fin 4096) l) := by
  rw [View.read_apply]
  show X _ = X _
  congr 1
  funext a
  apply Fin.ext
  have e := at_2 t
  match a with
  | ⟨0, _⟩ => show win0_2.index t 0 * 1024 + 1 * r.val = 1024 * (t.val) + r.val; rw [e]; show (t.val) * 1024 + 1 * r.val = _; omega
  | ⟨1, _⟩ => show win0_2.index t 1 * 512 + 1 * l.val = l.val; rw [e]; show (0) * 512 + 1 * l.val = _; omega

/-! ## The reference's values -/

theorem ref2_at (x0 : FVec Ideal S4096x1024 .bf16) (x1 : FVec Ideal S1024x512 .bf16) (t : Fin cfg0.N) (r : Fin 1024) (l : Fin 512) :
    Cert.Reference15Ideal.Read.val_main_v3 (F := Ideal) x0 x1 (ix2 (⟨1024 * (t.val) + r.val, by have h := lt_of_lt_of_eq t.isLt N_0; omega⟩ : Fin 4096) l)
      = (∑ k : Fin 1024, x0 (ix2 (⟨1024 * (t.val) + r.val, by have h := lt_of_lt_of_eq t.isLt N_0; omega⟩ : Fin 4096) k) * x1 (ix2 k l)) := by
  refine (Cert.Reference15Ideal.Read.val_main_v3_apply (F := Ideal) x0 x1 _).trans ((Cert.Reference15Ideal.Read.val_main_v2_apply x0 x1 _).trans ?_)
  refine Finset.sum_congr rfl fun k _ => ?_
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

/-! ## The arrays -/

theorem arr_2 (c : Dev nD) : (dats m 0 c).arrAt 2 cfg0.N = Cert.Reference15Ideal.Read.val_main_v3 (F := Ideal) (arg0 m c) (arg1 m c) := by
  have key : ∀ (t : Fin cfg0.N) (y : S1024x512.Idx), out0_2 (iblk m c 0 t) (iblk m c 1 t) y
      = ((cfg0.win 2).blk t).view.read (Elt Ideal) (Cert.Reference15Ideal.Read.val_main_v3 (F := Ideal) (arg0 m c) (arg1 m c)) y := fun t y => by
    obtain ⟨r, l, rfl⟩ : ∃ (r : Fin 1024) (l : Fin 512), y = ix2 r l := ⟨y 0, y 1, eta_two y⟩
    refine Eq.trans ?_ (read_2 _ t r l).symm
    refine (congrFun (out2_eq (iblk m c 0 t) (iblk m c 1 t)) (ix2 r l)).trans ((pay2_at (iblk m c 0 t) (iblk m c 1 t) r l).trans (Eq.trans ?_ (ref2_at (arg0 m c) (arg1 m c) t r l).symm))
    exact (Finset.sum_congr rfl fun k _ => congrArg₂ (· * ·) (blk_0 m c t r k) (blk_1 m c t k l))
  refine (dats m 0 c).arrAt_eq_of_cover 2 _ (fun t hf => ?_) ((by decide +kernel : (cfg0.win 2).Covers).cover _ (Memref.isWhole_whole _))
  rw [Value.flushed2]
  exact funext fun y => key t y

/-! ## The claims -/

theorem frame_ideal : Cert.quiescent_Kernel15Ideal := fun m ρ _ => Cert.Kernel15Ideal.Gen.frame m ρ

theorem frame_reference : Cert.quiescent_Reference15Ideal := fun m ρ _ =>
  (θ_run Cert.Reference15Ideal.defs _ _).mono (fun r h =>
    ⟨fun c => (h c).2, sem_eq_zero_of_no_sems (by decide) _⟩) (Cert.Reference15Ideal.Value.run m ρ)

/-- The kernel's results and the reference's are equal, on any arguments. -/
theorem algebraic : Cert.algebraic_Kernel15Ideal_Reference15Ideal := fun m g m' g' _ he => by
  refine ⟨fun c => Cert.Reference15Ideal.Read.val_main_v3 (F := Ideal) (arg0 m c) (arg1 m c), ?_, ?_⟩
  · refine (θ_run _ _ _).mono (fun r h c => ?_) (Cert.Kernel15Ideal.Value.run_blocks m g)
    exact ⟨(h c).1.trans (arr_2 m c), (h c).2⟩
  · refine (θ_run _ _ _).mono (fun r h c => ?_) (Cert.Reference15Ideal.Value.run m' g')
    obtain ⟨h0, h1⟩ := he c
    refine ⟨(h c).1.trans ?_, (h c).2⟩
    · rw [Cert.Reference15Ideal.Read.val_main_v3_eq, h0, h1]

end Mm.Xq

end
-- ==== Proof.NormFrames.lean ====
/-
The frames of the normalising calls and the branches' call on words: each program on words is the same text as the one over the
reals, so one proof, stated for any floats, serves both.
-/
module

public import proofs.«01_k».proof.Defs
public import proofs.«01_k».proof.Proof.Tables
public import proofs.«01_k».proof.Proof.Gen.Kernel16
public import proofs.«01_k».proof.Proof.Gen.Kernel16Ideal.Frame
public import proofs.«01_k».proof.Proof.Gen.Kernel17
public import proofs.«01_k».proof.Proof.Gen.Kernel17Ideal.Frame
public import proofs.«01_k».proof.Proof.Gen.Kernel18
public import proofs.«01_k».proof.Proof.Gen.Kernel18Ideal.Frame
public import proofs.«01_k».proof.Proof.Gen.Kernel19
public import proofs.«01_k».proof.Proof.Gen.Kernel19Ideal.Frame
public import proofs.«01_k».proof.Proof.Gen.Kernel20
public import proofs.«01_k».proof.Proof.Gen.Kernel20Ideal.Frame

@[expose] public section

noncomputable section

namespace Mm

open Idealize.ShloMosaic Idealize.SL.Sem

/-! ## Program 16 -/

set_option maxHeartbeats 4000000 in
theorem body_16 : @Cert.Kernel16.cc0_d_hf_norm_ffn_bwd Bits _ _ = @Cert.Kernel16Ideal.cc0_d_hf_norm_ffn_bwd Bits _ _ := rfl

set_option maxHeartbeats 4000000 in
theorem table_16 (l : Fin 1) (x) : @Cert.Kernel16.defs₀ Bits _ _ .tc l x = @Cert.Kernel16Ideal.defs₀ Bits _ _ .tc l x := by
  match l, x with
  | 0, (t, s) =>
    unfold Cert.Kernel16.defs₀ Cert.Kernel16Ideal.defs₀
    dsimp only [Defs.onTc_tc]
    rw [body_16]
    generalize @Cert.Kernel16Ideal.cc0_d_hf_norm_ffn_bwd Bits _ _ = f
    exact rfl
  | ⟨_ + 1, h⟩, _ => exact absurd h (Nat.not_lt.2 (Nat.le_add_left _ _))

theorem tables_16 : @Cert.Kernel16.defs₀ Bits _ _ = @Cert.Kernel16Ideal.defs₀ Bits _ _ := by
  refine funext fun p => ?_
  cases p with
  | tc => exact funext fun l => funext fun x => table_16 l x
  | scScalar _ =>
    unfold Cert.Kernel16.defs₀ Cert.Kernel16Ideal.defs₀
    exact Fox.scalar_none _ _ _
  | scVector _ _ =>
    unfold Cert.Kernel16.defs₀ Cert.Kernel16Ideal.defs₀
    exact Fox.vector_none _ _ _ _

set_option maxHeartbeats 4000000 in
theorem defs_16 : @Cert.Kernel16.defs Bits _ _ = @Cert.Kernel16Ideal.defs Bits _ _ := by
  unfold Cert.Kernel16.defs Cert.Kernel16Ideal.defs
  rw [tables_16]
  generalize @Cert.Kernel16Ideal.defs₀ Bits _ _ = f
  exact rfl

set_option maxHeartbeats 4000000 in
theorem main_16 : @Cert.Kernel16.main Bits _ = @Cert.Kernel16Ideal.main Bits _ := rfl

set_option maxHeartbeats 4000000 in
theorem frame_16 : Cert.quiescent_Kernel16 := fun m ρ _ => by
  have h := @Cert.Kernel16Ideal.Gen.frame Bits _ m ρ
  rw [← defs_16, ← main_16] at h
  exact h

/-! ## Program 17 -/

set_option maxHeartbeats 4000000 in
theorem body_17 : @Cert.Kernel17.cc0_d_hx_norm_x_bwd Bits _ _ = @Cert.Kernel17Ideal.cc0_d_hx_norm_x_bwd Bits _ _ := rfl

set_option maxHeartbeats 4000000 in
theorem table_17 (l : Fin 1) (x) : @Cert.Kernel17.defs₀ Bits _ _ .tc l x = @Cert.Kernel17Ideal.defs₀ Bits _ _ .tc l x := by
  match l, x with
  | 0, (t, s) =>
    unfold Cert.Kernel17.defs₀ Cert.Kernel17Ideal.defs₀
    dsimp only [Defs.onTc_tc]
    rw [body_17]
    generalize @Cert.Kernel17Ideal.cc0_d_hx_norm_x_bwd Bits _ _ = f
    exact rfl
  | ⟨_ + 1, h⟩, _ => exact absurd h (Nat.not_lt.2 (Nat.le_add_left _ _))

theorem tables_17 : @Cert.Kernel17.defs₀ Bits _ _ = @Cert.Kernel17Ideal.defs₀ Bits _ _ := by
  refine funext fun p => ?_
  cases p with
  | tc => exact funext fun l => funext fun x => table_17 l x
  | scScalar _ =>
    unfold Cert.Kernel17.defs₀ Cert.Kernel17Ideal.defs₀
    exact Fox.scalar_none _ _ _
  | scVector _ _ =>
    unfold Cert.Kernel17.defs₀ Cert.Kernel17Ideal.defs₀
    exact Fox.vector_none _ _ _ _

set_option maxHeartbeats 4000000 in
theorem defs_17 : @Cert.Kernel17.defs Bits _ _ = @Cert.Kernel17Ideal.defs Bits _ _ := by
  unfold Cert.Kernel17.defs Cert.Kernel17Ideal.defs
  rw [tables_17]
  generalize @Cert.Kernel17Ideal.defs₀ Bits _ _ = f
  exact rfl

set_option maxHeartbeats 4000000 in
theorem main_17 : @Cert.Kernel17.main Bits _ = @Cert.Kernel17Ideal.main Bits _ := rfl

set_option maxHeartbeats 4000000 in
theorem frame_17 : Cert.quiescent_Kernel17 := fun m ρ _ => by
  have h := @Cert.Kernel17Ideal.Gen.frame Bits _ m ρ
  rw [← defs_17, ← main_17] at h
  exact h

/-! ## Program 18 -/

set_option maxHeartbeats 4000000 in
theorem body_18 : @Cert.Kernel18.cc0_mix_out_norm_x Bits _ _ = @Cert.Kernel18Ideal.cc0_mix_out_norm_x Bits _ _ := rfl

set_option maxHeartbeats 4000000 in
theorem table_18 (l : Fin 1) (x) : @Cert.Kernel18.defs₀ Bits _ _ .tc l x = @Cert.Kernel18Ideal.defs₀ Bits _ _ .tc l x := by
  match l, x with
  | 0, (t, s) =>
    unfold Cert.Kernel18.defs₀ Cert.Kernel18Ideal.defs₀
    dsimp only [Defs.onTc_tc]
    rw [body_18]
    generalize @Cert.Kernel18Ideal.cc0_mix_out_norm_x Bits _ _ = f
    exact rfl
  | ⟨_ + 1, h⟩, _ => exact absurd h (Nat.not_lt.2 (Nat.le_add_left _ _))

theorem tables_18 : @Cert.Kernel18.defs₀ Bits _ _ = @Cert.Kernel18Ideal.defs₀ Bits _ _ := by
  refine funext fun p => ?_
  cases p with
  | tc => exact funext fun l => funext fun x => table_18 l x
  | scScalar _ =>
    unfold Cert.Kernel18.defs₀ Cert.Kernel18Ideal.defs₀
    exact Fox.scalar_none _ _ _
  | scVector _ _ =>
    unfold Cert.Kernel18.defs₀ Cert.Kernel18Ideal.defs₀
    exact Fox.vector_none _ _ _ _

set_option maxHeartbeats 4000000 in
theorem defs_18 : @Cert.Kernel18.defs Bits _ _ = @Cert.Kernel18Ideal.defs Bits _ _ := by
  unfold Cert.Kernel18.defs Cert.Kernel18Ideal.defs
  rw [tables_18]
  generalize @Cert.Kernel18Ideal.defs₀ Bits _ _ = f
  exact rfl

set_option maxHeartbeats 4000000 in
theorem main_18 : @Cert.Kernel18.main Bits _ = @Cert.Kernel18Ideal.main Bits _ := rfl

set_option maxHeartbeats 4000000 in
theorem frame_18 : Cert.quiescent_Kernel18 := fun m ρ _ => by
  have h := @Cert.Kernel18Ideal.Gen.frame Bits _ m ρ
  rw [← defs_18, ← main_18] at h
  exact h

/-! ## Program 19 -/

set_option maxHeartbeats 4000000 in
theorem body_19 : @Cert.Kernel19.cc0_x_out_norm_ffn Bits _ _ = @Cert.Kernel19Ideal.cc0_x_out_norm_ffn Bits _ _ := rfl

set_option maxHeartbeats 4000000 in
theorem table_19 (l : Fin 1) (x) : @Cert.Kernel19.defs₀ Bits _ _ .tc l x = @Cert.Kernel19Ideal.defs₀ Bits _ _ .tc l x := by
  match l, x with
  | 0, (t, s) =>
    unfold Cert.Kernel19.defs₀ Cert.Kernel19Ideal.defs₀
    dsimp only [Defs.onTc_tc]
    rw [body_19]
    generalize @Cert.Kernel19Ideal.cc0_x_out_norm_ffn Bits _ _ = f
    exact rfl
  | ⟨_ + 1, h⟩, _ => exact absurd h (Nat.not_lt.2 (Nat.le_add_left _ _))

theorem tables_19 : @Cert.Kernel19.defs₀ Bits _ _ = @Cert.Kernel19Ideal.defs₀ Bits _ _ := by
  refine funext fun p => ?_
  cases p with
  | tc => exact funext fun l => funext fun x => table_19 l x
  | scScalar _ =>
    unfold Cert.Kernel19.defs₀ Cert.Kernel19Ideal.defs₀
    exact Fox.scalar_none _ _ _
  | scVector _ _ =>
    unfold Cert.Kernel19.defs₀ Cert.Kernel19Ideal.defs₀
    exact Fox.vector_none _ _ _ _

set_option maxHeartbeats 4000000 in
theorem defs_19 : @Cert.Kernel19.defs Bits _ _ = @Cert.Kernel19Ideal.defs Bits _ _ := by
  unfold Cert.Kernel19.defs Cert.Kernel19Ideal.defs
  rw [tables_19]
  generalize @Cert.Kernel19Ideal.defs₀ Bits _ _ = f
  exact rfl

set_option maxHeartbeats 4000000 in
theorem main_19 : @Cert.Kernel19.main Bits _ = @Cert.Kernel19Ideal.main Bits _ := rfl

set_option maxHeartbeats 4000000 in
theorem frame_19 : Cert.quiescent_Kernel19 := fun m ρ _ => by
  have h := @Cert.Kernel19Ideal.Gen.frame Bits _ m ρ
  rw [← defs_19, ← main_19] at h
  exact h

/-! ## Program 20 -/

set_option maxHeartbeats 4000000 in
theorem body_20 : @Cert.Kernel20.cc0_branches_mix Bits _ _ = @Cert.Kernel20Ideal.cc0_branches_mix Bits _ _ := rfl

set_option maxHeartbeats 4000000 in
theorem table_20 (l : Fin 1) (x) : @Cert.Kernel20.defs₀ Bits _ _ .tc l x = @Cert.Kernel20Ideal.defs₀ Bits _ _ .tc l x := by
  match l, x with
  | 0, (t, s) =>
    unfold Cert.Kernel20.defs₀ Cert.Kernel20Ideal.defs₀
    dsimp only [Defs.onTc_tc]
    rw [body_20]
    generalize @Cert.Kernel20Ideal.cc0_branches_mix Bits _ _ = f
    exact rfl
  | ⟨_ + 1, h⟩, _ => exact absurd h (Nat.not_lt.2 (Nat.le_add_left _ _))

theorem tables_20 : @Cert.Kernel20.defs₀ Bits _ _ = @Cert.Kernel20Ideal.defs₀ Bits _ _ := by
  refine funext fun p => ?_
  cases p with
  | tc => exact funext fun l => funext fun x => table_20 l x
  | scScalar _ =>
    unfold Cert.Kernel20.defs₀ Cert.Kernel20Ideal.defs₀
    exact Fox.scalar_none _ _ _
  | scVector _ _ =>
    unfold Cert.Kernel20.defs₀ Cert.Kernel20Ideal.defs₀
    exact Fox.vector_none _ _ _ _

set_option maxHeartbeats 4000000 in
theorem defs_20 : @Cert.Kernel20.defs Bits _ _ = @Cert.Kernel20Ideal.defs Bits _ _ := by
  unfold Cert.Kernel20.defs Cert.Kernel20Ideal.defs
  rw [tables_20]
  generalize @Cert.Kernel20Ideal.defs₀ Bits _ _ = f
  exact rfl

set_option maxHeartbeats 4000000 in
theorem main_20 : @Cert.Kernel20.main Bits _ = @Cert.Kernel20Ideal.main Bits _ := rfl

set_option maxHeartbeats 4000000 in
theorem frame_20 : Cert.quiescent_Kernel20 := fun m ρ _ => by
  have h := @Cert.Kernel20Ideal.Gen.frame Bits _ m ρ
  rw [← defs_20, ← main_20] at h
  exact h

end Mm

end
-- ==== Proof.Norm.lean ====
/-
The normalisation of one row by the root of its mean square, and its gradient as the kernel and the reference compute it.
-/
module

public import proofs.«01_k».proof.Proof.Halves
public import Idealize.ShloMosaic.PureOps.Ideal.Laws

@[expose] public section

noncomputable section

namespace Norm

open Idealize.ShloMosaic

theorem count_f32 : Ideal.ofBits .f32 0x44800000#32 = ((1024 : ℝ) : EReal) := by
  simp [Ideal.ofBits, Ideal.ieee, -EReal.coe_mul]
  norm_num

theorem eps_f32 : Ideal.ofBits .f32 0x358637BD#32 = ((8796093 / 2 ^ 43 : ℝ) : EReal) := by
  simp [Ideal.ofBits, Ideal.ieee, -EReal.coe_mul]
  norm_num

theorem half_f32 : Ideal.ofBits .f32 0xBF000000#32 = ((-(1 / 2) : ℝ) : EReal) := by
  simp [Ideal.ofBits, Ideal.ieee, -EReal.coe_mul]
  norm_num

/-- A row's mean square with the small constant added. -/
def mean (x : Fin 1024 → EReal) : EReal :=
  Ideal.div (∑ k, x k * x k) (Ideal.ofBits .f32 0x44800000#32) + Ideal.ofBits .f32 0x358637BD#32

/-- A row's factor. -/
def scale (x : Fin 1024 → EReal) : EReal := Ideal.rsqrt (mean x)

theorem coe_sum {n : ℕ} (f : Fin n → ℝ) : ∑ k, (f k : EReal) = ((∑ k, f k : ℝ) : EReal) := by
  have h : ∀ S : Finset (Fin n), ∑ k ∈ S, (f k : EReal) = ((∑ k ∈ S, f k : ℝ) : EReal) := fun S => by
    induction S using Finset.cons_induction with
    | empty => rw [Finset.sum_empty, Finset.sum_empty, EReal.coe_zero]
    | cons k S hk ih => rw [Finset.sum_cons, Finset.sum_cons, ih, EReal.coe_add]
  exact h Finset.univ

/-- The mean square of a row of real numbers is a positive real number. -/
theorem mean_real (X : Fin 1024 → ℝ) : ∃ a : ℝ, 0 < a ∧ mean (fun k => (X k : EReal)) = (a : EReal) := by
  refine ⟨(∑ k, X k * X k) * (1 / 1024) + 8796093 / 2 ^ 43, ?_, ?_⟩
  · have h : 0 ≤ ∑ k, X k * X k := Finset.sum_nonneg fun k _ => mul_self_nonneg _
    positivity
  · unfold mean
    rw [count_f32, eps_f32, Ideal.div_coe (by norm_num), EReal.coe_add, EReal.coe_mul, ← coe_sum]
    simp only [EReal.coe_mul]

/-- A row with an infinite entry has an infinite mean square. -/
theorem mean_top (x : Fin 1024 → EReal) (k : Fin 1024) (h : x k * x k = ⊤) : mean x = ⊤ := by
  have n : ∀ j, 0 ≤ x j * x j := fun j => by
    rcases le_total 0 (x j) with p | p
    · exact mul_nonneg p p
    · rw [← neg_mul_neg]
      exact mul_nonneg (EReal.neg_nonneg.mpr p) (EReal.neg_nonneg.mpr p)
  have e : ∑ j, x j * x j = ⊤ :=
    top_le_iff.mp (h ▸ Finset.single_le_sum (f := fun j => x j * x j) (fun j _ => n j) (Finset.mem_univ k))
  unfold mean
  rw [e, count_f32, eps_f32, Ideal.div_coe (by norm_num), EReal.top_mul_coe_of_pos (by norm_num), EReal.top_add_coe]

/-- A sum's product with a real number that is not negative. -/
theorem sum_scale {n : ℕ} (f : Fin n → EReal) (q : ℝ) (hq : 0 ≤ q) : ∑ k, f k * (q : EReal) = (∑ k, f k) * (q : EReal) := by
  have h : ∀ S : Finset (Fin n), ∑ k ∈ S, f k * (q : EReal) = (∑ k ∈ S, f k) * (q : EReal) := fun S => by
    induction S using Finset.cons_induction with
    | empty => rw [Finset.sum_empty, Finset.sum_empty, zero_mul]
    | cons k S hk ih =>
      rw [Finset.sum_cons, Finset.sum_cons, ih, EReal.right_distrib_of_nonneg_of_ne_top (EReal.coe_nonneg.mpr hq) (EReal.coe_ne_top q)]
  exact h Finset.univ

/-- An extended real twice. -/
theorem twice (w : EReal) : w + w = w * ((2 : ℝ) : EReal) := by
  have e : ((2 : ℝ) : EReal) = 1 + 1 := by
    rw [← EReal.coe_one, ← EReal.coe_add]
    norm_num
  rw [e, EReal.left_distrib_of_nonneg zero_le_one zero_le_one, mul_one]

/-- A row's gradient, from the gradient `d` at the normalised row times the gains, as the kernel computes it and as the reference does. -/
theorem grad (x d : Fin 1024 → EReal) (z : EReal) (j : Fin 1024) :
    z + scale x * (d j - x j * scale x * Ideal.div (∑ k, d k * (x k * scale x)) (Ideal.ofBits .f32 0x44800000#32))
      = z + d j * scale x
          + x j * Ideal.div ((∑ k, x k * d k) * (Ideal.ofBits .f32 0xBF000000#32 * Ideal.div (scale x) (mean x))) (Ideal.ofBits .f32 0x44800000#32)
          + Ideal.div ((∑ k, x k * d k) * (Ideal.ofBits .f32 0xBF000000#32 * Ideal.div (scale x) (mean x))) (Ideal.ofBits .f32 0x44800000#32) * x j := by
  have c : Ideal.ofBits .f32 0x44800000#32 = ((1024 : ℝ) : EReal) := count_f32
  rw [c, Ideal.div_coe (by norm_num), Ideal.div_coe (by norm_num)]
  by_cases hr : ∃ k, x k * x k = ⊤
  · obtain ⟨k, hk⟩ := hr
    have hm := mean_top x k hk
    have hs : scale x = 0 := by
      unfold scale
      rw [hm]
      rfl
    have hd : Ideal.div (0 : EReal) ⊤ = 0 := by
      unfold Ideal.div
      rw [if_neg EReal.top_ne_zero, zero_mul]
    rw [hs, hm, hd]
    simp only [zero_mul, mul_zero, add_zero]
  · have hx : ∀ k, x k = ((EReal.toReal (x k) : ℝ) : EReal) := fun k => by
      refine (EReal.coe_toReal (fun e => hr ⟨k, ?_⟩) (fun e => hr ⟨k, ?_⟩)).symm
      · rw [e, EReal.top_mul_top]
      · rw [e, EReal.bot_mul_bot]
    obtain ⟨X, rfl⟩ : ∃ X : Fin 1024 → ℝ, x = fun k => (X k : EReal) := ⟨fun k => EReal.toReal (x k), funext hx⟩
    obtain ⟨a, ha, hm⟩ := mean_real X
    have hs : scale (fun k => (X k : EReal)) = (((√a)⁻¹ : ℝ) : EReal) := by
      unfold scale
      rw [hm, Ideal.rsqrt_coe, if_neg (not_lt.2 ha.le), if_neg ha.ne']
    have hq : (√a)⁻¹ * (√a)⁻¹ = 1 / a := by
      rw [← mul_inv, Real.mul_self_sqrt ha.le, one_div]
    have hn : 0 ≤ (√a)⁻¹ := inv_nonneg.mpr (Real.sqrt_nonneg a)
    rw [hs, hm]
    generalize (√a)⁻¹ = q at hq hn
    have e : ∑ k, d k * ((X k : EReal) * (q : EReal)) = (∑ k, (X k : EReal) * d k) * (q : EReal) := by
      rw [← sum_scale _ _ hn]
      exact Finset.sum_congr rfl fun k _ => by rw [← mul_assoc, mul_comm (d k)]
    rw [e, half_f32, Ideal.div_coe ha.ne']
    generalize (∑ k, (X k : EReal) * d k) = T
    generalize d j = u
    rw [sub_eq_add_neg, EReal.left_distrib_of_nonneg_of_ne_top (EReal.coe_nonneg.mpr hn) (EReal.coe_ne_top q), add_assoc, add_assoc]
    refine congrArg (z + ·) (congrArg₂ (· + ·) (mul_comm _ _) ?_)
    have l : (q : EReal) * -((X j : EReal) * (q : EReal) * (T * (q : EReal) * ((1 / 1024 : ℝ) : EReal)))
        = T * ((-(q * (X j * q) * q * (1 / 1024)) : ℝ) : EReal) := by
      rw [EReal.coe_neg, mul_neg, mul_neg]
      simp only [EReal.coe_mul]
      refine congrArg Neg.neg ?_
      ac_rfl
    have r : T * (((-(1 / 2) : ℝ) : EReal) * ((q : EReal) * ((1 / a : ℝ) : EReal))) * ((1 / 1024 : ℝ) : EReal) * (X j : EReal)
        = T * (((-(1 / 2)) * (q * (1 / a)) * (1 / 1024) * X j : ℝ) : EReal) := by
      simp only [EReal.coe_mul]
      ac_rfl
    refine l.trans (Eq.trans ?_ (congrArg (· + _) (mul_comm _ _)))
    rw [r, twice, mul_assoc T, ← EReal.coe_mul]
    refine congrArg (T * ·) (congrArg _ ?_)
    rw [← hq]
    ring

end Norm

end
-- ==== Proof.NormBwdFfn.lean ====
/-
The gradient of the feed-forward network's normalised input: the product with the first weights, then the normalisation's gradient in blocks of 256 rows,
the gains' gradient added up over the steps.
-/
module

public import proofs.«01_k».proof.Proof.Norm
public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit

@[expose] public section

noncomputable section

set_option maxRecDepth 65536

namespace Mm.NormBwdFfn

open Idealize.ShloMosaic Idealize.ShloMosaic.TcCoe Idealize.SL.Sem Cert.Kernel16Ideal Cert.Kernel16Ideal.Gen Ffn Norm
open scoped Pointwise

theorem zero2 : (![0, 0] : Fin 2 → Nat) = fun _ => 0 := funext fun a => by fin_cases a <;> rfl

/-! ## What one step computes -/

/-- The gradient block, from the step's blocks. -/
abbrev dxOf (x0 : Vec Ideal S256x5632 .bf16) (x1 : Vec Ideal S5632x1024 .bf16) (x2 : Vec Ideal S256x1024 .f32) (x3 : Vec Ideal S1x1024 .f32) (x4 : Vec Ideal S256x1024 .f32) : FVec Ideal S256x1024 .f32 :=
  k0_pay1 (k0_pay5 x2) (k0_pay6 x2) (k0_pay8 x0 x1 x3) x4 (k0_pay9 x0 x1 x2 x3)

section
variable (x0 : Vec Ideal S256x5632 .bf16) (x1 : Vec Ideal S5632x1024 .bf16) (x2 : Vec Ideal S256x1024 .f32) (x3 : Vec Ideal S1x1024 .f32) (x4 : Vec Ideal S256x1024 .f32)

theorem prod_at (r : Fin 256) (l : Fin 1024) : k0_pay4 x0 x1 (ix2 r l) = ∑ k : Fin 5632, x0 (ix2 r k) * x1 (ix2 k l) := by
  pointwise [k0_pay4]

theorem scale_at (r : Fin 256) : k0_pay5 x2 (ix2 r (0 : Fin 1)) = scale fun k => x2 (ix2 r k) := by
  unfold scale mean
  pointwise [k0_pay5]

theorem norm_at (r : Fin 256) (l : Fin 1024) : k0_pay6 x2 (ix2 r l) = x2 (ix2 r l) * scale fun k => x2 (ix2 r k) := by
  refine Eq.trans ?_ (congrArg (x2 (ix2 r l) * ·) (scale_at x2 r))
  pointwise [k0_pay6]

theorem gain_at (r : Fin 256) (l : Fin 1024) : k0_pay8 x0 x1 x3 (ix2 r l) = k0_pay4 x0 x1 (ix2 r l) * x3 (ix2 0 l) := by
  pointwise [k0_pay8]

theorem dot_at (r : Fin 256) (l : Fin 1024) :
    k0_pay9 x0 x1 x2 x3 (ix2 r l) = Ideal.div (∑ k, k0_pay8 x0 x1 x3 (ix2 r k) * k0_pay6 x2 (ix2 r k)) (Ideal.ofBits .f32 0x44800000#32) := by
  pointwise [k0_pay9]

theorem last_at (p : FVec Ideal S256x1 .f32) (q u : FVec Ideal S256x1024 .f32) (z : Vec Ideal S256x1024 .f32) (w : FVec Ideal S256x1024 .f32) (r : Fin 256) (l : Fin 1024) :
    k0_pay1 p q u z w (ix2 r l) = z (ix2 r l) + p (ix2 r (0 : Fin 1)) * (u (ix2 r l) - q (ix2 r l) * w (ix2 r l)) := by
  pointwise [k0_pay1]

theorem narrow_at (p : FVec Ideal S256x1 .f32) (q u : FVec Ideal S256x1024 .f32) (z : Vec Ideal S256x1024 .f32) (w : FVec Ideal S256x1024 .f32) (y : S256x1024.Idx) :
    k0_pay2 p q u z w y = k0_pay1 p q u z w y := rfl

/-- The gradient block at an index. -/
theorem dx_at (r : Fin 256) (l : Fin 1024) (x d : Fin 1024 → EReal) (hx : ∀ k, x2 (ix2 r k) = x k) (hd : ∀ k, k0_pay8 x0 x1 x3 (ix2 r k) = d k) :
    dxOf x0 x1 x2 x3 x4 (ix2 r l)
      = x4 (ix2 r l) + scale x * (d l - x l * scale x * Ideal.div (∑ k, d k * (x k * scale x)) (Ideal.ofBits .f32 0x44800000#32)) := by
  obtain rfl : (fun k => x2 (ix2 r k)) = x := funext hx
  obtain rfl : (fun k => k0_pay8 x0 x1 x3 (ix2 r k)) = d := funext hd
  refine (last_at _ _ _ _ _ r l).trans ?_
  rw [scale_at, norm_at, dot_at]
  simp only [norm_at]

/-- The gains' gradient after one step. -/
theorem gains_at (v : Vec Ideal S1x1024 .f32) (l : Fin 1024) :
    k0_pay7 x0 x1 x2 v (ix2 0 l) = v (ix2 0 l) + ∑ x, k0_pay4 x0 x1 (ix2 x l) * k0_pay6 x2 (ix2 x l) := by
  pointwise [k0_pay7]

theorem start_at (l : Fin 1024) : (k0_pay3 (F := Ideal)) (ix2 (0 : Fin 1) l) = 0 := by
  refine Eq.trans ?_ Ideal.ofBits_zero_f32
  rfl
end

section
variable (c : Dev nD) (i : grid0.Coords) (a1 : Memref sig .tc .vmem S256x5632 .bf16) (h1 : a1.IsWhole) (a2 : Memref sig .tc .vmem S5632x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S256x1024 .f32) (h6 : a6.IsWhole) (a7 : Memref sig .tc .vmem S256x1024 .bf16) (h7 : a7.IsWhole) (a8 : Memref sig .tc .vmem S1x1024 .f32) (h8 : a8.IsWhole) (x0 : Vec Ideal S256x5632 .bf16) (x1 : Vec Ideal S5632x1024 .bf16) (x2 : Vec Ideal S256x1024 .f32) (x3 : Vec Ideal S1x1024 .f32) (x4 : Vec Ideal S256x1024 .f32) (xo : Vec Ideal S1x1024 .f32)

theorem step_A_5 (hc0 : cond0_0 i) : out0_A_5 c i a1 h1 a2 h2 a3 h3 a4 h4 a5 h5 a6 h6 a7 h7 a8 h8 hc0 x0 x1 x2 x3 x4 = dxOf x0 x1 x2 x3 x4 := by
  unfold out0_A_5
  rw [View.read_writes_eq_canon _ _ _ (cover0_A_5 c i a1 h1 a2 h2 a3 h3 a4 h4 a5 h5 a6 h6 a7 h7 a8 h8 hc0 x0 x1 x2 x3 x4)]
  unfold kernelRun0_A
  dsimp only
  sl_unfold_words
  rw [View.canon_unit_zero zero2]
  simp only [View.readAt_eq_ld, h1.read_unread, h2.read_unread, h3.read_unread, h4.read_unread, h5.read_unread, h8.read_unread, View.ld_unit_zero (S := S256x5632) zero2, View.ld_unit_zero (S := S5632x1024) zero2, View.ld_unit_zero (S := S256x1024) zero2, View.ld_unit_zero (S := S1x1024) zero2, shapeCast_self]

theorem step_A_6 (hc0 : cond0_0 i) : out0_A_6 c i a1 h1 a2 h2 a3 h3 a4 h4 a5 h5 a6 h6 a7 h7 a8 h8 hc0 x0 x1 x2 x3 x4 = k0_pay2 (k0_pay5 x2) (k0_pay6 x2) (k0_pay8 x0 x1 x3) x4 (k0_pay9 x0 x1 x2 x3) := by
  unfold out0_A_6
  rw [View.read_writes_eq_canon _ _ _ (cover0_A_6 c i a1 h1 a2 h2 a3 h3 a4 h4 a5 h5 a6 h6 a7 h7 a8 h8 hc0 x0 x1 x2 x3 x4)]
  unfold kernelRun0_A
  dsimp only
  sl_unfold_words
  rw [View.canon_unit_zero zero2]
  simp only [View.readAt_eq_ld, h1.read_unread, h2.read_unread, h3.read_unread, h4.read_unread, h5.read_unread, h8.read_unread, View.ld_unit_zero (S := S256x5632) zero2, View.ld_unit_zero (S := S5632x1024) zero2, View.ld_unit_zero (S := S256x1024) zero2, View.ld_unit_zero (S := S1x1024) zero2, shapeCast_self]

theorem step_A_7 (hc0 : cond0_0 i) : out0_A_7 c i a1 h1 a2 h2 a3 h3 a4 h4 a5 h5 a6 h6 a7 h7 a8 h8 hc0 x0 x1 x2 x3 x4 = k0_pay7 x0 x1 x2 (k0_pay3 (F := Ideal)) := by
  unfold out0_A_7
  rw [View.read_writes_eq_canon _ _ _ (cover0_A_7 c i a1 h1 a2 h2 a3 h3 a4 h4 a5 h5 a6 h6 a7 h7 a8 h8 hc0 x0 x1 x2 x3 x4)]
  unfold kernelRun0_A
  dsimp only
  sl_unfold_words
  rw [View.canon_cons_unit_zero zero2]
  simp only [View.readCov_unit_zero (S := S1x1024) _ zero2]
  simp only [View.readAt_eq_ld, h1.read_unread, h2.read_unread, h3.read_unread, h4.read_unread, h5.read_unread, h8.read_unread, View.ld_unit_zero (S := S256x5632) zero2, View.ld_unit_zero (S := S5632x1024) zero2, View.ld_unit_zero (S := S256x1024) zero2, View.ld_unit_zero (S := S1x1024) zero2, shapeCast_self]

theorem step_B_5 (hc0 : ¬cond0_0 i) : out0_B_5 c i a1 h1 a2 h2 a3 h3 a4 h4 a5 h5 a6 h6 a7 h7 a8 h8 hc0 x0 x1 x2 x3 x4 xo = dxOf x0 x1 x2 x3 x4 := by
  unfold out0_B_5
  rw [View.read_writes_eq_canon _ _ _ (cover0_B_5 c i a1 h1 a2 h2 a3 h3 a4 h4 a5 h5 a6 h6 a7 h7 a8 h8 hc0 x0 x1 x2 x3 x4 xo)]
  unfold kernelRun0_B
  dsimp only
  sl_unfold_words
  rw [View.canon_unit_zero zero2]
  simp only [View.readAt_eq_ld, h1.read_unread, h2.read_unread, h3.read_unread, h4.read_unread, h5.read_unread, h8.read_unread, View.ld_unit_zero (S := S256x5632) zero2, View.ld_unit_zero (S := S5632x1024) zero2, View.ld_unit_zero (S := S256x1024) zero2, View.ld_unit_zero (S := S1x1024) zero2, shapeCast_self]

theorem step_B_6 (hc0 : ¬cond0_0 i) : out0_B_6 c i a1 h1 a2 h2 a3 h3 a4 h4 a5 h5 a6 h6 a7 h7 a8 h8 hc0 x0 x1 x2 x3 x4 xo = k0_pay2 (k0_pay5 x2) (k0_pay6 x2) (k0_pay8 x0 x1 x3) x4 (k0_pay9 x0 x1 x2 x3) := by
  unfold out0_B_6
  rw [View.read_writes_eq_canon _ _ _ (cover0_B_6 c i a1 h1 a2 h2 a3 h3 a4 h4 a5 h5 a6 h6 a7 h7 a8 h8 hc0 x0 x1 x2 x3 x4 xo)]
  unfold kernelRun0_B
  dsimp only
  sl_unfold_words
  rw [View.canon_unit_zero zero2]
  simp only [View.readAt_eq_ld, h1.read_unread, h2.read_unread, h3.read_unread, h4.read_unread, h5.read_unread, h8.read_unread, View.ld_unit_zero (S := S256x5632) zero2, View.ld_unit_zero (S := S5632x1024) zero2, View.ld_unit_zero (S := S256x1024) zero2, View.ld_unit_zero (S := S1x1024) zero2, shapeCast_self]

theorem step_B_7 (hc0 : ¬cond0_0 i) : out0_B_7 c i a1 h1 a2 h2 a3 h3 a4 h4 a5 h5 a6 h6 a7 h7 a8 h8 hc0 x0 x1 x2 x3 x4 xo = k0_pay7 x0 x1 x2 xo := by
  unfold out0_B_7
  rw [View.read_writes_eq_canon _ _ _ (cover0_B_7 c i a1 h1 a2 h2 a3 h3 a4 h4 a5 h5 a6 h6 a7 h7 a8 h8 hc0 x0 x1 x2 x3 x4 xo)]
  unfold kernelRun0_B
  dsimp only
  sl_unfold_words
  rw [View.canon_unit_zero zero2]
  simp only [View.readAt_eq_ld, h1.read_unread, h2.read_unread, h3.read_unread, h4.read_unread, h5.read_unread, h8.read_unread, View.ld_unit_zero (S := S256x5632) zero2, View.ld_unit_zero (S := S5632x1024) zero2, View.ld_unit_zero (S := S256x1024) zero2, View.ld_unit_zero (S := S1x1024) zero2, shapeCast_self]
end

/-! ## The blocks -/

variable (m : (ℓ : Loc nD τ sig) → Buf (Elt Ideal) ℓ)

abbrev arg0 (c : Dev nD) : FVec Ideal S4096x5632 .bf16 := m ((c : Thread nD τ).loc main_arg0)
abbrev arg1 (c : Dev nD) : FVec Ideal S5632x1024 .bf16 := m ((c : Thread nD τ).loc main_arg1)
abbrev arg2 (c : Dev nD) : FVec Ideal S4096x1024 .f32 := m ((c : Thread nD τ).loc main_arg2)
abbrev arg3 (c : Dev nD) : FVec Ideal S1x1024 .f32 := m ((c : Thread nD τ).loc main_arg3)
abbrev arg4 (c : Dev nD) : FVec Ideal S4096x1024 .f32 := m ((c : Thread nD τ).loc main_arg4)

theorem at_0 : ∀ t : Fin cfg0.N, win0_0.index t = ![t.val, 0] := (by decide +kernel : ∀ t : Fin grid0.N, _)

theorem blk_0 (c : Dev nD) (t : Fin cfg0.N) (p : Fin 256) (q : Fin 5632) :
    iblk m c 0 t (ix2 p q) = arg0 m c (ix2 (⟨256 * (t.val) + p.val, by have h := lt_of_lt_of_eq t.isLt N_0; omega⟩ : Fin 4096) q) := by
  unfold iblk
  rw [View.read_apply]
  show arg0 m c _ = arg0 m c _
  congr 1
  funext a
  apply Fin.ext
  have e := at_0 t
  match a with
  | ⟨0, _⟩ => show win0_0.index t 0 * 256 + 1 * p.val = 256 * (t.val) + p.val; rw [e]; show (t.val) * 256 + 1 * p.val = _; omega
  | ⟨1, _⟩ => show win0_0.index t 1 * 5632 + 1 * q.val = q.val; rw [e]; show (0) * 5632 + 1 * q.val = _; omega

theorem at_1 : ∀ t : Fin cfg0.N, win0_1.index t = ![0, 0] := (by decide +kernel : ∀ t : Fin grid0.N, _)

theorem blk_1 (c : Dev nD) (t : Fin cfg0.N) (p : Fin 5632) (q : Fin 1024) :
    iblk m c 1 t (ix2 p q) = arg1 m c (ix2 p q) := by
  unfold iblk
  rw [View.read_apply]
  show arg1 m c _ = arg1 m c _
  congr 1
  funext a
  apply Fin.ext
  have e := at_1 t
  match a with
  | ⟨0, _⟩ => show win0_1.index t 0 * 5632 + 1 * p.val = p.val; rw [e]; show (0) * 5632 + 1 * p.val = _; omega
  | ⟨1, _⟩ => show win0_1.index t 1 * 1024 + 1 * q.val = q.val; rw [e]; show (0) * 1024 + 1 * q.val = _; omega

theorem at_2 : ∀ t : Fin cfg0.N, win0_2.index t = ![t.val, 0] := (by decide +kernel : ∀ t : Fin grid0.N, _)

theorem blk_2 (c : Dev nD) (t : Fin cfg0.N) (p : Fin 256) (q : Fin 1024) :
    iblk m c 2 t (ix2 p q) = arg2 m c (ix2 (⟨256 * (t.val) + p.val, by have h := lt_of_lt_of_eq t.isLt N_0; omega⟩ : Fin 4096) q) := by
  unfold iblk
  rw [View.read_apply]
  show arg2 m c _ = arg2 m c _
  congr 1
  funext a
  apply Fin.ext
  have e := at_2 t
  match a with
  | ⟨0, _⟩ => show win0_2.index t 0 * 256 + 1 * p.val = 256 * (t.val) + p.val; rw [e]; show (t.val) * 256 + 1 * p.val = _; omega
  | ⟨1, _⟩ => show win0_2.index t 1 * 1024 + 1 * q.val = q.val; rw [e]; show (0) * 1024 + 1 * q.val = _; omega

theorem at_3 : ∀ t : Fin cfg0.N, win0_3.index t = ![0, 0] := (by decide +kernel : ∀ t : Fin grid0.N, _)

theorem blk_3 (c : Dev nD) (t : Fin cfg0.N) (q : Fin 1024) :
    iblk m c 3 t (ix2 (0 : Fin 1) q) = arg3 m c (ix2 (0 : Fin 1) q) := by
  unfold iblk
  rw [View.read_apply]
  show arg3 m c _ = arg3 m c _
  congr 1
  funext a
  apply Fin.ext
  have e := at_3 t
  match a with
  | ⟨0, _⟩ => show win0_3.index t 0 * 1 + 1 * 0 = 0; rw [e]; show (0) * 1 + 1 * 0 = _; omega
  | ⟨1, _⟩ => show win0_3.index t 1 * 1024 + 1 * q.val = q.val; rw [e]; show (0) * 1024 + 1 * q.val = _; omega

theorem at_4 : ∀ t : Fin cfg0.N, win0_4.index t = ![t.val, 0] := (by decide +kernel : ∀ t : Fin grid0.N, _)

theorem blk_4 (c : Dev nD) (t : Fin cfg0.N) (p : Fin 256) (q : Fin 1024) :
    iblk m c 4 t (ix2 p q) = arg4 m c (ix2 (⟨256 * (t.val) + p.val, by have h := lt_of_lt_of_eq t.isLt N_0; omega⟩ : Fin 4096) q) := by
  unfold iblk
  rw [View.read_apply]
  show arg4 m c _ = arg4 m c _
  congr 1
  funext a
  apply Fin.ext
  have e := at_4 t
  match a with
  | ⟨0, _⟩ => show win0_4.index t 0 * 256 + 1 * p.val = 256 * (t.val) + p.val; rw [e]; show (t.val) * 256 + 1 * p.val = _; omega
  | ⟨1, _⟩ => show win0_4.index t 1 * 1024 + 1 * q.val = q.val; rw [e]; show (0) * 1024 + 1 * q.val = _; omega

theorem at_5 : ∀ t : Fin cfg0.N, win0_5.index t = ![t.val, 0] := (by decide +kernel : ∀ t : Fin grid0.N, _)

theorem read_5 (X : FVec Ideal S4096x1024 .f32) (t : Fin cfg0.N) (r : Fin 256) (l : Fin 1024) :
    ((cfg0.win 5).blk t).view.read (Elt Ideal) X (ix2 r l) = X (ix2 (⟨256 * (t.val) + r.val, by have h := lt_of_lt_of_eq t.isLt N_0; omega⟩ : Fin 4096) l) := by
  rw [View.read_apply]
  show X _ = X _
  congr 1
  funext a
  apply Fin.ext
  have e := at_5 t
  match a with
  | ⟨0, _⟩ => show win0_5.index t 0 * 256 + 1 * r.val = 256 * (t.val) + r.val; rw [e]; show (t.val) * 256 + 1 * r.val = _; omega
  | ⟨1, _⟩ => show win0_5.index t 1 * 1024 + 1 * l.val = l.val; rw [e]; show (0) * 1024 + 1 * l.val = _; omega

theorem at_6 : ∀ t : Fin cfg0.N, win0_6.index t = ![t.val, 0] := (by decide +kernel : ∀ t : Fin grid0.N, _)

theorem read_6 (X : FVec Ideal S4096x1024 .bf16) (t : Fin cfg0.N) (r : Fin 256) (l : Fin 1024) :
    ((cfg0.win 6).blk t).view.read (Elt Ideal) X (ix2 r l) = X (ix2 (⟨256 * (t.val) + r.val, by have h := lt_of_lt_of_eq t.isLt N_0; omega⟩ : Fin 4096) l) := by
  rw [View.read_apply]
  show X _ = X _
  congr 1
  funext a
  apply Fin.ext
  have e := at_6 t
  match a with
  | ⟨0, _⟩ => show win0_6.index t 0 * 256 + 1 * r.val = 256 * (t.val) + r.val; rw [e]; show (t.val) * 256 + 1 * r.val = _; omega
  | ⟨1, _⟩ => show win0_6.index t 1 * 1024 + 1 * l.val = l.val; rw [e]; show (0) * 1024 + 1 * l.val = _; omega

theorem at_7 : ∀ t : Fin cfg0.N, win0_7.index t = ![0, 0] := (by decide +kernel : ∀ t : Fin grid0.N, _)

theorem read_7 (X : FVec Ideal S1x1024 .f32) (t : Fin cfg0.N) (l : Fin 1024) :
    ((cfg0.win 7).blk t).view.read (Elt Ideal) X (ix2 (0 : Fin 1) l) = X (ix2 (0 : Fin 1) l) := by
  rw [View.read_apply]
  show X _ = X _
  congr 1
  funext a
  apply Fin.ext
  have e := at_7 t
  match a with
  | ⟨0, _⟩ => show win0_7.index t 0 * 1 + 1 * 0 = 0; rw [e]; show (0) * 1 + 1 * 0 = _; omega
  | ⟨1, _⟩ => show win0_7.index t 1 * 1024 + 1 * l.val = l.val; rw [e]; show (0) * 1024 + 1 * l.val = _; omega

theorem last_of_flush : ∀ t : Fin cfg0.N, win0_7.flush t = true → t.val = 15 := (by decide +kernel : ∀ t : Fin grid0.N, _)

/-! ## What the run leaves -/

theorem left_5 (c : Dev nD) (t : Fin cfg0.N) : (outsAt0 m c t.val t.isLt).1 = dxOf (iblk m c 0 t) (iblk m c 1 t) (iblk m c 2 t) (iblk m c 3 t) (iblk m c 4 t) := by
  by_cases h : t.val % 16 = 0
  · rw [outsAt0_A m c t h]
    dsimp only
    exact step_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h)
  · rw [outsAt0_B m c t h]
    dsimp only
    exact step_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) _ (fun e => h ((hcond0_0 t).mp e))

theorem left_6 (c : Dev nD) (t : Fin cfg0.N) : (outsAt0 m c t.val t.isLt).2.1
    = k0_pay2 (k0_pay5 (iblk m c 2 t)) (k0_pay6 (iblk m c 2 t)) (k0_pay8 (iblk m c 0 t) (iblk m c 1 t) (iblk m c 3 t)) (iblk m c 4 t) (k0_pay9 (iblk m c 0 t) (iblk m c 1 t) (iblk m c 2 t) (iblk m c 3 t)) := by
  by_cases h : t.val % 16 = 0
  · rw [outsAt0_A m c t h]
    dsimp only
    exact step_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h)
  · rw [outsAt0_B m c t h]
    dsimp only
    exact step_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) _ (fun e => h ((hcond0_0 t).mp e))

theorem first_7 (c : Dev nD) (t : Fin cfg0.N) (h : t.val % 16 = 0) :
    (outsAt0 m c t.val t.isLt).2.2 = k0_pay7 (iblk m c 0 t) (iblk m c 1 t) (iblk m c 2 t) (k0_pay3 (F := Ideal)) := by
  rw [outsAt0_A m c t h]
  dsimp only
  exact step_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h)

theorem next_7 (c : Dev nD) (t : Fin cfg0.N) (h : ¬t.val % 16 = 0) :
    (outsAt0 m c t.val t.isLt).2.2 = k0_pay7 (iblk m c 0 t) (iblk m c 1 t) (iblk m c 2 t) (outsAt0 m c (t.val - 1) (Nat.lt_of_le_of_lt (Nat.sub_le _ _) t.isLt)).2.2 := by
  rw [outsAt0_B m c t h]
  dsimp only
  exact step_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) _ (fun e => h ((hcond0_0 t).mp e))

/-! ## The gains' gradient: the steps' sums are the sum over all rows -/

/-- A row's product with the matrix. -/
def prod (x0 : FVec Ideal S4096x5632 .bf16) (x1 : FVec Ideal S5632x1024 .bf16) (i : Fin 4096) (j : Fin 1024) : EReal := ∑ k : Fin 5632, x0 (ix2 i k) * x1 (ix2 k j)

/-- A row of the argument. -/
def rowOf (x2 : FVec Ideal S4096x1024 .f32) (i : Fin 4096) : Fin 1024 → EReal := fun k => x2 (ix2 i k)

/-- One row's summand of the gains' gradient, by the row's number. -/
def term (x0 : FVec Ideal S4096x5632 .bf16) (x1 : FVec Ideal S5632x1024 .bf16) (x2 : FVec Ideal S4096x1024 .f32) (j : Fin 1024) (n : ℕ) : EReal :=
  if h : n < 4096 then rowOf x2 ⟨n, h⟩ j * scale (rowOf x2 ⟨n, h⟩) * prod x0 x1 ⟨n, h⟩ j else 0

theorem prod_block (c : Dev nD) (t : Fin cfg0.N) (r : Fin 256) (l : Fin 1024) :
    k0_pay4 (iblk m c 0 t) (iblk m c 1 t) (ix2 r l) = prod (arg0 m c) (arg1 m c) (⟨256 * t.val + r.val, by have h := lt_of_lt_of_eq t.isLt N_0; omega⟩ : Fin 4096) l := by
  refine (prod_at _ _ r l).trans (Finset.sum_congr rfl fun k _ => ?_)
  exact congrArg₂ (· * ·) (blk_0 m c t r k) (blk_1 m c t k l)

theorem norm_block (c : Dev nD) (t : Fin cfg0.N) (r : Fin 256) (l : Fin 1024) :
    k0_pay6 (iblk m c 2 t) (ix2 r l) = rowOf (arg2 m c) (⟨256 * t.val + r.val, by have h := lt_of_lt_of_eq t.isLt N_0; omega⟩ : Fin 4096) l * scale (rowOf (arg2 m c) (⟨256 * t.val + r.val, by have h := lt_of_lt_of_eq t.isLt N_0; omega⟩ : Fin 4096)) := by
  refine (norm_at _ r l).trans ?_
  exact congrArg₂ (· * ·) (blk_2 m c t r l) (congrArg scale (funext fun k => blk_2 m c t r k))

theorem step_sum (c : Dev nD) (t : Fin cfg0.N) (l : Fin 1024) :
    ∑ r : Fin 256, k0_pay4 (iblk m c 0 t) (iblk m c 1 t) (ix2 r l) * k0_pay6 (iblk m c 2 t) (ix2 r l)
      = ∑ n ∈ Finset.range 256, term (arg0 m c) (arg1 m c) (arg2 m c) l (256 * t.val + n) := by
  rw [Finset.sum_range]
  refine Finset.sum_congr rfl fun r _ => ?_
  rw [prod_block, norm_block]
  unfold term
  rw [dif_pos (by have h := lt_of_lt_of_eq t.isLt N_0; omega : 256 * t.val + r.val < 4096)]
  exact mul_comm _ _

theorem acc_at (c : Dev nD) (l : Fin 1024) : ∀ (n : ℕ) (hn : n < cfg0.N),
    (outsAt0 m c n hn).2.2 (ix2 (0 : Fin 1) l) = ∑ x ∈ Finset.range (256 * n + 256), term (arg0 m c) (arg1 m c) (arg2 m c) l x
  | 0, hn => by
    refine (congrFun (first_7 m c ⟨0, hn⟩ rfl) (ix2 (0 : Fin 1) l)).trans ((gains_at _ _ _ _ l).trans ?_)
    rw [start_at, zero_add, step_sum]
    refine Finset.sum_congr rfl fun x _ => congrArg (term (arg0 m c) (arg1 m c) (arg2 m c) l) ?_
    show 256 * 0 + x = x
    omega
  | n + 1, hn => by
    have hN := lt_of_lt_of_eq hn N_0
    refine (congrFun (next_7 m c ⟨n + 1, hn⟩ (by show ¬(n + 1) % 16 = 0; omega)) (ix2 (0 : Fin 1) l)).trans ((gains_at _ _ _ _ l).trans ?_)
    rw [Finset.sum_range_add, step_sum]
    refine congrArg₂ (· + ·) ?_ rfl
    exact acc_at c l n (Nat.lt_of_succ_lt hn)

theorem ref_prod (x0 : FVec Ideal S4096x5632 .bf16) (x1 : FVec Ideal S5632x1024 .bf16) (i : Fin 4096) (j : Fin 1024) :
    Cert.Reference16Ideal.Read.val_main_v19 (F := Ideal) x0 x1 (ix2 i j) = prod x0 x1 i j := by
  refine (Cert.Reference16Ideal.Read.val_main_v19_apply x0 x1 _).trans (Finset.sum_congr rfl fun k _ => ?_)
  refine congrArg₂ (· * ·) (congrArg x0 (funext fun a => Fin.ext ?_)) ?_
  · match a with
    | ⟨0, _⟩ => rfl
    | ⟨1, _⟩ => rfl
  · refine (Cert.Reference16Ideal.Read.val_main_v1_apply (F := Ideal) x1 _).trans (congrArg x1 (funext fun a => Fin.ext ?_))
    match a with
    | ⟨0, _⟩ => rfl
    | ⟨1, _⟩ => rfl

theorem ref_mean (x2 : FVec Ideal S4096x1024 .f32) (i : Fin 4096) :
    Cert.Reference16Ideal.Read.val_main_v8 (F := Ideal) x2 (ix2 i (0 : Fin 1)) = mean (rowOf x2 i) := by
  show Ideal.div (Cert.Reference16Ideal.Read.val_main_v4 (F := Ideal) x2 (ix2 i (0 : Fin 1))) (Cert.Reference16Ideal.Read.val_main_v5 (F := Ideal) (ix2 i (0 : Fin 1)))
    + Cert.Reference16Ideal.Read.val_main_v7 (F := Ideal) (ix2 i (0 : Fin 1)) = _
  rw [Cert.Reference16Ideal.Read.val_main_v5_apply, Cert.Reference16Ideal.Read.val_main_v7_apply, Cert.Reference16Ideal.Read.val_main_v4_apply, Cert.Reference16Ideal.Read.val_main_v3_apply]
  unfold mean rowOf
  refine congrArg₂ (· + ·) (congrArg₂ Ideal.div ?_ rfl) rfl
  refine (congrArg (· + _) Ideal.ofBits_zero_f32).trans ((zero_add _).trans (Finset.sum_congr rfl fun k _ => ?_))
  exact congrArg (fun y => x2 y * x2 y) (funext fun a => Fin.ext (by
    match a with
    | ⟨0, _⟩ => rfl
    | ⟨1, _⟩ => rfl))

theorem ref_scale (x2 : FVec Ideal S4096x1024 .f32) (i : Fin 4096) :
    Cert.Reference16Ideal.Read.val_main_v9 (F := Ideal) x2 (ix2 i (0 : Fin 1)) = scale (rowOf x2 i) :=
  congrArg Ideal.rsqrt (ref_mean x2 i)

theorem ref_gains (x0 : FVec Ideal S4096x5632 .bf16) (x1 : FVec Ideal S5632x1024 .bf16) (x2 : FVec Ideal S4096x1024 .f32) (j : Fin 1024) :
    Cert.Reference16Ideal.Read.val_main_v22 (F := Ideal) x0 x1 x2 (ix2 (0 : Fin 1) j) = ∑ n ∈ Finset.range 4096, term x0 x1 x2 j n := by
  rw [Cert.Reference16Ideal.Read.val_main_v22_apply, Cert.Reference16Ideal.Read.val_main_v21_apply, Finset.sum_range]
  refine (congrArg (· + _) Ideal.ofBits_zero_f32).trans ((zero_add _).trans (Finset.sum_congr rfl fun i _ => ?_))
  have e : Cert.Reference16Ideal.Read.idx_main_v21 (Cert.Reference16Ideal.Read.idx_main_v22 (ix2 (0 : Fin 1) j)) i = ix2 i j := funext fun a => Fin.ext (by
    match a with
    | ⟨0, _⟩ => rfl
    | ⟨1, _⟩ => show 0 * 1024 + j.val = j.val; omega)
  rw [e]
  unfold term
  rw [dif_pos i.isLt]
  show x2 (ix2 i j) * Cert.Reference16Ideal.Read.val_main_v13 (F := Ideal) x2 (ix2 i j) * Cert.Reference16Ideal.Read.val_main_v19 (F := Ideal) x0 x1 (ix2 i j) = _
  rw [ref_prod, Cert.Reference16Ideal.Read.val_main_v13_apply]
  refine congrArg (fun z => x2 (ix2 i j) * z * prod x0 x1 i j) ((congrArg (Cert.Reference16Ideal.Read.val_main_v9 (F := Ideal) x2) (funext fun a => Fin.ext ?_)).trans (ref_scale x2 i))
  match a with
    | ⟨0, _⟩ => rfl
    | ⟨1, _⟩ => rfl

theorem arr_7 (c : Dev nD) : (dats m 0 c).arrAt 7 cfg0.N = Cert.Reference16Ideal.Read.val_main_v22 (F := Ideal) (arg0 m c) (arg1 m c) (arg2 m c) := by
  have key : ∀ (t : Fin cfg0.N), t.val = 15 → ∀ (y : S1x1024.Idx), (outsAt0 m c t.val t.isLt).2.2 y
      = ((cfg0.win 7).blk t).view.read (Elt Ideal) (Cert.Reference16Ideal.Read.val_main_v22 (F := Ideal) (arg0 m c) (arg1 m c) (arg2 m c)) y := fun t h y => by
    obtain ⟨r, l, rfl⟩ : ∃ (r : Fin 1) (l : Fin 1024), y = ix2 r l := ⟨y 0, y 1, eta_two y⟩
    obtain rfl : r = 0 := Subsingleton.elim _ _
    refine (acc_at m c l t.val t.isLt).trans (Eq.trans ?_ ((read_7 _ t l).trans (ref_gains _ _ _ l)).symm)
    rw [h]
  refine (dats m 0 c).arrAt_eq_of_cover 7 _ (fun t hf => ?_) ((by decide +kernel : (cfg0.win 7).Covers).cover _ (Memref.isWhole_whole _))
  rw [Value.flushed7]
  exact funext fun y => key t (last_of_flush t hf) y

/-! ## The argument's gradient -/

section
variable (x0 : FVec Ideal S4096x5632 .bf16) (x1 : FVec Ideal S5632x1024 .bf16) (x2 : FVec Ideal S4096x1024 .f32) (x3 : FVec Ideal S1x1024 .f32) (x4 : FVec Ideal S4096x1024 .f32)

/-- The gradient at a normalised row times the gains. -/
def gained (i : Fin 4096) : Fin 1024 → EReal := fun k => prod x0 x1 i k * x3 (ix2 0 k)

/-- The reference's factor of the row in its gradient through the mean square. -/
def factor (i : Fin 4096) : EReal :=
  Ideal.div ((∑ k, rowOf x2 i k * gained x0 x1 x3 i k) * (Ideal.ofBits .f32 0xBF000000#32 * Ideal.div (scale (rowOf x2 i)) (mean (rowOf x2 i)))) (Ideal.ofBits .f32 0x44800000#32)

theorem ref_gained (i : Fin 4096) (j : Fin 1024) : Cert.Reference16Ideal.Read.val_main_v24 (F := Ideal) x0 x1 x3 (ix2 i j) = gained x0 x1 x3 i j := by
  refine (Cert.Reference16Ideal.Read.val_main_v24_apply (F := Ideal) x0 x1 x3 _).trans (congrArg₂ (· * ·) (ref_prod x0 x1 i j) ?_)
  refine (Cert.Reference16Ideal.Read.val_main_v23_apply (F := Ideal) x3 _).trans (congrArg x3 (funext fun a => Fin.ext ?_))
  match a with
    | ⟨0, _⟩ => rfl
    | ⟨1, _⟩ => rfl

theorem ref_dot (i : Fin 4096) :
    Cert.Reference16Ideal.Read.val_main_v27 (F := Ideal) x0 x1 x2 x3 (ix2 i (0 : Fin 1)) = ∑ k, rowOf x2 i k * gained x0 x1 x3 i k := by
  rw [Cert.Reference16Ideal.Read.val_main_v27_apply, Cert.Reference16Ideal.Read.val_main_v26_apply]
  refine (congrArg (· + _) Ideal.ofBits_zero_f32).trans ((zero_add _).trans (Finset.sum_congr rfl fun k _ => ?_))
  have e : Cert.Reference16Ideal.Read.idx_main_v26 (Cert.Reference16Ideal.Read.idx_main_v27 (ix2 i (0 : Fin 1))) k = ix2 i k := funext fun a => Fin.ext (by
    match a with
    | ⟨0, _⟩ => show i.val * 1 + 0 = i.val; omega
    | ⟨1, _⟩ => rfl)
  rw [e]
  exact congrArg (x2 (ix2 i k) * ·) (ref_gained x0 x1 x3 i k)

theorem ref_factor (i : Fin 4096) (j : Fin 1024) : Cert.Reference16Ideal.Read.val_main_v35 (F := Ideal) x0 x1 x2 x3 (ix2 i j) = factor x0 x1 x2 x3 i := by
  rw [Cert.Reference16Ideal.Read.val_main_v35_apply, Cert.Reference16Ideal.Read.val_main_v34_apply]
  refine (congrArg (· + _) Ideal.ofBits_zero_f32).trans ((zero_add _).trans ((Fin.sum_univ_one _).trans ?_))
  have e : Cert.Reference16Ideal.Read.idx_main_v34 (Cert.Reference16Ideal.Read.idx_main_v35 (ix2 i j)) 0 = ix2 i (0 : Fin 1) := funext fun a => Fin.ext (by
    match a with
    | ⟨0, _⟩ => rfl
    | ⟨1, _⟩ => rfl)
  rw [e]
  show Ideal.div (Cert.Reference16Ideal.Read.val_main_v27 (F := Ideal) x0 x1 x2 x3 (ix2 i (0 : Fin 1)) * (Cert.Reference16Ideal.Read.val_main_v11 (F := Ideal) (ix2 i (0 : Fin 1))
    * Ideal.div (Cert.Reference16Ideal.Read.val_main_v9 (F := Ideal) x2 (ix2 i (0 : Fin 1))) (Cert.Reference16Ideal.Read.val_main_v8 (F := Ideal) x2 (ix2 i (0 : Fin 1))))) (Cert.Reference16Ideal.Read.val_main_v32 (F := Ideal) (ix2 i (0 : Fin 1))) = _
  rw [ref_dot, ref_scale, ref_mean, Cert.Reference16Ideal.Read.val_main_v11_apply, Cert.Reference16Ideal.Read.val_main_v32_apply]
  rfl

theorem ref_dx (i : Fin 4096) (j : Fin 1024) : Cert.Reference16Ideal.Read.val_main_v39 (F := Ideal) x0 x1 x2 x3 x4 (ix2 i j)
    = x4 (ix2 i j) + gained x0 x1 x3 i j * scale (rowOf x2 i) + rowOf x2 i j * factor x0 x1 x2 x3 i + factor x0 x1 x2 x3 i * rowOf x2 i j := by
  show x4 (ix2 i j) + Cert.Reference16Ideal.Read.val_main_v24 (F := Ideal) x0 x1 x3 (ix2 i j) * Cert.Reference16Ideal.Read.val_main_v28 (F := Ideal) x2 (ix2 i j)
    + x2 (ix2 i j) * Cert.Reference16Ideal.Read.val_main_v35 (F := Ideal) x0 x1 x2 x3 (ix2 i j) + Cert.Reference16Ideal.Read.val_main_v35 (F := Ideal) x0 x1 x2 x3 (ix2 i j) * x2 (ix2 i j) = _
  have e : Cert.Reference16Ideal.Read.val_main_v28 (F := Ideal) x2 (ix2 i j) = scale (rowOf x2 i) := by
    refine (Cert.Reference16Ideal.Read.val_main_v28_apply (F := Ideal) x2 _).trans ((congrArg (Cert.Reference16Ideal.Read.val_main_v9 (F := Ideal) x2) (funext fun a => Fin.ext ?_)).trans (ref_scale x2 i))
    match a with
    | ⟨0, _⟩ => rfl
    | ⟨1, _⟩ => rfl
  rw [ref_gained, ref_factor, e]
  rfl
end

/-! ## The arrays -/

theorem block_dx (c : Dev nD) (t : Fin cfg0.N) (r : Fin 256) (l : Fin 1024) :
    dxOf (iblk m c 0 t) (iblk m c 1 t) (iblk m c 2 t) (iblk m c 3 t) (iblk m c 4 t) (ix2 r l) = Cert.Reference16Ideal.Read.val_main_v39 (F := Ideal) (arg0 m c) (arg1 m c) (arg2 m c) (arg3 m c) (arg4 m c) (ix2 (⟨256 * t.val + r.val, by have h := lt_of_lt_of_eq t.isLt N_0; omega⟩ : Fin 4096) l) := by
  refine (dx_at _ _ _ _ _ r l (rowOf (arg2 m c) (⟨256 * t.val + r.val, by have h := lt_of_lt_of_eq t.isLt N_0; omega⟩ : Fin 4096)) (gained (arg0 m c) (arg1 m c) (arg3 m c) (⟨256 * t.val + r.val, by have h := lt_of_lt_of_eq t.isLt N_0; omega⟩ : Fin 4096)) (fun k => blk_2 m c t r k)
    (fun k => (gain_at _ _ _ r k).trans (congrArg₂ (· * ·) (prod_block m c t r k) (blk_3 m c t k)))).trans ?_
  refine (congrArg (fun z : EReal => z + _) (blk_4 m c t r l)).trans (Eq.trans ?_ (ref_dx _ _ _ _ _ _ _).symm)
  exact grad _ _ _ l

theorem arr_5 (c : Dev nD) : (dats m 0 c).arrAt 5 cfg0.N = Cert.Reference16Ideal.Read.val_main_v39 (F := Ideal) (arg0 m c) (arg1 m c) (arg2 m c) (arg3 m c) (arg4 m c) := by
  have key : ∀ (t : Fin cfg0.N) (y : S256x1024.Idx), (outsAt0 m c t.val t.isLt).1 y
      = ((cfg0.win 5).blk t).view.read (Elt Ideal) (Cert.Reference16Ideal.Read.val_main_v39 (F := Ideal) (arg0 m c) (arg1 m c) (arg2 m c) (arg3 m c) (arg4 m c)) y := fun t y => by
    obtain ⟨r, l, rfl⟩ : ∃ (r : Fin 256) (l : Fin 1024), y = ix2 r l := ⟨y 0, y 1, eta_two y⟩
    refine Eq.trans ?_ (read_5 _ t r l).symm
    exact (congrFun (left_5 m c t) (ix2 r l)).trans (block_dx m c t r l)
  refine (dats m 0 c).arrAt_eq_of_cover 5 _ (fun t hf => ?_) ((by decide +kernel : (cfg0.win 5).Covers).cover _ (Memref.isWhole_whole _))
  rw [Value.flushed5]
  exact funext fun y => key t y

theorem arr_6 (c : Dev nD) : (dats m 0 c).arrAt 6 cfg0.N = Cert.Reference16Ideal.Read.val_main_v40 (F := Ideal) (arg0 m c) (arg1 m c) (arg2 m c) (arg3 m c) (arg4 m c) := by
  have key : ∀ (t : Fin cfg0.N) (y : S256x1024.Idx), (outsAt0 m c t.val t.isLt).2.1 y
      = ((cfg0.win 6).blk t).view.read (Elt Ideal) (Cert.Reference16Ideal.Read.val_main_v40 (F := Ideal) (arg0 m c) (arg1 m c) (arg2 m c) (arg3 m c) (arg4 m c)) y := fun t y => by
    obtain ⟨r, l, rfl⟩ : ∃ (r : Fin 256) (l : Fin 1024), y = ix2 r l := ⟨y 0, y 1, eta_two y⟩
    refine Eq.trans ?_ (read_6 _ t r l).symm
    exact ((congrFun (left_6 m c t) (ix2 r l)).trans (narrow_at _ _ _ _ _ (ix2 r l))).trans (block_dx m c t r l)
  refine (dats m 0 c).arrAt_eq_of_cover 6 _ (fun t hf => ?_) ((by decide +kernel : (cfg0.win 6).Covers).cover _ (Memref.isWhole_whole _))
  rw [Value.flushed6]
  exact funext fun y => key t y

/-! ## The claims -/

theorem frame_ideal : Cert.quiescent_Kernel16Ideal := fun m ρ _ => Cert.Kernel16Ideal.Gen.frame m ρ

theorem frame_reference : Cert.quiescent_Reference16Ideal := fun m ρ _ =>
  (θ_run Cert.Reference16Ideal.defs _ _).mono (fun r h =>
    ⟨fun c => (h c).2.2.2, sem_eq_zero_of_no_sems (by decide) _⟩) (Cert.Reference16Ideal.Value.run m ρ)

/-- The kernel's results and the reference's are equal, on any arguments. -/
theorem algebraic : Cert.algebraic_Kernel16Ideal_Reference16Ideal := fun m g m' g' _ he => by
  refine ⟨fun c => Cert.Reference16Ideal.Read.val_main_v39 (F := Ideal) (arg0 m c) (arg1 m c) (arg2 m c) (arg3 m c) (arg4 m c), fun c => Cert.Reference16Ideal.Read.val_main_v40 (F := Ideal) (arg0 m c) (arg1 m c) (arg2 m c) (arg3 m c) (arg4 m c), fun c => Cert.Reference16Ideal.Read.val_main_v22 (F := Ideal) (arg0 m c) (arg1 m c) (arg2 m c), ?_, ?_⟩
  · refine (θ_run _ _ _).mono (fun r h c => ?_) (Cert.Kernel16Ideal.Value.run_blocks m g)
    exact ⟨(h c).1.trans (arr_5 m c), (h c).2.1.trans (arr_6 m c), (h c).2.2.1.trans (arr_7 m c), (h c).2.2.2⟩
  · refine (θ_run _ _ _).mono (fun r h c => ?_) (Cert.Reference16Ideal.Value.run m' g')
    obtain ⟨h0, h1, h2, h3, h4⟩ := he c
    refine ⟨(h c).1.trans ?_, (h c).2.1.trans ?_, (h c).2.2.1.trans ?_, (h c).2.2.2⟩
    · rw [Cert.Reference16Ideal.Read.val_main_v39_eq, h0, h1, h2, h3, h4]
    · rw [Cert.Reference16Ideal.Read.val_main_v40_eq, h0, h1, h2, h3, h4]
    · rw [Cert.Reference16Ideal.Read.val_main_v22_eq, h0, h1, h2]

end Mm.NormBwdFfn

end
-- ==== Proof.NormBwdX.lean ====
/-
The gradient of the cross-attention's normalised input: the product with the query weights, then the normalisation's gradient in blocks of 512 rows,
the gains' gradient added up over the steps.
-/
module

public import proofs.«01_k».proof.Proof.Norm
public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit

@[expose] public section

noncomputable section

set_option maxRecDepth 65536

namespace Mm.NormBwdX

open Idealize.ShloMosaic Idealize.ShloMosaic.TcCoe Idealize.SL.Sem Cert.Kernel17Ideal Cert.Kernel17Ideal.Gen Ffn Norm
open scoped Pointwise

theorem zero2 : (![0, 0] : Fin 2 → Nat) = fun _ => 0 := funext fun a => by fin_cases a <;> rfl

/-! ## What one step computes -/

/-- The gradient block, from the step's blocks. -/
abbrev dxOf (x0 : Vec Ideal S512x512 .bf16) (x1 : Vec Ideal S512x1024 .bf16) (x2 : Vec Ideal S512x1024 .f32) (x3 : Vec Ideal S1x1024 .f32) (x4 : Vec Ideal S512x1024 .f32) : FVec Ideal S512x1024 .f32 :=
  k0_pay1 (k0_pay5 x2) (k0_pay6 x2) (k0_pay8 x0 x1 x3) x4 (k0_pay9 x0 x1 x2 x3)

section
variable (x0 : Vec Ideal S512x512 .bf16) (x1 : Vec Ideal S512x1024 .bf16) (x2 : Vec Ideal S512x1024 .f32) (x3 : Vec Ideal S1x1024 .f32) (x4 : Vec Ideal S512x1024 .f32)

theorem prod_at (r : Fin 512) (l : Fin 1024) : k0_pay4 x0 x1 (ix2 r l) = ∑ k : Fin 512, x0 (ix2 r k) * x1 (ix2 k l) := by
  pointwise [k0_pay4]

theorem scale_at (r : Fin 512) : k0_pay5 x2 (ix2 r (0 : Fin 1)) = scale fun k => x2 (ix2 r k) := by
  unfold scale mean
  pointwise [k0_pay5]

theorem norm_at (r : Fin 512) (l : Fin 1024) : k0_pay6 x2 (ix2 r l) = x2 (ix2 r l) * scale fun k => x2 (ix2 r k) := by
  refine Eq.trans ?_ (congrArg (x2 (ix2 r l) * ·) (scale_at x2 r))
  pointwise [k0_pay6]

theorem gain_at (r : Fin 512) (l : Fin 1024) : k0_pay8 x0 x1 x3 (ix2 r l) = k0_pay4 x0 x1 (ix2 r l) * x3 (ix2 0 l) := by
  pointwise [k0_pay8]

theorem dot_at (r : Fin 512) (l : Fin 1024) :
    k0_pay9 x0 x1 x2 x3 (ix2 r l) = Ideal.div (∑ k, k0_pay8 x0 x1 x3 (ix2 r k) * k0_pay6 x2 (ix2 r k)) (Ideal.ofBits .f32 0x44800000#32) := by
  pointwise [k0_pay9]

theorem last_at (p : FVec Ideal S512x1 .f32) (q u : FVec Ideal S512x1024 .f32) (z : Vec Ideal S512x1024 .f32) (w : FVec Ideal S512x1024 .f32) (r : Fin 512) (l : Fin 1024) :
    k0_pay1 p q u z w (ix2 r l) = z (ix2 r l) + p (ix2 r (0 : Fin 1)) * (u (ix2 r l) - q (ix2 r l) * w (ix2 r l)) := by
  pointwise [k0_pay1]

theorem narrow_at (p : FVec Ideal S512x1 .f32) (q u : FVec Ideal S512x1024 .f32) (z : Vec Ideal S512x1024 .f32) (w : FVec Ideal S512x1024 .f32) (y : S512x1024.Idx) :
    k0_pay2 p q u z w y = k0_pay1 p q u z w y := rfl

/-- The gradient block at an index. -/
theorem dx_at (r : Fin 512) (l : Fin 1024) (x d : Fin 1024 → EReal) (hx : ∀ k, x2 (ix2 r k) = x k) (hd : ∀ k, k0_pay8 x0 x1 x3 (ix2 r k) = d k) :
    dxOf x0 x1 x2 x3 x4 (ix2 r l)
      = x4 (ix2 r l) + scale x * (d l - x l * scale x * Ideal.div (∑ k, d k * (x k * scale x)) (Ideal.ofBits .f32 0x44800000#32)) := by
  obtain rfl : (fun k => x2 (ix2 r k)) = x := funext hx
  obtain rfl : (fun k => k0_pay8 x0 x1 x3 (ix2 r k)) = d := funext hd
  refine (last_at _ _ _ _ _ r l).trans ?_
  rw [scale_at, norm_at, dot_at]
  simp only [norm_at]

/-- The gains' gradient after one step. -/
theorem gains_at (v : Vec Ideal S1x1024 .f32) (l : Fin 1024) :
    k0_pay7 x0 x1 x2 v (ix2 0 l) = v (ix2 0 l) + ∑ x, k0_pay4 x0 x1 (ix2 x l) * k0_pay6 x2 (ix2 x l) := by
  pointwise [k0_pay7]

theorem start_at (l : Fin 1024) : (k0_pay3 (F := Ideal)) (ix2 (0 : Fin 1) l) = 0 := by
  refine Eq.trans ?_ Ideal.ofBits_zero_f32
  rfl
end

section
variable (c : Dev nD) (i : grid0.Coords) (a1 : Memref sig .tc .vmem S512x512 .bf16) (h1 : a1.IsWhole) (a2 : Memref sig .tc .vmem S512x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (x0 : Vec Ideal S512x512 .bf16) (x1 : Vec Ideal S512x1024 .bf16) (x2 : Vec Ideal S512x1024 .f32) (x3 : Vec Ideal S1x1024 .f32) (x4 : Vec Ideal S512x1024 .f32) (xo : Vec Ideal S1x1024 .f32)

theorem step_A_5 (hc0 : cond0_0 i) : out0_A_5 c i a1 h1 a2 h2 a3 h3 a4 h4 a5 h5 a6 h6 a7 h7 a8 h8 hc0 x0 x1 x2 x3 x4 = dxOf x0 x1 x2 x3 x4 := by
  unfold out0_A_5
  rw [View.read_writes_eq_canon _ _ _ (cover0_A_5 c i a1 h1 a2 h2 a3 h3 a4 h4 a5 h5 a6 h6 a7 h7 a8 h8 hc0 x0 x1 x2 x3 x4)]
  unfold kernelRun0_A
  dsimp only
  sl_unfold_words
  rw [View.canon_unit_zero zero2]
  simp only [View.readAt_eq_ld, h1.read_unread, h2.read_unread, h3.read_unread, h4.read_unread, h5.read_unread, h8.read_unread, View.ld_unit_zero (S := S512x512) zero2, View.ld_unit_zero (S := S512x1024) zero2, View.ld_unit_zero (S := S1x1024) zero2, shapeCast_self]

theorem step_A_6 (hc0 : cond0_0 i) : out0_A_6 c i a1 h1 a2 h2 a3 h3 a4 h4 a5 h5 a6 h6 a7 h7 a8 h8 hc0 x0 x1 x2 x3 x4 = k0_pay2 (k0_pay5 x2) (k0_pay6 x2) (k0_pay8 x0 x1 x3) x4 (k0_pay9 x0 x1 x2 x3) := by
  unfold out0_A_6
  rw [View.read_writes_eq_canon _ _ _ (cover0_A_6 c i a1 h1 a2 h2 a3 h3 a4 h4 a5 h5 a6 h6 a7 h7 a8 h8 hc0 x0 x1 x2 x3 x4)]
  unfold kernelRun0_A
  dsimp only
  sl_unfold_words
  rw [View.canon_unit_zero zero2]
  simp only [View.readAt_eq_ld, h1.read_unread, h2.read_unread, h3.read_unread, h4.read_unread, h5.read_unread, h8.read_unread, View.ld_unit_zero (S := S512x512) zero2, View.ld_unit_zero (S := S512x1024) zero2, View.ld_unit_zero (S := S1x1024) zero2, shapeCast_self]

theorem step_A_7 (hc0 : cond0_0 i) : out0_A_7 c i a1 h1 a2 h2 a3 h3 a4 h4 a5 h5 a6 h6 a7 h7 a8 h8 hc0 x0 x1 x2 x3 x4 = k0_pay7 x0 x1 x2 (k0_pay3 (F := Ideal)) := by
  unfold out0_A_7
  rw [View.read_writes_eq_canon _ _ _ (cover0_A_7 c i a1 h1 a2 h2 a3 h3 a4 h4 a5 h5 a6 h6 a7 h7 a8 h8 hc0 x0 x1 x2 x3 x4)]
  unfold kernelRun0_A
  dsimp only
  sl_unfold_words
  rw [View.canon_cons_unit_zero zero2]
  simp only [View.readCov_unit_zero (S := S1x1024) _ zero2]
  simp only [View.readAt_eq_ld, h1.read_unread, h2.read_unread, h3.read_unread, h4.read_unread, h5.read_unread, h8.read_unread, View.ld_unit_zero (S := S512x512) zero2, View.ld_unit_zero (S := S512x1024) zero2, View.ld_unit_zero (S := S1x1024) zero2, shapeCast_self]

theorem step_B_5 (hc0 : ¬cond0_0 i) : out0_B_5 c i a1 h1 a2 h2 a3 h3 a4 h4 a5 h5 a6 h6 a7 h7 a8 h8 hc0 x0 x1 x2 x3 x4 xo = dxOf x0 x1 x2 x3 x4 := by
  unfold out0_B_5
  rw [View.read_writes_eq_canon _ _ _ (cover0_B_5 c i a1 h1 a2 h2 a3 h3 a4 h4 a5 h5 a6 h6 a7 h7 a8 h8 hc0 x0 x1 x2 x3 x4 xo)]
  unfold kernelRun0_B
  dsimp only
  sl_unfold_words
  rw [View.canon_unit_zero zero2]
  simp only [View.readAt_eq_ld, h1.read_unread, h2.read_unread, h3.read_unread, h4.read_unread, h5.read_unread, h8.read_unread, View.ld_unit_zero (S := S512x512) zero2, View.ld_unit_zero (S := S512x1024) zero2, View.ld_unit_zero (S := S1x1024) zero2, shapeCast_self]

theorem step_B_6 (hc0 : ¬cond0_0 i) : out0_B_6 c i a1 h1 a2 h2 a3 h3 a4 h4 a5 h5 a6 h6 a7 h7 a8 h8 hc0 x0 x1 x2 x3 x4 xo = k0_pay2 (k0_pay5 x2) (k0_pay6 x2) (k0_pay8 x0 x1 x3) x4 (k0_pay9 x0 x1 x2 x3) := by
  unfold out0_B_6
  rw [View.read_writes_eq_canon _ _ _ (cover0_B_6 c i a1 h1 a2 h2 a3 h3 a4 h4 a5 h5 a6 h6 a7 h7 a8 h8 hc0 x0 x1 x2 x3 x4 xo)]
  unfold kernelRun0_B
  dsimp only
  sl_unfold_words
  rw [View.canon_unit_zero zero2]
  simp only [View.readAt_eq_ld, h1.read_unread, h2.read_unread, h3.read_unread, h4.read_unread, h5.read_unread, h8.read_unread, View.ld_unit_zero (S := S512x512) zero2, View.ld_unit_zero (S := S512x1024) zero2, View.ld_unit_zero (S := S1x1024) zero2, shapeCast_self]

theorem step_B_7 (hc0 : ¬cond0_0 i) : out0_B_7 c i a1 h1 a2 h2 a3 h3 a4 h4 a5 h5 a6 h6 a7 h7 a8 h8 hc0 x0 x1 x2 x3 x4 xo = k0_pay7 x0 x1 x2 xo := by
  unfold out0_B_7
  rw [View.read_writes_eq_canon _ _ _ (cover0_B_7 c i a1 h1 a2 h2 a3 h3 a4 h4 a5 h5 a6 h6 a7 h7 a8 h8 hc0 x0 x1 x2 x3 x4 xo)]
  unfold kernelRun0_B
  dsimp only
  sl_unfold_words
  rw [View.canon_unit_zero zero2]
  simp only [View.readAt_eq_ld, h1.read_unread, h2.read_unread, h3.read_unread, h4.read_unread, h5.read_unread, h8.read_unread, View.ld_unit_zero (S := S512x512) zero2, View.ld_unit_zero (S := S512x1024) zero2, View.ld_unit_zero (S := S1x1024) zero2, shapeCast_self]
end

/-! ## The blocks -/

variable (m : (ℓ : Loc nD τ sig) → Buf (Elt Ideal) ℓ)

abbrev arg0 (c : Dev nD) : FVec Ideal S4096x512 .bf16 := m ((c : Thread nD τ).loc main_arg0)
abbrev arg1 (c : Dev nD) : FVec Ideal S512x1024 .bf16 := m ((c : Thread nD τ).loc main_arg1)
abbrev arg2 (c : Dev nD) : FVec Ideal S4096x1024 .f32 := m ((c : Thread nD τ).loc main_arg2)
abbrev arg3 (c : Dev nD) : FVec Ideal S1x1024 .f32 := m ((c : Thread nD τ).loc main_arg3)
abbrev arg4 (c : Dev nD) : FVec Ideal S4096x1024 .f32 := m ((c : Thread nD τ).loc main_arg4)

theorem at_0 : ∀ t : Fin cfg0.N, win0_0.index t = ![t.val, 0] := (by decide +kernel : ∀ t : Fin grid0.N, _)

theorem blk_0 (c : Dev nD) (t : Fin cfg0.N) (p : Fin 512) (q : Fin 512) :
    iblk m c 0 t (ix2 p q) = arg0 m c (ix2 (⟨512 * (t.val) + p.val, by have h := lt_of_lt_of_eq t.isLt N_0; omega⟩ : Fin 4096) q) := by
  unfold iblk
  rw [View.read_apply]
  show arg0 m c _ = arg0 m c _
  congr 1
  funext a
  apply Fin.ext
  have e := at_0 t
  match a with
  | ⟨0, _⟩ => show win0_0.index t 0 * 512 + 1 * p.val = 512 * (t.val) + p.val; rw [e]; show (t.val) * 512 + 1 * p.val = _; omega
  | ⟨1, _⟩ => show win0_0.index t 1 * 512 + 1 * q.val = q.val; rw [e]; show (0) * 512 + 1 * q.val = _; omega

theorem at_1 : ∀ t : Fin cfg0.N, win0_1.index t = ![0, 0] := (by decide +kernel : ∀ t : Fin grid0.N, _)

theorem blk_1 (c : Dev nD) (t : Fin cfg0.N) (p : Fin 512) (q : Fin 1024) :
    iblk m c 1 t (ix2 p q) = arg1 m c (ix2 p q) := by
  unfold iblk
  rw [View.read_apply]
  show arg1 m c _ = arg1 m c _
  congr 1
  funext a
  apply Fin.ext
  have e := at_1 t
  match a with
  | ⟨0, _⟩ => show win0_1.index t 0 * 512 + 1 * p.val = p.val; rw [e]; show (0) * 512 + 1 * p.val = _; omega
  | ⟨1, _⟩ => show win0_1.index t 1 * 1024 + 1 * q.val = q.val; rw [e]; show (0) * 1024 + 1 * q.val = _; omega

theorem at_2 : ∀ t : Fin cfg0.N, win0_2.index t = ![t.val, 0] := (by decide +kernel : ∀ t : Fin grid0.N, _)

theorem blk_2 (c : Dev nD) (t : Fin cfg0.N) (p : Fin 512) (q : Fin 1024) :
    iblk m c 2 t (ix2 p q) = arg2 m c (ix2 (⟨512 * (t.val) + p.val, by have h := lt_of_lt_of_eq t.isLt N_0; omega⟩ : Fin 4096) q) := by
  unfold iblk
  rw [View.read_apply]
  show arg2 m c _ = arg2 m c _
  congr 1
  funext a
  apply Fin.ext
  have e := at_2 t
  match a with
  | ⟨0, _⟩ => show win0_2.index t 0 * 512 + 1 * p.val = 512 * (t.val) + p.val; rw [e]; show (t.val) * 512 + 1 * p.val = _; omega
  | ⟨1, _⟩ => show win0_2.index t 1 * 1024 + 1 * q.val = q.val; rw [e]; show (0) * 1024 + 1 * q.val = _; omega

theorem at_3 : ∀ t : Fin cfg0.N, win0_3.index t = ![0, 0] := (by decide +kernel : ∀ t : Fin grid0.N, _)

theorem blk_3 (c : Dev nD) (t : Fin cfg0.N) (q : Fin 1024) :
    iblk m c 3 t (ix2 (0 : Fin 1) q) = arg3 m c (ix2 (0 : Fin 1) q) := by
  unfold iblk
  rw [View.read_apply]
  show arg3 m c _ = arg3 m c _
  congr 1
  funext a
  apply Fin.ext
  have e := at_3 t
  match a with
  | ⟨0, _⟩ => show win0_3.index t 0 * 1 + 1 * 0 = 0; rw [e]; show (0) * 1 + 1 * 0 = _; omega
  | ⟨1, _⟩ => show win0_3.index t 1 * 1024 + 1 * q.val = q.val; rw [e]; show (0) * 1024 + 1 * q.val = _; omega

theorem at_4 : ∀ t : Fin cfg0.N, win0_4.index t = ![t.val, 0] := (by decide +kernel : ∀ t : Fin grid0.N, _)

theorem blk_4 (c : Dev nD) (t : Fin cfg0.N) (p : Fin 512) (q : Fin 1024) :
    iblk m c 4 t (ix2 p q) = arg4 m c (ix2 (⟨512 * (t.val) + p.val, by have h := lt_of_lt_of_eq t.isLt N_0; omega⟩ : Fin 4096) q) := by
  unfold iblk
  rw [View.read_apply]
  show arg4 m c _ = arg4 m c _
  congr 1
  funext a
  apply Fin.ext
  have e := at_4 t
  match a with
  | ⟨0, _⟩ => show win0_4.index t 0 * 512 + 1 * p.val = 512 * (t.val) + p.val; rw [e]; show (t.val) * 512 + 1 * p.val = _; omega
  | ⟨1, _⟩ => show win0_4.index t 1 * 1024 + 1 * q.val = q.val; rw [e]; show (0) * 1024 + 1 * q.val = _; omega

theorem at_5 : ∀ t : Fin cfg0.N, win0_5.index t = ![t.val, 0] := (by decide +kernel : ∀ t : Fin grid0.N, _)

theorem read_5 (X : FVec Ideal S4096x1024 .f32) (t : Fin cfg0.N) (r : Fin 512) (l : Fin 1024) :
    ((cfg0.win 5).blk t).view.read (Elt Ideal) X (ix2 r l) = X (ix2 (⟨512 * (t.val) + r.val, by have h := lt_of_lt_of_eq t.isLt N_0; omega⟩ : Fin 4096) l) := by
  rw [View.read_apply]
  show X _ = X _
  congr 1
  funext a
  apply Fin.ext
  have e := at_5 t
  match a with
  | ⟨0, _⟩ => show win0_5.index t 0 * 512 + 1 * r.val = 512 * (t.val) + r.val; rw [e]; show (t.val) * 512 + 1 * r.val = _; omega
  | ⟨1, _⟩ => show win0_5.index t 1 * 1024 + 1 * l.val = l.val; rw [e]; show (0) * 1024 + 1 * l.val = _; omega

theorem at_6 : ∀ t : Fin cfg0.N, win0_6.index t = ![t.val, 0] := (by decide +kernel : ∀ t : Fin grid0.N, _)

theorem read_6 (X : FVec Ideal S4096x1024 .bf16) (t : Fin cfg0.N) (r : Fin 512) (l : Fin 1024) :
    ((cfg0.win 6).blk t).view.read (Elt Ideal) X (ix2 r l) = X (ix2 (⟨512 * (t.val) + r.val, by have h := lt_of_lt_of_eq t.isLt N_0; omega⟩ : Fin 4096) l) := by
  rw [View.read_apply]
  show X _ = X _
  congr 1
  funext a
  apply Fin.ext
  have e := at_6 t
  match a with
  | ⟨0, _⟩ => show win0_6.index t 0 * 512 + 1 * r.val = 512 * (t.val) + r.val; rw [e]; show (t.val) * 512 + 1 * r.val = _; omega
  | ⟨1, _⟩ => show win0_6.index t 1 * 1024 + 1 * l.val = l.val; rw [e]; show (0) * 1024 + 1 * l.val = _; omega

theorem at_7 : ∀ t : Fin cfg0.N, win0_7.index t = ![0, 0] := (by decide +kernel : ∀ t : Fin grid0.N, _)

theorem read_7 (X : FVec Ideal S1x1024 .f32) (t : Fin cfg0.N) (l : Fin 1024) :
    ((cfg0.win 7).blk t).view.read (Elt Ideal) X (ix2 (0 : Fin 1) l) = X (ix2 (0 : Fin 1) l) := by
  rw [View.read_apply]
  show X _ = X _
  congr 1
  funext a
  apply Fin.ext
  have e := at_7 t
  match a with
  | ⟨0, _⟩ => show win0_7.index t 0 * 1 + 1 * 0 = 0; rw [e]; show (0) * 1 + 1 * 0 = _; omega
  | ⟨1, _⟩ => show win0_7.index t 1 * 1024 + 1 * l.val = l.val; rw [e]; show (0) * 1024 + 1 * l.val = _; omega

theorem last_of_flush : ∀ t : Fin cfg0.N, win0_7.flush t = true → t.val = 7 := (by decide +kernel : ∀ t : Fin grid0.N, _)

/-! ## What the run leaves -/

theorem left_5 (c : Dev nD) (t : Fin cfg0.N) : (outsAt0 m c t.val t.isLt).1 = dxOf (iblk m c 0 t) (iblk m c 1 t) (iblk m c 2 t) (iblk m c 3 t) (iblk m c 4 t) := by
  by_cases h : t.val % 8 = 0
  · rw [outsAt0_A m c t h]
    dsimp only
    exact step_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h)
  · rw [outsAt0_B m c t h]
    dsimp only
    exact step_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) _ (fun e => h ((hcond0_0 t).mp e))

theorem left_6 (c : Dev nD) (t : Fin cfg0.N) : (outsAt0 m c t.val t.isLt).2.1
    = k0_pay2 (k0_pay5 (iblk m c 2 t)) (k0_pay6 (iblk m c 2 t)) (k0_pay8 (iblk m c 0 t) (iblk m c 1 t) (iblk m c 3 t)) (iblk m c 4 t) (k0_pay9 (iblk m c 0 t) (iblk m c 1 t) (iblk m c 2 t) (iblk m c 3 t)) := by
  by_cases h : t.val % 8 = 0
  · rw [outsAt0_A m c t h]
    dsimp only
    exact step_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h)
  · rw [outsAt0_B m c t h]
    dsimp only
    exact step_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) _ (fun e => h ((hcond0_0 t).mp e))

theorem first_7 (c : Dev nD) (t : Fin cfg0.N) (h : t.val % 8 = 0) :
    (outsAt0 m c t.val t.isLt).2.2 = k0_pay7 (iblk m c 0 t) (iblk m c 1 t) (iblk m c 2 t) (k0_pay3 (F := Ideal)) := by
  rw [outsAt0_A m c t h]
  dsimp only
  exact step_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h)

theorem next_7 (c : Dev nD) (t : Fin cfg0.N) (h : ¬t.val % 8 = 0) :
    (outsAt0 m c t.val t.isLt).2.2 = k0_pay7 (iblk m c 0 t) (iblk m c 1 t) (iblk m c 2 t) (outsAt0 m c (t.val - 1) (Nat.lt_of_le_of_lt (Nat.sub_le _ _) t.isLt)).2.2 := by
  rw [outsAt0_B m c t h]
  dsimp only
  exact step_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) _ (fun e => h ((hcond0_0 t).mp e))

/-! ## The gains' gradient: the steps' sums are the sum over all rows -/

/-- A row's product with the matrix. -/
def prod (x0 : FVec Ideal S4096x512 .bf16) (x1 : FVec Ideal S512x1024 .bf16) (i : Fin 4096) (j : Fin 1024) : EReal := ∑ k : Fin 512, x0 (ix2 i k) * x1 (ix2 k j)

/-- A row of the argument. -/
def rowOf (x2 : FVec Ideal S4096x1024 .f32) (i : Fin 4096) : Fin 1024 → EReal := fun k => x2 (ix2 i k)

/-- One row's summand of the gains' gradient, by the row's number. -/
def term (x0 : FVec Ideal S4096x512 .bf16) (x1 : FVec Ideal S512x1024 .bf16) (x2 : FVec Ideal S4096x1024 .f32) (j : Fin 1024) (n : ℕ) : EReal :=
  if h : n < 4096 then rowOf x2 ⟨n, h⟩ j * scale (rowOf x2 ⟨n, h⟩) * prod x0 x1 ⟨n, h⟩ j else 0

theorem prod_block (c : Dev nD) (t : Fin cfg0.N) (r : Fin 512) (l : Fin 1024) :
    k0_pay4 (iblk m c 0 t) (iblk m c 1 t) (ix2 r l) = prod (arg0 m c) (arg1 m c) (⟨512 * t.val + r.val, by have h := lt_of_lt_of_eq t.isLt N_0; omega⟩ : Fin 4096) l := by
  refine (prod_at _ _ r l).trans (Finset.sum_congr rfl fun k _ => ?_)
  exact congrArg₂ (· * ·) (blk_0 m c t r k) (blk_1 m c t k l)

theorem norm_block (c : Dev nD) (t : Fin cfg0.N) (r : Fin 512) (l : Fin 1024) :
    k0_pay6 (iblk m c 2 t) (ix2 r l) = rowOf (arg2 m c) (⟨512 * t.val + r.val, by have h := lt_of_lt_of_eq t.isLt N_0; omega⟩ : Fin 4096) l * scale (rowOf (arg2 m c) (⟨512 * t.val + r.val, by have h := lt_of_lt_of_eq t.isLt N_0; omega⟩ : Fin 4096)) := by
  refine (norm_at _ r l).trans ?_
  exact congrArg₂ (· * ·) (blk_2 m c t r l) (congrArg scale (funext fun k => blk_2 m c t r k))

theorem step_sum (c : Dev nD) (t : Fin cfg0.N) (l : Fin 1024) :
    ∑ r : Fin 512, k0_pay4 (iblk m c 0 t) (iblk m c 1 t) (ix2 r l) * k0_pay6 (iblk m c 2 t) (ix2 r l)
      = ∑ n ∈ Finset.range 512, term (arg0 m c) (arg1 m c) (arg2 m c) l (512 * t.val + n) := by
  rw [Finset.sum_range]
  refine Finset.sum_congr rfl fun r _ => ?_
  rw [prod_block, norm_block]
  unfold term
  rw [dif_pos (by have h := lt_of_lt_of_eq t.isLt N_0; omega : 512 * t.val + r.val < 4096)]
  exact mul_comm _ _

theorem acc_at (c : Dev nD) (l : Fin 1024) : ∀ (n : ℕ) (hn : n < cfg0.N),
    (outsAt0 m c n hn).2.2 (ix2 (0 : Fin 1) l) = ∑ x ∈ Finset.range (512 * n + 512), term (arg0 m c) (arg1 m c) (arg2 m c) l x
  | 0, hn => by
    refine (congrFun (first_7 m c ⟨0, hn⟩ rfl) (ix2 (0 : Fin 1) l)).trans ((gains_at _ _ _ _ l).trans ?_)
    rw [start_at, zero_add, step_sum]
    refine Finset.sum_congr rfl fun x _ => congrArg (term (arg0 m c) (arg1 m c) (arg2 m c) l) ?_
    show 512 * 0 + x = x
    omega
  | n + 1, hn => by
    have hN := lt_of_lt_of_eq hn N_0
    refine (congrFun (next_7 m c ⟨n + 1, hn⟩ (by show ¬(n + 1) % 8 = 0; omega)) (ix2 (0 : Fin 1) l)).trans ((gains_at _ _ _ _ l).trans ?_)
    rw [Finset.sum_range_add, step_sum]
    refine congrArg₂ (· + ·) ?_ rfl
    exact acc_at c l n (Nat.lt_of_succ_lt hn)

theorem ref_prod (x0 : FVec Ideal S4096x512 .bf16) (x1 : FVec Ideal S512x1024 .bf16) (i : Fin 4096) (j : Fin 1024) :
    Cert.Reference17Ideal.Read.val_main_v19 (F := Ideal) x0 x1 (ix2 i j) = prod x0 x1 i j := by
  refine (Cert.Reference17Ideal.Read.val_main_v19_apply x0 x1 _).trans (Finset.sum_congr rfl fun k _ => ?_)
  refine congrArg₂ (· * ·) (congrArg x0 (funext fun a => Fin.ext ?_)) ?_
  · match a with
    | ⟨0, _⟩ => rfl
    | ⟨1, _⟩ => rfl
  · refine (Cert.Reference17Ideal.Read.val_main_v1_apply (F := Ideal) x1 _).trans (congrArg x1 (funext fun a => Fin.ext ?_))
    match a with
    | ⟨0, _⟩ => rfl
    | ⟨1, _⟩ => rfl

theorem ref_mean (x2 : FVec Ideal S4096x1024 .f32) (i : Fin 4096) :
    Cert.Reference17Ideal.Read.val_main_v8 (F := Ideal) x2 (ix2 i (0 : Fin 1)) = mean (rowOf x2 i) := by
  show Ideal.div (Cert.Reference17Ideal.Read.val_main_v4 (F := Ideal) x2 (ix2 i (0 : Fin 1))) (Cert.Reference17Ideal.Read.val_main_v5 (F := Ideal) (ix2 i (0 : Fin 1)))
    + Cert.Reference17Ideal.Read.val_main_v7 (F := Ideal) (ix2 i (0 : Fin 1)) = _
  rw [Cert.Reference17Ideal.Read.val_main_v5_apply, Cert.Reference17Ideal.Read.val_main_v7_apply, Cert.Reference17Ideal.Read.val_main_v4_apply, Cert.Reference17Ideal.Read.val_main_v3_apply]
  unfold mean rowOf
  refine congrArg₂ (· + ·) (congrArg₂ Ideal.div ?_ rfl) rfl
  refine (congrArg (· + _) Ideal.ofBits_zero_f32).trans ((zero_add _).trans (Finset.sum_congr rfl fun k _ => ?_))
  exact congrArg (fun y => x2 y * x2 y) (funext fun a => Fin.ext (by
    match a with
    | ⟨0, _⟩ => rfl
    | ⟨1, _⟩ => rfl))

theorem ref_scale (x2 : FVec Ideal S4096x1024 .f32) (i : Fin 4096) :
    Cert.Reference17Ideal.Read.val_main_v9 (F := Ideal) x2 (ix2 i (0 : Fin 1)) = scale (rowOf x2 i) :=
  congrArg Ideal.rsqrt (ref_mean x2 i)

theorem ref_gains (x0 : FVec Ideal S4096x512 .bf16) (x1 : FVec Ideal S512x1024 .bf16) (x2 : FVec Ideal S4096x1024 .f32) (j : Fin 1024) :
    Cert.Reference17Ideal.Read.val_main_v22 (F := Ideal) x0 x1 x2 (ix2 (0 : Fin 1) j) = ∑ n ∈ Finset.range 4096, term x0 x1 x2 j n := by
  rw [Cert.Reference17Ideal.Read.val_main_v22_apply, Cert.Reference17Ideal.Read.val_main_v21_apply, Finset.sum_range]
  refine (congrArg (· + _) Ideal.ofBits_zero_f32).trans ((zero_add _).trans (Finset.sum_congr rfl fun i _ => ?_))
  have e : Cert.Reference17Ideal.Read.idx_main_v21 (Cert.Reference17Ideal.Read.idx_main_v22 (ix2 (0 : Fin 1) j)) i = ix2 i j := funext fun a => Fin.ext (by
    match a with
    | ⟨0, _⟩ => rfl
    | ⟨1, _⟩ => show 0 * 1024 + j.val = j.val; omega)
  rw [e]
  unfold term
  rw [dif_pos i.isLt]
  show x2 (ix2 i j) * Cert.Reference17Ideal.Read.val_main_v13 (F := Ideal) x2 (ix2 i j) * Cert.Reference17Ideal.Read.val_main_v19 (F := Ideal) x0 x1 (ix2 i j) = _
  rw [ref_prod, Cert.Reference17Ideal.Read.val_main_v13_apply]
  refine congrArg (fun z => x2 (ix2 i j) * z * prod x0 x1 i j) ((congrArg (Cert.Reference17Ideal.Read.val_main_v9 (F := Ideal) x2) (funext fun a => Fin.ext ?_)).trans (ref_scale x2 i))
  match a with
    | ⟨0, _⟩ => rfl
    | ⟨1, _⟩ => rfl

theorem arr_7 (c : Dev nD) : (dats m 0 c).arrAt 7 cfg0.N = Cert.Reference17Ideal.Read.val_main_v22 (F := Ideal) (arg0 m c) (arg1 m c) (arg2 m c) := by
  have key : ∀ (t : Fin cfg0.N), t.val = 7 → ∀ (y : S1x1024.Idx), (outsAt0 m c t.val t.isLt).2.2 y
      = ((cfg0.win 7).blk t).view.read (Elt Ideal) (Cert.Reference17Ideal.Read.val_main_v22 (F := Ideal) (arg0 m c) (arg1 m c) (arg2 m c)) y := fun t h y => by
    obtain ⟨r, l, rfl⟩ : ∃ (r : Fin 1) (l : Fin 1024), y = ix2 r l := ⟨y 0, y 1, eta_two y⟩
    obtain rfl : r = 0 := Subsingleton.elim _ _
    refine (acc_at m c l t.val t.isLt).trans (Eq.trans ?_ ((read_7 _ t l).trans (ref_gains _ _ _ l)).symm)
    rw [h]
  refine (dats m 0 c).arrAt_eq_of_cover 7 _ (fun t hf => ?_) ((by decide +kernel : (cfg0.win 7).Covers).cover _ (Memref.isWhole_whole _))
  rw [Value.flushed7]
  exact funext fun y => key t (last_of_flush t hf) y

/-! ## The argument's gradient -/

section
variable (x0 : FVec Ideal S4096x512 .bf16) (x1 : FVec Ideal S512x1024 .bf16) (x2 : FVec Ideal S4096x1024 .f32) (x3 : FVec Ideal S1x1024 .f32) (x4 : FVec Ideal S4096x1024 .f32)

/-- The gradient at a normalised row times the gains. -/
def gained (i : Fin 4096) : Fin 1024 → EReal := fun k => prod x0 x1 i k * x3 (ix2 0 k)

/-- The reference's factor of the row in its gradient through the mean square. -/
def factor (i : Fin 4096) : EReal :=
  Ideal.div ((∑ k, rowOf x2 i k * gained x0 x1 x3 i k) * (Ideal.ofBits .f32 0xBF000000#32 * Ideal.div (scale (rowOf x2 i)) (mean (rowOf x2 i)))) (Ideal.ofBits .f32 0x44800000#32)

theorem ref_gained (i : Fin 4096) (j : Fin 1024) : Cert.Reference17Ideal.Read.val_main_v24 (F := Ideal) x0 x1 x3 (ix2 i j) = gained x0 x1 x3 i j := by
  refine (Cert.Reference17Ideal.Read.val_main_v24_apply (F := Ideal) x0 x1 x3 _).trans (congrArg₂ (· * ·) (ref_prod x0 x1 i j) ?_)
  refine (Cert.Reference17Ideal.Read.val_main_v23_apply (F := Ideal) x3 _).trans (congrArg x3 (funext fun a => Fin.ext ?_))
  match a with
    | ⟨0, _⟩ => rfl
    | ⟨1, _⟩ => rfl

theorem ref_dot (i : Fin 4096) :
    Cert.Reference17Ideal.Read.val_main_v27 (F := Ideal) x0 x1 x2 x3 (ix2 i (0 : Fin 1)) = ∑ k, rowOf x2 i k * gained x0 x1 x3 i k := by
  rw [Cert.Reference17Ideal.Read.val_main_v27_apply, Cert.Reference17Ideal.Read.val_main_v26_apply]
  refine (congrArg (· + _) Ideal.ofBits_zero_f32).trans ((zero_add _).trans (Finset.sum_congr rfl fun k _ => ?_))
  have e : Cert.Reference17Ideal.Read.idx_main_v26 (Cert.Reference17Ideal.Read.idx_main_v27 (ix2 i (0 : Fin 1))) k = ix2 i k := funext fun a => Fin.ext (by
    match a with
    | ⟨0, _⟩ => show i.val * 1 + 0 = i.val; omega
    | ⟨1, _⟩ => rfl)
  rw [e]
  exact congrArg (x2 (ix2 i k) * ·) (ref_gained x0 x1 x3 i k)

theorem ref_factor (i : Fin 4096) (j : Fin 1024) : Cert.Reference17Ideal.Read.val_main_v35 (F := Ideal) x0 x1 x2 x3 (ix2 i j) = factor x0 x1 x2 x3 i := by
  rw [Cert.Reference17Ideal.Read.val_main_v35_apply, Cert.Reference17Ideal.Read.val_main_v34_apply]
  refine (congrArg (· + _) Ideal.ofBits_zero_f32).trans ((zero_add _).trans ((Fin.sum_univ_one _).trans ?_))
  have e : Cert.Reference17Ideal.Read.idx_main_v34 (Cert.Reference17Ideal.Read.idx_main_v35 (ix2 i j)) 0 = ix2 i (0 : Fin 1) := funext fun a => Fin.ext (by
    match a with
    | ⟨0, _⟩ => rfl
    | ⟨1, _⟩ => rfl)
  rw [e]
  show Ideal.div (Cert.Reference17Ideal.Read.val_main_v27 (F := Ideal) x0 x1 x2 x3 (ix2 i (0 : Fin 1)) * (Cert.Reference17Ideal.Read.val_main_v11 (F := Ideal) (ix2 i (0 : Fin 1))
    * Ideal.div (Cert.Reference17Ideal.Read.val_main_v9 (F := Ideal) x2 (ix2 i (0 : Fin 1))) (Cert.Reference17Ideal.Read.val_main_v8 (F := Ideal) x2 (ix2 i (0 : Fin 1))))) (Cert.Reference17Ideal.Read.val_main_v32 (F := Ideal) (ix2 i (0 : Fin 1))) = _
  rw [ref_dot, ref_scale, ref_mean, Cert.Reference17Ideal.Read.val_main_v11_apply, Cert.Reference17Ideal.Read.val_main_v32_apply]
  rfl

theorem ref_dx (i : Fin 4096) (j : Fin 1024) : Cert.Reference17Ideal.Read.val_main_v39 (F := Ideal) x0 x1 x2 x3 x4 (ix2 i j)
    = x4 (ix2 i j) + gained x0 x1 x3 i j * scale (rowOf x2 i) + rowOf x2 i j * factor x0 x1 x2 x3 i + factor x0 x1 x2 x3 i * rowOf x2 i j := by
  show x4 (ix2 i j) + Cert.Reference17Ideal.Read.val_main_v24 (F := Ideal) x0 x1 x3 (ix2 i j) * Cert.Reference17Ideal.Read.val_main_v28 (F := Ideal) x2 (ix2 i j)
    + x2 (ix2 i j) * Cert.Reference17Ideal.Read.val_main_v35 (F := Ideal) x0 x1 x2 x3 (ix2 i j) + Cert.Reference17Ideal.Read.val_main_v35 (F := Ideal) x0 x1 x2 x3 (ix2 i j) * x2 (ix2 i j) = _
  have e : Cert.Reference17Ideal.Read.val_main_v28 (F := Ideal) x2 (ix2 i j) = scale (rowOf x2 i) := by
    refine (Cert.Reference17Ideal.Read.val_main_v28_apply (F := Ideal) x2 _).trans ((congrArg (Cert.Reference17Ideal.Read.val_main_v9 (F := Ideal) x2) (funext fun a => Fin.ext ?_)).trans (ref_scale x2 i))
    match a with
    | ⟨0, _⟩ => rfl
    | ⟨1, _⟩ => rfl
  rw [ref_gained, ref_factor, e]
  rfl
end

/-! ## The arrays -/

theorem block_dx (c : Dev nD) (t : Fin cfg0.N) (r : Fin 512) (l : Fin 1024) :
    dxOf (iblk m c 0 t) (iblk m c 1 t) (iblk m c 2 t) (iblk m c 3 t) (iblk m c 4 t) (ix2 r l) = Cert.Reference17Ideal.Read.val_main_v39 (F := Ideal) (arg0 m c) (arg1 m c) (arg2 m c) (arg3 m c) (arg4 m c) (ix2 (⟨512 * t.val + r.val, by have h := lt_of_lt_of_eq t.isLt N_0; omega⟩ : Fin 4096) l) := by
  refine (dx_at _ _ _ _ _ r l (rowOf (arg2 m c) (⟨512 * t.val + r.val, by have h := lt_of_lt_of_eq t.isLt N_0; omega⟩ : Fin 4096)) (gained (arg0 m c) (arg1 m c) (arg3 m c) (⟨512 * t.val + r.val, by have h := lt_of_lt_of_eq t.isLt N_0; omega⟩ : Fin 4096)) (fun k => blk_2 m c t r k)
    (fun k => (gain_at _ _ _ r k).trans (congrArg₂ (· * ·) (prod_block m c t r k) (blk_3 m c t k)))).trans ?_
  refine (congrArg (fun z : EReal => z + _) (blk_4 m c t r l)).trans (Eq.trans ?_ (ref_dx _ _ _ _ _ _ _).symm)
  exact grad _ _ _ l

theorem arr_5 (c : Dev nD) : (dats m 0 c).arrAt 5 cfg0.N = Cert.Reference17Ideal.Read.val_main_v39 (F := Ideal) (arg0 m c) (arg1 m c) (arg2 m c) (arg3 m c) (arg4 m c) := by
  have key : ∀ (t : Fin cfg0.N) (y : S512x1024.Idx), (outsAt0 m c t.val t.isLt).1 y
      = ((cfg0.win 5).blk t).view.read (Elt Ideal) (Cert.Reference17Ideal.Read.val_main_v39 (F := Ideal) (arg0 m c) (arg1 m c) (arg2 m c) (arg3 m c) (arg4 m c)) y := fun t y => by
    obtain ⟨r, l, rfl⟩ : ∃ (r : Fin 512) (l : Fin 1024), y = ix2 r l := ⟨y 0, y 1, eta_two y⟩
    refine Eq.trans ?_ (read_5 _ t r l).symm
    exact (congrFun (left_5 m c t) (ix2 r l)).trans (block_dx m c t r l)
  refine (dats m 0 c).arrAt_eq_of_cover 5 _ (fun t hf => ?_) ((by decide +kernel : (cfg0.win 5).Covers).cover _ (Memref.isWhole_whole _))
  rw [Value.flushed5]
  exact funext fun y => key t y

theorem arr_6 (c : Dev nD) : (dats m 0 c).arrAt 6 cfg0.N = Cert.Reference17Ideal.Read.val_main_v40 (F := Ideal) (arg0 m c) (arg1 m c) (arg2 m c) (arg3 m c) (arg4 m c) := by
  have key : ∀ (t : Fin cfg0.N) (y : S512x1024.Idx), (outsAt0 m c t.val t.isLt).2.1 y
      = ((cfg0.win 6).blk t).view.read (Elt Ideal) (Cert.Reference17Ideal.Read.val_main_v40 (F := Ideal) (arg0 m c) (arg1 m c) (arg2 m c) (arg3 m c) (arg4 m c)) y := fun t y => by
    obtain ⟨r, l, rfl⟩ : ∃ (r : Fin 512) (l : Fin 1024), y = ix2 r l := ⟨y 0, y 1, eta_two y⟩
    refine Eq.trans ?_ (read_6 _ t r l).symm
    exact ((congrFun (left_6 m c t) (ix2 r l)).trans (narrow_at _ _ _ _ _ (ix2 r l))).trans (block_dx m c t r l)
  refine (dats m 0 c).arrAt_eq_of_cover 6 _ (fun t hf => ?_) ((by decide +kernel : (cfg0.win 6).Covers).cover _ (Memref.isWhole_whole _))
  rw [Value.flushed6]
  exact funext fun y => key t y

/-! ## The claims -/

theorem frame_ideal : Cert.quiescent_Kernel17Ideal := fun m ρ _ => Cert.Kernel17Ideal.Gen.frame m ρ

theorem frame_reference : Cert.quiescent_Reference17Ideal := fun m ρ _ =>
  (θ_run Cert.Reference17Ideal.defs _ _).mono (fun r h =>
    ⟨fun c => (h c).2.2.2, sem_eq_zero_of_no_sems (by decide) _⟩) (Cert.Reference17Ideal.Value.run m ρ)

/-- The kernel's results and the reference's are equal, on any arguments. -/
theorem algebraic : Cert.algebraic_Kernel17Ideal_Reference17Ideal := fun m g m' g' _ he => by
  refine ⟨fun c => Cert.Reference17Ideal.Read.val_main_v39 (F := Ideal) (arg0 m c) (arg1 m c) (arg2 m c) (arg3 m c) (arg4 m c), fun c => Cert.Reference17Ideal.Read.val_main_v40 (F := Ideal) (arg0 m c) (arg1 m c) (arg2 m c) (arg3 m c) (arg4 m c), fun c => Cert.Reference17Ideal.Read.val_main_v22 (F := Ideal) (arg0 m c) (arg1 m c) (arg2 m c), ?_, ?_⟩
  · refine (θ_run _ _ _).mono (fun r h c => ?_) (Cert.Kernel17Ideal.Value.run_blocks m g)
    exact ⟨(h c).1.trans (arr_5 m c), (h c).2.1.trans (arr_6 m c), (h c).2.2.1.trans (arr_7 m c), (h c).2.2.2⟩
  · refine (θ_run _ _ _).mono (fun r h c => ?_) (Cert.Reference17Ideal.Value.run m' g')
    obtain ⟨h0, h1, h2, h3, h4⟩ := he c
    refine ⟨(h c).1.trans ?_, (h c).2.1.trans ?_, (h c).2.2.1.trans ?_, (h c).2.2.2⟩
    · rw [Cert.Reference17Ideal.Read.val_main_v39_eq, h0, h1, h2, h3, h4]
    · rw [Cert.Reference17Ideal.Read.val_main_v40_eq, h0, h1, h2, h3, h4]
    · rw [Cert.Reference17Ideal.Read.val_main_v22_eq, h0, h1, h2]

end Mm.NormBwdX

end
-- ==== Proof.MixNorm.lean ====
/-
The mixer's output projection: each point of the grid adds one block of 512 rows of the product to the residual and normalises the rows.
-/
module

public import proofs.«01_k».proof.Proof.Norm
public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit

@[expose] public section

noncomputable section

set_option maxRecDepth 65536

namespace Mm.MixNorm

open Idealize.ShloMosaic Idealize.ShloMosaic.TcCoe Idealize.SL.Sem Cert.Kernel18Ideal Cert.Kernel18Ideal.Gen Ffn Norm
open scoped Pointwise

theorem zero2 : (![0, 0] : Fin 2 → Nat) = fun _ => 0 := funext fun a => by fin_cases a <;> rfl

/-! ## What one point of the grid leaves -/

section
variable (x0 : Vec Ideal S512x1024 .bf16) (x1 : Vec Ideal S1024x1024 .bf16) (x2 : Vec Ideal S512x1024 .f32) (x3 : Vec Ideal S1x1024 .f32)

/-- The sum with the product at an index. -/
theorem pay4_at (r : Fin 512) (l : Fin 1024) :
    k0_pay1 x0 x1 x2 (ix2 r l) = x2 (ix2 r l) + ∑ k : Fin 1024, x0 (ix2 r k) * x1 (ix2 k l) := by
  refine Eq.trans ?_ (add_comm _ _)
  pointwise [k0_pay1]

/-- The normalised row at an index. -/
theorem pay5_at (r : Fin 512) (l : Fin 1024) :
    k0_pay2 x0 x1 x2 x3 (ix2 r l) = k0_pay1 x0 x1 x2 (ix2 r l) * scale (fun k => k0_pay1 x0 x1 x2 (ix2 r k)) * x3 (ix2 0 l) := by
  unfold scale mean
  pointwise [k0_pay2]

theorem out4_eq : out0_4 x0 x1 x2 x3 = k0_pay1 x0 x1 x2 := by
  unfold out0_4
  rw [View.canon_unit_zero zero2]
  simp only [View.ld_unit_zero (S := S512x1024) zero2, View.ld_unit_zero (S := S1024x1024) zero2]

theorem out5_eq : out0_5 x0 x1 x2 x3 = k0_pay2 x0 x1 x2 x3 := by
  unfold out0_5
  rw [View.canon_unit_zero zero2]
  simp only [View.ld_unit_zero (S := S512x1024) zero2, View.ld_unit_zero (S := S1024x1024) zero2, View.ld_unit_zero (S := S1x1024) zero2]
end

/-! ## The blocks -/

variable (m : (ℓ : Loc nD τ sig) → Buf (Elt Ideal) ℓ)

abbrev arg0 (c : Dev nD) : FVec Ideal S4096x1024 .bf16 := m ((c : Thread nD τ).loc main_arg0)
abbrev arg1 (c : Dev nD) : FVec Ideal S1024x1024 .bf16 := m ((c : Thread nD τ).loc main_arg1)
abbrev arg2 (c : Dev nD) : FVec Ideal S4096x1024 .f32 := m ((c : Thread nD τ).loc main_arg2)
abbrev arg3 (c : Dev nD) : FVec Ideal S1x1024 .f32 := m ((c : Thread nD τ).loc main_arg3)

theorem at_0 : ∀ t : Fin cfg0.N, win0_0.index t = ![t.val, 0] := (by decide +kernel : ∀ t : Fin grid0.N, _)

theorem blk_0 (c : Dev nD) (t : Fin cfg0.N) (p : Fin 512) (q : Fin 1024) :
    iblk m c 0 t (ix2 p q) = arg0 m c (ix2 (⟨512 * (t.val) + p.val, by have h := lt_of_lt_of_eq t.isLt N_0; omega⟩ : Fin 4096) q) := by
  unfold iblk
  rw [View.read_apply]
  show arg0 m c _ = arg0 m c _
  congr 1
  funext a
  apply Fin.ext
  have e := at_0 t
  match a with
  | ⟨0, _⟩ => show win0_0.index t 0 * 512 + 1 * p.val = 512 * (t.val) + p.val; rw [e]; show (t.val) * 512 + 1 * p.val = _; omega
  | ⟨1, _⟩ => show win0_0.index t 1 * 1024 + 1 * q.val = q.val; rw [e]; show (0) * 1024 + 1 * q.val = _; omega

theorem at_1 : ∀ t : Fin cfg0.N, win0_1.index t = ![0, 0] := (by decide +kernel : ∀ t : Fin grid0.N, _)

theorem blk_1 (c : Dev nD) (t : Fin cfg0.N) (p : Fin 1024) (q : Fin 1024) :
    iblk m c 1 t (ix2 p q) = arg1 m c (ix2 p q) := by
  unfold iblk
  rw [View.read_apply]
  show arg1 m c _ = arg1 m c _
  congr 1
  funext a
  apply Fin.ext
  have e := at_1 t
  match a with
  | ⟨0, _⟩ => show win0_1.index t 0 * 1024 + 1 * p.val = p.val; rw [e]; show (0) * 1024 + 1 * p.val = _; omega
  | ⟨1, _⟩ => show win0_1.index t 1 * 1024 + 1 * q.val = q.val; rw [e]; show (0) * 1024 + 1 * q.val = _; omega

theorem at_2 : ∀ t : Fin cfg0.N, win0_2.index t = ![t.val, 0] := (by decide +kernel : ∀ t : Fin grid0.N, _)

theorem blk_2 (c : Dev nD) (t : Fin cfg0.N) (p : Fin 512) (q : Fin 1024) :
    iblk m c 2 t (ix2 p q) = arg2 m c (ix2 (⟨512 * (t.val) + p.val, by have h := lt_of_lt_of_eq t.isLt N_0; omega⟩ : Fin 4096) q) := by
  unfold iblk
  rw [View.read_apply]
  show arg2 m c _ = arg2 m c _
  congr 1
  funext a
  apply Fin.ext
  have e := at_2 t
  match a with
  | ⟨0, _⟩ => show win0_2.index t 0 * 512 + 1 * p.val = 512 * (t.val) + p.val; rw [e]; show (t.val) * 512 + 1 * p.val = _; omega
  | ⟨1, _⟩ => show win0_2.index t 1 * 1024 + 1 * q.val = q.val; rw [e]; show (0) * 1024 + 1 * q.val = _; omega

theorem at_3 : ∀ t : Fin cfg0.N, win0_3.index t = ![0, 0] := (by decide +kernel : ∀ t : Fin grid0.N, _)

theorem blk_3 (c : Dev nD) (t : Fin cfg0.N) (q : Fin 1024) :
    iblk m c 3 t (ix2 (0 : Fin 1) q) = arg3 m c (ix2 (0 : Fin 1) q) := by
  unfold iblk
  rw [View.read_apply]
  show arg3 m c _ = arg3 m c _
  congr 1
  funext a
  apply Fin.ext
  have e := at_3 t
  match a with
  | ⟨0, _⟩ => show win0_3.index t 0 * 1 + 1 * 0 = 0; rw [e]; show (0) * 1 + 1 * 0 = _; omega
  | ⟨1, _⟩ => show win0_3.index t 1 * 1024 + 1 * q.val = q.val; rw [e]; show (0) * 1024 + 1 * q.val = _; omega

theorem at_4 : ∀ t : Fin cfg0.N, win0_4.index t = ![t.val, 0] := (by decide +kernel : ∀ t : Fin grid0.N, _)

theorem read_4 (X : FVec Ideal S4096x1024 .f32) (t : Fin cfg0.N) (r : Fin 512) (l : Fin 1024) :
    ((cfg0.win 4).blk t).view.read (Elt Ideal) X (ix2 r l) = X (ix2 (⟨512 * (t.val) + r.val, by have h := lt_of_lt_of_eq t.isLt N_0; omega⟩ : Fin 4096) l) := by
  rw [View.read_apply]
  show X _ = X _
  congr 1
  funext a
  apply Fin.ext
  have e := at_4 t
  match a with
  | ⟨0, _⟩ => show win0_4.index t 0 * 512 + 1 * r.val = 512 * (t.val) + r.val; rw [e]; show (t.val) * 512 + 1 * r.val = _; omega
  | ⟨1, _⟩ => show win0_4.index t 1 * 1024 + 1 * l.val = l.val; rw [e]; show (0) * 1024 + 1 * l.val = _; omega

theorem at_5 : ∀ t : Fin cfg0.N, win0_5.index t = ![t.val, 0] := (by decide +kernel : ∀ t : Fin grid0.N, _)

theorem read_5 (X : FVec Ideal S4096x1024 .bf16) (t : Fin cfg0.N) (r : Fin 512) (l : Fin 1024) :
    ((cfg0.win 5).blk t).view.read (Elt Ideal) X (ix2 r l) = X (ix2 (⟨512 * (t.val) + r.val, by have h := lt_of_lt_of_eq t.isLt N_0; omega⟩ : Fin 4096) l) := by
  rw [View.read_apply]
  show X _ = X _
  congr 1
  funext a
  apply Fin.ext
  have e := at_5 t
  match a with
  | ⟨0, _⟩ => show win0_5.index t 0 * 512 + 1 * r.val = 512 * (t.val) + r.val; rw [e]; show (t.val) * 512 + 1 * r.val = _; omega
  | ⟨1, _⟩ => show win0_5.index t 1 * 1024 + 1 * l.val = l.val; rw [e]; show (0) * 1024 + 1 * l.val = _; omega

/-! ## The reference's values -/

section
variable (x0 : FVec Ideal S4096x1024 .bf16) (x1 : FVec Ideal S1024x1024 .bf16) (x2 : FVec Ideal S4096x1024 .f32) (x3 : FVec Ideal S1x1024 .f32)

theorem ref4_at (i : Fin 4096) (j : Fin 1024) :
    Cert.Reference18Ideal.Read.val_main_v3 (F := Ideal) x0 x1 x2 (ix2 i j) = x2 (ix2 i j) + ∑ k : Fin 1024, x0 (ix2 i k) * x1 (ix2 k j) := by
  refine (Cert.Reference18Ideal.Read.val_main_v3_apply (F := Ideal) x0 x1 x2 _).trans (congrArg (x2 (ix2 i j) + ·) ?_)
  refine (Cert.Reference18Ideal.Read.val_main_v2_apply x0 x1 _).trans (Finset.sum_congr rfl fun k _ => ?_)
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

theorem ref_scale (i : Fin 4096) :
    Cert.Reference18Ideal.Read.val_main_v11 (F := Ideal) x0 x1 x2 (ix2 i (0 : Fin 1)) = scale fun k => Cert.Reference18Ideal.Read.val_main_v3 (F := Ideal) x0 x1 x2 (ix2 i k) := by
  show Ideal.rsqrt (Ideal.div (Cert.Reference18Ideal.Read.val_main_v6 (F := Ideal) x0 x1 x2 (ix2 i (0 : Fin 1))) (Cert.Reference18Ideal.Read.val_main_v7 (F := Ideal) (ix2 i (0 : Fin 1)))
    + Cert.Reference18Ideal.Read.val_main_v9 (F := Ideal) (ix2 i (0 : Fin 1))) = _
  rw [Cert.Reference18Ideal.Read.val_main_v7_apply, Cert.Reference18Ideal.Read.val_main_v9_apply, Cert.Reference18Ideal.Read.val_main_v6_apply, Cert.Reference18Ideal.Read.val_main_v5_apply]
  unfold scale mean
  refine congrArg Ideal.rsqrt (congrArg₂ (· + ·) (congrArg₂ Ideal.div ?_ rfl) rfl)
  refine (congrArg (· + _) Ideal.ofBits_zero_f32).trans ((zero_add _).trans (Finset.sum_congr rfl fun k _ => ?_))
  exact congrArg (fun y => Cert.Reference18Ideal.Read.val_main_v3 (F := Ideal) x0 x1 x2 y * Cert.Reference18Ideal.Read.val_main_v3 (F := Ideal) x0 x1 x2 y) (funext fun a => Fin.ext (by
    match a with
    | ⟨0, _⟩ => rfl
    | ⟨1, _⟩ => rfl))

theorem ref5_at (i : Fin 4096) (j : Fin 1024) :
    Cert.Reference18Ideal.Read.val_main_v16 (F := Ideal) x0 x1 x2 x3 (ix2 i j)
      = Cert.Reference18Ideal.Read.val_main_v3 (F := Ideal) x0 x1 x2 (ix2 i j) * scale (fun k => Cert.Reference18Ideal.Read.val_main_v3 (F := Ideal) x0 x1 x2 (ix2 i k)) * x3 (ix2 0 j) := by
  show Cert.Reference18Ideal.Read.val_main_v3 (F := Ideal) x0 x1 x2 (ix2 i j) * Cert.Reference18Ideal.Read.val_main_v12 (F := Ideal) x0 x1 x2 (ix2 i j) * Cert.Reference18Ideal.Read.val_main_v14 (F := Ideal) x3 (ix2 i j) = _
  rw [Cert.Reference18Ideal.Read.val_main_v12_apply, Cert.Reference18Ideal.Read.val_main_v14_apply, ← ref_scale]
  refine congrArg₂ (· * ·) (congrArg (_ * ·) (congrArg (Cert.Reference18Ideal.Read.val_main_v11 (F := Ideal) x0 x1 x2) (funext fun a => Fin.ext ?_))) (congrArg x3 (funext fun a => Fin.ext ?_))
  · match a with
    | ⟨0, _⟩ => rfl
    | ⟨1, _⟩ => rfl
  · match a with
    | ⟨0, _⟩ => rfl
    | ⟨1, _⟩ => rfl
end

/-! ## The arrays -/

theorem sum_block (c : Dev nD) (t : Fin cfg0.N) (r : Fin 512) (l : Fin 1024) :
    k0_pay1 (iblk m c 0 t) (iblk m c 1 t) (iblk m c 2 t) (ix2 r l)
      = Cert.Reference18Ideal.Read.val_main_v3 (F := Ideal) (arg0 m c) (arg1 m c) (arg2 m c) (ix2 (⟨512 * (t.val) + r.val, by have h := lt_of_lt_of_eq t.isLt N_0; omega⟩ : Fin 4096) l) := by
  refine (pay4_at _ _ _ r l).trans (Eq.trans ?_ (ref4_at _ _ _ _ l).symm)
  refine congrArg₂ (· + ·) (blk_2 m c t r l) (Finset.sum_congr rfl fun k _ => ?_)
  exact congrArg₂ (· * ·) (blk_0 m c t r k) (blk_1 m c t k l)

theorem arr_4 (c : Dev nD) : (dats m 0 c).arrAt 4 cfg0.N = Cert.Reference18Ideal.Read.val_main_v3 (F := Ideal) (arg0 m c) (arg1 m c) (arg2 m c) := by
  have key : ∀ (t : Fin cfg0.N) (y : S512x1024.Idx), out0_4 (iblk m c 0 t) (iblk m c 1 t) (iblk m c 2 t) (iblk m c 3 t) y
      = ((cfg0.win 4).blk t).view.read (Elt Ideal) (Cert.Reference18Ideal.Read.val_main_v3 (F := Ideal) (arg0 m c) (arg1 m c) (arg2 m c)) y := fun t y => by
    obtain ⟨r, l, rfl⟩ : ∃ (r : Fin 512) (l : Fin 1024), y = ix2 r l := ⟨y 0, y 1, eta_two y⟩
    refine Eq.trans ?_ (read_4 _ t r l).symm
    exact (congrFun (out4_eq (iblk m c 0 t) (iblk m c 1 t) (iblk m c 2 t) (iblk m c 3 t)) (ix2 r l)).trans (sum_block m c t r l)
  refine (dats m 0 c).arrAt_eq_of_cover 4 _ (fun t hf => ?_) ((by decide +kernel : (cfg0.win 4).Covers).cover _ (Memref.isWhole_whole _))
  rw [Value.flushed4]
  exact funext fun y => key t y

theorem arr_5 (c : Dev nD) : (dats m 0 c).arrAt 5 cfg0.N = Cert.Reference18Ideal.Read.val_main_v16 (F := Ideal) (arg0 m c) (arg1 m c) (arg2 m c) (arg3 m c) := by
  have key : ∀ (t : Fin cfg0.N) (y : S512x1024.Idx), out0_5 (iblk m c 0 t) (iblk m c 1 t) (iblk m c 2 t) (iblk m c 3 t) y
      = ((cfg0.win 5).blk t).view.read (Elt Ideal) (Cert.Reference18Ideal.Read.val_main_v16 (F := Ideal) (arg0 m c) (arg1 m c) (arg2 m c) (arg3 m c)) y := fun t y => by
    obtain ⟨r, l, rfl⟩ : ∃ (r : Fin 512) (l : Fin 1024), y = ix2 r l := ⟨y 0, y 1, eta_two y⟩
    refine Eq.trans ?_ (read_5 _ t r l).symm
    refine (congrFun (out5_eq (iblk m c 0 t) (iblk m c 1 t) (iblk m c 2 t) (iblk m c 3 t)) (ix2 r l)).trans ((pay5_at _ _ _ _ r l).trans (Eq.trans ?_ (ref5_at _ _ _ _ _ l).symm))
    exact congrArg₂ (· * ·) (congrArg₂ (· * ·) (sum_block m c t r l) (congrArg scale (funext fun k => sum_block m c t r k))) (blk_3 m c t l)
  refine (dats m 0 c).arrAt_eq_of_cover 5 _ (fun t hf => ?_) ((by decide +kernel : (cfg0.win 5).Covers).cover _ (Memref.isWhole_whole _))
  rw [Value.flushed5]
  exact funext fun y => key t y

/-! ## The claims -/

theorem frame_ideal : Cert.quiescent_Kernel18Ideal := fun m ρ _ => Cert.Kernel18Ideal.Gen.frame m ρ

theorem frame_reference : Cert.quiescent_Reference18Ideal := fun m ρ _ =>
  (θ_run Cert.Reference18Ideal.defs _ _).mono (fun r h =>
    ⟨fun c => (h c).2.2, sem_eq_zero_of_no_sems (by decide) _⟩) (Cert.Reference18Ideal.Value.run m ρ)

/-- The kernel's results and the reference's are equal, on any arguments. -/
theorem algebraic : Cert.algebraic_Kernel18Ideal_Reference18Ideal := fun m g m' g' _ he => by
  refine ⟨fun c => Cert.Reference18Ideal.Read.val_main_v3 (F := Ideal) (arg0 m c) (arg1 m c) (arg2 m c), fun c => Cert.Reference18Ideal.Read.val_main_v16 (F := Ideal) (arg0 m c) (arg1 m c) (arg2 m c) (arg3 m c), ?_, ?_⟩
  · refine (θ_run _ _ _).mono (fun r h c => ?_) (Cert.Kernel18Ideal.Value.run_blocks m g)
    exact ⟨(h c).1.trans (arr_4 m c), (h c).2.1.trans (arr_5 m c), (h c).2.2⟩
  · refine (θ_run _ _ _).mono (fun r h c => ?_) (Cert.Reference18Ideal.Value.run m' g')
    obtain ⟨h0, h1, h2, h3⟩ := he c
    refine ⟨(h c).1.trans ?_, (h c).2.1.trans ?_, (h c).2.2⟩
    · rw [Cert.Reference18Ideal.Read.val_main_v3_eq, h0, h1, h2]
    · rw [Cert.Reference18Ideal.Read.val_main_v16_eq, h0, h1, h2, h3]

end Mm.MixNorm

end
-- ==== Proof.XNorm.lean ====
/-
The cross attention's output projection: each point of the grid adds one block of 512 rows of the product to the residual and
normalises the rows.
-/
module

public import proofs.«01_k».proof.Proof.Norm
public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit

@[expose] public section

noncomputable section

set_option maxRecDepth 65536

namespace Mm.XNorm

open Idealize.ShloMosaic Idealize.ShloMosaic.TcCoe Idealize.SL.Sem Cert.Kernel19Ideal Cert.Kernel19Ideal.Gen Ffn Norm
open scoped Pointwise

theorem zero2 : (![0, 0] : Fin 2 → Nat) = fun _ => 0 := funext fun a => by fin_cases a <;> rfl

/-! ## What one point of the grid leaves -/

section
variable (x0 : Vec Ideal S512x512 .bf16) (x1 : Vec Ideal S512x1024 .bf16) (x2 : Vec Ideal S512x1024 .f32) (x3 : Vec Ideal S1x1024 .f32)

/-- The sum with the product at an index. -/
theorem pay4_at (r : Fin 512) (l : Fin 1024) :
    k0_pay1 x0 x1 x2 (ix2 r l) = x2 (ix2 r l) + ∑ k : Fin 512, x0 (ix2 r k) * x1 (ix2 k l) := by
  refine Eq.trans ?_ (add_comm _ _)
  pointwise [k0_pay1]

/-- The normalised row at an index. -/
theorem pay5_at (r : Fin 512) (l : Fin 1024) :
    k0_pay2 x0 x1 x2 x3 (ix2 r l) = k0_pay1 x0 x1 x2 (ix2 r l) * scale (fun k => k0_pay1 x0 x1 x2 (ix2 r k)) * x3 (ix2 0 l) := by
  unfold scale mean
  pointwise [k0_pay2]

theorem out4_eq : out0_4 x0 x1 x2 x3 = k0_pay1 x0 x1 x2 := by
  unfold out0_4
  rw [View.canon_unit_zero zero2]
  simp only [View.ld_unit_zero (S := S512x512) zero2, View.ld_unit_zero (S := S512x1024) zero2]

theorem out5_eq : out0_5 x0 x1 x2 x3 = k0_pay2 x0 x1 x2 x3 := by
  unfold out0_5
  rw [View.canon_unit_zero zero2]
  simp only [View.ld_unit_zero (S := S512x512) zero2, View.ld_unit_zero (S := S512x1024) zero2, View.ld_unit_zero (S := S1x1024) zero2]
end

/-! ## The blocks -/

variable (m : (ℓ : Loc nD τ sig) → Buf (Elt Ideal) ℓ)

abbrev arg0 (c : Dev nD) : FVec Ideal S4096x512 .bf16 := m ((c : Thread nD τ).loc main_arg0)
abbrev arg1 (c : Dev nD) : FVec Ideal S512x1024 .bf16 := m ((c : Thread nD τ).loc main_arg1)
abbrev arg2 (c : Dev nD) : FVec Ideal S4096x1024 .f32 := m ((c : Thread nD τ).loc main_arg2)
abbrev arg3 (c : Dev nD) : FVec Ideal S1x1024 .f32 := m ((c : Thread nD τ).loc main_arg3)

theorem at_0 : ∀ t : Fin cfg0.N, win0_0.index t = ![t.val, 0] := (by decide +kernel : ∀ t : Fin grid0.N, _)

theorem blk_0 (c : Dev nD) (t : Fin cfg0.N) (p : Fin 512) (q : Fin 512) :
    iblk m c 0 t (ix2 p q) = arg0 m c (ix2 (⟨512 * (t.val) + p.val, by have h := lt_of_lt_of_eq t.isLt N_0; omega⟩ : Fin 4096) q) := by
  unfold iblk
  rw [View.read_apply]
  show arg0 m c _ = arg0 m c _
  congr 1
  funext a
  apply Fin.ext
  have e := at_0 t
  match a with
  | ⟨0, _⟩ => show win0_0.index t 0 * 512 + 1 * p.val = 512 * (t.val) + p.val; rw [e]; show (t.val) * 512 + 1 * p.val = _; omega
  | ⟨1, _⟩ => show win0_0.index t 1 * 512 + 1 * q.val = q.val; rw [e]; show (0) * 512 + 1 * q.val = _; omega

theorem at_1 : ∀ t : Fin cfg0.N, win0_1.index t = ![0, 0] := (by decide +kernel : ∀ t : Fin grid0.N, _)

theorem blk_1 (c : Dev nD) (t : Fin cfg0.N) (p : Fin 512) (q : Fin 1024) :
    iblk m c 1 t (ix2 p q) = arg1 m c (ix2 p q) := by
  unfold iblk
  rw [View.read_apply]
  show arg1 m c _ = arg1 m c _
  congr 1
  funext a
  apply Fin.ext
  have e := at_1 t
  match a with
  | ⟨0, _⟩ => show win0_1.index t 0 * 512 + 1 * p.val = p.val; rw [e]; show (0) * 512 + 1 * p.val = _; omega
  | ⟨1, _⟩ => show win0_1.index t 1 * 1024 + 1 * q.val = q.val; rw [e]; show (0) * 1024 + 1 * q.val = _; omega

theorem at_2 : ∀ t : Fin cfg0.N, win0_2.index t = ![t.val, 0] := (by decide +kernel : ∀ t : Fin grid0.N, _)

theorem blk_2 (c : Dev nD) (t : Fin cfg0.N) (p : Fin 512) (q : Fin 1024) :
    iblk m c 2 t (ix2 p q) = arg2 m c (ix2 (⟨512 * (t.val) + p.val, by have h := lt_of_lt_of_eq t.isLt N_0; omega⟩ : Fin 4096) q) := by
  unfold iblk
  rw [View.read_apply]
  show arg2 m c _ = arg2 m c _
  congr 1
  funext a
  apply Fin.ext
  have e := at_2 t
  match a with
  | ⟨0, _⟩ => show win0_2.index t 0 * 512 + 1 * p.val = 512 * (t.val) + p.val; rw [e]; show (t.val) * 512 + 1 * p.val = _; omega
  | ⟨1, _⟩ => show win0_2.index t 1 * 1024 + 1 * q.val = q.val; rw [e]; show (0) * 1024 + 1 * q.val = _; omega

theorem at_3 : ∀ t : Fin cfg0.N, win0_3.index t = ![0, 0] := (by decide +kernel : ∀ t : Fin grid0.N, _)

theorem blk_3 (c : Dev nD) (t : Fin cfg0.N) (q : Fin 1024) :
    iblk m c 3 t (ix2 (0 : Fin 1) q) = arg3 m c (ix2 (0 : Fin 1) q) := by
  unfold iblk
  rw [View.read_apply]
  show arg3 m c _ = arg3 m c _
  congr 1
  funext a
  apply Fin.ext
  have e := at_3 t
  match a with
  | ⟨0, _⟩ => show win0_3.index t 0 * 1 + 1 * 0 = 0; rw [e]; show (0) * 1 + 1 * 0 = _; omega
  | ⟨1, _⟩ => show win0_3.index t 1 * 1024 + 1 * q.val = q.val; rw [e]; show (0) * 1024 + 1 * q.val = _; omega

theorem at_4 : ∀ t : Fin cfg0.N, win0_4.index t = ![t.val, 0] := (by decide +kernel : ∀ t : Fin grid0.N, _)

theorem read_4 (X : FVec Ideal S4096x1024 .f32) (t : Fin cfg0.N) (r : Fin 512) (l : Fin 1024) :
    ((cfg0.win 4).blk t).view.read (Elt Ideal) X (ix2 r l) = X (ix2 (⟨512 * (t.val) + r.val, by have h := lt_of_lt_of_eq t.isLt N_0; omega⟩ : Fin 4096) l) := by
  rw [View.read_apply]
  show X _ = X _
  congr 1
  funext a
  apply Fin.ext
  have e := at_4 t
  match a with
  | ⟨0, _⟩ => show win0_4.index t 0 * 512 + 1 * r.val = 512 * (t.val) + r.val; rw [e]; show (t.val) * 512 + 1 * r.val = _; omega
  | ⟨1, _⟩ => show win0_4.index t 1 * 1024 + 1 * l.val = l.val; rw [e]; show (0) * 1024 + 1 * l.val = _; omega

theorem at_5 : ∀ t : Fin cfg0.N, win0_5.index t = ![t.val, 0] := (by decide +kernel : ∀ t : Fin grid0.N, _)

theorem read_5 (X : FVec Ideal S4096x1024 .bf16) (t : Fin cfg0.N) (r : Fin 512) (l : Fin 1024) :
    ((cfg0.win 5).blk t).view.read (Elt Ideal) X (ix2 r l) = X (ix2 (⟨512 * (t.val) + r.val, by have h := lt_of_lt_of_eq t.isLt N_0; omega⟩ : Fin 4096) l) := by
  rw [View.read_apply]
  show X _ = X _
  congr 1
  funext a
  apply Fin.ext
  have e := at_5 t
  match a with
  | ⟨0, _⟩ => show win0_5.index t 0 * 512 + 1 * r.val = 512 * (t.val) + r.val; rw [e]; show (t.val) * 512 + 1 * r.val = _; omega
  | ⟨1, _⟩ => show win0_5.index t 1 * 1024 + 1 * l.val = l.val; rw [e]; show (0) * 1024 + 1 * l.val = _; omega

/-! ## The reference's values -/

section
variable (x0 : FVec Ideal S4096x512 .bf16) (x1 : FVec Ideal S512x1024 .bf16) (x2 : FVec Ideal S4096x1024 .f32) (x3 : FVec Ideal S1x1024 .f32)

theorem ref4_at (i : Fin 4096) (j : Fin 1024) :
    Cert.Reference19Ideal.Read.val_main_v3 (F := Ideal) x0 x1 x2 (ix2 i j) = x2 (ix2 i j) + ∑ k : Fin 512, x0 (ix2 i k) * x1 (ix2 k j) := by
  refine (Cert.Reference19Ideal.Read.val_main_v3_apply (F := Ideal) x0 x1 x2 _).trans (congrArg (x2 (ix2 i j) + ·) ?_)
  refine (Cert.Reference19Ideal.Read.val_main_v2_apply x0 x1 _).trans (Finset.sum_congr rfl fun k _ => ?_)
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

theorem ref_scale (i : Fin 4096) :
    Cert.Reference19Ideal.Read.val_main_v11 (F := Ideal) x0 x1 x2 (ix2 i (0 : Fin 1)) = scale fun k => Cert.Reference19Ideal.Read.val_main_v3 (F := Ideal) x0 x1 x2 (ix2 i k) := by
  show Ideal.rsqrt (Ideal.div (Cert.Reference19Ideal.Read.val_main_v6 (F := Ideal) x0 x1 x2 (ix2 i (0 : Fin 1))) (Cert.Reference19Ideal.Read.val_main_v7 (F := Ideal) (ix2 i (0 : Fin 1)))
    + Cert.Reference19Ideal.Read.val_main_v9 (F := Ideal) (ix2 i (0 : Fin 1))) = _
  rw [Cert.Reference19Ideal.Read.val_main_v7_apply, Cert.Reference19Ideal.Read.val_main_v9_apply, Cert.Reference19Ideal.Read.val_main_v6_apply, Cert.Reference19Ideal.Read.val_main_v5_apply]
  unfold scale mean
  refine congrArg Ideal.rsqrt (congrArg₂ (· + ·) (congrArg₂ Ideal.div ?_ rfl) rfl)
  refine (congrArg (· + _) Ideal.ofBits_zero_f32).trans ((zero_add _).trans (Finset.sum_congr rfl fun k _ => ?_))
  exact congrArg (fun y => Cert.Reference19Ideal.Read.val_main_v3 (F := Ideal) x0 x1 x2 y * Cert.Reference19Ideal.Read.val_main_v3 (F := Ideal) x0 x1 x2 y) (funext fun a => Fin.ext (by
    match a with
    | ⟨0, _⟩ => rfl
    | ⟨1, _⟩ => rfl))

theorem ref5_at (i : Fin 4096) (j : Fin 1024) :
    Cert.Reference19Ideal.Read.val_main_v16 (F := Ideal) x0 x1 x2 x3 (ix2 i j)
      = Cert.Reference19Ideal.Read.val_main_v3 (F := Ideal) x0 x1 x2 (ix2 i j) * scale (fun k => Cert.Reference19Ideal.Read.val_main_v3 (F := Ideal) x0 x1 x2 (ix2 i k)) * x3 (ix2 0 j) := by
  show Cert.Reference19Ideal.Read.val_main_v3 (F := Ideal) x0 x1 x2 (ix2 i j) * Cert.Reference19Ideal.Read.val_main_v12 (F := Ideal) x0 x1 x2 (ix2 i j) * Cert.Reference19Ideal.Read.val_main_v14 (F := Ideal) x3 (ix2 i j) = _
  rw [Cert.Reference19Ideal.Read.val_main_v12_apply, Cert.Reference19Ideal.Read.val_main_v14_apply, ← ref_scale]
  refine congrArg₂ (· * ·) (congrArg (_ * ·) (congrArg (Cert.Reference19Ideal.Read.val_main_v11 (F := Ideal) x0 x1 x2) (funext fun a => Fin.ext ?_))) (congrArg x3 (funext fun a => Fin.ext ?_))
  · match a with
    | ⟨0, _⟩ => rfl
    | ⟨1, _⟩ => rfl
  · match a with
    | ⟨0, _⟩ => rfl
    | ⟨1, _⟩ => rfl
end

/-! ## The arrays -/

theorem sum_block (c : Dev nD) (t : Fin cfg0.N) (r : Fin 512) (l : Fin 1024) :
    k0_pay1 (iblk m c 0 t) (iblk m c 1 t) (iblk m c 2 t) (ix2 r l)
      = Cert.Reference19Ideal.Read.val_main_v3 (F := Ideal) (arg0 m c) (arg1 m c) (arg2 m c) (ix2 (⟨512 * (t.val) + r.val, by have h := lt_of_lt_of_eq t.isLt N_0; omega⟩ : Fin 4096) l) := by
  refine (pay4_at _ _ _ r l).trans (Eq.trans ?_ (ref4_at _ _ _ _ l).symm)
  refine congrArg₂ (· + ·) (blk_2 m c t r l) (Finset.sum_congr rfl fun k _ => ?_)
  exact congrArg₂ (· * ·) (blk_0 m c t r k) (blk_1 m c t k l)

theorem arr_4 (c : Dev nD) : (dats m 0 c).arrAt 4 cfg0.N = Cert.Reference19Ideal.Read.val_main_v3 (F := Ideal) (arg0 m c) (arg1 m c) (arg2 m c) := by
  have key : ∀ (t : Fin cfg0.N) (y : S512x1024.Idx), out0_4 (iblk m c 0 t) (iblk m c 1 t) (iblk m c 2 t) (iblk m c 3 t) y
      = ((cfg0.win 4).blk t).view.read (Elt Ideal) (Cert.Reference19Ideal.Read.val_main_v3 (F := Ideal) (arg0 m c) (arg1 m c) (arg2 m c)) y := fun t y => by
    obtain ⟨r, l, rfl⟩ : ∃ (r : Fin 512) (l : Fin 1024), y = ix2 r l := ⟨y 0, y 1, eta_two y⟩
    refine Eq.trans ?_ (read_4 _ t r l).symm
    exact (congrFun (out4_eq (iblk m c 0 t) (iblk m c 1 t) (iblk m c 2 t) (iblk m c 3 t)) (ix2 r l)).trans (sum_block m c t r l)
  refine (dats m 0 c).arrAt_eq_of_cover 4 _ (fun t hf => ?_) ((by decide +kernel : (cfg0.win 4).Covers).cover _ (Memref.isWhole_whole _))
  rw [Value.flushed4]
  exact funext fun y => key t y

theorem arr_5 (c : Dev nD) : (dats m 0 c).arrAt 5 cfg0.N = Cert.Reference19Ideal.Read.val_main_v16 (F := Ideal) (arg0 m c) (arg1 m c) (arg2 m c) (arg3 m c) := by
  have key : ∀ (t : Fin cfg0.N) (y : S512x1024.Idx), out0_5 (iblk m c 0 t) (iblk m c 1 t) (iblk m c 2 t) (iblk m c 3 t) y
      = ((cfg0.win 5).blk t).view.read (Elt Ideal) (Cert.Reference19Ideal.Read.val_main_v16 (F := Ideal) (arg0 m c) (arg1 m c) (arg2 m c) (arg3 m c)) y := fun t y => by
    obtain ⟨r, l, rfl⟩ : ∃ (r : Fin 512) (l : Fin 1024), y = ix2 r l := ⟨y 0, y 1, eta_two y⟩
    refine Eq.trans ?_ (read_5 _ t r l).symm
    refine (congrFun (out5_eq (iblk m c 0 t) (iblk m c 1 t) (iblk m c 2 t) (iblk m c 3 t)) (ix2 r l)).trans ((pay5_at _ _ _ _ r l).trans (Eq.trans ?_ (ref5_at _ _ _ _ _ l).symm))
    exact congrArg₂ (· * ·) (congrArg₂ (· * ·) (sum_block m c t r l) (congrArg scale (funext fun k => sum_block m c t r k))) (blk_3 m c t l)
  refine (dats m 0 c).arrAt_eq_of_cover 5 _ (fun t hf => ?_) ((by decide +kernel : (cfg0.win 5).Covers).cover _ (Memref.isWhole_whole _))
  rw [Value.flushed5]
  exact funext fun y => key t y

/-! ## The claims -/

theorem frame_ideal : Cert.quiescent_Kernel19Ideal := fun m ρ _ => Cert.Kernel19Ideal.Gen.frame m ρ

theorem frame_reference : Cert.quiescent_Reference19Ideal := fun m ρ _ =>
  (θ_run Cert.Reference19Ideal.defs _ _).mono (fun r h =>
    ⟨fun c => (h c).2.2, sem_eq_zero_of_no_sems (by decide) _⟩) (Cert.Reference19Ideal.Value.run m ρ)

/-- The kernel's results and the reference's are equal, on any arguments. -/
theorem algebraic : Cert.algebraic_Kernel19Ideal_Reference19Ideal := fun m g m' g' _ he => by
  refine ⟨fun c => Cert.Reference19Ideal.Read.val_main_v3 (F := Ideal) (arg0 m c) (arg1 m c) (arg2 m c), fun c => Cert.Reference19Ideal.Read.val_main_v16 (F := Ideal) (arg0 m c) (arg1 m c) (arg2 m c) (arg3 m c), ?_, ?_⟩
  · refine (θ_run _ _ _).mono (fun r h c => ?_) (Cert.Kernel19Ideal.Value.run_blocks m g)
    exact ⟨(h c).1.trans (arr_4 m c), (h c).2.1.trans (arr_5 m c), (h c).2.2⟩
  · refine (θ_run _ _ _).mono (fun r h c => ?_) (Cert.Reference19Ideal.Value.run m' g')
    obtain ⟨h0, h1, h2, h3⟩ := he c
    refine ⟨(h c).1.trans ?_, (h c).2.1.trans ?_, (h c).2.2⟩
    · rw [Cert.Reference19Ideal.Read.val_main_v3_eq, h0, h1, h2]
    · rw [Cert.Reference19Ideal.Read.val_main_v16_eq, h0, h1, h2, h3]

end Mm.XNorm

end
-- ==== Proof.Branches.lean ====
/-
The branches' projections and their gated sum: each point of the grid is one block of 1024 rows by 256 columns.
-/
module

public import proofs.«01_k».proof.Proof.Halves
public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit

@[expose] public section

noncomputable section

set_option maxRecDepth 65536

namespace Mm.Branches

open Idealize.ShloMosaic Idealize.ShloMosaic.TcCoe Idealize.SL.Sem Cert.Kernel20Ideal Cert.Kernel20Ideal.Gen Ffn
open scoped Pointwise

theorem zero2 : (![0, 0] : Fin 2 → Nat) = fun _ => 0 := funext fun a => by fin_cases a <;> rfl
theorem zero3 : (![0, 0, 0] : Fin 3 → Nat) = fun _ => 0 := funext fun a => by fin_cases a <;> rfl

/-! ## What one point of the grid leaves -/

theorem pay8_at (x0 : Vec Ideal S1024x512 .bf16) (x2 : Vec Ideal S1x512x256 .bf16) (r : Fin 1024) (l : Fin 256) :
    k0_pay2 x0 x2 (ix2 r l) = ∑ k : Fin 512, x0 (ix2 r k) * x2 (ix3 0 k l) := by
  pointwise [k0_pay2]

theorem pay9_at (x0 : Vec Ideal S1024x512 .bf16) (x2 : Vec Ideal S1x512x256 .bf16) (r : Fin 1024) (l : Fin 256) :
    k0_pay3 x0 x2 (ix2 r l) = ∑ k : Fin 512, x0 (ix2 r k) * x2 (ix3 0 k l) := by
  pointwise [k0_pay3]

/-- The first branch's gate. -/
theorem gate_first (x : Vec Ideal S1024x256 .bf16) (b : Vec Ideal S1x256 .f32) (r : Fin 1024) (l : Fin 256) :
    k0_pay4 x b (ix2 r l) = Ideal.logistic (x (ix2 r l) + b (ix2 0 l)) := by
  refine Eq.trans ?_ (body_sigmoid _)
  pointwise [k0_pay4]

/-- What the second branch's gate is the sigmoid of. -/
theorem gate_second (x : Vec Ideal S1024x256 .bf16) (b : Vec Ideal S1x256 .f32) (r : Fin 1024) (l : Fin 256) :
    k0_pay5 x b (ix2 r l) = x (ix2 r l) + b (ix2 0 l) := by
  pointwise [k0_pay5]

/-- The gated sum. -/
theorem pay10_at (p q : FVec Ideal S1024x256 .bf16) (s z : FVec Ideal S1024x256 .f32) (y : S1024x256.Idx) :
    k0_pay1 p q s z y = s y * p y + Ideal.logistic (z y) * q y :=
  congrArg (fun g => s y * p y + g * q y) (body_sigmoid (z y))

section
variable (x0 : Vec Ideal S1024x512 .bf16) (x1 : Vec Ideal S1024x512 .bf16) (x2 : Vec Ideal S1x512x256 .bf16) (x3 : Vec Ideal S1x512x256 .bf16) (x4 : Vec Ideal S1024x256 .bf16) (x5 : Vec Ideal S1024x256 .bf16) (x6 : Vec Ideal S1x256 .f32) (x7 : Vec Ideal S1x256 .f32)

theorem out8_eq : out0_8 x0 x1 x2 x3 x4 x5 x6 x7 = k0_pay2 x0 x2 := by
  unfold out0_8
  rw [View.canon_unit_zero zero2]
  simp only [View.ld_unit_zero (S := S1024x512) zero2, View.ld_unit_zero (S := S1x512x256) zero3]

theorem out9_eq : out0_9 x0 x1 x2 x3 x4 x5 x6 x7 = k0_pay3 x1 x3 := by
  unfold out0_9
  rw [View.canon_unit_zero zero2]
  simp only [View.ld_unit_zero (S := S1024x512) zero2, View.ld_unit_zero (S := S1x512x256) zero3]

theorem out10_eq : out0_10 x0 x1 x2 x3 x4 x5 x6 x7 = k0_pay1 (k0_pay2 x0 x2) (k0_pay3 x1 x3) (k0_pay4 x4 x6) (k0_pay5 x5 x7) := by
  unfold out0_10
  rw [View.canon_unit_zero zero2]
  simp only [View.ld_unit_zero (S := S1024x512) zero2, View.ld_unit_zero (S := S1x512x256) zero3, View.ld_unit_zero (S := S1024x256) zero2, View.ld_unit_zero (S := S1x256) zero2]
end

/-! ## The blocks -/

variable (m : (ℓ : Loc nD τ sig) → Buf (Elt Ideal) ℓ)

abbrev arg0 (c : Dev nD) : FVec Ideal S4096x512 .bf16 := m ((c : Thread nD τ).loc main_arg0)
abbrev arg1 (c : Dev nD) : FVec Ideal S4096x512 .bf16 := m ((c : Thread nD τ).loc main_arg1)
abbrev arg2 (c : Dev nD) : FVec Ideal S4x512x256 .bf16 := m ((c : Thread nD τ).loc main_arg2)
abbrev arg3 (c : Dev nD) : FVec Ideal S4x512x256 .bf16 := m ((c : Thread nD τ).loc main_arg3)
abbrev arg4 (c : Dev nD) : FVec Ideal S4096x2560 .bf16 := m ((c : Thread nD τ).loc main_arg4)
abbrev arg5 (c : Dev nD) : FVec Ideal S1x2048 .f32 := m ((c : Thread nD τ).loc main_arg5)

theorem at_0 : ∀ t : Fin cfg0.N, win0_0.index t = ![t.val / 4, 0] := (by decide +kernel : ∀ t : Fin grid0.N, _)

theorem blk_0 (c : Dev nD) (t : Fin cfg0.N) (p : Fin 1024) (q : Fin 512) :
    iblk m c 0 t (ix2 p q) = arg0 m c (ix2 (⟨1024 * (t.val / 4) + p.val, by have h := lt_of_lt_of_eq t.isLt N_0; omega⟩ : Fin 4096) q) := by
  unfold iblk
  rw [View.read_apply]
  show arg0 m c _ = arg0 m c _
  congr 1
  funext a
  apply Fin.ext
  have e := at_0 t
  match a with
  | ⟨0, _⟩ => show win0_0.index t 0 * 1024 + 1 * p.val = 1024 * (t.val / 4) + p.val; rw [e]; show (t.val / 4) * 1024 + 1 * p.val = _; omega
  | ⟨1, _⟩ => show win0_0.index t 1 * 512 + 1 * q.val = q.val; rw [e]; show (0) * 512 + 1 * q.val = _; omega

theorem at_1 : ∀ t : Fin cfg0.N, win0_1.index t = ![t.val / 4, 0] := (by decide +kernel : ∀ t : Fin grid0.N, _)

theorem blk_1 (c : Dev nD) (t : Fin cfg0.N) (p : Fin 1024) (q : Fin 512) :
    iblk m c 1 t (ix2 p q) = arg1 m c (ix2 (⟨1024 * (t.val / 4) + p.val, by have h := lt_of_lt_of_eq t.isLt N_0; omega⟩ : Fin 4096) q) := by
  unfold iblk
  rw [View.read_apply]
  show arg1 m c _ = arg1 m c _
  congr 1
  funext a
  apply Fin.ext
  have e := at_1 t
  match a with
  | ⟨0, _⟩ => show win0_1.index t 0 * 1024 + 1 * p.val = 1024 * (t.val / 4) + p.val; rw [e]; show (t.val / 4) * 1024 + 1 * p.val = _; omega
  | ⟨1, _⟩ => show win0_1.index t 1 * 512 + 1 * q.val = q.val; rw [e]; show (0) * 512 + 1 * q.val = _; omega

theorem at_2 : ∀ t : Fin cfg0.N, win0_2.index t = ![t.val % 4, 0, 0] := (by decide +kernel : ∀ t : Fin grid0.N, _)

theorem blk_2 (c : Dev nD) (t : Fin cfg0.N) (p : Fin 512) (q : Fin 256) :
    iblk m c 2 t (ix3 (0 : Fin 1) p q) = arg2 m c (ix3 (⟨t.val % 4, by omega⟩ : Fin 4) p q) := by
  unfold iblk
  rw [View.read_apply]
  show arg2 m c _ = arg2 m c _
  congr 1
  funext a
  apply Fin.ext
  have e := at_2 t
  match a with
  | ⟨0, _⟩ => show win0_2.index t 0 * 1 + 1 * 0 = t.val % 4; rw [e]; show t.val % 4 * 1 + 1 * 0 = _; omega
  | ⟨1, _⟩ => show win0_2.index t 1 * 512 + 1 * p.val = p.val; rw [e]; show 0 * 512 + 1 * p.val = _; omega
  | ⟨2, _⟩ => show win0_2.index t 2 * 256 + 1 * q.val = q.val; rw [e]; show 0 * 256 + 1 * q.val = _; omega

theorem at_3 : ∀ t : Fin cfg0.N, win0_3.index t = ![t.val % 4, 0, 0] := (by decide +kernel : ∀ t : Fin grid0.N, _)

theorem blk_3 (c : Dev nD) (t : Fin cfg0.N) (p : Fin 512) (q : Fin 256) :
    iblk m c 3 t (ix3 (0 : Fin 1) p q) = arg3 m c (ix3 (⟨t.val % 4, by omega⟩ : Fin 4) p q) := by
  unfold iblk
  rw [View.read_apply]
  show arg3 m c _ = arg3 m c _
  congr 1
  funext a
  apply Fin.ext
  have e := at_3 t
  match a with
  | ⟨0, _⟩ => show win0_3.index t 0 * 1 + 1 * 0 = t.val % 4; rw [e]; show t.val % 4 * 1 + 1 * 0 = _; omega
  | ⟨1, _⟩ => show win0_3.index t 1 * 512 + 1 * p.val = p.val; rw [e]; show 0 * 512 + 1 * p.val = _; omega
  | ⟨2, _⟩ => show win0_3.index t 2 * 256 + 1 * q.val = q.val; rw [e]; show 0 * 256 + 1 * q.val = _; omega

theorem at_4 : ∀ t : Fin cfg0.N, win0_4.index t = ![t.val / 4, t.val % 4] := (by decide +kernel : ∀ t : Fin grid0.N, _)

theorem blk_4 (c : Dev nD) (t : Fin cfg0.N) (p : Fin 1024) (q : Fin 256) :
    iblk m c 4 t (ix2 p q) = arg4 m c (ix2 (⟨1024 * (t.val / 4) + p.val, by have h := lt_of_lt_of_eq t.isLt N_0; omega⟩ : Fin 4096) (⟨256 * (t.val % 4) + q.val, by have h := lt_of_lt_of_eq t.isLt N_0; omega⟩ : Fin 2560)) := by
  unfold iblk
  rw [View.read_apply]
  show arg4 m c _ = arg4 m c _
  congr 1
  funext a
  apply Fin.ext
  have e := at_4 t
  match a with
  | ⟨0, _⟩ => show win0_4.index t 0 * 1024 + 1 * p.val = 1024 * (t.val / 4) + p.val; rw [e]; show (t.val / 4) * 1024 + 1 * p.val = _; omega
  | ⟨1, _⟩ => show win0_4.index t 1 * 256 + 1 * q.val = 256 * (t.val % 4) + q.val; rw [e]; show (t.val % 4) * 256 + 1 * q.val = _; omega

theorem at_5 : ∀ t : Fin cfg0.N, win0_5.index t = ![t.val / 4, 4 + t.val % 4] := (by decide +kernel : ∀ t : Fin grid0.N, _)

theorem blk_5 (c : Dev nD) (t : Fin cfg0.N) (p : Fin 1024) (q : Fin 256) :
    iblk m c 5 t (ix2 p q) = arg4 m c (ix2 (⟨1024 * (t.val / 4) + p.val, by have h := lt_of_lt_of_eq t.isLt N_0; omega⟩ : Fin 4096) (⟨256 * (4 + t.val % 4) + q.val, by have h := lt_of_lt_of_eq t.isLt N_0; omega⟩ : Fin 2560)) := by
  unfold iblk
  rw [View.read_apply]
  show arg4 m c _ = arg4 m c _
  congr 1
  funext a
  apply Fin.ext
  have e := at_5 t
  match a with
  | ⟨0, _⟩ => show win0_5.index t 0 * 1024 + 1 * p.val = 1024 * (t.val / 4) + p.val; rw [e]; show (t.val / 4) * 1024 + 1 * p.val = _; omega
  | ⟨1, _⟩ => show win0_5.index t 1 * 256 + 1 * q.val = 256 * (4 + t.val % 4) + q.val; rw [e]; show (4 + t.val % 4) * 256 + 1 * q.val = _; omega

theorem at_6 : ∀ t : Fin cfg0.N, win0_6.index t = ![0, t.val % 4] := (by decide +kernel : ∀ t : Fin grid0.N, _)

theorem blk_6 (c : Dev nD) (t : Fin cfg0.N) (q : Fin 256) :
    iblk m c 6 t (ix2 (0 : Fin 1) q) = arg5 m c (ix2 (0 : Fin 1) (⟨256 * (t.val % 4) + q.val, by have h := lt_of_lt_of_eq t.isLt N_0; omega⟩ : Fin 2048)) := by
  unfold iblk
  rw [View.read_apply]
  show arg5 m c _ = arg5 m c _
  congr 1
  funext a
  apply Fin.ext
  have e := at_6 t
  match a with
  | ⟨0, _⟩ => show win0_6.index t 0 * 1 + 1 * 0 = 0; rw [e]; show (0) * 1 + 1 * 0 = _; omega
  | ⟨1, _⟩ => show win0_6.index t 1 * 256 + 1 * q.val = 256 * (t.val % 4) + q.val; rw [e]; show (t.val % 4) * 256 + 1 * q.val = _; omega

theorem at_7 : ∀ t : Fin cfg0.N, win0_7.index t = ![0, 4 + t.val % 4] := (by decide +kernel : ∀ t : Fin grid0.N, _)

theorem blk_7 (c : Dev nD) (t : Fin cfg0.N) (q : Fin 256) :
    iblk m c 7 t (ix2 (0 : Fin 1) q) = arg5 m c (ix2 (0 : Fin 1) (⟨256 * (4 + t.val % 4) + q.val, by have h := lt_of_lt_of_eq t.isLt N_0; omega⟩ : Fin 2048)) := by
  unfold iblk
  rw [View.read_apply]
  show arg5 m c _ = arg5 m c _
  congr 1
  funext a
  apply Fin.ext
  have e := at_7 t
  match a with
  | ⟨0, _⟩ => show win0_7.index t 0 * 1 + 1 * 0 = 0; rw [e]; show (0) * 1 + 1 * 0 = _; omega
  | ⟨1, _⟩ => show win0_7.index t 1 * 256 + 1 * q.val = 256 * (4 + t.val % 4) + q.val; rw [e]; show (4 + t.val % 4) * 256 + 1 * q.val = _; omega

theorem at_8 : ∀ t : Fin cfg0.N, win0_8.index t = ![t.val / 4, t.val % 4] := (by decide +kernel : ∀ t : Fin grid0.N, _)

theorem read_8 (X : FVec Ideal S4096x1024 .bf16) (t : Fin cfg0.N) (r : Fin 1024) (l : Fin 256) :
    ((cfg0.win 8).blk t).view.read (Elt Ideal) X (ix2 r l) = X (ix2 (⟨1024 * (t.val / 4) + r.val, by have h := lt_of_lt_of_eq t.isLt N_0; omega⟩ : Fin 4096) (⟨256 * (t.val % 4) + l.val, by have h := lt_of_lt_of_eq t.isLt N_0; omega⟩ : Fin 1024)) := by
  rw [View.read_apply]
  show X _ = X _
  congr 1
  funext a
  apply Fin.ext
  have e := at_8 t
  match a with
  | ⟨0, _⟩ => show win0_8.index t 0 * 1024 + 1 * r.val = 1024 * (t.val / 4) + r.val; rw [e]; show (t.val / 4) * 1024 + 1 * r.val = _; omega
  | ⟨1, _⟩ => show win0_8.index t 1 * 256 + 1 * l.val = 256 * (t.val % 4) + l.val; rw [e]; show (t.val % 4) * 256 + 1 * l.val = _; omega

theorem at_9 : ∀ t : Fin cfg0.N, win0_9.index t = ![t.val / 4, t.val % 4] := (by decide +kernel : ∀ t : Fin grid0.N, _)

theorem read_9 (X : FVec Ideal S4096x1024 .bf16) (t : Fin cfg0.N) (r : Fin 1024) (l : Fin 256) :
    ((cfg0.win 9).blk t).view.read (Elt Ideal) X (ix2 r l) = X (ix2 (⟨1024 * (t.val / 4) + r.val, by have h := lt_of_lt_of_eq t.isLt N_0; omega⟩ : Fin 4096) (⟨256 * (t.val % 4) + l.val, by have h := lt_of_lt_of_eq t.isLt N_0; omega⟩ : Fin 1024)) := by
  rw [View.read_apply]
  show X _ = X _
  congr 1
  funext a
  apply Fin.ext
  have e := at_9 t
  match a with
  | ⟨0, _⟩ => show win0_9.index t 0 * 1024 + 1 * r.val = 1024 * (t.val / 4) + r.val; rw [e]; show (t.val / 4) * 1024 + 1 * r.val = _; omega
  | ⟨1, _⟩ => show win0_9.index t 1 * 256 + 1 * l.val = 256 * (t.val % 4) + l.val; rw [e]; show (t.val % 4) * 256 + 1 * l.val = _; omega

theorem at_10 : ∀ t : Fin cfg0.N, win0_10.index t = ![t.val / 4, t.val % 4] := (by decide +kernel : ∀ t : Fin grid0.N, _)

theorem read_10 (X : FVec Ideal S4096x1024 .bf16) (t : Fin cfg0.N) (r : Fin 1024) (l : Fin 256) :
    ((cfg0.win 10).blk t).view.read (Elt Ideal) X (ix2 r l) = X (ix2 (⟨1024 * (t.val / 4) + r.val, by have h := lt_of_lt_of_eq t.isLt N_0; omega⟩ : Fin 4096) (⟨256 * (t.val % 4) + l.val, by have h := lt_of_lt_of_eq t.isLt N_0; omega⟩ : Fin 1024)) := by
  rw [View.read_apply]
  show X _ = X _
  congr 1
  funext a
  apply Fin.ext
  have e := at_10 t
  match a with
  | ⟨0, _⟩ => show win0_10.index t 0 * 1024 + 1 * r.val = 1024 * (t.val / 4) + r.val; rw [e]; show (t.val / 4) * 1024 + 1 * r.val = _; omega
  | ⟨1, _⟩ => show win0_10.index t 1 * 256 + 1 * l.val = 256 * (t.val % 4) + l.val; rw [e]; show (t.val % 4) * 256 + 1 * l.val = _; omega

/-! ## The reference's values -/

theorem proj_first (x0 : FVec Ideal S4096x512 .bf16) (x2 : FVec Ideal S4x512x256 .bf16) (t : Fin cfg0.N) (i : Fin 4096) (l : Fin 256) :
    Cert.Reference20Ideal.Read.val_main_v18 (F := Ideal) x0 x2 (ix2 i (⟨256 * (t.val % 4) + l.val, by have h := lt_of_lt_of_eq t.isLt N_0; omega⟩ : Fin 1024))
      = ∑ k : Fin 512, x0 (ix2 i k) * x2 (ix3 (⟨t.val % 4, by omega⟩ : Fin 4) k l) := by
  refine (Cert.Reference20Ideal.Read.val_main_v18_apply (F := Ideal) x0 x2 _).trans ((Cert.Reference20Ideal.Read.val_main_v17_apply x0 x2 _).trans (Finset.sum_congr rfl fun k _ => ?_))
  refine congrArg₂ (· * ·) (congrArg x0 (funext fun a => Fin.ext ?_)) ?_
  · match a with
    | ⟨0, _⟩ => rfl
    | ⟨1, _⟩ => rfl
  · rw [Cert.Reference20Ideal.Read.val_main_v2_apply, Cert.Reference20Ideal.Read.val_main_v1_apply]
    refine congrArg x2 (funext fun a => Fin.ext ?_)
    have hk := k.isLt
    have hl := l.isLt
    match a with
    | ⟨0, _⟩ => show (k.val * 1024 + (256 * (t.val % 4) + l.val)) / 256 % 4 = t.val % 4; omega
    | ⟨1, _⟩ => show (k.val * 1024 + (256 * (t.val % 4) + l.val)) / 1024 = k.val; omega
    | ⟨2, _⟩ => show (k.val * 1024 + (256 * (t.val % 4) + l.val)) % 256 = l.val; omega

theorem proj_second (x1 : FVec Ideal S4096x512 .bf16) (x3 : FVec Ideal S4x512x256 .bf16) (t : Fin cfg0.N) (i : Fin 4096) (l : Fin 256) :
    Cert.Reference20Ideal.Read.val_main_v21 (F := Ideal) x1 x3 (ix2 i (⟨256 * (t.val % 4) + l.val, by have h := lt_of_lt_of_eq t.isLt N_0; omega⟩ : Fin 1024))
      = ∑ k : Fin 512, x1 (ix2 i k) * x3 (ix3 (⟨t.val % 4, by omega⟩ : Fin 4) k l) := by
  refine (Cert.Reference20Ideal.Read.val_main_v21_apply (F := Ideal) x1 x3 _).trans ((Cert.Reference20Ideal.Read.val_main_v20_apply x1 x3 _).trans (Finset.sum_congr rfl fun k _ => ?_))
  refine congrArg₂ (· * ·) (congrArg x1 (funext fun a => Fin.ext ?_)) ?_
  · match a with
    | ⟨0, _⟩ => rfl
    | ⟨1, _⟩ => rfl
  · rw [Cert.Reference20Ideal.Read.val_main_v5_apply, Cert.Reference20Ideal.Read.val_main_v4_apply]
    refine congrArg x3 (funext fun a => Fin.ext ?_)
    have hk := k.isLt
    have hl := l.isLt
    match a with
    | ⟨0, _⟩ => show (k.val * 1024 + (256 * (t.val % 4) + l.val)) / 256 % 4 = t.val % 4; omega
    | ⟨1, _⟩ => show (k.val * 1024 + (256 * (t.val % 4) + l.val)) / 1024 = k.val; omega
    | ⟨2, _⟩ => show (k.val * 1024 + (256 * (t.val % 4) + l.val)) % 256 = l.val; omega

theorem ref_gate (x4 : FVec Ideal S4096x2560 .bf16) (x5 : FVec Ideal S1x2048 .f32) (i : Fin 4096) (j : Fin 2048) :
    Cert.Reference20Ideal.Read.val_main_v15 (F := Ideal) x4 x5 (ix2 i j) = Ideal.logistic (x4 (ix2 i (⟨j.val, by omega⟩ : Fin 2560)) + x5 (ix2 0 j)) := by
  have h : Cert.Reference20Ideal.Read.val_main_v9 (F := Ideal) x4 x5 (ix2 i j) = x4 (ix2 i (⟨j.val, by omega⟩ : Fin 2560)) + x5 (ix2 0 j) := by
    refine (Cert.Reference20Ideal.Read.val_main_v9_apply (F := Ideal) x4 x5 _).trans (congrArg₂ (· + ·) ?_ ?_)
    · refine (Cert.Reference20Ideal.Read.val_main_v7_apply (F := Ideal) x4 _).trans ((Cert.Reference20Ideal.Read.val_main_v6_apply (F := Ideal) x4 _).trans (congrArg x4 (funext fun a => Fin.ext ?_)))
      match a with
    | ⟨0, _⟩ => rfl
    | ⟨1, _⟩ => rfl
    · refine (Cert.Reference20Ideal.Read.val_main_v8_apply (F := Ideal) x5 _).trans (congrArg x5 (funext fun a => Fin.ext ?_))
      match a with
    | ⟨0, _⟩ => rfl
    | ⟨1, _⟩ => rfl
  refine Eq.trans ?_ ((host_sigmoid _).trans (congrArg Ideal.logistic h))
  refine (Cert.Reference20Ideal.Read.val_main_v15_apply (F := Ideal) x4 x5 _).trans ?_
  rw [Cert.Reference20Ideal.Read.val_main_v14_apply, Cert.Reference20Ideal.Read.val_main_v13_apply, Cert.Reference20Ideal.Read.val_main_v12_apply]
  rfl

theorem ref_first (x4 : FVec Ideal S4096x2560 .bf16) (x5 : FVec Ideal S1x2048 .f32) (i : Fin 4096) (j : Fin 1024) :
    Cert.Reference20Ideal.Read.val_main_v22 (F := Ideal) x4 x5 (ix2 i j)
      = Ideal.logistic (x4 (ix2 i (⟨j.val, by omega⟩ : Fin 2560)) + x5 (ix2 0 (⟨j.val, by omega⟩ : Fin 2048))) := by
  refine Eq.trans ?_ (ref_gate x4 x5 i (⟨j.val, by omega⟩ : Fin 2048))
  refine (Cert.Reference20Ideal.Read.val_main_v22_apply (F := Ideal) x4 x5 _).trans (congrArg (Cert.Reference20Ideal.Read.val_main_v15 (F := Ideal) x4 x5) (funext fun a => Fin.ext ?_))
  match a with
    | ⟨0, _⟩ => rfl
    | ⟨1, _⟩ => rfl

theorem ref_second (x4 : FVec Ideal S4096x2560 .bf16) (x5 : FVec Ideal S1x2048 .f32) (i : Fin 4096) (j : Fin 1024) :
    Cert.Reference20Ideal.Read.val_main_v25 (F := Ideal) x4 x5 (ix2 i j)
      = Ideal.logistic (x4 (ix2 i (⟨1024 + j.val, by omega⟩ : Fin 2560)) + x5 (ix2 0 (⟨1024 + j.val, by omega⟩ : Fin 2048))) := by
  refine Eq.trans ?_ (ref_gate x4 x5 i (⟨1024 + j.val, by omega⟩ : Fin 2048))
  refine (Cert.Reference20Ideal.Read.val_main_v25_apply (F := Ideal) x4 x5 _).trans (congrArg (Cert.Reference20Ideal.Read.val_main_v15 (F := Ideal) x4 x5) (funext fun a => Fin.ext ?_))
  match a with
    | ⟨0, _⟩ => rfl
    | ⟨1, _⟩ => rfl

theorem ref_mix (x0 x1 : FVec Ideal S4096x512 .bf16) (x2 x3 : FVec Ideal S4x512x256 .bf16) (x4 : FVec Ideal S4096x2560 .bf16) (x5 : FVec Ideal S1x2048 .f32) (y : S4096x1024.Idx) :
    Cert.Reference20Ideal.Read.val_main_v29 (F := Ideal) x0 x1 x2 x3 x4 x5 y
      = Cert.Reference20Ideal.Read.val_main_v22 (F := Ideal) x4 x5 y * Cert.Reference20Ideal.Read.val_main_v18 (F := Ideal) x0 x2 y + Cert.Reference20Ideal.Read.val_main_v25 (F := Ideal) x4 x5 y * Cert.Reference20Ideal.Read.val_main_v21 (F := Ideal) x1 x3 y :=
  rfl

/-! ## The arrays -/

theorem block_first (c : Dev nD) (t : Fin cfg0.N) (r : Fin 1024) (l : Fin 256) :
    k0_pay2 (iblk m c 0 t) (iblk m c 2 t) (ix2 r l) = Cert.Reference20Ideal.Read.val_main_v18 (F := Ideal) (arg0 m c) (arg2 m c) (ix2 (⟨1024 * (t.val / 4) + r.val, by have h := lt_of_lt_of_eq t.isLt N_0; omega⟩ : Fin 4096) (⟨256 * (t.val % 4) + l.val, by have h := lt_of_lt_of_eq t.isLt N_0; omega⟩ : Fin 1024)) := by
  refine (pay8_at _ _ r l).trans (Eq.trans ?_ (proj_first _ _ t _ l).symm)
  exact Finset.sum_congr rfl fun k _ => congrArg₂ (· * ·) (blk_0 m c t r k) (blk_2 m c t k l)

theorem block_second (c : Dev nD) (t : Fin cfg0.N) (r : Fin 1024) (l : Fin 256) :
    k0_pay3 (iblk m c 1 t) (iblk m c 3 t) (ix2 r l) = Cert.Reference20Ideal.Read.val_main_v21 (F := Ideal) (arg1 m c) (arg3 m c) (ix2 (⟨1024 * (t.val / 4) + r.val, by have h := lt_of_lt_of_eq t.isLt N_0; omega⟩ : Fin 4096) (⟨256 * (t.val % 4) + l.val, by have h := lt_of_lt_of_eq t.isLt N_0; omega⟩ : Fin 1024)) := by
  refine (pay9_at _ _ r l).trans (Eq.trans ?_ (proj_second _ _ t _ l).symm)
  exact Finset.sum_congr rfl fun k _ => congrArg₂ (· * ·) (blk_1 m c t r k) (blk_3 m c t k l)

theorem gate_block_first (c : Dev nD) (t : Fin cfg0.N) (r : Fin 1024) (l : Fin 256) :
    k0_pay4 (iblk m c 4 t) (iblk m c 6 t) (ix2 r l) = Cert.Reference20Ideal.Read.val_main_v22 (F := Ideal) (arg4 m c) (arg5 m c) (ix2 (⟨1024 * (t.val / 4) + r.val, by have h := lt_of_lt_of_eq t.isLt N_0; omega⟩ : Fin 4096) (⟨256 * (t.val % 4) + l.val, by have h := lt_of_lt_of_eq t.isLt N_0; omega⟩ : Fin 1024)) := by
  refine (gate_first _ _ r l).trans (Eq.trans ?_ (ref_first _ _ _ _).symm)
  exact congrArg Ideal.logistic (congrArg₂ (· + ·) (blk_4 m c t r l) (blk_6 m c t l))

theorem gate_block_second (c : Dev nD) (t : Fin cfg0.N) (r : Fin 1024) (l : Fin 256) :
    Ideal.logistic (k0_pay5 (iblk m c 5 t) (iblk m c 7 t) (ix2 r l)) = Cert.Reference20Ideal.Read.val_main_v25 (F := Ideal) (arg4 m c) (arg5 m c) (ix2 (⟨1024 * (t.val / 4) + r.val, by have h := lt_of_lt_of_eq t.isLt N_0; omega⟩ : Fin 4096) (⟨256 * (t.val % 4) + l.val, by have h := lt_of_lt_of_eq t.isLt N_0; omega⟩ : Fin 1024)) := by
  refine Eq.trans ?_ (ref_second _ _ _ _).symm
  refine congrArg Ideal.logistic ((gate_second _ _ r l).trans (congrArg₂ (· + ·) ((blk_5 m c t r l).trans ?_) ((blk_7 m c t l).trans ?_)))
  · exact congrArg (arg4 m c) (ix2_congr rfl (by show 256 * (4 + t.val % 4) + l.val = 1024 + (256 * (t.val % 4) + l.val); omega))
  · exact congrArg (arg5 m c) (ix2_congr rfl (by show 256 * (4 + t.val % 4) + l.val = 1024 + (256 * (t.val % 4) + l.val); omega))

theorem arr_8 (c : Dev nD) : (dats m 0 c).arrAt 8 cfg0.N = Cert.Reference20Ideal.Read.val_main_v18 (F := Ideal) (arg0 m c) (arg2 m c) := by
  have key : ∀ (t : Fin cfg0.N) (y : S1024x256.Idx), out0_8 (iblk m c 0 t) (iblk m c 1 t) (iblk m c 2 t) (iblk m c 3 t) (iblk m c 4 t) (iblk m c 5 t) (iblk m c 6 t) (iblk m c 7 t) y
      = ((cfg0.win 8).blk t).view.read (Elt Ideal) (Cert.Reference20Ideal.Read.val_main_v18 (F := Ideal) (arg0 m c) (arg2 m c)) y := fun t y => by
    obtain ⟨r, l, rfl⟩ : ∃ (r : Fin 1024) (l : Fin 256), y = ix2 r l := ⟨y 0, y 1, eta_two y⟩
    refine Eq.trans ?_ (read_8 _ t r l).symm
    exact (congrFun (out8_eq (iblk m c 0 t) (iblk m c 1 t) (iblk m c 2 t) (iblk m c 3 t) (iblk m c 4 t) (iblk m c 5 t) (iblk m c 6 t) (iblk m c 7 t)) (ix2 r l)).trans (block_first m c t r l)
  refine (dats m 0 c).arrAt_eq_of_cover 8 _ (fun t hf => ?_) ((by decide +kernel : (cfg0.win 8).Covers).cover _ (Memref.isWhole_whole _))
  rw [Value.flushed8]
  exact funext fun y => key t y

theorem arr_9 (c : Dev nD) : (dats m 0 c).arrAt 9 cfg0.N = Cert.Reference20Ideal.Read.val_main_v21 (F := Ideal) (arg1 m c) (arg3 m c) := by
  have key : ∀ (t : Fin cfg0.N) (y : S1024x256.Idx), out0_9 (iblk m c 0 t) (iblk m c 1 t) (iblk m c 2 t) (iblk m c 3 t) (iblk m c 4 t) (iblk m c 5 t) (iblk m c 6 t) (iblk m c 7 t) y
      = ((cfg0.win 9).blk t).view.read (Elt Ideal) (Cert.Reference20Ideal.Read.val_main_v21 (F := Ideal) (arg1 m c) (arg3 m c)) y := fun t y => by
    obtain ⟨r, l, rfl⟩ : ∃ (r : Fin 1024) (l : Fin 256), y = ix2 r l := ⟨y 0, y 1, eta_two y⟩
    refine Eq.trans ?_ (read_9 _ t r l).symm
    exact (congrFun (out9_eq (iblk m c 0 t) (iblk m c 1 t) (iblk m c 2 t) (iblk m c 3 t) (iblk m c 4 t) (iblk m c 5 t) (iblk m c 6 t) (iblk m c 7 t)) (ix2 r l)).trans (block_second m c t r l)
  refine (dats m 0 c).arrAt_eq_of_cover 9 _ (fun t hf => ?_) ((by decide +kernel : (cfg0.win 9).Covers).cover _ (Memref.isWhole_whole _))
  rw [Value.flushed9]
  exact funext fun y => key t y

theorem arr_10 (c : Dev nD) : (dats m 0 c).arrAt 10 cfg0.N = Cert.Reference20Ideal.Read.val_main_v29 (F := Ideal) (arg0 m c) (arg1 m c) (arg2 m c) (arg3 m c) (arg4 m c) (arg5 m c) := by
  have key : ∀ (t : Fin cfg0.N) (y : S1024x256.Idx), out0_10 (iblk m c 0 t) (iblk m c 1 t) (iblk m c 2 t) (iblk m c 3 t) (iblk m c 4 t) (iblk m c 5 t) (iblk m c 6 t) (iblk m c 7 t) y
      = ((cfg0.win 10).blk t).view.read (Elt Ideal) (Cert.Reference20Ideal.Read.val_main_v29 (F := Ideal) (arg0 m c) (arg1 m c) (arg2 m c) (arg3 m c) (arg4 m c) (arg5 m c)) y := fun t y => by
    obtain ⟨r, l, rfl⟩ : ∃ (r : Fin 1024) (l : Fin 256), y = ix2 r l := ⟨y 0, y 1, eta_two y⟩
    refine Eq.trans ?_ (read_10 _ t r l).symm
    refine (congrFun (out10_eq (iblk m c 0 t) (iblk m c 1 t) (iblk m c 2 t) (iblk m c 3 t) (iblk m c 4 t) (iblk m c 5 t) (iblk m c 6 t) (iblk m c 7 t)) (ix2 r l)).trans ((pay10_at _ _ _ _ _).trans (Eq.trans ?_ (ref_mix _ _ _ _ _ _ _).symm))
    exact congrArg₂ (· + ·) (congrArg₂ (· * ·) (gate_block_first m c t r l) (block_first m c t r l)) (congrArg₂ (· * ·) (gate_block_second m c t r l) (block_second m c t r l))
  refine (dats m 0 c).arrAt_eq_of_cover 10 _ (fun t hf => ?_) ((by decide +kernel : (cfg0.win 10).Covers).cover _ (Memref.isWhole_whole _))
  rw [Value.flushed10]
  exact funext fun y => key t y

/-! ## The claims -/

theorem frame_ideal : Cert.quiescent_Kernel20Ideal := fun m ρ _ => Cert.Kernel20Ideal.Gen.frame m ρ

theorem frame_reference : Cert.quiescent_Reference20Ideal := fun m ρ _ =>
  (θ_run Cert.Reference20Ideal.defs _ _).mono (fun r h =>
    ⟨fun c => (h c).2.2.2, sem_eq_zero_of_no_sems (by decide) _⟩) (Cert.Reference20Ideal.Value.run m ρ)

/-- The kernel's results and the reference's are equal, on any arguments. -/
theorem algebraic : Cert.algebraic_Kernel20Ideal_Reference20Ideal := fun m g m' g' _ he => by
  refine ⟨fun c => Cert.Reference20Ideal.Read.val_main_v18 (F := Ideal) (arg0 m c) (arg2 m c), fun c => Cert.Reference20Ideal.Read.val_main_v21 (F := Ideal) (arg1 m c) (arg3 m c), fun c => Cert.Reference20Ideal.Read.val_main_v29 (F := Ideal) (arg0 m c) (arg1 m c) (arg2 m c) (arg3 m c) (arg4 m c) (arg5 m c), ?_, ?_⟩
  · refine (θ_run _ _ _).mono (fun r h c => ?_) (Cert.Kernel20Ideal.Value.run_blocks m g)
    exact ⟨(h c).1.trans (arr_8 m c), (h c).2.1.trans (arr_9 m c), (h c).2.2.1.trans (arr_10 m c), (h c).2.2.2⟩
  · refine (θ_run _ _ _).mono (fun r h c => ?_) (Cert.Reference20Ideal.Value.run m' g')
    obtain ⟨h0, h1, h2, h3, h4, h5⟩ := he c
    refine ⟨(h c).1.trans ?_, (h c).2.1.trans ?_, (h c).2.2.1.trans ?_, (h c).2.2.2⟩
    · rw [Cert.Reference20Ideal.Read.val_main_v18_eq, h0, h2]
    · rw [Cert.Reference20Ideal.Read.val_main_v21_eq, h1, h3]
    · rw [Cert.Reference20Ideal.Read.val_main_v29_eq, h0, h1, h2, h3, h4, h5]

end Mm.Branches

end
-- ==== Proof.lean ====
/-
The claims of the backward pass of the forgetting attention (the three frames, the idealization, and the equality of the
kernel's four gradients with the reference's on finite arguments), of four calls
of the feed-forward network, of ten projections and gradients of projections, of two gradients through a norm, of two
residual products with a norm after them and of the branches' gated sum.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Frames
public import proofs.«01_k».proof.Proof.Equal
public import proofs.«01_k».proof.Proof.FfnFrames
public import proofs.«01_k».proof.Proof.DwIn
public import proofs.«01_k».proof.Proof.DwOut
public import proofs.«01_k».proof.Proof.Dffn
public import proofs.«01_k».proof.Proof.FfnIn
public import proofs.«01_k».proof.Proof.MmFrames
public import proofs.«01_k».proof.Proof.DwGates
public import proofs.«01_k».proof.Proof.InputGrad
public import proofs.«01_k».proof.Proof.Gates
public import proofs.«01_k».proof.Proof.AttnIn
public import proofs.«01_k».proof.Proof.DwRows
public import proofs.«01_k».proof.Proof.DwStack
public import proofs.«01_k».proof.Proof.DwQ
public import proofs.«01_k».proof.Proof.DwXq
public import proofs.«01_k».proof.Proof.DO
public import proofs.«01_k».proof.Proof.Xq
public import proofs.«01_k».proof.Proof.NormFrames
public import proofs.«01_k».proof.Proof.NormBwdFfn
public import proofs.«01_k».proof.Proof.NormBwdX
public import proofs.«01_k».proof.Proof.MixNorm
public import proofs.«01_k».proof.Proof.XNorm
public import proofs.«01_k».proof.Proof.Branches

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Fox.facts_finite, Ffn.Act.facts_finite,
    Fox.frame_kernel, Fox.frame_ideal, fun m g _ => Fox.frame_ideal m g trivial, Fox.frame_reference,
    fun m g _ => Fox.frame_reference m g trivial,
    Ffn.frame_2, Ffn.DwIn.frame_ideal, Ffn.DwIn.frame_reference,
    Ffn.frame_3, Ffn.DwOut.frame_ideal, Ffn.DwOut.frame_reference,
    Ffn.frame_4, Ffn.Act.frame_ideal, fun m g _ => Ffn.Act.frame_ideal m g trivial, Ffn.Act.frame_reference,
    fun m g _ => Ffn.Act.frame_reference m g trivial,
    Ffn.frame_5, Ffn.In.frame_ideal, Ffn.In.frame_reference,
    Mm.frame_6, Mm.DwGates.frame_ideal, Mm.DwGates.frame_reference,
    Mm.frame_7, Mm.InputGrad.frame_ideal, Mm.InputGrad.frame_reference,
    Mm.frame_8, Mm.Gates.frame_ideal, Mm.Gates.frame_reference,
    Mm.frame_9, Mm.AttnIn.frame_ideal, Mm.AttnIn.frame_reference,
    Mm.frame_10, Mm.DwRows.frame_ideal, Mm.DwRows.frame_reference,
    Mm.frame_11, Mm.DwStack.frame_ideal, Mm.DwStack.frame_reference,
    Mm.frame_12, Mm.DwQ.frame_ideal, Mm.DwQ.frame_reference,
    Mm.frame_13, Mm.DwXq.frame_ideal, Mm.DwXq.frame_reference,
    Mm.frame_14, Mm.DO.frame_ideal, Mm.DO.frame_reference,
    Mm.frame_15, Mm.Xq.frame_ideal, Mm.Xq.frame_reference,
    Mm.frame_16, Mm.NormBwdFfn.frame_ideal, Mm.NormBwdFfn.frame_reference,
    Mm.frame_17, Mm.NormBwdX.frame_ideal, Mm.NormBwdX.frame_reference,
    Mm.frame_18, Mm.MixNorm.frame_ideal, Mm.MixNorm.frame_reference,
    Mm.frame_19, Mm.XNorm.frame_ideal, Mm.XNorm.frame_reference,
    Mm.frame_20, Mm.Branches.frame_ideal, Mm.Branches.frame_reference,
    Fox.preserves, @Fox.algebraic Fox.facts_finite,
    trivial, Ffn.DwIn.algebraic, trivial, Ffn.DwOut.algebraic, trivial, @Ffn.Act.algebraic Ffn.Act.facts_finite,
    trivial, Ffn.In.algebraic,
    trivial, Mm.DwGates.algebraic, trivial, Mm.InputGrad.algebraic, trivial, Mm.Gates.algebraic,
    trivial, Mm.AttnIn.algebraic, trivial, Mm.DwRows.algebraic, trivial, Mm.DwStack.algebraic,
    trivial, Mm.DwQ.algebraic, trivial, Mm.DwXq.algebraic,
    trivial, Mm.DO.algebraic, trivial, Mm.Xq.algebraic,
    trivial, Mm.NormBwdFfn.algebraic, trivial, Mm.NormBwdX.algebraic, trivial, Mm.MixNorm.algebraic, trivial, Mm.XNorm.algebraic,
    trivial, Mm.Branches.algebraic⟩

end Cert.Proof

end
